-- ==== Defs.lean ====
def Pre_Kernel (m : (ℓ : Loc Cert.Kernel.nD Cert.Kernel.τ Cert.Kernel.sig) → Buf (Elt Bits) ℓ) : Prop :=
  True

def Pre_Kernel_finite_args [hPre_finite_args : Cert.Pre_finite_args.Facts] (m : (ℓ : Loc Cert.Kernel.nD Cert.Kernel.τ Cert.Kernel.sig) → Buf (Elt Bits) ℓ) : Prop :=
  ∀ c : Dev Cert.Kernel.nD,
    (Cert.Pre_finite_args.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))).1 = (fun _ => 1#1)
    ∧ (Cert.Pre_finite_args.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))).2.1 = (fun _ => 1#1)
    ∧ (Cert.Pre_finite_args.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))).2.2.1 = (fun _ => 1#1)
    ∧ (Cert.Pre_finite_args.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))).2.2.2.1 = (fun _ => 1#1)
    ∧ (Cert.Pre_finite_args.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))).2.2.2.2.1 = (fun _ => 1#1)
    ∧ (Cert.Pre_finite_args.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))).2.2.2.2.2.1 = (fun _ => 1#1)
    ∧ (Cert.Pre_finite_args.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))).2.2.2.2.2.2.1 = (fun _ => 1#1)
    ∧ (Cert.Pre_finite_args.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))).2.2.2.2.2.2.2.1 = (fun _ => 1#1)
    ∧ (Cert.Pre_finite_args.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))).2.2.2.2.2.2.2.2.1 = (fun _ => 1#1)
    ∧ (Cert.Pre_finite_args.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))).2.2.2.2.2.2.2.2.2.1 = (fun _ => 1#1)
    ∧ (Cert.Pre_finite_args.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))).2.2.2.2.2.2.2.2.2.2 = (fun _ => 1#1)

def Pre_KernelIdeal [hPre_finite_args : Cert.Pre_finite_args.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2.2.2 = (fun _ => 1#1)

def Pre_ReferenceIdeal [hPre_finite_args : Cert.Pre_finite_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5_finite_layer [hPre_finite_layer : Cert.Pre_finite_layer.Facts] (m : (ℓ : Loc Cert.Kernel5.nD Cert.Kernel5.τ Cert.Kernel5.sig) → Buf (Elt Bits) ℓ) : Prop :=
  ∀ c : Dev Cert.Kernel5.nD,
    (Cert.Pre_finite_layer.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5)) (m ((c.tc : Thread Cert.Kernel5.nD Cert.Kernel5.τ).loc Cert.Kernel5.main_arg6)) (m ((c.tc : Thread Cert.Kernel5.nD Cert.Kernel5.τ).loc Cert.Kernel5.main_arg7)) (m ((c.tc : Thread Cert.Kernel5.nD Cert.Kernel5.τ).loc Cert.Kernel5.main_arg8))).1 = (fun _ => 1#1)
    ∧ (Cert.Pre_finite_layer.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5)) (m ((c.tc : Thread Cert.Kernel5.nD Cert.Kernel5.τ).loc Cert.Kernel5.main_arg6)) (m ((c.tc : Thread Cert.Kernel5.nD Cert.Kernel5.τ).loc Cert.Kernel5.main_arg7)) (m ((c.tc : Thread Cert.Kernel5.nD Cert.Kernel5.τ).loc Cert.Kernel5.main_arg8))).2.1 = (fun _ => 1#1)
    ∧ (Cert.Pre_finite_layer.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5)) (m ((c.tc : Thread Cert.Kernel5.nD Cert.Kernel5.τ).loc Cert.Kernel5.main_arg6)) (m ((c.tc : Thread Cert.Kernel5.nD Cert.Kernel5.τ).loc Cert.Kernel5.main_arg7)) (m ((c.tc : Thread Cert.Kernel5.nD Cert.Kernel5.τ).loc Cert.Kernel5.main_arg8))).2.2.1 = (fun _ => 1#1)
    ∧ (Cert.Pre_finite_layer.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5)) (m ((c.tc : Thread Cert.Kernel5.nD Cert.Kernel5.τ).loc Cert.Kernel5.main_arg6)) (m ((c.tc : Thread Cert.Kernel5.nD Cert.Kernel5.τ).loc Cert.Kernel5.main_arg7)) (m ((c.tc : Thread Cert.Kernel5.nD Cert.Kernel5.τ).loc Cert.Kernel5.main_arg8))).2.2.2.1 = (fun _ => 1#1)
    ∧ (Cert.Pre_finite_layer.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5)) (m ((c.tc : Thread Cert.Kernel5.nD Cert.Kernel5.τ).loc Cert.Kernel5.main_arg6)) (m ((c.tc : Thread Cert.Kernel5.nD Cert.Kernel5.τ).loc Cert.Kernel5.main_arg7)) (m ((c.tc : Thread Cert.Kernel5.nD Cert.Kernel5.τ).loc Cert.Kernel5.main_arg8))).2.2.2.2.1 = (fun _ => 1#1)
    ∧ (Cert.Pre_finite_layer.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5)) (m ((c.tc : Thread Cert.Kernel5.nD Cert.Kernel5.τ).loc Cert.Kernel5.main_arg6)) (m ((c.tc : Thread Cert.Kernel5.nD Cert.Kernel5.τ).loc Cert.Kernel5.main_arg7)) (m ((c.tc : Thread Cert.Kernel5.nD Cert.Kernel5.τ).loc Cert.Kernel5.main_arg8))).2.2.2.2.2.1 = (fun _ => 1#1)
    ∧ (Cert.Pre_finite_layer.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5)) (m ((c.tc : Thread Cert.Kernel5.nD Cert.Kernel5.τ).loc Cert.Kernel5.main_arg6)) (m ((c.tc : Thread Cert.Kernel5.nD Cert.Kernel5.τ).loc Cert.Kernel5.main_arg7)) (m ((c.tc : Thread Cert.Kernel5.nD Cert.Kernel5.τ).loc Cert.Kernel5.main_arg8))).2.2.2.2.2.2.1 = (fun _ => 1#1)
    ∧ (Cert.Pre_finite_layer.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5)) (m ((c.tc : Thread Cert.Kernel5.nD Cert.Kernel5.τ).loc Cert.Kernel5.main_arg6)) (m ((c.tc : Thread Cert.Kernel5.nD Cert.Kernel5.τ).loc Cert.Kernel5.main_arg7)) (m ((c.tc : Thread Cert.Kernel5.nD Cert.Kernel5.τ).loc Cert.Kernel5.main_arg8))).2.2.2.2.2.2.2.1 = (fun _ => 1#1)
    ∧ (Cert.Pre_finite_layer.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5)) (m ((c.tc : Thread Cert.Kernel5.nD Cert.Kernel5.τ).loc Cert.Kernel5.main_arg6)) (m ((c.tc : Thread Cert.Kernel5.nD Cert.Kernel5.τ).loc Cert.Kernel5.main_arg7)) (m ((c.tc : Thread Cert.Kernel5.nD Cert.Kernel5.τ).loc Cert.Kernel5.main_arg8))).2.2.2.2.2.2.2.2 = (fun _ => 1#1)

def Pre_Kernel5Ideal [hPre_finite_layer : Cert.Pre_finite_layer.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_layer.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).1 = (fun _ => 1#1)
    ∧ (Cert.Pre_finite_layer.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.1 = (fun _ => 1#1)
    ∧ (Cert.Pre_finite_layer.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.2.1 = (fun _ => 1#1)
    ∧ (Cert.Pre_finite_layer.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.2.2.1 = (fun _ => 1#1)
    ∧ (Cert.Pre_finite_layer.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.2.2.2.1 = (fun _ => 1#1)
    ∧ (Cert.Pre_finite_layer.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.2.2.2.2.1 = (fun _ => 1#1)
    ∧ (Cert.Pre_finite_layer.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.2.2.2.2.2.1 = (fun _ => 1#1)
    ∧ (Cert.Pre_finite_layer.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.2.2.2.2.2.2.1 = (fun _ => 1#1)
    ∧ (Cert.Pre_finite_layer.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.2.2.2.2.2.2.2 = (fun _ => 1#1)

def Pre_Reference5Ideal [hPre_finite_layer : Cert.Pre_finite_layer.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_layer.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).1 = (fun _ => 1#1)
    ∧ (Cert.Pre_finite_layer.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).2.1 = (fun _ => 1#1)
    ∧ (Cert.Pre_finite_layer.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).2.2.1 = (fun _ => 1#1)
    ∧ (Cert.Pre_finite_layer.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).2.2.2.1 = (fun _ => 1#1)
    ∧ (Cert.Pre_finite_layer.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).2.2.2.2.1 = (fun _ => 1#1)
    ∧ (Cert.Pre_finite_layer.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).2.2.2.2.2.1 = (fun _ => 1#1)
    ∧ (Cert.Pre_finite_layer.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).2.2.2.2.2.2.1 = (fun _ => 1#1)
    ∧ (Cert.Pre_finite_layer.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).2.2.2.2.2.2.2.1 = (fun _ => 1#1)
    ∧ (Cert.Pre_finite_layer.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_Kernel_pre_finite_args [hKernel : Cert.Kernel.Facts] [hPre_finite_args : Cert.Pre_finite_args.Facts] : Prop :=
  ∀ (m : (ℓ : Loc Cert.Kernel.nD Cert.Kernel.τ Cert.Kernel.sig) → Buf (Elt Bits) ℓ) (g : Dev Cert.Kernel.nD → PrngReg), Pre_Kernel_finite_args m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] [hPre_finite_args : Cert.Pre_finite_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5_pre_finite_layer [hKernel5 : Cert.Kernel5.Facts] [hPre_finite_layer : Cert.Pre_finite_layer.Facts] : Prop :=
  ∀ (m : (ℓ : Loc Cert.Kernel5.nD Cert.Kernel5.τ Cert.Kernel5.sig) → Buf (Elt Bits) ℓ) (g : Dev Cert.Kernel5.nD → PrngReg), Pre_Kernel5_finite_layer m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] [hPre_finite_layer : Cert.Pre_finite_layer.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] [hPre_finite_layer : Cert.Pre_finite_layer.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v102)) (v1 : (c : Dev Cert.KernelIdeal.nD) → Buf (Elt Ideal) ((c.tc : Thread Cert.KernelIdeal.nD Cert.KernelIdeal.τ).loc Cert.KernelIdeal.main_v226)) (v2 : (c : Dev Cert.KernelIdeal.nD) → Buf (Elt Ideal) ((c.tc : Thread Cert.KernelIdeal.nD Cert.KernelIdeal.τ).loc Cert.KernelIdeal.main_v218)) (v3 : (c : Dev Cert.KernelIdeal.nD) → Buf (Elt Ideal) ((c.tc : Thread Cert.KernelIdeal.nD Cert.KernelIdeal.τ).loc Cert.KernelIdeal.main_v228)) (v4 : (c : Dev Cert.KernelIdeal.nD) → Buf (Elt Ideal) ((c.tc : Thread Cert.KernelIdeal.nD Cert.KernelIdeal.τ).loc Cert.KernelIdeal.main_v160)) (v5 : (c : Dev Cert.KernelIdeal.nD) → Buf (Elt Ideal) ((c.tc : Thread Cert.KernelIdeal.nD Cert.KernelIdeal.τ).loc Cert.KernelIdeal.main_v152)) (v6 : (c : Dev Cert.KernelIdeal.nD) → Buf (Elt Ideal) ((c.tc : Thread Cert.KernelIdeal.nD Cert.KernelIdeal.τ).loc Cert.KernelIdeal.main_v118)) (v7 : (c : Dev Cert.KernelIdeal.nD) → Buf (Elt Ideal) ((c.tc : Thread Cert.KernelIdeal.nD Cert.KernelIdeal.τ).loc Cert.KernelIdeal.main_v111)) (v8 : (c : Dev Cert.KernelIdeal.nD) → Buf (Elt Ideal) ((c.tc : Thread Cert.KernelIdeal.nD Cert.KernelIdeal.τ).loc Cert.KernelIdeal.main_v229)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v102) = v0 c
          ∧ r.2.mem ((c.tc : Thread Cert.KernelIdeal.nD Cert.KernelIdeal.τ).loc Cert.KernelIdeal.main_v226) = v1 c
          ∧ r.2.mem ((c.tc : Thread Cert.KernelIdeal.nD Cert.KernelIdeal.τ).loc Cert.KernelIdeal.main_v218) = v2 c
          ∧ r.2.mem ((c.tc : Thread Cert.KernelIdeal.nD Cert.KernelIdeal.τ).loc Cert.KernelIdeal.main_v228) = v3 c
          ∧ r.2.mem ((c.tc : Thread Cert.KernelIdeal.nD Cert.KernelIdeal.τ).loc Cert.KernelIdeal.main_v160) = v4 c
          ∧ r.2.mem ((c.tc : Thread Cert.KernelIdeal.nD Cert.KernelIdeal.τ).loc Cert.KernelIdeal.main_v152) = v5 c
          ∧ r.2.mem ((c.tc : Thread Cert.KernelIdeal.nD Cert.KernelIdeal.τ).loc Cert.KernelIdeal.main_v118) = v6 c
          ∧ r.2.mem ((c.tc : Thread Cert.KernelIdeal.nD Cert.KernelIdeal.τ).loc Cert.KernelIdeal.main_v111) = v7 c
          ∧ r.2.mem ((c.tc : Thread Cert.KernelIdeal.nD Cert.KernelIdeal.τ).loc Cert.KernelIdeal.main_v229) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_v198) = v1 c
          ∧ r.2.mem ((c.tc : Thread Cert.ReferenceIdeal.nD Cert.ReferenceIdeal.τ).loc Cert.ReferenceIdeal.main_v190) = v2 c
          ∧ r.2.mem ((c.tc : Thread Cert.ReferenceIdeal.nD Cert.ReferenceIdeal.τ).loc Cert.ReferenceIdeal.main_v200) = v3 c
          ∧ r.2.mem ((c.tc : Thread Cert.ReferenceIdeal.nD Cert.ReferenceIdeal.τ).loc Cert.ReferenceIdeal.main_v132) = v4 c
          ∧ r.2.mem ((c.tc : Thread Cert.ReferenceIdeal.nD Cert.ReferenceIdeal.τ).loc Cert.ReferenceIdeal.main_v124) = v5 c
          ∧ r.2.mem ((c.tc : Thread Cert.ReferenceIdeal.nD Cert.ReferenceIdeal.τ).loc Cert.ReferenceIdeal.main_v88) = v6 c
          ∧ r.2.mem ((c.tc : Thread Cert.ReferenceIdeal.nD Cert.ReferenceIdeal.τ).loc Cert.ReferenceIdeal.main_v84) = v7 c
          ∧ r.2.mem ((c.tc : Thread Cert.ReferenceIdeal.nD Cert.ReferenceIdeal.τ).loc Cert.ReferenceIdeal.main_v80) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v9_0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9_0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v51) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] [hPre_finite_layer : Cert.Pre_finite_layer.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v12_0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v12_0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v101) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_args : Cert.Pre_finite_args.Facts) (hPre_finite_layer : Cert.Pre_finite_layer.Facts),
    quiescent_Kernel (hKernel := hKernel)
    ∧ quiescent_Kernel_pre_finite_args (hKernel := hKernel) (hPre_finite_args := hPre_finite_args)
    ∧ quiescent_KernelIdeal (hKernelIdeal := hKernelIdeal) (hPre_finite_args := hPre_finite_args)
    ∧ quiescent_ReferenceIdeal (hReferenceIdeal := hReferenceIdeal) (hPre_finite_args := hPre_finite_args)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5_pre_finite_layer (hKernel5 := hKernel5) (hPre_finite_layer := hPre_finite_layer)
    ∧ quiescent_Kernel5Ideal (hKernel5Ideal := hKernel5Ideal) (hPre_finite_layer := hPre_finite_layer)
    ∧ quiescent_Reference5Ideal (hReference5Ideal := hReference5Ideal) (hPre_finite_layer := hPre_finite_layer)
    ∧ preserves_Kernel_KernelIdeal
    ∧ algebraic_KernelIdeal_ReferenceIdeal (hKernelIdeal := hKernelIdeal) (hReferenceIdeal := hReferenceIdeal) (hPre_finite_args := hPre_finite_args)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal) (hPre_finite_layer := hPre_finite_layer)
-- ==== Pre_finite_args.lean ====
abbrev S2048x1024 : Shape := ⟨2, ![2048, 1024]⟩
abbrev S64x64 : Shape := ⟨2, ![64, 64]⟩
abbrev S64 : Shape := ⟨1, ![64]⟩
abbrev S64x64x16 : Shape := ⟨3, ![64, 64, 16]⟩
abbrev S64x16x64 : Shape := ⟨3, ![64, 16, 64]⟩
abbrev S1024 : Shape := ⟨1, ![1024]⟩
abbrev S_ : Shape := ⟨0, ![]⟩

class Facts : Prop where
  bcast_S_S2048x1024 : S_.BroadcastsInDim S2048x1024 (![] : Fin 0 → Fin S2048x1024.rank)
  bcast_S_S64x64 : S_.BroadcastsInDim S64x64 (![] : Fin 0 → Fin S64x64.rank)
  bcast_S_S64 : S_.BroadcastsInDim S64 (![] : Fin 0 → Fin S64.rank)
  bcast_S_S64x64x16 : S_.BroadcastsInDim S64x64x16 (![] : Fin 0 → Fin S64x64x16.rank)
  bcast_S_S64x16x64 : S_.BroadcastsInDim S64x16x64 (![] : Fin 0 → Fin S64x16x64.rank)
  bcast_S_S1024 : S_.BroadcastsInDim S1024 (![] : Fin 0 → Fin S1024.rank)

variable [Facts]

def fn_part1 {F : FTy → Type} [FloatOps F] (main_arg2 : FVec F S64x64 .f32) (main_arg3 : FVec F S64x64 .f32) (main_arg6 : FVec F S64x64x16 .f32) (main_arg7 : FVec F S64x16x64 .f32) (main_arg8 : FVec F S64x16x64 .f32) (main_arg9 : FVec F S1024 .f32) (main_v2 : IVec S2048x1024 1) (main_v5 : IVec S2048x1024 1) (main_v8 : IVec S64x64 1) (main_v11 : IVec S64x64 1) (main_v14 : IVec S64 1) (main_v17 : IVec S64x64x16 1) : IVec S2048x1024 1 × IVec S2048x1024 1 × IVec S64x64 1 × IVec S64x64 1 × IVec S64 1 × IVec S64x64x16 1 × IVec S64x64x16 1 × IVec S64x16x64 1 × IVec S64x16x64 1 × IVec S1024 1 × IVec S64x64 1 :=
  let main_v18 : FVec F S64x64x16 .f32 := subf main_arg6 main_arg6
  let main_cst_5 : FVec F S_ .f32 := constant S_ .f32 0x00000000#32
  let main_v19 : FVec F S64x64x16 .f32 := broadcastInDim S64x64x16 ![] bcast_S_S64x64x16 main_cst_5
  let main_v20 : IVec S64x64x16 1 := cmpf .oeq main_v18 main_v19
  let main_v21 : FVec F S64x16x64 .f32 := subf main_arg7 main_arg7
  let main_cst_6 : FVec F S_ .f32 := constant S_ .f32 0x00000000#32
  let main_v22 : FVec F S64x16x64 .f32 := broadcastInDim S64x16x64 ![] bcast_S_S64x16x64 main_cst_6
  let main_v23 : IVec S64x16x64 1 := cmpf .oeq main_v21 main_v22
  let main_v24 : FVec F S64x16x64 .f32 := subf main_arg8 main_arg8
  let main_cst_7 : FVec F S_ .f32 := constant S_ .f32 0x00000000#32
  let main_v25 : FVec F S64x16x64 .f32 := broadcastInDim S64x16x64 ![] bcast_S_S64x16x64 main_cst_7
  let main_v26 : IVec S64x16x64 1 := cmpf .oeq main_v24 main_v25
  let main_v27 : FVec F S1024 .f32 := subf main_arg9 main_arg9
  let main_cst_8 : FVec F S_ .f32 := constant S_ .f32 0x00000000#32
  let main_v28 : FVec F S1024 .f32 := broadcastInDim S1024 ![] bcast_S_S1024 main_cst_8
  let main_v29 : IVec S1024 1 := cmpf .oeq main_v27 main_v28
  let main_v30 : FVec F S64x64 .f32 := mulf main_arg2 main_arg2
  let main_v31 : FVec F S64x64 .f32 := mulf main_arg3 main_arg3
  let main_v32 : FVec F S64x64 .f32 := addf main_v30 main_v31
  let main_cst_9 : FVec F S_ .f32 := constant S_ .f32 0x00000000#32
  let main_v33 : FVec F S64x64 .f32 := broadcastInDim S64x64 ![] bcast_S_S64x64 main_cst_9
  let main_v34 : IVec S64x64 1 := cmpf .ogt main_v32 main_v33
  (main_v2, main_v5, main_v8, main_v11, main_v14, main_v17, main_v20, main_v23, main_v26, main_v29, main_v34)

def fn {F : FTy → Type} [FloatOps F] (main_arg0 : FVec F S2048x1024 .f32) (main_arg1 : FVec F S2048x1024 .f32) (main_arg2 : FVec F S64x64 .f32) (main_arg3 : FVec F S64x64 .f32) (main_arg4 : FVec F S64 .f32) (main_arg5 : FVec F S64x64x16 .f32) (main_arg6 : FVec F S64x64x16 .f32) (main_arg7 : FVec F S64x16x64 .f32) (main_arg8 : FVec F S64x16x64 .f32) (main_arg9 : FVec F S1024 .f32) : IVec S2048x1024 1 × IVec S2048x1024 1 × IVec S64x64 1 × IVec S64x64 1 × IVec S64 1 × IVec S64x64x16 1 × IVec S64x64x16 1 × IVec S64x16x64 1 × IVec S64x16x64 1 × IVec S1024 1 × IVec S64x64 1 :=
  let main_v0 : FVec F S2048x1024 .f32 := subf main_arg0 main_arg0
  let main_cst : FVec F S_ .f32 := constant S_ .f32 0x00000000#32
  let main_v1 : FVec F S2048x1024 .f32 := broadcastInDim S2048x1024 ![] bcast_S_S2048x1024 main_cst
  let main_v2 : IVec S2048x1024 1 := cmpf .oeq main_v0 main_v1
  let main_v3 : FVec F S2048x1024 .f32 := subf main_arg1 main_arg1
  let main_cst_0 : FVec F S_ .f32 := constant S_ .f32 0x00000000#32
  let main_v4 : FVec F S2048x1024 .f32 := broadcastInDim S2048x1024 ![] bcast_S_S2048x1024 main_cst_0
  let main_v5 : IVec S2048x1024 1 := cmpf .oeq main_v3 main_v4
  let main_v6 : FVec F S64x64 .f32 := subf main_arg2 main_arg2
  let main_cst_1 : FVec F S_ .f32 := constant S_ .f32 0x00000000#32
  let main_v7 : FVec F S64x64 .f32 := broadcastInDim S64x64 ![] bcast_S_S64x64 main_cst_1
  let main_v8 : IVec S64x64 1 := cmpf .oeq main_v6 main_v7
  let main_v9 : FVec F S64x64 .f32 := subf main_arg3 main_arg3
  let main_cst_2 : FVec F S_ .f32 := constant S_ .f32 0x00000000#32
  let main_v10 : FVec F S64x64 .f32 := broadcastInDim S64x64 ![] bcast_S_S64x64 main_cst_2
  let main_v11 : IVec S64x64 1 := cmpf .oeq main_v9 main_v10
  let main_v12 : FVec F S64 .f32 := subf main_arg4 main_arg4
  let main_cst_3 : FVec F S_ .f32 := constant S_ .f32 0x00000000#32
  let main_v13 : FVec F S64 .f32 := broadcastInDim S64 ![] bcast_S_S64 main_cst_3
  let main_v14 : IVec S64 1 := cmpf .oeq main_v12 main_v13
  let main_v15 : FVec F S64x64x16 .f32 := subf main_arg5 main_arg5
  let main_cst_4 : FVec F S_ .f32 := constant S_ .f32 0x00000000#32
  let main_v16 : FVec F S64x64x16 .f32 := broadcastInDim S64x64x16 ![] bcast_S_S64x64x16 main_cst_4
  let main_v17 : IVec S64x64x16 1 := cmpf .oeq main_v15 main_v16
  fn_part1 (F := F) main_arg2 main_arg3 main_arg6 main_arg7 main_arg8 main_arg9 main_v2 main_v5 main_v8 main_v11 main_v14 main_v17
-- ==== Pre_finite_layer.lean ====
abbrev S2048x1024 : Shape := ⟨2, ![2048, 1024]⟩
abbrev S2048x5632 : Shape := ⟨2, ![2048, 5632]⟩
abbrev S3x1024 : Shape := ⟨2, ![3, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S2048x1024 : S_.BroadcastsInDim S2048x1024 (![] : Fin 0 → Fin S2048x1024.rank)
  bcast_S_S2048x5632 : S_.BroadcastsInDim S2048x5632 (![] : Fin 0 → Fin S2048x5632.rank)
  bcast_S_S3x1024 : S_.BroadcastsInDim S3x1024 (![] : Fin 0 → Fin S3x1024.rank)
  bcast_S_S1024 : S_.BroadcastsInDim S1024 (![] : Fin 0 → Fin S1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn_part1 {F : FTy → Type} [FloatOps F] (main_arg6 : FVec F S1024 .f32) (main_arg7 : FVec F S1024x5632 .f32) (main_arg8 : FVec F S2816x1024 .f32) (main_v2 : IVec S2048x1024 1) (main_v5 : IVec S2048x1024 1) (main_v8 : IVec S2048x1024 1) (main_v11 : IVec S2048x5632 1) (main_v14 : IVec S3x1024 1) (main_v17 : IVec S1024 1) : IVec S2048x1024 1 × IVec S2048x1024 1 × IVec S2048x1024 1 × IVec S2048x5632 1 × IVec S3x1024 1 × IVec S1024 1 × IVec S1024 1 × IVec S1024x5632 1 × IVec S2816x1024 1 :=
  let main_v18 : FVec F S1024 .f32 := subf main_arg6 main_arg6
  let main_cst_5 : FVec F S_ .f32 := constant S_ .f32 0x00000000#32
  let main_v19 : FVec F S1024 .f32 := broadcastInDim S1024 ![] bcast_S_S1024 main_cst_5
  let main_v20 : IVec S1024 1 := cmpf .oeq main_v18 main_v19
  let main_v21 : FVec F S1024x5632 .f32 := subf main_arg7 main_arg7
  let main_cst_6 : FVec F S_ .f32 := constant S_ .f32 0x00000000#32
  let main_v22 : FVec F S1024x5632 .f32 := broadcastInDim S1024x5632 ![] bcast_S_S1024x5632 main_cst_6
  let main_v23 : IVec S1024x5632 1 := cmpf .oeq main_v21 main_v22
  let main_v24 : FVec F S2816x1024 .f32 := subf main_arg8 main_arg8
  let main_cst_7 : FVec F S_ .f32 := constant S_ .f32 0x00000000#32
  let main_v25 : FVec F S2816x1024 .f32 := broadcastInDim S2816x1024 ![] bcast_S_S2816x1024 main_cst_7
  let main_v26 : IVec S2816x1024 1 := cmpf .oeq main_v24 main_v25
  (main_v2, main_v5, main_v8, main_v11, main_v14, main_v17, main_v20, main_v23, main_v26)

def fn {F : FTy → Type} [FloatOps F] (main_arg0 : FVec F S2048x1024 .f32) (main_arg1 : FVec F S2048x1024 .f32) (main_arg2 : FVec F S2048x1024 .f32) (main_arg3 : FVec F S2048x5632 .f32) (main_arg4 : FVec F S3x1024 .f32) (main_arg5 : FVec F S1024 .f32) (main_arg6 : FVec F S1024 .f32) (main_arg7 : FVec F S1024x5632 .f32) (main_arg8 : FVec F S2816x1024 .f32) : IVec S2048x1024 1 × IVec S2048x1024 1 × IVec S2048x1024 1 × IVec S2048x5632 1 × IVec S3x1024 1 × IVec S1024 1 × IVec S1024 1 × IVec S1024x5632 1 × IVec S2816x1024 1 :=
  let main_v0 : FVec F S2048x1024 .f32 := subf main_arg0 main_arg0
  let main_cst : FVec F S_ .f32 := constant S_ .f32 0x00000000#32
  let main_v1 : FVec F S2048x1024 .f32 := broadcastInDim S2048x1024 ![] bcast_S_S2048x1024 main_cst
  let main_v2 : IVec S2048x1024 1 := cmpf .oeq main_v0 main_v1
  let main_v3 : FVec F S2048x1024 .f32 := subf main_arg1 main_arg1
  let main_cst_0 : FVec F S_ .f32 := constant S_ .f32 0x00000000#32
  let main_v4 : FVec F S2048x1024 .f32 := broadcastInDim S2048x1024 ![] bcast_S_S2048x1024 main_cst_0
  let main_v5 : IVec S2048x1024 1 := cmpf .oeq main_v3 main_v4
  let main_v6 : FVec F S2048x1024 .f32 := subf main_arg2 main_arg2
  let main_cst_1 : FVec F S_ .f32 := constant S_ .f32 0x00000000#32
  let main_v7 : FVec F S2048x1024 .f32 := broadcastInDim S2048x1024 ![] bcast_S_S2048x1024 main_cst_1
  let main_v8 : IVec S2048x1024 1 := cmpf .oeq main_v6 main_v7
  let main_v9 : FVec F S2048x5632 .f32 := subf main_arg3 main_arg3
  let main_cst_2 : FVec F S_ .f32 := constant S_ .f32 0x00000000#32
  let main_v10 : FVec F S2048x5632 .f32 := broadcastInDim S2048x5632 ![] bcast_S_S2048x5632 main_cst_2
  let main_v11 : IVec S2048x5632 1 := cmpf .oeq main_v9 main_v10
  let main_v12 : FVec F S3x1024 .f32 := subf main_arg4 main_arg4
  let main_cst_3 : FVec F S_ .f32 := constant S_ .f32 0x00000000#32
  let main_v13 : FVec F S3x1024 .f32 := broadcastInDim S3x1024 ![] bcast_S_S3x1024 main_cst_3
  let main_v14 : IVec S3x1024 1 := cmpf .oeq main_v12 main_v13
  let main_v15 : FVec F S1024 .f32 := subf main_arg5 main_arg5
  let main_cst_4 : FVec F S_ .f32 := constant S_ .f32 0x00000000#32
  let main_v16 : FVec F S1024 .f32 := broadcastInDim S1024 ![] bcast_S_S1024 main_cst_4
  let main_v17 : IVec S1024 1 := cmpf .oeq main_v15 main_v16
  fn_part1 (F := F) main_arg6 main_arg7 main_arg8 main_v2 main_v5 main_v8 main_v11 main_v14 main_v17
-- ==== Kernel.lean ====
abbrev S2048x1024 : Shape := ⟨2, ![2048, 1024]⟩
abbrev S64x64 : Shape := ⟨2, ![64, 64]⟩
abbrev S64 : Shape := ⟨1, ![64]⟩
abbrev S64x64x16 : Shape := ⟨3, ![64, 64, 16]⟩
abbrev S64x16x64 : Shape := ⟨3, ![64, 16, 64]⟩
abbrev S1024 : Shape := ⟨1, ![1024]⟩
abbrev S64x1 : Shape := ⟨2, ![64, 1]⟩
abbrev S_ : Shape := ⟨0, ![]⟩
abbrev S64x64x1 : Shape := ⟨3, ![64, 64, 1]⟩
abbrev S8x8 : Shape := ⟨2, ![8, 8]⟩
abbrev S8x1x512 : Shape := ⟨3, ![8, 1, 512]⟩
abbrev S8x8x16x64 : Shape := ⟨4, ![8, 8, 16, 64]⟩
abbrev S8x8x16x1x64 : Shape := ⟨5, ![8, 8, 16, 1, 64]⟩
abbrev S1x8x1x8x1 : Shape := ⟨5, ![1, 8, 1, 8, 1]⟩
abbrev S8x8x16x8x64 : Shape := ⟨5, ![8, 8, 16, 8, 64]⟩
abbrev S8x128x512 : Shape := ⟨3, ![8, 128, 512]⟩
abbrev S8x256x1024 : Shape := ⟨3, ![8, 256, 1024]⟩
abbrev S256x8x1024 : Shape := ⟨3, ![256, 8, 1024]⟩
abbrev S1x1024 : Shape := ⟨2, ![1, 1024]⟩
abbrev S8x512x128 : Shape := ⟨3, ![8, 512, 128]⟩
abbrev S2048x128 : Shape := ⟨2, ![2048, 128]⟩
abbrev S1x1x512 : Shape := ⟨3, ![1, 1, 512]⟩
abbrev S1x128x512 : Shape := ⟨3, ![1, 128, 512]⟩
abbrev S1x128 : Shape := ⟨2, ![1, 128]⟩
abbrev S1x512x128 : Shape := ⟨3, ![1, 512, 128]⟩
abbrev S2048x512 : Shape := ⟨2, ![2048, 512]⟩
abbrev S16x512 : Shape := ⟨2, ![16, 512]⟩
abbrev S1x512 : Shape := ⟨2, ![1, 512]⟩
abbrev S128x512 : Shape := ⟨2, ![128, 512]⟩
abbrev S8x512 : Shape := ⟨2, ![8, 512]⟩
abbrev S512x128 : Shape := ⟨2, ![512, 128]⟩
abbrev S512 : Shape := ⟨1, ![512]⟩
abbrev S128 : Shape := ⟨1, ![128]⟩

abbrev nBuf : Space → Nat
  | .hbm => 272
  | .vmem => 40
  | .smem => 0
  | _ => 0

abbrev hbmTy0_0 (i : Nat) : BufTy := match i % 128 with
  | 0 => ⟨S2048x1024, .f32⟩
  | 1 => ⟨S2048x1024, .f32⟩
  | 2 => ⟨S64x64, .f32⟩
  | 3 => ⟨S64x64, .f32⟩
  | 4 => ⟨S64, .f32⟩
  | 5 => ⟨S64x64x16, .f32⟩
  | 6 => ⟨S64x64x16, .f32⟩
  | 7 => ⟨S64x16x64, .f32⟩
  | 8 => ⟨S64x16x64, .f32⟩
  | 9 => ⟨S1024, .f32⟩
  | 10 => ⟨S64, .f32⟩
  | 11 => ⟨S64x1, .f32⟩
  | 12 => ⟨S64x64, .f32⟩
  | 13 => ⟨S64x64, .f32⟩
  | 14 => ⟨S64x64, .f32⟩
  | 15 => ⟨S64x64, .f32⟩
  | 16 => ⟨S64x64, .f32⟩
  | 17 => ⟨S64x64, .f32⟩
  | 18 => ⟨S64x64, .f32⟩
  | 19 => ⟨S64x64, .f32⟩
  | 20 => ⟨S64x64, .f32⟩
  | 21 => ⟨S64x64, .f32⟩
  | 22 => ⟨S64x64, .f32⟩
  | 23 => ⟨S64x64, .f32⟩
  | 24 => ⟨S64x64, .f32⟩
  | 25 => ⟨S64x64, .f32⟩
  | 26 => ⟨S64x64, .f32⟩
  | 27 => ⟨S64x64, .f32⟩
  | 28 => ⟨S_, .f32⟩
  | 29 => ⟨S64x64, .f32⟩
  | 30 => ⟨S64x64, .f32⟩
  | 31 => ⟨S64x64, .f32⟩
  | 32 => ⟨S64x64, .f32⟩
  | 33 => ⟨S64x64, .f32⟩
  | 34 => ⟨S64x64, .f32⟩
  | 35 => ⟨S64x64, .f32⟩
  | 36 => ⟨S_, .f32⟩
  | 37 => ⟨S64x64, .f32⟩
  | 38 => ⟨S64x64, .f32⟩
  | 39 => ⟨S64x64, .f32⟩
  | 40 => ⟨S_, .f32⟩
  | 41 => ⟨S64x64, .f32⟩
  | 42 => ⟨S64x64, .f32⟩
  | 43 => ⟨S64x64, .f32⟩
  | 44 => ⟨S64x64, .f32⟩
  | 45 => ⟨S64x64, .f32⟩
  | 46 => ⟨S64x64, .f32⟩
  | 47 => ⟨S_, .f32⟩
  | 48 => ⟨S64x64, .f32⟩
  | 49 => ⟨S64x64, .f32⟩
  | 50 => ⟨S64x64x1, .f32⟩
  | 51 => ⟨S64x64x16, .f32⟩
  | 52 => ⟨S64x64x16, .f32⟩
  | 53 => ⟨S64x64x1, .f32⟩
  | 54 => ⟨S64x64x16, .f32⟩
  | 55 => ⟨S64x64x16, .f32⟩
  | 56 => ⟨S64x64x16, .f32⟩
  | 57 => ⟨S64x64x1, .f32⟩
  | 58 => ⟨S64x64x16, .f32⟩
  | 59 => ⟨S64x64x16, .f32⟩
  | 60 => ⟨S64x64x1, .f32⟩
  | 61 => ⟨S64x64x16, .f32⟩
  | 62 => ⟨S64x64x16, .f32⟩
  | 63 => ⟨S64x64x16, .f32⟩
  | 64 => ⟨S8x8, .i32⟩
  | 65 => ⟨S8x8, .i32⟩
  | 66 => ⟨S_, .i32⟩
  | 67 => ⟨S8x8, .i32⟩
  | 68 => ⟨S8x8, .i32⟩
  | 69 => ⟨S8x8, .i1⟩
  | 70 => ⟨S8x8, .f32⟩
  | 71 => ⟨S64x16x64, .f32⟩
  | 72 => ⟨S64x16x64, .f32⟩
  | 73 => ⟨S8x1x512, .f32⟩
  | 74 => ⟨S8x1x512, .f32⟩
  | 75 => ⟨S8x8x16x64, .f32⟩
  | 76 => ⟨S8x8x16x1x64, .f32⟩
  | 77 => ⟨S1x8x1x8x1, .f32⟩
  | 78 => ⟨S8x8x16x8x64, .f32⟩
  | 79 => ⟨S8x8x16x8x64, .f32⟩
  | 80 => ⟨S8x8x16x8x64, .f32⟩
  | 81 => ⟨S8x128x512, .f32⟩
  | 82 => ⟨S8x8x16x64, .f32⟩
  | 83 => ⟨S8x8x16x1x64, .f32⟩
  | 84 => ⟨S1x8x1x8x1, .f32⟩
  | 85 => ⟨S8x8x16x8x64, .f32⟩
  | 86 => ⟨S8x8x16x8x64, .f32⟩
  | 87 => ⟨S8x8x16x8x64, .f32⟩
  | 88 => ⟨S8x128x512, .f32⟩
  | 89 => ⟨S8x8x16x64, .f32⟩
  | 90 => ⟨S8x8x16x1x64, .f32⟩
  | 91 => ⟨S1x8x1x8x1, .f32⟩
  | 92 => ⟨S8x8x16x8x64, .f32⟩
  | 93 => ⟨S8x8x16x8x64, .f32⟩
  | 94 => ⟨S8x8x16x8x64, .f32⟩
  | 95 => ⟨S8x128x512, .f32⟩
  | 96 => ⟨S8x8x16x64, .f32⟩
  | 97 => ⟨S8x8x16x1x64, .f32⟩
  | 98 => ⟨S1x8x1x8x1, .f32⟩
  | 99 => ⟨S8x8x16x8x64, .f32⟩
  | 100 => ⟨S8x8x16x8x64, .f32⟩
  | 101 => ⟨S8x8x16x8x64, .f32⟩
  | 102 => ⟨S8x128x512, .f32⟩
  | 103 => ⟨S8x128x512, .bf16⟩
  | 104 => ⟨S8x128x512, .bf16⟩
  | 105 => ⟨S8x128x512, .bf16⟩
  | 106 => ⟨S8x128x512, .bf16⟩
  | 107 => ⟨S8x256x1024, .f32⟩
  | 108 => ⟨S256x8x1024, .f32⟩
  | 109 => ⟨S2048x1024, .f32⟩
  | 110 => ⟨S8x256x1024, .f32⟩
  | 111 => ⟨S256x8x1024, .f32⟩
  | 112 => ⟨S2048x1024, .f32⟩
  | 113 => ⟨S1x1024, .f32⟩
  | 114 => ⟨S2048x1024, .f32⟩
  | 115 => ⟨S8x128x512, .f32⟩
  | 116 => ⟨S8x128x512, .f32⟩
  | 117 => ⟨S8x512x128, .f32⟩
  | 118 => ⟨S8x512x128, .f32⟩
  | 119 => ⟨S8x1x512, .f32⟩
  | 120 => ⟨S8x1x512, .f32⟩
  | 121 => ⟨S1x1024, .f32⟩
  | 122 => ⟨S256x8x1024, .f32⟩
  | 123 => ⟨S8x256x1024, .f32⟩
  | 124 => ⟨S2048x1024, .f32⟩
  | 125 => ⟨S8x128x512, .f32⟩
  | 126 => ⟨S8x128x512, .f32⟩
  | 127 => ⟨S8x8x16x8x64, .f32⟩
  | _ => ⟨S2048x1024, .f32⟩

abbrev hbmTy0_1 (i : Nat) : BufTy := match i % 128 with
  | 0 => ⟨S8x8x16x8x64, .f32⟩
  | 1 => ⟨S8x8x16x8x64, .f32⟩
  | 2 => ⟨S_, .f32⟩
  | 3 => ⟨S8x8x16x64, .f32⟩
  | 4 => ⟨S8x8x16x1x64, .f32⟩
  | 5 => ⟨S_, .f32⟩
  | 6 => ⟨S8x8x16x64, .f32⟩
  | 7 => ⟨S64x16x64, .f32⟩
  | 8 => ⟨S8x8x16x8x64, .f32⟩
  | 9 => ⟨S8x8x16x8x64, .f32⟩
  | 10 => ⟨S8x8x16x8x64, .f32⟩
  | 11 => ⟨S_, .f32⟩
  | 12 => ⟨S8x8x16x64, .f32⟩
  | 13 => ⟨S8x8x16x1x64, .f32⟩
  | 14 => ⟨S_, .f32⟩
  | 15 => ⟨S8x8x16x64, .f32⟩
  | 16 => ⟨S64x16x64, .f32⟩
  | 17 => ⟨S8x8x16x8x64, .f32⟩
  | 18 => ⟨S8x8x16x8x64, .f32⟩
  | 19 => ⟨S8x8x16x8x64, .f32⟩
  | 20 => ⟨S_, .f32⟩
  | 21 => ⟨S8x8x16x64, .f32⟩
  | 22 => ⟨S8x8x16x1x64, .f32⟩
  | 23 => ⟨S_, .f32⟩
  | 24 => ⟨S8x8x16x64, .f32⟩
  | 25 => ⟨S64x16x64, .f32⟩
  | 26 => ⟨S8x8x16x8x64, .f32⟩
  | 27 => ⟨S8x8x16x8x64, .f32⟩
  | 28 => ⟨S8x8x16x8x64, .f32⟩
  | 29 => ⟨S_, .f32⟩
  | 30 => ⟨S8x8x16x64, .f32⟩
  | 31 => ⟨S8x8x16x1x64, .f32⟩
  | 32 => ⟨S_, .f32⟩
  | 33 => ⟨S8x8x16x64, .f32⟩
  | 34 => ⟨S64x16x64, .f32⟩
  | 35 => ⟨S64x64, .f32⟩
  | 36 => ⟨S64x64, .f32⟩
  | 37 => ⟨S64x64x16, .f32⟩
  | 38 => ⟨S64x64x16, .f32⟩
  | 39 => ⟨S64x64x16, .f32⟩
  | 40 => ⟨S64x64x16, .f32⟩
  | 41 => ⟨S64x64x16, .f32⟩
  | 42 => ⟨S_, .f32⟩
  | 43 => ⟨S64x64, .f32⟩
  | 44 => ⟨S64x64x1, .f32⟩
  | 45 => ⟨S_, .f32⟩
  | 46 => ⟨S64x64, .f32⟩
  | 47 => ⟨S64x64x16, .f32⟩
  | 48 => ⟨S64x64x16, .f32⟩
  | 49 => ⟨S64x64x16, .f32⟩
  | 50 => ⟨S_, .f32⟩
  | 51 => ⟨S64x64, .f32⟩
  | 52 => ⟨S64x64x1, .f32⟩
  | 53 => ⟨S_, .f32⟩
  | 54 => ⟨S64x64, .f32⟩
  | 55 => ⟨S64x64x16, .f32⟩
  | 56 => ⟨S64x64x16, .f32⟩
  | 57 => ⟨S64x64x16, .f32⟩
  | 58 => ⟨S64x64x16, .f32⟩
  | 59 => ⟨S64x64x16, .f32⟩
  | 60 => ⟨S_, .f32⟩
  | 61 => ⟨S64x64, .f32⟩
  | 62 => ⟨S64x64x1, .f32⟩
  | 63 => ⟨S_, .f32⟩
  | 64 => ⟨S64x64, .f32⟩
  | 65 => ⟨S64x64, .f32⟩
  | 66 => ⟨S64x64x16, .f32⟩
  | 67 => ⟨S64x64x16, .f32⟩
  | 68 => ⟨S64x64x16, .f32⟩
  | 69 => ⟨S64x64x16, .f32⟩
  | 70 => ⟨S_, .f32⟩
  | 71 => ⟨S64x64, .f32⟩
  | 72 => ⟨S64x64x1, .f32⟩
  | 73 => ⟨S_, .f32⟩
  | 74 => ⟨S64x64, .f32⟩
  | 75 => ⟨S64x64, .f32⟩
  | 76 => ⟨S64x64, .f32⟩
  | 77 => ⟨S64x64, .f32⟩
  | 78 => ⟨S64x64, .f32⟩
  | 79 => ⟨S64x64, .f32⟩
  | 80 => ⟨S64x64, .f32⟩
  | 81 => ⟨S64x64, .f32⟩
  | 82 => ⟨S64x64, .f32⟩
  | 83 => ⟨S64x64, .f32⟩
  | 84 => ⟨S64x64, .f32⟩
  | 85 => ⟨S64x64, .f32⟩
  | 86 => ⟨S64x64, .f32⟩
  | 87 => ⟨S64x64, .f32⟩
  | 88 => ⟨S64x64, .f32⟩
  | 89 => ⟨S64x64, .f32⟩
  | 90 => ⟨S64x64, .f32⟩
  | 91 => ⟨S64x64, .f32⟩
  | 92 => ⟨S64x64, .f32⟩
  | 93 => ⟨S64x64, .f32⟩
  | 94 => ⟨S64x64, .f32⟩
  | 95 => ⟨S64x64, .f32⟩
  | 96 => ⟨S64x64, .f32⟩
  | 97 => ⟨S64x64, .f32⟩
  | 98 => ⟨S64x64, .f32⟩
  | 99 => ⟨S64x64, .f32⟩
  | 100 => ⟨S64x64, .f32⟩
  | 101 => ⟨S64x64, .f32⟩
  | 102 => ⟨S64x64, .f32⟩
  | 103 => ⟨S64x64, .f32⟩
  | 104 => ⟨S64x64, .f32⟩
  | 105 => ⟨S64x64, .f32⟩
  | 106 => ⟨S64x64, .f32⟩
  | 107 => ⟨S64x64, .f32⟩
  | 108 => ⟨S64x64, .f32⟩
  | 109 => ⟨S64x64, .f32⟩
  | 110 => ⟨S64x64, .f32⟩
  | 111 => ⟨S64x64, .f32⟩
  | 112 => ⟨S_, .f32⟩
  | 113 => ⟨S64, .f32⟩
  | 114 => ⟨S64x1, .f32⟩
  | 115 => ⟨S64x64, .f32⟩
  | 116 => ⟨S64x64, .f32⟩
  | 117 => ⟨S64x64, .f32⟩
  | 118 => ⟨S64x64, .f32⟩
  | 119 => ⟨S64x64, .f32⟩
  | 120 => ⟨S64x64, .f32⟩
  | 121 => ⟨S64x64, .f32⟩
  | 122 => ⟨S64x64, .f32⟩
  | 123 => ⟨S64x64, .f32⟩
  | 124 => ⟨S_, .f32⟩
  | 125 => ⟨S64, .f32⟩
  | 126 => ⟨S64x1, .f32⟩
  | 127 => ⟨S64x1, .f32⟩
  | _ => ⟨S2048x1024, .f32⟩

abbrev hbmTy0_2 (i : Nat) : BufTy := match i % 128 with
  | 0 => ⟨S64x64, .f32⟩
  | 1 => ⟨S64x64, .f32⟩
  | 2 => ⟨S64x64, .f32⟩
  | 3 => ⟨S64x64, .f32⟩
  | 4 => ⟨S64x64, .f32⟩
  | 5 => ⟨S_, .f32⟩
  | 6 => ⟨S64, .f32⟩
  | 7 => ⟨S64x1, .f32⟩
  | 8 => ⟨S64x1, .f32⟩
  | 9 => ⟨S64x64, .f32⟩
  | 10 => ⟨S64x64, .f32⟩
  | 11 => ⟨S64x64, .f32⟩
  | 12 => ⟨S_, .f32⟩
  | 13 => ⟨S64, .f32⟩
  | 14 => ⟨S64, .f32⟩
  | 15 => ⟨S1024, .f32⟩
  | _ => ⟨S2048x1024, .f32⟩

abbrev hbmTy (i : Nat) : BufTy := match i / 128 with
  | 0 => hbmTy0_0 i
  | 1 => hbmTy0_1 i
  | 2 => hbmTy0_2 i
  | _ => ⟨S2048x1024, .f32⟩

abbrev bufTy : (tb : Table) → Fin (tcTables nBuf tb) → BufTy
  | .hbm, ⟨i, _⟩ => hbmTy i
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S1x1x512, .f32⟩
  | .local _ .vmem, ⟨5, _⟩ => ⟨S1x1x512, .f32⟩
  | .local _ .vmem, ⟨6, _⟩ => ⟨S1x1x512, .f32⟩
  | .local _ .vmem, ⟨7, _⟩ => ⟨S1x1x512, .f32⟩
  | .local _ .vmem, ⟨8, _⟩ => ⟨S1x128x512, .bf16⟩
  | .local _ .vmem, ⟨9, _⟩ => ⟨S1x128x512, .bf16⟩
  | .local _ .vmem, ⟨10, _⟩ => ⟨S1x128x512, .bf16⟩
  | .local _ .vmem, ⟨11, _⟩ => ⟨S1x128x512, .bf16⟩
  | .local _ .vmem, ⟨12, _⟩ => ⟨S1x128x512, .bf16⟩
  | .local _ .vmem, ⟨13, _⟩ => ⟨S1x128x512, .bf16⟩
  | .local _ .vmem, ⟨14, _⟩ => ⟨S1x128x512, .bf16⟩
  | .local _ .vmem, ⟨15, _⟩ => ⟨S1x128x512, .bf16⟩
  | .local _ .vmem, ⟨16, _⟩ => ⟨S1x128, .f32⟩
  | .local _ .vmem, ⟨17, _⟩ => ⟨S1x128, .f32⟩
  | .local _ .vmem, ⟨18, _⟩ => ⟨S2048x128, .f32⟩
  | .local _ .vmem, ⟨19, _⟩ => ⟨S2048x128, .f32⟩
  | .local _ .vmem, ⟨20, _⟩ => ⟨S1x128x512, .f32⟩
  | .local _ .vmem, ⟨21, _⟩ => ⟨S1x128x512, .f32⟩
  | .local _ .vmem, ⟨22, _⟩ => ⟨S1x128x512, .f32⟩
  | .local _ .vmem, ⟨23, _⟩ => ⟨S1x128x512, .f32⟩
  | .local _ .vmem, ⟨24, _⟩ => ⟨S1x512x128, .f32⟩
  | .local _ .vmem, ⟨25, _⟩ => ⟨S1x512x128, .f32⟩
  | .local _ .vmem, ⟨26, _⟩ => ⟨S1x512x128, .f32⟩
  | .local _ .vmem, ⟨27, _⟩ => ⟨S1x512x128, .f32⟩
  | .local _ .vmem, ⟨28, _⟩ => ⟨S1x1x512, .f32⟩
  | .local _ .vmem, ⟨29, _⟩ => ⟨S1x1x512, .f32⟩
  | .local _ .vmem, ⟨30, _⟩ => ⟨S1x1x512, .f32⟩
  | .local _ .vmem, ⟨31, _⟩ => ⟨S1x1x512, .f32⟩
  | .local _ .vmem, ⟨32, _⟩ => ⟨S1x128, .f32⟩
  | .local _ .vmem, ⟨33, _⟩ => ⟨S1x128, .f32⟩
  | .local _ .vmem, ⟨34, _⟩ => ⟨S2048x512, .f32⟩
  | .local _ .vmem, ⟨35, _⟩ => ⟨S2048x512, .f32⟩
  | .local _ .vmem, ⟨36, _⟩ => ⟨S2048x512, .f32⟩
  | .local _ .vmem, ⟨37, _⟩ => ⟨S2048x512, .f32⟩
  | .local _ .vmem, ⟨38, _⟩ => ⟨S16x512, .f32⟩
  | .local _ .vmem, ⟨39, _⟩ => ⟨S16x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_0 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_1 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_2 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_c : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99_0 : Ref sig .tc := ⟨.hbm, 114, rfl⟩
abbrev main_v99_1 : Ref sig .tc := ⟨.hbm, 115, rfl⟩
abbrev main_v99_2 : Ref sig .tc := ⟨.hbm, 116, rfl⟩
abbrev main_v99_3 : Ref sig .tc := ⟨.hbm, 117, rfl⟩
abbrev main_v99_4 : Ref sig .tc := ⟨.hbm, 118, rfl⟩
abbrev main_v99_5 : Ref sig .tc := ⟨.hbm, 119, rfl⟩
abbrev main_v99_6 : Ref sig .tc := ⟨.hbm, 120, rfl⟩
abbrev main_v99_7 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_cst_3 : Ref sig .tc := ⟨.hbm, 130, rfl⟩
abbrev main_v108 : Ref sig .tc := ⟨.hbm, 131, rfl⟩
abbrev main_v109 : Ref sig .tc := ⟨.hbm, 132, rfl⟩
abbrev main_cst_4 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_cst_5 : Ref sig .tc := ⟨.hbm, 139, rfl⟩
abbrev main_v115 : Ref sig .tc := ⟨.hbm, 140, rfl⟩
abbrev main_v116 : Ref sig .tc := ⟨.hbm, 141, rfl⟩
abbrev main_cst_6 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_cst_7 : Ref sig .tc := ⟨.hbm, 148, rfl⟩
abbrev main_v122 : Ref sig .tc := ⟨.hbm, 149, rfl⟩
abbrev main_v123 : Ref sig .tc := ⟨.hbm, 150, rfl⟩
abbrev main_cst_8 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_cst_9 : Ref sig .tc := ⟨.hbm, 157, rfl⟩
abbrev main_v129 : Ref sig .tc := ⟨.hbm, 158, rfl⟩
abbrev main_v130 : Ref sig .tc := ⟨.hbm, 159, rfl⟩
abbrev main_cst_10 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_cst_11 : Ref sig .tc := ⟨.hbm, 170, rfl⟩
abbrev main_v140 : Ref sig .tc := ⟨.hbm, 171, rfl⟩
abbrev main_v141 : Ref sig .tc := ⟨.hbm, 172, rfl⟩
abbrev main_cst_12 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_cst_13 : Ref sig .tc := ⟨.hbm, 178, rfl⟩
abbrev main_v146 : Ref sig .tc := ⟨.hbm, 179, rfl⟩
abbrev main_v147 : Ref sig .tc := ⟨.hbm, 180, rfl⟩
abbrev main_cst_14 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_cst_15 : Ref sig .tc := ⟨.hbm, 188, rfl⟩
abbrev main_v154 : Ref sig .tc := ⟨.hbm, 189, rfl⟩
abbrev main_v155 : Ref sig .tc := ⟨.hbm, 190, rfl⟩
abbrev main_cst_16 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_cst_17 : Ref sig .tc := ⟨.hbm, 198, rfl⟩
abbrev main_v162 : Ref sig .tc := ⟨.hbm, 199, rfl⟩
abbrev main_v163 : Ref sig .tc := ⟨.hbm, 200, rfl⟩
abbrev main_cst_18 : Ref sig .tc := ⟨.hbm, 201, rfl⟩
abbrev main_v164 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_v173 : Ref sig .tc := ⟨.hbm, 211, rfl⟩
abbrev main_v174 : Ref sig .tc := ⟨.hbm, 212, rfl⟩
abbrev main_v175 : Ref sig .tc := ⟨.hbm, 213, rfl⟩
abbrev main_v176 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_v181 : Ref sig .tc := ⟨.hbm, 219, rfl⟩
abbrev main_v182 : Ref sig .tc := ⟨.hbm, 220, rfl⟩
abbrev main_v183 : Ref sig .tc := ⟨.hbm, 221, rfl⟩
abbrev main_v184 : Ref sig .tc := ⟨.hbm, 222, rfl⟩
abbrev main_v185 : Ref sig .tc := ⟨.hbm, 223, rfl⟩
abbrev main_v186 : Ref sig .tc := ⟨.hbm, 224, rfl⟩
abbrev main_v187 : Ref sig .tc := ⟨.hbm, 225, rfl⟩
abbrev main_v188 : Ref sig .tc := ⟨.hbm, 226, rfl⟩
abbrev main_v189 : Ref sig .tc := ⟨.hbm, 227, rfl⟩
abbrev main_v190 : Ref sig .tc := ⟨.hbm, 228, rfl⟩
abbrev main_v191 : Ref sig .tc := ⟨.hbm, 229, rfl⟩
abbrev main_v192 : Ref sig .tc := ⟨.hbm, 230, rfl⟩
abbrev main_v193 : Ref sig .tc := ⟨.hbm, 231, rfl⟩
abbrev main_v194 : Ref sig .tc := ⟨.hbm, 232, rfl⟩
abbrev main_v195 : Ref sig .tc := ⟨.hbm, 233, rfl⟩
abbrev main_v196 : Ref sig .tc := ⟨.hbm, 234, rfl⟩
abbrev main_v197 : Ref sig .tc := ⟨.hbm, 235, rfl⟩
abbrev main_v198 : Ref sig .tc := ⟨.hbm, 236, rfl⟩
abbrev main_v199 : Ref sig .tc := ⟨.hbm, 237, rfl⟩
abbrev main_v200 : Ref sig .tc := ⟨.hbm, 238, rfl⟩
abbrev main_v201 : Ref sig .tc := ⟨.hbm, 239, rfl⟩
abbrev main_cst_19 : Ref sig .tc := ⟨.hbm, 240, rfl⟩
abbrev main_v202 : Ref sig .tc := ⟨.hbm, 241, rfl⟩
abbrev main_v203 : Ref sig .tc := ⟨.hbm, 242, rfl⟩
abbrev main_v204 : Ref sig .tc := ⟨.hbm, 243, rfl⟩
abbrev main_v205 : Ref sig .tc := ⟨.hbm, 244, rfl⟩
abbrev main_v206 : Ref sig .tc := ⟨.hbm, 245, rfl⟩
abbrev main_v207 : Ref sig .tc := ⟨.hbm, 246, rfl⟩
abbrev main_v208 : Ref sig .tc := ⟨.hbm, 247, rfl⟩
abbrev main_v209 : Ref sig .tc := ⟨.hbm, 248, rfl⟩
abbrev main_v210 : Ref sig .tc := ⟨.hbm, 249, rfl⟩
abbrev main_v211 : Ref sig .tc := ⟨.hbm, 250, rfl⟩
abbrev main_v212 : Ref sig .tc := ⟨.hbm, 251, rfl⟩
abbrev main_cst_20 : Ref sig .tc := ⟨.hbm, 252, rfl⟩
abbrev main_v213 : Ref sig .tc := ⟨.hbm, 253, rfl⟩
abbrev main_v214 : Ref sig .tc := ⟨.hbm, 254, rfl⟩
abbrev main_v215 : Ref sig .tc := ⟨.hbm, 255, rfl⟩
abbrev main_v216 : Ref sig .tc := ⟨.hbm, 256, rfl⟩
abbrev main_v217 : Ref sig .tc := ⟨.hbm, 257, rfl⟩
abbrev main_v218 : Ref sig .tc := ⟨.hbm, 258, rfl⟩
abbrev main_v219 : Ref sig .tc := ⟨.hbm, 259, rfl⟩
abbrev main_v220 : Ref sig .tc := ⟨.hbm, 260, rfl⟩
abbrev main_cst_21 : Ref sig .tc := ⟨.hbm, 261, rfl⟩
abbrev main_v221 : Ref sig .tc := ⟨.hbm, 262, rfl⟩
abbrev main_v222 : Ref sig .tc := ⟨.hbm, 263, rfl⟩
abbrev main_v223 : Ref sig .tc := ⟨.hbm, 264, rfl⟩
abbrev main_v224 : Ref sig .tc := ⟨.hbm, 265, rfl⟩
abbrev main_v225 : Ref sig .tc := ⟨.hbm, 266, rfl⟩
abbrev main_v226 : Ref sig .tc := ⟨.hbm, 267, rfl⟩
abbrev main_cst_22 : Ref sig .tc := ⟨.hbm, 268, rfl⟩
abbrev main_v227 : Ref sig .tc := ⟨.hbm, 269, rfl⟩
abbrev main_v228 : Ref sig .tc := ⟨.hbm, 270, rfl⟩
abbrev main_v229 : Ref sig .tc := ⟨.hbm, 271, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_scratch0 : Ref sig .tc := ⟨.vmem, 34, rfl⟩
abbrev cc0_scratch1 : Ref sig .tc := ⟨.vmem, 35, rfl⟩
abbrev cc0_scratch2 : Ref sig .tc := ⟨.vmem, 36, rfl⟩
abbrev cc0_scratch3 : Ref sig .tc := ⟨.vmem, 37, rfl⟩
abbrev cc0_scratch4 : Ref sig .tc := ⟨.vmem, 38, rfl⟩
abbrev cc0_scratch5 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨1, ![8], ![false]⟩

@[reducible] def k0_t1_loop : Scf.Loop 32 :=
  let c1_i32 : BitVec 32 := 1#32
  let c255_i32 : BitVec 32 := 255#32
  let v28 : BitVec 32 := Scalar.addi c1_i32 c255_i32
  let c1_i32_24 : BitVec 32 := 1#32
  ⟨c1_i32, v28, c1_i32_24⟩
def k0_mult1 (k0_t1 : Fin k0_t1_loop.trips) : BitVec 32 :=
  let c1_i32 : BitVec 32 := 1#32
  let c1_i32_24 : BitVec 32 := 1#32
  let arg24 : BitVec 32 := Scf.iv c1_i32 c1_i32_24 k0_t1
  let c8_i32 : BitVec 32 := 8#32
  let v488 : BitVec 32 := Scalar.muli arg24 c8_i32
  v488
def k0_off1 (k0_t1 : Fin k0_t1_loop.trips) : Fin 2 → Nat :=
  let c1_i32 : BitVec 32 := 1#32
  let c1_i32_24 : BitVec 32 := 1#32
  let arg24 : BitVec 32 := Scf.iv c1_i32 c1_i32_24 k0_t1
  let c8_i32 : BitVec 32 := 8#32
  let v488 : BitVec 32 := Scalar.muli arg24 c8_i32
  let v489 : BitVec 32 := v488
  let v493 : Index := Scalar.indexCast v489
  let c0_172 : Index := 0#32
  ![v493.toNat, 0]
@[reducible] def k0_t2_loop : Scf.Loop 32 :=
  let c0_i32 : BitVec 32 := 0#32
  let c256_i32 : BitVec 32 := 256#32
  let v200 : BitVec 32 := Scalar.addi c0_i32 c256_i32
  let c1_i32_49 : BitVec 32 := 1#32
  ⟨c0_i32, v200, c1_i32_49⟩
def k0_mult2 (k0_t2 : Fin k0_t2_loop.trips) : BitVec 32 :=
  let c0_i32 : BitVec 32 := 0#32
  let c1_i32_49 : BitVec 32 := 1#32
  let arg24 : BitVec 32 := Scf.iv c0_i32 c1_i32_49 k0_t2
  let c8_i32 : BitVec 32 := 8#32
  let v488 : BitVec 32 := Scalar.muli arg24 c8_i32
  v488
def k0_off2 (k0_t2 : Fin k0_t2_loop.trips) : Fin 2 → Nat :=
  let c0_i32 : BitVec 32 := 0#32
  let c1_i32_49 : BitVec 32 := 1#32
  let arg24 : BitVec 32 := Scf.iv c0_i32 c1_i32_49 k0_t2
  let c8_i32 : BitVec 32 := 8#32
  let v488 : BitVec 32 := Scalar.muli arg24 c8_i32
  let v489 : BitVec 32 := v488
  let v496 : Index := Scalar.indexCast v489
  let c0_172 : Index := 0#32
  ![v496.toNat, 0]
def k0_mult3 : BitVec 32 :=
  let c2040_i32 : BitVec 32 := 2040#32
  c2040_i32
@[reducible] def k0_t3_loop : Scf.Loop 32 :=
  let c0_i32_80 : BitVec 32 := 0#32
  let c255_i32_81 : BitVec 32 := 255#32
  let v241 : BitVec 32 := Scalar.addi c0_i32_80 c255_i32_81
  let c1_i32_82 : BitVec 32 := 1#32
  ⟨c0_i32_80, v241, c1_i32_82⟩
def k0_mult4 (k0_t3 : Fin k0_t3_loop.trips) : BitVec 32 :=
  let c254_i32 : BitVec 32 := 254#32
  let c0_i32_80 : BitVec 32 := 0#32
  let c1_i32_82 : BitVec 32 := 1#32
  let arg24 : BitVec 32 := Scf.iv c0_i32_80 c1_i32_82 k0_t3
  let v488 : BitVec 32 := Scalar.subi c254_i32 arg24
  let c8_i32 : BitVec 32 := 8#32
  let v489 : BitVec 32 := Scalar.muli v488 c8_i32
  v489
def k0_off3 (k0_t3 : Fin k0_t3_loop.trips) : Fin 2 → Nat :=
  let c254_i32 : BitVec 32 := 254#32
  let c0_i32_80 : BitVec 32 := 0#32
  let c1_i32_82 : BitVec 32 := 1#32
  let arg24 : BitVec 32 := Scf.iv c0_i32_80 c1_i32_82 k0_t3
  let v488 : BitVec 32 := Scalar.subi c254_i32 arg24
  let c8_i32 : BitVec 32 := 8#32
  let v489 : BitVec 32 := Scalar.muli v488 c8_i32
  let v490 : BitVec 32 := v489
  let v491 : Index := Scalar.indexCast v490
  let c0_172 : Index := 0#32
  ![v491.toNat, 0]
@[reducible] def k0_t4_loop : Scf.Loop 32 :=
  let c0_i32_124 : BitVec 32 := 0#32
  let c255_i32_125 : BitVec 32 := 255#32
  let v416 : BitVec 32 := Scalar.addi c0_i32_124 c255_i32_125
  let c1_i32_126 : BitVec 32 := 1#32
  ⟨c0_i32_124, v416, c1_i32_126⟩
def k0_mult5 (k0_t4 : Fin k0_t4_loop.trips) : BitVec 32 :=
  let c255_i32_172 : BitVec 32 := 255#32
  let c0_i32_124 : BitVec 32 := 0#32
  let c1_i32_126 : BitVec 32 := 1#32
  let arg24 : BitVec 32 := Scf.iv c0_i32_124 c1_i32_126 k0_t4
  let v488 : BitVec 32 := Scalar.subi c255_i32_172 arg24
  let c1_i32_173 : BitVec 32 := 1#32
  let v489 : BitVec 32 := Scalar.subi v488 c1_i32_173
  let c8_i32 : BitVec 32 := 8#32
  let v490 : BitVec 32 := Scalar.muli v489 c8_i32
  v490
def k0_mult6 (k0_t4 : Fin k0_t4_loop.trips) : BitVec 32 :=
  let c255_i32_172 : BitVec 32 := 255#32
  let c0_i32_124 : BitVec 32 := 0#32
  let c1_i32_126 : BitVec 32 := 1#32
  let arg24 : BitVec 32 := Scf.iv c0_i32_124 c1_i32_126 k0_t4
  let v488 : BitVec 32 := Scalar.subi c255_i32_172 arg24
  let c8_i32_174 : BitVec 32 := 8#32
  let v492 : BitVec 32 := Scalar.muli v488 c8_i32_174
  v492
def k0_off4 (k0_t4 : Fin k0_t4_loop.trips) : Fin 2 → Nat :=
  let c255_i32_172 : BitVec 32 := 255#32
  let c0_i32_124 : BitVec 32 := 0#32
  let c1_i32_126 : BitVec 32 := 1#32
  let arg24 : BitVec 32 := Scf.iv c0_i32_124 c1_i32_126 k0_t4
  let v488 : BitVec 32 := Scalar.subi c255_i32_172 arg24
  let c1_i32_173 : BitVec 32 := 1#32
  let v489 : BitVec 32 := Scalar.subi v488 c1_i32_173
  let c8_i32 : BitVec 32 := 8#32
  let v490 : BitVec 32 := Scalar.muli v489 c8_i32
  let v491 : BitVec 32 := v490
  let v494 : Index := Scalar.indexCast v491
  let c0_175 : Index := 0#32
  ![v494.toNat, 0]
def k0_off5 (k0_t4 : Fin k0_t4_loop.trips) : Fin 2 → Nat :=
  let c255_i32_172 : BitVec 32 := 255#32
  let c0_i32_124 : BitVec 32 := 0#32
  let c1_i32_126 : BitVec 32 := 1#32
  let arg24 : BitVec 32 := Scf.iv c0_i32_124 c1_i32_126 k0_t4
  let v488 : BitVec 32 := Scalar.subi c255_i32_172 arg24
  let c8_i32_174 : BitVec 32 := 8#32
  let v492 : BitVec 32 := Scalar.muli v488 c8_i32_174
  let v493 : BitVec 32 := v492
  let v504 : Index := Scalar.indexCast v493
  let c0_177 : Index := 0#32
  ![v504.toNat, 0]
def k0_mult7 : BitVec 32 :=
  let c0_i32_128 : BitVec 32 := 0#32
  c0_i32_128
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x128x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ReferenceIdeal.lean ====
abbrev S2048x1024 : Shape := ⟨2, ![2048, 1024]⟩
abbrev S64x64 : Shape := ⟨2, ![64, 64]⟩
abbrev S64 : Shape := ⟨1, ![64]⟩
abbrev S64x64x16 : Shape := ⟨3, ![64, 64, 16]⟩
abbrev S64x16x64 : Shape := ⟨3, ![64, 16, 64]⟩
abbrev S1024 : Shape := ⟨1, ![1024]⟩
abbrev S64x1 : Shape := ⟨2, ![64, 1]⟩
abbrev S_ : Shape := ⟨0, ![]⟩
abbrev S64x64x1 : Shape := ⟨3, ![64, 64, 1]⟩
abbrev S2048x64x16 : Shape := ⟨3, ![2048, 64, 16]⟩
abbrev S64x2048x64 : Shape := ⟨3, ![64, 2048, 64]⟩
abbrev S2048x64x64 : Shape := ⟨3, ![2048, 64, 64]⟩
abbrev S1x64x64 : Shape := ⟨3, ![1, 64, 64]⟩
abbrev S64x2048x16 : Shape := ⟨3, ![64, 2048, 16]⟩
abbrev S1x1024 : Shape := ⟨2, ![1, 1024]⟩

abbrev nBuf : Space → Nat
  | .hbm => 351
  | .vmem => 0
  | .smem => 0
  | _ => 0

abbrev hbmTy0_0 (i : Nat) : BufTy := match i % 128 with
  | 0 => ⟨S2048x1024, .f32⟩
  | 1 => ⟨S2048x1024, .f32⟩
  | 2 => ⟨S64x64, .f32⟩
  | 3 => ⟨S64x64, .f32⟩
  | 4 => ⟨S64, .f32⟩
  | 5 => ⟨S64x64x16, .f32⟩
  | 6 => ⟨S64x64x16, .f32⟩
  | 7 => ⟨S64x16x64, .f32⟩
  | 8 => ⟨S64x16x64, .f32⟩
  | 9 => ⟨S1024, .f32⟩
  | 10 => ⟨S64, .f32⟩
  | 11 => ⟨S64x1, .f32⟩
  | 12 => ⟨S64x64, .f32⟩
  | 13 => ⟨S64x64, .f32⟩
  | 14 => ⟨S64x64, .f32⟩
  | 15 => ⟨S64x64, .f32⟩
  | 16 => ⟨S64x64, .f32⟩
  | 17 => ⟨S64x64, .f32⟩
  | 18 => ⟨S64x64, .f32⟩
  | 19 => ⟨S64x64, .f32⟩
  | 20 => ⟨S64x64, .f32⟩
  | 21 => ⟨S64x64, .f32⟩
  | 22 => ⟨S64x64, .f32⟩
  | 23 => ⟨S64x64, .f32⟩
  | 24 => ⟨S64x64, .f32⟩
  | 25 => ⟨S64x64, .f32⟩
  | 26 => ⟨S64x64, .f32⟩
  | 27 => ⟨S64x64, .f32⟩
  | 28 => ⟨S_, .f32⟩
  | 29 => ⟨S64x64, .f32⟩
  | 30 => ⟨S64x64, .f32⟩
  | 31 => ⟨S64x64, .f32⟩
  | 32 => ⟨S64x64, .f32⟩
  | 33 => ⟨S64x64, .f32⟩
  | 34 => ⟨S64x64, .f32⟩
  | 35 => ⟨S64x64, .f32⟩
  | 36 => ⟨S_, .f32⟩
  | 37 => ⟨S64x64, .f32⟩
  | 38 => ⟨S64x64, .f32⟩
  | 39 => ⟨S64x64, .f32⟩
  | 40 => ⟨S_, .f32⟩
  | 41 => ⟨S64x64, .f32⟩
  | 42 => ⟨S64x64, .f32⟩
  | 43 => ⟨S64x64, .f32⟩
  | 44 => ⟨S64x64, .f32⟩
  | 45 => ⟨S64x64, .f32⟩
  | 46 => ⟨S64x64, .f32⟩
  | 47 => ⟨S_, .f32⟩
  | 48 => ⟨S64x64, .f32⟩
  | 49 => ⟨S64x64, .f32⟩
  | 50 => ⟨S64x64x1, .f32⟩
  | 51 => ⟨S64x64x16, .f32⟩
  | 52 => ⟨S64x64x16, .f32⟩
  | 53 => ⟨S64x64x1, .f32⟩
  | 54 => ⟨S64x64x16, .f32⟩
  | 55 => ⟨S64x64x16, .f32⟩
  | 56 => ⟨S64x64x16, .f32⟩
  | 57 => ⟨S64x64x1, .f32⟩
  | 58 => ⟨S64x64x16, .f32⟩
  | 59 => ⟨S64x64x16, .f32⟩
  | 60 => ⟨S64x64x1, .f32⟩
  | 61 => ⟨S64x64x16, .f32⟩
  | 62 => ⟨S64x64x16, .f32⟩
  | 63 => ⟨S64x64x16, .f32⟩
  | 64 => ⟨S2048x64x16, .f32⟩
  | 65 => ⟨S64x2048x64, .f32⟩
  | 66 => ⟨S2048x64x64, .f32⟩
  | 67 => ⟨S64x2048x64, .f32⟩
  | 68 => ⟨S2048x64x64, .f32⟩
  | 69 => ⟨S_, .f32⟩
  | 70 => ⟨S64x64, .f32⟩
  | 71 => ⟨S_, .f32⟩
  | 72 => ⟨S2048x64x64, .f32⟩
  | 73 => ⟨S_, .f32⟩
  | 74 => ⟨S2048x64x64, .f32⟩
  | 75 => ⟨S_, .f32⟩
  | 76 => ⟨S2048x64x64, .f32⟩
  | 77 => ⟨S_, .f32⟩
  | 78 => ⟨S2048x64x64, .f32⟩
  | 79 => ⟨S_, .i32⟩
  | 80 => ⟨S2048x64x64, .f32⟩
  | 81 => ⟨S2048x64x64, .f32⟩
  | 82 => ⟨S64x64, .f32⟩
  | 83 => ⟨S64x64, .f32⟩
  | 84 => ⟨S_, .i32⟩
  | 85 => ⟨S64x64, .f32⟩
  | 86 => ⟨S64x64, .f32⟩
  | 87 => ⟨S2048x64x64, .f32⟩
  | 88 => ⟨S2048x64x64, .f32⟩
  | 89 => ⟨S2048x64x64, .f32⟩
  | 90 => ⟨S2048x64x64, .f32⟩
  | 91 => ⟨S_, .i32⟩
  | 92 => ⟨S_, .i1⟩
  | 93 => ⟨S_, .i32⟩
  | 94 => ⟨S_, .i32⟩
  | 95 => ⟨S1x64x64, .f32⟩
  | 96 => ⟨S64x64, .f32⟩
  | 97 => ⟨S_, .i32⟩
  | 98 => ⟨S_, .i32⟩
  | 99 => ⟨S1x64x64, .f32⟩
  | 100 => ⟨S64x64, .f32⟩
  | 101 => ⟨S64x64, .f32⟩
  | 102 => ⟨S64x64, .f32⟩
  | 103 => ⟨S64x64, .f32⟩
  | 104 => ⟨S64x64, .f32⟩
  | 105 => ⟨S64x64, .f32⟩
  | 106 => ⟨S64x64, .f32⟩
  | 107 => ⟨S64x64, .f32⟩
  | 108 => ⟨S64x64, .f32⟩
  | 109 => ⟨S1x64x64, .f32⟩
  | 110 => ⟨S_, .i32⟩
  | 111 => ⟨S_, .i32⟩
  | 112 => ⟨S2048x64x64, .f32⟩
  | 113 => ⟨S1x64x64, .f32⟩
  | 114 => ⟨S_, .i32⟩
  | 115 => ⟨S_, .i32⟩
  | 116 => ⟨S2048x64x64, .f32⟩
  | 117 => ⟨S1x64x64, .f32⟩
  | 118 => ⟨S_, .i32⟩
  | 119 => ⟨S_, .i32⟩
  | 120 => ⟨S2048x64x64, .f32⟩
  | 121 => ⟨S1x64x64, .f32⟩
  | 122 => ⟨S_, .i32⟩
  | 123 => ⟨S_, .i32⟩
  | 124 => ⟨S2048x64x64, .f32⟩
  | 125 => ⟨S_, .i32⟩
  | 126 => ⟨S_, .i32⟩
  | 127 => ⟨S64x2048x16, .f32⟩
  | _ => ⟨S2048x1024, .f32⟩

abbrev hbmTy0_1 (i : Nat) : BufTy := match i % 128 with
  | 0 => ⟨S2048x64x16, .f32⟩
  | 1 => ⟨S64x2048x16, .f32⟩
  | 2 => ⟨S2048x64x16, .f32⟩
  | 3 => ⟨S2048x64x16, .f32⟩
  | 4 => ⟨S2048x1024, .f32⟩
  | 5 => ⟨S1x1024, .f32⟩
  | 6 => ⟨S2048x1024, .f32⟩
  | 7 => ⟨S2048x1024, .f32⟩
  | 8 => ⟨S2048x1024, .f32⟩
  | 9 => ⟨S_, .f32⟩
  | 10 => ⟨S64x64, .f32⟩
  | 11 => ⟨S_, .f32⟩
  | 12 => ⟨S64x64, .f32⟩
  | 13 => ⟨S2048x1024, .f32⟩
  | 14 => ⟨S2048x1024, .f32⟩
  | 15 => ⟨S2048x1024, .f32⟩
  | 16 => ⟨S2048x1024, .f32⟩
  | 17 => ⟨S2048x1024, .f32⟩
  | 18 => ⟨S_, .f32⟩
  | 19 => ⟨S1024, .f32⟩
  | 20 => ⟨S1x1024, .f32⟩
  | 21 => ⟨S_, .f32⟩
  | 22 => ⟨S1024, .f32⟩
  | 23 => ⟨S2048x64x16, .f32⟩
  | 24 => ⟨S2048x64x16, .f32⟩
  | 25 => ⟨S64x2048x16, .f32⟩
  | 26 => ⟨S64x16x64, .f32⟩
  | 27 => ⟨S64x2048x64, .f32⟩
  | 28 => ⟨S2048x64x64, .f32⟩
  | 29 => ⟨S64x2048x16, .f32⟩
  | 30 => ⟨S64x16x64, .f32⟩
  | 31 => ⟨S64x2048x64, .f32⟩
  | 32 => ⟨S2048x64x64, .f32⟩
  | 33 => ⟨S_, .f32⟩
  | 34 => ⟨S64x64, .f32⟩
  | 35 => ⟨S_, .f32⟩
  | 36 => ⟨S64x64, .f32⟩
  | 37 => ⟨S_, .f32⟩
  | 38 => ⟨S64x64, .f32⟩
  | 39 => ⟨S_, .f32⟩
  | 40 => ⟨S64x64, .f32⟩
  | 41 => ⟨S_, .f32⟩
  | 42 => ⟨S2048x64x64, .f32⟩
  | 43 => ⟨S_, .f32⟩
  | 44 => ⟨S2048x64x64, .f32⟩
  | 45 => ⟨S_, .i32⟩
  | 46 => ⟨S2048x64x64, .f32⟩
  | 47 => ⟨S2048x64x64, .f32⟩
  | 48 => ⟨S2048x64x64, .f32⟩
  | 49 => ⟨S2048x64x64, .f32⟩
  | 50 => ⟨S64x64, .f32⟩
  | 51 => ⟨S64x64, .f32⟩
  | 52 => ⟨S_, .i32⟩
  | 53 => ⟨S64x64, .f32⟩
  | 54 => ⟨S64x64, .f32⟩
  | 55 => ⟨S64x64, .f32⟩
  | 56 => ⟨S64x64, .f32⟩
  | 57 => ⟨S2048x64x64, .f32⟩
  | 58 => ⟨S2048x64x64, .f32⟩
  | 59 => ⟨S_, .i32⟩
  | 60 => ⟨S_, .i1⟩
  | 61 => ⟨S_, .i32⟩
  | 62 => ⟨S_, .i32⟩
  | 63 => ⟨S_, .i32⟩
  | 64 => ⟨S_, .i32⟩
  | 65 => ⟨S_, .i32⟩
  | 66 => ⟨S_, .i32⟩
  | 67 => ⟨S1x64x64, .f32⟩
  | 68 => ⟨S64x64, .f32⟩
  | 69 => ⟨S_, .i32⟩
  | 70 => ⟨S_, .i32⟩
  | 71 => ⟨S1x64x64, .f32⟩
  | 72 => ⟨S64x64, .f32⟩
  | 73 => ⟨S_, .i32⟩
  | 74 => ⟨S_, .i32⟩
  | 75 => ⟨S1x64x64, .f32⟩
  | 76 => ⟨S64x64, .f32⟩
  | 77 => ⟨S_, .i32⟩
  | 78 => ⟨S_, .i32⟩
  | 79 => ⟨S1x64x64, .f32⟩
  | 80 => ⟨S64x64, .f32⟩
  | 81 => ⟨S64x64, .f32⟩
  | 82 => ⟨S64x64, .f32⟩
  | 83 => ⟨S64x64, .f32⟩
  | 84 => ⟨S64x64, .f32⟩
  | 85 => ⟨S64x64, .f32⟩
  | 86 => ⟨S64x64, .f32⟩
  | 87 => ⟨S64x64, .f32⟩
  | 88 => ⟨S64x64, .f32⟩
  | 89 => ⟨S64x64, .f32⟩
  | 90 => ⟨S64x64, .f32⟩
  | 91 => ⟨S64x64, .f32⟩
  | 92 => ⟨S64x64, .f32⟩
  | 93 => ⟨S64x64, .f32⟩
  | 94 => ⟨S64x64, .f32⟩
  | 95 => ⟨S64x64, .f32⟩
  | 96 => ⟨S64x64, .f32⟩
  | 97 => ⟨S64x64, .f32⟩
  | 98 => ⟨S1x64x64, .f32⟩
  | 99 => ⟨S_, .i32⟩
  | 100 => ⟨S_, .i32⟩
  | 101 => ⟨S2048x64x64, .f32⟩
  | 102 => ⟨S1x64x64, .f32⟩
  | 103 => ⟨S_, .i32⟩
  | 104 => ⟨S_, .i32⟩
  | 105 => ⟨S2048x64x64, .f32⟩
  | 106 => ⟨S_, .i32⟩
  | 107 => ⟨S_, .i32⟩
  | 108 => ⟨S64x2048x64, .f32⟩
  | 109 => ⟨S64x64x16, .f32⟩
  | 110 => ⟨S64x2048x16, .f32⟩
  | 111 => ⟨S2048x64x16, .f32⟩
  | 112 => ⟨S64x2048x64, .f32⟩
  | 113 => ⟨S64x64x16, .f32⟩
  | 114 => ⟨S64x2048x16, .f32⟩
  | 115 => ⟨S2048x64x16, .f32⟩
  | 116 => ⟨S2048x64x16, .f32⟩
  | 117 => ⟨S2048x1024, .f32⟩
  | 118 => ⟨S2048x1024, .f32⟩
  | 119 => ⟨S64x64x16, .f32⟩
  | 120 => ⟨S64x64x16, .f32⟩
  | 121 => ⟨S64x64x16, .f32⟩
  | 122 => ⟨S_, .f32⟩
  | 123 => ⟨S64x64, .f32⟩
  | 124 => ⟨S64x64x1, .f32⟩
  | 125 => ⟨S_, .f32⟩
  | 126 => ⟨S64x64, .f32⟩
  | 127 => ⟨S64x64x16, .f32⟩
  | _ => ⟨S2048x1024, .f32⟩

abbrev hbmTy0_2 (i : Nat) : BufTy := match i % 128 with
  | 0 => ⟨S64x64x16, .f32⟩
  | 1 => ⟨S64x64x16, .f32⟩
  | 2 => ⟨S_, .f32⟩
  | 3 => ⟨S64x64, .f32⟩
  | 4 => ⟨S64x64x1, .f32⟩
  | 5 => ⟨S_, .f32⟩
  | 6 => ⟨S64x64, .f32⟩
  | 7 => ⟨S64x64x16, .f32⟩
  | 8 => ⟨S64x64x16, .f32⟩
  | 9 => ⟨S64x64x16, .f32⟩
  | 10 => ⟨S64x64x16, .f32⟩
  | 11 => ⟨S64x64x16, .f32⟩
  | 12 => ⟨S_, .f32⟩
  | 13 => ⟨S64x64, .f32⟩
  | 14 => ⟨S64x64x1, .f32⟩
  | 15 => ⟨S_, .f32⟩
  | 16 => ⟨S64x64, .f32⟩
  | 17 => ⟨S64x64, .f32⟩
  | 18 => ⟨S64x64x16, .f32⟩
  | 19 => ⟨S64x64x16, .f32⟩
  | 20 => ⟨S64x64x16, .f32⟩
  | 21 => ⟨S64x64x16, .f32⟩
  | 22 => ⟨S_, .f32⟩
  | 23 => ⟨S64x64, .f32⟩
  | 24 => ⟨S64x64x1, .f32⟩
  | 25 => ⟨S_, .f32⟩
  | 26 => ⟨S64x64, .f32⟩
  | 27 => ⟨S64x64, .f32⟩
  | 28 => ⟨S64x64, .f32⟩
  | 29 => ⟨S64x64, .f32⟩
  | 30 => ⟨S64x64, .f32⟩
  | 31 => ⟨S64x64, .f32⟩
  | 32 => ⟨S64x64, .f32⟩
  | 33 => ⟨S64x64, .f32⟩
  | 34 => ⟨S64x64, .f32⟩
  | 35 => ⟨S64x64, .f32⟩
  | 36 => ⟨S64x64, .f32⟩
  | 37 => ⟨S64x64, .f32⟩
  | 38 => ⟨S64x64, .f32⟩
  | 39 => ⟨S64x64, .f32⟩
  | 40 => ⟨S64x64, .f32⟩
  | 41 => ⟨S64x64, .f32⟩
  | 42 => ⟨S64x64, .f32⟩
  | 43 => ⟨S64x64, .f32⟩
  | 44 => ⟨S64x64, .f32⟩
  | 45 => ⟨S64x64, .f32⟩
  | 46 => ⟨S64x64, .f32⟩
  | 47 => ⟨S64x64, .f32⟩
  | 48 => ⟨S64x64, .f32⟩
  | 49 => ⟨S64x64, .f32⟩
  | 50 => ⟨S64x64, .f32⟩
  | 51 => ⟨S64x64, .f32⟩
  | 52 => ⟨S64x64, .f32⟩
  | 53 => ⟨S64x64, .f32⟩
  | 54 => ⟨S64x64, .f32⟩
  | 55 => ⟨S64x64, .f32⟩
  | 56 => ⟨S64x64, .f32⟩
  | 57 => ⟨S64x64, .f32⟩
  | 58 => ⟨S64x64, .f32⟩
  | 59 => ⟨S64x64, .f32⟩
  | 60 => ⟨S64x64, .f32⟩
  | 61 => ⟨S64x64, .f32⟩
  | 62 => ⟨S64x64, .f32⟩
  | 63 => ⟨S64x64, .f32⟩
  | 64 => ⟨S_, .f32⟩
  | 65 => ⟨S64, .f32⟩
  | 66 => ⟨S64x1, .f32⟩
  | 67 => ⟨S64x64, .f32⟩
  | 68 => ⟨S64x64, .f32⟩
  | 69 => ⟨S64x64, .f32⟩
  | 70 => ⟨S64x64, .f32⟩
  | 71 => ⟨S64x64, .f32⟩
  | 72 => ⟨S64x64, .f32⟩
  | 73 => ⟨S64x64, .f32⟩
  | 74 => ⟨S64x64, .f32⟩
  | 75 => ⟨S64x64, .f32⟩
  | 76 => ⟨S_, .f32⟩
  | 77 => ⟨S64, .f32⟩
  | 78 => ⟨S64x1, .f32⟩
  | 79 => ⟨S64x1, .f32⟩
  | 80 => ⟨S64x64, .f32⟩
  | 81 => ⟨S64x64, .f32⟩
  | 82 => ⟨S64x64, .f32⟩
  | 83 => ⟨S64x64, .f32⟩
  | 84 => ⟨S64x64, .f32⟩
  | 85 => ⟨S_, .f32⟩
  | 86 => ⟨S64, .f32⟩
  | 87 => ⟨S64x1, .f32⟩
  | 88 => ⟨S64x1, .f32⟩
  | 89 => ⟨S64x64, .f32⟩
  | 90 => ⟨S64x64, .f32⟩
  | 91 => ⟨S64x64, .f32⟩
  | 92 => ⟨S_, .f32⟩
  | 93 => ⟨S64, .f32⟩
  | 94 => ⟨S64, .f32⟩
  | _ => ⟨S2048x1024, .f32⟩

abbrev hbmTy (i : Nat) : BufTy := match i / 128 with
  | 0 => hbmTy0_0 i
  | 1 => hbmTy0_1 i
  | 2 => hbmTy0_2 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_0 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_1 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_2 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_3 : Ref sig .tc := ⟨.hbm, 69, rfl⟩
abbrev main_v55 : Ref sig .tc := ⟨.hbm, 70, rfl⟩
abbrev main_cst_4 : Ref sig .tc := ⟨.hbm, 71, rfl⟩
abbrev main_v56 : Ref sig .tc := ⟨.hbm, 72, rfl⟩
abbrev main_cst_5 : Ref sig .tc := ⟨.hbm, 73, rfl⟩
abbrev main_v57 : Ref sig .tc := ⟨.hbm, 74, rfl⟩
abbrev main_cst_6 : Ref sig .tc := ⟨.hbm, 75, rfl⟩
abbrev main_v58 : Ref sig .tc := ⟨.hbm, 76, rfl⟩
abbrev main_cst_7 : Ref sig .tc := ⟨.hbm, 77, rfl⟩
abbrev main_v59 : Ref sig .tc := ⟨.hbm, 78, rfl⟩
abbrev main_c : Ref sig .tc := ⟨.hbm, 79, rfl⟩
abbrev main_v60_0 : Ref sig .tc := ⟨.hbm, 80, rfl⟩
abbrev main_v60_1 : Ref sig .tc := ⟨.hbm, 81, rfl⟩
abbrev main_v60_2 : Ref sig .tc := ⟨.hbm, 82, rfl⟩
abbrev main_v60_3 : Ref sig .tc := ⟨.hbm, 83, rfl⟩
abbrev main_v60_4 : Ref sig .tc := ⟨.hbm, 84, rfl⟩
abbrev main_v60_5 : Ref sig .tc := ⟨.hbm, 85, rfl⟩
abbrev main_v60_6 : Ref sig .tc := ⟨.hbm, 86, rfl⟩
abbrev main_v60_7 : Ref sig .tc := ⟨.hbm, 87, rfl⟩
abbrev main_v60_8 : Ref sig .tc := ⟨.hbm, 88, rfl⟩
abbrev main_v60_9 : Ref sig .tc := ⟨.hbm, 89, rfl⟩
abbrev main_v60_10 : Ref sig .tc := ⟨.hbm, 90, rfl⟩
abbrev main_while0c_c_41 : Ref sig .tc := ⟨.hbm, 91, rfl⟩
abbrev main_while0c_v201 : Ref sig .tc := ⟨.hbm, 92, rfl⟩
abbrev main_while0b_call0_c : Ref sig .tc := ⟨.hbm, 93, rfl⟩
abbrev main_while0b_call0_c_0 : Ref sig .tc := ⟨.hbm, 94, rfl⟩
abbrev main_while0b_call0_v0 : Ref sig .tc := ⟨.hbm, 95, rfl⟩
abbrev main_while0b_v201 : Ref sig .tc := ⟨.hbm, 96, rfl⟩
abbrev main_while0b_call1_c : Ref sig .tc := ⟨.hbm, 97, rfl⟩
abbrev main_while0b_call1_c_0 : Ref sig .tc := ⟨.hbm, 98, rfl⟩
abbrev main_while0b_call1_v0 : Ref sig .tc := ⟨.hbm, 99, rfl⟩
abbrev main_while0b_v202 : Ref sig .tc := ⟨.hbm, 100, rfl⟩
abbrev main_while0b_v203 : Ref sig .tc := ⟨.hbm, 101, rfl⟩
abbrev main_while0b_v204 : Ref sig .tc := ⟨.hbm, 102, rfl⟩
abbrev main_while0b_v205 : Ref sig .tc := ⟨.hbm, 103, rfl⟩
abbrev main_while0b_v206 : Ref sig .tc := ⟨.hbm, 104, rfl⟩
abbrev main_while0b_v207 : Ref sig .tc := ⟨.hbm, 105, rfl⟩
abbrev main_while0b_v208 : Ref sig .tc := ⟨.hbm, 106, rfl⟩
abbrev main_while0b_v209 : Ref sig .tc := ⟨.hbm, 107, rfl⟩
abbrev main_while0b_v210 : Ref sig .tc := ⟨.hbm, 108, rfl⟩
abbrev main_while0b_call2_v0 : Ref sig .tc := ⟨.hbm, 109, rfl⟩
abbrev main_while0b_call2_c : Ref sig .tc := ⟨.hbm, 110, rfl⟩
abbrev main_while0b_call2_c_0 : Ref sig .tc := ⟨.hbm, 111, rfl⟩
abbrev main_while0b_v211 : Ref sig .tc := ⟨.hbm, 112, rfl⟩
abbrev main_while0b_call3_v0 : Ref sig .tc := ⟨.hbm, 113, rfl⟩
abbrev main_while0b_call3_c : Ref sig .tc := ⟨.hbm, 114, rfl⟩
abbrev main_while0b_call3_c_0 : Ref sig .tc := ⟨.hbm, 115, rfl⟩
abbrev main_while0b_v212 : Ref sig .tc := ⟨.hbm, 116, rfl⟩
abbrev main_while0b_call4_v0 : Ref sig .tc := ⟨.hbm, 117, rfl⟩
abbrev main_while0b_call4_c : Ref sig .tc := ⟨.hbm, 118, rfl⟩
abbrev main_while0b_call4_c_0 : Ref sig .tc := ⟨.hbm, 119, rfl⟩
abbrev main_while0b_v213 : Ref sig .tc := ⟨.hbm, 120, rfl⟩
abbrev main_while0b_call5_v0 : Ref sig .tc := ⟨.hbm, 121, rfl⟩
abbrev main_while0b_call5_c : Ref sig .tc := ⟨.hbm, 122, rfl⟩
abbrev main_while0b_call5_c_0 : Ref sig .tc := ⟨.hbm, 123, rfl⟩
abbrev main_while0b_v214 : Ref sig .tc := ⟨.hbm, 124, rfl⟩
abbrev main_while0b_c_41 : Ref sig .tc := ⟨.hbm, 125, rfl⟩
abbrev main_while0b_v215 : Ref sig .tc := ⟨.hbm, 126, rfl⟩
abbrev main_v61 : Ref sig .tc := ⟨.hbm, 127, rfl⟩
abbrev main_v62 : Ref sig .tc := ⟨.hbm, 128, rfl⟩
abbrev main_v63 : Ref sig .tc := ⟨.hbm, 129, rfl⟩
abbrev main_v64 : Ref sig .tc := ⟨.hbm, 130, rfl⟩
abbrev main_v65 : Ref sig .tc := ⟨.hbm, 131, rfl⟩
abbrev main_v66 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_v70 : Ref sig .tc := ⟨.hbm, 136, rfl⟩
abbrev main_cst_8 : Ref sig .tc := ⟨.hbm, 137, rfl⟩
abbrev main_v71 : Ref sig .tc := ⟨.hbm, 138, rfl⟩
abbrev main_cst_9 : Ref sig .tc := ⟨.hbm, 139, rfl⟩
abbrev main_v72 : Ref sig .tc := ⟨.hbm, 140, rfl⟩
abbrev main_v73 : Ref sig .tc := ⟨.hbm, 141, rfl⟩
abbrev main_v74 : Ref sig .tc := ⟨.hbm, 142, rfl⟩
abbrev main_v75 : Ref sig .tc := ⟨.hbm, 143, rfl⟩
abbrev main_v76 : Ref sig .tc := ⟨.hbm, 144, rfl⟩
abbrev main_v77 : Ref sig .tc := ⟨.hbm, 145, rfl⟩
abbrev main_cst_10 : Ref sig .tc := ⟨.hbm, 146, rfl⟩
abbrev main_v78 : Ref sig .tc := ⟨.hbm, 147, rfl⟩
abbrev main_v79 : Ref sig .tc := ⟨.hbm, 148, rfl⟩
abbrev main_cst_11 : Ref sig .tc := ⟨.hbm, 149, rfl⟩
abbrev main_v80 : Ref sig .tc := ⟨.hbm, 150, rfl⟩
abbrev main_v81 : Ref sig .tc := ⟨.hbm, 151, rfl⟩
abbrev main_v82 : Ref sig .tc := ⟨.hbm, 152, rfl⟩
abbrev main_v83 : Ref sig .tc := ⟨.hbm, 153, rfl⟩
abbrev main_v84 : Ref sig .tc := ⟨.hbm, 154, rfl⟩
abbrev main_v85 : Ref sig .tc := ⟨.hbm, 155, rfl⟩
abbrev main_v86 : Ref sig .tc := ⟨.hbm, 156, rfl⟩
abbrev main_v87 : Ref sig .tc := ⟨.hbm, 157, rfl⟩
abbrev main_v88 : Ref sig .tc := ⟨.hbm, 158, rfl⟩
abbrev main_v89 : Ref sig .tc := ⟨.hbm, 159, rfl⟩
abbrev main_v90 : Ref sig .tc := ⟨.hbm, 160, rfl⟩
abbrev main_cst_12 : Ref sig .tc := ⟨.hbm, 161, rfl⟩
abbrev main_v91 : Ref sig .tc := ⟨.hbm, 162, rfl⟩
abbrev main_cst_13 : Ref sig .tc := ⟨.hbm, 163, rfl⟩
abbrev main_v92 : Ref sig .tc := ⟨.hbm, 164, rfl⟩
abbrev main_cst_14 : Ref sig .tc := ⟨.hbm, 165, rfl⟩
abbrev main_v93 : Ref sig .tc := ⟨.hbm, 166, rfl⟩
abbrev main_cst_15 : Ref sig .tc := ⟨.hbm, 167, rfl⟩
abbrev main_v94 : Ref sig .tc := ⟨.hbm, 168, rfl⟩
abbrev main_cst_16 : Ref sig .tc := ⟨.hbm, 169, rfl⟩
abbrev main_v95 : Ref sig .tc := ⟨.hbm, 170, rfl⟩
abbrev main_cst_17 : Ref sig .tc := ⟨.hbm, 171, rfl⟩
abbrev main_v96 : Ref sig .tc := ⟨.hbm, 172, rfl⟩
abbrev main_c_18 : Ref sig .tc := ⟨.hbm, 173, rfl⟩
abbrev main_v97_0 : Ref sig .tc := ⟨.hbm, 174, rfl⟩
abbrev main_v97_1 : Ref sig .tc := ⟨.hbm, 175, rfl⟩
abbrev main_v97_2 : Ref sig .tc := ⟨.hbm, 176, rfl⟩
abbrev main_v97_3 : Ref sig .tc := ⟨.hbm, 177, rfl⟩
abbrev main_v97_4 : Ref sig .tc := ⟨.hbm, 178, rfl⟩
abbrev main_v97_5 : Ref sig .tc := ⟨.hbm, 179, rfl⟩
abbrev main_v97_6 : Ref sig .tc := ⟨.hbm, 180, rfl⟩
abbrev main_v97_7 : Ref sig .tc := ⟨.hbm, 181, rfl⟩
abbrev main_v97_8 : Ref sig .tc := ⟨.hbm, 182, rfl⟩
abbrev main_v97_9 : Ref sig .tc := ⟨.hbm, 183, rfl⟩
abbrev main_v97_10 : Ref sig .tc := ⟨.hbm, 184, rfl⟩
abbrev main_v97_11 : Ref sig .tc := ⟨.hbm, 185, rfl⟩
abbrev main_v97_12 : Ref sig .tc := ⟨.hbm, 186, rfl⟩
abbrev main_while1c_c_43 : Ref sig .tc := ⟨.hbm, 187, rfl⟩
abbrev main_while1c_v201 : Ref sig .tc := ⟨.hbm, 188, rfl⟩
abbrev main_while1b_c_43 : Ref sig .tc := ⟨.hbm, 189, rfl⟩
abbrev main_while1b_v201 : Ref sig .tc := ⟨.hbm, 190, rfl⟩
abbrev main_while1b_c_44 : Ref sig .tc := ⟨.hbm, 191, rfl⟩
abbrev main_while1b_v202 : Ref sig .tc := ⟨.hbm, 192, rfl⟩
abbrev main_while1b_call6_c : Ref sig .tc := ⟨.hbm, 193, rfl⟩
abbrev main_while1b_call6_c_0 : Ref sig .tc := ⟨.hbm, 194, rfl⟩
abbrev main_while1b_call6_v0 : Ref sig .tc := ⟨.hbm, 195, rfl⟩
abbrev main_while1b_v203 : Ref sig .tc := ⟨.hbm, 196, rfl⟩
abbrev main_while1b_call7_c : Ref sig .tc := ⟨.hbm, 197, rfl⟩
abbrev main_while1b_call7_c_0 : Ref sig .tc := ⟨.hbm, 198, rfl⟩
abbrev main_while1b_call7_v0 : Ref sig .tc := ⟨.hbm, 199, rfl⟩
abbrev main_while1b_v204 : Ref sig .tc := ⟨.hbm, 200, rfl⟩
abbrev main_while1b_call8_c : Ref sig .tc := ⟨.hbm, 201, rfl⟩
abbrev main_while1b_call8_c_0 : Ref sig .tc := ⟨.hbm, 202, rfl⟩
abbrev main_while1b_call8_v0 : Ref sig .tc := ⟨.hbm, 203, rfl⟩
abbrev main_while1b_v205 : Ref sig .tc := ⟨.hbm, 204, rfl⟩
abbrev main_while1b_call9_c : Ref sig .tc := ⟨.hbm, 205, rfl⟩
abbrev main_while1b_call9_c_0 : Ref sig .tc := ⟨.hbm, 206, rfl⟩
abbrev main_while1b_call9_v0 : Ref sig .tc := ⟨.hbm, 207, rfl⟩
abbrev main_while1b_v206 : Ref sig .tc := ⟨.hbm, 208, rfl⟩
abbrev main_while1b_v207 : Ref sig .tc := ⟨.hbm, 209, rfl⟩
abbrev main_while1b_v208 : Ref sig .tc := ⟨.hbm, 210, rfl⟩
abbrev main_while1b_v209 : Ref sig .tc := ⟨.hbm, 211, rfl⟩
abbrev main_while1b_v210 : Ref sig .tc := ⟨.hbm, 212, rfl⟩
abbrev main_while1b_v211 : Ref sig .tc := ⟨.hbm, 213, rfl⟩
abbrev main_while1b_v212 : Ref sig .tc := ⟨.hbm, 214, rfl⟩
abbrev main_while1b_v213 : Ref sig .tc := ⟨.hbm, 215, rfl⟩
abbrev main_while1b_v214 : Ref sig .tc := ⟨.hbm, 216, rfl⟩
abbrev main_while1b_v215 : Ref sig .tc := ⟨.hbm, 217, rfl⟩
abbrev main_while1b_v216 : Ref sig .tc := ⟨.hbm, 218, rfl⟩
abbrev main_while1b_v217 : Ref sig .tc := ⟨.hbm, 219, rfl⟩
abbrev main_while1b_v218 : Ref sig .tc := ⟨.hbm, 220, rfl⟩
abbrev main_while1b_v219 : Ref sig .tc := ⟨.hbm, 221, rfl⟩
abbrev main_while1b_v220 : Ref sig .tc := ⟨.hbm, 222, rfl⟩
abbrev main_while1b_v221 : Ref sig .tc := ⟨.hbm, 223, rfl⟩
abbrev main_while1b_v222 : Ref sig .tc := ⟨.hbm, 224, rfl⟩
abbrev main_while1b_v223 : Ref sig .tc := ⟨.hbm, 225, rfl⟩
abbrev main_while1b_call10_v0 : Ref sig .tc := ⟨.hbm, 226, rfl⟩
abbrev main_while1b_call10_c : Ref sig .tc := ⟨.hbm, 227, rfl⟩
abbrev main_while1b_call10_c_0 : Ref sig .tc := ⟨.hbm, 228, rfl⟩
abbrev main_while1b_v224 : Ref sig .tc := ⟨.hbm, 229, rfl⟩
abbrev main_while1b_call11_v0 : Ref sig .tc := ⟨.hbm, 230, rfl⟩
abbrev main_while1b_call11_c : Ref sig .tc := ⟨.hbm, 231, rfl⟩
abbrev main_while1b_call11_c_0 : Ref sig .tc := ⟨.hbm, 232, rfl⟩
abbrev main_while1b_v225 : Ref sig .tc := ⟨.hbm, 233, rfl⟩
abbrev main_while1b_c_45 : Ref sig .tc := ⟨.hbm, 234, rfl⟩
abbrev main_while1b_v226 : Ref sig .tc := ⟨.hbm, 235, rfl⟩
abbrev main_v98 : Ref sig .tc := ⟨.hbm, 236, rfl⟩
abbrev main_v99 : Ref sig .tc := ⟨.hbm, 237, rfl⟩
abbrev main_v100 : Ref sig .tc := ⟨.hbm, 238, rfl⟩
abbrev main_v101 : Ref sig .tc := ⟨.hbm, 239, rfl⟩
abbrev main_v102 : Ref sig .tc := ⟨.hbm, 240, rfl⟩
abbrev main_v103 : Ref sig .tc := ⟨.hbm, 241, rfl⟩
abbrev main_v104 : Ref sig .tc := ⟨.hbm, 242, rfl⟩
abbrev main_v105 : Ref sig .tc := ⟨.hbm, 243, rfl⟩
abbrev main_v106 : Ref sig .tc := ⟨.hbm, 244, rfl⟩
abbrev main_v107 : Ref sig .tc := ⟨.hbm, 245, rfl⟩
abbrev main_v108 : Ref sig .tc := ⟨.hbm, 246, rfl⟩
abbrev main_v109 : Ref sig .tc := ⟨.hbm, 247, rfl⟩
abbrev main_v110 : Ref sig .tc := ⟨.hbm, 248, rfl⟩
abbrev main_v111 : Ref sig .tc := ⟨.hbm, 249, rfl⟩
abbrev main_cst_19 : Ref sig .tc := ⟨.hbm, 250, rfl⟩
abbrev main_v112 : Ref sig .tc := ⟨.hbm, 251, rfl⟩
abbrev main_v113 : Ref sig .tc := ⟨.hbm, 252, rfl⟩
abbrev main_cst_20 : Ref sig .tc := ⟨.hbm, 253, rfl⟩
abbrev main_v114 : Ref sig .tc := ⟨.hbm, 254, rfl⟩
abbrev main_v115 : Ref sig .tc := ⟨.hbm, 255, rfl⟩
abbrev main_v116 : Ref sig .tc := ⟨.hbm, 256, rfl⟩
abbrev main_v117 : Ref sig .tc := ⟨.hbm, 257, rfl⟩
abbrev main_cst_21 : Ref sig .tc := ⟨.hbm, 258, rfl⟩
abbrev main_v118 : Ref sig .tc := ⟨.hbm, 259, rfl⟩
abbrev main_v119 : Ref sig .tc := ⟨.hbm, 260, rfl⟩
abbrev main_cst_22 : Ref sig .tc := ⟨.hbm, 261, rfl⟩
abbrev main_v120 : Ref sig .tc := ⟨.hbm, 262, rfl⟩
abbrev main_v121 : Ref sig .tc := ⟨.hbm, 263, rfl⟩
abbrev main_v122 : Ref sig .tc := ⟨.hbm, 264, rfl⟩
abbrev main_v123 : Ref sig .tc := ⟨.hbm, 265, rfl⟩
abbrev main_v124 : Ref sig .tc := ⟨.hbm, 266, rfl⟩
abbrev main_v125 : Ref sig .tc := ⟨.hbm, 267, rfl⟩
abbrev main_cst_23 : Ref sig .tc := ⟨.hbm, 268, rfl⟩
abbrev main_v126 : Ref sig .tc := ⟨.hbm, 269, rfl⟩
abbrev main_v127 : Ref sig .tc := ⟨.hbm, 270, rfl⟩
abbrev main_cst_24 : Ref sig .tc := ⟨.hbm, 271, rfl⟩
abbrev main_v128 : Ref sig .tc := ⟨.hbm, 272, rfl⟩
abbrev main_v129 : Ref sig .tc := ⟨.hbm, 273, rfl⟩
abbrev main_v130 : Ref sig .tc := ⟨.hbm, 274, rfl⟩
abbrev main_v131 : Ref sig .tc := ⟨.hbm, 275, rfl⟩
abbrev main_v132 : Ref sig .tc := ⟨.hbm, 276, rfl⟩
abbrev main_v133 : Ref sig .tc := ⟨.hbm, 277, rfl⟩
abbrev main_cst_25 : Ref sig .tc := ⟨.hbm, 278, rfl⟩
abbrev main_v134 : Ref sig .tc := ⟨.hbm, 279, rfl⟩
abbrev main_v135 : Ref sig .tc := ⟨.hbm, 280, rfl⟩
abbrev main_cst_26 : Ref sig .tc := ⟨.hbm, 281, rfl⟩
abbrev main_v136 : Ref sig .tc := ⟨.hbm, 282, rfl⟩
abbrev main_v137 : Ref sig .tc := ⟨.hbm, 283, rfl⟩
abbrev main_v138 : Ref sig .tc := ⟨.hbm, 284, rfl⟩
abbrev main_v139 : Ref sig .tc := ⟨.hbm, 285, rfl⟩
abbrev main_v140 : Ref sig .tc := ⟨.hbm, 286, rfl⟩
abbrev main_v141 : Ref sig .tc := ⟨.hbm, 287, rfl⟩
abbrev main_v142 : Ref sig .tc := ⟨.hbm, 288, rfl⟩
abbrev main_v143 : Ref sig .tc := ⟨.hbm, 289, rfl⟩
abbrev main_v144 : Ref sig .tc := ⟨.hbm, 290, rfl⟩
abbrev main_v145 : Ref sig .tc := ⟨.hbm, 291, rfl⟩
abbrev main_v146 : Ref sig .tc := ⟨.hbm, 292, rfl⟩
abbrev main_v147 : Ref sig .tc := ⟨.hbm, 293, rfl⟩
abbrev main_v148 : Ref sig .tc := ⟨.hbm, 294, rfl⟩
abbrev main_v149 : Ref sig .tc := ⟨.hbm, 295, rfl⟩
abbrev main_v150 : Ref sig .tc := ⟨.hbm, 296, rfl⟩
abbrev main_v151 : Ref sig .tc := ⟨.hbm, 297, rfl⟩
abbrev main_v152 : Ref sig .tc := ⟨.hbm, 298, rfl⟩
abbrev main_v153 : Ref sig .tc := ⟨.hbm, 299, rfl⟩
abbrev main_v154 : Ref sig .tc := ⟨.hbm, 300, rfl⟩
abbrev main_v155 : Ref sig .tc := ⟨.hbm, 301, rfl⟩
abbrev main_v156 : Ref sig .tc := ⟨.hbm, 302, rfl⟩
abbrev main_v157 : Ref sig .tc := ⟨.hbm, 303, rfl⟩
abbrev main_v158 : Ref sig .tc := ⟨.hbm, 304, rfl⟩
abbrev main_v159 : Ref sig .tc := ⟨.hbm, 305, rfl⟩
abbrev main_v160 : Ref sig .tc := ⟨.hbm, 306, rfl⟩
abbrev main_v161 : Ref sig .tc := ⟨.hbm, 307, rfl⟩
abbrev main_v162 : Ref sig .tc := ⟨.hbm, 308, rfl⟩
abbrev main_v163 : Ref sig .tc := ⟨.hbm, 309, rfl⟩
abbrev main_v164 : Ref sig .tc := ⟨.hbm, 310, rfl⟩
abbrev main_v165 : Ref sig .tc := ⟨.hbm, 311, rfl⟩
abbrev main_v166 : Ref sig .tc := ⟨.hbm, 312, rfl⟩
abbrev main_v167 : Ref sig .tc := ⟨.hbm, 313, rfl⟩
abbrev main_v168 : Ref sig .tc := ⟨.hbm, 314, rfl⟩
abbrev main_v169 : Ref sig .tc := ⟨.hbm, 315, rfl⟩
abbrev main_v170 : Ref sig .tc := ⟨.hbm, 316, rfl⟩
abbrev main_v171 : Ref sig .tc := ⟨.hbm, 317, rfl⟩
abbrev main_v172 : Ref sig .tc := ⟨.hbm, 318, rfl⟩
abbrev main_v173 : Ref sig .tc := ⟨.hbm, 319, rfl⟩
abbrev main_cst_27 : Ref sig .tc := ⟨.hbm, 320, rfl⟩
abbrev main_v174 : Ref sig .tc := ⟨.hbm, 321, rfl⟩
abbrev main_v175 : Ref sig .tc := ⟨.hbm, 322, rfl⟩
abbrev main_v176 : Ref sig .tc := ⟨.hbm, 323, rfl⟩
abbrev main_v177 : Ref sig .tc := ⟨.hbm, 324, rfl⟩
abbrev main_v178 : Ref sig .tc := ⟨.hbm, 325, rfl⟩
abbrev main_v179 : Ref sig .tc := ⟨.hbm, 326, rfl⟩
abbrev main_v180 : Ref sig .tc := ⟨.hbm, 327, rfl⟩
abbrev main_v181 : Ref sig .tc := ⟨.hbm, 328, rfl⟩
abbrev main_v182 : Ref sig .tc := ⟨.hbm, 329, rfl⟩
abbrev main_v183 : Ref sig .tc := ⟨.hbm, 330, rfl⟩
abbrev main_v184 : Ref sig .tc := ⟨.hbm, 331, rfl⟩
abbrev main_cst_28 : Ref sig .tc := ⟨.hbm, 332, rfl⟩
abbrev main_v185 : Ref sig .tc := ⟨.hbm, 333, rfl⟩
abbrev main_v186 : Ref sig .tc := ⟨.hbm, 334, rfl⟩
abbrev main_v187 : Ref sig .tc := ⟨.hbm, 335, rfl⟩
abbrev main_v188 : Ref sig .tc := ⟨.hbm, 336, rfl⟩
abbrev main_v189 : Ref sig .tc := ⟨.hbm, 337, rfl⟩
abbrev main_v190 : Ref sig .tc := ⟨.hbm, 338, rfl⟩
abbrev main_v191 : Ref sig .tc := ⟨.hbm, 339, rfl⟩
abbrev main_v192 : Ref sig .tc := ⟨.hbm, 340, rfl⟩
abbrev main_cst_29 : Ref sig .tc := ⟨.hbm, 341, rfl⟩
abbrev main_v193 : Ref sig .tc := ⟨.hbm, 342, rfl⟩
abbrev main_v194 : Ref sig .tc := ⟨.hbm, 343, rfl⟩
abbrev main_v195 : Ref sig .tc := ⟨.hbm, 344, rfl⟩
abbrev main_v196 : Ref sig .tc := ⟨.hbm, 345, rfl⟩
abbrev main_v197 : Ref sig .tc := ⟨.hbm, 346, rfl⟩
abbrev main_v198 : Ref sig .tc := ⟨.hbm, 347, rfl⟩
abbrev main_cst_30 : Ref sig .tc := ⟨.hbm, 348, rfl⟩
abbrev main_v199 : Ref sig .tc := ⟨.hbm, 349, rfl⟩
abbrev main_v200 : Ref sig .tc := ⟨.hbm, 350, rfl⟩

abbrev nD : Nat := 1
abbrev τ : Topo := Topo.v7x

variable {F : FTy → Type} [FloatOps F]

abbrev main_while0_count : Scf.Loop 32 := ⟨0#32, 2048#32, 1#32⟩

abbrev main_while1_count : Scf.Loop 32 := ⟨0#32, 2048#32, 1#32⟩
-- ==== Kernel2.lean ====
abbrev S2048x1024 : Shape := ⟨2, ![2048, 1024]⟩
abbrev S2048x5632 : Shape := ⟨2, ![2048, 5632]⟩
abbrev S2048x4x1408 : Shape := ⟨3, ![2048, 4, 1408]⟩
abbrev S4x2048x1408 : Shape := ⟨3, ![4, 2048, 1408]⟩
abbrev S4x1024x1408 : Shape := ⟨3, ![4, 1024, 1408]⟩
abbrev S1x2048x1408 : Shape := ⟨3, ![1, 2048, 1408]⟩
abbrev S1x1024x1408 : Shape := ⟨3, ![1, 1024, 1408]⟩
abbrev S2048x1408 : Shape := ⟨2, ![2048, 1408]⟩
abbrev S1024x1408 : Shape := ⟨2, ![1024, 1408]⟩
abbrev S1024x4x1408 : Shape := ⟨3, ![1024, 4, 1408]⟩
abbrev S1024x5632 : Shape := ⟨2, ![1024, 5632]⟩

abbrev nBuf : Space → Nat
  | .hbm => 10
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x5632, .f32⟩
  | .hbm, ⟨2, _⟩ => ⟨S2048x5632, .bf16⟩
  | .hbm, ⟨3, _⟩ => ⟨S2048x4x1408, .bf16⟩
  | .hbm, ⟨4, _⟩ => ⟨S4x2048x1408, .bf16⟩
  | .hbm, ⟨5, _⟩ => ⟨S2048x1024, .bf16⟩
  | .hbm, ⟨6, _⟩ => ⟨S4x1024x1408, .bf16⟩
  | .hbm, ⟨7, _⟩ => ⟨S4x1024x1408, .f32⟩
  | .hbm, ⟨8, _⟩ => ⟨S1024x4x1408, .f32⟩
  | .hbm, ⟨9, _⟩ => ⟨S1024x5632, .f32⟩
  | .local _ .vmem, ⟨0, _⟩ => ⟨S2048x1024, .bf16⟩
  | .local _ .vmem, ⟨1, _⟩ => ⟨S1x2048x1408, .bf16⟩
  | .local _ .vmem, ⟨2, _⟩ => ⟨S1x2048x1408, .bf16⟩
  | .local _ .vmem, ⟨3, _⟩ => ⟨S1x1024x1408, .bf16⟩
  | .local _ .vmem, ⟨4, _⟩ => ⟨S1x1024x1408, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S2048x1024 : Shape := ⟨2, ![2048, 1024]⟩
abbrev S2048x5632 : Shape := ⟨2, ![2048, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x5632, .f32⟩
  | .hbm, ⟨2, _⟩ => ⟨S_, .f32⟩
  | .hbm, ⟨3, _⟩ => ⟨S1024x5632, .f32⟩
  | .hbm, ⟨4, _⟩ => ⟨S2048x5632, .f32⟩
  | .hbm, ⟨5, _⟩ => ⟨S5632x1024, .f32⟩
  | .hbm, ⟨6, _⟩ => ⟨S1024x5632, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel3.lean ====
abbrev S2048x2816 : Shape := ⟨2, ![2048, 2816]⟩
abbrev S2048x1024 : Shape := ⟨2, ![2048, 1024]⟩
abbrev S1x2816x1024 : Shape := ⟨3, ![1, 2816, 1024]⟩
abbrev S2048x1408 : Shape := ⟨2, ![2048, 1408]⟩
abbrev S1x1408x1024 : Shape := ⟨3, ![1, 1408, 1024]⟩
abbrev S1408x1024 : Shape := ⟨2, ![1408, 1024]⟩
abbrev S2816x1024 : Shape := ⟨2, ![2816, 1024]⟩

abbrev nBuf : Space → Nat
  | .hbm => 7
  | .vmem => 5
  | .smem => 0
  | _ => 0

abbrev bufTy : (tb : Table) → Fin (tcTables nBuf tb) → BufTy
  | .hbm, ⟨0, _⟩ => ⟨S2048x2816, .f32⟩
  | .hbm, ⟨1, _⟩ => ⟨S2048x1024, .f32⟩
  | .hbm, ⟨2, _⟩ => ⟨S2048x2816, .bf16⟩
  | .hbm, ⟨3, _⟩ => ⟨S2048x1024, .bf16⟩
  | .hbm, ⟨4, _⟩ => ⟨S1x2816x1024, .bf16⟩
  | .hbm, ⟨5, _⟩ => ⟨S1x2816x1024, .f32⟩
  | .hbm, ⟨6, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S1x1408x1024, .bf16⟩
  | .local _ .vmem, ⟨4, _⟩ => ⟨S1x1408x1024, .bf16⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S2048x2816 : Shape := ⟨2, ![2048, 2816]⟩
abbrev S2048x1024 : Shape := ⟨2, ![2048, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2048x1024, .f32⟩
  | .hbm, ⟨2, _⟩ => ⟨S_, .f32⟩
  | .hbm, ⟨3, _⟩ => ⟨S2816x1024, .f32⟩
  | .hbm, ⟨4, _⟩ => ⟨S2048x1024, .f32⟩
  | .hbm, ⟨5, _⟩ => ⟨S1024x2816, .f32⟩
  | .hbm, ⟨6, _⟩ => ⟨S2816x1024, .f32⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S2048x1024 : Shape := ⟨2, ![2048, 1024]⟩
abbrev S3x1024 : Shape := ⟨2, ![3, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S_ : Shape := ⟨0, ![]⟩
abbrev S8x1024 : Shape := ⟨2, ![8, 1024]⟩
abbrev S1024x4x1408 : Shape := ⟨3, ![1024, 4, 1408]⟩
abbrev S4x1024x1408 : Shape := ⟨3, ![4, 1024, 1408]⟩
abbrev S4x704x1024 : Shape := ⟨3, ![4, 704, 1024]⟩
abbrev S4x2048x1408 : Shape := ⟨3, ![4, 2048, 1408]⟩
abbrev S512x1024 : Shape := ⟨2, ![512, 1024]⟩
abbrev S4x512x1408 : Shape := ⟨3, ![4, 512, 1408]⟩
abbrev S8 : Shape := ⟨1, ![8]⟩
abbrev S1 : Shape := ⟨1, ![1]⟩
abbrev S1x1024x1408 : Shape := ⟨3, ![1, 1024, 1408]⟩
abbrev S704x1024 : Shape := ⟨2, ![704, 1024]⟩
abbrev S1x704x1024 : Shape := ⟨3, ![1, 704, 1024]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1x512x1408 : Shape := ⟨3, ![1, 512, 1408]⟩
abbrev S1408x1024 : Shape := ⟨2, ![1408, 1024]⟩

abbrev nBuf : Space → Nat
  | .hbm => 20
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S3x1024, .f32⟩
  | .hbm, ⟨2, _⟩ => ⟨S1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S1x1024, .f32⟩
  | .hbm, ⟨7, _⟩ => ⟨S1x1024, .f32⟩
  | .hbm, ⟨8, _⟩ => ⟨S_, .f32⟩
  | .hbm, ⟨9, _⟩ => ⟨S3x1024, .f32⟩
  | .hbm, ⟨10, _⟩ => ⟨S8x1024, .f32⟩
  | .hbm, ⟨11, _⟩ => ⟨S1024x5632, .bf16⟩
  | .hbm, ⟨12, _⟩ => ⟨S1024x4x1408, .bf16⟩
  | .hbm, ⟨13, _⟩ => ⟨S4x1024x1408, .bf16⟩
  | .hbm, ⟨14, _⟩ => ⟨S2816x1024, .bf16⟩
  | .hbm, ⟨15, _⟩ => ⟨S4x704x1024, .bf16⟩
  | .hbm, ⟨16, _⟩ => ⟨S2048x1024, .f32⟩
  | .hbm, ⟨17, _⟩ => ⟨S2048x1024, .bf16⟩
  | .hbm, ⟨18, _⟩ => ⟨S4x2048x1408, .bf16⟩
  | .hbm, ⟨19, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .bf16⟩
  | .local _ .vmem, ⟨6, _⟩ => ⟨S512x1024, .bf16⟩
  | .local _ .vmem, ⟨7, _⟩ => ⟨S4x512x1408, .bf16⟩
  | .local _ .vmem, ⟨8, _⟩ => ⟨S4x512x1408, .bf16⟩
  | .local _ .vmem, ⟨9, _⟩ => ⟨S512x1024, .f32⟩
  | .local _ .vmem, ⟨10, _⟩ => ⟨S512x1024, .f32⟩
  | .local _ .vmem, ⟨11, _⟩ => ⟨S4x1024x1408, .bf16⟩
  | .local _ .vmem, ⟨12, _⟩ => ⟨S2816x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S2048x1024 : Shape := ⟨2, ![2048, 1024]⟩
abbrev S3x1024 : Shape := ⟨2, ![3, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S2048x5632 : Shape := ⟨2, ![2048, 5632]⟩
abbrev S2048x2816 : Shape := ⟨2, ![2048, 2816]⟩

abbrev nBuf : Space → Nat
  | .hbm => 74
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S3x1024, .f32⟩
  | .hbm, ⟨2, _⟩ => ⟨S1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S1x1024, .f32⟩
  | .hbm, ⟨7, _⟩ => ⟨S1024, .f32⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S1024, .f32⟩
  | .hbm, ⟨12, _⟩ => ⟨S2048x1024, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1, .f32⟩
  | .hbm, ⟨23, _⟩ => ⟨S2048x1024, .f32⟩
  | .hbm, ⟨24, _⟩ => ⟨S2048x1024, .f32⟩
  | .hbm, ⟨25, _⟩ => ⟨S1x1024, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S1024, .f32⟩
  | .hbm, ⟨30, _⟩ => ⟨S1024, .f32⟩
  | .hbm, ⟨31, _⟩ => ⟨S1x1024, .f32⟩
  | .hbm, ⟨32, _⟩ => ⟨S2048x1024, .f32⟩
  | .hbm, ⟨33, _⟩ => ⟨S2048x1024, .f32⟩
  | .hbm, ⟨34, _⟩ => ⟨S1x1024, .f32⟩
  | .hbm, ⟨35, _⟩ => ⟨S2048x1024, .f32⟩
  | .hbm, ⟨36, _⟩ => ⟨S2048x1024, .f32⟩
  | .hbm, ⟨37, _⟩ => ⟨S2048x5632, .f32⟩
  | .hbm, ⟨38, _⟩ => ⟨S2048x2816, .f32⟩
  | .hbm, ⟨39, _⟩ => ⟨S2048x2816, .f32⟩
  | .hbm, ⟨40, _⟩ => ⟨S2048x2816, .f32⟩
  | .hbm, ⟨41, _⟩ => ⟨S2048x2816, .f32⟩
  | .hbm, ⟨42, _⟩ => ⟨S_, .f32⟩
  | .hbm, ⟨43, _⟩ => ⟨S2048x2816, .f32⟩
  | .hbm, ⟨44, _⟩ => ⟨S2048x2816, .f32⟩
  | .hbm, ⟨45, _⟩ => ⟨S_, .f32⟩
  | .hbm, ⟨46, _⟩ => ⟨S2048x2816, .f32⟩
  | .hbm, ⟨47, _⟩ => ⟨S2048x2816, .f32⟩
  | .hbm, ⟨48, _⟩ => ⟨S2048x2816, .f32⟩
  | .hbm, ⟨49, _⟩ => ⟨S2048x2816, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S2048, .f32⟩
  | .hbm, ⟨54, _⟩ => ⟨S2048x1, .f32⟩
  | .hbm, ⟨55, _⟩ => ⟨S_, .f32⟩
  | .hbm, ⟨56, _⟩ => ⟨S2048x1, .f32⟩
  | .hbm, ⟨57, _⟩ => ⟨S2048x1, .f32⟩
  | .hbm, ⟨58, _⟩ => ⟨S_, .f32⟩
  | .hbm, ⟨59, _⟩ => ⟨S2048x1, .f32⟩
  | .hbm, ⟨60, _⟩ => ⟨S2048x1, .f32⟩
  | .hbm, ⟨61, _⟩ => ⟨S2048x1, .f32⟩
  | .hbm, ⟨62, _⟩ => ⟨S2048x1024, .f32⟩
  | .hbm, ⟨63, _⟩ => ⟨S2048x1024, .f32⟩
  | .hbm, ⟨64, _⟩ => ⟨S1x1024, .f32⟩
  | .hbm, ⟨65, _⟩ => ⟨S2048x1024, .f32⟩
  | .hbm, ⟨66, _⟩ => ⟨S2048x1024, .f32⟩
  | .hbm, ⟨67, _⟩ => ⟨S_, .f32⟩
  | .hbm, ⟨68, _⟩ => ⟨S1024, .f32⟩
  | .hbm, ⟨69, _⟩ => ⟨S1024, .f32⟩
  | .hbm, ⟨70, _⟩ => ⟨S1x1024, .f32⟩
  | .hbm, ⟨71, _⟩ => ⟨S2048x1024, .f32⟩
  | .hbm, ⟨72, _⟩ => ⟨S2048x1024, .f32⟩
  | .hbm, ⟨73, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_3 : Ref sig .tc := ⟨.hbm, 52, rfl⟩
abbrev main_v34 : Ref sig .tc := ⟨.hbm, 53, rfl⟩
abbrev main_v35 : Ref sig .tc := ⟨.hbm, 54, rfl⟩
abbrev main_cst_4 : Ref sig .tc := ⟨.hbm, 55, rfl⟩
abbrev main_v36 : Ref sig .tc := ⟨.hbm, 56, rfl⟩
abbrev main_v37 : Ref sig .tc := ⟨.hbm, 57, rfl⟩
abbrev main_cst_5 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_6 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩

abbrev nD : Nat := 1
abbrev τ : Topo := Topo.v7x

variable {F : FTy → Type} [FloatOps F]
-- ==== Kernel5.lean ====
abbrev S2048x1024 : Shape := ⟨2, ![2048, 1024]⟩
abbrev S2048x5632 : Shape := ⟨2, ![2048, 5632]⟩
abbrev S3x1024 : Shape := ⟨2, ![3, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S_ : Shape := ⟨0, ![]⟩
abbrev S8x1024 : Shape := ⟨2, ![8, 1024]⟩
abbrev S2048x4x1408 : Shape := ⟨3, ![2048, 4, 1408]⟩
abbrev S4x2048x1408 : Shape := ⟨3, ![4, 2048, 1408]⟩
abbrev S1024x4x1408 : Shape := ⟨3, ![1024, 4, 1408]⟩
abbrev S4x1024x1408 : Shape := ⟨3, ![4, 1024, 1408]⟩
abbrev S4x704x1024 : Shape := ⟨3, ![4, 704, 1024]⟩
abbrev S2048x2816 : Shape := ⟨2, ![2048, 2816]⟩
abbrev S256x1024 : Shape := ⟨2, ![256, 1024]⟩
abbrev S4x256x1408 : Shape := ⟨3, ![4, 256, 1408]⟩
abbrev S256x2816 : Shape := ⟨2, ![256, 2816]⟩
abbrev S8 : Shape := ⟨1, ![8]⟩
abbrev S1 : Shape := ⟨1, ![1]⟩
abbrev S1x1024x1408 : Shape := ⟨3, ![1, 1024, 1408]⟩
abbrev S704x1024 : Shape := ⟨2, ![704, 1024]⟩
abbrev S1x704x1024 : Shape := ⟨3, ![1, 704, 1024]⟩
abbrev S256 : Shape := ⟨1, ![256]⟩
abbrev S256x1 : Shape := ⟨2, ![256, 1]⟩
abbrev S1x256x1408 : Shape := ⟨3, ![1, 256, 1408]⟩
abbrev S256x1408 : Shape := ⟨2, ![256, 1408]⟩
abbrev S1408x1024 : Shape := ⟨2, ![1408, 1024]⟩
abbrev S1024x1408 : Shape := ⟨2, ![1024, 1408]⟩

abbrev nBuf : Space → Nat
  | .hbm => 27
  | .vmem => 20
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x5632, .f32⟩
  | .hbm, ⟨4, _⟩ => ⟨S3x1024, .f32⟩
  | .hbm, ⟨5, _⟩ => ⟨S1024, .f32⟩
  | .hbm, ⟨6, _⟩ => ⟨S1024, .f32⟩
  | .hbm, ⟨7, _⟩ => ⟨S1024x5632, .f32⟩
  | .hbm, ⟨8, _⟩ => ⟨S2816x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S3x1024, .f32⟩
  | .hbm, ⟨13, _⟩ => ⟨S8x1024, .f32⟩
  | .hbm, ⟨14, _⟩ => ⟨S2048x5632, .bf16⟩
  | .hbm, ⟨15, _⟩ => ⟨S2048x4x1408, .bf16⟩
  | .hbm, ⟨16, _⟩ => ⟨S4x2048x1408, .bf16⟩
  | .hbm, ⟨17, _⟩ => ⟨S1024x5632, .bf16⟩
  | .hbm, ⟨18, _⟩ => ⟨S1024x4x1408, .bf16⟩
  | .hbm, ⟨19, _⟩ => ⟨S4x1024x1408, .bf16⟩
  | .hbm, ⟨20, _⟩ => ⟨S2816x1024, .bf16⟩
  | .hbm, ⟨21, _⟩ => ⟨S4x704x1024, .bf16⟩
  | .hbm, ⟨22, _⟩ => ⟨S2048x1024, .f32⟩
  | .hbm, ⟨23, _⟩ => ⟨S2048x1024, .bf16⟩
  | .hbm, ⟨24, _⟩ => ⟨S4x2048x1408, .bf16⟩
  | .hbm, ⟨25, _⟩ => ⟨S2048x2816, .bf16⟩
  | .hbm, ⟨26, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S4x256x1408, .bf16⟩
  | .local _ .vmem, ⟨7, _⟩ => ⟨S4x256x1408, .bf16⟩
  | .local _ .vmem, ⟨8, _⟩ => ⟨S8x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | .local _ .vmem, ⟨13, _⟩ => ⟨S4x256x1408, .bf16⟩
  | .local _ .vmem, ⟨14, _⟩ => ⟨S4x256x1408, .bf16⟩
  | .local _ .vmem, ⟨15, _⟩ => ⟨S256x2816, .bf16⟩
  | .local _ .vmem, ⟨16, _⟩ => ⟨S256x2816, .bf16⟩
  | .local _ .vmem, ⟨17, _⟩ => ⟨S8x1024, .f32⟩
  | .local _ .vmem, ⟨18, _⟩ => ⟨S4x1024x1408, .bf16⟩
  | .local _ .vmem, ⟨19, _⟩ => ⟨S2816x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12_0 : Ref sig .tc := ⟨.hbm, 22, rfl⟩
abbrev main_v12_1 : Ref sig .tc := ⟨.hbm, 23, rfl⟩
abbrev main_v12_2 : Ref sig .tc := ⟨.hbm, 24, rfl⟩
abbrev main_v12_3 : Ref sig .tc := ⟨.hbm, 25, rfl⟩
abbrev main_v12_4 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x256x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference5Ideal.lean ====
abbrev S2048x1024 : Shape := ⟨2, ![2048, 1024]⟩
abbrev S2048x5632 : Shape := ⟨2, ![2048, 5632]⟩
abbrev S3x1024 : Shape := ⟨2, ![3, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S2048x2816 : Shape := ⟨2, ![2048, 2816]⟩

abbrev nBuf : Space → Nat
  | .hbm => 144
  | .vmem => 0
  | .smem => 0
  | _ => 0

abbrev hbmTy0_0 (i : Nat) : BufTy := match i % 128 with
  | 0 => ⟨S2048x1024, .f32⟩
  | 1 => ⟨S2048x1024, .f32⟩
  | 2 => ⟨S2048x1024, .f32⟩
  | 3 => ⟨S2048x5632, .f32⟩
  | 4 => ⟨S3x1024, .f32⟩
  | 5 => ⟨S1024, .f32⟩
  | 6 => ⟨S1024, .f32⟩
  | 7 => ⟨S1024x5632, .f32⟩
  | 8 => ⟨S2816x1024, .f32⟩
  | 9 => ⟨S1x1024, .f32⟩
  | 10 => ⟨S1024, .f32⟩
  | 11 => ⟨S1x1024, .f32⟩
  | 12 => ⟨S1024, .f32⟩
  | 13 => ⟨S1x1024, .f32⟩
  | 14 => ⟨S1024, .f32⟩
  | 15 => ⟨S_, .f32⟩
  | 16 => ⟨S1024, .f32⟩
  | 17 => ⟨S1024, .f32⟩
  | 18 => ⟨S2048x1024, .f32⟩
  | 19 => ⟨S_, .f32⟩
  | 20 => ⟨S2048, .f32⟩
  | 21 => ⟨S2048x1, .f32⟩
  | 22 => ⟨S_, .f32⟩
  | 23 => ⟨S2048x1, .f32⟩
  | 24 => ⟨S2048x1, .f32⟩
  | 25 => ⟨S_, .f32⟩
  | 26 => ⟨S2048x1, .f32⟩
  | 27 => ⟨S2048x1, .f32⟩
  | 28 => ⟨S2048x1, .f32⟩
  | 29 => ⟨S2048x1, .f32⟩
  | 30 => ⟨S_, .f32⟩
  | 31 => ⟨S2048x1, .f32⟩
  | 32 => ⟨S2048x1, .f32⟩
  | 33 => ⟨S2048x1024, .f32⟩
  | 34 => ⟨S2048x1024, .f32⟩
  | 35 => ⟨S1x1024, .f32⟩
  | 36 => ⟨S2048x1024, .f32⟩
  | 37 => ⟨S2048x1024, .f32⟩
  | 38 => ⟨S1x1024, .f32⟩
  | 39 => ⟨S2048x1024, .f32⟩
  | 40 => ⟨S2048x1024, .f32⟩
  | 41 => ⟨S2048x1024, .f32⟩
  | 42 => ⟨S2048x1024, .f32⟩
  | 43 => ⟨S2048x1024, .f32⟩
  | 44 => ⟨S2048x1024, .f32⟩
  | 45 => ⟨S2048x1024, .f32⟩
  | 46 => ⟨S_, .f32⟩
  | 47 => ⟨S2048, .f32⟩
  | 48 => ⟨S2048x1, .f32⟩
  | 49 => ⟨S2048x1024, .f32⟩
  | 50 => ⟨S2048x1024, .f32⟩
  | 51 => ⟨S2048x1, .f32⟩
  | 52 => ⟨S_, .f32⟩
  | 53 => ⟨S2048x1, .f32⟩
  | 54 => ⟨S2048x1, .f32⟩
  | 55 => ⟨S_, .f32⟩
  | 56 => ⟨S2048, .f32⟩
  | 57 => ⟨S2048x1024, .f32⟩
  | 58 => ⟨S2048x1024, .f32⟩
  | 59 => ⟨S2048x1024, .f32⟩
  | 60 => ⟨S2048x1024, .f32⟩
  | 61 => ⟨S2048x1024, .f32⟩
  | 62 => ⟨S_, .f32⟩
  | 63 => ⟨S2048x2816, .f32⟩
  | 64 => ⟨S2048x1024, .f32⟩
  | 65 => ⟨S2048x2816, .f32⟩
  | 66 => ⟨S2048x2816, .f32⟩
  | 67 => ⟨S2048x2816, .f32⟩
  | 68 => ⟨S2048x2816, .f32⟩
  | 69 => ⟨S2048x2816, .f32⟩
  | 70 => ⟨S_, .f32⟩
  | 71 => ⟨S2048x2816, .f32⟩
  | 72 => ⟨S2048x2816, .f32⟩
  | 73 => ⟨S_, .f32⟩
  | 74 => ⟨S2048x2816, .f32⟩
  | 75 => ⟨S2048x2816, .f32⟩
  | 76 => ⟨S_, .f32⟩
  | 77 => ⟨S2048x2816, .f32⟩
  | 78 => ⟨S2048x2816, .f32⟩
  | 79 => ⟨S2048x2816, .f32⟩
  | 80 => ⟨S2048x2816, .f32⟩
  | 81 => ⟨S2048x2816, .f32⟩
  | 82 => ⟨S2048x2816, .f32⟩
  | 83 => ⟨S2048x2816, .f32⟩
  | 84 => ⟨S2048x2816, .f32⟩
  | 85 => ⟨S2048x2816, .f32⟩
  | 86 => ⟨S2048x2816, .f32⟩
  | 87 => ⟨S2048x2816, .f32⟩
  | 88 => ⟨S2048x5632, .f32⟩
  | 89 => ⟨S_, .f32⟩
  | 90 => ⟨S2048x1024, .f32⟩
  | 91 => ⟨S2048x5632, .f32⟩
  | 92 => ⟨S2048x1024, .f32⟩
  | 93 => ⟨S2048x1024, .f32⟩
  | 94 => ⟨S_, .f32⟩
  | 95 => ⟨S2048, .f32⟩
  | 96 => ⟨S2048x1, .f32⟩
  | 97 => ⟨S_, .f32⟩
  | 98 => ⟨S2048x1, .f32⟩
  | 99 => ⟨S2048x1, .f32⟩
  | 100 => ⟨S_, .f32⟩
  | 101 => ⟨S2048x1, .f32⟩
  | 102 => ⟨S2048x1, .f32⟩
  | 103 => ⟨S2048x1, .f32⟩
  | 104 => ⟨S2048x1, .f32⟩
  | 105 => ⟨S_, .f32⟩
  | 106 => ⟨S2048x1, .f32⟩
  | 107 => ⟨S2048x1, .f32⟩
  | 108 => ⟨S2048x1024, .f32⟩
  | 109 => ⟨S2048x1024, .f32⟩
  | 110 => ⟨S1x1024, .f32⟩
  | 111 => ⟨S2048x1024, .f32⟩
  | 112 => ⟨S2048x1024, .f32⟩
  | 113 => ⟨S_, .f32⟩
  | 114 => ⟨S1024, .f32⟩
  | 115 => ⟨S1024, .f32⟩
  | 116 => ⟨S1x1024, .f32⟩
  | 117 => ⟨S2048x1024, .f32⟩
  | 118 => ⟨S2048x1024, .f32⟩
  | 119 => ⟨S1x1024, .f32⟩
  | 120 => ⟨S2048x1024, .f32⟩
  | 121 => ⟨S2048x1024, .f32⟩
  | 122 => ⟨S2048x1024, .f32⟩
  | 123 => ⟨S2048x1024, .f32⟩
  | 124 => ⟨S2048x1024, .f32⟩
  | 125 => ⟨S2048x1024, .f32⟩
  | 126 => ⟨S2048x1024, .f32⟩
  | 127 => ⟨S_, .f32⟩
  | _ => ⟨S2048x1024, .f32⟩

abbrev hbmTy0_1 (i : Nat) : BufTy := match i % 128 with
  | 0 => ⟨S2048, .f32⟩
  | 1 => ⟨S2048x1, .f32⟩
  | 2 => ⟨S2048x1024, .f32⟩
  | 3 => ⟨S2048x1024, .f32⟩
  | 4 => ⟨S2048x1, .f32⟩
  | 5 => ⟨S_, .f32⟩
  | 6 => ⟨S2048x1, .f32⟩
  | 7 => ⟨S2048x1, .f32⟩
  | 8 => ⟨S_, .f32⟩
  | 9 => ⟨S2048, .f32⟩
  | 10 => ⟨S2048x1024, .f32⟩
  | 11 => ⟨S2048x1024, .f32⟩
  | 12 => ⟨S2048x1024, .f32⟩
  | 13 => ⟨S2048x1024, .f32⟩
  | 14 => ⟨S2048x1024, .f32⟩
  | 15 => ⟨S2048x1024, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_7 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_call0_v0 : Ref sig .tc := ⟨.hbm, 68, rfl⟩
abbrev main_call0_v1 : Ref sig .tc := ⟨.hbm, 69, rfl⟩
abbrev main_call0_cst : Ref sig .tc := ⟨.hbm, 70, rfl⟩
abbrev main_call0_v2 : Ref sig .tc := ⟨.hbm, 71, rfl⟩
abbrev main_call0_v3 : Ref sig .tc := ⟨.hbm, 72, rfl⟩
abbrev main_call0_cst_0 : Ref sig .tc := ⟨.hbm, 73, rfl⟩
abbrev main_call0_v4 : Ref sig .tc := ⟨.hbm, 74, rfl⟩
abbrev main_v50_2 : Ref sig .tc := ⟨.hbm, 75, rfl⟩
abbrev main_call0_cst_1 : Ref sig .tc := ⟨.hbm, 76, rfl⟩
abbrev main_call0_v6 : Ref sig .tc := ⟨.hbm, 77, rfl⟩
abbrev main_call0_v7 : Ref sig .tc := ⟨.hbm, 78, rfl⟩
abbrev main_v50_1 : Ref sig .tc := ⟨.hbm, 79, rfl⟩
abbrev main_v50_0 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_call1_v0 : Ref sig .tc := ⟨.hbm, 84, rfl⟩
abbrev main_call1_v1 : Ref sig .tc := ⟨.hbm, 85, rfl⟩
abbrev main_call1_v2 : Ref sig .tc := ⟨.hbm, 86, rfl⟩
abbrev main_v54 : Ref sig .tc := ⟨.hbm, 87, rfl⟩
abbrev main_v55 : Ref sig .tc := ⟨.hbm, 88, rfl⟩
abbrev main_cst_8 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_cst_9 : Ref sig .tc := ⟨.hbm, 94, rfl⟩
abbrev main_v60 : Ref sig .tc := ⟨.hbm, 95, rfl⟩
abbrev main_v61 : Ref sig .tc := ⟨.hbm, 96, rfl⟩
abbrev main_cst_10 : Ref sig .tc := ⟨.hbm, 97, rfl⟩
abbrev main_v62 : Ref sig .tc := ⟨.hbm, 98, rfl⟩
abbrev main_v63 : Ref sig .tc := ⟨.hbm, 99, rfl⟩
abbrev main_cst_11 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_cst_12 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_cst_13 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_cst_14 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_cst_15 : Ref sig .tc := ⟨.hbm, 133, rfl⟩
abbrev main_v93 : Ref sig .tc := ⟨.hbm, 134, rfl⟩
abbrev main_v94 : Ref sig .tc := ⟨.hbm, 135, rfl⟩
abbrev main_cst_16 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩

abbrev nD : Nat := 1
abbrev τ : Topo := Topo.v7x

variable {F : FTy → Type} [FloatOps F]
-- ==== Proof.Ref.Ops.lean ====
/- The reference's @main and the bodies of its two host loops as lists of host operations, and the equations that say
   so: `main_chain`, `while0_body_chain`, `while1_body_chain`. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option maxRecDepth 4096

noncomputable section

namespace Cert.ReferenceIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-! ## @main as segments and as a chain of items (Lib/Pipeline/Regions.lean `θ_run_regions_kit`, `Pipeline.chain`) -/

set_option maxHeartbeats 40000000 in
/-- 81 host operations of @main, in order. -/
abbrev hostOps0 : List (HloOp τ sig (Elt F)) :=
  ( StableHlo.unary main_arg4 main_v0 (Host.exp : (⟨S64, .f32⟩ : BufTy).Contents (Elt F) → (⟨S64, .f32⟩ : BufTy).Contents (Elt F))
  :: StableHlo.unary main_v0 main_v1 (broadcastInDim S64x1 ![0] bcast_S64_S64x1_0 : (⟨S64, .f32⟩ : BufTy).Contents (Elt F) → (⟨S64x1, .f32⟩ : BufTy).Contents (Elt F))
  :: StableHlo.unary main_v1 main_v2 (broadcastInDim S64x64 ![0, 1] bcast_S64x1_S64x64_0_1 : (⟨S64x1, .f32⟩ : BufTy).Contents (Elt F) → (⟨S64x64, .f32⟩ : BufTy).Contents (Elt F))
  :: StableHlo.binary main_arg2 main_v2 main_v3 (mulf : (⟨S64x64, .f32⟩ : BufTy).Contents (Elt F) → (⟨S64x64, .f32⟩ : BufTy).Contents (Elt F) → (⟨S64x64, .f32⟩ : BufTy).Contents (Elt F))
  :: StableHlo.unary main_v3 main_v4 (Host.exp : (⟨S64x64, .f32⟩ : BufTy).Contents (Elt F) → (⟨S64x64, .f32⟩ : BufTy).Contents (Elt F))
  :: StableHlo.unary main_v1 main_v5 (broadcastInDim S64x64 ![0, 1] bcast_S64x1_S64x64_0_1 : (⟨S64x1, .f32⟩ : BufTy).Contents (Elt F) → (⟨S64x64, .f32⟩ : BufTy).Contents (Elt F))
  :: StableHlo.binary main_arg3 main_v5 main_v6 (mulf : (⟨S64x64, .f32⟩ : BufTy).Contents (Elt F) → (⟨S64x64, .f32⟩ : BufTy).Contents (Elt F) → (⟨S64x64, .f32⟩ : BufTy).Contents (Elt F))
  :: StableHlo.unary main_v6 main_v7 (Host.cos : (⟨S64x64, .f32⟩ : BufTy).Contents (Elt F) → (⟨S64x64, .f32⟩ : BufTy).Contents (Elt F))
  :: StableHlo.unary main_v6 main_v8 (Host.sin : (⟨S64x64, .f32⟩ : BufTy).Contents (Elt F) → (⟨S64x64, .f32⟩ : BufTy).Contents (Elt F))
  :: StableHlo.binary main_v4 main_v7 main_v9 (mulf : (⟨S64x64, .f32⟩ : BufTy).Contents (Elt F) → (⟨S64x64, .f32⟩ : BufTy).Contents (Elt F) → (⟨S64x64, .f32⟩ : BufTy).Contents (Elt F))
  :: StableHlo.unary main_v1 main_v10 (broadcastInDim S64x64 ![0, 1] bcast_S64x1_S64x64_0_1 : (⟨S64x1, .f32⟩ : BufTy).Contents (Elt F) → (⟨S64x64, .f32⟩ : BufTy).Contents (Elt F))
  :: StableHlo.binary main_arg3 main_v10 main_v11 (mulf : (⟨S64x64, .f32⟩ : BufTy).Contents (Elt F) → (⟨S64x64, .f32⟩ : BufTy).Contents (Elt F) → (⟨S64x64, .f32⟩ : BufTy).Contents (Elt F))
  :: StableHlo.unary main_v11 main_v12 (Host.sin : (⟨S64x64, .f32⟩ : BufTy).Contents (Elt F) → (⟨S64x64, .f32⟩ : BufTy).Contents (Elt F))
  :: StableHlo.unary main_v11 main_v13 (Host.cos : (⟨S64x64, .f32⟩ : BufTy).Contents (Elt F) → (⟨S64x64, .f32⟩ : BufTy).Contents (Elt F))
  :: StableHlo.binary main_v4 main_v12 main_v14 (mulf : (⟨S64x64, .f32⟩ : BufTy).Contents (Elt F) → (⟨S64x64, .f32⟩ : BufTy).Contents (Elt F) → (⟨S64x64, .f32⟩ : BufTy).Contents (Elt F))
  :: StableHlo.binary main_arg2 main_arg2 main_v15 (mulf : (⟨S64x64, .f32⟩ : BufTy).Contents (Elt F) → (⟨S64x64, .f32⟩ : BufTy).Contents (Elt F) → (⟨S64x64, .f32⟩ : BufTy).Contents (Elt F))
  :: StableHlo.binary main_arg3 main_arg3 main_v16 (mulf : (⟨S64x64, .f32⟩ : BufTy).Contents (Elt F) → (⟨S64x64, .f32⟩ : BufTy).Contents (Elt F) → (⟨S64x64, .f32⟩ : BufTy).Contents (Elt F))
  :: StableHlo.binary main_v15 main_v16 main_v17 (addf : (⟨S64x64, .f32⟩ : BufTy).Contents (Elt F) → (⟨S64x64, .f32⟩ : BufTy).Contents (Elt F) → (⟨S64x64, .f32⟩ : BufTy).Contents (Elt F))
  :: StableHlo.nullary main_cst (constant S_ .f32 0x3F800000#32)
  :: StableHlo.unary main_cst main_v18 (broadcastInDim S64x64 ![] bcast_S_S64x64 : (⟨S_, .f32⟩ : BufTy).Contents (Elt F) → (⟨S64x64, .f32⟩ : BufTy).Contents (Elt F))
  :: StableHlo.binary main_v9 main_v18 main_v19 (subf : (⟨S64x64, .f32⟩ : BufTy).Contents (Elt F) → (⟨S64x64, .f32⟩ : BufTy).Contents (Elt F) → (⟨S64x64, .f32⟩ : BufTy).Contents (Elt F))
  :: StableHlo.binary main_v19 main_arg2 main_v20 (mulf : (⟨S64x64, .f32⟩ : BufTy).Contents (Elt F) → (⟨S64x64, .f32⟩ : BufTy).Contents (Elt F) → (⟨S64x64, .f32⟩ : BufTy).Contents (Elt F))
  :: StableHlo.binary main_v14 main_arg3 main_v21 (mulf : (⟨S64x64, .f32⟩ : BufTy).Contents (Elt F) → (⟨S64x64, .f32⟩ : BufTy).Contents (Elt F) → (⟨S64x64, .f32⟩ : BufTy).Contents (Elt F))
  :: StableHlo.binary main_v20 main_v21 main_v22 (addf : (⟨S64x64, .f32⟩ : BufTy).Contents (Elt F) → (⟨S64x64, .f32⟩ : BufTy).Contents (Elt F) → (⟨S64x64, .f32⟩ : BufTy).Contents (Elt F))
  :: StableHlo.binary main_v22 main_v17 main_v23 (Host.divf : (⟨S64x64, .f32⟩ : BufTy).Contents (Elt F) → (⟨S64x64, .f32⟩ : BufTy).Contents (Elt F) → (⟨S64x64, .f32⟩ : BufTy).Contents (Elt F))
  :: StableHlo.binary main_v17 main_v17 main_v24 (mulf : (⟨S64x64, .f32⟩ : BufTy).Contents (Elt F) → (⟨S64x64, .f32⟩ : BufTy).Contents (Elt F) → (⟨S64x64, .f32⟩ : BufTy).Contents (Elt F))
  :: StableHlo.nullary main_cst_0 (constant S_ .f32 0x3F800000#32)
  :: StableHlo.unary main_cst_0 main_v25 (broadcastInDim S64x64 ![] bcast_S_S64x64 : (⟨S_, .f32⟩ : BufTy).Contents (Elt F) → (⟨S64x64, .f32⟩ : BufTy).Contents (Elt F))
  :: StableHlo.binary main_v25 main_v24 main_v26 (Host.divf : (⟨S64x64, .f32⟩ : BufTy).Contents (Elt F) → (⟨S64x64, .f32⟩ : BufTy).Contents (Elt F) → (⟨S64x64, .f32⟩ : BufTy).Contents (Elt F))
  :: StableHlo.binary main_v14 main_arg2 main_v27 (mulf : (⟨S64x64, .f32⟩ : BufTy).Contents (Elt F) → (⟨S64x64, .f32⟩ : BufTy).Contents (Elt F) → (⟨S64x64, .f32⟩ : BufTy).Contents (Elt F))
  :: StableHlo.nullary main_cst_1 (constant S_ .f32 0x3F800000#32)
  :: StableHlo.unary main_cst_1 main_v28 (broadcastInDim S64x64 ![] bcast_S_S64x64 : (⟨S_, .f32⟩ : BufTy).Contents (Elt F) → (⟨S64x64, .f32⟩ : BufTy).Contents (Elt F))
  :: StableHlo.binary main_v9 main_v28 main_v29 (subf : (⟨S64x64, .f32⟩ : BufTy).Contents (Elt F) → (⟨S64x64, .f32⟩ : BufTy).Contents (Elt F) → (⟨S64x64, .f32⟩ : BufTy).Contents (Elt F))
  :: StableHlo.binary main_v29 main_arg3 main_v30 (mulf : (⟨S64x64, .f32⟩ : BufTy).Contents (Elt F) → (⟨S64x64, .f32⟩ : BufTy).Contents (Elt F) → (⟨S64x64, .f32⟩ : BufTy).Contents (Elt F))
  :: StableHlo.binary main_v27 main_v30 main_v31 (subf : (⟨S64x64, .f32⟩ : BufTy).Contents (Elt F) → (⟨S64x64, .f32⟩ : BufTy).Contents (Elt F) → (⟨S64x64, .f32⟩ : BufTy).Contents (Elt F))
  :: StableHlo.binary main_v31 main_v17 main_v32 (Host.divf : (⟨S64x64, .f32⟩ : BufTy).Contents (Elt F) → (⟨S64x64, .f32⟩ : BufTy).Contents (Elt F) → (⟨S64x64, .f32⟩ : BufTy).Contents (Elt F))
  :: StableHlo.binary main_v17 main_v17 main_v33 (mulf : (⟨S64x64, .f32⟩ : BufTy).Contents (Elt F) → (⟨S64x64, .f32⟩ : BufTy).Contents (Elt F) → (⟨S64x64, .f32⟩ : BufTy).Contents (Elt F))
  :: StableHlo.nullary main_cst_2 (constant S_ .f32 0x3F800000#32)
  :: StableHlo.unary main_cst_2 main_v34 (broadcastInDim S64x64 ![] bcast_S_S64x64 : (⟨S_, .f32⟩ : BufTy).Contents (Elt F) → (⟨S64x64, .f32⟩ : BufTy).Contents (Elt F))
  :: StableHlo.binary main_v34 main_v33 main_v35 (Host.divf : (⟨S64x64, .f32⟩ : BufTy).Contents (Elt F) → (⟨S64x64, .f32⟩ : BufTy).Contents (Elt F) → (⟨S64x64, .f32⟩ : BufTy).Contents (Elt F))
  :: StableHlo.unary main_v23 main_v36 (broadcastInDim S64x64x1 ![0, 1] bcast_S64x64_S64x64x1_0_1 : (⟨S64x64, .f32⟩ : BufTy).Contents (Elt F) → (⟨S64x64x1, .f32⟩ : BufTy).Contents (Elt F))
  :: StableHlo.unary main_v36 main_v37 (broadcastInDim S64x64x16 ![0, 1, 2] bcast_S64x64x1_S64x64x16_0_1_2 : (⟨S64x64x1, .f32⟩ : BufTy).Contents (Elt F) → (⟨S64x64x16, .f32⟩ : BufTy).Contents (Elt F))
  :: StableHlo.binary main_v37 main_arg5 main_v38 (mulf : (⟨S64x64x16, .f32⟩ : BufTy).Contents (Elt F) → (⟨S64x64x16, .f32⟩ : BufTy).Contents (Elt F) → (⟨S64x64x16, .f32⟩ : BufTy).Contents (Elt F))
  :: StableHlo.unary main_v32 main_v39 (broadcastInDim S64x64x1 ![0, 1] bcast_S64x64_S64x64x1_0_1 : (⟨S64x64, .f32⟩ : BufTy).Contents (Elt F) → (⟨S64x64x1, .f32⟩ : BufTy).Contents (Elt F))
  :: StableHlo.unary main_v39 main_v40 (broadcastInDim S64x64x16 ![0, 1, 2] bcast_S64x64x1_S64x64x16_0_1_2 : (⟨S64x64x1, .f32⟩ : BufTy).Contents (Elt F) → (⟨S64x64x16, .f32⟩ : BufTy).Contents (Elt F))
  :: StableHlo.binary main_v40 main_arg6 main_v41 (mulf : (⟨S64x64x16, .f32⟩ : BufTy).Contents (Elt F) → (⟨S64x64x16, .f32⟩ : BufTy).Contents (Elt F) → (⟨S64x64x16, .f32⟩ : BufTy).Contents (Elt F))
  :: StableHlo.binary main_v38 main_v41 main_v42 (subf : (⟨S64x64x16, .f32⟩ : BufTy).Contents (Elt F) → (⟨S64x64x16, .f32⟩ : BufTy).Contents (Elt F) → (⟨S64x64x16, .f32⟩ : BufTy).Contents (Elt F))
  :: StableHlo.unary main_v23 main_v43 (broadcastInDim S64x64x1 ![0, 1] bcast_S64x64_S64x64x1_0_1 : (⟨S64x64, .f32⟩ : BufTy).Contents (Elt F) → (⟨S64x64x1, .f32⟩ : BufTy).Contents (Elt F))
  :: StableHlo.unary main_v43 main_v44 (broadcastInDim S64x64x16 ![0, 1, 2] bcast_S64x64x1_S64x64x16_0_1_2 : (⟨S64x64x1, .f32⟩ : BufTy).Contents (Elt F) → (⟨S64x64x16, .f32⟩ : BufTy).Contents (Elt F))
  :: StableHlo.binary main_v44 main_arg6 main_v45 (mulf : (⟨S64x64x16, .f32⟩ : BufTy).Contents (Elt F) → (⟨S64x64x16, .f32⟩ : BufTy).Contents (Elt F) → (⟨S64x64x16, .f32⟩ : BufTy).Contents (Elt F))
  :: StableHlo.unary main_v32 main_v46 (broadcastInDim S64x64x1 ![0, 1] bcast_S64x64_S64x64x1_0_1 : (⟨S64x64, .f32⟩ : BufTy).Contents (Elt F) → (⟨S64x64x1, .f32⟩ : BufTy).Contents (Elt F))
  :: StableHlo.unary main_v46 main_v47 (broadcastInDim S64x64x16 ![0, 1, 2] bcast_S64x64x1_S64x64x16_0_1_2 : (⟨S64x64x1, .f32⟩ : BufTy).Contents (Elt F) → (⟨S64x64x16, .f32⟩ : BufTy).Contents (Elt F))
  :: StableHlo.binary main_v47 main_arg5 main_v48 (mulf : (⟨S64x64x16, .f32⟩ : BufTy).Contents (Elt F) → (⟨S64x64x16, .f32⟩ : BufTy).Contents (Elt F) → (⟨S64x64x16, .f32⟩ : BufTy).Contents (Elt F))
  :: StableHlo.binary main_v45 main_v48 main_v49 (addf : (⟨S64x64x16, .f32⟩ : BufTy).Contents (Elt F) → (⟨S64x64x16, .f32⟩ : BufTy).Contents (Elt F) → (⟨S64x64x16, .f32⟩ : BufTy).Contents (Elt F))
  :: StableHlo.reshape main_arg0 main_v50 (rfl : (.f32 : EltTy) = .f32) shapeCasts_S2048x1024_S2048x64x16
  :: StableHlo.binary main_v50 main_v42 main_v51 ((fun l r => Host.dotGeneral dot_S2048x64x16_S64x64x16_S64x2048x64_2_2_0_1_1_0 none l r) : (⟨S2048x64x16, .f32⟩ : BufTy).Contents (Elt F) → (⟨S64x64x16, .f32⟩ : BufTy).Contents (Elt F) → (⟨S64x2048x64, .f32⟩ : BufTy).Contents (Elt F))
  :: StableHlo.unary main_v51 main_v52 ((transpose S2048x64x64 [1, 0, 2] · transposes_S64x2048x64_S2048x64x64_1_0_2) : (⟨S64x2048x64, .f32⟩ : BufTy).Contents (Elt F) → (⟨S2048x64x64, .f32⟩ : BufTy).Contents (Elt F))
  :: StableHlo.binary main_v50 main_v49 main_v53 ((fun l r => Host.dotGeneral dot_S2048x64x16_S64x64x16_S64x2048x64_2_2_0_1_1_0 none l r) : (⟨S2048x64x16, .f32⟩ : BufTy).Contents (Elt F) → (⟨S64x64x16, .f32⟩ : BufTy).Contents (Elt F) → (⟨S64x2048x64, .f32⟩ : BufTy).Contents (Elt F))
  :: StableHlo.unary main_v53 main_v54 ((transpose S2048x64x64 [1, 0, 2] · transposes_S64x2048x64_S2048x64x64_1_0_2) : (⟨S64x2048x64, .f32⟩ : BufTy).Contents (Elt F) → (⟨S2048x64x64, .f32⟩ : BufTy).Contents (Elt F))
  :: StableHlo.nullary main_cst_3 (constant S_ .f32 0x00000000#32)
  :: StableHlo.unary main_cst_3 main_v55 (broadcastInDim S64x64 ![] bcast_S_S64x64 : (⟨S_, .f32⟩ : BufTy).Contents (Elt F) → (⟨S64x64, .f32⟩ : BufTy).Contents (Elt F))
  :: StableHlo.nullary main_cst_4 (constant S_ .f32 0x00000000#32)
  :: StableHlo.unary main_cst_4 main_v56 (broadcastInDim S2048x64x64 ![] bcast_S_S2048x64x64 : (⟨S_, .f32⟩ : BufTy).Contents (Elt F) → (⟨S2048x64x64, .f32⟩ : BufTy).Contents (Elt F))
  :: StableHlo.nullary main_cst_5 (constant S_ .f32 0x00000000#32)
  :: StableHlo.unary main_cst_5 main_v57 (broadcastInDim S2048x64x64 ![] bcast_S_S2048x64x64 : (⟨S_, .f32⟩ : BufTy).Contents (Elt F) → (⟨S2048x64x64, .f32⟩ : BufTy).Contents (Elt F))
  :: StableHlo.nullary main_cst_6 (constant S_ .f32 0x00000000#32)
  :: StableHlo.unary main_cst_6 main_v58 (broadcastInDim S2048x64x64 ![] bcast_S_S2048x64x64 : (⟨S_, .f32⟩ : BufTy).Contents (Elt F) → (⟨S2048x64x64, .f32⟩ : BufTy).Contents (Elt F))
  :: StableHlo.nullary main_cst_7 (constant S_ .f32 0x00000000#32)
  :: StableHlo.unary main_cst_7 main_v59 (broadcastInDim S2048x64x64 ![] bcast_S_S2048x64x64 : (⟨S_, .f32⟩ : BufTy).Contents (Elt F) → (⟨S2048x64x64, .f32⟩ : BufTy).Contents (Elt F))
  :: StableHlo.nullary main_c (constantI S_ 32 0#32)
  :: StableHlo.unary main_v52 main_v60_0 id
  :: StableHlo.unary main_v54 main_v60_1 id
  :: StableHlo.unary main_v9 main_v60_2 id
  :: StableHlo.unary main_v14 main_v60_3 id
  :: StableHlo.unary main_c main_v60_4 id
  :: StableHlo.unary main_v55 main_v60_5 id
  :: StableHlo.unary main_v55 main_v60_6 id
  :: StableHlo.unary main_v56 main_v60_7 id
  :: StableHlo.unary main_v57 main_v60_8 id
  :: StableHlo.unary main_v58 main_v60_9 id
  :: StableHlo.unary main_v59 main_v60_10 id
  :: [] )
set_option maxHeartbeats 40000000 in
/-- Each touches TensorCore references only (`HostSeg.ofOps` over `StableHlo.tcRefs`, or a subset by `sub_ucRefs`). -/
theorem hostOps0_sub : (hostOps0 : List (HloOp τ sig (Elt F))).Forall fun op => op.bufs ⊆ StableHlo.tcRefs τ sig :=
  ⟨StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.reshape_bufs_sub .., StableHlo.binary_bufs_sub .., StableHlo.unary_bufs_sub .., StableHlo.binary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- 60 host operations of @main, in order. -/
abbrev hostOps0_1 : List (HloOp τ sig (Elt F)) :=
  ( StableHlo.binary main_v60_7 main_arg7 main_v61 ((fun l r => Host.dotGeneral dot_S2048x64x64_S64x16x64_S64x2048x16_2_2_0_1_1_0 none l r) : (⟨S2048x64x64, .f32⟩ : BufTy).Contents (Elt F) → (⟨S64x16x64, .f32⟩ : BufTy).Contents (Elt F) → (⟨S64x2048x16, .f32⟩ : BufTy).Contents (Elt F))
  :: StableHlo.unary main_v61 main_v62 ((transpose S2048x64x16 [1, 0, 2] · transposes_S64x2048x16_S2048x64x16_1_0_2) : (⟨S64x2048x16, .f32⟩ : BufTy).Contents (Elt F) → (⟨S2048x64x16, .f32⟩ : BufTy).Contents (Elt F))
  :: StableHlo.binary main_v60_8 main_arg8 main_v63 ((fun l r => Host.dotGeneral dot_S2048x64x64_S64x16x64_S64x2048x16_2_2_0_1_1_0 none l r) : (⟨S2048x64x64, .f32⟩ : BufTy).Contents (Elt F) → (⟨S64x16x64, .f32⟩ : BufTy).Contents (Elt F) → (⟨S64x2048x16, .f32⟩ : BufTy).Contents (Elt F))
  :: StableHlo.unary main_v63 main_v64 ((transpose S2048x64x16 [1, 0, 2] · transposes_S64x2048x16_S2048x64x16_1_0_2) : (⟨S64x2048x16, .f32⟩ : BufTy).Contents (Elt F) → (⟨S2048x64x16, .f32⟩ : BufTy).Contents (Elt F))
  :: StableHlo.binary main_v62 main_v64 main_v65 (subf : (⟨S2048x64x16, .f32⟩ : BufTy).Contents (Elt F) → (⟨S2048x64x16, .f32⟩ : BufTy).Contents (Elt F) → (⟨S2048x64x16, .f32⟩ : BufTy).Contents (Elt F))
  :: StableHlo.reshape main_v65 main_v66 (rfl : (.f32 : EltTy) = .f32) shapeCasts_S2048x64x16_S2048x1024
  :: StableHlo.unary main_arg9 main_v67 (broadcastInDim S1x1024 ![1] bcast_S1024_S1x1024_1 : (⟨S1024, .f32⟩ : BufTy).Contents (Elt F) → (⟨S1x1024, .f32⟩ : BufTy).Contents (Elt F))
  :: StableHlo.unary main_v67 main_v68 (broadcastInDim S2048x1024 ![0, 1] bcast_S1x1024_S2048x1024_0_1 : (⟨S1x1024, .f32⟩ : BufTy).Contents (Elt F) → (⟨S2048x1024, .f32⟩ : BufTy).Contents (Elt F))
  :: StableHlo.binary main_v68 main_arg0 main_v69 (mulf : (⟨S2048x1024, .f32⟩ : BufTy).Contents (Elt F) → (⟨S2048x1024, .f32⟩ : BufTy).Contents (Elt F) → (⟨S2048x1024, .f32⟩ : BufTy).Contents (Elt F))
  :: StableHlo.binary main_v66 main_v69 main_v70 (addf : (⟨S2048x1024, .f32⟩ : BufTy).Contents (Elt F) → (⟨S2048x1024, .f32⟩ : BufTy).Contents (Elt F) → (⟨S2048x1024, .f32⟩ : BufTy).Contents (Elt F))
  :: StableHlo.nullary main_cst_8 (constant S_ .f32 0x00000000#32)
  :: StableHlo.unary main_cst_8 main_v71 (broadcastInDim S64x64 ![] bcast_S_S64x64 : (⟨S_, .f32⟩ : BufTy).Contents (Elt F) → (⟨S64x64, .f32⟩ : BufTy).Contents (Elt F))
  :: StableHlo.nullary main_cst_9 (constant S_ .f32 0x00000000#32)
  :: StableHlo.unary main_cst_9 main_v72 (broadcastInDim S64x64 ![] bcast_S_S64x64 : (⟨S_, .f32⟩ : BufTy).Contents (Elt F) → (⟨S64x64, .f32⟩ : BufTy).Contents (Elt F))
  :: StableHlo.reshape main_arg1 main_v73 (rfl : (.f32 : EltTy) = .f32) shapeCasts_S2048x1024_S2048x1024
  :: StableHlo.reshape main_arg1 main_v74 (rfl : (.f32 : EltTy) = .f32) shapeCasts_S2048x1024_S2048x1024
  :: StableHlo.unary main_v67 main_v75 (broadcastInDim S2048x1024 ![0, 1] bcast_S1x1024_S2048x1024_0_1 : (⟨S1x1024, .f32⟩ : BufTy).Contents (Elt F) → (⟨S2048x1024, .f32⟩ : BufTy).Contents (Elt F))
  :: StableHlo.binary main_v75 main_v74 main_v76 (mulf : (⟨S2048x1024, .f32⟩ : BufTy).Contents (Elt F) → (⟨S2048x1024, .f32⟩ : BufTy).Contents (Elt F) → (⟨S2048x1024, .f32⟩ : BufTy).Contents (Elt F))
  :: StableHlo.binary main_v74 main_arg0 main_v77 (mulf : (⟨S2048x1024, .f32⟩ : BufTy).Contents (Elt F) → (⟨S2048x1024, .f32⟩ : BufTy).Contents (Elt F) → (⟨S2048x1024, .f32⟩ : BufTy).Contents (Elt F))
  :: StableHlo.nullary main_cst_10 (constant S_ .f32 0x00000000#32)
  :: StableHlo.binary main_v77 main_cst_10 main_v78 ((fun x v => Host.reduceAdd x v reducesTo_S2048x1024_S1024_d0 h_S_) : (⟨S2048x1024, .f32⟩ : BufTy).Contents (Elt F) → (⟨S_, .f32⟩ : BufTy).Contents (Elt F) → (⟨S1024, .f32⟩ : BufTy).Contents (Elt F))
  :: StableHlo.reshape main_v78 main_v79 (rfl : (.f32 : EltTy) = .f32) shapeCasts_S1024_S1x1024
  :: StableHlo.nullary main_cst_11 (constant S_ .f32 0x00000000#32)
  :: StableHlo.binary main_v79 main_cst_11 main_v80 ((fun x v => Host.reduceAdd x v reducesTo_S1x1024_S1024_d0 h_S_) : (⟨S1x1024, .f32⟩ : BufTy).Contents (Elt F) → (⟨S_, .f32⟩ : BufTy).Contents (Elt F) → (⟨S1024, .f32⟩ : BufTy).Contents (Elt F))
  :: StableHlo.reshape main_v73 main_v81 (rfl : (.f32 : EltTy) = .f32) shapeCasts_S2048x1024_S2048x64x16
  :: StableHlo.unary main_v81 main_v82 (Host.negf : (⟨S2048x64x16, .f32⟩ : BufTy).Contents (Elt F) → (⟨S2048x64x16, .f32⟩ : BufTy).Contents (Elt F))
  :: StableHlo.unary main_v82 main_v83 ((transpose S64x2048x16 [1, 0, 2] · transposes_S2048x64x16_S64x2048x16_1_0_2) : (⟨S2048x64x16, .f32⟩ : BufTy).Contents (Elt F) → (⟨S64x2048x16, .f32⟩ : BufTy).Contents (Elt F))
  :: StableHlo.binary main_v83 main_v60_8 main_v84 ((fun l r => Host.dotGeneral dot_S64x2048x16_S2048x64x64_S64x16x64_1_0_2_2_0_1 none l r) : (⟨S64x2048x16, .f32⟩ : BufTy).Contents (Elt F) → (⟨S2048x64x64, .f32⟩ : BufTy).Contents (Elt F) → (⟨S64x16x64, .f32⟩ : BufTy).Contents (Elt F))
  :: StableHlo.binary main_v83 main_arg8 main_v85 ((fun l r => Host.dotGeneral dot_S64x2048x16_S64x16x64_S64x2048x64_2_1_1_2_0_0 none l r) : (⟨S64x2048x16, .f32⟩ : BufTy).Contents (Elt F) → (⟨S64x16x64, .f32⟩ : BufTy).Contents (Elt F) → (⟨S64x2048x64, .f32⟩ : BufTy).Contents (Elt F))
  :: StableHlo.unary main_v85 main_v86 ((transpose S2048x64x64 [1, 0, 2] · transposes_S64x2048x64_S2048x64x64_1_0_2) : (⟨S64x2048x64, .f32⟩ : BufTy).Contents (Elt F) → (⟨S2048x64x64, .f32⟩ : BufTy).Contents (Elt F))
  :: StableHlo.unary main_v81 main_v87 ((transpose S64x2048x16 [1, 0, 2] · transposes_S2048x64x16_S64x2048x16_1_0_2) : (⟨S2048x64x16, .f32⟩ : BufTy).Contents (Elt F) → (⟨S64x2048x16, .f32⟩ : BufTy).Contents (Elt F))
  :: StableHlo.binary main_v87 main_v60_7 main_v88 ((fun l r => Host.dotGeneral dot_S64x2048x16_S2048x64x64_S64x16x64_1_0_2_2_0_1 none l r) : (⟨S64x2048x16, .f32⟩ : BufTy).Contents (Elt F) → (⟨S2048x64x64, .f32⟩ : BufTy).Contents (Elt F) → (⟨S64x16x64, .f32⟩ : BufTy).Contents (Elt F))
  :: StableHlo.binary main_v87 main_arg7 main_v89 ((fun l r => Host.dotGeneral dot_S64x2048x16_S64x16x64_S64x2048x64_2_1_1_2_0_0 none l r) : (⟨S64x2048x16, .f32⟩ : BufTy).Contents (Elt F) → (⟨S64x16x64, .f32⟩ : BufTy).Contents (Elt F) → (⟨S64x2048x64, .f32⟩ : BufTy).Contents (Elt F))
  :: StableHlo.unary main_v89 main_v90 ((transpose S2048x64x64 [1, 0, 2] · transposes_S64x2048x64_S2048x64x64_1_0_2) : (⟨S64x2048x64, .f32⟩ : BufTy).Contents (Elt F) → (⟨S2048x64x64, .f32⟩ : BufTy).Contents (Elt F))
  :: StableHlo.nullary main_cst_12 (constant S_ .f32 0x00000000#32)
  :: StableHlo.unary main_cst_12 main_v91 (broadcastInDim S64x64 ![] bcast_S_S64x64 : (⟨S_, .f32⟩ : BufTy).Contents (Elt F) → (⟨S64x64, .f32⟩ : BufTy).Contents (Elt F))
  :: StableHlo.nullary main_cst_13 (constant S_ .f32 0x00000000#32)
  :: StableHlo.unary main_cst_13 main_v92 (broadcastInDim S64x64 ![] bcast_S_S64x64 : (⟨S_, .f32⟩ : BufTy).Contents (Elt F) → (⟨S64x64, .f32⟩ : BufTy).Contents (Elt F))
  :: StableHlo.nullary main_cst_14 (constant S_ .f32 0x00000000#32)
  :: StableHlo.unary main_cst_14 main_v93 (broadcastInDim S64x64 ![] bcast_S_S64x64 : (⟨S_, .f32⟩ : BufTy).Contents (Elt F) → (⟨S64x64, .f32⟩ : BufTy).Contents (Elt F))
  :: StableHlo.nullary main_cst_15 (constant S_ .f32 0x00000000#32)
  :: StableHlo.unary main_cst_15 main_v94 (broadcastInDim S64x64 ![] bcast_S_S64x64 : (⟨S_, .f32⟩ : BufTy).Contents (Elt F) → (⟨S64x64, .f32⟩ : BufTy).Contents (Elt F))
  :: StableHlo.nullary main_cst_16 (constant S_ .f32 0x00000000#32)
  :: StableHlo.unary main_cst_16 main_v95 (broadcastInDim S2048x64x64 ![] bcast_S_S2048x64x64 : (⟨S_, .f32⟩ : BufTy).Contents (Elt F) → (⟨S2048x64x64, .f32⟩ : BufTy).Contents (Elt F))
  :: StableHlo.nullary main_cst_17 (constant S_ .f32 0x00000000#32)
  :: StableHlo.unary main_cst_17 main_v96 (broadcastInDim S2048x64x64 ![] bcast_S_S2048x64x64 : (⟨S_, .f32⟩ : BufTy).Contents (Elt F) → (⟨S2048x64x64, .f32⟩ : BufTy).Contents (Elt F))
  :: StableHlo.nullary main_c_18 (constantI S_ 32 0#32)
  :: StableHlo.unary main_v90 main_v97_0 id
  :: StableHlo.unary main_v86 main_v97_1 id
  :: StableHlo.unary main_v60_9 main_v97_2 id
  :: StableHlo.unary main_v60_10 main_v97_3 id
  :: StableHlo.unary main_v9 main_v97_4 id
  :: StableHlo.unary main_v14 main_v97_5 id
  :: StableHlo.unary main_c_18 main_v97_6 id
  :: StableHlo.unary main_v93 main_v97_7 id
  :: StableHlo.unary main_v94 main_v97_8 id
  :: StableHlo.unary main_v91 main_v97_9 id
  :: StableHlo.unary main_v92 main_v97_10 id
  :: StableHlo.unary main_v95 main_v97_11 id
  :: StableHlo.unary main_v96 main_v97_12 id
  :: [] )
/-- Each touches TensorCore references only (`HostSeg.ofOps` over `StableHlo.tcRefs`, or a subset by `sub_ucRefs`). -/
theorem hostOps0_1_sub : (hostOps0_1 : List (HloOp τ sig (Elt F))).Forall fun op => op.bufs ⊆ StableHlo.tcRefs τ sig :=
  ⟨StableHlo.binary_bufs_sub .., StableHlo.unary_bufs_sub .., StableHlo.binary_bufs_sub .., StableHlo.unary_bufs_sub .., StableHlo.binary_bufs_sub .., StableHlo.reshape_bufs_sub .., StableHlo.unary_bufs_sub .., StableHlo.unary_bufs_sub .., StableHlo.binary_bufs_sub .., StableHlo.binary_bufs_sub .., StableHlo.nullary_bufs_sub .., StableHlo.unary_bufs_sub .., StableHlo.nullary_bufs_sub .., StableHlo.unary_bufs_sub .., StableHlo.reshape_bufs_sub .., StableHlo.reshape_bufs_sub .., StableHlo.unary_bufs_sub .., StableHlo.binary_bufs_sub .., StableHlo.binary_bufs_sub .., StableHlo.nullary_bufs_sub .., StableHlo.binary_bufs_sub .., StableHlo.reshape_bufs_sub .., StableHlo.nullary_bufs_sub .., StableHlo.binary_bufs_sub .., StableHlo.reshape_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
set_option maxHeartbeats 40000000 in
/-- 115 host operations of @main, in order. -/
abbrev hostOps0_2 : List (HloOp τ sig (Elt F)) :=
  ( StableHlo.unary main_v97_12 main_v98 ((transpose S64x2048x64 [1, 0, 2] · transposes_S2048x64x64_S64x2048x64_1_0_2) : (⟨S2048x64x64, .f32⟩ : BufTy).Contents (Elt F) → (⟨S64x2048x64, .f32⟩ : BufTy).Contents (Elt F))
  :: StableHlo.binary main_v98 main_v50 main_v99 ((fun l r => Host.dotGeneral dot_S64x2048x64_S2048x64x16_S64x64x16_1_0_2_2_0_1 none l r) : (⟨S64x2048x64, .f32⟩ : BufTy).Contents (Elt F) → (⟨S2048x64x16, .f32⟩ : BufTy).Contents (Elt F) → (⟨S64x64x16, .f32⟩ : BufTy).Contents (Elt F))
  :: StableHlo.binary main_v98 main_v49 main_v100 ((fun l r => Host.dotGeneral dot_S64x2048x64_S64x64x16_S64x2048x16_2_1_1_2_0_0 none l r) : (⟨S64x2048x64, .f32⟩ : BufTy).Contents (Elt F) → (⟨S64x64x16, .f32⟩ : BufTy).Contents (Elt F) → (⟨S64x2048x16, .f32⟩ : BufTy).Contents (Elt F))
  :: StableHlo.unary main_v100 main_v101 ((transpose S2048x64x16 [1, 0, 2] · transposes_S64x2048x16_S2048x64x16_1_0_2) : (⟨S64x2048x16, .f32⟩ : BufTy).Contents (Elt F) → (⟨S2048x64x16, .f32⟩ : BufTy).Contents (Elt F))
  :: StableHlo.unary main_v97_11 main_v102 ((transpose S64x2048x64 [1, 0, 2] · transposes_S2048x64x64_S64x2048x64_1_0_2) : (⟨S2048x64x64, .f32⟩ : BufTy).Contents (Elt F) → (⟨S64x2048x64, .f32⟩ : BufTy).Contents (Elt F))
  :: StableHlo.binary main_v102 main_v50 main_v103 ((fun l r => Host.dotGeneral dot_S64x2048x64_S2048x64x16_S64x64x16_1_0_2_2_0_1 none l r) : (⟨S64x2048x64, .f32⟩ : BufTy).Contents (Elt F) → (⟨S2048x64x16, .f32⟩ : BufTy).Contents (Elt F) → (⟨S64x64x16, .f32⟩ : BufTy).Contents (Elt F))
  :: StableHlo.binary main_v102 main_v42 main_v104 ((fun l r => Host.dotGeneral dot_S64x2048x64_S64x64x16_S64x2048x16_2_1_1_2_0_0 none l r) : (⟨S64x2048x64, .f32⟩ : BufTy).Contents (Elt F) → (⟨S64x64x16, .f32⟩ : BufTy).Contents (Elt F) → (⟨S64x2048x16, .f32⟩ : BufTy).Contents (Elt F))
  :: StableHlo.unary main_v104 main_v105 ((transpose S2048x64x16 [1, 0, 2] · transposes_S64x2048x16_S2048x64x16_1_0_2) : (⟨S64x2048x16, .f32⟩ : BufTy).Contents (Elt F) → (⟨S2048x64x16, .f32⟩ : BufTy).Contents (Elt F))
  :: StableHlo.binary main_v101 main_v105 main_v106 (addf : (⟨S2048x64x16, .f32⟩ : BufTy).Contents (Elt F) → (⟨S2048x64x16, .f32⟩ : BufTy).Contents (Elt F) → (⟨S2048x64x16, .f32⟩ : BufTy).Contents (Elt F))
  :: StableHlo.reshape main_v106 main_v107 (rfl : (.f32 : EltTy) = .f32) shapeCasts_S2048x64x16_S2048x1024
  :: StableHlo.binary main_v76 main_v107 main_v108 (addf : (⟨S2048x1024, .f32⟩ : BufTy).Contents (Elt F) → (⟨S2048x1024, .f32⟩ : BufTy).Contents (Elt F) → (⟨S2048x1024, .f32⟩ : BufTy).Contents (Elt F))
  :: StableHlo.unary main_v46 main_v109 (broadcastInDim S64x64x16 ![0, 1, 2] bcast_S64x64x1_S64x64x16_0_1_2 : (⟨S64x64x1, .f32⟩ : BufTy).Contents (Elt F) → (⟨S64x64x16, .f32⟩ : BufTy).Contents (Elt F))
  :: StableHlo.binary main_v109 main_v99 main_v110 (mulf : (⟨S64x64x16, .f32⟩ : BufTy).Contents (Elt F) → (⟨S64x64x16, .f32⟩ : BufTy).Contents (Elt F) → (⟨S64x64x16, .f32⟩ : BufTy).Contents (Elt F))
  :: StableHlo.binary main_v99 main_arg5 main_v111 (mulf : (⟨S64x64x16, .f32⟩ : BufTy).Contents (Elt F) → (⟨S64x64x16, .f32⟩ : BufTy).Contents (Elt F) → (⟨S64x64x16, .f32⟩ : BufTy).Contents (Elt F))
  :: StableHlo.nullary main_cst_19 (constant S_ .f32 0x00000000#32)
  :: StableHlo.binary main_v111 main_cst_19 main_v112 ((fun x v => Host.reduceAdd x v reducesTo_S64x64x16_S64x64_d2 h_S_) : (⟨S64x64x16, .f32⟩ : BufTy).Contents (Elt F) → (⟨S_, .f32⟩ : BufTy).Contents (Elt F) → (⟨S64x64, .f32⟩ : BufTy).Contents (Elt F))
  :: StableHlo.reshape main_v112 main_v113 (rfl : (.f32 : EltTy) = .f32) shapeCasts_S64x64_S64x64x1
  :: StableHlo.nullary main_cst_20 (constant S_ .f32 0x00000000#32)
  :: StableHlo.binary main_v113 main_cst_20 main_v114 ((fun x v => Host.reduceAdd x v reducesTo_S64x64x1_S64x64_d2 h_S_) : (⟨S64x64x1, .f32⟩ : BufTy).Contents (Elt F) → (⟨S_, .f32⟩ : BufTy).Contents (Elt F) → (⟨S64x64, .f32⟩ : BufTy).Contents (Elt F))
  :: StableHlo.unary main_v43 main_v115 (broadcastInDim S64x64x16 ![0, 1, 2] bcast_S64x64x1_S64x64x16_0_1_2 : (⟨S64x64x1, .f32⟩ : BufTy).Contents (Elt F) → (⟨S64x64x16, .f32⟩ : BufTy).Contents (Elt F))
  :: StableHlo.binary main_v115 main_v99 main_v116 (mulf : (⟨S64x64x16, .f32⟩ : BufTy).Contents (Elt F) → (⟨S64x64x16, .f32⟩ : BufTy).Contents (Elt F) → (⟨S64x64x16, .f32⟩ : BufTy).Contents (Elt F))
  :: StableHlo.binary main_v99 main_arg6 main_v117 (mulf : (⟨S64x64x16, .f32⟩ : BufTy).Contents (Elt F) → (⟨S64x64x16, .f32⟩ : BufTy).Contents (Elt F) → (⟨S64x64x16, .f32⟩ : BufTy).Contents (Elt F))
  :: StableHlo.nullary main_cst_21 (constant S_ .f32 0x00000000#32)
  :: StableHlo.binary main_v117 main_cst_21 main_v118 ((fun x v => Host.reduceAdd x v reducesTo_S64x64x16_S64x64_d2 h_S_) : (⟨S64x64x16, .f32⟩ : BufTy).Contents (Elt F) → (⟨S_, .f32⟩ : BufTy).Contents (Elt F) → (⟨S64x64, .f32⟩ : BufTy).Contents (Elt F))
  :: StableHlo.reshape main_v118 main_v119 (rfl : (.f32 : EltTy) = .f32) shapeCasts_S64x64_S64x64x1
  :: StableHlo.nullary main_cst_22 (constant S_ .f32 0x00000000#32)
  :: StableHlo.binary main_v119 main_cst_22 main_v120 ((fun x v => Host.reduceAdd x v reducesTo_S64x64x1_S64x64_d2 h_S_) : (⟨S64x64x1, .f32⟩ : BufTy).Contents (Elt F) → (⟨S_, .f32⟩ : BufTy).Contents (Elt F) → (⟨S64x64, .f32⟩ : BufTy).Contents (Elt F))
  :: StableHlo.unary main_v103 main_v121 (Host.negf : (⟨S64x64x16, .f32⟩ : BufTy).Contents (Elt F) → (⟨S64x64x16, .f32⟩ : BufTy).Contents (Elt F))
  :: StableHlo.unary main_v39 main_v122 (broadcastInDim S64x64x16 ![0, 1, 2] bcast_S64x64x1_S64x64x16_0_1_2 : (⟨S64x64x1, .f32⟩ : BufTy).Contents (Elt F) → (⟨S64x64x16, .f32⟩ : BufTy).Contents (Elt F))
  :: StableHlo.binary main_v122 main_v121 main_v123 (mulf : (⟨S64x64x16, .f32⟩ : BufTy).Contents (Elt F) → (⟨S64x64x16, .f32⟩ : BufTy).Contents (Elt F) → (⟨S64x64x16, .f32⟩ : BufTy).Contents (Elt F))
  :: StableHlo.binary main_v116 main_v123 main_v124 (addf : (⟨S64x64x16, .f32⟩ : BufTy).Contents (Elt F) → (⟨S64x64x16, .f32⟩ : BufTy).Contents (Elt F) → (⟨S64x64x16, .f32⟩ : BufTy).Contents (Elt F))
  :: StableHlo.binary main_v121 main_arg6 main_v125 (mulf : (⟨S64x64x16, .f32⟩ : BufTy).Contents (Elt F) → (⟨S64x64x16, .f32⟩ : BufTy).Contents (Elt F) → (⟨S64x64x16, .f32⟩ : BufTy).Contents (Elt F))
  :: StableHlo.nullary main_cst_23 (constant S_ .f32 0x00000000#32)
  :: StableHlo.binary main_v125 main_cst_23 main_v126 ((fun x v => Host.reduceAdd x v reducesTo_S64x64x16_S64x64_d2 h_S_) : (⟨S64x64x16, .f32⟩ : BufTy).Contents (Elt F) → (⟨S_, .f32⟩ : BufTy).Contents (Elt F) → (⟨S64x64, .f32⟩ : BufTy).Contents (Elt F))
  :: StableHlo.reshape main_v126 main_v127 (rfl : (.f32 : EltTy) = .f32) shapeCasts_S64x64_S64x64x1
  :: StableHlo.nullary main_cst_24 (constant S_ .f32 0x00000000#32)
  :: StableHlo.binary main_v127 main_cst_24 main_v128 ((fun x v => Host.reduceAdd x v reducesTo_S64x64x1_S64x64_d2 h_S_) : (⟨S64x64x1, .f32⟩ : BufTy).Contents (Elt F) → (⟨S_, .f32⟩ : BufTy).Contents (Elt F) → (⟨S64x64, .f32⟩ : BufTy).Contents (Elt F))
  :: StableHlo.binary main_v114 main_v128 main_v129 (addf : (⟨S64x64, .f32⟩ : BufTy).Contents (Elt F) → (⟨S64x64, .f32⟩ : BufTy).Contents (Elt F) → (⟨S64x64, .f32⟩ : BufTy).Contents (Elt F))
  :: StableHlo.unary main_v36 main_v130 (broadcastInDim S64x64x16 ![0, 1, 2] bcast_S64x64x1_S64x64x16_0_1_2 : (⟨S64x64x1, .f32⟩ : BufTy).Contents (Elt F) → (⟨S64x64x16, .f32⟩ : BufTy).Contents (Elt F))
  :: StableHlo.binary main_v130 main_v103 main_v131 (mulf : (⟨S64x64x16, .f32⟩ : BufTy).Contents (Elt F) → (⟨S64x64x16, .f32⟩ : BufTy).Contents (Elt F) → (⟨S64x64x16, .f32⟩ : BufTy).Contents (Elt F))
  :: StableHlo.binary main_v110 main_v131 main_v132 (addf : (⟨S64x64x16, .f32⟩ : BufTy).Contents (Elt F) → (⟨S64x64x16, .f32⟩ : BufTy).Contents (Elt F) → (⟨S64x64x16, .f32⟩ : BufTy).Contents (Elt F))
  :: StableHlo.binary main_v103 main_arg5 main_v133 (mulf : (⟨S64x64x16, .f32⟩ : BufTy).Contents (Elt F) → (⟨S64x64x16, .f32⟩ : BufTy).Contents (Elt F) → (⟨S64x64x16, .f32⟩ : BufTy).Contents (Elt F))
  :: StableHlo.nullary main_cst_25 (constant S_ .f32 0x00000000#32)
  :: StableHlo.binary main_v133 main_cst_25 main_v134 ((fun x v => Host.reduceAdd x v reducesTo_S64x64x16_S64x64_d2 h_S_) : (⟨S64x64x16, .f32⟩ : BufTy).Contents (Elt F) → (⟨S_, .f32⟩ : BufTy).Contents (Elt F) → (⟨S64x64, .f32⟩ : BufTy).Contents (Elt F))
  :: StableHlo.reshape main_v134 main_v135 (rfl : (.f32 : EltTy) = .f32) shapeCasts_S64x64_S64x64x1
  :: StableHlo.nullary main_cst_26 (constant S_ .f32 0x00000000#32)
  :: StableHlo.binary main_v135 main_cst_26 main_v136 ((fun x v => Host.reduceAdd x v reducesTo_S64x64x1_S64x64_d2 h_S_) : (⟨S64x64x1, .f32⟩ : BufTy).Contents (Elt F) → (⟨S_, .f32⟩ : BufTy).Contents (Elt F) → (⟨S64x64, .f32⟩ : BufTy).Contents (Elt F))
  :: StableHlo.binary main_v120 main_v136 main_v137 (addf : (⟨S64x64, .f32⟩ : BufTy).Contents (Elt F) → (⟨S64x64, .f32⟩ : BufTy).Contents (Elt F) → (⟨S64x64, .f32⟩ : BufTy).Contents (Elt F))
  :: StableHlo.binary main_v129 main_v35 main_v138 (mulf : (⟨S64x64, .f32⟩ : BufTy).Contents (Elt F) → (⟨S64x64, .f32⟩ : BufTy).Contents (Elt F) → (⟨S64x64, .f32⟩ : BufTy).Contents (Elt F))
  :: StableHlo.binary main_v138 main_v31 main_v139 (mulf : (⟨S64x64, .f32⟩ : BufTy).Contents (Elt F) → (⟨S64x64, .f32⟩ : BufTy).Contents (Elt F) → (⟨S64x64, .f32⟩ : BufTy).Contents (Elt F))
  :: StableHlo.unary main_v139 main_v140 (Host.negf : (⟨S64x64, .f32⟩ : BufTy).Contents (Elt F) → (⟨S64x64, .f32⟩ : BufTy).Contents (Elt F))
  :: StableHlo.binary main_v129 main_v17 main_v141 (Host.divf : (⟨S64x64, .f32⟩ : BufTy).Contents (Elt F) → (⟨S64x64, .f32⟩ : BufTy).Contents (Elt F) → (⟨S64x64, .f32⟩ : BufTy).Contents (Elt F))
  :: StableHlo.unary main_v141 main_v142 (Host.negf : (⟨S64x64, .f32⟩ : BufTy).Contents (Elt F) → (⟨S64x64, .f32⟩ : BufTy).Contents (Elt F))
  :: StableHlo.binary main_v29 main_v142 main_v143 (mulf : (⟨S64x64, .f32⟩ : BufTy).Contents (Elt F) → (⟨S64x64, .f32⟩ : BufTy).Contents (Elt F) → (⟨S64x64, .f32⟩ : BufTy).Contents (Elt F))
  :: StableHlo.binary main_v142 main_arg3 main_v144 (mulf : (⟨S64x64, .f32⟩ : BufTy).Contents (Elt F) → (⟨S64x64, .f32⟩ : BufTy).Contents (Elt F) → (⟨S64x64, .f32⟩ : BufTy).Contents (Elt F))
  :: StableHlo.binary main_v97_7 main_v144 main_v145 (addf : (⟨S64x64, .f32⟩ : BufTy).Contents (Elt F) → (⟨S64x64, .f32⟩ : BufTy).Contents (Elt F) → (⟨S64x64, .f32⟩ : BufTy).Contents (Elt F))
  :: StableHlo.binary main_v14 main_v141 main_v146 (mulf : (⟨S64x64, .f32⟩ : BufTy).Contents (Elt F) → (⟨S64x64, .f32⟩ : BufTy).Contents (Elt F) → (⟨S64x64, .f32⟩ : BufTy).Contents (Elt F))
  :: StableHlo.binary main_v141 main_arg2 main_v147 (mulf : (⟨S64x64, .f32⟩ : BufTy).Contents (Elt F) → (⟨S64x64, .f32⟩ : BufTy).Contents (Elt F) → (⟨S64x64, .f32⟩ : BufTy).Contents (Elt F))
  :: StableHlo.binary main_v97_8 main_v147 main_v148 (addf : (⟨S64x64, .f32⟩ : BufTy).Contents (Elt F) → (⟨S64x64, .f32⟩ : BufTy).Contents (Elt F) → (⟨S64x64, .f32⟩ : BufTy).Contents (Elt F))
  :: StableHlo.binary main_v137 main_v26 main_v149 (mulf : (⟨S64x64, .f32⟩ : BufTy).Contents (Elt F) → (⟨S64x64, .f32⟩ : BufTy).Contents (Elt F) → (⟨S64x64, .f32⟩ : BufTy).Contents (Elt F))
  :: StableHlo.binary main_v149 main_v22 main_v150 (mulf : (⟨S64x64, .f32⟩ : BufTy).Contents (Elt F) → (⟨S64x64, .f32⟩ : BufTy).Contents (Elt F) → (⟨S64x64, .f32⟩ : BufTy).Contents (Elt F))
  :: StableHlo.unary main_v150 main_v151 (Host.negf : (⟨S64x64, .f32⟩ : BufTy).Contents (Elt F) → (⟨S64x64, .f32⟩ : BufTy).Contents (Elt F))
  :: StableHlo.binary main_v140 main_v151 main_v152 (addf : (⟨S64x64, .f32⟩ : BufTy).Contents (Elt F) → (⟨S64x64, .f32⟩ : BufTy).Contents (Elt F) → (⟨S64x64, .f32⟩ : BufTy).Contents (Elt F))
  :: StableHlo.binary main_v137 main_v17 main_v153 (Host.divf : (⟨S64x64, .f32⟩ : BufTy).Contents (Elt F) → (⟨S64x64, .f32⟩ : BufTy).Contents (Elt F) → (⟨S64x64, .f32⟩ : BufTy).Contents (Elt F))
  :: StableHlo.binary main_v14 main_v153 main_v154 (mulf : (⟨S64x64, .f32⟩ : BufTy).Contents (Elt F) → (⟨S64x64, .f32⟩ : BufTy).Contents (Elt F) → (⟨S64x64, .f32⟩ : BufTy).Contents (Elt F))
  :: StableHlo.binary main_v143 main_v154 main_v155 (addf : (⟨S64x64, .f32⟩ : BufTy).Contents (Elt F) → (⟨S64x64, .f32⟩ : BufTy).Contents (Elt F) → (⟨S64x64, .f32⟩ : BufTy).Contents (Elt F))
  :: StableHlo.binary main_v153 main_arg3 main_v156 (mulf : (⟨S64x64, .f32⟩ : BufTy).Contents (Elt F) → (⟨S64x64, .f32⟩ : BufTy).Contents (Elt F) → (⟨S64x64, .f32⟩ : BufTy).Contents (Elt F))
  :: StableHlo.binary main_v148 main_v156 main_v157 (addf : (⟨S64x64, .f32⟩ : BufTy).Contents (Elt F) → (⟨S64x64, .f32⟩ : BufTy).Contents (Elt F) → (⟨S64x64, .f32⟩ : BufTy).Contents (Elt F))
  :: StableHlo.binary main_v19 main_v153 main_v158 (mulf : (⟨S64x64, .f32⟩ : BufTy).Contents (Elt F) → (⟨S64x64, .f32⟩ : BufTy).Contents (Elt F) → (⟨S64x64, .f32⟩ : BufTy).Contents (Elt F))
  :: StableHlo.binary main_v146 main_v158 main_v159 (addf : (⟨S64x64, .f32⟩ : BufTy).Contents (Elt F) → (⟨S64x64, .f32⟩ : BufTy).Contents (Elt F) → (⟨S64x64, .f32⟩ : BufTy).Contents (Elt F))
  :: StableHlo.binary main_v153 main_arg2 main_v160 (mulf : (⟨S64x64, .f32⟩ : BufTy).Contents (Elt F) → (⟨S64x64, .f32⟩ : BufTy).Contents (Elt F) → (⟨S64x64, .f32⟩ : BufTy).Contents (Elt F))
  :: StableHlo.binary main_v145 main_v160 main_v161 (addf : (⟨S64x64, .f32⟩ : BufTy).Contents (Elt F) → (⟨S64x64, .f32⟩ : BufTy).Contents (Elt F) → (⟨S64x64, .f32⟩ : BufTy).Contents (Elt F))
  :: StableHlo.binary main_arg3 main_v152 main_v162 (mulf : (⟨S64x64, .f32⟩ : BufTy).Contents (Elt F) → (⟨S64x64, .f32⟩ : BufTy).Contents (Elt F) → (⟨S64x64, .f32⟩ : BufTy).Contents (Elt F))
  :: StableHlo.binary main_v155 main_v162 main_v163 (addf : (⟨S64x64, .f32⟩ : BufTy).Contents (Elt F) → (⟨S64x64, .f32⟩ : BufTy).Contents (Elt F) → (⟨S64x64, .f32⟩ : BufTy).Contents (Elt F))
  :: StableHlo.binary main_v152 main_arg3 main_v164 (mulf : (⟨S64x64, .f32⟩ : BufTy).Contents (Elt F) → (⟨S64x64, .f32⟩ : BufTy).Contents (Elt F) → (⟨S64x64, .f32⟩ : BufTy).Contents (Elt F))
  :: StableHlo.binary main_v163 main_v164 main_v165 (addf : (⟨S64x64, .f32⟩ : BufTy).Contents (Elt F) → (⟨S64x64, .f32⟩ : BufTy).Contents (Elt F) → (⟨S64x64, .f32⟩ : BufTy).Contents (Elt F))
  :: StableHlo.binary main_arg2 main_v152 main_v166 (mulf : (⟨S64x64, .f32⟩ : BufTy).Contents (Elt F) → (⟨S64x64, .f32⟩ : BufTy).Contents (Elt F) → (⟨S64x64, .f32⟩ : BufTy).Contents (Elt F))
  :: StableHlo.binary main_v159 main_v166 main_v167 (addf : (⟨S64x64, .f32⟩ : BufTy).Contents (Elt F) → (⟨S64x64, .f32⟩ : BufTy).Contents (Elt F) → (⟨S64x64, .f32⟩ : BufTy).Contents (Elt F))
  :: StableHlo.binary main_v152 main_arg2 main_v168 (mulf : (⟨S64x64, .f32⟩ : BufTy).Contents (Elt F) → (⟨S64x64, .f32⟩ : BufTy).Contents (Elt F) → (⟨S64x64, .f32⟩ : BufTy).Contents (Elt F))
  :: StableHlo.binary main_v167 main_v168 main_v169 (addf : (⟨S64x64, .f32⟩ : BufTy).Contents (Elt F) → (⟨S64x64, .f32⟩ : BufTy).Contents (Elt F) → (⟨S64x64, .f32⟩ : BufTy).Contents (Elt F))
  :: StableHlo.binary main_v4 main_v157 main_v170 (mulf : (⟨S64x64, .f32⟩ : BufTy).Contents (Elt F) → (⟨S64x64, .f32⟩ : BufTy).Contents (Elt F) → (⟨S64x64, .f32⟩ : BufTy).Contents (Elt F))
  :: StableHlo.binary main_v157 main_v12 main_v171 (mulf : (⟨S64x64, .f32⟩ : BufTy).Contents (Elt F) → (⟨S64x64, .f32⟩ : BufTy).Contents (Elt F) → (⟨S64x64, .f32⟩ : BufTy).Contents (Elt F))
  :: StableHlo.binary main_v170 main_v13 main_v172 (mulf : (⟨S64x64, .f32⟩ : BufTy).Contents (Elt F) → (⟨S64x64, .f32⟩ : BufTy).Contents (Elt F) → (⟨S64x64, .f32⟩ : BufTy).Contents (Elt F))
  :: StableHlo.binary main_arg3 main_v172 main_v173 (mulf : (⟨S64x64, .f32⟩ : BufTy).Contents (Elt F) → (⟨S64x64, .f32⟩ : BufTy).Contents (Elt F) → (⟨S64x64, .f32⟩ : BufTy).Contents (Elt F))
  :: StableHlo.nullary main_cst_27 (constant S_ .f32 0x00000000#32)
  :: StableHlo.binary main_v173 main_cst_27 main_v174 ((fun x v => Host.reduceAdd x v reducesTo_S64x64_S64_d1 h_S_) : (⟨S64x64, .f32⟩ : BufTy).Contents (Elt F) → (⟨S_, .f32⟩ : BufTy).Contents (Elt F) → (⟨S64, .f32⟩ : BufTy).Contents (Elt F))
  :: StableHlo.reshape main_v174 main_v175 (rfl : (.f32 : EltTy) = .f32) shapeCasts_S64_S64x1
  :: StableHlo.unary main_v1 main_v176 (broadcastInDim S64x64 ![0, 1] bcast_S64x1_S64x64_0_1 : (⟨S64x1, .f32⟩ : BufTy).Contents (Elt F) → (⟨S64x64, .f32⟩ : BufTy).Contents (Elt F))
  :: StableHlo.binary main_v172 main_v176 main_v177 (mulf : (⟨S64x64, .f32⟩ : BufTy).Contents (Elt F) → (⟨S64x64, .f32⟩ : BufTy).Contents (Elt F) → (⟨S64x64, .f32⟩ : BufTy).Contents (Elt F))
  :: StableHlo.binary main_v165 main_v177 main_v178 (addf : (⟨S64x64, .f32⟩ : BufTy).Contents (Elt F) → (⟨S64x64, .f32⟩ : BufTy).Contents (Elt F) → (⟨S64x64, .f32⟩ : BufTy).Contents (Elt F))
  :: StableHlo.binary main_v4 main_v161 main_v179 (mulf : (⟨S64x64, .f32⟩ : BufTy).Contents (Elt F) → (⟨S64x64, .f32⟩ : BufTy).Contents (Elt F) → (⟨S64x64, .f32⟩ : BufTy).Contents (Elt F))
  :: StableHlo.binary main_v161 main_v7 main_v180 (mulf : (⟨S64x64, .f32⟩ : BufTy).Contents (Elt F) → (⟨S64x64, .f32⟩ : BufTy).Contents (Elt F) → (⟨S64x64, .f32⟩ : BufTy).Contents (Elt F))
  :: StableHlo.binary main_v171 main_v180 main_v181 (addf : (⟨S64x64, .f32⟩ : BufTy).Contents (Elt F) → (⟨S64x64, .f32⟩ : BufTy).Contents (Elt F) → (⟨S64x64, .f32⟩ : BufTy).Contents (Elt F))
  :: StableHlo.unary main_v179 main_v182 (Host.negf : (⟨S64x64, .f32⟩ : BufTy).Contents (Elt F) → (⟨S64x64, .f32⟩ : BufTy).Contents (Elt F))
  :: StableHlo.binary main_v182 main_v8 main_v183 (mulf : (⟨S64x64, .f32⟩ : BufTy).Contents (Elt F) → (⟨S64x64, .f32⟩ : BufTy).Contents (Elt F) → (⟨S64x64, .f32⟩ : BufTy).Contents (Elt F))
  :: StableHlo.binary main_arg3 main_v183 main_v184 (mulf : (⟨S64x64, .f32⟩ : BufTy).Contents (Elt F) → (⟨S64x64, .f32⟩ : BufTy).Contents (Elt F) → (⟨S64x64, .f32⟩ : BufTy).Contents (Elt F))
  :: StableHlo.nullary main_cst_28 (constant S_ .f32 0x00000000#32)
  :: StableHlo.binary main_v184 main_cst_28 main_v185 ((fun x v => Host.reduceAdd x v reducesTo_S64x64_S64_d1 h_S_) : (⟨S64x64, .f32⟩ : BufTy).Contents (Elt F) → (⟨S_, .f32⟩ : BufTy).Contents (Elt F) → (⟨S64, .f32⟩ : BufTy).Contents (Elt F))
  :: StableHlo.reshape main_v185 main_v186 (rfl : (.f32 : EltTy) = .f32) shapeCasts_S64_S64x1
  :: StableHlo.binary main_v175 main_v186 main_v187 (addf : (⟨S64x1, .f32⟩ : BufTy).Contents (Elt F) → (⟨S64x1, .f32⟩ : BufTy).Contents (Elt F) → (⟨S64x1, .f32⟩ : BufTy).Contents (Elt F))
  :: StableHlo.unary main_v1 main_v188 (broadcastInDim S64x64 ![0, 1] bcast_S64x1_S64x64_0_1 : (⟨S64x1, .f32⟩ : BufTy).Contents (Elt F) → (⟨S64x64, .f32⟩ : BufTy).Contents (Elt F))
  :: StableHlo.binary main_v183 main_v188 main_v189 (mulf : (⟨S64x64, .f32⟩ : BufTy).Contents (Elt F) → (⟨S64x64, .f32⟩ : BufTy).Contents (Elt F) → (⟨S64x64, .f32⟩ : BufTy).Contents (Elt F))
  :: StableHlo.binary main_v178 main_v189 main_v190 (addf : (⟨S64x64, .f32⟩ : BufTy).Contents (Elt F) → (⟨S64x64, .f32⟩ : BufTy).Contents (Elt F) → (⟨S64x64, .f32⟩ : BufTy).Contents (Elt F))
  :: StableHlo.binary main_v181 main_v4 main_v191 (mulf : (⟨S64x64, .f32⟩ : BufTy).Contents (Elt F) → (⟨S64x64, .f32⟩ : BufTy).Contents (Elt F) → (⟨S64x64, .f32⟩ : BufTy).Contents (Elt F))
  :: StableHlo.binary main_arg2 main_v191 main_v192 (mulf : (⟨S64x64, .f32⟩ : BufTy).Contents (Elt F) → (⟨S64x64, .f32⟩ : BufTy).Contents (Elt F) → (⟨S64x64, .f32⟩ : BufTy).Contents (Elt F))
  :: StableHlo.nullary main_cst_29 (constant S_ .f32 0x00000000#32)
  :: StableHlo.binary main_v192 main_cst_29 main_v193 ((fun x v => Host.reduceAdd x v reducesTo_S64x64_S64_d1 h_S_) : (⟨S64x64, .f32⟩ : BufTy).Contents (Elt F) → (⟨S_, .f32⟩ : BufTy).Contents (Elt F) → (⟨S64, .f32⟩ : BufTy).Contents (Elt F))
  :: StableHlo.reshape main_v193 main_v194 (rfl : (.f32 : EltTy) = .f32) shapeCasts_S64_S64x1
  :: StableHlo.binary main_v187 main_v194 main_v195 (addf : (⟨S64x1, .f32⟩ : BufTy).Contents (Elt F) → (⟨S64x1, .f32⟩ : BufTy).Contents (Elt F) → (⟨S64x1, .f32⟩ : BufTy).Contents (Elt F))
  :: StableHlo.unary main_v1 main_v196 (broadcastInDim S64x64 ![0, 1] bcast_S64x1_S64x64_0_1 : (⟨S64x1, .f32⟩ : BufTy).Contents (Elt F) → (⟨S64x64, .f32⟩ : BufTy).Contents (Elt F))
  :: StableHlo.binary main_v191 main_v196 main_v197 (mulf : (⟨S64x64, .f32⟩ : BufTy).Contents (Elt F) → (⟨S64x64, .f32⟩ : BufTy).Contents (Elt F) → (⟨S64x64, .f32⟩ : BufTy).Contents (Elt F))
  :: StableHlo.binary main_v169 main_v197 main_v198 (addf : (⟨S64x64, .f32⟩ : BufTy).Contents (Elt F) → (⟨S64x64, .f32⟩ : BufTy).Contents (Elt F) → (⟨S64x64, .f32⟩ : BufTy).Contents (Elt F))
  :: StableHlo.nullary main_cst_30 (constant S_ .f32 0x00000000#32)
  :: StableHlo.binary main_v195 main_cst_30 main_v199 ((fun x v => Host.reduceAdd x v reducesTo_S64x1_S64_d1 h_S_) : (⟨S64x1, .f32⟩ : BufTy).Contents (Elt F) → (⟨S_, .f32⟩ : BufTy).Contents (Elt F) → (⟨S64, .f32⟩ : BufTy).Contents (Elt F))
  :: StableHlo.binary main_v199 main_v0 main_v200 (mulf : (⟨S64, .f32⟩ : BufTy).Contents (Elt F) → (⟨S64, .f32⟩ : BufTy).Contents (Elt F) → (⟨S64, .f32⟩ : BufTy).Contents (Elt F))
  :: [] )
set_option maxHeartbeats 40000000 in
/-- Each touches TensorCore references only (`HostSeg.ofOps` over `StableHlo.tcRefs`, or a subset by `sub_ucRefs`). -/
theorem hostOps0_2_sub : (hostOps0_2 : List (HloOp τ sig (Elt F))).Forall fun op => op.bufs ⊆ StableHlo.tcRefs τ sig :=
  ⟨StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.unary_bufs_sub .., StableHlo.binary_bufs_sub .., StableHlo.reshape_bufs_sub .., StableHlo.binary_bufs_sub .., StableHlo.unary_bufs_sub .., StableHlo.binary_bufs_sub .., StableHlo.binary_bufs_sub .., StableHlo.nullary_bufs_sub .., StableHlo.binary_bufs_sub .., StableHlo.reshape_bufs_sub .., StableHlo.nullary_bufs_sub .., StableHlo.binary_bufs_sub .., StableHlo.unary_bufs_sub .., StableHlo.binary_bufs_sub .., StableHlo.binary_bufs_sub .., StableHlo.nullary_bufs_sub .., StableHlo.binary_bufs_sub .., StableHlo.reshape_bufs_sub .., StableHlo.nullary_bufs_sub .., StableHlo.binary_bufs_sub .., StableHlo.unary_bufs_sub .., StableHlo.unary_bufs_sub .., StableHlo.binary_bufs_sub .., StableHlo.binary_bufs_sub .., StableHlo.binary_bufs_sub .., StableHlo.nullary_bufs_sub .., StableHlo.binary_bufs_sub .., StableHlo.reshape_bufs_sub .., StableHlo.nullary_bufs_sub .., StableHlo.binary_bufs_sub .., StableHlo.binary_bufs_sub .., StableHlo.unary_bufs_sub .., StableHlo.binary_bufs_sub .., StableHlo.binary_bufs_sub .., StableHlo.binary_bufs_sub .., StableHlo.nullary_bufs_sub .., StableHlo.binary_bufs_sub .., StableHlo.reshape_bufs_sub .., StableHlo.nullary_bufs_sub .., StableHlo.binary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.unary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.nullary_bufs_sub .., StableHlo.binary_bufs_sub .., StableHlo.reshape_bufs_sub .., StableHlo.unary_bufs_sub .., StableHlo.binary_bufs_sub .., StableHlo.binary_bufs_sub .., StableHlo.binary_bufs_sub .., StableHlo.binary_bufs_sub .., StableHlo.binary_bufs_sub .., StableHlo.unary_bufs_sub .., StableHlo.binary_bufs_sub .., StableHlo.binary_bufs_sub .., StableHlo.nullary_bufs_sub .., StableHlo.binary_bufs_sub .., StableHlo.reshape_bufs_sub .., StableHlo.binary_bufs_sub .., StableHlo.unary_bufs_sub .., StableHlo.binary_bufs_sub .., StableHlo.binary_bufs_sub .., StableHlo.binary_bufs_sub .., StableHlo.binary_bufs_sub .., StableHlo.nullary_bufs_sub .., StableHlo.binary_bufs_sub .., StableHlo.reshape_bufs_sub .., StableHlo.binary_bufs_sub .., StableHlo.unary_bufs_sub .., StableHlo.binary_bufs_sub .., StableHlo.binary_bufs_sub .., StableHlo.nullary_bufs_sub .., StableHlo.binary_bufs_sub .., StableHlo.binary_bufs_sub ..⟩
/-- 60 host operations of @main, window 0 (statements 1 … 60), in order. -/
abbrev main_part0_ops0 : List (HloOp τ sig (Elt F)) :=
  ( StableHlo.unary main_arg4 main_v0 (Host.exp : (⟨S64, .f32⟩ : BufTy).Contents (Elt F) → (⟨S64, .f32⟩ : BufTy).Contents (Elt F))
  :: StableHlo.unary main_v0 main_v1 (broadcastInDim S64x1 ![0] bcast_S64_S64x1_0 : (⟨S64, .f32⟩ : BufTy).Contents (Elt F) → (⟨S64x1, .f32⟩ : BufTy).Contents (Elt F))
  :: StableHlo.unary main_v1 main_v2 (broadcastInDim S64x64 ![0, 1] bcast_S64x1_S64x64_0_1 : (⟨S64x1, .f32⟩ : BufTy).Contents (Elt F) → (⟨S64x64, .f32⟩ : BufTy).Contents (Elt F))
  :: StableHlo.binary main_arg2 main_v2 main_v3 (mulf : (⟨S64x64, .f32⟩ : BufTy).Contents (Elt F) → (⟨S64x64, .f32⟩ : BufTy).Contents (Elt F) → (⟨S64x64, .f32⟩ : BufTy).Contents (Elt F))
  :: StableHlo.unary main_v3 main_v4 (Host.exp : (⟨S64x64, .f32⟩ : BufTy).Contents (Elt F) → (⟨S64x64, .f32⟩ : BufTy).Contents (Elt F))
  :: StableHlo.unary main_v1 main_v5 (broadcastInDim S64x64 ![0, 1] bcast_S64x1_S64x64_0_1 : (⟨S64x1, .f32⟩ : BufTy).Contents (Elt F) → (⟨S64x64, .f32⟩ : BufTy).Contents (Elt F))
  :: StableHlo.binary main_arg3 main_v5 main_v6 (mulf : (⟨S64x64, .f32⟩ : BufTy).Contents (Elt F) → (⟨S64x64, .f32⟩ : BufTy).Contents (Elt F) → (⟨S64x64, .f32⟩ : BufTy).Contents (Elt F))
  :: StableHlo.unary main_v6 main_v7 (Host.cos : (⟨S64x64, .f32⟩ : BufTy).Contents (Elt F) → (⟨S64x64, .f32⟩ : BufTy).Contents (Elt F))
  :: StableHlo.unary main_v6 main_v8 (Host.sin : (⟨S64x64, .f32⟩ : BufTy).Contents (Elt F) → (⟨S64x64, .f32⟩ : BufTy).Contents (Elt F))
  :: StableHlo.binary main_v4 main_v7 main_v9 (mulf : (⟨S64x64, .f32⟩ : BufTy).Contents (Elt F) → (⟨S64x64, .f32⟩ : BufTy).Contents (Elt F) → (⟨S64x64, .f32⟩ : BufTy).Contents (Elt F))
  :: StableHlo.unary main_v1 main_v10 (broadcastInDim S64x64 ![0, 1] bcast_S64x1_S64x64_0_1 : (⟨S64x1, .f32⟩ : BufTy).Contents (Elt F) → (⟨S64x64, .f32⟩ : BufTy).Contents (Elt F))
  :: StableHlo.binary main_arg3 main_v10 main_v11 (mulf : (⟨S64x64, .f32⟩ : BufTy).Contents (Elt F) → (⟨S64x64, .f32⟩ : BufTy).Contents (Elt F) → (⟨S64x64, .f32⟩ : BufTy).Contents (Elt F))
  :: StableHlo.unary main_v11 main_v12 (Host.sin : (⟨S64x64, .f32⟩ : BufTy).Contents (Elt F) → (⟨S64x64, .f32⟩ : BufTy).Contents (Elt F))
  :: StableHlo.unary main_v11 main_v13 (Host.cos : (⟨S64x64, .f32⟩ : BufTy).Contents (Elt F) → (⟨S64x64, .f32⟩ : BufTy).Contents (Elt F))
  :: StableHlo.binary main_v4 main_v12 main_v14 (mulf : (⟨S64x64, .f32⟩ : BufTy).Contents (Elt F) → (⟨S64x64, .f32⟩ : BufTy).Contents (Elt F) → (⟨S64x64, .f32⟩ : BufTy).Contents (Elt F))
  :: StableHlo.binary main_arg2 main_arg2 main_v15 (mulf : (⟨S64x64, .f32⟩ : BufTy).Contents (Elt F) → (⟨S64x64, .f32⟩ : BufTy).Contents (Elt F) → (⟨S64x64, .f32⟩ : BufTy).Contents (Elt F))
  :: StableHlo.binary main_arg3 main_arg3 main_v16 (mulf : (⟨S64x64, .f32⟩ : BufTy).Contents (Elt F) → (⟨S64x64, .f32⟩ : BufTy).Contents (Elt F) → (⟨S64x64, .f32⟩ : BufTy).Contents (Elt F))
  :: StableHlo.binary main_v15 main_v16 main_v17 (addf : (⟨S64x64, .f32⟩ : BufTy).Contents (Elt F) → (⟨S64x64, .f32⟩ : BufTy).Contents (Elt F) → (⟨S64x64, .f32⟩ : BufTy).Contents (Elt F))
  :: StableHlo.nullary main_cst (constant S_ .f32 0x3F800000#32)
  :: StableHlo.unary main_cst main_v18 (broadcastInDim S64x64 ![] bcast_S_S64x64 : (⟨S_, .f32⟩ : BufTy).Contents (Elt F) → (⟨S64x64, .f32⟩ : BufTy).Contents (Elt F))
  :: StableHlo.binary main_v9 main_v18 main_v19 (subf : (⟨S64x64, .f32⟩ : BufTy).Contents (Elt F) → (⟨S64x64, .f32⟩ : BufTy).Contents (Elt F) → (⟨S64x64, .f32⟩ : BufTy).Contents (Elt F))
  :: StableHlo.binary main_v19 main_arg2 main_v20 (mulf : (⟨S64x64, .f32⟩ : BufTy).Contents (Elt F) → (⟨S64x64, .f32⟩ : BufTy).Contents (Elt F) → (⟨S64x64, .f32⟩ : BufTy).Contents (Elt F))
  :: StableHlo.binary main_v14 main_arg3 main_v21 (mulf : (⟨S64x64, .f32⟩ : BufTy).Contents (Elt F) → (⟨S64x64, .f32⟩ : BufTy).Contents (Elt F) → (⟨S64x64, .f32⟩ : BufTy).Contents (Elt F))
  :: StableHlo.binary main_v20 main_v21 main_v22 (addf : (⟨S64x64, .f32⟩ : BufTy).Contents (Elt F) → (⟨S64x64, .f32⟩ : BufTy).Contents (Elt F) → (⟨S64x64, .f32⟩ : BufTy).Contents (Elt F))
  :: StableHlo.binary main_v22 main_v17 main_v23 (Host.divf : (⟨S64x64, .f32⟩ : BufTy).Contents (Elt F) → (⟨S64x64, .f32⟩ : BufTy).Contents (Elt F) → (⟨S64x64, .f32⟩ : BufTy).Contents (Elt F))
  :: StableHlo.binary main_v17 main_v17 main_v24 (mulf : (⟨S64x64, .f32⟩ : BufTy).Contents (Elt F) → (⟨S64x64, .f32⟩ : BufTy).Contents (Elt F) → (⟨S64x64, .f32⟩ : BufTy).Contents (Elt F))
  :: StableHlo.nullary main_cst_0 (constant S_ .f32 0x3F800000#32)
  :: StableHlo.unary main_cst_0 main_v25 (broadcastInDim S64x64 ![] bcast_S_S64x64 : (⟨S_, .f32⟩ : BufTy).Contents (Elt F) → (⟨S64x64, .f32⟩ : BufTy).Contents (Elt F))
  :: StableHlo.binary main_v25 main_v24 main_v26 (Host.divf : (⟨S64x64, .f32⟩ : BufTy).Contents (Elt F) → (⟨S64x64, .f32⟩ : BufTy).Contents (Elt F) → (⟨S64x64, .f32⟩ : BufTy).Contents (Elt F))
  :: StableHlo.binary main_v14 main_arg2 main_v27 (mulf : (⟨S64x64, .f32⟩ : BufTy).Contents (Elt F) → (⟨S64x64, .f32⟩ : BufTy).Contents (Elt F) → (⟨S64x64, .f32⟩ : BufTy).Contents (Elt F))
  :: StableHlo.nullary main_cst_1 (constant S_ .f32 0x3F800000#32)
  :: StableHlo.unary main_cst_1 main_v28 (broadcastInDim S64x64 ![] bcast_S_S64x64 : (⟨S_, .f32⟩ : BufTy).Contents (Elt F) → (⟨S64x64, .f32⟩ : BufTy).Contents (Elt F))
  :: StableHlo.binary main_v9 main_v28 main_v29 (subf : (⟨S64x64, .f32⟩ : BufTy).Contents (Elt F) → (⟨S64x64, .f32⟩ : BufTy).Contents (Elt F) → (⟨S64x64, .f32⟩ : BufTy).Contents (Elt F))
  :: StableHlo.binary main_v29 main_arg3 main_v30 (mulf : (⟨S64x64, .f32⟩ : BufTy).Contents (Elt F) → (⟨S64x64, .f32⟩ : BufTy).Contents (Elt F) → (⟨S64x64, .f32⟩ : BufTy).Contents (Elt F))
  :: StableHlo.binary main_v27 main_v30 main_v31 (subf : (⟨S64x64, .f32⟩ : BufTy).Contents (Elt F) → (⟨S64x64, .f32⟩ : BufTy).Contents (Elt F) → (⟨S64x64, .f32⟩ : BufTy).Contents (Elt F))
  :: StableHlo.binary main_v31 main_v17 main_v32 (Host.divf : (⟨S64x64, .f32⟩ : BufTy).Contents (Elt F) → (⟨S64x64, .f32⟩ : BufTy).Contents (Elt F) → (⟨S64x64, .f32⟩ : BufTy).Contents (Elt F))
  :: StableHlo.binary main_v17 main_v17 main_v33 (mulf : (⟨S64x64, .f32⟩ : BufTy).Contents (Elt F) → (⟨S64x64, .f32⟩ : BufTy).Contents (Elt F) → (⟨S64x64, .f32⟩ : BufTy).Contents (Elt F))
  :: StableHlo.nullary main_cst_2 (constant S_ .f32 0x3F800000#32)
  :: StableHlo.unary main_cst_2 main_v34 (broadcastInDim S64x64 ![] bcast_S_S64x64 : (⟨S_, .f32⟩ : BufTy).Contents (Elt F) → (⟨S64x64, .f32⟩ : BufTy).Contents (Elt F))
  :: StableHlo.binary main_v34 main_v33 main_v35 (Host.divf : (⟨S64x64, .f32⟩ : BufTy).Contents (Elt F) → (⟨S64x64, .f32⟩ : BufTy).Contents (Elt F) → (⟨S64x64, .f32⟩ : BufTy).Contents (Elt F))
  :: StableHlo.unary main_v23 main_v36 (broadcastInDim S64x64x1 ![0, 1] bcast_S64x64_S64x64x1_0_1 : (⟨S64x64, .f32⟩ : BufTy).Contents (Elt F) → (⟨S64x64x1, .f32⟩ : BufTy).Contents (Elt F))
  :: StableHlo.unary main_v36 main_v37 (broadcastInDim S64x64x16 ![0, 1, 2] bcast_S64x64x1_S64x64x16_0_1_2 : (⟨S64x64x1, .f32⟩ : BufTy).Contents (Elt F) → (⟨S64x64x16, .f32⟩ : BufTy).Contents (Elt F))
  :: StableHlo.binary main_v37 main_arg5 main_v38 (mulf : (⟨S64x64x16, .f32⟩ : BufTy).Contents (Elt F) → (⟨S64x64x16, .f32⟩ : BufTy).Contents (Elt F) → (⟨S64x64x16, .f32⟩ : BufTy).Contents (Elt F))
  :: StableHlo.unary main_v32 main_v39 (broadcastInDim S64x64x1 ![0, 1] bcast_S64x64_S64x64x1_0_1 : (⟨S64x64, .f32⟩ : BufTy).Contents (Elt F) → (⟨S64x64x1, .f32⟩ : BufTy).Contents (Elt F))
  :: StableHlo.unary main_v39 main_v40 (broadcastInDim S64x64x16 ![0, 1, 2] bcast_S64x64x1_S64x64x16_0_1_2 : (⟨S64x64x1, .f32⟩ : BufTy).Contents (Elt F) → (⟨S64x64x16, .f32⟩ : BufTy).Contents (Elt F))
  :: StableHlo.binary main_v40 main_arg6 main_v41 (mulf : (⟨S64x64x16, .f32⟩ : BufTy).Contents (Elt F) → (⟨S64x64x16, .f32⟩ : BufTy).Contents (Elt F) → (⟨S64x64x16, .f32⟩ : BufTy).Contents (Elt F))
  :: StableHlo.binary main_v38 main_v41 main_v42 (subf : (⟨S64x64x16, .f32⟩ : BufTy).Contents (Elt F) → (⟨S64x64x16, .f32⟩ : BufTy).Contents (Elt F) → (⟨S64x64x16, .f32⟩ : BufTy).Contents (Elt F))
  :: StableHlo.unary main_v23 main_v43 (broadcastInDim S64x64x1 ![0, 1] bcast_S64x64_S64x64x1_0_1 : (⟨S64x64, .f32⟩ : BufTy).Contents (Elt F) → (⟨S64x64x1, .f32⟩ : BufTy).Contents (Elt F))
  :: StableHlo.unary main_v43 main_v44 (broadcastInDim S64x64x16 ![0, 1, 2] bcast_S64x64x1_S64x64x16_0_1_2 : (⟨S64x64x1, .f32⟩ : BufTy).Contents (Elt F) → (⟨S64x64x16, .f32⟩ : BufTy).Contents (Elt F))
  :: StableHlo.binary main_v44 main_arg6 main_v45 (mulf : (⟨S64x64x16, .f32⟩ : BufTy).Contents (Elt F) → (⟨S64x64x16, .f32⟩ : BufTy).Contents (Elt F) → (⟨S64x64x16, .f32⟩ : BufTy).Contents (Elt F))
  :: StableHlo.unary main_v32 main_v46 (broadcastInDim S64x64x1 ![0, 1] bcast_S64x64_S64x64x1_0_1 : (⟨S64x64, .f32⟩ : BufTy).Contents (Elt F) → (⟨S64x64x1, .f32⟩ : BufTy).Contents (Elt F))
  :: StableHlo.unary main_v46 main_v47 (broadcastInDim S64x64x16 ![0, 1, 2] bcast_S64x64x1_S64x64x16_0_1_2 : (⟨S64x64x1, .f32⟩ : BufTy).Contents (Elt F) → (⟨S64x64x16, .f32⟩ : BufTy).Contents (Elt F))
  :: StableHlo.binary main_v47 main_arg5 main_v48 (mulf : (⟨S64x64x16, .f32⟩ : BufTy).Contents (Elt F) → (⟨S64x64x16, .f32⟩ : BufTy).Contents (Elt F) → (⟨S64x64x16, .f32⟩ : BufTy).Contents (Elt F))
  :: StableHlo.binary main_v45 main_v48 main_v49 (addf : (⟨S64x64x16, .f32⟩ : BufTy).Contents (Elt F) → (⟨S64x64x16, .f32⟩ : BufTy).Contents (Elt F) → (⟨S64x64x16, .f32⟩ : BufTy).Contents (Elt F))
  :: StableHlo.reshape main_arg0 main_v50 (rfl : (.f32 : EltTy) = .f32) shapeCasts_S2048x1024_S2048x64x16
  :: StableHlo.binary main_v50 main_v42 main_v51 ((fun l r => Host.dotGeneral dot_S2048x64x16_S64x64x16_S64x2048x64_2_2_0_1_1_0 none l r) : (⟨S2048x64x16, .f32⟩ : BufTy).Contents (Elt F) → (⟨S64x64x16, .f32⟩ : BufTy).Contents (Elt F) → (⟨S64x2048x64, .f32⟩ : BufTy).Contents (Elt F))
  :: StableHlo.unary main_v51 main_v52 ((transpose S2048x64x64 [1, 0, 2] · transposes_S64x2048x64_S2048x64x64_1_0_2) : (⟨S64x2048x64, .f32⟩ : BufTy).Contents (Elt F) → (⟨S2048x64x64, .f32⟩ : BufTy).Contents (Elt F))
  :: StableHlo.binary main_v50 main_v49 main_v53 ((fun l r => Host.dotGeneral dot_S2048x64x16_S64x64x16_S64x2048x64_2_2_0_1_1_0 none l r) : (⟨S2048x64x16, .f32⟩ : BufTy).Contents (Elt F) → (⟨S64x64x16, .f32⟩ : BufTy).Contents (Elt F) → (⟨S64x2048x64, .f32⟩ : BufTy).Contents (Elt F))
  :: StableHlo.unary main_v53 main_v54 ((transpose S2048x64x64 [1, 0, 2] · transposes_S64x2048x64_S2048x64x64_1_0_2) : (⟨S64x2048x64, .f32⟩ : BufTy).Contents (Elt F) → (⟨S2048x64x64, .f32⟩ : BufTy).Contents (Elt F))
  :: StableHlo.nullary main_cst_3 (constant S_ .f32 0x00000000#32)
  :: [] )
/-- Each touches TensorCore references only (`HostSeg.ofOps` over `StableHlo.tcRefs`, or a subset by `sub_ucRefs`). -/
theorem main_part0_ops0_sub : (main_part0_ops0 : List (HloOp τ sig (Elt F))).Forall fun op => op.bufs ⊆ StableHlo.tcRefs τ sig :=
  ⟨StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.reshape_bufs_sub .., StableHlo.binary_bufs_sub .., StableHlo.unary_bufs_sub .., StableHlo.binary_bufs_sub .., StableHlo.unary_bufs_sub .., StableHlo.nullary_bufs_sub ..⟩
/-- Window 0 of `main` (`main_part0`, statements 1 … 60) is the chain of ITS items ending in the last
    (`Pipeline.chainK`: no closing `pure`, the window's last statement being in tail position), by `chain_rfl`. -/
theorem main_part0_chain (c : Dev nD) : main_part0 (F := F) c = (Pipeline.chainK
  [  ]
  (StableHlo.seq main_part0_ops0) : Prog (TpuEff nD τ sig (Elt F) (HostLoop.Sig (Pipeline.Sig Λ₀ (Fin 0) fun p => (pcfgs (F := F) p).Adm) 2) .tc) PUnit) := by
  chain_rfl

/-- 21 host operations of @main, window 1 (statements 61 … 120), in order. -/
abbrev main_part1_ops0 : List (HloOp τ sig (Elt F)) :=
  [ StableHlo.unary main_cst_3 main_v55 (broadcastInDim S64x64 ![] bcast_S_S64x64 : (⟨S_, .f32⟩ : BufTy).Contents (Elt F) → (⟨S64x64, .f32⟩ : BufTy).Contents (Elt F)),
    StableHlo.nullary main_cst_4 (constant S_ .f32 0x00000000#32),
    StableHlo.unary main_cst_4 main_v56 (broadcastInDim S2048x64x64 ![] bcast_S_S2048x64x64 : (⟨S_, .f32⟩ : BufTy).Contents (Elt F) → (⟨S2048x64x64, .f32⟩ : BufTy).Contents (Elt F)),
    StableHlo.nullary main_cst_5 (constant S_ .f32 0x00000000#32),
    StableHlo.unary main_cst_5 main_v57 (broadcastInDim S2048x64x64 ![] bcast_S_S2048x64x64 : (⟨S_, .f32⟩ : BufTy).Contents (Elt F) → (⟨S2048x64x64, .f32⟩ : BufTy).Contents (Elt F)),
    StableHlo.nullary main_cst_6 (constant S_ .f32 0x00000000#32),
    StableHlo.unary main_cst_6 main_v58 (broadcastInDim S2048x64x64 ![] bcast_S_S2048x64x64 : (⟨S_, .f32⟩ : BufTy).Contents (Elt F) → (⟨S2048x64x64, .f32⟩ : BufTy).Contents (Elt F)),
    StableHlo.nullary main_cst_7 (constant S_ .f32 0x00000000#32),
    StableHlo.unary main_cst_7 main_v59 (broadcastInDim S2048x64x64 ![] bcast_S_S2048x64x64 : (⟨S_, .f32⟩ : BufTy).Contents (Elt F) → (⟨S2048x64x64, .f32⟩ : BufTy).Contents (Elt F)),
    StableHlo.nullary main_c (constantI S_ 32 0#32),
    StableHlo.unary main_v52 main_v60_0 id,
    StableHlo.unary main_v54 main_v60_1 id,
    StableHlo.unary main_v9 main_v60_2 id,
    StableHlo.unary main_v14 main_v60_3 id,
    StableHlo.unary main_c main_v60_4 id,
    StableHlo.unary main_v55 main_v60_5 id,
    StableHlo.unary main_v55 main_v60_6 id,
    StableHlo.unary main_v56 main_v60_7 id,
    StableHlo.unary main_v57 main_v60_8 id,
    StableHlo.unary main_v58 main_v60_9 id,
    StableHlo.unary main_v59 main_v60_10 id ]
/-- Each touches TensorCore references only (`HostSeg.ofOps` over `StableHlo.tcRefs`, or a subset by `sub_ucRefs`). -/
theorem main_part1_ops0_sub : (main_part1_ops0 : List (HloOp τ sig (Elt F))).Forall fun op => op.bufs ⊆ StableHlo.tcRefs τ sig :=
  ⟨StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- 38 host operations of @main, window 1 (statements 61 … 120), in order. -/
abbrev main_part1_ops1 : List (HloOp τ sig (Elt F)) :=
  ( StableHlo.binary main_v60_7 main_arg7 main_v61 ((fun l r => Host.dotGeneral dot_S2048x64x64_S64x16x64_S64x2048x16_2_2_0_1_1_0 none l r) : (⟨S2048x64x64, .f32⟩ : BufTy).Contents (Elt F) → (⟨S64x16x64, .f32⟩ : BufTy).Contents (Elt F) → (⟨S64x2048x16, .f32⟩ : BufTy).Contents (Elt F))
  :: StableHlo.unary main_v61 main_v62 ((transpose S2048x64x16 [1, 0, 2] · transposes_S64x2048x16_S2048x64x16_1_0_2) : (⟨S64x2048x16, .f32⟩ : BufTy).Contents (Elt F) → (⟨S2048x64x16, .f32⟩ : BufTy).Contents (Elt F))
  :: StableHlo.binary main_v60_8 main_arg8 main_v63 ((fun l r => Host.dotGeneral dot_S2048x64x64_S64x16x64_S64x2048x16_2_2_0_1_1_0 none l r) : (⟨S2048x64x64, .f32⟩ : BufTy).Contents (Elt F) → (⟨S64x16x64, .f32⟩ : BufTy).Contents (Elt F) → (⟨S64x2048x16, .f32⟩ : BufTy).Contents (Elt F))
  :: StableHlo.unary main_v63 main_v64 ((transpose S2048x64x16 [1, 0, 2] · transposes_S64x2048x16_S2048x64x16_1_0_2) : (⟨S64x2048x16, .f32⟩ : BufTy).Contents (Elt F) → (⟨S2048x64x16, .f32⟩ : BufTy).Contents (Elt F))
  :: StableHlo.binary main_v62 main_v64 main_v65 (subf : (⟨S2048x64x16, .f32⟩ : BufTy).Contents (Elt F) → (⟨S2048x64x16, .f32⟩ : BufTy).Contents (Elt F) → (⟨S2048x64x16, .f32⟩ : BufTy).Contents (Elt F))
  :: StableHlo.reshape main_v65 main_v66 (rfl : (.f32 : EltTy) = .f32) shapeCasts_S2048x64x16_S2048x1024
  :: StableHlo.unary main_arg9 main_v67 (broadcastInDim S1x1024 ![1] bcast_S1024_S1x1024_1 : (⟨S1024, .f32⟩ : BufTy).Contents (Elt F) → (⟨S1x1024, .f32⟩ : BufTy).Contents (Elt F))
  :: StableHlo.unary main_v67 main_v68 (broadcastInDim S2048x1024 ![0, 1] bcast_S1x1024_S2048x1024_0_1 : (⟨S1x1024, .f32⟩ : BufTy).Contents (Elt F) → (⟨S2048x1024, .f32⟩ : BufTy).Contents (Elt F))
  :: StableHlo.binary main_v68 main_arg0 main_v69 (mulf : (⟨S2048x1024, .f32⟩ : BufTy).Contents (Elt F) → (⟨S2048x1024, .f32⟩ : BufTy).Contents (Elt F) → (⟨S2048x1024, .f32⟩ : BufTy).Contents (Elt F))
  :: StableHlo.binary main_v66 main_v69 main_v70 (addf : (⟨S2048x1024, .f32⟩ : BufTy).Contents (Elt F) → (⟨S2048x1024, .f32⟩ : BufTy).Contents (Elt F) → (⟨S2048x1024, .f32⟩ : BufTy).Contents (Elt F))
  :: StableHlo.nullary main_cst_8 (constant S_ .f32 0x00000000#32)
  :: StableHlo.unary main_cst_8 main_v71 (broadcastInDim S64x64 ![] bcast_S_S64x64 : (⟨S_, .f32⟩ : BufTy).Contents (Elt F) → (⟨S64x64, .f32⟩ : BufTy).Contents (Elt F))
  :: StableHlo.nullary main_cst_9 (constant S_ .f32 0x00000000#32)
  :: StableHlo.unary main_cst_9 main_v72 (broadcastInDim S64x64 ![] bcast_S_S64x64 : (⟨S_, .f32⟩ : BufTy).Contents (Elt F) → (⟨S64x64, .f32⟩ : BufTy).Contents (Elt F))
  :: StableHlo.reshape main_arg1 main_v73 (rfl : (.f32 : EltTy) = .f32) shapeCasts_S2048x1024_S2048x1024
  :: StableHlo.reshape main_arg1 main_v74 (rfl : (.f32 : EltTy) = .f32) shapeCasts_S2048x1024_S2048x1024
  :: StableHlo.unary main_v67 main_v75 (broadcastInDim S2048x1024 ![0, 1] bcast_S1x1024_S2048x1024_0_1 : (⟨S1x1024, .f32⟩ : BufTy).Contents (Elt F) → (⟨S2048x1024, .f32⟩ : BufTy).Contents (Elt F))
  :: StableHlo.binary main_v75 main_v74 main_v76 (mulf : (⟨S2048x1024, .f32⟩ : BufTy).Contents (Elt F) → (⟨S2048x1024, .f32⟩ : BufTy).Contents (Elt F) → (⟨S2048x1024, .f32⟩ : BufTy).Contents (Elt F))
  :: StableHlo.binary main_v74 main_arg0 main_v77 (mulf : (⟨S2048x1024, .f32⟩ : BufTy).Contents (Elt F) → (⟨S2048x1024, .f32⟩ : BufTy).Contents (Elt F) → (⟨S2048x1024, .f32⟩ : BufTy).Contents (Elt F))
  :: StableHlo.nullary main_cst_10 (constant S_ .f32 0x00000000#32)
  :: StableHlo.binary main_v77 main_cst_10 main_v78 ((fun x v => Host.reduceAdd x v reducesTo_S2048x1024_S1024_d0 h_S_) : (⟨S2048x1024, .f32⟩ : BufTy).Contents (Elt F) → (⟨S_, .f32⟩ : BufTy).Contents (Elt F) → (⟨S1024, .f32⟩ : BufTy).Contents (Elt F))
  :: StableHlo.reshape main_v78 main_v79 (rfl : (.f32 : EltTy) = .f32) shapeCasts_S1024_S1x1024
  :: StableHlo.nullary main_cst_11 (constant S_ .f32 0x00000000#32)
  :: StableHlo.binary main_v79 main_cst_11 main_v80 ((fun x v => Host.reduceAdd x v reducesTo_S1x1024_S1024_d0 h_S_) : (⟨S1x1024, .f32⟩ : BufTy).Contents (Elt F) → (⟨S_, .f32⟩ : BufTy).Contents (Elt F) → (⟨S1024, .f32⟩ : BufTy).Contents (Elt F))
  :: StableHlo.reshape main_v73 main_v81 (rfl : (.f32 : EltTy) = .f32) shapeCasts_S2048x1024_S2048x64x16
  :: StableHlo.unary main_v81 main_v82 (Host.negf : (⟨S2048x64x16, .f32⟩ : BufTy).Contents (Elt F) → (⟨S2048x64x16, .f32⟩ : BufTy).Contents (Elt F))
  :: StableHlo.unary main_v82 main_v83 ((transpose S64x2048x16 [1, 0, 2] · transposes_S2048x64x16_S64x2048x16_1_0_2) : (⟨S2048x64x16, .f32⟩ : BufTy).Contents (Elt F) → (⟨S64x2048x16, .f32⟩ : BufTy).Contents (Elt F))
  :: StableHlo.binary main_v83 main_v60_8 main_v84 ((fun l r => Host.dotGeneral dot_S64x2048x16_S2048x64x64_S64x16x64_1_0_2_2_0_1 none l r) : (⟨S64x2048x16, .f32⟩ : BufTy).Contents (Elt F) → (⟨S2048x64x64, .f32⟩ : BufTy).Contents (Elt F) → (⟨S64x16x64, .f32⟩ : BufTy).Contents (Elt F))
  :: StableHlo.binary main_v83 main_arg8 main_v85 ((fun l r => Host.dotGeneral dot_S64x2048x16_S64x16x64_S64x2048x64_2_1_1_2_0_0 none l r) : (⟨S64x2048x16, .f32⟩ : BufTy).Contents (Elt F) → (⟨S64x16x64, .f32⟩ : BufTy).Contents (Elt F) → (⟨S64x2048x64, .f32⟩ : BufTy).Contents (Elt F))
  :: StableHlo.unary main_v85 main_v86 ((transpose S2048x64x64 [1, 0, 2] · transposes_S64x2048x64_S2048x64x64_1_0_2) : (⟨S64x2048x64, .f32⟩ : BufTy).Contents (Elt F) → (⟨S2048x64x64, .f32⟩ : BufTy).Contents (Elt F))
  :: StableHlo.unary main_v81 main_v87 ((transpose S64x2048x16 [1, 0, 2] · transposes_S2048x64x16_S64x2048x16_1_0_2) : (⟨S2048x64x16, .f32⟩ : BufTy).Contents (Elt F) → (⟨S64x2048x16, .f32⟩ : BufTy).Contents (Elt F))
  :: StableHlo.binary main_v87 main_v60_7 main_v88 ((fun l r => Host.dotGeneral dot_S64x2048x16_S2048x64x64_S64x16x64_1_0_2_2_0_1 none l r) : (⟨S64x2048x16, .f32⟩ : BufTy).Contents (Elt F) → (⟨S2048x64x64, .f32⟩ : BufTy).Contents (Elt F) → (⟨S64x16x64, .f32⟩ : BufTy).Contents (Elt F))
  :: StableHlo.binary main_v87 main_arg7 main_v89 ((fun l r => Host.dotGeneral dot_S64x2048x16_S64x16x64_S64x2048x64_2_1_1_2_0_0 none l r) : (⟨S64x2048x16, .f32⟩ : BufTy).Contents (Elt F) → (⟨S64x16x64, .f32⟩ : BufTy).Contents (Elt F) → (⟨S64x2048x64, .f32⟩ : BufTy).Contents (Elt F))
  :: StableHlo.unary main_v89 main_v90 ((transpose S2048x64x64 [1, 0, 2] · transposes_S64x2048x64_S2048x64x64_1_0_2) : (⟨S64x2048x64, .f32⟩ : BufTy).Contents (Elt F) → (⟨S2048x64x64, .f32⟩ : BufTy).Contents (Elt F))
  :: StableHlo.nullary main_cst_12 (constant S_ .f32 0x00000000#32)
  :: StableHlo.unary main_cst_12 main_v91 (broadcastInDim S64x64 ![] bcast_S_S64x64 : (⟨S_, .f32⟩ : BufTy).Contents (Elt F) → (⟨S64x64, .f32⟩ : BufTy).Contents (Elt F))
  :: StableHlo.nullary main_cst_13 (constant S_ .f32 0x00000000#32)
  :: StableHlo.unary main_cst_13 main_v92 (broadcastInDim S64x64 ![] bcast_S_S64x64 : (⟨S_, .f32⟩ : BufTy).Contents (Elt F) → (⟨S64x64, .f32⟩ : BufTy).Contents (Elt F))
  :: [] )
/-- Each touches TensorCore references only (`HostSeg.ofOps` over `StableHlo.tcRefs`, or a subset by `sub_ucRefs`). -/
theorem main_part1_ops1_sub : (main_part1_ops1 : List (HloOp τ sig (Elt F))).Forall fun op => op.bufs ⊆ StableHlo.tcRefs τ sig :=
  ⟨StableHlo.binary_bufs_sub .., StableHlo.unary_bufs_sub .., StableHlo.binary_bufs_sub .., StableHlo.unary_bufs_sub .., StableHlo.binary_bufs_sub .., StableHlo.reshape_bufs_sub .., StableHlo.unary_bufs_sub .., StableHlo.unary_bufs_sub .., StableHlo.binary_bufs_sub .., StableHlo.binary_bufs_sub .., StableHlo.nullary_bufs_sub .., StableHlo.unary_bufs_sub .., StableHlo.nullary_bufs_sub .., StableHlo.unary_bufs_sub .., StableHlo.reshape_bufs_sub .., StableHlo.reshape_bufs_sub .., StableHlo.unary_bufs_sub .., StableHlo.binary_bufs_sub .., StableHlo.binary_bufs_sub .., StableHlo.nullary_bufs_sub .., StableHlo.binary_bufs_sub .., StableHlo.reshape_bufs_sub .., StableHlo.nullary_bufs_sub .., StableHlo.binary_bufs_sub .., StableHlo.reshape_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.unary_bufs_sub .., StableHlo.nullary_bufs_sub .., StableHlo.unary_bufs_sub .., StableHlo.nullary_bufs_sub .., StableHlo.unary_bufs_sub ..⟩
/-- Window 1 of `main` (`main_part1`, statements 61 … 120) is the chain of ITS items ending in the last
    (`Pipeline.chainK`: no closing `pure`, the window's last statement being in tail position), each item but the last aligned with the
    window's statements, then `chain_rfl`. -/
theorem main_part1_chain (c : Dev nD) : main_part1 (F := F) c = (Pipeline.chainK
  [ StableHlo.seq main_part1_ops0,
    HostLoop.enter 0 ]
  (StableHlo.seq main_part1_ops1) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons]
  chain_rfl

/-- 22 host operations of @main, window 2 (statements 121 … 180), in order. -/
abbrev main_part2_ops0 : List (HloOp τ sig (Elt F)) :=
  [ StableHlo.nullary main_cst_14 (constant S_ .f32 0x00000000#32),
    StableHlo.unary main_cst_14 main_v93 (broadcastInDim S64x64 ![] bcast_S_S64x64 : (⟨S_, .f32⟩ : BufTy).Contents (Elt F) → (⟨S64x64, .f32⟩ : BufTy).Contents (Elt F)),
    StableHlo.nullary main_cst_15 (constant S_ .f32 0x00000000#32),
    StableHlo.unary main_cst_15 main_v94 (broadcastInDim S64x64 ![] bcast_S_S64x64 : (⟨S_, .f32⟩ : BufTy).Contents (Elt F) → (⟨S64x64, .f32⟩ : BufTy).Contents (Elt F)),
    StableHlo.nullary main_cst_16 (constant S_ .f32 0x00000000#32),
    StableHlo.unary main_cst_16 main_v95 (broadcastInDim S2048x64x64 ![] bcast_S_S2048x64x64 : (⟨S_, .f32⟩ : BufTy).Contents (Elt F) → (⟨S2048x64x64, .f32⟩ : BufTy).Contents (Elt F)),
    StableHlo.nullary main_cst_17 (constant S_ .f32 0x00000000#32),
    StableHlo.unary main_cst_17 main_v96 (broadcastInDim S2048x64x64 ![] bcast_S_S2048x64x64 : (⟨S_, .f32⟩ : BufTy).Contents (Elt F) → (⟨S2048x64x64, .f32⟩ : BufTy).Contents (Elt F)),
    StableHlo.nullary main_c_18 (constantI S_ 32 0#32),
    StableHlo.unary main_v90 main_v97_0 id,
    StableHlo.unary main_v86 main_v97_1 id,
    StableHlo.unary main_v60_9 main_v97_2 id,
    StableHlo.unary main_v60_10 main_v97_3 id,
    StableHlo.unary main_v9 main_v97_4 id,
    StableHlo.unary main_v14 main_v97_5 id,
    StableHlo.unary main_c_18 main_v97_6 id,
    StableHlo.unary main_v93 main_v97_7 id,
    StableHlo.unary main_v94 main_v97_8 id,
    StableHlo.unary main_v91 main_v97_9 id,
    StableHlo.unary main_v92 main_v97_10 id,
    StableHlo.unary main_v95 main_v97_11 id,
    StableHlo.unary main_v96 main_v97_12 id ]
/-- Each touches TensorCore references only (`HostSeg.ofOps` over `StableHlo.tcRefs`, or a subset by `sub_ucRefs`). -/
theorem main_part2_ops0_sub : (main_part2_ops0 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- 37 host operations of @main, window 2 (statements 121 … 180), in order. -/
abbrev main_part2_ops1 : List (HloOp τ sig (Elt F)) :=
  ( StableHlo.unary main_v97_12 main_v98 ((transpose S64x2048x64 [1, 0, 2] · transposes_S2048x64x64_S64x2048x64_1_0_2) : (⟨S2048x64x64, .f32⟩ : BufTy).Contents (Elt F) → (⟨S64x2048x64, .f32⟩ : BufTy).Contents (Elt F))
  :: StableHlo.binary main_v98 main_v50 main_v99 ((fun l r => Host.dotGeneral dot_S64x2048x64_S2048x64x16_S64x64x16_1_0_2_2_0_1 none l r) : (⟨S64x2048x64, .f32⟩ : BufTy).Contents (Elt F) → (⟨S2048x64x16, .f32⟩ : BufTy).Contents (Elt F) → (⟨S64x64x16, .f32⟩ : BufTy).Contents (Elt F))
  :: StableHlo.binary main_v98 main_v49 main_v100 ((fun l r => Host.dotGeneral dot_S64x2048x64_S64x64x16_S64x2048x16_2_1_1_2_0_0 none l r) : (⟨S64x2048x64, .f32⟩ : BufTy).Contents (Elt F) → (⟨S64x64x16, .f32⟩ : BufTy).Contents (Elt F) → (⟨S64x2048x16, .f32⟩ : BufTy).Contents (Elt F))
  :: StableHlo.unary main_v100 main_v101 ((transpose S2048x64x16 [1, 0, 2] · transposes_S64x2048x16_S2048x64x16_1_0_2) : (⟨S64x2048x16, .f32⟩ : BufTy).Contents (Elt F) → (⟨S2048x64x16, .f32⟩ : BufTy).Contents (Elt F))
  :: StableHlo.unary main_v97_11 main_v102 ((transpose S64x2048x64 [1, 0, 2] · transposes_S2048x64x64_S64x2048x64_1_0_2) : (⟨S2048x64x64, .f32⟩ : BufTy).Contents (Elt F) → (⟨S64x2048x64, .f32⟩ : BufTy).Contents (Elt F))
  :: StableHlo.binary main_v102 main_v50 main_v103 ((fun l r => Host.dotGeneral dot_S64x2048x64_S2048x64x16_S64x64x16_1_0_2_2_0_1 none l r) : (⟨S64x2048x64, .f32⟩ : BufTy).Contents (Elt F) → (⟨S2048x64x16, .f32⟩ : BufTy).Contents (Elt F) → (⟨S64x64x16, .f32⟩ : BufTy).Contents (Elt F))
  :: StableHlo.binary main_v102 main_v42 main_v104 ((fun l r => Host.dotGeneral dot_S64x2048x64_S64x64x16_S64x2048x16_2_1_1_2_0_0 none l r) : (⟨S64x2048x64, .f32⟩ : BufTy).Contents (Elt F) → (⟨S64x64x16, .f32⟩ : BufTy).Contents (Elt F) → (⟨S64x2048x16, .f32⟩ : BufTy).Contents (Elt F))
  :: StableHlo.unary main_v104 main_v105 ((transpose S2048x64x16 [1, 0, 2] · transposes_S64x2048x16_S2048x64x16_1_0_2) : (⟨S64x2048x16, .f32⟩ : BufTy).Contents (Elt F) → (⟨S2048x64x16, .f32⟩ : BufTy).Contents (Elt F))
  :: StableHlo.binary main_v101 main_v105 main_v106 (addf : (⟨S2048x64x16, .f32⟩ : BufTy).Contents (Elt F) → (⟨S2048x64x16, .f32⟩ : BufTy).Contents (Elt F) → (⟨S2048x64x16, .f32⟩ : BufTy).Contents (Elt F))
  :: StableHlo.reshape main_v106 main_v107 (rfl : (.f32 : EltTy) = .f32) shapeCasts_S2048x64x16_S2048x1024
  :: StableHlo.binary main_v76 main_v107 main_v108 (addf : (⟨S2048x1024, .f32⟩ : BufTy).Contents (Elt F) → (⟨S2048x1024, .f32⟩ : BufTy).Contents (Elt F) → (⟨S2048x1024, .f32⟩ : BufTy).Contents (Elt F))
  :: StableHlo.unary main_v46 main_v109 (broadcastInDim S64x64x16 ![0, 1, 2] bcast_S64x64x1_S64x64x16_0_1_2 : (⟨S64x64x1, .f32⟩ : BufTy).Contents (Elt F) → (⟨S64x64x16, .f32⟩ : BufTy).Contents (Elt F))
  :: StableHlo.binary main_v109 main_v99 main_v110 (mulf : (⟨S64x64x16, .f32⟩ : BufTy).Contents (Elt F) → (⟨S64x64x16, .f32⟩ : BufTy).Contents (Elt F) → (⟨S64x64x16, .f32⟩ : BufTy).Contents (Elt F))
  :: StableHlo.binary main_v99 main_arg5 main_v111 (mulf : (⟨S64x64x16, .f32⟩ : BufTy).Contents (Elt F) → (⟨S64x64x16, .f32⟩ : BufTy).Contents (Elt F) → (⟨S64x64x16, .f32⟩ : BufTy).Contents (Elt F))
  :: StableHlo.nullary main_cst_19 (constant S_ .f32 0x00000000#32)
  :: StableHlo.binary main_v111 main_cst_19 main_v112 ((fun x v => Host.reduceAdd x v reducesTo_S64x64x16_S64x64_d2 h_S_) : (⟨S64x64x16, .f32⟩ : BufTy).Contents (Elt F) → (⟨S_, .f32⟩ : BufTy).Contents (Elt F) → (⟨S64x64, .f32⟩ : BufTy).Contents (Elt F))
  :: StableHlo.reshape main_v112 main_v113 (rfl : (.f32 : EltTy) = .f32) shapeCasts_S64x64_S64x64x1
  :: StableHlo.nullary main_cst_20 (constant S_ .f32 0x00000000#32)
  :: StableHlo.binary main_v113 main_cst_20 main_v114 ((fun x v => Host.reduceAdd x v reducesTo_S64x64x1_S64x64_d2 h_S_) : (⟨S64x64x1, .f32⟩ : BufTy).Contents (Elt F) → (⟨S_, .f32⟩ : BufTy).Contents (Elt F) → (⟨S64x64, .f32⟩ : BufTy).Contents (Elt F))
  :: StableHlo.unary main_v43 main_v115 (broadcastInDim S64x64x16 ![0, 1, 2] bcast_S64x64x1_S64x64x16_0_1_2 : (⟨S64x64x1, .f32⟩ : BufTy).Contents (Elt F) → (⟨S64x64x16, .f32⟩ : BufTy).Contents (Elt F))
  :: StableHlo.binary main_v115 main_v99 main_v116 (mulf : (⟨S64x64x16, .f32⟩ : BufTy).Contents (Elt F) → (⟨S64x64x16, .f32⟩ : BufTy).Contents (Elt F) → (⟨S64x64x16, .f32⟩ : BufTy).Contents (Elt F))
  :: StableHlo.binary main_v99 main_arg6 main_v117 (mulf : (⟨S64x64x16, .f32⟩ : BufTy).Contents (Elt F) → (⟨S64x64x16, .f32⟩ : BufTy).Contents (Elt F) → (⟨S64x64x16, .f32⟩ : BufTy).Contents (Elt F))
  :: StableHlo.nullary main_cst_21 (constant S_ .f32 0x00000000#32)
  :: StableHlo.binary main_v117 main_cst_21 main_v118 ((fun x v => Host.reduceAdd x v reducesTo_S64x64x16_S64x64_d2 h_S_) : (⟨S64x64x16, .f32⟩ : BufTy).Contents (Elt F) → (⟨S_, .f32⟩ : BufTy).Contents (Elt F) → (⟨S64x64, .f32⟩ : BufTy).Contents (Elt F))
  :: StableHlo.reshape main_v118 main_v119 (rfl : (.f32 : EltTy) = .f32) shapeCasts_S64x64_S64x64x1
  :: StableHlo.nullary main_cst_22 (constant S_ .f32 0x00000000#32)
  :: StableHlo.binary main_v119 main_cst_22 main_v120 ((fun x v => Host.reduceAdd x v reducesTo_S64x64x1_S64x64_d2 h_S_) : (⟨S64x64x1, .f32⟩ : BufTy).Contents (Elt F) → (⟨S_, .f32⟩ : BufTy).Contents (Elt F) → (⟨S64x64, .f32⟩ : BufTy).Contents (Elt F))
  :: StableHlo.unary main_v103 main_v121 (Host.negf : (⟨S64x64x16, .f32⟩ : BufTy).Contents (Elt F) → (⟨S64x64x16, .f32⟩ : BufTy).Contents (Elt F))
  :: StableHlo.unary main_v39 main_v122 (broadcastInDim S64x64x16 ![0, 1, 2] bcast_S64x64x1_S64x64x16_0_1_2 : (⟨S64x64x1, .f32⟩ : BufTy).Contents (Elt F) → (⟨S64x64x16, .f32⟩ : BufTy).Contents (Elt F))
  :: StableHlo.binary main_v122 main_v121 main_v123 (mulf : (⟨S64x64x16, .f32⟩ : BufTy).Contents (Elt F) → (⟨S64x64x16, .f32⟩ : BufTy).Contents (Elt F) → (⟨S64x64x16, .f32⟩ : BufTy).Contents (Elt F))
  :: StableHlo.binary main_v116 main_v123 main_v124 (addf : (⟨S64x64x16, .f32⟩ : BufTy).Contents (Elt F) → (⟨S64x64x16, .f32⟩ : BufTy).Contents (Elt F) → (⟨S64x64x16, .f32⟩ : BufTy).Contents (Elt F))
  :: StableHlo.binary main_v121 main_arg6 main_v125 (mulf : (⟨S64x64x16, .f32⟩ : BufTy).Contents (Elt F) → (⟨S64x64x16, .f32⟩ : BufTy).Contents (Elt F) → (⟨S64x64x16, .f32⟩ : BufTy).Contents (Elt F))
  :: StableHlo.nullary main_cst_23 (constant S_ .f32 0x00000000#32)
  :: StableHlo.binary main_v125 main_cst_23 main_v126 ((fun x v => Host.reduceAdd x v reducesTo_S64x64x16_S64x64_d2 h_S_) : (⟨S64x64x16, .f32⟩ : BufTy).Contents (Elt F) → (⟨S_, .f32⟩ : BufTy).Contents (Elt F) → (⟨S64x64, .f32⟩ : BufTy).Contents (Elt F))
  :: StableHlo.reshape main_v126 main_v127 (rfl : (.f32 : EltTy) = .f32) shapeCasts_S64x64_S64x64x1
  :: StableHlo.nullary main_cst_24 (constant S_ .f32 0x00000000#32)
  :: StableHlo.binary main_v127 main_cst_24 main_v128 ((fun x v => Host.reduceAdd x v reducesTo_S64x64x1_S64x64_d2 h_S_) : (⟨S64x64x1, .f32⟩ : BufTy).Contents (Elt F) → (⟨S_, .f32⟩ : BufTy).Contents (Elt F) → (⟨S64x64, .f32⟩ : BufTy).Contents (Elt F))
  :: [] )
/-- Each touches TensorCore references only (`HostSeg.ofOps` over `StableHlo.tcRefs`, or a subset by `sub_ucRefs`). -/
theorem main_part2_ops1_sub : (main_part2_ops1 : List (HloOp τ sig (Elt F))).Forall fun op => op.bufs ⊆ StableHlo.tcRefs τ sig :=
  ⟨StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.unary_bufs_sub .., StableHlo.binary_bufs_sub .., StableHlo.reshape_bufs_sub .., StableHlo.binary_bufs_sub .., StableHlo.unary_bufs_sub .., StableHlo.binary_bufs_sub .., StableHlo.binary_bufs_sub .., StableHlo.nullary_bufs_sub .., StableHlo.binary_bufs_sub .., StableHlo.reshape_bufs_sub .., StableHlo.nullary_bufs_sub .., StableHlo.binary_bufs_sub .., StableHlo.unary_bufs_sub .., StableHlo.binary_bufs_sub .., StableHlo.binary_bufs_sub .., StableHlo.nullary_bufs_sub .., StableHlo.binary_bufs_sub .., StableHlo.reshape_bufs_sub .., StableHlo.nullary_bufs_sub .., StableHlo.binary_bufs_sub .., StableHlo.unary_bufs_sub .., StableHlo.unary_bufs_sub .., StableHlo.binary_bufs_sub .., StableHlo.binary_bufs_sub .., StableHlo.binary_bufs_sub .., StableHlo.nullary_bufs_sub .., StableHlo.binary_bufs_sub .., StableHlo.reshape_bufs_sub .., StableHlo.nullary_bufs_sub .., StableHlo.binary_bufs_sub ..⟩
/-- Window 2 of `main` (`main_part2`, statements 121 … 180) is the chain of ITS items ending in the last
    (`Pipeline.chainK`: no closing `pure`, the window's last statement being in tail position), each item but the last aligned with the
    window's statements, then `chain_rfl`. -/
theorem main_part2_chain (c : Dev nD) : main_part2 (F := F) c = (Pipeline.chainK
  [ StableHlo.seq main_part2_ops0,
    HostLoop.enter 1 ]
  (StableHlo.seq main_part2_ops1) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons]
  chain_rfl

/-- 60 host operations of @main, window 3 (statements 181 … 240), in order. -/
abbrev main_part3_ops0 : List (HloOp τ sig (Elt F)) :=
  ( StableHlo.binary main_v114 main_v128 main_v129 (addf : (⟨S64x64, .f32⟩ : BufTy).Contents (Elt F) → (⟨S64x64, .f32⟩ : BufTy).Contents (Elt F) → (⟨S64x64, .f32⟩ : BufTy).Contents (Elt F))
  :: StableHlo.unary main_v36 main_v130 (broadcastInDim S64x64x16 ![0, 1, 2] bcast_S64x64x1_S64x64x16_0_1_2 : (⟨S64x64x1, .f32⟩ : BufTy).Contents (Elt F) → (⟨S64x64x16, .f32⟩ : BufTy).Contents (Elt F))
  :: StableHlo.binary main_v130 main_v103 main_v131 (mulf : (⟨S64x64x16, .f32⟩ : BufTy).Contents (Elt F) → (⟨S64x64x16, .f32⟩ : BufTy).Contents (Elt F) → (⟨S64x64x16, .f32⟩ : BufTy).Contents (Elt F))
  :: StableHlo.binary main_v110 main_v131 main_v132 (addf : (⟨S64x64x16, .f32⟩ : BufTy).Contents (Elt F) → (⟨S64x64x16, .f32⟩ : BufTy).Contents (Elt F) → (⟨S64x64x16, .f32⟩ : BufTy).Contents (Elt F))
  :: StableHlo.binary main_v103 main_arg5 main_v133 (mulf : (⟨S64x64x16, .f32⟩ : BufTy).Contents (Elt F) → (⟨S64x64x16, .f32⟩ : BufTy).Contents (Elt F) → (⟨S64x64x16, .f32⟩ : BufTy).Contents (Elt F))
  :: StableHlo.nullary main_cst_25 (constant S_ .f32 0x00000000#32)
  :: StableHlo.binary main_v133 main_cst_25 main_v134 ((fun x v => Host.reduceAdd x v reducesTo_S64x64x16_S64x64_d2 h_S_) : (⟨S64x64x16, .f32⟩ : BufTy).Contents (Elt F) → (⟨S_, .f32⟩ : BufTy).Contents (Elt F) → (⟨S64x64, .f32⟩ : BufTy).Contents (Elt F))
  :: StableHlo.reshape main_v134 main_v135 (rfl : (.f32 : EltTy) = .f32) shapeCasts_S64x64_S64x64x1
  :: StableHlo.nullary main_cst_26 (constant S_ .f32 0x00000000#32)
  :: StableHlo.binary main_v135 main_cst_26 main_v136 ((fun x v => Host.reduceAdd x v reducesTo_S64x64x1_S64x64_d2 h_S_) : (⟨S64x64x1, .f32⟩ : BufTy).Contents (Elt F) → (⟨S_, .f32⟩ : BufTy).Contents (Elt F) → (⟨S64x64, .f32⟩ : BufTy).Contents (Elt F))
  :: StableHlo.binary main_v120 main_v136 main_v137 (addf : (⟨S64x64, .f32⟩ : BufTy).Contents (Elt F) → (⟨S64x64, .f32⟩ : BufTy).Contents (Elt F) → (⟨S64x64, .f32⟩ : BufTy).Contents (Elt F))
  :: StableHlo.binary main_v129 main_v35 main_v138 (mulf : (⟨S64x64, .f32⟩ : BufTy).Contents (Elt F) → (⟨S64x64, .f32⟩ : BufTy).Contents (Elt F) → (⟨S64x64, .f32⟩ : BufTy).Contents (Elt F))
  :: StableHlo.binary main_v138 main_v31 main_v139 (mulf : (⟨S64x64, .f32⟩ : BufTy).Contents (Elt F) → (⟨S64x64, .f32⟩ : BufTy).Contents (Elt F) → (⟨S64x64, .f32⟩ : BufTy).Contents (Elt F))
  :: StableHlo.unary main_v139 main_v140 (Host.negf : (⟨S64x64, .f32⟩ : BufTy).Contents (Elt F) → (⟨S64x64, .f32⟩ : BufTy).Contents (Elt F))
  :: StableHlo.binary main_v129 main_v17 main_v141 (Host.divf : (⟨S64x64, .f32⟩ : BufTy).Contents (Elt F) → (⟨S64x64, .f32⟩ : BufTy).Contents (Elt F) → (⟨S64x64, .f32⟩ : BufTy).Contents (Elt F))
  :: StableHlo.unary main_v141 main_v142 (Host.negf : (⟨S64x64, .f32⟩ : BufTy).Contents (Elt F) → (⟨S64x64, .f32⟩ : BufTy).Contents (Elt F))
  :: StableHlo.binary main_v29 main_v142 main_v143 (mulf : (⟨S64x64, .f32⟩ : BufTy).Contents (Elt F) → (⟨S64x64, .f32⟩ : BufTy).Contents (Elt F) → (⟨S64x64, .f32⟩ : BufTy).Contents (Elt F))
  :: StableHlo.binary main_v142 main_arg3 main_v144 (mulf : (⟨S64x64, .f32⟩ : BufTy).Contents (Elt F) → (⟨S64x64, .f32⟩ : BufTy).Contents (Elt F) → (⟨S64x64, .f32⟩ : BufTy).Contents (Elt F))
  :: StableHlo.binary main_v97_7 main_v144 main_v145 (addf : (⟨S64x64, .f32⟩ : BufTy).Contents (Elt F) → (⟨S64x64, .f32⟩ : BufTy).Contents (Elt F) → (⟨S64x64, .f32⟩ : BufTy).Contents (Elt F))
  :: StableHlo.binary main_v14 main_v141 main_v146 (mulf : (⟨S64x64, .f32⟩ : BufTy).Contents (Elt F) → (⟨S64x64, .f32⟩ : BufTy).Contents (Elt F) → (⟨S64x64, .f32⟩ : BufTy).Contents (Elt F))
  :: StableHlo.binary main_v141 main_arg2 main_v147 (mulf : (⟨S64x64, .f32⟩ : BufTy).Contents (Elt F) → (⟨S64x64, .f32⟩ : BufTy).Contents (Elt F) → (⟨S64x64, .f32⟩ : BufTy).Contents (Elt F))
  :: StableHlo.binary main_v97_8 main_v147 main_v148 (addf : (⟨S64x64, .f32⟩ : BufTy).Contents (Elt F) → (⟨S64x64, .f32⟩ : BufTy).Contents (Elt F) → (⟨S64x64, .f32⟩ : BufTy).Contents (Elt F))
  :: StableHlo.binary main_v137 main_v26 main_v149 (mulf : (⟨S64x64, .f32⟩ : BufTy).Contents (Elt F) → (⟨S64x64, .f32⟩ : BufTy).Contents (Elt F) → (⟨S64x64, .f32⟩ : BufTy).Contents (Elt F))
  :: StableHlo.binary main_v149 main_v22 main_v150 (mulf : (⟨S64x64, .f32⟩ : BufTy).Contents (Elt F) → (⟨S64x64, .f32⟩ : BufTy).Contents (Elt F) → (⟨S64x64, .f32⟩ : BufTy).Contents (Elt F))
  :: StableHlo.unary main_v150 main_v151 (Host.negf : (⟨S64x64, .f32⟩ : BufTy).Contents (Elt F) → (⟨S64x64, .f32⟩ : BufTy).Contents (Elt F))
  :: StableHlo.binary main_v140 main_v151 main_v152 (addf : (⟨S64x64, .f32⟩ : BufTy).Contents (Elt F) → (⟨S64x64, .f32⟩ : BufTy).Contents (Elt F) → (⟨S64x64, .f32⟩ : BufTy).Contents (Elt F))
  :: StableHlo.binary main_v137 main_v17 main_v153 (Host.divf : (⟨S64x64, .f32⟩ : BufTy).Contents (Elt F) → (⟨S64x64, .f32⟩ : BufTy).Contents (Elt F) → (⟨S64x64, .f32⟩ : BufTy).Contents (Elt F))
  :: StableHlo.binary main_v14 main_v153 main_v154 (mulf : (⟨S64x64, .f32⟩ : BufTy).Contents (Elt F) → (⟨S64x64, .f32⟩ : BufTy).Contents (Elt F) → (⟨S64x64, .f32⟩ : BufTy).Contents (Elt F))
  :: StableHlo.binary main_v143 main_v154 main_v155 (addf : (⟨S64x64, .f32⟩ : BufTy).Contents (Elt F) → (⟨S64x64, .f32⟩ : BufTy).Contents (Elt F) → (⟨S64x64, .f32⟩ : BufTy).Contents (Elt F))
  :: StableHlo.binary main_v153 main_arg3 main_v156 (mulf : (⟨S64x64, .f32⟩ : BufTy).Contents (Elt F) → (⟨S64x64, .f32⟩ : BufTy).Contents (Elt F) → (⟨S64x64, .f32⟩ : BufTy).Contents (Elt F))
  :: StableHlo.binary main_v148 main_v156 main_v157 (addf : (⟨S64x64, .f32⟩ : BufTy).Contents (Elt F) → (⟨S64x64, .f32⟩ : BufTy).Contents (Elt F) → (⟨S64x64, .f32⟩ : BufTy).Contents (Elt F))
  :: StableHlo.binary main_v19 main_v153 main_v158 (mulf : (⟨S64x64, .f32⟩ : BufTy).Contents (Elt F) → (⟨S64x64, .f32⟩ : BufTy).Contents (Elt F) → (⟨S64x64, .f32⟩ : BufTy).Contents (Elt F))
  :: StableHlo.binary main_v146 main_v158 main_v159 (addf : (⟨S64x64, .f32⟩ : BufTy).Contents (Elt F) → (⟨S64x64, .f32⟩ : BufTy).Contents (Elt F) → (⟨S64x64, .f32⟩ : BufTy).Contents (Elt F))
  :: StableHlo.binary main_v153 main_arg2 main_v160 (mulf : (⟨S64x64, .f32⟩ : BufTy).Contents (Elt F) → (⟨S64x64, .f32⟩ : BufTy).Contents (Elt F) → (⟨S64x64, .f32⟩ : BufTy).Contents (Elt F))
  :: StableHlo.binary main_v145 main_v160 main_v161 (addf : (⟨S64x64, .f32⟩ : BufTy).Contents (Elt F) → (⟨S64x64, .f32⟩ : BufTy).Contents (Elt F) → (⟨S64x64, .f32⟩ : BufTy).Contents (Elt F))
  :: StableHlo.binary main_arg3 main_v152 main_v162 (mulf : (⟨S64x64, .f32⟩ : BufTy).Contents (Elt F) → (⟨S64x64, .f32⟩ : BufTy).Contents (Elt F) → (⟨S64x64, .f32⟩ : BufTy).Contents (Elt F))
  :: StableHlo.binary main_v155 main_v162 main_v163 (addf : (⟨S64x64, .f32⟩ : BufTy).Contents (Elt F) → (⟨S64x64, .f32⟩ : BufTy).Contents (Elt F) → (⟨S64x64, .f32⟩ : BufTy).Contents (Elt F))
  :: StableHlo.binary main_v152 main_arg3 main_v164 (mulf : (⟨S64x64, .f32⟩ : BufTy).Contents (Elt F) → (⟨S64x64, .f32⟩ : BufTy).Contents (Elt F) → (⟨S64x64, .f32⟩ : BufTy).Contents (Elt F))
  :: StableHlo.binary main_v163 main_v164 main_v165 (addf : (⟨S64x64, .f32⟩ : BufTy).Contents (Elt F) → (⟨S64x64, .f32⟩ : BufTy).Contents (Elt F) → (⟨S64x64, .f32⟩ : BufTy).Contents (Elt F))
  :: StableHlo.binary main_arg2 main_v152 main_v166 (mulf : (⟨S64x64, .f32⟩ : BufTy).Contents (Elt F) → (⟨S64x64, .f32⟩ : BufTy).Contents (Elt F) → (⟨S64x64, .f32⟩ : BufTy).Contents (Elt F))
  :: StableHlo.binary main_v159 main_v166 main_v167 (addf : (⟨S64x64, .f32⟩ : BufTy).Contents (Elt F) → (⟨S64x64, .f32⟩ : BufTy).Contents (Elt F) → (⟨S64x64, .f32⟩ : BufTy).Contents (Elt F))
  :: StableHlo.binary main_v152 main_arg2 main_v168 (mulf : (⟨S64x64, .f32⟩ : BufTy).Contents (Elt F) → (⟨S64x64, .f32⟩ : BufTy).Contents (Elt F) → (⟨S64x64, .f32⟩ : BufTy).Contents (Elt F))
  :: StableHlo.binary main_v167 main_v168 main_v169 (addf : (⟨S64x64, .f32⟩ : BufTy).Contents (Elt F) → (⟨S64x64, .f32⟩ : BufTy).Contents (Elt F) → (⟨S64x64, .f32⟩ : BufTy).Contents (Elt F))
  :: StableHlo.binary main_v4 main_v157 main_v170 (mulf : (⟨S64x64, .f32⟩ : BufTy).Contents (Elt F) → (⟨S64x64, .f32⟩ : BufTy).Contents (Elt F) → (⟨S64x64, .f32⟩ : BufTy).Contents (Elt F))
  :: StableHlo.binary main_v157 main_v12 main_v171 (mulf : (⟨S64x64, .f32⟩ : BufTy).Contents (Elt F) → (⟨S64x64, .f32⟩ : BufTy).Contents (Elt F) → (⟨S64x64, .f32⟩ : BufTy).Contents (Elt F))
  :: StableHlo.binary main_v170 main_v13 main_v172 (mulf : (⟨S64x64, .f32⟩ : BufTy).Contents (Elt F) → (⟨S64x64, .f32⟩ : BufTy).Contents (Elt F) → (⟨S64x64, .f32⟩ : BufTy).Contents (Elt F))
  :: StableHlo.binary main_arg3 main_v172 main_v173 (mulf : (⟨S64x64, .f32⟩ : BufTy).Contents (Elt F) → (⟨S64x64, .f32⟩ : BufTy).Contents (Elt F) → (⟨S64x64, .f32⟩ : BufTy).Contents (Elt F))
  :: StableHlo.nullary main_cst_27 (constant S_ .f32 0x00000000#32)
  :: StableHlo.binary main_v173 main_cst_27 main_v174 ((fun x v => Host.reduceAdd x v reducesTo_S64x64_S64_d1 h_S_) : (⟨S64x64, .f32⟩ : BufTy).Contents (Elt F) → (⟨S_, .f32⟩ : BufTy).Contents (Elt F) → (⟨S64, .f32⟩ : BufTy).Contents (Elt F))
  :: StableHlo.reshape main_v174 main_v175 (rfl : (.f32 : EltTy) = .f32) shapeCasts_S64_S64x1
  :: StableHlo.unary main_v1 main_v176 (broadcastInDim S64x64 ![0, 1] bcast_S64x1_S64x64_0_1 : (⟨S64x1, .f32⟩ : BufTy).Contents (Elt F) → (⟨S64x64, .f32⟩ : BufTy).Contents (Elt F))
  :: StableHlo.binary main_v172 main_v176 main_v177 (mulf : (⟨S64x64, .f32⟩ : BufTy).Contents (Elt F) → (⟨S64x64, .f32⟩ : BufTy).Contents (Elt F) → (⟨S64x64, .f32⟩ : BufTy).Contents (Elt F))
  :: StableHlo.binary main_v165 main_v177 main_v178 (addf : (⟨S64x64, .f32⟩ : BufTy).Contents (Elt F) → (⟨S64x64, .f32⟩ : BufTy).Contents (Elt F) → (⟨S64x64, .f32⟩ : BufTy).Contents (Elt F))
  :: StableHlo.binary main_v4 main_v161 main_v179 (mulf : (⟨S64x64, .f32⟩ : BufTy).Contents (Elt F) → (⟨S64x64, .f32⟩ : BufTy).Contents (Elt F) → (⟨S64x64, .f32⟩ : BufTy).Contents (Elt F))
  :: StableHlo.binary main_v161 main_v7 main_v180 (mulf : (⟨S64x64, .f32⟩ : BufTy).Contents (Elt F) → (⟨S64x64, .f32⟩ : BufTy).Contents (Elt F) → (⟨S64x64, .f32⟩ : BufTy).Contents (Elt F))
  :: StableHlo.binary main_v171 main_v180 main_v181 (addf : (⟨S64x64, .f32⟩ : BufTy).Contents (Elt F) → (⟨S64x64, .f32⟩ : BufTy).Contents (Elt F) → (⟨S64x64, .f32⟩ : BufTy).Contents (Elt F))
  :: StableHlo.unary main_v179 main_v182 (Host.negf : (⟨S64x64, .f32⟩ : BufTy).Contents (Elt F) → (⟨S64x64, .f32⟩ : BufTy).Contents (Elt F))
  :: StableHlo.binary main_v182 main_v8 main_v183 (mulf : (⟨S64x64, .f32⟩ : BufTy).Contents (Elt F) → (⟨S64x64, .f32⟩ : BufTy).Contents (Elt F) → (⟨S64x64, .f32⟩ : BufTy).Contents (Elt F))
  :: StableHlo.binary main_arg3 main_v183 main_v184 (mulf : (⟨S64x64, .f32⟩ : BufTy).Contents (Elt F) → (⟨S64x64, .f32⟩ : BufTy).Contents (Elt F) → (⟨S64x64, .f32⟩ : BufTy).Contents (Elt F))
  :: StableHlo.nullary main_cst_28 (constant S_ .f32 0x00000000#32)
  :: [] )
/-- Each touches TensorCore references only (`HostSeg.ofOps` over `StableHlo.tcRefs`, or a subset by `sub_ucRefs`). -/
theorem main_part3_ops0_sub : (main_part3_ops0 : List (HloOp τ sig (Elt F))).Forall fun op => op.bufs ⊆ StableHlo.tcRefs τ sig :=
  ⟨StableHlo.binary_bufs_sub .., StableHlo.unary_bufs_sub .., StableHlo.binary_bufs_sub .., StableHlo.binary_bufs_sub .., StableHlo.binary_bufs_sub .., StableHlo.nullary_bufs_sub .., StableHlo.binary_bufs_sub .., StableHlo.reshape_bufs_sub .., StableHlo.nullary_bufs_sub .., StableHlo.binary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.unary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.nullary_bufs_sub .., StableHlo.binary_bufs_sub .., StableHlo.reshape_bufs_sub .., StableHlo.unary_bufs_sub .., StableHlo.binary_bufs_sub .., StableHlo.binary_bufs_sub .., StableHlo.binary_bufs_sub .., StableHlo.binary_bufs_sub .., StableHlo.binary_bufs_sub .., StableHlo.unary_bufs_sub .., StableHlo.binary_bufs_sub .., StableHlo.binary_bufs_sub .., StableHlo.nullary_bufs_sub ..⟩
/-- Window 3 of `main` (`main_part3`, statements 181 … 240) is the chain of ITS items ending in the last
    (`Pipeline.chainK`: no closing `pure`, the window's last statement being in tail position), by `chain_rfl`. -/
theorem main_part3_chain (c : Dev nD) : main_part3 (F := F) c = (Pipeline.chainK
  [  ]
  (StableHlo.seq main_part3_ops0) : Prog (TpuEff nD τ sig (Elt F) (HostLoop.Sig (Pipeline.Sig Λ₀ (Fin 0) fun p => (pcfgs (F := F) p).Adm) 2) .tc) PUnit) := by
  chain_rfl

/-- 18 host operations of @main, window 4 (statements 241 … 259), in order. -/
abbrev main_part4_ops0 : List (HloOp τ sig (Elt F)) :=
  [ StableHlo.binary main_v184 main_cst_28 main_v185 ((fun x v => Host.reduceAdd x v reducesTo_S64x64_S64_d1 h_S_) : (⟨S64x64, .f32⟩ : BufTy).Contents (Elt F) → (⟨S_, .f32⟩ : BufTy).Contents (Elt F) → (⟨S64, .f32⟩ : BufTy).Contents (Elt F)),
    StableHlo.reshape main_v185 main_v186 (rfl : (.f32 : EltTy) = .f32) shapeCasts_S64_S64x1,
    StableHlo.binary main_v175 main_v186 main_v187 (addf : (⟨S64x1, .f32⟩ : BufTy).Contents (Elt F) → (⟨S64x1, .f32⟩ : BufTy).Contents (Elt F) → (⟨S64x1, .f32⟩ : BufTy).Contents (Elt F)),
    StableHlo.unary main_v1 main_v188 (broadcastInDim S64x64 ![0, 1] bcast_S64x1_S64x64_0_1 : (⟨S64x1, .f32⟩ : BufTy).Contents (Elt F) → (⟨S64x64, .f32⟩ : BufTy).Contents (Elt F)),
    StableHlo.binary main_v183 main_v188 main_v189 (mulf : (⟨S64x64, .f32⟩ : BufTy).Contents (Elt F) → (⟨S64x64, .f32⟩ : BufTy).Contents (Elt F) → (⟨S64x64, .f32⟩ : BufTy).Contents (Elt F)),
    StableHlo.binary main_v178 main_v189 main_v190 (addf : (⟨S64x64, .f32⟩ : BufTy).Contents (Elt F) → (⟨S64x64, .f32⟩ : BufTy).Contents (Elt F) → (⟨S64x64, .f32⟩ : BufTy).Contents (Elt F)),
    StableHlo.binary main_v181 main_v4 main_v191 (mulf : (⟨S64x64, .f32⟩ : BufTy).Contents (Elt F) → (⟨S64x64, .f32⟩ : BufTy).Contents (Elt F) → (⟨S64x64, .f32⟩ : BufTy).Contents (Elt F)),
    StableHlo.binary main_arg2 main_v191 main_v192 (mulf : (⟨S64x64, .f32⟩ : BufTy).Contents (Elt F) → (⟨S64x64, .f32⟩ : BufTy).Contents (Elt F) → (⟨S64x64, .f32⟩ : BufTy).Contents (Elt F)),
    StableHlo.nullary main_cst_29 (constant S_ .f32 0x00000000#32),
    StableHlo.binary main_v192 main_cst_29 main_v193 ((fun x v => Host.reduceAdd x v reducesTo_S64x64_S64_d1 h_S_) : (⟨S64x64, .f32⟩ : BufTy).Contents (Elt F) → (⟨S_, .f32⟩ : BufTy).Contents (Elt F) → (⟨S64, .f32⟩ : BufTy).Contents (Elt F)),
    StableHlo.reshape main_v193 main_v194 (rfl : (.f32 : EltTy) = .f32) shapeCasts_S64_S64x1,
    StableHlo.binary main_v187 main_v194 main_v195 (addf : (⟨S64x1, .f32⟩ : BufTy).Contents (Elt F) → (⟨S64x1, .f32⟩ : BufTy).Contents (Elt F) → (⟨S64x1, .f32⟩ : BufTy).Contents (Elt F)),
    StableHlo.unary main_v1 main_v196 (broadcastInDim S64x64 ![0, 1] bcast_S64x1_S64x64_0_1 : (⟨S64x1, .f32⟩ : BufTy).Contents (Elt F) → (⟨S64x64, .f32⟩ : BufTy).Contents (Elt F)),
    StableHlo.binary main_v191 main_v196 main_v197 (mulf : (⟨S64x64, .f32⟩ : BufTy).Contents (Elt F) → (⟨S64x64, .f32⟩ : BufTy).Contents (Elt F) → (⟨S64x64, .f32⟩ : BufTy).Contents (Elt F)),
    StableHlo.binary main_v169 main_v197 main_v198 (addf : (⟨S64x64, .f32⟩ : BufTy).Contents (Elt F) → (⟨S64x64, .f32⟩ : BufTy).Contents (Elt F) → (⟨S64x64, .f32⟩ : BufTy).Contents (Elt F)),
    StableHlo.nullary main_cst_30 (constant S_ .f32 0x00000000#32),
    StableHlo.binary main_v195 main_cst_30 main_v199 ((fun x v => Host.reduceAdd x v reducesTo_S64x1_S64_d1 h_S_) : (⟨S64x1, .f32⟩ : BufTy).Contents (Elt F) → (⟨S_, .f32⟩ : BufTy).Contents (Elt F) → (⟨S64, .f32⟩ : BufTy).Contents (Elt F)),
    StableHlo.binary main_v199 main_v0 main_v200 (mulf : (⟨S64, .f32⟩ : BufTy).Contents (Elt F) → (⟨S64, .f32⟩ : BufTy).Contents (Elt F) → (⟨S64, .f32⟩ : BufTy).Contents (Elt F)) ]
/-- Each touches TensorCore references only (`HostSeg.ofOps` over `StableHlo.tcRefs`, or a subset by `sub_ucRefs`). -/
theorem main_part4_ops0_sub : (main_part4_ops0 : List (HloOp τ sig (Elt F))).Forall fun op => op.bufs ⊆ StableHlo.tcRefs τ sig :=
  ⟨StableHlo.binary_bufs_sub .., StableHlo.reshape_bufs_sub .., StableHlo.binary_bufs_sub .., StableHlo.unary_bufs_sub .., StableHlo.binary_bufs_sub .., StableHlo.binary_bufs_sub .., StableHlo.binary_bufs_sub .., StableHlo.binary_bufs_sub .., StableHlo.nullary_bufs_sub .., StableHlo.binary_bufs_sub .., StableHlo.reshape_bufs_sub .., StableHlo.binary_bufs_sub .., StableHlo.unary_bufs_sub .., StableHlo.binary_bufs_sub .., StableHlo.binary_bufs_sub .., StableHlo.nullary_bufs_sub .., StableHlo.binary_bufs_sub .., StableHlo.binary_bufs_sub ..⟩
/-- The last window of `main` (`main_part4`, statements 241 … 259) is the chain of ITS items, each item aligned with the window's
    statements, then `chain_rfl`. -/
theorem main_part4_chain (c : Dev nD) : main_part4 (F := F) c = (Pipeline.chain
  [ StableHlo.seq main_part4_ops0 ] : Prog (TpuEff nD τ sig (Elt F) (HostLoop.Sig (Pipeline.Sig Λ₀ (Fin 0) fun p => (pcfgs (F := F) p).Adm) 2) .tc) PUnit) := by
  rewrite [StableHlo.chain_seq_cons]
  chain_rfl

/-- `main` is the chain of its WINDOWS' items (a stretch a window boundary cuts is several items): assembled from
    the windows' equations, the last window's then each earlier one's followed by `Pipeline.chainK_bind_chain`, the
    closing `chain_rfl` between equal item lists — the form a certificate of a long block runs its segments over
    (`Seg.run_eq_chain`; `CSeg.runL` under host loops), each window piece with its `_sub`. -/
theorem main_chain_windows (c : Dev nD) : main (F := F) c = (Pipeline.chain
  [ StableHlo.seq main_part0_ops0,
    StableHlo.seq main_part1_ops0,
    HostLoop.enter 0,
    StableHlo.seq main_part1_ops1,
    StableHlo.seq main_part2_ops0,
    HostLoop.enter 1,
    StableHlo.seq main_part2_ops1,
    StableHlo.seq main_part3_ops0,
    StableHlo.seq main_part4_ops0 ] : Prog (TpuEff nD τ sig (Elt F) (HostLoop.Sig (Pipeline.Sig Λ₀ (Fin 0) fun p => (pcfgs (F := F) p).Adm) 2) .tc) PUnit) := by
  show (main_part0 (F := F) c >>= fun _ => main_part1 (F := F) c >>= fun _ => main_part2 (F := F) c >>= fun _ => main_part3 (F := F) c >>= fun _ => main_part4 (F := F) c) = _
  rewrite [main_part4_chain, main_part3_chain, Pipeline.chainK_bind_chain, main_part2_chain, Pipeline.chainK_bind_chain, main_part1_chain, Pipeline.chainK_bind_chain, main_part0_chain, Pipeline.chainK_bind_chain]
  chain_rfl

/-- `main`'s items, each with the pieces its windows cut it into: a stretch of its own operations as the window
    lists that make it up, in order, any other item as itself (`StableHlo.Group`; `main_chain` reads it). -/
abbrev main_groups (c : Dev nD) : List (StableHlo.Group nD τ sig (Elt F) (HostLoop.Sig (Pipeline.Sig Λ₀ (Fin 0) fun p => (pcfgs (F := F) p).Adm) 2)) :=
  [ .ops [main_part0_ops0, main_part1_ops0],
    .prog (HostLoop.enter 0),
    .ops [main_part1_ops1, main_part2_ops0],
    .prog (HostLoop.enter 1),
    .ops [main_part2_ops1, main_part3_ops0, main_part4_ops0] ]

/-- The windows' item list is `main_groups` with each stretch cut into its window pieces (`StableHlo.Group.cut`): the two
    lists are the same, by `chain_rfl`. -/
theorem main_chain_cut (c : Dev nD) : (Pipeline.chain
  [ StableHlo.seq main_part0_ops0,
    StableHlo.seq main_part1_ops0,
    HostLoop.enter 0,
    StableHlo.seq main_part1_ops1,
    StableHlo.seq main_part2_ops0,
    HostLoop.enter 1,
    StableHlo.seq main_part2_ops1,
    StableHlo.seq main_part3_ops0,
    StableHlo.seq main_part4_ops0 ] : Prog (TpuEff nD τ sig (Elt F) (HostLoop.Sig (Pipeline.Sig Λ₀ (Fin 0) fun p => (pcfgs (F := F) p).Adm) 2) .tc) PUnit) = Pipeline.chain ((main_groups (F := F) c).flatMap StableHlo.Group.cut) := by
  chain_rfl

/-- `main_groups` with each stretch's pieces joined (`StableHlo.Group.whole`) is `main`'s item list — the same
    operations once each stretch's pieces are concatenated —, by `chain_rfl`. -/
theorem main_chain_whole (c : Dev nD) : Pipeline.chain ((main_groups (F := F) c).map StableHlo.Group.whole) = (Pipeline.chain
  [ StableHlo.seq hostOps0,
    HostLoop.enter 0,
    StableHlo.seq hostOps0_1,
    HostLoop.enter 1,
    StableHlo.seq hostOps0_2 ] : Prog (TpuEff nD τ sig (Elt F) (HostLoop.Sig (Pipeline.Sig Λ₀ (Fin 0) fun p => (pcfgs (F := F) p).Adm) 2) .tc) PUnit) := by
  chain_rfl

/-- `main` is the chain of its items (`Pipeline.chain`): operation stretches, regions, loops and branches in
    order, a module-local function called from it a stretch of its own. Assembled from its 5 windows'
    equations (`main_chain_windows`: the chain cut at the window boundaries); `StableHlo.chain_cut_eq_whole` over
    `main_groups` — each stretch with the window lists that make it up — then equates that cut chain with this one, its
    two ends being `main_chain_cut` and `main_chain_whole` (`chain_rfl` over equal lists), so that the kernel never compares
    a stretch with its pieces (Lib/Pipeline/Regions.lean § Aligning a block with its items). -/
theorem main_chain (c : Dev nD) : main (F := F) c = (Pipeline.chain
  [ StableHlo.seq hostOps0,
    HostLoop.enter 0,
    StableHlo.seq hostOps0_1,
    HostLoop.enter 1,
    StableHlo.seq hostOps0_2 ] : Prog (TpuEff nD τ sig (Elt F) (HostLoop.Sig (Pipeline.Sig Λ₀ (Fin 0) fun p => (pcfgs (F := F) p).Adm) 2) .tc) PUnit) :=
  (main_chain_windows (F := F) c).trans <| (main_chain_cut (F := F) c).trans <|
    (StableHlo.chain_cut_eq_whole (main_groups (F := F) c)).trans (main_chain_whole (F := F) c)

/-- 4 host operations of @dynamic_index_in_dim (main_while0b_call0), in order. -/
abbrev while0Ops0 : List (HloOp τ sig (Elt F)) :=
  [ StableHlo.TRef.nullary (.of main_while0b_call0_c : StableHlo.TRef sig ⟨S_, .i32⟩) (constantI S_ 32 0#32),
    StableHlo.TRef.nullary (.of main_while0b_call0_c_0 : StableHlo.TRef sig ⟨S_, .i32⟩) (constantI S_ 32 0#32),
    StableHlo.TRef.unaryIndexed (.of main_v60_0 : StableHlo.TRef sig ⟨S2048x64x64, .f32⟩) ![(.of main_v60_4 : StableHlo.TRef sig ⟨S_, .i32⟩), (.of main_while0b_call0_c : StableHlo.TRef sig ⟨S_, .i32⟩), (.of main_while0b_call0_c_0 : StableHlo.TRef sig ⟨S_, .i32⟩)] (.of main_while0b_call0_v0 : StableHlo.TRef sig ⟨S1x64x64, .f32⟩) (fun x i => Host.dynamicSlice S1x64x64 x (fun k => (i k (Shape.Idx.first h_S_)).toInt) sliceFits_S2048x64x64_S1x64x64),
    StableHlo.TRef.reshape (.of main_while0b_call0_v0 : StableHlo.TRef sig ⟨S1x64x64, .f32⟩) (.of main_while0b_v201 : StableHlo.TRef sig ⟨S64x64, .f32⟩) (rfl : (.f32 : EltTy) = .f32) shapeCasts_S1x64x64_S64x64 ]
/-- Each touches TensorCore references only (`HostSeg.ofOps` over `StableHlo.tcRefs`, or a subset by `sub_ucRefs`). -/
theorem while0Ops0_sub : (while0Ops0 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
/-- 4 host operations of @dynamic_index_in_dim (main_while0b_call1), in order. -/
abbrev while0Ops0_1 : List (HloOp τ sig (Elt F)) :=
  [ StableHlo.TRef.nullary (.of main_while0b_call1_c : StableHlo.TRef sig ⟨S_, .i32⟩) (constantI S_ 32 0#32),
    StableHlo.TRef.nullary (.of main_while0b_call1_c_0 : StableHlo.TRef sig ⟨S_, .i32⟩) (constantI S_ 32 0#32),
    StableHlo.TRef.unaryIndexed (.of main_v60_1 : StableHlo.TRef sig ⟨S2048x64x64, .f32⟩) ![(.of main_v60_4 : StableHlo.TRef sig ⟨S_, .i32⟩), (.of main_while0b_call1_c : StableHlo.TRef sig ⟨S_, .i32⟩), (.of main_while0b_call1_c_0 : StableHlo.TRef sig ⟨S_, .i32⟩)] (.of main_while0b_call1_v0 : StableHlo.TRef sig ⟨S1x64x64, .f32⟩) (fun x i => Host.dynamicSlice S1x64x64 x (fun k => (i k (Shape.Idx.first h_S_)).toInt) sliceFits_S2048x64x64_S1x64x64),
    StableHlo.TRef.reshape (.of main_while0b_call1_v0 : StableHlo.TRef sig ⟨S1x64x64, .f32⟩) (.of main_while0b_v202 : StableHlo.TRef sig ⟨S64x64, .f32⟩) (rfl : (.f32 : EltTy) = .f32) shapeCasts_S1x64x64_S64x64 ]
/-- Each touches TensorCore references only (`HostSeg.ofOps` over `StableHlo.tcRefs`, or a subset by `sub_ucRefs`). -/
theorem while0Ops0_1_sub : (while0Ops0_1 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
/-- 8 host operations of host loop 0's body region, in order. -/
abbrev while0Ops0_2 : List (HloOp τ sig (Elt F)) :=
  [ StableHlo.binary main_v60_2 main_v60_5 main_while0b_v203 (mulf : (⟨S64x64, .f32⟩ : BufTy).Contents (Elt F) → (⟨S64x64, .f32⟩ : BufTy).Contents (Elt F) → (⟨S64x64, .f32⟩ : BufTy).Contents (Elt F)),
    StableHlo.binary main_v60_3 main_v60_6 main_while0b_v204 (mulf : (⟨S64x64, .f32⟩ : BufTy).Contents (Elt F) → (⟨S64x64, .f32⟩ : BufTy).Contents (Elt F) → (⟨S64x64, .f32⟩ : BufTy).Contents (Elt F)),
    StableHlo.binary main_while0b_v203 main_while0b_v204 main_while0b_v205 (subf : (⟨S64x64, .f32⟩ : BufTy).Contents (Elt F) → (⟨S64x64, .f32⟩ : BufTy).Contents (Elt F) → (⟨S64x64, .f32⟩ : BufTy).Contents (Elt F)),
    StableHlo.binary main_while0b_v205 main_while0b_v201 main_while0b_v206 (addf : (⟨S64x64, .f32⟩ : BufTy).Contents (Elt F) → (⟨S64x64, .f32⟩ : BufTy).Contents (Elt F) → (⟨S64x64, .f32⟩ : BufTy).Contents (Elt F)),
    StableHlo.binary main_v60_2 main_v60_6 main_while0b_v207 (mulf : (⟨S64x64, .f32⟩ : BufTy).Contents (Elt F) → (⟨S64x64, .f32⟩ : BufTy).Contents (Elt F) → (⟨S64x64, .f32⟩ : BufTy).Contents (Elt F)),
    StableHlo.binary main_v60_3 main_v60_5 main_while0b_v208 (mulf : (⟨S64x64, .f32⟩ : BufTy).Contents (Elt F) → (⟨S64x64, .f32⟩ : BufTy).Contents (Elt F) → (⟨S64x64, .f32⟩ : BufTy).Contents (Elt F)),
    StableHlo.binary main_while0b_v207 main_while0b_v208 main_while0b_v209 (addf : (⟨S64x64, .f32⟩ : BufTy).Contents (Elt F) → (⟨S64x64, .f32⟩ : BufTy).Contents (Elt F) → (⟨S64x64, .f32⟩ : BufTy).Contents (Elt F)),
    StableHlo.binary main_while0b_v209 main_while0b_v202 main_while0b_v210 (addf : (⟨S64x64, .f32⟩ : BufTy).Contents (Elt F) → (⟨S64x64, .f32⟩ : BufTy).Contents (Elt F) → (⟨S64x64, .f32⟩ : BufTy).Contents (Elt F)) ]
/-- Each touches TensorCore references only (`HostSeg.ofOps` over `StableHlo.tcRefs`, or a subset by `sub_ucRefs`). -/
theorem while0Ops0_2_sub : (while0Ops0_2 : List (HloOp τ sig (Elt F))).Forall fun op => op.bufs ⊆ StableHlo.tcRefs τ sig :=
  ⟨StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub ..⟩
/-- 4 host operations of @dynamic_update_index_in_dim (main_while0b_call2), in order. -/
abbrev while0Ops0_3 : List (HloOp τ sig (Elt F)) :=
  [ StableHlo.TRef.unary (.of main_while0b_v206 : StableHlo.TRef sig ⟨S64x64, .f32⟩) (.of main_while0b_call2_v0 : StableHlo.TRef sig ⟨S1x64x64, .f32⟩) (broadcastInDim S1x64x64 ![1, 2] bcast_S64x64_S1x64x64_1_2),
    StableHlo.TRef.nullary (.of main_while0b_call2_c : StableHlo.TRef sig ⟨S_, .i32⟩) (constantI S_ 32 0#32),
    StableHlo.TRef.nullary (.of main_while0b_call2_c_0 : StableHlo.TRef sig ⟨S_, .i32⟩) (constantI S_ 32 0#32),
    StableHlo.TRef.binaryIndexed (.of main_v60_7 : StableHlo.TRef sig ⟨S2048x64x64, .f32⟩) (.of main_while0b_call2_v0 : StableHlo.TRef sig ⟨S1x64x64, .f32⟩) ![(.of main_v60_4 : StableHlo.TRef sig ⟨S_, .i32⟩), (.of main_while0b_call2_c : StableHlo.TRef sig ⟨S_, .i32⟩), (.of main_while0b_call2_c_0 : StableHlo.TRef sig ⟨S_, .i32⟩)] (.of main_while0b_v211 : StableHlo.TRef sig ⟨S2048x64x64, .f32⟩) (fun x u i => Host.dynamicUpdateSlice x u (fun k => (i k (Shape.Idx.first h_S_)).toInt) updateFits_S2048x64x64_S1x64x64) ]
/-- Each touches TensorCore references only (`HostSeg.ofOps` over `StableHlo.tcRefs`, or a subset by `sub_ucRefs`). -/
theorem while0Ops0_3_sub : (while0Ops0_3 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
/-- 4 host operations of @dynamic_update_index_in_dim (main_while0b_call3), in order. -/
abbrev while0Ops0_4 : List (HloOp τ sig (Elt F)) :=
  [ StableHlo.TRef.unary (.of main_while0b_v210 : StableHlo.TRef sig ⟨S64x64, .f32⟩) (.of main_while0b_call3_v0 : StableHlo.TRef sig ⟨S1x64x64, .f32⟩) (broadcastInDim S1x64x64 ![1, 2] bcast_S64x64_S1x64x64_1_2),
    StableHlo.TRef.nullary (.of main_while0b_call3_c : StableHlo.TRef sig ⟨S_, .i32⟩) (constantI S_ 32 0#32),
    StableHlo.TRef.nullary (.of main_while0b_call3_c_0 : StableHlo.TRef sig ⟨S_, .i32⟩) (constantI S_ 32 0#32),
    StableHlo.TRef.binaryIndexed (.of main_v60_8 : StableHlo.TRef sig ⟨S2048x64x64, .f32⟩) (.of main_while0b_call3_v0 : StableHlo.TRef sig ⟨S1x64x64, .f32⟩) ![(.of main_v60_4 : StableHlo.TRef sig ⟨S_, .i32⟩), (.of main_while0b_call3_c : StableHlo.TRef sig ⟨S_, .i32⟩), (.of main_while0b_call3_c_0 : StableHlo.TRef sig ⟨S_, .i32⟩)] (.of main_while0b_v212 : StableHlo.TRef sig ⟨S2048x64x64, .f32⟩) (fun x u i => Host.dynamicUpdateSlice x u (fun k => (i k (Shape.Idx.first h_S_)).toInt) updateFits_S2048x64x64_S1x64x64) ]
/-- Each touches TensorCore references only (`HostSeg.ofOps` over `StableHlo.tcRefs`, or a subset by `sub_ucRefs`). -/
theorem while0Ops0_4_sub : (while0Ops0_4 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
/-- 4 host operations of @dynamic_update_index_in_dim (main_while0b_call4), in order. -/
abbrev while0Ops0_5 : List (HloOp τ sig (Elt F)) :=
  [ StableHlo.TRef.unary (.of main_v60_5 : StableHlo.TRef sig ⟨S64x64, .f32⟩) (.of main_while0b_call4_v0 : StableHlo.TRef sig ⟨S1x64x64, .f32⟩) (broadcastInDim S1x64x64 ![1, 2] bcast_S64x64_S1x64x64_1_2),
    StableHlo.TRef.nullary (.of main_while0b_call4_c : StableHlo.TRef sig ⟨S_, .i32⟩) (constantI S_ 32 0#32),
    StableHlo.TRef.nullary (.of main_while0b_call4_c_0 : StableHlo.TRef sig ⟨S_, .i32⟩) (constantI S_ 32 0#32),
    StableHlo.TRef.binaryIndexed (.of main_v60_9 : StableHlo.TRef sig ⟨S2048x64x64, .f32⟩) (.of main_while0b_call4_v0 : StableHlo.TRef sig ⟨S1x64x64, .f32⟩) ![(.of main_v60_4 : StableHlo.TRef sig ⟨S_, .i32⟩), (.of main_while0b_call4_c : StableHlo.TRef sig ⟨S_, .i32⟩), (.of main_while0b_call4_c_0 : StableHlo.TRef sig ⟨S_, .i32⟩)] (.of main_while0b_v213 : StableHlo.TRef sig ⟨S2048x64x64, .f32⟩) (fun x u i => Host.dynamicUpdateSlice x u (fun k => (i k (Shape.Idx.first h_S_)).toInt) updateFits_S2048x64x64_S1x64x64) ]
/-- Each touches TensorCore references only (`HostSeg.ofOps` over `StableHlo.tcRefs`, or a subset by `sub_ucRefs`). -/
theorem while0Ops0_5_sub : (while0Ops0_5 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
/-- 4 host operations of @dynamic_update_index_in_dim (main_while0b_call5), in order. -/
abbrev while0Ops0_6 : List (HloOp τ sig (Elt F)) :=
  [ StableHlo.TRef.unary (.of main_v60_6 : StableHlo.TRef sig ⟨S64x64, .f32⟩) (.of main_while0b_call5_v0 : StableHlo.TRef sig ⟨S1x64x64, .f32⟩) (broadcastInDim S1x64x64 ![1, 2] bcast_S64x64_S1x64x64_1_2),
    StableHlo.TRef.nullary (.of main_while0b_call5_c : StableHlo.TRef sig ⟨S_, .i32⟩) (constantI S_ 32 0#32),
    StableHlo.TRef.nullary (.of main_while0b_call5_c_0 : StableHlo.TRef sig ⟨S_, .i32⟩) (constantI S_ 32 0#32),
    StableHlo.TRef.binaryIndexed (.of main_v60_10 : StableHlo.TRef sig ⟨S2048x64x64, .f32⟩) (.of main_while0b_call5_v0 : StableHlo.TRef sig ⟨S1x64x64, .f32⟩) ![(.of main_v60_4 : StableHlo.TRef sig ⟨S_, .i32⟩), (.of main_while0b_call5_c : StableHlo.TRef sig ⟨S_, .i32⟩), (.of main_while0b_call5_c_0 : StableHlo.TRef sig ⟨S_, .i32⟩)] (.of main_while0b_v214 : StableHlo.TRef sig ⟨S2048x64x64, .f32⟩) (fun x u i => Host.dynamicUpdateSlice x u (fun k => (i k (Shape.Idx.first h_S_)).toInt) updateFits_S2048x64x64_S1x64x64) ]
/-- Each touches TensorCore references only (`HostSeg.ofOps` over `StableHlo.tcRefs`, or a subset by `sub_ucRefs`). -/
theorem while0Ops0_6_sub : (while0Ops0_6 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
/-- 9 host operations of host loop 0's body region, in order. -/
abbrev while0Ops0_7 : List (HloOp τ sig (Elt F)) :=
  [ StableHlo.nullary main_while0b_c_41 (constantI S_ 32 1#32),
    StableHlo.binary main_v60_4 main_while0b_c_41 main_while0b_v215 (addi : (⟨S_, .i32⟩ : BufTy).Contents (Elt F) → (⟨S_, .i32⟩ : BufTy).Contents (Elt F) → (⟨S_, .i32⟩ : BufTy).Contents (Elt F)),
    StableHlo.unary main_while0b_v215 main_v60_4 id,
    StableHlo.unary main_while0b_v206 main_v60_5 id,
    StableHlo.unary main_while0b_v210 main_v60_6 id,
    StableHlo.unary main_while0b_v211 main_v60_7 id,
    StableHlo.unary main_while0b_v212 main_v60_8 id,
    StableHlo.unary main_while0b_v213 main_v60_9 id,
    StableHlo.unary main_while0b_v214 main_v60_10 id ]
/-- Each touches TensorCore references only (`HostSeg.ofOps` over `StableHlo.tcRefs`, or a subset by `sub_ucRefs`). -/
theorem while0Ops0_7_sub : (while0Ops0_7 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- `main_while0_body` is the chain of its items (`Pipeline.chain`): operation stretches, regions, loops and branches in
    order, a module-local function called from it a stretch of its own. Each item aligned with the block's
    statements (`StableHlo.chain_seq_cons` for a stretch of its own operations, `Pipeline.chain_cons` for any other item),
    then `chain_rfl`: the KERNEL's definitional unfolding peels the `do` sequence against the items an operation at a
    time, re-associating no bind of the block's own stretches; a called function's body that holds a region, an
    `AllocateBuffer` or a call not in tail position, or a body printed in parts, is still met across its binds
    (Lib/Pipeline/Regions.lean § Aligning a block with its items). -/
theorem while0_body_chain : main_while0_body (F := F) = (Pipeline.chain
  [ StableHlo.seq while0Ops0,
    StableHlo.seq while0Ops0_1,
    StableHlo.seq while0Ops0_2,
    StableHlo.seq while0Ops0_3,
    StableHlo.seq while0Ops0_4,
    StableHlo.seq while0Ops0_5,
    StableHlo.seq while0Ops0_6,
    StableHlo.seq while0Ops0_7 ] : Prog (TpuEff nD τ sig (Elt F) (HostLoop.Sig (Pipeline.Sig Λ₀ (Fin 0) fun p => (pcfgs (F := F) p).Adm) 2) .tc) PUnit) := by
  rewrite [Pipeline.chain_cons, Pipeline.chain_cons, StableHlo.chain_seq_cons, Pipeline.chain_cons, Pipeline.chain_cons, Pipeline.chain_cons, Pipeline.chain_cons, StableHlo.chain_seq_cons]
  chain_rfl

/-- 4 host operations of host loop 1's body region, in order. -/
abbrev while1Ops0 : List (HloOp τ sig (Elt F)) :=
  [ StableHlo.nullary main_while1b_c_43 (constantI S_ 32 2048#32),
    StableHlo.binary main_while1b_c_43 main_v97_6 main_while1b_v201 (subi : (⟨S_, .i32⟩ : BufTy).Contents (Elt F) → (⟨S_, .i32⟩ : BufTy).Contents (Elt F) → (⟨S_, .i32⟩ : BufTy).Contents (Elt F)),
    StableHlo.nullary main_while1b_c_44 (constantI S_ 32 1#32),
    StableHlo.binary main_while1b_v201 main_while1b_c_44 main_while1b_v202 (subi : (⟨S_, .i32⟩ : BufTy).Contents (Elt F) → (⟨S_, .i32⟩ : BufTy).Contents (Elt F) → (⟨S_, .i32⟩ : BufTy).Contents (Elt F)) ]
/-- Each touches TensorCore references only (`HostSeg.ofOps` over `StableHlo.tcRefs`, or a subset by `sub_ucRefs`). -/
theorem while1Ops0_sub : (while1Ops0 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub ..⟩
/-- 4 host operations of @dynamic_index_in_dim (main_while1b_call6), in order. -/
abbrev while1Ops0_1 : List (HloOp τ sig (Elt F)) :=
  [ StableHlo.TRef.nullary (.of main_while1b_call6_c : StableHlo.TRef sig ⟨S_, .i32⟩) (constantI S_ 32 0#32),
    StableHlo.TRef.nullary (.of main_while1b_call6_c_0 : StableHlo.TRef sig ⟨S_, .i32⟩) (constantI S_ 32 0#32),
    StableHlo.TRef.unaryIndexed (.of main_v97_0 : StableHlo.TRef sig ⟨S2048x64x64, .f32⟩) ![(.of main_while1b_v202 : StableHlo.TRef sig ⟨S_, .i32⟩), (.of main_while1b_call6_c : StableHlo.TRef sig ⟨S_, .i32⟩), (.of main_while1b_call6_c_0 : StableHlo.TRef sig ⟨S_, .i32⟩)] (.of main_while1b_call6_v0 : StableHlo.TRef sig ⟨S1x64x64, .f32⟩) (fun x i => Host.dynamicSlice S1x64x64 x (fun k => (i k (Shape.Idx.first h_S_)).toInt) sliceFits_S2048x64x64_S1x64x64),
    StableHlo.TRef.reshape (.of main_while1b_call6_v0 : StableHlo.TRef sig ⟨S1x64x64, .f32⟩) (.of main_while1b_v203 : StableHlo.TRef sig ⟨S64x64, .f32⟩) (rfl : (.f32 : EltTy) = .f32) shapeCasts_S1x64x64_S64x64 ]
/-- Each touches TensorCore references only (`HostSeg.ofOps` over `StableHlo.tcRefs`, or a subset by `sub_ucRefs`). -/
theorem while1Ops0_1_sub : (while1Ops0_1 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
/-- 4 host operations of @dynamic_index_in_dim (main_while1b_call7), in order. -/
abbrev while1Ops0_2 : List (HloOp τ sig (Elt F)) :=
  [ StableHlo.TRef.nullary (.of main_while1b_call7_c : StableHlo.TRef sig ⟨S_, .i32⟩) (constantI S_ 32 0#32),
    StableHlo.TRef.nullary (.of main_while1b_call7_c_0 : StableHlo.TRef sig ⟨S_, .i32⟩) (constantI S_ 32 0#32),
    StableHlo.TRef.unaryIndexed (.of main_v97_1 : StableHlo.TRef sig ⟨S2048x64x64, .f32⟩) ![(.of main_while1b_v202 : StableHlo.TRef sig ⟨S_, .i32⟩), (.of main_while1b_call7_c : StableHlo.TRef sig ⟨S_, .i32⟩), (.of main_while1b_call7_c_0 : StableHlo.TRef sig ⟨S_, .i32⟩)] (.of main_while1b_call7_v0 : StableHlo.TRef sig ⟨S1x64x64, .f32⟩) (fun x i => Host.dynamicSlice S1x64x64 x (fun k => (i k (Shape.Idx.first h_S_)).toInt) sliceFits_S2048x64x64_S1x64x64),
    StableHlo.TRef.reshape (.of main_while1b_call7_v0 : StableHlo.TRef sig ⟨S1x64x64, .f32⟩) (.of main_while1b_v204 : StableHlo.TRef sig ⟨S64x64, .f32⟩) (rfl : (.f32 : EltTy) = .f32) shapeCasts_S1x64x64_S64x64 ]
/-- Each touches TensorCore references only (`HostSeg.ofOps` over `StableHlo.tcRefs`, or a subset by `sub_ucRefs`). -/
theorem while1Ops0_2_sub : (while1Ops0_2 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
/-- 4 host operations of @dynamic_index_in_dim (main_while1b_call8), in order. -/
abbrev while1Ops0_3 : List (HloOp τ sig (Elt F)) :=
  [ StableHlo.TRef.nullary (.of main_while1b_call8_c : StableHlo.TRef sig ⟨S_, .i32⟩) (constantI S_ 32 0#32),
    StableHlo.TRef.nullary (.of main_while1b_call8_c_0 : StableHlo.TRef sig ⟨S_, .i32⟩) (constantI S_ 32 0#32),
    StableHlo.TRef.unaryIndexed (.of main_v97_2 : StableHlo.TRef sig ⟨S2048x64x64, .f32⟩) ![(.of main_while1b_v202 : StableHlo.TRef sig ⟨S_, .i32⟩), (.of main_while1b_call8_c : StableHlo.TRef sig ⟨S_, .i32⟩), (.of main_while1b_call8_c_0 : StableHlo.TRef sig ⟨S_, .i32⟩)] (.of main_while1b_call8_v0 : StableHlo.TRef sig ⟨S1x64x64, .f32⟩) (fun x i => Host.dynamicSlice S1x64x64 x (fun k => (i k (Shape.Idx.first h_S_)).toInt) sliceFits_S2048x64x64_S1x64x64),
    StableHlo.TRef.reshape (.of main_while1b_call8_v0 : StableHlo.TRef sig ⟨S1x64x64, .f32⟩) (.of main_while1b_v205 : StableHlo.TRef sig ⟨S64x64, .f32⟩) (rfl : (.f32 : EltTy) = .f32) shapeCasts_S1x64x64_S64x64 ]
/-- Each touches TensorCore references only (`HostSeg.ofOps` over `StableHlo.tcRefs`, or a subset by `sub_ucRefs`). -/
theorem while1Ops0_3_sub : (while1Ops0_3 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
/-- 4 host operations of @dynamic_index_in_dim (main_while1b_call9), in order. -/
abbrev while1Ops0_4 : List (HloOp τ sig (Elt F)) :=
  [ StableHlo.TRef.nullary (.of main_while1b_call9_c : StableHlo.TRef sig ⟨S_, .i32⟩) (constantI S_ 32 0#32),
    StableHlo.TRef.nullary (.of main_while1b_call9_c_0 : StableHlo.TRef sig ⟨S_, .i32⟩) (constantI S_ 32 0#32),
    StableHlo.TRef.unaryIndexed (.of main_v97_3 : StableHlo.TRef sig ⟨S2048x64x64, .f32⟩) ![(.of main_while1b_v202 : StableHlo.TRef sig ⟨S_, .i32⟩), (.of main_while1b_call9_c : StableHlo.TRef sig ⟨S_, .i32⟩), (.of main_while1b_call9_c_0 : StableHlo.TRef sig ⟨S_, .i32⟩)] (.of main_while1b_call9_v0 : StableHlo.TRef sig ⟨S1x64x64, .f32⟩) (fun x i => Host.dynamicSlice S1x64x64 x (fun k => (i k (Shape.Idx.first h_S_)).toInt) sliceFits_S2048x64x64_S1x64x64),
    StableHlo.TRef.reshape (.of main_while1b_call9_v0 : StableHlo.TRef sig ⟨S1x64x64, .f32⟩) (.of main_while1b_v206 : StableHlo.TRef sig ⟨S64x64, .f32⟩) (rfl : (.f32 : EltTy) = .f32) shapeCasts_S1x64x64_S64x64 ]
/-- Each touches TensorCore references only (`HostSeg.ofOps` over `StableHlo.tcRefs`, or a subset by `sub_ucRefs`). -/
theorem while1Ops0_4_sub : (while1Ops0_4 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
/-- 17 host operations of host loop 1's body region, in order. -/
abbrev while1Ops0_5 : List (HloOp τ sig (Elt F)) :=
  [ StableHlo.binary main_v97_9 main_while1b_v203 main_while1b_v207 (addf : (⟨S64x64, .f32⟩ : BufTy).Contents (Elt F) → (⟨S64x64, .f32⟩ : BufTy).Contents (Elt F) → (⟨S64x64, .f32⟩ : BufTy).Contents (Elt F)),
    StableHlo.binary main_v97_10 main_while1b_v204 main_while1b_v208 (addf : (⟨S64x64, .f32⟩ : BufTy).Contents (Elt F) → (⟨S64x64, .f32⟩ : BufTy).Contents (Elt F) → (⟨S64x64, .f32⟩ : BufTy).Contents (Elt F)),
    StableHlo.binary main_v97_5 main_while1b_v208 main_while1b_v209 (mulf : (⟨S64x64, .f32⟩ : BufTy).Contents (Elt F) → (⟨S64x64, .f32⟩ : BufTy).Contents (Elt F) → (⟨S64x64, .f32⟩ : BufTy).Contents (Elt F)),
    StableHlo.binary main_while1b_v208 main_while1b_v205 main_while1b_v210 (mulf : (⟨S64x64, .f32⟩ : BufTy).Contents (Elt F) → (⟨S64x64, .f32⟩ : BufTy).Contents (Elt F) → (⟨S64x64, .f32⟩ : BufTy).Contents (Elt F)),
    StableHlo.binary main_v97_8 main_while1b_v210 main_while1b_v211 (addf : (⟨S64x64, .f32⟩ : BufTy).Contents (Elt F) → (⟨S64x64, .f32⟩ : BufTy).Contents (Elt F) → (⟨S64x64, .f32⟩ : BufTy).Contents (Elt F)),
    StableHlo.binary main_v97_4 main_while1b_v208 main_while1b_v212 (mulf : (⟨S64x64, .f32⟩ : BufTy).Contents (Elt F) → (⟨S64x64, .f32⟩ : BufTy).Contents (Elt F) → (⟨S64x64, .f32⟩ : BufTy).Contents (Elt F)),
    StableHlo.binary main_while1b_v208 main_while1b_v206 main_while1b_v213 (mulf : (⟨S64x64, .f32⟩ : BufTy).Contents (Elt F) → (⟨S64x64, .f32⟩ : BufTy).Contents (Elt F) → (⟨S64x64, .f32⟩ : BufTy).Contents (Elt F)),
    StableHlo.binary main_v97_7 main_while1b_v213 main_while1b_v214 (addf : (⟨S64x64, .f32⟩ : BufTy).Contents (Elt F) → (⟨S64x64, .f32⟩ : BufTy).Contents (Elt F) → (⟨S64x64, .f32⟩ : BufTy).Contents (Elt F)),
    StableHlo.unary main_while1b_v207 main_while1b_v215 (Host.negf : (⟨S64x64, .f32⟩ : BufTy).Contents (Elt F) → (⟨S64x64, .f32⟩ : BufTy).Contents (Elt F)),
    StableHlo.binary main_v97_5 main_while1b_v215 main_while1b_v216 (mulf : (⟨S64x64, .f32⟩ : BufTy).Contents (Elt F) → (⟨S64x64, .f32⟩ : BufTy).Contents (Elt F) → (⟨S64x64, .f32⟩ : BufTy).Contents (Elt F)),
    StableHlo.binary main_while1b_v212 main_while1b_v216 main_while1b_v217 (addf : (⟨S64x64, .f32⟩ : BufTy).Contents (Elt F) → (⟨S64x64, .f32⟩ : BufTy).Contents (Elt F) → (⟨S64x64, .f32⟩ : BufTy).Contents (Elt F)),
    StableHlo.binary main_while1b_v215 main_while1b_v206 main_while1b_v218 (mulf : (⟨S64x64, .f32⟩ : BufTy).Contents (Elt F) → (⟨S64x64, .f32⟩ : BufTy).Contents (Elt F) → (⟨S64x64, .f32⟩ : BufTy).Contents (Elt F)),
    StableHlo.binary main_while1b_v211 main_while1b_v218 main_while1b_v219 (addf : (⟨S64x64, .f32⟩ : BufTy).Contents (Elt F) → (⟨S64x64, .f32⟩ : BufTy).Contents (Elt F) → (⟨S64x64, .f32⟩ : BufTy).Contents (Elt F)),
    StableHlo.binary main_v97_4 main_while1b_v207 main_while1b_v220 (mulf : (⟨S64x64, .f32⟩ : BufTy).Contents (Elt F) → (⟨S64x64, .f32⟩ : BufTy).Contents (Elt F) → (⟨S64x64, .f32⟩ : BufTy).Contents (Elt F)),
    StableHlo.binary main_while1b_v209 main_while1b_v220 main_while1b_v221 (addf : (⟨S64x64, .f32⟩ : BufTy).Contents (Elt F) → (⟨S64x64, .f32⟩ : BufTy).Contents (Elt F) → (⟨S64x64, .f32⟩ : BufTy).Contents (Elt F)),
    StableHlo.binary main_while1b_v207 main_while1b_v205 main_while1b_v222 (mulf : (⟨S64x64, .f32⟩ : BufTy).Contents (Elt F) → (⟨S64x64, .f32⟩ : BufTy).Contents (Elt F) → (⟨S64x64, .f32⟩ : BufTy).Contents (Elt F)),
    StableHlo.binary main_while1b_v214 main_while1b_v222 main_while1b_v223 (addf : (⟨S64x64, .f32⟩ : BufTy).Contents (Elt F) → (⟨S64x64, .f32⟩ : BufTy).Contents (Elt F) → (⟨S64x64, .f32⟩ : BufTy).Contents (Elt F)) ]
/-- Each touches TensorCore references only (`HostSeg.ofOps` over `StableHlo.tcRefs`, or a subset by `sub_ucRefs`). -/
theorem while1Ops0_5_sub : (while1Ops0_5 : List (HloOp τ sig (Elt F))).Forall fun op => op.bufs ⊆ StableHlo.tcRefs τ sig :=
  ⟨StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.unary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub ..⟩
/-- 4 host operations of @dynamic_update_index_in_dim (main_while1b_call10), in order. -/
abbrev while1Ops0_6 : List (HloOp τ sig (Elt F)) :=
  [ StableHlo.TRef.unary (.of main_while1b_v207 : StableHlo.TRef sig ⟨S64x64, .f32⟩) (.of main_while1b_call10_v0 : StableHlo.TRef sig ⟨S1x64x64, .f32⟩) (broadcastInDim S1x64x64 ![1, 2] bcast_S64x64_S1x64x64_1_2),
    StableHlo.TRef.nullary (.of main_while1b_call10_c : StableHlo.TRef sig ⟨S_, .i32⟩) (constantI S_ 32 0#32),
    StableHlo.TRef.nullary (.of main_while1b_call10_c_0 : StableHlo.TRef sig ⟨S_, .i32⟩) (constantI S_ 32 0#32),
    StableHlo.TRef.binaryIndexed (.of main_v97_11 : StableHlo.TRef sig ⟨S2048x64x64, .f32⟩) (.of main_while1b_call10_v0 : StableHlo.TRef sig ⟨S1x64x64, .f32⟩) ![(.of main_while1b_v202 : StableHlo.TRef sig ⟨S_, .i32⟩), (.of main_while1b_call10_c : StableHlo.TRef sig ⟨S_, .i32⟩), (.of main_while1b_call10_c_0 : StableHlo.TRef sig ⟨S_, .i32⟩)] (.of main_while1b_v224 : StableHlo.TRef sig ⟨S2048x64x64, .f32⟩) (fun x u i => Host.dynamicUpdateSlice x u (fun k => (i k (Shape.Idx.first h_S_)).toInt) updateFits_S2048x64x64_S1x64x64) ]
/-- Each touches TensorCore references only (`HostSeg.ofOps` over `StableHlo.tcRefs`, or a subset by `sub_ucRefs`). -/
theorem while1Ops0_6_sub : (while1Ops0_6 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
/-- 4 host operations of @dynamic_update_index_in_dim (main_while1b_call11), in order. -/
abbrev while1Ops0_7 : List (HloOp τ sig (Elt F)) :=
  [ StableHlo.TRef.unary (.of main_while1b_v208 : StableHlo.TRef sig ⟨S64x64, .f32⟩) (.of main_while1b_call11_v0 : StableHlo.TRef sig ⟨S1x64x64, .f32⟩) (broadcastInDim S1x64x64 ![1, 2] bcast_S64x64_S1x64x64_1_2),
    StableHlo.TRef.nullary (.of main_while1b_call11_c : StableHlo.TRef sig ⟨S_, .i32⟩) (constantI S_ 32 0#32),
    StableHlo.TRef.nullary (.of main_while1b_call11_c_0 : StableHlo.TRef sig ⟨S_, .i32⟩) (constantI S_ 32 0#32),
    StableHlo.TRef.binaryIndexed (.of main_v97_12 : StableHlo.TRef sig ⟨S2048x64x64, .f32⟩) (.of main_while1b_call11_v0 : StableHlo.TRef sig ⟨S1x64x64, .f32⟩) ![(.of main_while1b_v202 : StableHlo.TRef sig ⟨S_, .i32⟩), (.of main_while1b_call11_c : StableHlo.TRef sig ⟨S_, .i32⟩), (.of main_while1b_call11_c_0 : StableHlo.TRef sig ⟨S_, .i32⟩)] (.of main_while1b_v225 : StableHlo.TRef sig ⟨S2048x64x64, .f32⟩) (fun x u i => Host.dynamicUpdateSlice x u (fun k => (i k (Shape.Idx.first h_S_)).toInt) updateFits_S2048x64x64_S1x64x64) ]
/-- Each touches TensorCore references only (`HostSeg.ofOps` over `StableHlo.tcRefs`, or a subset by `sub_ucRefs`). -/
theorem while1Ops0_7_sub : (while1Ops0_7 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
/-- 9 host operations of host loop 1's body region, in order. -/
abbrev while1Ops0_8 : List (HloOp τ sig (Elt F)) :=
  [ StableHlo.nullary main_while1b_c_45 (constantI S_ 32 1#32),
    StableHlo.binary main_v97_6 main_while1b_c_45 main_while1b_v226 (addi : (⟨S_, .i32⟩ : BufTy).Contents (Elt F) → (⟨S_, .i32⟩ : BufTy).Contents (Elt F) → (⟨S_, .i32⟩ : BufTy).Contents (Elt F)),
    StableHlo.unary main_while1b_v226 main_v97_6 id,
    StableHlo.unary main_while1b_v223 main_v97_7 id,
    StableHlo.unary main_while1b_v219 main_v97_8 id,
    StableHlo.unary main_while1b_v221 main_v97_9 id,
    StableHlo.unary main_while1b_v217 main_v97_10 id,
    StableHlo.unary main_while1b_v224 main_v97_11 id,
    StableHlo.unary main_while1b_v225 main_v97_12 id ]
/-- Each touches TensorCore references only (`HostSeg.ofOps` over `StableHlo.tcRefs`, or a subset by `sub_ucRefs`). -/
theorem while1Ops0_8_sub : (while1Ops0_8 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- `main_while1_body` is the chain of its items (`Pipeline.chain`): operation stretches, regions, loops and branches in
    order, a module-local function called from it a stretch of its own. Each item aligned with the block's
    statements (`StableHlo.chain_seq_cons` for a stretch of its own operations, `Pipeline.chain_cons` for any other item),
    then `chain_rfl`: the KERNEL's definitional unfolding peels the `do` sequence against the items an operation at a
    time, re-associating no bind of the block's own stretches; a called function's body that holds a region, an
    `AllocateBuffer` or a call not in tail position, or a body printed in parts, is still met across its binds
    (Lib/Pipeline/Regions.lean § Aligning a block with its items). -/
theorem while1_body_chain : main_while1_body (F := F) = (Pipeline.chain
  [ StableHlo.seq while1Ops0,
    StableHlo.seq while1Ops0_1,
    StableHlo.seq while1Ops0_2,
    StableHlo.seq while1Ops0_3,
    StableHlo.seq while1Ops0_4,
    StableHlo.seq while1Ops0_5,
    StableHlo.seq while1Ops0_6,
    StableHlo.seq while1Ops0_7,
    StableHlo.seq while1Ops0_8 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, Pipeline.chain_cons, Pipeline.chain_cons, Pipeline.chain_cons, StableHlo.chain_seq_cons, Pipeline.chain_cons, Pipeline.chain_cons, StableHlo.chain_seq_cons]
  chain_rfl

end Cert.ReferenceIdeal.Gen

end
-- ==== Proof.Ref.TwoLoops.lean ====
/- The run of a program that has no kernel and whose @main is a stretch of host operations, a counted host loop, a second
   stretch, a second counted loop and a last stretch: every execution terminates, with every buffer at the fold of the
   operations (`run_two_loops`). It is the one-loop statement of the library with two loop segments instead of one. -/
module

public import Idealize.ShloMosaic.Lib.Pipeline.Regions
public import Idealize.ShloMosaic.Lib.StableHlo.RunLoop

@[expose] public section

noncomputable section

namespace Cert.TwoLoops

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo
open Idealize.ShloMosaic.Pipeline (CSeg Ticket PCfg ucRefs unscopedBufs_held sub_ucRefs)

variable {nD : Nat} {τ : Topo} {sig : RefSig} {F : FTy → Type} {Λ₀ : Idealize.SL.Sem.Labels}

local notation "𝕄" => MT nD τ sig Unit (Elt F) ℕ (Option PUnit) ℕ

/-- A core's remaining duties, carried unchanged beside the buffers. -/
abbrev Duty (c : Dev nD) : sProp 𝕄 := iprop(∃ W, owes (c : Thread nD τ) (0 : CellTallies nD τ sig Unit) W)

/-- No pipeline: nothing is admitted. -/
abbrev noAdm (pcs : Fin 0 → PCfg sig Λ₀ (Elt F)) : (p : Fin 0) → (pcs p).Adm := fun p => p.elim0
/-- No pipeline: no ticket. -/
abbrev noTk (pcs : Fin 0 → PCfg sig Λ₀ (Elt F)) :
    Fin 0 → Ticket (Ix := Unit) (Name := ℕ) (U := Option PUnit) (Lvl := ℕ) (nD := nD) (τ := τ) pcs (noAdm pcs) := fun j => j.elim0

/-- A condition's specification, with the core's duties carried through. -/
theorem condSpec_carry {pcs : Fin 0 → PCfg sig Λ₀ (Elt F)} {defs₀ : Defs nD τ sig (Elt F) Λ₀} {nL : Nat}
    {loops : Fin nL → Prog (TpuEff nD τ sig (Elt F) (HostLoop.Sig (Pipeline.Sig Λ₀ (Fin 0) fun p => (pcs p).Adm) nL) .tc) PUnit}
    {cond : Prog (TpuEff nD τ sig (Elt F) (HostLoop.Sig (Pipeline.Sig Λ₀ (Fin 0) fun p => (pcs p).Adm) nL) .tc) (Elt F .i1)}
    {condOps : List (HloOp τ sig (Elt F))} {bodyI : List (List (HloOp τ sig (Elt F)))} {W₀ : Dev nD → Valuation τ sig (Elt F)} {n : ℕ}
    (hcond : CondSpec pcs defs₀ loops cond condOps bodyI W₀ n) :
    LoopCond pcs defs₀ Variants.none loops (Duty (nD := nD) (τ := τ) (sig := sig) (F := F)) cond condOps bodyI W₀ n := fun k hk c bd => by
  have hc := hcond k hk c bd
  have hpost : ∀ v : Elt F .i1,
      iprop(iprop(⌜v = 1#1 ↔ k < n⌝ ∗ boundary (c : Thread nD τ) ∗ held (c : Thread nD τ) (ucRefs τ sig) (after condOps (atTrip condOps bodyI W₀ k c))) ∗ Duty c)
        ⊢ iprop(⌜v = 1#1 ↔ k < n⌝ ∗ boundary (c : Thread nD τ) ∗ held (c : Thread nD τ) (ucRefs τ sig) (after condOps (atTrip condOps bodyI W₀ k c)) ∗ Duty c) := fun v => by
    iintro ⟨⟨%hv, Hbd, Hh⟩, HR⟩
    isplitr; · ipureintro; exact hv
    isplitl [Hbd]; · iexact Hbd
    isplitl [Hh] <;> iassumption
  refine BIBase.Entails.trans ?_ (((sep_mono_left hc).trans (wp_frame_r _ _ _)).trans (wp_mono _ _ _ hpost))
  iintro ⟨Hbd, Hh, HR⟩
  isplitl [Hbd Hh]; · isplitl [Hbd] <;> iassumption
  iexact HR

/-- The buffers after a counted loop that was entered at `W`. -/
abbrev exitContents (condOps : List (HloOp τ sig (Elt F))) (bodyI : List (List (HloOp τ sig (Elt F)))) (n : ℕ)
    (W : Dev nD → Valuation τ sig (Elt F)) (c : Dev nD) : Valuation τ sig (Elt F) :=
  after condOps (atTrip condOps bodyI W n c)

section

variable (pcs : Fin 0 → PCfg sig Λ₀ (Elt F)) (defs₀ : Defs nD τ sig (Elt F) Λ₀) {nL : Nat}
  (loops : Fin nL → Prog (TpuEff nD τ sig (Elt F) (HostLoop.Sig (Pipeline.Sig Λ₀ (Fin 0) fun p => (pcs p).Adm) nL) .tc) PUnit)
  (main : Dev nD → Prog (TpuEff nD τ sig (Elt F) (HostLoop.Sig (Pipeline.Sig Λ₀ (Fin 0) fun p => (pcs p).Adm) nL) .tc) PUnit)
  (l₁ l₂ : Fin nL)
  (cond₁ cond₂ : Prog (TpuEff nD τ sig (Elt F) (HostLoop.Sig (Pipeline.Sig Λ₀ (Fin 0) fun p => (pcs p).Adm) nL) .tc) (Elt F .i1))
  (body₁ body₂ : Prog (TpuEff nD τ sig (Elt F) (HostLoop.Sig (Pipeline.Sig Λ₀ (Fin 0) fun p => (pcs p).Adm) nL) .tc) PUnit)
  (hl₁ : loops l₁ = HostLoop.step l₁ cond₁ body₁) (hl₂ : loops l₂ = HostLoop.step l₂ cond₂ body₂)
  (preI body₁I midI body₂I postI : List (List (HloOp τ sig (Elt F)))) (condOps₁ condOps₂ : List (HloOp τ sig (Elt F)))
  (hpre : Plain preI) (hbody₁I : Plain body₁I) (hmid : Plain midI) (hbody₂I : Plain body₂I) (hpost : Plain postI)
  (hb₁ : body₁ = Pipeline.chain (body₁I.map fun ops => (seq ops : Prog _ PUnit)))
  (hb₂ : body₂ = Pipeline.chain (body₂I.map fun ops => (seq ops : Prog _ PUnit)))
  (n₁ n₂ : ℕ) (m : (ℓ : Loc nD τ sig) → Buf (Elt F) ℓ)

/-- The buffers at the second loop's entry. -/
abbrev secondEntry (c : Dev nD) : Valuation τ sig (Elt F) :=
  afterL midI (exitContents condOps₁ body₁I n₁ (entryContents preI m) c)

/-- The buffers at @main's end. -/
abbrev lastContents (c : Dev nD) : Valuation τ sig (Elt F) :=
  afterL postI (exitContents condOps₂ body₂I n₂ (secondEntry preI body₁I midI condOps₁ n₁ m) c)

/-- @main's segments, in order. -/
def segs2 (h₁ : CondSpec pcs defs₀ loops cond₁ condOps₁ body₁I (entryContents preI m) n₁)
    (h₂ : CondSpec pcs defs₀ loops cond₂ condOps₂ body₂I (secondEntry preI body₁I midI condOps₁ n₁ m) n₂) :
    List (CSeg pcs (noAdm pcs) defs₀ Variants.none (fun _ => (∅ : Finset Unit)) (fun _ _ => (0 : ℕ)) loops (noTk (nD := nD) (τ := τ) pcs)) :=
  segsOf _ _ _ _ _ _ _ _ Duty preI hpre (launchContents m)
    ++ loopSeg _ _ _ _ _ _ _ _ l₁ cond₁ body₁ hl₁ condOps₁ body₁I hbody₁I hb₁ n₁ (entryContents preI m) Duty (condSpec_carry h₁)
      :: (segsOf _ _ _ _ _ _ _ _ Duty midI hmid (exitContents condOps₁ body₁I n₁ (entryContents preI m))
        ++ loopSeg _ _ _ _ _ _ _ _ l₂ cond₂ body₂ hl₂ condOps₂ body₂I hbody₂I hb₂ n₂
            (secondEntry preI body₁I midI condOps₁ n₁ m) Duty (condSpec_carry h₂)
          :: segsOf _ _ _ _ _ _ _ _ Duty postI hpost
              (exitContents condOps₂ body₂I n₂ (secondEntry preI body₁I midI condOps₁ n₁ m)))

variable {pcs defs₀ loops l₁ l₂ cond₁ cond₂ body₁ body₂ hl₁ hl₂ preI body₁I midI body₂I postI condOps₁ condOps₂
  hpre hbody₁I hmid hbody₂I hpost hb₁ hb₂ n₁ n₂ m}

theorem segs2_prog (h₁) (h₂) :
    (segs2 pcs defs₀ loops l₁ l₂ cond₁ cond₂ body₁ body₂ hl₁ hl₂ preI body₁I midI body₂I postI condOps₁ condOps₂
        hpre hbody₁I hmid hbody₂I hpost hb₁ hb₂ n₁ n₂ m h₁ h₂).map CSeg.prog
      = (preI.map fun ops => (seq ops : Prog _ PUnit)) ++ HostLoop.enter l₁ ::
          ((midI.map fun ops => (seq ops : Prog _ PUnit)) ++ HostLoop.enter l₂ :: postI.map fun ops => (seq ops : Prog _ PUnit)) := by
  unfold segs2
  rw [List.map_append, List.map_cons, List.map_append, List.map_cons, segsOf_prog, segsOf_prog, segsOf_prog]
  rfl

theorem segs2_chains (h₁) (h₂) :
    CSeg.Chains (fun c => iprop(held (c : Thread nD τ) (ucRefs τ sig) (launchContents m c) ∗ Duty c))
      (segs2 pcs defs₀ loops l₁ l₂ cond₁ cond₂ body₁ body₂ hl₁ hl₂ preI body₁I midI body₂I postI condOps₁ condOps₂
        hpre hbody₁I hmid hbody₂I hpost hb₁ hb₂ n₁ n₂ m h₁ h₂)
      (fun c => iprop(iprop(held (c : Thread nD τ) (ucRefs τ sig) (lastContents preI body₁I midI body₂I postI condOps₁ condOps₂ n₁ n₂ m c)) ∗ ∃ W, owes (c : Thread nD τ) (0 : CellTallies nD τ sig Unit) W)) := by
  unfold segs2
  exact CSeg.Chains.append (segsOf_chains _ _ _ _ _ _ _ _ Duty preI hpre _)
    ⟨fun _ => .rfl, CSeg.Chains.append (segsOf_chains _ _ _ _ _ _ _ _ Duty midI hmid _)
      ⟨fun _ => .rfl, segsOf_chains _ _ _ _ _ _ _ _ Duty postI hpost _⟩⟩

end

/-- Two counted loops between stretches: from any memory with zero counters every weakly fair execution terminates with
    every buffer that holds a value of the program at `lastContents`. -/
theorem run_two_loops [∀ e, Nonempty (Elt F e)]
    (pcs : Fin 0 → PCfg sig Λ₀ (Elt F)) (defs₀ : Defs nD τ sig (Elt F) Λ₀) {nL : Nat}
    (loops : Fin nL → Prog (TpuEff nD τ sig (Elt F) (HostLoop.Sig (Pipeline.Sig Λ₀ (Fin 0) fun p => (pcs p).Adm) nL) .tc) PUnit)
    (main : Dev nD → Prog (TpuEff nD τ sig (Elt F) (HostLoop.Sig (Pipeline.Sig Λ₀ (Fin 0) fun p => (pcs p).Adm) nL) .tc) PUnit)
    (l₁ l₂ : Fin nL)
    (cond₁ cond₂ : Prog (TpuEff nD τ sig (Elt F) (HostLoop.Sig (Pipeline.Sig Λ₀ (Fin 0) fun p => (pcs p).Adm) nL) .tc) (Elt F .i1))
    (body₁ body₂ : Prog (TpuEff nD τ sig (Elt F) (HostLoop.Sig (Pipeline.Sig Λ₀ (Fin 0) fun p => (pcs p).Adm) nL) .tc) PUnit)
    (hl₁ : loops l₁ = HostLoop.step l₁ cond₁ body₁) (hl₂ : loops l₂ = HostLoop.step l₂ cond₂ body₂)
    (preI body₁I midI body₂I postI : List (List (HloOp τ sig (Elt F)))) (condOps₁ condOps₂ : List (HloOp τ sig (Elt F)))
    (hpre : Plain preI) (hbody₁I : Plain body₁I) (hmid : Plain midI) (hbody₂I : Plain body₂I) (hpost : Plain postI)
    (hmain : ∀ c, main c = Pipeline.chain ((preI.map fun ops => (seq ops : Prog _ PUnit)) ++ HostLoop.enter l₁ ::
          ((midI.map fun ops => (seq ops : Prog _ PUnit)) ++ HostLoop.enter l₂ :: postI.map fun ops => (seq ops : Prog _ PUnit))))
    (hb₁ : body₁ = Pipeline.chain (body₁I.map fun ops => (seq ops : Prog _ PUnit)))
    (hb₂ : body₂ = Pipeline.chain (body₂I.map fun ops => (seq ops : Prog _ PUnit)))
    (n₁ n₂ : ℕ) (m : (ℓ : Loc nD τ sig) → Buf (Elt F) ℓ) (ρ : Dev nD → PrngReg)
    (h₁ : CondSpec pcs defs₀ loops cond₁ condOps₁ body₁I (entryContents preI m) n₁)
    (h₂ : CondSpec pcs defs₀ loops cond₂ condOps₂ body₂I (secondEntry preI body₁I midI condOps₁ n₁ m) n₂) :
    θ_run (HostLoop.defs loops (Pipeline.defs pcs defs₀)) (onTc (τ := τ) main) ⟨m, fun _ => 0, ρ⟩
      (fun r => ∀ (c : Dev nD) (b : Ref sig .tc), (Proc.devRef .tc b : DevRef τ sig).isScoped = false →
        r.2.mem ((c.tc : Thread nD τ).loc b)
          = lastContents preI body₁I midI body₂I postI condOps₁ condOps₂ n₁ n₂ m c (Proc.devRef .tc b)) :=
  Pipeline.θ_run_regions_loop_kit (Ix := Unit) (Name := ℕ) (U := Option PUnit) (Lvl := ℕ) (J := Fin 0) (P := Fin 0) (Val := Elt F)
    pcs (noAdm pcs) (fun k => k.1.elim0) defs₀ Variants.none (fun _ => ∅) (fun _ _ => 0) loops (noTk pcs) m ρ main
    (segs2 pcs defs₀ loops l₁ l₂ cond₁ cond₂ body₁ body₂ hl₁ hl₂ preI body₁I midI body₂I postI condOps₁ condOps₂
        hpre hbody₁I hmid hbody₂I hpost hb₁ hb₂ n₁ n₂ m h₁ h₂)
    (fun c Q => by
      rw [hmain c]
      show wp _ _ _ (Pipeline.chain ((segs2 pcs defs₀ loops l₁ l₂ cond₁ cond₂ body₁ body₂ hl₁ hl₂ preI body₁I midI body₂I postI
        condOps₁ condOps₂ hpre hbody₁I hmid hbody₂I hpost hb₁ hb₂ n₁ n₂ m h₁ h₂).map CSeg.prog)) Q ⊢ _
      rw [segs2_prog])
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp (MT nD τ sig Unit (Elt F) ℕ (Option PUnit) ℕ)) ⊢ bigSep Finset.univ (fun _ : Dev nD => (BI.emp : sProp (MT nD τ sig Unit (Elt F) ℕ (Option PUnit) ℕ))) from by rw [BI.bigSep_emp_const])
        iempintro)
    (T₀ := fun c => iprop(held (c : Thread nD τ) (ucRefs τ sig) (launchContents m c) ∗ Duty c))
    (Tₙ := fun c => iprop(held (c : Thread nD τ) (ucRefs τ sig) (lastContents preI body₁I midI body₂I postI condOps₁ condOps₂ n₁ n₂ m c)))
    (hch := segs2_chains h₁ h₂)
    (hinit := by
      refine Pipeline.initEach _ _ fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = lastContents preI body₁I midI body₂I postI condOps₁ condOps₂ n₁ n₂ m c b)
    (hfin := fun c s' => by
      unfold held
      iintro ⟨Hh, HSI⟩
      ihave Hr := (pointsTo_read_all (ucRefs τ sig) (fun b => ((c : Dev nD), b)) (fun b => lastContents preI body₁I midI body₂I postI condOps₁ condOps₂ n₁ n₂ m c b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

end Cert.TwoLoops

end
-- ==== Proof.Ref.Run.lean ====
/- The run of the reference: its two host loops are counted, and every buffer ends at the fold of the operations
   (`run_fold`). -/
module

public import proofs.«01_k».proof.Proof.Ref.Ops
public import proofs.«01_k».proof.Proof.Ref.TwoLoops

@[expose] public section

set_option maxRecDepth 4096

noncomputable section

namespace Cert.ReferenceIdeal.Value

open Cert.ReferenceIdeal Cert.ReferenceIdeal.Gen Cert.TwoLoops
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-- No operation of `hostOps0` allocates a buffer. -/
theorem hostOps0_fresh : (hostOps0 : List (HloOp τ sig (Elt F))).Forall fun op => op.fresh = ∅ :=
  StableHlo.forall_fresh_of_map rfl
/-- What the operations of `hostOps0` write, in order. -/
abbrev hostOps0_W : List (Ref sig .tc) := [main_v0, main_v1, main_v2, main_v3, main_v4, main_v5, main_v6, main_v7, main_v8, main_v9, main_v10, main_v11, main_v12, main_v13, main_v14, main_v15, main_v16, main_v17, main_cst, main_v18, main_v19, main_v20, main_v21, main_v22, main_v23, main_v24, main_cst_0, main_v25, main_v26, main_v27, main_cst_1, main_v28, main_v29, main_v30, main_v31, main_v32, main_v33, main_cst_2, main_v34, main_v35, main_v36, main_v37, main_v38, main_v39, main_v40, main_v41, main_v42, main_v43, main_v44, main_v45, main_v46, main_v47, main_v48, main_v49, main_v50, main_v51, main_v52, main_v53, main_v54, main_cst_3, main_v55, main_cst_4, main_v56, main_cst_5, main_v57, main_cst_6, main_v58, main_cst_7, main_v59, main_c, main_v60_0, main_v60_1, main_v60_2, main_v60_3, main_v60_4, main_v60_5, main_v60_6, main_v60_7, main_v60_8, main_v60_9, main_v60_10]
theorem hostOps0_writes : (hostOps0 : List (HloOp τ sig (Elt F))).Forall fun op => op.writes ⊆ (hostOps0_W.map (Proc.devRef (τ := τ) .tc)).toFinset :=
  StableHlo.forall_writes_sub_of_map rfl

/-- No operation of `hostOps0_1` allocates a buffer. -/
theorem hostOps0_1_fresh : (hostOps0_1 : List (HloOp τ sig (Elt F))).Forall fun op => op.fresh = ∅ :=
  StableHlo.forall_fresh_of_map rfl
/-- What the operations of `hostOps0_1` write, in order. -/
abbrev hostOps0_1_W : List (Ref sig .tc) := [main_v61, main_v62, main_v63, main_v64, main_v65, main_v66, main_v67, main_v68, main_v69, main_v70, main_cst_8, main_v71, main_cst_9, main_v72, main_v73, main_v74, main_v75, main_v76, main_v77, main_cst_10, main_v78, main_v79, main_cst_11, main_v80, main_v81, main_v82, main_v83, main_v84, main_v85, main_v86, main_v87, main_v88, main_v89, main_v90, main_cst_12, main_v91, main_cst_13, main_v92, main_cst_14, main_v93, main_cst_15, main_v94, main_cst_16, main_v95, main_cst_17, main_v96, main_c_18, main_v97_0, main_v97_1, main_v97_2, main_v97_3, main_v97_4, main_v97_5, main_v97_6, main_v97_7, main_v97_8, main_v97_9, main_v97_10, main_v97_11, main_v97_12]
theorem hostOps0_1_writes : (hostOps0_1 : List (HloOp τ sig (Elt F))).Forall fun op => op.writes ⊆ (hostOps0_1_W.map (Proc.devRef (τ := τ) .tc)).toFinset :=
  StableHlo.forall_writes_sub_of_map rfl

/-- No operation of `hostOps0_2` allocates a buffer. -/
theorem hostOps0_2_fresh : (hostOps0_2 : List (HloOp τ sig (Elt F))).Forall fun op => op.fresh = ∅ :=
  StableHlo.forall_fresh_of_map rfl
/-- What the operations of `hostOps0_2` write, in order. -/
abbrev hostOps0_2_W : List (Ref sig .tc) := [main_v98, main_v99, main_v100, main_v101, main_v102, main_v103, main_v104, main_v105, main_v106, main_v107, main_v108, main_v109, main_v110, main_v111, main_cst_19, main_v112, main_v113, main_cst_20, main_v114, main_v115, main_v116, main_v117, main_cst_21, main_v118, main_v119, main_cst_22, main_v120, main_v121, main_v122, main_v123, main_v124, main_v125, main_cst_23, main_v126, main_v127, main_cst_24, main_v128, main_v129, main_v130, main_v131, main_v132, main_v133, main_cst_25, main_v134, main_v135, main_cst_26, main_v136, main_v137, main_v138, main_v139, main_v140, main_v141, main_v142, main_v143, main_v144, main_v145, main_v146, main_v147, main_v148, main_v149, main_v150, main_v151, main_v152, main_v153, main_v154, main_v155, main_v156, main_v157, main_v158, main_v159, main_v160, main_v161, main_v162, main_v163, main_v164, main_v165, main_v166, main_v167, main_v168, main_v169, main_v170, main_v171, main_v172, main_v173, main_cst_27, main_v174, main_v175, main_v176, main_v177, main_v178, main_v179, main_v180, main_v181, main_v182, main_v183, main_v184, main_cst_28, main_v185, main_v186, main_v187, main_v188, main_v189, main_v190, main_v191, main_v192, main_cst_29, main_v193, main_v194, main_v195, main_v196, main_v197, main_v198, main_cst_30, main_v199, main_v200]
theorem hostOps0_2_writes : (hostOps0_2 : List (HloOp τ sig (Elt F))).Forall fun op => op.writes ⊆ (hostOps0_2_W.map (Proc.devRef (τ := τ) .tc)).toFinset :=
  StableHlo.forall_writes_sub_of_map rfl

/-- No operation of `while0Ops0` allocates a buffer. -/
theorem while0Ops0_fresh : (while0Ops0 : List (HloOp τ sig (Elt F))).Forall fun op => op.fresh = ∅ :=
  StableHlo.forall_fresh_of_map rfl
/-- What the operations of `while0Ops0` write, in order. -/
abbrev while0Ops0_W : List (Ref sig .tc) := [main_while0b_call0_c, main_while0b_call0_c_0, main_while0b_call0_v0, main_while0b_v201]
theorem while0Ops0_writes : (while0Ops0 : List (HloOp τ sig (Elt F))).Forall fun op => op.writes ⊆ (while0Ops0_W.map (Proc.devRef (τ := τ) .tc)).toFinset :=
  StableHlo.forall_writes_sub_of_map rfl

/-- No operation of `while0Ops0_1` allocates a buffer. -/
theorem while0Ops0_1_fresh : (while0Ops0_1 : List (HloOp τ sig (Elt F))).Forall fun op => op.fresh = ∅ :=
  StableHlo.forall_fresh_of_map rfl
/-- What the operations of `while0Ops0_1` write, in order. -/
abbrev while0Ops0_1_W : List (Ref sig .tc) := [main_while0b_call1_c, main_while0b_call1_c_0, main_while0b_call1_v0, main_while0b_v202]
theorem while0Ops0_1_writes : (while0Ops0_1 : List (HloOp τ sig (Elt F))).Forall fun op => op.writes ⊆ (while0Ops0_1_W.map (Proc.devRef (τ := τ) .tc)).toFinset :=
  StableHlo.forall_writes_sub_of_map rfl

/-- No operation of `while0Ops0_2` allocates a buffer. -/
theorem while0Ops0_2_fresh : (while0Ops0_2 : List (HloOp τ sig (Elt F))).Forall fun op => op.fresh = ∅ :=
  StableHlo.forall_fresh_of_map rfl
/-- What the operations of `while0Ops0_2` write, in order. -/
abbrev while0Ops0_2_W : List (Ref sig .tc) := [main_while0b_v203, main_while0b_v204, main_while0b_v205, main_while0b_v206, main_while0b_v207, main_while0b_v208, main_while0b_v209, main_while0b_v210]
theorem while0Ops0_2_writes : (while0Ops0_2 : List (HloOp τ sig (Elt F))).Forall fun op => op.writes ⊆ (while0Ops0_2_W.map (Proc.devRef (τ := τ) .tc)).toFinset :=
  StableHlo.forall_writes_sub_of_map rfl

/-- No operation of `while0Ops0_3` allocates a buffer. -/
theorem while0Ops0_3_fresh : (while0Ops0_3 : List (HloOp τ sig (Elt F))).Forall fun op => op.fresh = ∅ :=
  StableHlo.forall_fresh_of_map rfl
/-- What the operations of `while0Ops0_3` write, in order. -/
abbrev while0Ops0_3_W : List (Ref sig .tc) := [main_while0b_call2_v0, main_while0b_call2_c, main_while0b_call2_c_0, main_while0b_v211]
theorem while0Ops0_3_writes : (while0Ops0_3 : List (HloOp τ sig (Elt F))).Forall fun op => op.writes ⊆ (while0Ops0_3_W.map (Proc.devRef (τ := τ) .tc)).toFinset :=
  StableHlo.forall_writes_sub_of_map rfl

/-- No operation of `while0Ops0_4` allocates a buffer. -/
theorem while0Ops0_4_fresh : (while0Ops0_4 : List (HloOp τ sig (Elt F))).Forall fun op => op.fresh = ∅ :=
  StableHlo.forall_fresh_of_map rfl
/-- What the operations of `while0Ops0_4` write, in order. -/
abbrev while0Ops0_4_W : List (Ref sig .tc) := [main_while0b_call3_v0, main_while0b_call3_c, main_while0b_call3_c_0, main_while0b_v212]
theorem while0Ops0_4_writes : (while0Ops0_4 : List (HloOp τ sig (Elt F))).Forall fun op => op.writes ⊆ (while0Ops0_4_W.map (Proc.devRef (τ := τ) .tc)).toFinset :=
  StableHlo.forall_writes_sub_of_map rfl

/-- No operation of `while0Ops0_5` allocates a buffer. -/
theorem while0Ops0_5_fresh : (while0Ops0_5 : List (HloOp τ sig (Elt F))).Forall fun op => op.fresh = ∅ :=
  StableHlo.forall_fresh_of_map rfl
/-- What the operations of `while0Ops0_5` write, in order. -/
abbrev while0Ops0_5_W : List (Ref sig .tc) := [main_while0b_call4_v0, main_while0b_call4_c, main_while0b_call4_c_0, main_while0b_v213]
theorem while0Ops0_5_writes : (while0Ops0_5 : List (HloOp τ sig (Elt F))).Forall fun op => op.writes ⊆ (while0Ops0_5_W.map (Proc.devRef (τ := τ) .tc)).toFinset :=
  StableHlo.forall_writes_sub_of_map rfl

/-- No operation of `while0Ops0_6` allocates a buffer. -/
theorem while0Ops0_6_fresh : (while0Ops0_6 : List (HloOp τ sig (Elt F))).Forall fun op => op.fresh = ∅ :=
  StableHlo.forall_fresh_of_map rfl
/-- What the operations of `while0Ops0_6` write, in order. -/
abbrev while0Ops0_6_W : List (Ref sig .tc) := [main_while0b_call5_v0, main_while0b_call5_c, main_while0b_call5_c_0, main_while0b_v214]
theorem while0Ops0_6_writes : (while0Ops0_6 : List (HloOp τ sig (Elt F))).Forall fun op => op.writes ⊆ (while0Ops0_6_W.map (Proc.devRef (τ := τ) .tc)).toFinset :=
  StableHlo.forall_writes_sub_of_map rfl

/-- No operation of `while0Ops0_7` allocates a buffer. -/
theorem while0Ops0_7_fresh : (while0Ops0_7 : List (HloOp τ sig (Elt F))).Forall fun op => op.fresh = ∅ :=
  StableHlo.forall_fresh_of_map rfl
/-- What the operations of `while0Ops0_7` write, in order. -/
abbrev while0Ops0_7_W : List (Ref sig .tc) := [main_while0b_c_41, main_while0b_v215, main_v60_4, main_v60_5, main_v60_6, main_v60_7, main_v60_8, main_v60_9, main_v60_10]
theorem while0Ops0_7_writes : (while0Ops0_7 : List (HloOp τ sig (Elt F))).Forall fun op => op.writes ⊆ (while0Ops0_7_W.map (Proc.devRef (τ := τ) .tc)).toFinset :=
  StableHlo.forall_writes_sub_of_map rfl

/-- No operation of `while1Ops0` allocates a buffer. -/
theorem while1Ops0_fresh : (while1Ops0 : List (HloOp τ sig (Elt F))).Forall fun op => op.fresh = ∅ :=
  StableHlo.forall_fresh_of_map rfl
/-- What the operations of `while1Ops0` write, in order. -/
abbrev while1Ops0_W : List (Ref sig .tc) := [main_while1b_c_43, main_while1b_v201, main_while1b_c_44, main_while1b_v202]
theorem while1Ops0_writes : (while1Ops0 : List (HloOp τ sig (Elt F))).Forall fun op => op.writes ⊆ (while1Ops0_W.map (Proc.devRef (τ := τ) .tc)).toFinset :=
  StableHlo.forall_writes_sub_of_map rfl

/-- No operation of `while1Ops0_1` allocates a buffer. -/
theorem while1Ops0_1_fresh : (while1Ops0_1 : List (HloOp τ sig (Elt F))).Forall fun op => op.fresh = ∅ :=
  StableHlo.forall_fresh_of_map rfl
/-- What the operations of `while1Ops0_1` write, in order. -/
abbrev while1Ops0_1_W : List (Ref sig .tc) := [main_while1b_call6_c, main_while1b_call6_c_0, main_while1b_call6_v0, main_while1b_v203]
theorem while1Ops0_1_writes : (while1Ops0_1 : List (HloOp τ sig (Elt F))).Forall fun op => op.writes ⊆ (while1Ops0_1_W.map (Proc.devRef (τ := τ) .tc)).toFinset :=
  StableHlo.forall_writes_sub_of_map rfl

/-- No operation of `while1Ops0_2` allocates a buffer. -/
theorem while1Ops0_2_fresh : (while1Ops0_2 : List (HloOp τ sig (Elt F))).Forall fun op => op.fresh = ∅ :=
  StableHlo.forall_fresh_of_map rfl
/-- What the operations of `while1Ops0_2` write, in order. -/
abbrev while1Ops0_2_W : List (Ref sig .tc) := [main_while1b_call7_c, main_while1b_call7_c_0, main_while1b_call7_v0, main_while1b_v204]
theorem while1Ops0_2_writes : (while1Ops0_2 : List (HloOp τ sig (Elt F))).Forall fun op => op.writes ⊆ (while1Ops0_2_W.map (Proc.devRef (τ := τ) .tc)).toFinset :=
  StableHlo.forall_writes_sub_of_map rfl

/-- No operation of `while1Ops0_3` allocates a buffer. -/
theorem while1Ops0_3_fresh : (while1Ops0_3 : List (HloOp τ sig (Elt F))).Forall fun op => op.fresh = ∅ :=
  StableHlo.forall_fresh_of_map rfl
/-- What the operations of `while1Ops0_3` write, in order. -/
abbrev while1Ops0_3_W : List (Ref sig .tc) := [main_while1b_call8_c, main_while1b_call8_c_0, main_while1b_call8_v0, main_while1b_v205]
theorem while1Ops0_3_writes : (while1Ops0_3 : List (HloOp τ sig (Elt F))).Forall fun op => op.writes ⊆ (while1Ops0_3_W.map (Proc.devRef (τ := τ) .tc)).toFinset :=
  StableHlo.forall_writes_sub_of_map rfl

/-- No operation of `while1Ops0_4` allocates a buffer. -/
theorem while1Ops0_4_fresh : (while1Ops0_4 : List (HloOp τ sig (Elt F))).Forall fun op => op.fresh = ∅ :=
  StableHlo.forall_fresh_of_map rfl
/-- What the operations of `while1Ops0_4` write, in order. -/
abbrev while1Ops0_4_W : List (Ref sig .tc) := [main_while1b_call9_c, main_while1b_call9_c_0, main_while1b_call9_v0, main_while1b_v206]
theorem while1Ops0_4_writes : (while1Ops0_4 : List (HloOp τ sig (Elt F))).Forall fun op => op.writes ⊆ (while1Ops0_4_W.map (Proc.devRef (τ := τ) .tc)).toFinset :=
  StableHlo.forall_writes_sub_of_map rfl

/-- No operation of `while1Ops0_5` allocates a buffer. -/
theorem while1Ops0_5_fresh : (while1Ops0_5 : List (HloOp τ sig (Elt F))).Forall fun op => op.fresh = ∅ :=
  StableHlo.forall_fresh_of_map rfl
/-- What the operations of `while1Ops0_5` write, in order. -/
abbrev while1Ops0_5_W : List (Ref sig .tc) := [main_while1b_v207, main_while1b_v208, main_while1b_v209, main_while1b_v210, main_while1b_v211, main_while1b_v212, main_while1b_v213, main_while1b_v214, main_while1b_v215, main_while1b_v216, main_while1b_v217, main_while1b_v218, main_while1b_v219, main_while1b_v220, main_while1b_v221, main_while1b_v222, main_while1b_v223]
theorem while1Ops0_5_writes : (while1Ops0_5 : List (HloOp τ sig (Elt F))).Forall fun op => op.writes ⊆ (while1Ops0_5_W.map (Proc.devRef (τ := τ) .tc)).toFinset :=
  StableHlo.forall_writes_sub_of_map rfl

/-- No operation of `while1Ops0_6` allocates a buffer. -/
theorem while1Ops0_6_fresh : (while1Ops0_6 : List (HloOp τ sig (Elt F))).Forall fun op => op.fresh = ∅ :=
  StableHlo.forall_fresh_of_map rfl
/-- What the operations of `while1Ops0_6` write, in order. -/
abbrev while1Ops0_6_W : List (Ref sig .tc) := [main_while1b_call10_v0, main_while1b_call10_c, main_while1b_call10_c_0, main_while1b_v224]
theorem while1Ops0_6_writes : (while1Ops0_6 : List (HloOp τ sig (Elt F))).Forall fun op => op.writes ⊆ (while1Ops0_6_W.map (Proc.devRef (τ := τ) .tc)).toFinset :=
  StableHlo.forall_writes_sub_of_map rfl

/-- No operation of `while1Ops0_7` allocates a buffer. -/
theorem while1Ops0_7_fresh : (while1Ops0_7 : List (HloOp τ sig (Elt F))).Forall fun op => op.fresh = ∅ :=
  StableHlo.forall_fresh_of_map rfl
/-- What the operations of `while1Ops0_7` write, in order. -/
abbrev while1Ops0_7_W : List (Ref sig .tc) := [main_while1b_call11_v0, main_while1b_call11_c, main_while1b_call11_c_0, main_while1b_v225]
theorem while1Ops0_7_writes : (while1Ops0_7 : List (HloOp τ sig (Elt F))).Forall fun op => op.writes ⊆ (while1Ops0_7_W.map (Proc.devRef (τ := τ) .tc)).toFinset :=
  StableHlo.forall_writes_sub_of_map rfl

/-- No operation of `while1Ops0_8` allocates a buffer. -/
theorem while1Ops0_8_fresh : (while1Ops0_8 : List (HloOp τ sig (Elt F))).Forall fun op => op.fresh = ∅ :=
  StableHlo.forall_fresh_of_map rfl
/-- What the operations of `while1Ops0_8` write, in order. -/
abbrev while1Ops0_8_W : List (Ref sig .tc) := [main_while1b_c_45, main_while1b_v226, main_v97_6, main_v97_7, main_v97_8, main_v97_9, main_v97_10, main_v97_11, main_v97_12]
theorem while1Ops0_8_writes : (while1Ops0_8 : List (HloOp τ sig (Elt F))).Forall fun op => op.writes ⊆ (while1Ops0_8_W.map (Proc.devRef (τ := τ) .tc)).toFinset :=
  StableHlo.forall_writes_sub_of_map rfl

/-- @main before the first loop. -/
abbrev preI : List (List (HloOp τ sig (Elt F))) := [hostOps0]
theorem pre_plain : Plain (preI (F := F)) := .cons hostOps0_sub (hf := List.forall_iff_forall_mem.mp hostOps0_fresh) (.nil)

/-- @main between the loops. -/
abbrev midI : List (List (HloOp τ sig (Elt F))) := [hostOps0_1]
theorem mid_plain : Plain (midI (F := F)) := .cons hostOps0_1_sub (hf := List.forall_iff_forall_mem.mp hostOps0_1_fresh) (.nil)

/-- @main after the second loop. -/
abbrev postI : List (List (HloOp τ sig (Elt F))) := [hostOps0_2]
theorem post_plain : Plain (postI (F := F)) := .cons hostOps0_2_sub (hf := List.forall_iff_forall_mem.mp hostOps0_2_fresh) (.nil)

/-- The forward loop's body. -/
abbrev fwdI : List (List (HloOp τ sig (Elt F))) := [while0Ops0, while0Ops0_1, while0Ops0_2, while0Ops0_3, while0Ops0_4, while0Ops0_5, while0Ops0_6, while0Ops0_7]
theorem fwd_plain : Plain (fwdI (F := F)) := .cons while0Ops0_sub (hf := List.forall_iff_forall_mem.mp while0Ops0_fresh) (.cons while0Ops0_1_sub (hf := List.forall_iff_forall_mem.mp while0Ops0_1_fresh) (.cons while0Ops0_2_sub (hf := List.forall_iff_forall_mem.mp while0Ops0_2_fresh) (.cons while0Ops0_3_sub (hf := List.forall_iff_forall_mem.mp while0Ops0_3_fresh) (.cons while0Ops0_4_sub (hf := List.forall_iff_forall_mem.mp while0Ops0_4_fresh) (.cons while0Ops0_5_sub (hf := List.forall_iff_forall_mem.mp while0Ops0_5_fresh) (.cons while0Ops0_6_sub (hf := List.forall_iff_forall_mem.mp while0Ops0_6_fresh) (.cons while0Ops0_7_sub (hf := List.forall_iff_forall_mem.mp while0Ops0_7_fresh) (.nil))))))))

/-- The backward loop's body. -/
abbrev bwdI : List (List (HloOp τ sig (Elt F))) := [while1Ops0, while1Ops0_1, while1Ops0_2, while1Ops0_3, while1Ops0_4, while1Ops0_5, while1Ops0_6, while1Ops0_7, while1Ops0_8]
theorem bwd_plain : Plain (bwdI (F := F)) := .cons while1Ops0_sub (hf := List.forall_iff_forall_mem.mp while1Ops0_fresh) (.cons while1Ops0_1_sub (hf := List.forall_iff_forall_mem.mp while1Ops0_1_fresh) (.cons while1Ops0_2_sub (hf := List.forall_iff_forall_mem.mp while1Ops0_2_fresh) (.cons while1Ops0_3_sub (hf := List.forall_iff_forall_mem.mp while1Ops0_3_fresh) (.cons while1Ops0_4_sub (hf := List.forall_iff_forall_mem.mp while1Ops0_4_fresh) (.cons while1Ops0_5_sub (hf := List.forall_iff_forall_mem.mp while1Ops0_5_fresh) (.cons while1Ops0_6_sub (hf := List.forall_iff_forall_mem.mp while1Ops0_6_fresh) (.cons while1Ops0_7_sub (hf := List.forall_iff_forall_mem.mp while1Ops0_7_fresh) (.cons while1Ops0_8_sub (hf := List.forall_iff_forall_mem.mp while1Ops0_8_fresh) (.nil)))))))))

variable (m : (ℓ : Loc nD τ sig) → Buf (Elt F) ℓ) (ρ : Dev nD → PrngReg)

/-- The condition of the fwd loop: the bound, and the trip counter compared with it. -/
abbrev fwdCond : List (HloOp τ sig (Elt F)) :=
  [ StableHlo.nullary main_while0c_c_41 (constantI S_ 32 2048#32),
    StableHlo.binary main_v60_4 main_while0c_c_41 main_while0c_v201 (cmpi .slt) ]
abbrev fwdCond_W : List (Ref sig .tc) := [main_while0c_c_41, main_while0c_v201]
theorem fwdCond_writes : (fwdCond : List (HloOp τ sig (Elt F))).Forall fun op => op.writes ⊆ (fwdCond_W.map (Proc.devRef (τ := τ) .tc)).toFinset :=
  StableHlo.forall_writes_sub_of_map rfl

/-- Every buffer's contents before the `k`-th run of the fwd loop's condition. -/
abbrev fwdAt (k : ℕ) (c : Dev nD) : Valuation τ sig (Elt F) := atTrip fwdCond fwdI (entryContents preI m) k c

theorem fwd_ctr_cond (V : Valuation τ sig (Elt F)) : after fwdCond V (Proc.devRef .tc main_v60_4) = V (Proc.devRef .tc main_v60_4) :=
  after_of_writes_sub fwdCond V fwdCond_writes (by decide +kernel)
theorem fwd_ctr_while0Ops0 (V : Valuation τ sig (Elt F)) : after while0Ops0 V (Proc.devRef .tc main_v60_4) = V (Proc.devRef .tc main_v60_4) :=
  after_of_writes_sub while0Ops0 V while0Ops0_writes (by decide +kernel)
theorem fwd_ctr_while0Ops0_1 (V : Valuation τ sig (Elt F)) : after while0Ops0_1 V (Proc.devRef .tc main_v60_4) = V (Proc.devRef .tc main_v60_4) :=
  after_of_writes_sub while0Ops0_1 V while0Ops0_1_writes (by decide +kernel)
theorem fwd_ctr_while0Ops0_2 (V : Valuation τ sig (Elt F)) : after while0Ops0_2 V (Proc.devRef .tc main_v60_4) = V (Proc.devRef .tc main_v60_4) :=
  after_of_writes_sub while0Ops0_2 V while0Ops0_2_writes (by decide +kernel)
theorem fwd_ctr_while0Ops0_3 (V : Valuation τ sig (Elt F)) : after while0Ops0_3 V (Proc.devRef .tc main_v60_4) = V (Proc.devRef .tc main_v60_4) :=
  after_of_writes_sub while0Ops0_3 V while0Ops0_3_writes (by decide +kernel)
theorem fwd_ctr_while0Ops0_4 (V : Valuation τ sig (Elt F)) : after while0Ops0_4 V (Proc.devRef .tc main_v60_4) = V (Proc.devRef .tc main_v60_4) :=
  after_of_writes_sub while0Ops0_4 V while0Ops0_4_writes (by decide +kernel)
theorem fwd_ctr_while0Ops0_5 (V : Valuation τ sig (Elt F)) : after while0Ops0_5 V (Proc.devRef .tc main_v60_4) = V (Proc.devRef .tc main_v60_4) :=
  after_of_writes_sub while0Ops0_5 V while0Ops0_5_writes (by decide +kernel)
theorem fwd_ctr_while0Ops0_6 (V : Valuation τ sig (Elt F)) : after while0Ops0_6 V (Proc.devRef .tc main_v60_4) = V (Proc.devRef .tc main_v60_4) :=
  after_of_writes_sub while0Ops0_6 V while0Ops0_6_writes (by decide +kernel)

set_option maxRecDepth 100000 in
/-- The body leaves the counter one step on. -/
theorem fwd_ctr_step (X : Valuation τ sig (Elt F)) :
    after while0Ops0_7 X (Proc.devRef .tc main_v60_4) = addi (X (Proc.devRef .tc main_v60_4)) (constantI S_ 32 1#32) := by
  after_results
  rfl

/-- The counter at the loop's entry. -/
theorem fwd_ctr_entry (c : Dev nD) : entryContents preI m c (Proc.devRef .tc main_v60_4) = fun _ => (0#32 : BitVec 32) := by
  simp only [entryContents, afterL_cons, afterL_nil]
  after_reads_simp
  rfl

/-- Before the `k`-th condition the counter is the loop's induction variable at `k`. -/
theorem fwdAt_ctr (c : Dev nD) : ∀ k, fwdAt m k c (Proc.devRef .tc main_v60_4) = fun _ => Scf.iv 0#32 1#32 k
  | 0 => by rw [show fwdAt m 0 c = entryContents preI m c from rfl, fwd_ctr_entry, Scf.iv_zero]
  | k + 1 => by
    rw [show fwdAt m (k + 1) c = afterL fwdI (after fwdCond (fwdAt m k c)) from rfl]
    simp only [afterL_cons, afterL_nil]
    rw [fwd_ctr_step, fwd_ctr_while0Ops0_6, fwd_ctr_while0Ops0_5, fwd_ctr_while0Ops0_4, fwd_ctr_while0Ops0_3, fwd_ctr_while0Ops0_2, fwd_ctr_while0Ops0_1, fwd_ctr_while0Ops0, fwd_ctr_cond, fwdAt_ctr c k, Scf.iv_succ]
    rfl

set_option backward.isDefEq.respectTransparency.types false in
/-- The condition's specification at the fold. -/
theorem fwd_cond_spec : CondSpec (pcfgs (F := F)) defs₀ loops (main_while0_cond (F := F)) fwdCond fwdI (entryContents preI m) 2048 := by
  intro k hk c bd
  have hctr := fwdAt_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (fwdAt m k c) main_v60_4 HostLoop.idx0)
        (HloOp.result _ (fwdAt m k c) main_while0c_c_41 HostLoop.idx0) = 1#1) (k < 2048)
    rw [nullary_result_ne _ _ _ _ (by decide), nullary_result, hctr]
    exact Scf.cmpi_slt_iv_ub_iff (lb := 0#32) (ub := 2048#32) (st := 1#32) (by decide) (show k ≤ Scf.trips 0#32 2048#32 1#32 from hk)
  isplitl [Hb]; · iexact Hb
  rw [after_cons, after_cons, after_nil]; iexact Hh

/-- The condition of the bwd loop: the bound, and the trip counter compared with it. -/
abbrev bwdCond : List (HloOp τ sig (Elt F)) :=
  [ StableHlo.nullary main_while1c_c_43 (constantI S_ 32 2048#32),
    StableHlo.binary main_v97_6 main_while1c_c_43 main_while1c_v201 (cmpi .slt) ]
abbrev bwdCond_W : List (Ref sig .tc) := [main_while1c_c_43, main_while1c_v201]
theorem bwdCond_writes : (bwdCond : List (HloOp τ sig (Elt F))).Forall fun op => op.writes ⊆ (bwdCond_W.map (Proc.devRef (τ := τ) .tc)).toFinset :=
  StableHlo.forall_writes_sub_of_map rfl

/-- Every buffer's contents before the `k`-th run of the bwd loop's condition. -/
abbrev bwdAt (k : ℕ) (c : Dev nD) : Valuation τ sig (Elt F) := atTrip bwdCond bwdI (secondEntry preI fwdI midI fwdCond 2048 m) k c

theorem bwd_ctr_cond (V : Valuation τ sig (Elt F)) : after bwdCond V (Proc.devRef .tc main_v97_6) = V (Proc.devRef .tc main_v97_6) :=
  after_of_writes_sub bwdCond V bwdCond_writes (by decide +kernel)
theorem bwd_ctr_while1Ops0 (V : Valuation τ sig (Elt F)) : after while1Ops0 V (Proc.devRef .tc main_v97_6) = V (Proc.devRef .tc main_v97_6) :=
  after_of_writes_sub while1Ops0 V while1Ops0_writes (by decide +kernel)
theorem bwd_ctr_while1Ops0_1 (V : Valuation τ sig (Elt F)) : after while1Ops0_1 V (Proc.devRef .tc main_v97_6) = V (Proc.devRef .tc main_v97_6) :=
  after_of_writes_sub while1Ops0_1 V while1Ops0_1_writes (by decide +kernel)
theorem bwd_ctr_while1Ops0_2 (V : Valuation τ sig (Elt F)) : after while1Ops0_2 V (Proc.devRef .tc main_v97_6) = V (Proc.devRef .tc main_v97_6) :=
  after_of_writes_sub while1Ops0_2 V while1Ops0_2_writes (by decide +kernel)
theorem bwd_ctr_while1Ops0_3 (V : Valuation τ sig (Elt F)) : after while1Ops0_3 V (Proc.devRef .tc main_v97_6) = V (Proc.devRef .tc main_v97_6) :=
  after_of_writes_sub while1Ops0_3 V while1Ops0_3_writes (by decide +kernel)
theorem bwd_ctr_while1Ops0_4 (V : Valuation τ sig (Elt F)) : after while1Ops0_4 V (Proc.devRef .tc main_v97_6) = V (Proc.devRef .tc main_v97_6) :=
  after_of_writes_sub while1Ops0_4 V while1Ops0_4_writes (by decide +kernel)
theorem bwd_ctr_while1Ops0_5 (V : Valuation τ sig (Elt F)) : after while1Ops0_5 V (Proc.devRef .tc main_v97_6) = V (Proc.devRef .tc main_v97_6) :=
  after_of_writes_sub while1Ops0_5 V while1Ops0_5_writes (by decide +kernel)
theorem bwd_ctr_while1Ops0_6 (V : Valuation τ sig (Elt F)) : after while1Ops0_6 V (Proc.devRef .tc main_v97_6) = V (Proc.devRef .tc main_v97_6) :=
  after_of_writes_sub while1Ops0_6 V while1Ops0_6_writes (by decide +kernel)
theorem bwd_ctr_while1Ops0_7 (V : Valuation τ sig (Elt F)) : after while1Ops0_7 V (Proc.devRef .tc main_v97_6) = V (Proc.devRef .tc main_v97_6) :=
  after_of_writes_sub while1Ops0_7 V while1Ops0_7_writes (by decide +kernel)

set_option maxRecDepth 100000 in
/-- The body leaves the counter one step on. -/
theorem bwd_ctr_step (X : Valuation τ sig (Elt F)) :
    after while1Ops0_8 X (Proc.devRef .tc main_v97_6) = addi (X (Proc.devRef .tc main_v97_6)) (constantI S_ 32 1#32) := by
  after_results
  rfl

/-- The counter at the loop's entry. -/
theorem bwd_ctr_entry (c : Dev nD) : secondEntry preI fwdI midI fwdCond 2048 m c (Proc.devRef .tc main_v97_6) = fun _ => (0#32 : BitVec 32) := by
  simp only [secondEntry, exitContents, afterL_cons, afterL_nil]
  generalize after fwdCond (atTrip fwdCond fwdI (entryContents preI m) 2048 c) = V
  after_reads_simp
  rfl

/-- Before the `k`-th condition the counter is the loop's induction variable at `k`. -/
theorem bwdAt_ctr (c : Dev nD) : ∀ k, bwdAt m k c (Proc.devRef .tc main_v97_6) = fun _ => Scf.iv 0#32 1#32 k
  | 0 => by rw [show bwdAt m 0 c = secondEntry preI fwdI midI fwdCond 2048 m c from rfl, bwd_ctr_entry, Scf.iv_zero]
  | k + 1 => by
    rw [show bwdAt m (k + 1) c = afterL bwdI (after bwdCond (bwdAt m k c)) from rfl]
    simp only [afterL_cons, afterL_nil]
    rw [bwd_ctr_step, bwd_ctr_while1Ops0_7, bwd_ctr_while1Ops0_6, bwd_ctr_while1Ops0_5, bwd_ctr_while1Ops0_4, bwd_ctr_while1Ops0_3, bwd_ctr_while1Ops0_2, bwd_ctr_while1Ops0_1, bwd_ctr_while1Ops0, bwd_ctr_cond, bwdAt_ctr c k, Scf.iv_succ]
    rfl

set_option backward.isDefEq.respectTransparency.types false in
/-- The condition's specification at the fold. -/
theorem bwd_cond_spec : CondSpec (pcfgs (F := F)) defs₀ loops (main_while1_cond (F := F)) bwdCond bwdI (secondEntry preI fwdI midI fwdCond 2048 m) 2048 := by
  intro k hk c bd
  have hctr := bwdAt_ctr m c k
  unfold main_while1_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (bwdAt m k c) main_v97_6 HostLoop.idx0)
        (HloOp.result _ (bwdAt m k c) main_while1c_c_43 HostLoop.idx0) = 1#1) (k < 2048)
    rw [nullary_result_ne _ _ _ _ (by decide), nullary_result, hctr]
    exact Scf.cmpi_slt_iv_ub_iff (lb := 0#32) (ub := 2048#32) (st := 1#32) (by decide) (show k ≤ Scf.trips 0#32 2048#32 1#32 from hk)
  isplitl [Hb]; · iexact Hb
  rw [after_cons, after_cons, after_nil]; iexact Hh

/-- The contents at @main's end. -/
abbrev lastAt (c : Dev nD) : Valuation τ sig (Elt F) :=
  lastContents preI fwdI midI bwdI postI fwdCond bwdCond 2048 2048 m c

set_option maxRecDepth 100000 in
/-- Every execution of @main terminates with every buffer at the fold of its operations. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = lastAt m c (Proc.devRef .tc b)) :=
  run_two_loops (pcfgs (F := F)) defs₀ loops main 0 1 main_while0_cond main_while1_cond main_while0_body main_while1_body rfl rfl
    preI fwdI midI bwdI postI fwdCond bwdCond pre_plain fwd_plain mid_plain bwd_plain post_plain
    (fun c => by rw [main_chain]; rfl) (by rw [while0_body_chain]; rfl) (by rw [while1_body_chain]; rfl) 2048 2048 m ρ
    (fwd_cond_spec m) (bwd_cond_spec m)

end Cert.ReferenceIdeal.Value

end
-- ==== Proof.Ref.Kept.lean ====
/- What the reference leaves alone: a buffer that no operation of a stretch, of a loop's condition or of a loop's body
   writes is, after it, what it was before it. So the arguments end as they began. -/
module

public import proofs.«01_k».proof.Proof.Ref.Run
public import Idealize.ShloMosaic.Lib.Quiescent

@[expose] public section

set_option maxRecDepth 16384

noncomputable section

namespace Cert.ReferenceIdeal.Value

open Cert.ReferenceIdeal Cert.ReferenceIdeal.Gen Cert.TwoLoops
open Idealize.ShloMosaic Idealize.ShloMosaic.TcCoe Idealize.SL.Sem
open Idealize.ShloMosaic.StableHlo

variable {F : FTy → Type} [FloatOps F]

/-- No operation of these stretches writes the buffer. -/
def Misses (items : List (List (HloOp τ sig (Elt F)))) (r : Ref sig .tc) : Prop :=
  ∀ ops ∈ items, ∀ V : Valuation τ sig (Elt F), after ops V (Proc.devRef .tc r) = V (Proc.devRef .tc r)

theorem afterL_kept {r : Ref sig .tc} : ∀ (items : List (List (HloOp τ sig (Elt F)))), Misses items r →
    ∀ V : Valuation τ sig (Elt F), afterL items V (Proc.devRef .tc r) = V (Proc.devRef .tc r)
  | [], _, _ => rfl
  | ops :: rest, h, V => by
    rw [afterL_cons, afterL_kept rest (fun o ho => h o (List.mem_cons_of_mem _ ho)), h ops List.mem_cons_self]

theorem atTrip_kept {r : Ref sig .tc} (cond : List (HloOp τ sig (Elt F))) (body : List (List (HloOp τ sig (Elt F))))
    (hc : Misses [cond] r) (hb : Misses body r) (W : Dev nD → Valuation τ sig (Elt F)) (c : Dev nD) :
    ∀ k, atTrip cond body W k c (Proc.devRef .tc r) = W c (Proc.devRef .tc r)
  | 0 => rfl
  | k + 1 => by
    rw [atTrip_succ, afterL_kept body hb, hc cond List.mem_cons_self, atTrip_kept cond body hc hb W c k]

/-- What a trip of the first loop writes. -/
abbrev fwdW : List (Ref sig .tc) :=
  fwdCond_W ++ while0Ops0_W ++ while0Ops0_1_W ++ while0Ops0_2_W ++ while0Ops0_3_W ++ while0Ops0_4_W ++ while0Ops0_5_W ++ while0Ops0_6_W ++ while0Ops0_7_W
/-- What a trip of the second loop writes. -/
abbrev bwdW : List (Ref sig .tc) :=
  bwdCond_W ++ while1Ops0_W ++ while1Ops0_1_W ++ while1Ops0_2_W ++ while1Ops0_3_W ++ while1Ops0_4_W ++ while1Ops0_5_W ++ while1Ops0_6_W ++ while1Ops0_7_W ++ while1Ops0_8_W

theorem misses_one {ops : List (HloOp τ sig (Elt F))} {W : List (Ref sig .tc)} {r : Ref sig .tc}
    (hW : ops.Forall fun op => op.writes ⊆ (W.map (Proc.devRef (τ := τ) .tc)).toFinset) (hr : r ∉ W) : Misses [ops] r :=
  fun o ho V => by obtain rfl := List.mem_singleton.mp ho; exact after_of_writes_sub _ V hW hr

theorem misses_cons {ops : List (HloOp τ sig (Elt F))} {rest : List (List (HloOp τ sig (Elt F)))} {r : Ref sig .tc}
    (h : Misses [ops] r) (h' : Misses rest r) : Misses (ops :: rest) r := fun o ho => by
  rcases List.mem_cons.mp ho with rfl | ho
  · exact h _ List.mem_cons_self
  · exact h' _ ho

theorem fwd_misses {r : Ref sig .tc} (hr : r ∉ fwdW) : Misses (F := F) [fwdCond] r ∧ Misses (F := F) fwdI r := by
  simp only [fwdW, List.mem_append, not_or] at hr
  obtain ⟨⟨⟨⟨⟨⟨⟨⟨hc, h0⟩, h1⟩, h2⟩, h3⟩, h4⟩, h5⟩, h6⟩, h7⟩ := hr
  exact ⟨misses_one fwdCond_writes hc, misses_cons (misses_one while0Ops0_writes h0) (misses_cons (misses_one while0Ops0_1_writes h1)
    (misses_cons (misses_one while0Ops0_2_writes h2) (misses_cons (misses_one while0Ops0_3_writes h3) (misses_cons (misses_one while0Ops0_4_writes h4)
    (misses_cons (misses_one while0Ops0_5_writes h5) (misses_cons (misses_one while0Ops0_6_writes h6) (misses_one while0Ops0_7_writes h7)))))))⟩

theorem bwd_misses {r : Ref sig .tc} (hr : r ∉ bwdW) : Misses (F := F) [bwdCond] r ∧ Misses (F := F) bwdI r := by
  simp only [bwdW, List.mem_append, not_or] at hr
  obtain ⟨⟨⟨⟨⟨⟨⟨⟨⟨hc, h0⟩, h1⟩, h2⟩, h3⟩, h4⟩, h5⟩, h6⟩, h7⟩, h8⟩ := hr
  exact ⟨misses_one bwdCond_writes hc, misses_cons (misses_one while1Ops0_writes h0) (misses_cons (misses_one while1Ops0_1_writes h1)
    (misses_cons (misses_one while1Ops0_2_writes h2) (misses_cons (misses_one while1Ops0_3_writes h3) (misses_cons (misses_one while1Ops0_4_writes h4)
    (misses_cons (misses_one while1Ops0_5_writes h5) (misses_cons (misses_one while1Ops0_6_writes h6) (misses_cons (misses_one while1Ops0_7_writes h7)
    (misses_one while1Ops0_8_writes h8))))))))⟩

variable (m : (ℓ : Loc nD τ sig) → Buf (Elt F) ℓ) (ρ : Dev nD → PrngReg)

/-- A buffer the first loop does not write, before any trip of it. -/
theorem fwdAt_kept {r : Ref sig .tc} (hr : r ∉ fwdW) (k : ℕ) (c : Dev nD) :
    fwdAt m k c (Proc.devRef .tc r) = after hostOps0 (launchContents m c) (Proc.devRef .tc r) :=
  atTrip_kept _ _ (fwd_misses hr).1 (fwd_misses hr).2 _ c k

/-- A buffer the second loop does not write, before any trip of it. -/
theorem bwdAt_kept {r : Ref sig .tc} (hr : r ∉ bwdW) (k : ℕ) (c : Dev nD) :
    bwdAt m k c (Proc.devRef .tc r) = after hostOps0_1 (after fwdCond (fwdAt m 2048 c)) (Proc.devRef .tc r) :=
  atTrip_kept _ _ (bwd_misses hr).1 (bwd_misses hr).2 _ c k

/-- A buffer that nothing writes ends as it began. -/
theorem lastAt_kept {r : Ref sig .tc} (h0 : r ∉ hostOps0_W) (hf : r ∉ fwdW) (h1 : r ∉ hostOps0_1_W) (hb : r ∉ bwdW) (h2 : r ∉ hostOps0_2_W)
    (c : Dev nD) : lastAt m c (Proc.devRef .tc r) = m ((c.tc : Thread nD τ).loc r) := by
  show after hostOps0_2 (after bwdCond (bwdAt m 2048 c)) (Proc.devRef .tc r) = _
  rw [after_of_writes_sub _ _ hostOps0_2_writes h2, (bwd_misses hb).1 _ List.mem_cons_self, bwdAt_kept m hb,
    after_of_writes_sub _ _ hostOps0_1_writes h1, (fwd_misses hf).1 _ List.mem_cons_self, fwdAt_kept m hf,
    after_of_writes_sub _ _ hostOps0_writes h0]

/-- The arguments end as they began. -/
theorem args_kept (r : PUnit × MemSt nD τ sig (Elt F))
    (h : ∀ (c : Dev nD) (b : Ref sig .tc), (Proc.devRef .tc b : DevRef τ sig).isScoped = false →
      r.2.mem ((c.tc : Thread nD τ).loc b) = lastAt m c (Proc.devRef .tc b)) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9) := by
  refine ⟨?_, ?_, ?_, ?_, ?_, ?_, ?_, ?_, ?_, ?_⟩ <;>
    exact (h c _ rfl).trans (lastAt_kept m (by decide +kernel) (by decide +kernel) (by decide +kernel) (by decide +kernel) (by decide +kernel) c)

/-- The reference terminates, leaves its arguments as they are and every semaphore at zero. -/
theorem frame : θ_run (defs (F := F)) (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9))
    ∧ r.2.sem = fun _ => 0) :=
  (θ_run defs _ _).mono (fun r h => ⟨args_kept m r h, sem_eq_zero_of_no_sems (by decide) r.2⟩) (run_fold m ρ)

end Cert.ReferenceIdeal.Value

end
-- ==== Proof.Scan.Trips.lean ====
/-
  The kernel's four loops, one trip at a time: what a trip carries on and the block of eight rows it writes back, as
  functions of the carried pair and of the contents it finds.
-/
module

public import proofs.«01_k».proof.Proof.Gen.KernelIdeal.Loops
public import proofs.«01_k».proof.Defs
public import Idealize.ShloMosaic.Lib.Pointwise
public import Idealize.ShloMosaic.Lib.Updates.Memory
public import Idealize.ShloMosaic.Lib.Updates.Values

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI

variable (c : Dev nD) (i : grid0.Coords) {arg1 : Memref sig .tc .vmem S2048x128 .f32} (harg1 : arg1.IsWhole) {arg2 : Memref sig .tc .vmem S2048x128 .f32} (harg2 : arg2.IsWhole) {arg3 : Memref sig .tc .vmem S1x1x512 .f32} (harg3 : arg3.IsWhole) {arg4 : Memref sig .tc .vmem S1x1x512 .f32} (harg4 : arg4.IsWhole) {arg5 : Memref sig .tc .vmem S1x128x512 .bf16} (harg5 : arg5.IsWhole) {arg6 : Memref sig .tc .vmem S1x128x512 .bf16} (harg6 : arg6.IsWhole) {arg7 : Memref sig .tc .vmem S1x128x512 .bf16} (harg7 : arg7.IsWhole) {arg8 : Memref sig .tc .vmem S1x128x512 .bf16} (harg8 : arg8.IsWhole) {arg9 : Memref sig .tc .vmem S1x128 .f32} (harg9 : arg9.IsWhole) {arg10 : Memref sig .tc .vmem S2048x128 .f32} (harg10 : arg10.IsWhole) {arg11 : Memref sig .tc .vmem S1x128x512 .f32} (harg11 : arg11.IsWhole) {arg12 : Memref sig .tc .vmem S1x128x512 .f32} (harg12 : arg12.IsWhole) {arg13 : Memref sig .tc .vmem S1x512x128 .f32} (harg13 : arg13.IsWhole) {arg14 : Memref sig .tc .vmem S1x512x128 .f32} (harg14 : arg14.IsWhole) {arg15 : Memref sig .tc .vmem S1x1x512 .f32} (harg15 : arg15.IsWhole) {arg16 : Memref sig .tc .vmem S1x1x512 .f32} (harg16 : arg16.IsWhole) {arg17 : Memref sig .tc .vmem S1x128 .f32} (harg17 : arg17.IsWhole) {arg18 : Memref sig .tc .vmem S2048x512 .f32} (harg18 : arg18.IsWhole) {arg19 : Memref sig .tc .vmem S2048x512 .f32} (harg19 : arg19.IsWhole) {arg20 : Memref sig .tc .vmem S2048x512 .f32} (harg20 : arg20.IsWhole) {arg21 : Memref sig .tc .vmem S2048x512 .f32} (harg21 : arg21.IsWhole) {arg22 : Memref sig .tc .vmem S16x512 .f32} (harg22 : arg22.IsWhole) {arg23 : Memref sig .tc .vmem S16x512 .f32} (harg23 : arg23.IsWhole)

theorem tripR1 (v1 v3 : FVec Ideal S1x512 .f32) (v23 v25 v26 v27 : FVec Ideal S8x512 .f32) (w : BitVec 32) (k : Fin k0_t1_loop.trips) (acc : FVec Ideal S8x512 .f32 × FVec Ideal S8x512 .f32) (f0 : BufTy.Contents (Elt Ideal) arg18.view.ty) (f1 : BufTy.Contents (Elt Ideal) arg19.view.ty) :
    tripR_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1 v3 v23 v25 v26 v27 w k acc f0 f1 =
      (k0_pay12 v23 v25 acc.1 acc.2 (View.readAt (Elt Ideal) arg18.view (Rect.unit (s := S2048x512) (k0_off1 k) S8x512.size (k0_off1_inb k)).toLoadRect f0), k0_pay13 v23 v25 acc.1 acc.2 (View.readAt (Elt Ideal) arg19.view (Rect.unit (s := S2048x512) (k0_off1 k) S8x512.size (k0_off1_inb k)).toLoadRect f1)) := by
  delta tripR_k0_t1 trip_k0_t1
  rfl

theorem tripL1 (v1 v3 : FVec Ideal S1x512 .f32) (v23 v25 v26 v27 : FVec Ideal S8x512 .f32) (w : BitVec 32) (k : Fin k0_t1_loop.trips) (acc : FVec Ideal S8x512 .f32 × FVec Ideal S8x512 .f32) (f0 : BufTy.Contents (Elt Ideal) arg18.view.ty) (f1 : BufTy.Contents (Elt Ideal) arg19.view.ty) :
    tripL_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1 v3 v23 v25 v26 v27 w k acc f0 f1 =
      ([⟨Rect.unit (s := S2048x512) (k0_off1 k) S8x512.size (k0_off1_inb k), k0_pay14 v23 v25 acc.1 acc.2 (View.readAt (Elt Ideal) arg18.view (Rect.unit (s := S2048x512) (k0_off1 k) S8x512.size (k0_off1_inb k)).toLoadRect f0)⟩],
       [⟨Rect.unit (s := S2048x512) (k0_off1 k) S8x512.size (k0_off1_inb k), k0_pay15 v23 v25 acc.1 acc.2 (View.readAt (Elt Ideal) arg19.view (Rect.unit (s := S2048x512) (k0_off1 k) S8x512.size (k0_off1_inb k)).toLoadRect f1)⟩]) := by
  delta tripL_k0_t1 trip_k0_t1
  rfl

theorem tripR2 (v9 : FVec Ideal S2048x128 .bf16) (v23 v25 v29_0 v29_1 : FVec Ideal S8x512 .f32) (v74 v77 v157 v159 v168 : FVec Ideal S1x512 .f32) (v198 v199 : FVec Ideal S8x512 .f32) (k : Fin k0_t2_loop.trips) (acc : FVec Ideal S8x512 .f32 × FVec Ideal S8x512 .f32) (f0 : BufTy.Contents (Elt Ideal) arg18.view.ty) (f1 : BufTy.Contents (Elt Ideal) arg19.view.ty) :
    tripR_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 v23 v25 v29_0 v29_1 v74 v77 v157 v159 v168 v198 v199 k acc f0 f1 =
      (k0_pay67 v23 v25 acc.1 acc.2, k0_pay68 v23 v25 acc.1 acc.2) := by
  delta tripR_k0_t2 trip_k0_t2
  rfl

theorem tripL2 (v9 : FVec Ideal S2048x128 .bf16) (v23 v25 v29_0 v29_1 : FVec Ideal S8x512 .f32) (v74 v77 v157 v159 v168 : FVec Ideal S1x512 .f32) (v198 v199 : FVec Ideal S8x512 .f32) (k : Fin k0_t2_loop.trips) (acc : FVec Ideal S8x512 .f32 × FVec Ideal S8x512 .f32) (f0 : BufTy.Contents (Elt Ideal) arg18.view.ty) (f1 : BufTy.Contents (Elt Ideal) arg19.view.ty) :
    tripL_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 v23 v25 v29_0 v29_1 v74 v77 v157 v159 v168 v198 v199 k acc f0 f1 =
      ([⟨Rect.unit (s := S2048x512) (k0_off2 k) S8x512.size (k0_off2_inb k), k0_pay65 v198 v199 acc.1 acc.2 (View.readAt (Elt Ideal) arg18.view (Rect.unit (s := S2048x512) (k0_off2 k) S8x512.size (k0_off2_inb k)).toLoadRect f0)⟩],
       [⟨Rect.unit (s := S2048x512) (k0_off2 k) S8x512.size (k0_off2_inb k), k0_pay66 v198 v199 acc.1 acc.2 (View.readAt (Elt Ideal) arg19.view (Rect.unit (s := S2048x512) (k0_off2 k) S8x512.size (k0_off2_inb k)).toLoadRect f1)⟩]) := by
  delta tripL_k0_t2 trip_k0_t2
  rfl

theorem tripR3 (v1 v3 : FVec Ideal S1x512 .f32) (v231 v233 : FVec Ideal S8x512 .f32) (w : BitVec 32) (k : Fin k0_t3_loop.trips) (acc : FVec Ideal S8x512 .f32 × FVec Ideal S8x512 .f32) (f0 : BufTy.Contents (Elt Ideal) arg20.view.ty) (f1 : BufTy.Contents (Elt Ideal) arg21.view.ty) :
    tripR_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1 v3 v231 v233 w k acc f0 f1 =
      (k0_pay77 v231 v233 acc.1 acc.2 (View.readAt (Elt Ideal) arg20.view (Rect.unit (s := S2048x512) (k0_off3 k) S8x512.size (k0_off3_inb k)).toLoadRect f0), k0_pay78 v231 v233 acc.1 acc.2 (View.readAt (Elt Ideal) arg21.view (Rect.unit (s := S2048x512) (k0_off3 k) S8x512.size (k0_off3_inb k)).toLoadRect f1)) := by
  delta tripR_k0_t3 trip_k0_t3
  rfl

theorem tripL3 (v1 v3 : FVec Ideal S1x512 .f32) (v231 v233 : FVec Ideal S8x512 .f32) (w : BitVec 32) (k : Fin k0_t3_loop.trips) (acc : FVec Ideal S8x512 .f32 × FVec Ideal S8x512 .f32) (f0 : BufTy.Contents (Elt Ideal) arg20.view.ty) (f1 : BufTy.Contents (Elt Ideal) arg21.view.ty) :
    tripL_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1 v3 v231 v233 w k acc f0 f1 =
      ([⟨Rect.unit (s := S2048x512) (k0_off3 k) S8x512.size (k0_off3_inb k), k0_pay79 v231 v233 acc.1 acc.2 (View.readAt (Elt Ideal) arg20.view (Rect.unit (s := S2048x512) (k0_off3 k) S8x512.size (k0_off3_inb k)).toLoadRect f0)⟩],
       [⟨Rect.unit (s := S2048x512) (k0_off3 k) S8x512.size (k0_off3_inb k), k0_pay80 v231 v233 acc.1 acc.2 (View.readAt (Elt Ideal) arg21.view (Rect.unit (s := S2048x512) (k0_off3 k) S8x512.size (k0_off3_inb k)).toLoadRect f1)⟩]) := by
  delta tripL_k0_t3 trip_k0_t3
  rfl

theorem tripR4 (v231 v235 v413 v414 : FVec Ideal S8x512 .f32) (z : EReal) (X18 : BufTy.Contents (Elt Ideal) arg18.view.ty) (X19 : BufTy.Contents (Elt Ideal) arg19.view.ty) (k : Fin k0_t4_loop.trips) (acc : FVec Ideal S8x512 .f32 × FVec Ideal S8x512 .f32 × FVec Ideal S8x512 .f32 × FVec Ideal S8x512 .f32) (f0 : BufTy.Contents (Elt Ideal) arg20.view.ty) (f1 : BufTy.Contents (Elt Ideal) arg21.view.ty) :
    tripR_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v231 v235 v413 v414 z X18 X19 k acc f0 f1 =
      (k0_pay135 v231 v235 acc.1 acc.2.1, k0_pay136 v231 v235 acc.1 acc.2.1, k0_pay133 v413 v414 acc.1 acc.2.1 acc.2.2.1 (View.readAt (Elt Ideal) arg18.view (Rect.unit (s := S2048x512) (k0_off4 k) S8x512.size (k0_off4_inb k)).toLoadRect X18) (View.readAt (Elt Ideal) arg19.view (Rect.unit (s := S2048x512) (k0_off4 k) S8x512.size (k0_off4_inb k)).toLoadRect X19) (View.readAt (Elt Ideal) arg20.view (Rect.unit (s := S2048x512) (k0_off5 k) S8x512.size (k0_off5_inb k)).toLoadRect f0) (View.readAt (Elt Ideal) arg21.view (Rect.unit (s := S2048x512) (k0_off5 k) S8x512.size (k0_off5_inb k)).toLoadRect f1), k0_pay134 v413 v414 acc.1 acc.2.1 acc.2.2.2 (View.readAt (Elt Ideal) arg18.view (Rect.unit (s := S2048x512) (k0_off4 k) S8x512.size (k0_off4_inb k)).toLoadRect X18) (View.readAt (Elt Ideal) arg19.view (Rect.unit (s := S2048x512) (k0_off4 k) S8x512.size (k0_off4_inb k)).toLoadRect X19) (View.readAt (Elt Ideal) arg20.view (Rect.unit (s := S2048x512) (k0_off5 k) S8x512.size (k0_off5_inb k)).toLoadRect f0) (View.readAt (Elt Ideal) arg21.view (Rect.unit (s := S2048x512) (k0_off5 k) S8x512.size (k0_off5_inb k)).toLoadRect f1)) := by
  delta tripR_k0_t4 trip_k0_t4
  rfl

theorem tripL4 (v231 v235 v413 v414 : FVec Ideal S8x512 .f32) (z : EReal) (X18 : BufTy.Contents (Elt Ideal) arg18.view.ty) (X19 : BufTy.Contents (Elt Ideal) arg19.view.ty) (k : Fin k0_t4_loop.trips) (acc : FVec Ideal S8x512 .f32 × FVec Ideal S8x512 .f32 × FVec Ideal S8x512 .f32 × FVec Ideal S8x512 .f32) (f0 : BufTy.Contents (Elt Ideal) arg20.view.ty) (f1 : BufTy.Contents (Elt Ideal) arg21.view.ty) :
    tripL_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v231 v235 v413 v414 z X18 X19 k acc f0 f1 =
      ([⟨Rect.unit (s := S2048x512) (k0_off5 k) S8x512.size (k0_off5_inb k), k0_pay131 v413 v414 acc.1 acc.2.1 (View.readAt (Elt Ideal) arg20.view (Rect.unit (s := S2048x512) (k0_off5 k) S8x512.size (k0_off5_inb k)).toLoadRect f0)⟩],
       [⟨Rect.unit (s := S2048x512) (k0_off5 k) S8x512.size (k0_off5_inb k), k0_pay132 v413 v414 acc.1 acc.2.1 (View.readAt (Elt Ideal) arg21.view (Rect.unit (s := S2048x512) (k0_off5 k) S8x512.size (k0_off5_inb k)).toLoadRect f1)⟩]) := by
  delta tripL_k0_t4 trip_k0_t4
  rfl

/-- Trip `k` of the first loop is at rows `8 * (k + 1)` to `8 * (k + 1) + 7`. -/
theorem off1_eq : ∀ k : Fin k0_t1_loop.trips, k0_off1 k = ![8 * (k.val + 1), 0] := by decide +kernel
/-- Trip `k` of the second loop is at rows `8 * k` to `8 * k + 7`. -/
theorem off2_eq : ∀ k : Fin k0_t2_loop.trips, k0_off2 k = ![8 * k.val, 0] := by decide +kernel
/-- Trip `k` of the third loop is at rows `8 * (254 - k)` to `8 * (254 - k) + 7`. -/
theorem off3_eq : ∀ k : Fin k0_t3_loop.trips, k0_off3 k = ![8 * (254 - k.val), 0] := by decide +kernel
/-- Trip `k` of the fourth loop reads the states at rows `8 * (254 - k)` to `8 * (254 - k) + 7`. -/
theorem off4_eq : ∀ k : Fin k0_t4_loop.trips, k0_off4 k = ![8 * (254 - k.val), 0] := by decide +kernel
/-- Trip `k` of the fourth loop is at rows `8 * (255 - k)` to `8 * (255 - k) + 7`. -/
theorem off5_eq : ∀ k : Fin k0_t4_loop.trips, k0_off5 k = ![8 * (255 - k.val), 0] := by decide +kernel

theorem trips1 : k0_t1_loop.trips = 255 := by decide +kernel
theorem trips2 : k0_t2_loop.trips = 256 := by decide +kernel
theorem trips3 : k0_t3_loop.trips = 255 := by decide +kernel
theorem trips4 : k0_t4_loop.trips = 255 := by decide +kernel

end Cert.KernelIdeal.Gen
-- ==== Proof.Scan.Pair.lean ====
/-
  A pair of blocks of extended reals read as one block of complex numbers: the first block holds the real parts, the
  second the imaginary parts. Loads, stores and arithmetic on such pairs.
-/
module

public import Mathlib.Data.EReal.Operations
public import Mathlib.Data.Complex.Basic
public import Idealize.ShloMosaic.Lib.Updates.Memory
public import Idealize.ShloMosaic.Lib.Updates.Values
public import Idealize.ShloMosaic.Lib.Pointwise

@[expose] public section

noncomputable section

namespace Cert.Scan

open Idealize.ShloMosaic
open Idealize.ShloMosaic.LaneScatter (Blk)
open Idealize.ShloMosaic.Updates (Arr IsArr loadAt storeAt isArr_load isArr_writes_cons storeAt_hit storeAt_miss)

/-- The blocks `X` and `Y` hold the real and the imaginary parts of `Z`. -/
def CArr {R C : ℕ} (X Y : (Blk R C).Idx → EReal) (Z : ℕ → ℕ → ℂ) : Prop :=
  IsArr X (fun p => ((Z p.1 p.2).re : EReal)) ∧ IsArr Y (fun p => ((Z p.1 p.2).im : EReal))

theorem CArr.re {R C : ℕ} {X Y : (Blk R C).Idx → EReal} {Z : ℕ → ℕ → ℂ} (h : CArr X Y Z) (ι) :
    X ι = ((Z (ι 0).val (ι 1).val).re : EReal) := h.1 ι

theorem CArr.im {R C : ℕ} {X Y : (Blk R C).Idx → EReal} {Z : ℕ → ℕ → ℂ} (h : CArr X Y Z) (ι) :
    Y ι = ((Z (ι 0).val (ι 1).val).im : EReal) := h.2 ι

theorem CArr.congr {R C : ℕ} {X Y : (Blk R C).Idx → EReal} {Z Z' : ℕ → ℕ → ℂ} (h : CArr X Y Z)
    (e : ∀ r q, r < R → q < C → Z r q = Z' r q) : CArr X Y Z' :=
  ⟨h.1.congr fun r q hr hq => by show ((Z r q).re : EReal) = _; rw [e r q hr hq],
   h.2.congr fun r q hr hq => by show ((Z r q).im : EReal) = _; rw [e r q hr hq]⟩

variable {sig : RefSig} {κ : Kind} {sp : Space} {R C h w : ℕ}

/-- Loads through one rectangle of both blocks. -/
theorem CArr.load {v₀ v₁ : View sig κ sp (Blk R C) .f32} {f₀ : v₀.ty.Contents (Elt Ideal)} {f₁ : v₁.ty.Contents (Elt Ideal)}
    {Z : ℕ → ℕ → ℂ} (hZ : CArr (v₀.read (Elt Ideal) f₀) (v₁.read (Elt Ideal) f₁) Z)
    {off : Fin 2 → ℕ} {o p : ℕ} (ho : off = ![o, p]) (inb : ∀ a, off a + (Blk h w).size a ≤ (Blk R C).size a) :
    CArr (R := h) (C := w) (View.readAt (Elt Ideal) v₀ (Rect.unit (s := Blk R C) off (Blk h w).size inb).toLoadRect f₀)
      (View.readAt (Elt Ideal) v₁ (Rect.unit (s := Blk R C) off (Blk h w).size inb).toLoadRect f₁) (fun r q => Z (o + r) (p + q)) :=
  ⟨isArr_load (o := (o, p)) hZ.1 ho inb, isArr_load (o := (o, p)) hZ.2 ho inb⟩

theorem storeAt_eq {β : Type} (o p h w : ℕ) (W A : Arr β) (r q : ℕ) [Decidable ((o ≤ r ∧ r < o + h) ∧ (p ≤ q ∧ q < p + w))] :
    storeAt (o, p) (h, w) (fun _ => True) W A (r, q)
      = if (o ≤ r ∧ r < o + h) ∧ (p ≤ q ∧ q < p + w) then W (r - o, q - p) else A (r, q) := by
  by_cases H : (o ≤ r ∧ r < o + h) ∧ (p ≤ q ∧ q < p + w)
  · rw [if_pos H]; exact storeAt_hit ⟨H, trivial⟩
  · rw [if_neg H]; exact storeAt_miss fun H' => H H'.1

/-- Stores of whole rows through one rectangle of both blocks. -/
theorem CArr.store {v₀ v₁ : View sig κ sp (Blk R C) .f32} {f₀ : v₀.ty.Contents (Elt Ideal)} {f₁ : v₁.ty.Contents (Elt Ideal)}
    {L₀ L₁ : List (View.Piece (Elt Ideal) (Blk R C) .f32)}
    {Z : ℕ → ℕ → ℂ} (hZ : CArr (v₀.read (Elt Ideal) (v₀.writes (Elt Ideal) f₀ L₀)) (v₁.read (Elt Ideal) (v₁.writes (Elt Ideal) f₁ L₁)) Z)
    {off : Fin 2 → ℕ} {o : ℕ} (ho : off = ![o, 0]) (inb : ∀ a, off a + (Blk h C).size a ≤ (Blk R C).size a)
    {p₀ p₁ : (Blk h C).Idx → EReal} {W : ℕ → ℕ → ℂ} (hW : CArr p₀ p₁ W) :
    CArr (v₀.read (Elt Ideal) (v₀.writes (Elt Ideal) f₀ (⟨Rect.unit (s := Blk R C) off (Blk h C).size inb, p₀⟩ :: L₀)))
      (v₁.read (Elt Ideal) (v₁.writes (Elt Ideal) f₁ (⟨Rect.unit (s := Blk R C) off (Blk h C).size inb, p₁⟩ :: L₁)))
      (fun r q => if o ≤ r ∧ r < o + h then W (r - o) q else Z r q) := by
  classical
  constructor
  · refine (isArr_writes_cons (o := (o, 0)) hZ.1 ho inb hW.1).congr fun r q hr hq => ?_
    rw [storeAt_eq]
    show _ = (((if o ≤ r ∧ r < o + h then W (r - o) q else Z r q).re : ℝ) : EReal)
    by_cases H : o ≤ r ∧ r < o + h
    · rw [if_pos H, if_pos ⟨H, Nat.zero_le _, by omega⟩]; rfl
    · rw [if_neg H, if_neg (fun H' => H H'.1)]
  · refine (isArr_writes_cons (o := (o, 0)) hZ.2 ho inb hW.2).congr fun r q hr hq => ?_
    rw [storeAt_eq]
    show _ = (((if o ≤ r ∧ r < o + h then W (r - o) q else Z r q).im : ℝ) : EReal)
    by_cases H : o ≤ r ∧ r < o + h
    · rw [if_pos H, if_pos ⟨H, Nat.zero_le _, by omega⟩]; rfl
    · rw [if_neg H, if_neg (fun H' => H H'.1)]

/-- A linear recurrence: `run a B 0 = B 0` and `run a B (k + 1) = a * run a B k + B (k + 1)`. -/
def run (a : ℂ) (B : ℕ → ℂ) : ℕ → ℂ
  | 0 => B 0
  | k + 1 => a * run a B k + B (k + 1)

end Cert.Scan
-- ==== Proof.Scan.Pays.lean ====
/-
  The loops' arithmetic on pairs of blocks, as arithmetic of complex numbers.
-/
module

public import proofs.«01_k».proof.Proof.Gen.KernelIdeal.Skeleton
public import proofs.«01_k».proof.Proof.Scan.Pair
public import Mathlib.Data.Complex.Basic

@[expose] public section

set_option maxRecDepth 16384

noncomputable section

namespace Cert.Scan

open Idealize.ShloMosaic Cert.KernelIdeal Cert.KernelIdeal.Gen
open Idealize.ShloMosaic.LaneScatter (Blk)
open Idealize.ShloMosaic.Updates (IsArr isArr_cast_self)

variable {x₀ x₁ y₀ y₁ z₀ z₁ d₀ d₁ l₀ l₁ : FVec Ideal Cert.KernelIdeal.S8x512 .f32} {X Y Z D L : ℕ → ℕ → ℂ}

theorem CArr.cast {R C : ℕ} {X Y : (Blk R C).Idx → EReal} {Z : ℕ → ℕ → ℂ} (h : CArr X Y Z)
    (e e' : (Blk R C).ShapeCasts (Blk R C)) : CArr (shapeCast (Blk R C) X e) (shapeCast (Blk R C) Y e') Z :=
  ⟨isArr_cast_self h.1 e, isArr_cast_self h.2 e'⟩

/-- `a * p + b`. -/
theorem pay_step (hx : CArr (R := 8) (C := 512) x₀ x₁ X) (hy : CArr (R := 8) (C := 512) y₀ y₁ Y) (hz : CArr (R := 8) (C := 512) z₀ z₁ Z) :
    CArr (R := 8) (C := 512) (k0_pay12 x₀ x₁ y₀ y₁ z₀) (k0_pay13 x₀ x₁ y₀ y₁ z₁) (fun r q => X r q * Y r q + Z r q) := by
  constructor
  · intro ι
    show (x₀ ι * y₀ ι - x₁ ι * y₁ ι + z₀ ι : EReal) = ((X (ι 0).val (ι 1).val * Y (ι 0).val (ι 1).val + Z (ι 0).val (ι 1).val).re : EReal)
    rw [hx.re, hx.im, hy.re, hy.im, hz.re, Complex.add_re, Complex.mul_re]
    norm_cast
  · intro ι
    show (x₀ ι * y₁ ι + x₁ ι * y₀ ι + z₁ ι : EReal) = ((X (ι 0).val (ι 1).val * Y (ι 0).val (ι 1).val + Z (ι 0).val (ι 1).val).im : EReal)
    rw [hx.re, hx.im, hy.re, hy.im, hz.im, Complex.add_im, Complex.mul_im]
    norm_cast

theorem pay_step' (hx : CArr (R := 8) (C := 512) x₀ x₁ X) (hy : CArr (R := 8) (C := 512) y₀ y₁ Y) (hz : CArr (R := 8) (C := 512) z₀ z₁ Z) :
    CArr (R := 8) (C := 512) (k0_pay14 x₀ x₁ y₀ y₁ z₀) (k0_pay15 x₀ x₁ y₀ y₁ z₁) (fun r q => X r q * Y r q + Z r q) :=
  (pay_step hx hy hz).cast _ _

/-- `p * a`. -/
theorem pay_mul (hx : CArr (R := 8) (C := 512) x₀ x₁ X) (hy : CArr (R := 8) (C := 512) y₀ y₁ Y) :
    CArr (R := 8) (C := 512) (k0_pay67 x₀ x₁ y₀ y₁) (k0_pay68 x₀ x₁ y₀ y₁) (fun r q => Y r q * X r q) := by
  constructor
  · intro ι
    show (y₀ ι * x₀ ι - y₁ ι * x₁ ι : EReal) = ((Y (ι 0).val (ι 1).val * X (ι 0).val (ι 1).val).re : EReal)
    rw [hx.re, hx.im, hy.re, hy.im, Complex.mul_re]
    norm_cast
  · intro ι
    show (y₀ ι * x₁ ι + y₁ ι * x₀ ι : EReal) = ((Y (ι 0).val (ι 1).val * X (ι 0).val (ι 1).val).im : EReal)
    rw [hx.re, hx.im, hy.re, hy.im, Complex.mul_im]
    norm_cast

theorem pay_mul' (hx : CArr (R := 8) (C := 512) x₀ x₁ X) (hy : CArr (R := 8) (C := 512) y₀ y₁ Y) :
    CArr (R := 8) (C := 512) (k0_pay135 x₀ x₁ y₀ y₁) (k0_pay136 x₀ x₁ y₀ y₁) (fun r q => Y r q * X r q) := pay_mul hx hy

/-- `z + p * c`. -/
theorem pay_fix (hx : CArr (R := 8) (C := 512) x₀ x₁ X) (hy : CArr (R := 8) (C := 512) y₀ y₁ Y) (hz : CArr (R := 8) (C := 512) z₀ z₁ Z) :
    CArr (R := 8) (C := 512) (k0_pay129 x₀ x₁ y₀ y₁ z₀) (k0_pay130 x₀ x₁ y₀ y₁ z₁) (fun r q => Z r q + Y r q * X r q) := by
  constructor
  · intro ι
    show (z₀ ι + (y₀ ι * x₀ ι - y₁ ι * x₁ ι) : EReal) = ((Z (ι 0).val (ι 1).val + Y (ι 0).val (ι 1).val * X (ι 0).val (ι 1).val).re : EReal)
    rw [hx.re, hx.im, hy.re, hy.im, hz.re, Complex.add_re, Complex.mul_re]
    norm_cast
  · intro ι
    show (z₁ ι + (y₀ ι * x₁ ι + y₁ ι * x₀ ι) : EReal) = ((Z (ι 0).val (ι 1).val + Y (ι 0).val (ι 1).val * X (ι 0).val (ι 1).val).im : EReal)
    rw [hx.re, hx.im, hy.re, hy.im, hz.im, Complex.add_im, Complex.mul_im]
    norm_cast

theorem pay_fix' (hx : CArr (R := 8) (C := 512) x₀ x₁ X) (hy : CArr (R := 8) (C := 512) y₀ y₁ Y) (hz : CArr (R := 8) (C := 512) z₀ z₁ Z) :
    CArr (R := 8) (C := 512) (k0_pay131 x₀ x₁ y₀ y₁ z₀) (k0_pay132 x₀ x₁ y₀ y₁ z₁) (fun r q => Z r q + Y r q * X r q) :=
  (pay_fix hx hy hz).cast _ _

theorem pay_fwd (hx : CArr (R := 8) (C := 512) x₀ x₁ X) (hy : CArr (R := 8) (C := 512) y₀ y₁ Y) (hz : CArr (R := 8) (C := 512) z₀ z₁ Z) :
    CArr (R := 8) (C := 512) (k0_pay65 x₀ x₁ y₀ y₁ z₀) (k0_pay66 x₀ x₁ y₀ y₁ z₁) (fun r q => Z r q + Y r q * X r q) :=
  (pay_fix hx hy hz).cast _ _

/-- `z + conj a * p`. -/
theorem pay_back (hx : CArr (R := 8) (C := 512) x₀ x₁ X) (hy : CArr (R := 8) (C := 512) y₀ y₁ Y) (hz : CArr (R := 8) (C := 512) z₀ z₁ Z) :
    CArr (R := 8) (C := 512) (k0_pay77 x₀ x₁ y₀ y₁ z₀) (k0_pay78 x₀ x₁ y₀ y₁ z₁)
      (fun r q => (starRingEnd ℂ) (X r q) * Y r q + Z r q) := by
  constructor
  · intro ι
    show (z₀ ι + x₀ ι * y₀ ι + x₁ ι * y₁ ι : EReal) = (((starRingEnd ℂ) (X (ι 0).val (ι 1).val) * Y (ι 0).val (ι 1).val + Z (ι 0).val (ι 1).val).re : EReal)
    rw [hx.re, hx.im, hy.re, hy.im, hz.re, Complex.add_re, Complex.mul_re, Complex.conj_re, Complex.conj_im]
    norm_cast
    ring_nf
  · intro ι
    show (z₁ ι + x₀ ι * y₁ ι - x₁ ι * y₀ ι : EReal) = (((starRingEnd ℂ) (X (ι 0).val (ι 1).val) * Y (ι 0).val (ι 1).val + Z (ι 0).val (ι 1).val).im : EReal)
    rw [hx.re, hx.im, hy.re, hy.im, hz.im, Complex.add_im, Complex.mul_im, Complex.conj_re, Complex.conj_im]
    norm_cast
    ring_nf

theorem pay_back' (hx : CArr (R := 8) (C := 512) x₀ x₁ X) (hy : CArr (R := 8) (C := 512) y₀ y₁ Y) (hz : CArr (R := 8) (C := 512) z₀ z₁ Z) :
    CArr (R := 8) (C := 512) (k0_pay79 x₀ x₁ y₀ y₁ z₀) (k0_pay80 x₀ x₁ y₀ y₁ z₁)
      (fun r q => (starRingEnd ℂ) (X r q) * Y r q + Z r q) :=
  (pay_back hx hy hz).cast _ _

/-- The accumulator of the transition's gradient: `d + g * conj l`, where `g = z + p * c`. -/
theorem pay_acc (hx : CArr (R := 8) (C := 512) x₀ x₁ X) (hy : CArr (R := 8) (C := 512) y₀ y₁ Y) (hz : CArr (R := 8) (C := 512) z₀ z₁ Z)
    (hd : CArr (R := 8) (C := 512) d₀ d₁ D) (hl : CArr (R := 8) (C := 512) l₀ l₁ L) :
    CArr (R := 8) (C := 512) (k0_pay133 x₀ x₁ y₀ y₁ d₀ l₀ l₁ z₀ z₁) (k0_pay134 x₀ x₁ y₀ y₁ d₁ l₀ l₁ z₀ z₁)
      (fun r q => D r q + (Z r q + Y r q * X r q) * (starRingEnd ℂ) (L r q)) := by
  have hg := pay_fix hx hy hz
  constructor
  · intro ι
    show (d₀ ι + k0_pay129 x₀ x₁ y₀ y₁ z₀ ι * l₀ ι + k0_pay130 x₀ x₁ y₀ y₁ z₁ ι * l₁ ι : EReal) = _
    rw [hd.re, hl.re, hl.im, hg.re, hg.im]
    dsimp only
    rw [Complex.add_re (D _ _), Complex.mul_re _ ((starRingEnd ℂ) _), Complex.conj_re, Complex.conj_im]
    norm_cast
    ring_nf
  · intro ι
    show (d₁ ι + k0_pay130 x₀ x₁ y₀ y₁ z₁ ι * l₀ ι - k0_pay129 x₀ x₁ y₀ y₁ z₀ ι * l₁ ι : EReal) = _
    rw [hd.im, hl.re, hl.im, hg.re, hg.im]
    dsimp only
    rw [Complex.add_im (D _ _), Complex.mul_im _ ((starRingEnd ℂ) _), Complex.conj_re, Complex.conj_im]
    norm_cast
    ring_nf

end Cert.Scan
-- ==== Proof.Scan.Loops.lean ====
/-
  The kernel's four loops in closed form. The scratch rows hold a pair of arrays, read as one array of complex numbers;
  row `8 * k + j` of a scratch array belongs to step `k` of stretch `j`.
-/
module

public import proofs.«01_k».proof.Proof.Scan.Trips
public import proofs.«01_k».proof.Proof.Scan.Pays
public import Mathlib.Algebra.BigOperators.Group.Finset.Basic

@[expose] public section

set_option maxRecDepth 16384

noncomputable section

namespace Cert.Scan

open Idealize.ShloMosaic Cert.KernelIdeal Cert.KernelIdeal.Gen
open Idealize.ShloMosaic.TcCoe Idealize.ShloMosaic.Tactic
open Idealize.ShloMosaic.LaneScatter (Blk)

/-- Stretch `j` scanned from zero, after step `k`. -/
def loc (a : ℕ → ℂ) (Z : ℕ → ℕ → ℂ) (j q k : ℕ) : ℂ := run (a q) (fun s => Z (8 * s + j) q) k

/-- The scratch after `k` trips of the first loop. -/
def cont1 (a : ℕ → ℂ) (Z : ℕ → ℕ → ℂ) (k r q : ℕ) : ℂ := if r < 8 * (k + 1) then loc a Z (r % 8) q (r / 8) else Z r q

/-- The scratch after `k` trips of the second loop. -/
def cont2 (a : ℕ → ℂ) (cm : ℕ → ℕ → ℂ) (Z : ℕ → ℕ → ℂ) (k r q : ℕ) : ℂ :=
  if r < 8 * k then Z r q + a q ^ (r / 8 + 1) * cm (r % 8) q else Z r q

/-- Stretch `j` scanned backwards from zero, after `s` steps from its end. -/
def back (b : ℕ → ℂ) (Z : ℕ → ℕ → ℂ) (j q s : ℕ) : ℂ := run (b q) (fun s => Z (8 * (255 - s) + j) q) s

/-- The scratch after `s` trips of the third loop. -/
def cont3 (b : ℕ → ℂ) (Z : ℕ → ℕ → ℂ) (s r q : ℕ) : ℂ :=
  if 8 * (255 - s) ≤ r then back b Z (r % 8) q (255 - r / 8) else Z r q

/-- The scratch after `s` trips of the fourth loop. -/
def cont4 (b : ℕ → ℂ) (cb : ℕ → ℕ → ℂ) (Z : ℕ → ℕ → ℂ) (s r q : ℕ) : ℂ :=
  if 8 * (256 - s) ≤ r then Z r q + b q ^ (256 - r / 8) * cb (r % 8) q else Z r q

/-- The accumulator after `s` trips of the fourth loop. -/
def acc4 (b : ℕ → ℂ) (cb : ℕ → ℕ → ℂ) (Z X : ℕ → ℕ → ℂ) (s j q : ℕ) : ℂ :=
  ∑ s' ∈ Finset.range s, (Z (8 * (255 - s') + j) q + b q ^ (s' + 1) * cb j q) * (starRingEnd ℂ) (X (8 * (254 - s') + j) q)

theorem cont1_succ (a : ℕ → ℂ) (Z : ℕ → ℕ → ℂ) (k r q : ℕ) :
    (if 8 * (k + 1) ≤ r ∧ r < 8 * (k + 1) + 8 then loc a Z (r - 8 * (k + 1)) q (k + 1) else cont1 a Z k r q) = cont1 a Z (k + 1) r q := by
  unfold cont1
  by_cases h : 8 * (k + 1) ≤ r ∧ r < 8 * (k + 1) + 8
  · rw [if_pos h, if_pos (by omega), show r % 8 = r - 8 * (k + 1) by omega, show r / 8 = k + 1 by omega]
  · rw [if_neg h]
    by_cases h2 : r < 8 * (k + 1)
    · rw [if_pos h2, if_pos (by omega)]
    · rw [if_neg h2, if_neg (by omega)]

theorem cont2_succ (a : ℕ → ℂ) (cm : ℕ → ℕ → ℂ) (Z : ℕ → ℕ → ℂ) (k r q : ℕ) :
    (if 8 * k ≤ r ∧ r < 8 * k + 8 then cont2 a cm Z k (8 * k + (r - 8 * k)) q + a q ^ (k + 1) * cm (r - 8 * k) q else cont2 a cm Z k r q)
      = cont2 a cm Z (k + 1) r q := by
  unfold cont2
  by_cases h : 8 * k ≤ r ∧ r < 8 * k + 8
  · rw [if_pos h, if_neg (by omega), if_pos (by omega), show r % 8 = r - 8 * k by omega, show r / 8 = k by omega,
      show 8 * k + (r - 8 * k) = r by omega]
  · rw [if_neg h]
    by_cases h2 : r < 8 * k
    · rw [if_pos h2, if_pos (by omega)]
    · rw [if_neg h2, if_neg (by omega)]

theorem cont3_succ (b : ℕ → ℂ) (Z : ℕ → ℕ → ℂ) (s r q : ℕ) (hs : s < 255) :
    (if 8 * (254 - s) ≤ r ∧ r < 8 * (254 - s) + 8 then back b Z (r - 8 * (254 - s)) q (s + 1) else cont3 b Z s r q) = cont3 b Z (s + 1) r q := by
  unfold cont3
  by_cases h : 8 * (254 - s) ≤ r ∧ r < 8 * (254 - s) + 8
  · rw [if_pos h, if_pos (by omega), show r % 8 = r - 8 * (254 - s) by omega, show 255 - r / 8 = s + 1 by omega]
  · rw [if_neg h]
    by_cases h2 : 8 * (255 - s) ≤ r
    · rw [if_pos h2, if_pos (by omega)]
    · rw [if_neg h2, if_neg (by omega)]

theorem cont4_succ (b : ℕ → ℂ) (cb : ℕ → ℕ → ℂ) (Z : ℕ → ℕ → ℂ) (s r q : ℕ) (hs : s < 256) :
    (if 8 * (255 - s) ≤ r ∧ r < 8 * (255 - s) + 8
      then cont4 b cb Z s (8 * (255 - s) + (r - 8 * (255 - s))) q + b q ^ (s + 1) * cb (r - 8 * (255 - s)) q else cont4 b cb Z s r q)
      = cont4 b cb Z (s + 1) r q := by
  unfold cont4
  by_cases h : 8 * (255 - s) ≤ r ∧ r < 8 * (255 - s) + 8
  · rw [if_pos h, if_neg (by omega), if_pos (by omega), show r % 8 = r - 8 * (255 - s) by omega, show 256 - r / 8 = s + 1 by omega,
      show 8 * (255 - s) + (r - 8 * (255 - s)) = r by omega]
  · rw [if_neg h]
    by_cases h2 : 8 * (256 - s) ≤ r
    · rw [if_pos h2, if_pos (by omega)]
    · rw [if_neg h2, if_neg (by omega)]

variable (c : Dev nD) (i : grid0.Coords) {arg1 : Memref sig .tc .vmem S2048x128 .f32} (harg1 : arg1.IsWhole) {arg2 : Memref sig .tc .vmem S2048x128 .f32} (harg2 : arg2.IsWhole) {arg3 : Memref sig .tc .vmem S1x1x512 .f32} (harg3 : arg3.IsWhole) {arg4 : Memref sig .tc .vmem S1x1x512 .f32} (harg4 : arg4.IsWhole) {arg5 : Memref sig .tc .vmem S1x128x512 .bf16} (harg5 : arg5.IsWhole) {arg6 : Memref sig .tc .vmem S1x128x512 .bf16} (harg6 : arg6.IsWhole) {arg7 : Memref sig .tc .vmem S1x128x512 .bf16} (harg7 : arg7.IsWhole) {arg8 : Memref sig .tc .vmem S1x128x512 .bf16} (harg8 : arg8.IsWhole) {arg9 : Memref sig .tc .vmem S1x128 .f32} (harg9 : arg9.IsWhole) {arg10 : Memref sig .tc .vmem S2048x128 .f32} (harg10 : arg10.IsWhole) {arg11 : Memref sig .tc .vmem S1x128x512 .f32} (harg11 : arg11.IsWhole) {arg12 : Memref sig .tc .vmem S1x128x512 .f32} (harg12 : arg12.IsWhole) {arg13 : Memref sig .tc .vmem S1x512x128 .f32} (harg13 : arg13.IsWhole) {arg14 : Memref sig .tc .vmem S1x512x128 .f32} (harg14 : arg14.IsWhole) {arg15 : Memref sig .tc .vmem S1x1x512 .f32} (harg15 : arg15.IsWhole) {arg16 : Memref sig .tc .vmem S1x1x512 .f32} (harg16 : arg16.IsWhole) {arg17 : Memref sig .tc .vmem S1x128 .f32} (harg17 : arg17.IsWhole) {arg18 : Memref sig .tc .vmem S2048x512 .f32} (harg18 : arg18.IsWhole) {arg19 : Memref sig .tc .vmem S2048x512 .f32} (harg19 : arg19.IsWhole) {arg20 : Memref sig .tc .vmem S2048x512 .f32} (harg20 : arg20.IsWhole) {arg21 : Memref sig .tc .vmem S2048x512 .f32} (harg21 : arg21.IsWhole) {arg22 : Memref sig .tc .vmem S16x512 .f32} (harg22 : arg22.IsWhole) {arg23 : Memref sig .tc .vmem S16x512 .f32} (harg23 : arg23.IsWhole)

/-- The first loop scans every stretch from zero. -/
theorem loop1 (v1 v3 : FVec Ideal S1x512 .f32) {v23 v25 : FVec Ideal S8x512 .f32} (v26 v27 : FVec Ideal S8x512 .f32) (w : BitVec 32) {G0 : BufTy.Contents (Elt Ideal) arg18.view.ty} {G1 : BufTy.Contents (Elt Ideal) arg19.view.ty} {init : FVec Ideal S8x512 .f32 × FVec Ideal S8x512 .f32} {a : ℕ → ℂ} {Z : ℕ → ℕ → ℂ}
    (ha : CArr (R := 8) (C := 512) v23 v25 (fun _ q => a q)) (hi : CArr (R := 8) (C := 512) init.1 init.2 Z)
    (hG : CArr (arg18.view.read (Elt Ideal) G0) (arg19.view.read (Elt Ideal) G1) Z) :
    ∀ k, k ≤ 255 →
      (CArr (R := 8) (C := 512) (st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1 v3 v23 v25 v26 v27 w G0 G1 init k).1.1 (st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1 v3 v23 v25 v26 v27 w G0 G1 init k).1.2 (fun j q => loc a Z j q k))
      ∧ CArr (arg18.view.read (Elt Ideal) (arg18.view.writes (Elt Ideal) G0 (st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1 v3 v23 v25 v26 v27 w G0 G1 init k).2.1))
          (arg19.view.read (Elt Ideal) (arg19.view.writes (Elt Ideal) G1 (st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1 v3 v23 v25 v26 v27 w G0 G1 init k).2.2)) (cont1 a Z k) := by
  intro k
  induction k with
  | zero =>
    intro _
    exact ⟨hi.congr fun r q _ _ => by show _ = Z (8 * 0 + r) q; rw [Nat.mul_zero, Nat.zero_add],
      hG.congr fun r q _ _ => by
        unfold cont1
        by_cases h : r < 8 * (0 + 1)
        · rw [if_pos h, show r / 8 = 0 by omega, show r % 8 = r by omega]
          show _ = Z (8 * 0 + r) q
          rw [Nat.mul_zero, Nat.zero_add]
        · rw [if_neg h]⟩
  | succ k ih =>
    intro hk
    obtain ⟨hc, hm⟩ := ih (by omega)
    have e := st_k0_t1_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1 v3 v23 v25 v26 v27 w G0 G1 init ⟨k, by rw [trips1]; omega⟩
    rw [tripR1, tripL1] at e
    simp only at e
    rw [e]
    clear e
    generalize st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1 v3 v23 v25 v26 v27 w G0 G1 init k = S at hc hm ⊢
    have hl := (hm.load (off1_eq ⟨k, by rw [trips1]; omega⟩) (k0_off1_inb ⟨k, by rw [trips1]; omega⟩)).congr
      (Z' := fun r q => Z (8 * (k + 1) + r) q) fun r q _ _ => by
        show cont1 a Z k (8 * (k + 1) + r) (0 + q) = _
        unfold cont1
        rw [if_neg (by omega), Nat.zero_add]
    refine ⟨pay_step ha hc hl, ?_⟩
    exact (hm.store (off1_eq ⟨k, by rw [trips1]; omega⟩) (k0_off1_inb ⟨k, by rw [trips1]; omega⟩) (pay_step' ha hc hl)).congr
      fun r q _ _ => cont1_succ a Z k r q

/-- The same, for the state that the whole loop leaves. -/
theorem loop1S {v1 v3 : FVec Ideal S1x512 .f32} {v23 v25 : FVec Ideal S8x512 .f32} {v26 v27 : FVec Ideal S8x512 .f32} {w : BitVec 32} {G0 : BufTy.Contents (Elt Ideal) arg18.view.ty} {G1 : BufTy.Contents (Elt Ideal) arg19.view.ty} {init : FVec Ideal S8x512 .f32 × FVec Ideal S8x512 .f32} {a : ℕ → ℂ} {Z : ℕ → ℕ → ℂ}
    {S : (FVec Ideal S8x512 .f32 × FVec Ideal S8x512 .f32) × List (View.Piece (Elt Ideal) S2048x512 .f32) × List (View.Piece (Elt Ideal) S2048x512 .f32)} {n : ℕ} (hs : st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1 v3 v23 v25 v26 v27 w G0 G1 init n = S) (hn : n = 255)
    (ha : CArr (R := 8) (C := 512) v23 v25 (fun _ q => a q)) (hi : CArr (R := 8) (C := 512) init.1 init.2 Z)
    (hG : CArr (arg18.view.read (Elt Ideal) G0) (arg19.view.read (Elt Ideal) G1) Z) :
      (CArr (R := 8) (C := 512) S.1.1 S.1.2 (fun j q => loc a Z j q 255))
      ∧ CArr (arg18.view.read (Elt Ideal) (arg18.view.writes (Elt Ideal) G0 S.2.1))
          (arg19.view.read (Elt Ideal) (arg19.view.writes (Elt Ideal) G1 S.2.2)) (cont1 a Z 255) := by
  subst hs
  subst hn
  exact loop1 c i _ _ _ _ _ _ _ _ _ _ _ _ _ _ _ _ _ _ _ _ _ _ _ _ _ _ _ _ ha hi hG 255 le_rfl

/-- The second loop adds to every stretch what the one before it carries in. -/
theorem loop2 (v9 : FVec Ideal S2048x128 .bf16) {v23 v25 : FVec Ideal S8x512 .f32} (v29_0 v29_1 : FVec Ideal S8x512 .f32) (v74 v77 v157 v159 v168 : FVec Ideal S1x512 .f32) {v198 v199 : FVec Ideal S8x512 .f32} {G0 : BufTy.Contents (Elt Ideal) arg18.view.ty} {G1 : BufTy.Contents (Elt Ideal) arg19.view.ty} {init : FVec Ideal S8x512 .f32 × FVec Ideal S8x512 .f32} {a : ℕ → ℂ} {Z cm : ℕ → ℕ → ℂ}
    (ha : CArr (R := 8) (C := 512) v23 v25 (fun _ q => a q)) (hcm : CArr (R := 8) (C := 512) v198 v199 cm) (hi : CArr (R := 8) (C := 512) init.1 init.2 (fun _ q => a q))
    (hG : CArr (arg18.view.read (Elt Ideal) G0) (arg19.view.read (Elt Ideal) G1) Z) :
    ∀ k, k ≤ 256 →
      (CArr (R := 8) (C := 512) (st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 v23 v25 v29_0 v29_1 v74 v77 v157 v159 v168 v198 v199 G0 G1 init k).1.1 (st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 v23 v25 v29_0 v29_1 v74 v77 v157 v159 v168 v198 v199 G0 G1 init k).1.2 (fun _ q => a q ^ (k + 1)))
      ∧ CArr (arg18.view.read (Elt Ideal) (arg18.view.writes (Elt Ideal) G0 (st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 v23 v25 v29_0 v29_1 v74 v77 v157 v159 v168 v198 v199 G0 G1 init k).2.1))
          (arg19.view.read (Elt Ideal) (arg19.view.writes (Elt Ideal) G1 (st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 v23 v25 v29_0 v29_1 v74 v77 v157 v159 v168 v198 v199 G0 G1 init k).2.2)) (cont2 a cm Z k) := by
  intro k
  induction k with
  | zero =>
    intro _
    exact ⟨hi.congr fun r q _ _ => by rw [Nat.zero_add, pow_one],
      hG.congr fun r q _ _ => by unfold cont2; rw [if_neg (by omega)]⟩
  | succ k ih =>
    intro hk
    obtain ⟨hc, hm⟩ := ih (by omega)
    have e := st_k0_t2_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 v23 v25 v29_0 v29_1 v74 v77 v157 v159 v168 v198 v199 G0 G1 init ⟨k, by rw [trips2]; omega⟩
    rw [tripR2, tripL2] at e
    simp only at e
    rw [e]
    clear e
    generalize st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 v23 v25 v29_0 v29_1 v74 v77 v157 v159 v168 v198 v199 G0 G1 init k = S at hc hm ⊢
    have hl := hm.load (off2_eq ⟨k, by rw [trips2]; omega⟩) (k0_off2_inb ⟨k, by rw [trips2]; omega⟩)
    refine ⟨(pay_mul ha hc).congr fun r q _ _ => (pow_succ _ _).symm, ?_⟩
    refine (hm.store (off2_eq ⟨k, by rw [trips2]; omega⟩) (k0_off2_inb ⟨k, by rw [trips2]; omega⟩) (pay_fwd hcm hc hl)).congr
      fun r q _ _ => ?_
    rw [Nat.zero_add]
    exact cont2_succ a cm Z k r q

/-- The same, for the state that the whole loop leaves. -/
theorem loop2S {v9 : FVec Ideal S2048x128 .bf16} {v23 v25 : FVec Ideal S8x512 .f32} {v29_0 v29_1 : FVec Ideal S8x512 .f32} {v74 v77 v157 v159 v168 : FVec Ideal S1x512 .f32} {v198 v199 : FVec Ideal S8x512 .f32} {G0 : BufTy.Contents (Elt Ideal) arg18.view.ty} {G1 : BufTy.Contents (Elt Ideal) arg19.view.ty} {init : FVec Ideal S8x512 .f32 × FVec Ideal S8x512 .f32} {a : ℕ → ℂ} {Z cm : ℕ → ℕ → ℂ}
    {S : (FVec Ideal S8x512 .f32 × FVec Ideal S8x512 .f32) × List (View.Piece (Elt Ideal) S2048x512 .f32) × List (View.Piece (Elt Ideal) S2048x512 .f32)} {n : ℕ} (hs : st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 v23 v25 v29_0 v29_1 v74 v77 v157 v159 v168 v198 v199 G0 G1 init n = S) (hn : n = 256)
    (ha : CArr (R := 8) (C := 512) v23 v25 (fun _ q => a q)) (hcm : CArr (R := 8) (C := 512) v198 v199 cm) (hi : CArr (R := 8) (C := 512) init.1 init.2 (fun _ q => a q))
    (hG : CArr (arg18.view.read (Elt Ideal) G0) (arg19.view.read (Elt Ideal) G1) Z) :
      (CArr (R := 8) (C := 512) S.1.1 S.1.2 (fun _ q => a q ^ (256 + 1)))
      ∧ CArr (arg18.view.read (Elt Ideal) (arg18.view.writes (Elt Ideal) G0 S.2.1))
          (arg19.view.read (Elt Ideal) (arg19.view.writes (Elt Ideal) G1 S.2.2)) (cont2 a cm Z 256) := by
  subst hs
  subst hn
  exact loop2 c i _ _ _ _ _ _ _ _ _ _ _ _ _ _ _ _ _ _ _ _ _ _ _ _ _ _ _ _ _ _ _ ha hcm hi hG 256 le_rfl

/-- The third loop scans every stretch backwards from zero, with the conjugate factor. -/
theorem loop3 (v1 v3 : FVec Ideal S1x512 .f32) {v231 v233 : FVec Ideal S8x512 .f32} (w : BitVec 32) {G0 : BufTy.Contents (Elt Ideal) arg20.view.ty} {G1 : BufTy.Contents (Elt Ideal) arg21.view.ty} {init : FVec Ideal S8x512 .f32 × FVec Ideal S8x512 .f32} {a : ℕ → ℂ} {Z : ℕ → ℕ → ℂ}
    (ha : CArr (R := 8) (C := 512) v231 v233 (fun _ q => a q)) (hi : CArr (R := 8) (C := 512) init.1 init.2 (fun r q => Z (2040 + r) q))
    (hG : CArr (arg20.view.read (Elt Ideal) G0) (arg21.view.read (Elt Ideal) G1) Z) :
    ∀ k, k ≤ 255 →
      (CArr (R := 8) (C := 512) (st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1 v3 v231 v233 w G0 G1 init k).1.1 (st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1 v3 v231 v233 w G0 G1 init k).1.2 (fun j q => back (fun q => (starRingEnd ℂ) (a q)) Z j q k))
      ∧ CArr (arg20.view.read (Elt Ideal) (arg20.view.writes (Elt Ideal) G0 (st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1 v3 v231 v233 w G0 G1 init k).2.1))
          (arg21.view.read (Elt Ideal) (arg21.view.writes (Elt Ideal) G1 (st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1 v3 v231 v233 w G0 G1 init k).2.2)) (cont3 (fun q => (starRingEnd ℂ) (a q)) Z k) := by
  intro k
  induction k with
  | zero =>
    intro _
    exact ⟨hi,
      hG.congr fun r q hr _ => by
        unfold cont3
        by_cases h : 8 * (255 - 0) ≤ r
        · rw [if_pos h, show 255 - r / 8 = 0 by omega]
          show _ = Z (8 * (255 - 0) + r % 8) q
          rw [show 8 * (255 - 0) + r % 8 = r by omega]
        · rw [if_neg h]⟩
  | succ k ih =>
    intro hk
    obtain ⟨hc, hm⟩ := ih (by omega)
    have e := st_k0_t3_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1 v3 v231 v233 w G0 G1 init ⟨k, by rw [trips3]; omega⟩
    rw [tripR3, tripL3] at e
    simp only at e
    rw [e]
    clear e
    generalize st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1 v3 v231 v233 w G0 G1 init k = S at hc hm ⊢
    have hl := (hm.load (off3_eq ⟨k, by rw [trips3]; omega⟩) (k0_off3_inb ⟨k, by rw [trips3]; omega⟩)).congr
      (Z' := fun r q => Z (8 * (254 - k) + r) q) fun r q _ _ => by
        show cont3 _ Z k (8 * (254 - k) + r) (0 + q) = _
        unfold cont3
        rw [if_neg (by omega), Nat.zero_add]
    have hstep : ∀ r q : ℕ, (starRingEnd ℂ) (a q) * back (fun q => (starRingEnd ℂ) (a q)) Z r q k + Z (8 * (254 - k) + r) q
        = back (fun q => (starRingEnd ℂ) (a q)) Z r q (k + 1) := fun r q => by
      rw [show 254 - k = 255 - (k + 1) by omega]; rfl
    refine ⟨(pay_back ha hc hl).congr fun r q _ _ => hstep r q, ?_⟩
    refine (hm.store (off3_eq ⟨k, by rw [trips3]; omega⟩) (k0_off3_inb ⟨k, by rw [trips3]; omega⟩) (pay_back' ha hc hl)).congr
      fun r q _ _ => ?_
    refine Eq.trans ?_ (cont3_succ (fun q => (starRingEnd ℂ) (a q)) Z k r q (by omega))
    exact congrArg (fun z => ite _ z _) (hstep _ q)

/-- The same, for the state that the whole loop leaves. -/
theorem loop3S {v1 v3 : FVec Ideal S1x512 .f32} {v231 v233 : FVec Ideal S8x512 .f32} {w : BitVec 32} {G0 : BufTy.Contents (Elt Ideal) arg20.view.ty} {G1 : BufTy.Contents (Elt Ideal) arg21.view.ty} {init : FVec Ideal S8x512 .f32 × FVec Ideal S8x512 .f32} {a : ℕ → ℂ} {Z : ℕ → ℕ → ℂ}
    {S : (FVec Ideal S8x512 .f32 × FVec Ideal S8x512 .f32) × List (View.Piece (Elt Ideal) S2048x512 .f32) × List (View.Piece (Elt Ideal) S2048x512 .f32)} {n : ℕ} (hs : st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1 v3 v231 v233 w G0 G1 init n = S) (hn : n = 255)
    (ha : CArr (R := 8) (C := 512) v231 v233 (fun _ q => a q)) (hi : CArr (R := 8) (C := 512) init.1 init.2 (fun r q => Z (2040 + r) q))
    (hG : CArr (arg20.view.read (Elt Ideal) G0) (arg21.view.read (Elt Ideal) G1) Z) :
      (CArr (R := 8) (C := 512) S.1.1 S.1.2 (fun j q => back (fun q => (starRingEnd ℂ) (a q)) Z j q 255))
      ∧ CArr (arg20.view.read (Elt Ideal) (arg20.view.writes (Elt Ideal) G0 S.2.1))
          (arg21.view.read (Elt Ideal) (arg21.view.writes (Elt Ideal) G1 S.2.2)) (cont3 (fun q => (starRingEnd ℂ) (a q)) Z 255) := by
  subst hs
  subst hn
  exact loop3 c i _ _ _ _ _ _ _ _ _ _ _ _ _ _ _ _ _ _ _ _ _ _ _ _ _ _ ha hi hG 255 le_rfl

/-- The fourth loop adds to every stretch what the one after it carries in, and accumulates the gradient of the transition. -/
theorem loop4 {v231 v235 v413 v414 : FVec Ideal S8x512 .f32} (z : EReal) {X18 : BufTy.Contents (Elt Ideal) arg18.view.ty} {X19 : BufTy.Contents (Elt Ideal) arg19.view.ty} {G0 : BufTy.Contents (Elt Ideal) arg20.view.ty} {G1 : BufTy.Contents (Elt Ideal) arg21.view.ty} {init : FVec Ideal S8x512 .f32 × FVec Ideal S8x512 .f32 × FVec Ideal S8x512 .f32 × FVec Ideal S8x512 .f32} {b : ℕ → ℂ} {Z cb X : ℕ → ℕ → ℂ}
    (hb : CArr (R := 8) (C := 512) v231 v235 (fun _ q => b q)) (hcb : CArr (R := 8) (C := 512) v413 v414 cb)
    (hi : CArr (R := 8) (C := 512) init.1 init.2.1 (fun _ q => b q)) (hi' : CArr (R := 8) (C := 512) init.2.2.1 init.2.2.2 (fun _ _ => 0))
    (hX : CArr (arg18.view.read (Elt Ideal) X18) (arg19.view.read (Elt Ideal) X19) X)
    (hG : CArr (arg20.view.read (Elt Ideal) G0) (arg21.view.read (Elt Ideal) G1) Z) :
    ∀ k, k ≤ 255 →
      (CArr (R := 8) (C := 512) (st_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v231 v235 v413 v414 z X18 X19 G0 G1 init k).1.1 (st_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v231 v235 v413 v414 z X18 X19 G0 G1 init k).1.2.1 (fun _ q => b q ^ (k + 1))
        ∧ CArr (R := 8) (C := 512) (st_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v231 v235 v413 v414 z X18 X19 G0 G1 init k).1.2.2.1 (st_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v231 v235 v413 v414 z X18 X19 G0 G1 init k).1.2.2.2 (acc4 b cb Z X k))
      ∧ CArr (arg20.view.read (Elt Ideal) (arg20.view.writes (Elt Ideal) G0 (st_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v231 v235 v413 v414 z X18 X19 G0 G1 init k).2.1))
          (arg21.view.read (Elt Ideal) (arg21.view.writes (Elt Ideal) G1 (st_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v231 v235 v413 v414 z X18 X19 G0 G1 init k).2.2)) (cont4 b cb Z k) := by
  intro k
  induction k with
  | zero =>
    intro _
    exact ⟨⟨hi.congr fun r q _ _ => by rw [Nat.zero_add, pow_one], hi'⟩,
      hG.congr fun r q hr _ => by unfold cont4; rw [if_neg (by omega)]⟩
  | succ k ih =>
    intro hk
    obtain ⟨hc, hm⟩ := ih (by omega)
    have e := st_k0_t4_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v231 v235 v413 v414 z X18 X19 G0 G1 init ⟨k, by rw [trips4]; omega⟩
    rw [tripR4, tripL4] at e
    simp only at e
    rw [e]
    clear e
    generalize st_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v231 v235 v413 v414 z X18 X19 G0 G1 init k = S at hc hm ⊢
    obtain ⟨hc, hd⟩ := hc
    have hl := (hm.load (off5_eq ⟨k, by rw [trips4]; omega⟩) (k0_off5_inb ⟨k, by rw [trips4]; omega⟩))
    have hx := (hX.load (off4_eq ⟨k, by rw [trips4]; omega⟩) (k0_off4_inb ⟨k, by rw [trips4]; omega⟩))
    refine ⟨⟨(pay_mul' hb hc).congr fun r q _ _ => (pow_succ _ _).symm, (pay_acc hcb hc hl hd hx).congr fun r q hr _ => ?_⟩, ?_⟩
    · show _ = acc4 b cb Z X (k + 1) r q
      unfold acc4
      rw [Finset.sum_range_succ]
      have h1 : cont4 b cb Z k (8 * (255 - k) + r) (0 + q) = Z (8 * (255 - k) + r) q := by
        unfold cont4; rw [if_neg (by omega), Nat.zero_add]
      rw [h1, Nat.zero_add]
    · refine (hm.store (off5_eq ⟨k, by rw [trips4]; omega⟩) (k0_off5_inb ⟨k, by rw [trips4]; omega⟩) (pay_fix' hcb hc hl)).congr
        fun r q _ _ => ?_
      rw [Nat.zero_add]
      exact cont4_succ b cb Z k r q (by omega)

/-- The same, for the state that the whole loop leaves. -/
theorem loop4S {v231 v235 v413 v414 : FVec Ideal S8x512 .f32} {z : EReal} {X18 : BufTy.Contents (Elt Ideal) arg18.view.ty} {X19 : BufTy.Contents (Elt Ideal) arg19.view.ty} {G0 : BufTy.Contents (Elt Ideal) arg20.view.ty} {G1 : BufTy.Contents (Elt Ideal) arg21.view.ty} {init : FVec Ideal S8x512 .f32 × FVec Ideal S8x512 .f32 × FVec Ideal S8x512 .f32 × FVec Ideal S8x512 .f32} {b : ℕ → ℂ} {Z cb X : ℕ → ℕ → ℂ}
    {S : (FVec Ideal S8x512 .f32 × FVec Ideal S8x512 .f32 × FVec Ideal S8x512 .f32 × FVec Ideal S8x512 .f32) × List (View.Piece (Elt Ideal) S2048x512 .f32) × List (View.Piece (Elt Ideal) S2048x512 .f32)} {n : ℕ} (hs : st_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v231 v235 v413 v414 z X18 X19 G0 G1 init n = S) (hn : n = 255)
    (hb : CArr (R := 8) (C := 512) v231 v235 (fun _ q => b q)) (hcb : CArr (R := 8) (C := 512) v413 v414 cb)
    (hi : CArr (R := 8) (C := 512) init.1 init.2.1 (fun _ q => b q)) (hi' : CArr (R := 8) (C := 512) init.2.2.1 init.2.2.2 (fun _ _ => 0))
    (hX : CArr (arg18.view.read (Elt Ideal) X18) (arg19.view.read (Elt Ideal) X19) X)
    (hG : CArr (arg20.view.read (Elt Ideal) G0) (arg21.view.read (Elt Ideal) G1) Z) :
      (CArr (R := 8) (C := 512) S.1.1 S.1.2.1 (fun _ q => b q ^ (255 + 1))
        ∧ CArr (R := 8) (C := 512) S.1.2.2.1 S.1.2.2.2 (acc4 b cb Z X 255))
      ∧ CArr (arg20.view.read (Elt Ideal) (arg20.view.writes (Elt Ideal) G0 S.2.1))
          (arg21.view.read (Elt Ideal) (arg21.view.writes (Elt Ideal) G1 S.2.2)) (cont4 b cb Z 255) := by
  subst hs
  subst hn
  exact loop4 c i _ _ _ _ _ _ _ _ _ _ _ _ _ _ _ _ _ _ _ _ _ _ _ _ hb hcb hi hi' hX hG 255 le_rfl

end Cert.Scan
-- ==== Proof.Scan.Carry.lean ====
/-
  What a stretch hands on to the next: the powers of the transition by repeated squaring, the eight carries, and the
  scratch rows that hold them.
-/
module

public import proofs.«01_k».proof.Proof.Scan.Pays

@[expose] public section

set_option maxRecDepth 16384

noncomputable section

namespace Cert.Scan

open Idealize.ShloMosaic Cert.KernelIdeal Cert.KernelIdeal.Gen
open Idealize.ShloMosaic.LaneScatter (Blk)
open Idealize.ShloMosaic.Updates (Arr IsArr loadAt storeAt ofBlk isArr_ofBlk isArr_load isArr_writes_cons storeAt_hit storeAt_miss)

section
variable {R C : ℕ} {x₀ x₁ y₀ y₁ : FVec Ideal (Blk R C) .f32} {X Y : ℕ → ℕ → ℂ}

theorem cmul (hx : CArr x₀ x₁ X) (hy : CArr y₀ y₁ Y) :
    CArr (R := R) (C := C) (subf (mulf x₀ y₀) (mulf x₁ y₁)) (addf (mulf x₀ y₁) (mulf x₁ y₀)) (fun r q => X r q * Y r q) := by
  constructor
  · intro ι
    show (x₀ ι * y₀ ι - x₁ ι * y₁ ι : EReal) = ((X (ι 0).val (ι 1).val * Y (ι 0).val (ι 1).val).re : EReal)
    rw [hx.re, hx.im, hy.re, hy.im, Complex.mul_re]
    norm_cast
  · intro ι
    show (x₀ ι * y₁ ι + x₁ ι * y₀ ι : EReal) = ((X (ι 0).val (ι 1).val * Y (ι 0).val (ι 1).val).im : EReal)
    rw [hx.re, hx.im, hy.re, hy.im, Complex.mul_im]
    norm_cast

theorem cadd (hx : CArr x₀ x₁ X) (hy : CArr y₀ y₁ Y) :
    CArr (R := R) (C := C) (addf x₀ y₀) (addf x₁ y₁) (fun r q => X r q + Y r q) := by
  constructor
  · intro ι
    show (x₀ ι + y₀ ι : EReal) = ((X (ι 0).val (ι 1).val + Y (ι 0).val (ι 1).val).re : EReal)
    rw [hx.re, hy.re, Complex.add_re]
    norm_cast
  · intro ι
    show (x₁ ι + y₁ ι : EReal) = ((X (ι 0).val (ι 1).val + Y (ι 0).val (ι 1).val).im : EReal)
    rw [hx.im, hy.im, Complex.add_im]
    norm_cast

theorem zero_val : (FloatOps.ofBits (F := Ideal) FTy.f32 0x00000000#32 : EReal) = 0 := by
  exact Ideal.ofBits_zero _

theorem czero : CArr (R := R) (C := C) (broadcast (Blk R C) (FloatOps.ofBits (F := Ideal) FTy.f32 0x00000000#32)) (broadcast (Blk R C) (FloatOps.ofBits (F := Ideal) FTy.f32 0x00000000#32))
    (fun _ _ => 0) :=
  ⟨fun _ => zero_val, fun _ => zero_val⟩

theorem cconj (hx : CArr x₀ x₁ X) :
    CArr (R := R) (C := C) x₀ (subf (broadcast (Blk R C) (FloatOps.ofBits (F := Ideal) FTy.f32 0x00000000#32)) x₁) (fun r q => (starRingEnd ℂ) (X r q)) := by
  refine ⟨hx.1, fun ι => ?_⟩
  show ((FloatOps.ofBits (F := Ideal) FTy.f32 0x00000000#32 : EReal) - x₁ ι) = (((starRingEnd ℂ) (X (ι 0).val (ι 1).val)).im : EReal)
  rw [zero_val, hx.im, Complex.conj_im, zero_sub]
  norm_cast

end

theorem csq {x₀ x₁ : FVec Ideal Cert.KernelIdeal.S1x512 .f32} {a : ℕ → ℂ} {n m : ℕ} (e : m = n + n) (hx : CArr (R := 1) (C := 512) x₀ x₁ (fun _ q => a q ^ n)) :
    CArr (R := 1) (C := 512) (subf (mulf x₀ x₀) (mulf x₁ x₁)) (addf (mulf x₀ x₁) (mulf x₁ x₀)) (fun _ q => a q ^ m) :=
  (cmul hx hx).congr fun r q _ _ => by rw [e, pow_add]

theorem apow {v1 v3 : FVec Ideal Cert.KernelIdeal.S1x512 .f32} {a : ℕ → ℂ} (h : CArr (R := 1) (C := 512) v1 v3 (fun _ q => a q)) :
    CArr (R := 1) (C := 512) (k0_pay30 v1 v3) (k0_pay31 v1 v3) (fun _ q => a q ^ 256) := by
  have h1 : CArr (R := 1) (C := 512) v1 v3 (fun _ q => a q ^ 1) := h.congr fun r q _ _ => (pow_one _).symm
  have h2 : CArr (R := 1) (C := 512) (k0_pay16 v1 v3) (k0_pay17 v1 v3) (fun _ q => a q ^ 2) := csq rfl h1
  have h4 : CArr (R := 1) (C := 512) (k0_pay18 v1 v3) (k0_pay19 v1 v3) (fun _ q => a q ^ 4) := csq rfl h2
  have h8 : CArr (R := 1) (C := 512) (k0_pay20 v1 v3) (k0_pay21 v1 v3) (fun _ q => a q ^ 8) := csq rfl h4
  have h16 : CArr (R := 1) (C := 512) (k0_pay22 v1 v3) (k0_pay23 v1 v3) (fun _ q => a q ^ 16) := csq rfl h8
  have h32 : CArr (R := 1) (C := 512) (k0_pay24 v1 v3) (k0_pay25 v1 v3) (fun _ q => a q ^ 32) := csq rfl h16
  have h64 : CArr (R := 1) (C := 512) (k0_pay26 v1 v3) (k0_pay27 v1 v3) (fun _ q => a q ^ 64) := csq rfl h32
  have h128 : CArr (R := 1) (C := 512) (k0_pay28 v1 v3) (k0_pay29 v1 v3) (fun _ q => a q ^ 128) := csq rfl h64
  exact csq rfl h128

theorem apow' {v1 v3 : FVec Ideal Cert.KernelIdeal.S1x512 .f32} {a : ℕ → ℂ} (h : CArr (R := 1) (C := 512) v1 v3 (fun _ q => a q)) :
    CArr (R := 1) (C := 512) (k0_pay96 v1 v3) (k0_pay97 (k0_pay94 v1 v3) (k0_pay95 v1 v3)) (fun _ q => ((starRingEnd ℂ) (a q)) ^ 256) := by
  have h1 : CArr (R := 1) (C := 512) v1 (k0_pay81 v3) (fun _ q => ((starRingEnd ℂ) (a q)) ^ 1) := (cconj h).congr fun r q _ _ => (pow_one _).symm
  have h2 : CArr (R := 1) (C := 512) (k0_pay82 v1 v3) (k0_pay83 v1 v3) (fun _ q => ((starRingEnd ℂ) (a q)) ^ 2) := csq rfl h1
  have h4 : CArr (R := 1) (C := 512) (k0_pay84 v1 v3) (k0_pay85 v1 v3) (fun _ q => ((starRingEnd ℂ) (a q)) ^ 4) := csq rfl h2
  have h8 : CArr (R := 1) (C := 512) (k0_pay86 v1 v3) (k0_pay87 v1 v3) (fun _ q => ((starRingEnd ℂ) (a q)) ^ 8) := csq rfl h4
  have h16 : CArr (R := 1) (C := 512) (k0_pay88 v1 v3) (k0_pay89 v1 v3) (fun _ q => ((starRingEnd ℂ) (a q)) ^ 16) := csq rfl h8
  have h32 : CArr (R := 1) (C := 512) (k0_pay90 v1 v3) (k0_pay91 v1 v3) (fun _ q => ((starRingEnd ℂ) (a q)) ^ 32) := csq rfl h16
  have h64 : CArr (R := 1) (C := 512) (k0_pay92 v1 v3) (k0_pay93 v1 v3) (fun _ q => ((starRingEnd ℂ) (a q)) ^ 64) := csq rfl h32
  have h128 : CArr (R := 1) (C := 512) (k0_pay94 v1 v3) (k0_pay95 v1 v3) (fun _ q => ((starRingEnd ℂ) (a q)) ^ 128) := csq rfl h64
  exact csq rfl h128

/-- The carries: `carry A S q 0 = 0` and `carry A S q (j + 1) = S j q + A q * carry A S q j`. -/
def carry (A : ℕ → ℂ) (S : ℕ → ℕ → ℂ) (q : ℕ) : ℕ → ℂ
  | 0 => 0
  | j + 1 => S j q + A q * carry A S q j

theorem crow {s0 s1 : FVec Ideal Cert.KernelIdeal.S8x512 .f32} {S : ℕ → ℕ → ℂ} (hS : CArr (R := 8) (C := 512) s0 s1 S) (j : ℕ)
    (h : S8x512.Slices ![j, 0] S1x512) (h' : S8x512.Slices ![j, 0] S1x512) :
    CArr (R := 1) (C := 512) (extractStridedSlice S1x512 ![j, 0] s0 h) (extractStridedSlice S1x512 ![j, 0] s1 h') (fun _ q => S j q) := by
  constructor
  · intro ι
    have e0 : (ι 0).val = 0 := by have : (ι 0).val < 1 := (ι 0).isLt; omega
    refine (hS.1 _).trans ?_
    show ((S (j + (ι 0).val) (0 + (ι 1).val)).re : EReal) = _
    rw [e0, Nat.zero_add, Nat.add_zero]
  · intro ι
    have e0 : (ι 0).val = 0 := by have : (ι 0).val < 1 := (ι 0).isLt; omega
    refine (hS.2 _).trans ?_
    show ((S (j + (ι 0).val) (0 + (ι 1).val)).im : EReal) = _
    rw [e0, Nat.zero_add, Nat.add_zero]

theorem carry_step {s0 s1 : FVec Ideal Cert.KernelIdeal.S8x512 .f32} {a0 a1 p0 p1 : FVec Ideal Cert.KernelIdeal.S1x512 .f32} {S : ℕ → ℕ → ℂ} {A : ℕ → ℂ} (hS : CArr (R := 8) (C := 512) s0 s1 S) (j i : ℕ)
    {S' : ℕ → ℕ → ℂ} (hS' : S' j = S i)
    (h h' : S8x512.Slices ![i, 0] S1x512) (hA : CArr (R := 1) (C := 512) a0 a1 (fun _ q => A q))
    (hp : CArr (R := 1) (C := 512) p0 p1 (fun _ q => carry A S' q j)) :
    CArr (R := 1) (C := 512) (addf (extractStridedSlice S1x512 ![i, 0] s0 h) (subf (mulf a0 p0) (mulf a1 p1)))
      (addf (extractStridedSlice S1x512 ![i, 0] s1 h') (addf (mulf a0 p1) (mulf a1 p0))) (fun _ q => carry A S' q (j + 1)) :=
  (cadd (crow hS i h h') (cmul hA hp)).congr fun r q _ _ => by
    show S i q + A q * carry A S' q j = S' j q + A q * carry A S' q j
    rw [hS']

variable {sig : RefSig} {κ : Kind} {sp : Space}

/-- Sixteen rows stored one by one, read back as eight real parts and eight imaginary parts. -/
theorem rowsF (v : View sig κ sp S16x512 .f32) {p0 q0 p1 q1 p2 q2 p3 q3 p4 q4 p5 q5 p6 q6 p7 q7 : S1x512.Idx → EReal} {c : ℕ → ℕ → ℂ}
    (h0 : CArr (R := 1) (C := 512) p0 q0 (fun _ q => c 0 q)) (h1 : CArr (R := 1) (C := 512) p1 q1 (fun _ q => c 1 q)) (h2 : CArr (R := 1) (C := 512) p2 q2 (fun _ q => c 2 q)) (h3 : CArr (R := 1) (C := 512) p3 q3 (fun _ q => c 3 q)) (h4 : CArr (R := 1) (C := 512) p4 q4 (fun _ q => c 4 q)) (h5 : CArr (R := 1) (C := 512) p5 q5 (fun _ q => c 5 q)) (h6 : CArr (R := 1) (C := 512) p6 q6 (fun _ q => c 6 q)) (h7 : CArr (R := 1) (C := 512) p7 q7 (fun _ q => c 7 q)) :
    CArr (R := 8) (C := 512) (View.readCov (Val := Elt Ideal) v [⟨Rect.unit (s := S16x512) ![15, 0] S1x512.size inb_S16x512_S1x512_15_0, q7⟩, ⟨Rect.unit (s := S16x512) ![7, 0] S1x512.size inb_S16x512_S1x512_7_0, p7⟩, ⟨Rect.unit (s := S16x512) ![14, 0] S1x512.size inb_S16x512_S1x512_14_0, q6⟩, ⟨Rect.unit (s := S16x512) ![6, 0] S1x512.size inb_S16x512_S1x512_6_0, p6⟩, ⟨Rect.unit (s := S16x512) ![13, 0] S1x512.size inb_S16x512_S1x512_13_0, q5⟩, ⟨Rect.unit (s := S16x512) ![5, 0] S1x512.size inb_S16x512_S1x512_5_0, p5⟩, ⟨Rect.unit (s := S16x512) ![12, 0] S1x512.size inb_S16x512_S1x512_12_0, q4⟩, ⟨Rect.unit (s := S16x512) ![4, 0] S1x512.size inb_S16x512_S1x512_4_0, p4⟩, ⟨Rect.unit (s := S16x512) ![11, 0] S1x512.size inb_S16x512_S1x512_11_0, q3⟩, ⟨Rect.unit (s := S16x512) ![3, 0] S1x512.size inb_S16x512_S1x512_3_0, p3⟩, ⟨Rect.unit (s := S16x512) ![10, 0] S1x512.size inb_S16x512_S1x512_10_0, q2⟩, ⟨Rect.unit (s := S16x512) ![2, 0] S1x512.size inb_S16x512_S1x512_2_0, p2⟩, ⟨Rect.unit (s := S16x512) ![9, 0] S1x512.size inb_S16x512_S1x512_9_0, q1⟩, ⟨Rect.unit (s := S16x512) ![1, 0] S1x512.size inb_S16x512_S1x512_1_0, p1⟩, ⟨Rect.unit (s := S16x512) ![8, 0] S1x512.size inb_S16x512_S1x512_8_0, q0⟩, ⟨Rect.unit (s := S16x512) ![0, 0] S1x512.size inb_S16x512_S1x512_0_0, p0⟩] (Rect.unit (s := S16x512) ![0, 0] S8x512.size inb_S16x512_S8x512_0_0).toLoadRect)
      (View.readCov (Val := Elt Ideal) v [⟨Rect.unit (s := S16x512) ![15, 0] S1x512.size inb_S16x512_S1x512_15_0, q7⟩, ⟨Rect.unit (s := S16x512) ![7, 0] S1x512.size inb_S16x512_S1x512_7_0, p7⟩, ⟨Rect.unit (s := S16x512) ![14, 0] S1x512.size inb_S16x512_S1x512_14_0, q6⟩, ⟨Rect.unit (s := S16x512) ![6, 0] S1x512.size inb_S16x512_S1x512_6_0, p6⟩, ⟨Rect.unit (s := S16x512) ![13, 0] S1x512.size inb_S16x512_S1x512_13_0, q5⟩, ⟨Rect.unit (s := S16x512) ![5, 0] S1x512.size inb_S16x512_S1x512_5_0, p5⟩, ⟨Rect.unit (s := S16x512) ![12, 0] S1x512.size inb_S16x512_S1x512_12_0, q4⟩, ⟨Rect.unit (s := S16x512) ![4, 0] S1x512.size inb_S16x512_S1x512_4_0, p4⟩, ⟨Rect.unit (s := S16x512) ![11, 0] S1x512.size inb_S16x512_S1x512_11_0, q3⟩, ⟨Rect.unit (s := S16x512) ![3, 0] S1x512.size inb_S16x512_S1x512_3_0, p3⟩, ⟨Rect.unit (s := S16x512) ![10, 0] S1x512.size inb_S16x512_S1x512_10_0, q2⟩, ⟨Rect.unit (s := S16x512) ![2, 0] S1x512.size inb_S16x512_S1x512_2_0, p2⟩, ⟨Rect.unit (s := S16x512) ![9, 0] S1x512.size inb_S16x512_S1x512_9_0, q1⟩, ⟨Rect.unit (s := S16x512) ![1, 0] S1x512.size inb_S16x512_S1x512_1_0, p1⟩, ⟨Rect.unit (s := S16x512) ![8, 0] S1x512.size inb_S16x512_S1x512_8_0, q0⟩, ⟨Rect.unit (s := S16x512) ![0, 0] S1x512.size inb_S16x512_S1x512_0_0, p0⟩] (Rect.unit (s := S16x512) ![8, 0] S8x512.size inb_S16x512_S8x512_8_0).toLoadRect) c := by
  have hA := (isArr_writes_cons (Val := Elt Ideal) (e := .f32) (o := (15, 0)) (isArr_writes_cons (Val := Elt Ideal) (e := .f32) (o := (7, 0)) (isArr_writes_cons (Val := Elt Ideal) (e := .f32) (o := (14, 0)) (isArr_writes_cons (Val := Elt Ideal) (e := .f32) (o := (6, 0)) (isArr_writes_cons (Val := Elt Ideal) (e := .f32) (o := (13, 0)) (isArr_writes_cons (Val := Elt Ideal) (e := .f32) (o := (5, 0)) (isArr_writes_cons (Val := Elt Ideal) (e := .f32) (o := (12, 0)) (isArr_writes_cons (Val := Elt Ideal) (e := .f32) (o := (4, 0)) (isArr_writes_cons (Val := Elt Ideal) (e := .f32) (o := (11, 0)) (isArr_writes_cons (Val := Elt Ideal) (e := .f32) (o := (3, 0)) (isArr_writes_cons (Val := Elt Ideal) (e := .f32) (o := (10, 0)) (isArr_writes_cons (Val := Elt Ideal) (e := .f32) (o := (2, 0)) (isArr_writes_cons (Val := Elt Ideal) (e := .f32) (o := (9, 0)) (isArr_writes_cons (Val := Elt Ideal) (e := .f32) (o := (1, 0)) (isArr_writes_cons (Val := Elt Ideal) (e := .f32) (o := (8, 0)) (isArr_writes_cons (Val := Elt Ideal) (e := .f32) (o := (0, 0)) (isArr_ofBlk (R := 16) (C := 512) (by decide) (by decide) (v.read (Elt Ideal) (v.writes (Elt Ideal) v.junk []))) rfl inb_S16x512_S1x512_0_0 h0.1) rfl inb_S16x512_S1x512_8_0 h0.2) rfl inb_S16x512_S1x512_1_0 h1.1) rfl inb_S16x512_S1x512_9_0 h1.2) rfl inb_S16x512_S1x512_2_0 h2.1) rfl inb_S16x512_S1x512_10_0 h2.2) rfl inb_S16x512_S1x512_3_0 h3.1) rfl inb_S16x512_S1x512_11_0 h3.2) rfl inb_S16x512_S1x512_4_0 h4.1) rfl inb_S16x512_S1x512_12_0 h4.2) rfl inb_S16x512_S1x512_5_0 h5.1) rfl inb_S16x512_S1x512_13_0 h5.2) rfl inb_S16x512_S1x512_6_0 h6.1) rfl inb_S16x512_S1x512_14_0 h6.2) rfl inb_S16x512_S1x512_7_0 h7.1) rfl inb_S16x512_S1x512_15_0 h7.2)
  constructor
  · refine (isArr_load (o := (0, 0)) hA rfl inb_S16x512_S8x512_0_0).congr fun r q hr hq => ?_
    classical
    unfold loadAt
    simp only [Nat.zero_add, storeAt_eq]
    interval_cases r <;> simp [hq]
  · refine (isArr_load (o := (8, 0)) hA rfl inb_S16x512_S8x512_8_0).congr fun r q hr hq => ?_
    classical
    unfold loadAt
    simp only [Nat.zero_add, storeAt_eq]
    interval_cases r <;> simp [hq]

/-- The same, stored from the last stretch to the first. -/
theorem rowsB (v : View sig κ sp S16x512 .f32) {p0 q0 p1 q1 p2 q2 p3 q3 p4 q4 p5 q5 p6 q6 p7 q7 : S1x512.Idx → EReal} {c : ℕ → ℕ → ℂ}
    (h0 : CArr (R := 1) (C := 512) p0 q0 (fun _ q => c 0 q)) (h1 : CArr (R := 1) (C := 512) p1 q1 (fun _ q => c 1 q)) (h2 : CArr (R := 1) (C := 512) p2 q2 (fun _ q => c 2 q)) (h3 : CArr (R := 1) (C := 512) p3 q3 (fun _ q => c 3 q)) (h4 : CArr (R := 1) (C := 512) p4 q4 (fun _ q => c 4 q)) (h5 : CArr (R := 1) (C := 512) p5 q5 (fun _ q => c 5 q)) (h6 : CArr (R := 1) (C := 512) p6 q6 (fun _ q => c 6 q)) (h7 : CArr (R := 1) (C := 512) p7 q7 (fun _ q => c 7 q)) :
    CArr (R := 8) (C := 512) (View.readCov (Val := Elt Ideal) v [⟨Rect.unit (s := S16x512) ![8, 0] S1x512.size inb_S16x512_S1x512_8_0, q0⟩, ⟨Rect.unit (s := S16x512) ![0, 0] S1x512.size inb_S16x512_S1x512_0_0, p0⟩, ⟨Rect.unit (s := S16x512) ![9, 0] S1x512.size inb_S16x512_S1x512_9_0, q1⟩, ⟨Rect.unit (s := S16x512) ![1, 0] S1x512.size inb_S16x512_S1x512_1_0, p1⟩, ⟨Rect.unit (s := S16x512) ![10, 0] S1x512.size inb_S16x512_S1x512_10_0, q2⟩, ⟨Rect.unit (s := S16x512) ![2, 0] S1x512.size inb_S16x512_S1x512_2_0, p2⟩, ⟨Rect.unit (s := S16x512) ![11, 0] S1x512.size inb_S16x512_S1x512_11_0, q3⟩, ⟨Rect.unit (s := S16x512) ![3, 0] S1x512.size inb_S16x512_S1x512_3_0, p3⟩, ⟨Rect.unit (s := S16x512) ![12, 0] S1x512.size inb_S16x512_S1x512_12_0, q4⟩, ⟨Rect.unit (s := S16x512) ![4, 0] S1x512.size inb_S16x512_S1x512_4_0, p4⟩, ⟨Rect.unit (s := S16x512) ![13, 0] S1x512.size inb_S16x512_S1x512_13_0, q5⟩, ⟨Rect.unit (s := S16x512) ![5, 0] S1x512.size inb_S16x512_S1x512_5_0, p5⟩, ⟨Rect.unit (s := S16x512) ![14, 0] S1x512.size inb_S16x512_S1x512_14_0, q6⟩, ⟨Rect.unit (s := S16x512) ![6, 0] S1x512.size inb_S16x512_S1x512_6_0, p6⟩, ⟨Rect.unit (s := S16x512) ![15, 0] S1x512.size inb_S16x512_S1x512_15_0, q7⟩, ⟨Rect.unit (s := S16x512) ![7, 0] S1x512.size inb_S16x512_S1x512_7_0, p7⟩] (Rect.unit (s := S16x512) ![0, 0] S8x512.size inb_S16x512_S8x512_0_0).toLoadRect)
      (View.readCov (Val := Elt Ideal) v [⟨Rect.unit (s := S16x512) ![8, 0] S1x512.size inb_S16x512_S1x512_8_0, q0⟩, ⟨Rect.unit (s := S16x512) ![0, 0] S1x512.size inb_S16x512_S1x512_0_0, p0⟩, ⟨Rect.unit (s := S16x512) ![9, 0] S1x512.size inb_S16x512_S1x512_9_0, q1⟩, ⟨Rect.unit (s := S16x512) ![1, 0] S1x512.size inb_S16x512_S1x512_1_0, p1⟩, ⟨Rect.unit (s := S16x512) ![10, 0] S1x512.size inb_S16x512_S1x512_10_0, q2⟩, ⟨Rect.unit (s := S16x512) ![2, 0] S1x512.size inb_S16x512_S1x512_2_0, p2⟩, ⟨Rect.unit (s := S16x512) ![11, 0] S1x512.size inb_S16x512_S1x512_11_0, q3⟩, ⟨Rect.unit (s := S16x512) ![3, 0] S1x512.size inb_S16x512_S1x512_3_0, p3⟩, ⟨Rect.unit (s := S16x512) ![12, 0] S1x512.size inb_S16x512_S1x512_12_0, q4⟩, ⟨Rect.unit (s := S16x512) ![4, 0] S1x512.size inb_S16x512_S1x512_4_0, p4⟩, ⟨Rect.unit (s := S16x512) ![13, 0] S1x512.size inb_S16x512_S1x512_13_0, q5⟩, ⟨Rect.unit (s := S16x512) ![5, 0] S1x512.size inb_S16x512_S1x512_5_0, p5⟩, ⟨Rect.unit (s := S16x512) ![14, 0] S1x512.size inb_S16x512_S1x512_14_0, q6⟩, ⟨Rect.unit (s := S16x512) ![6, 0] S1x512.size inb_S16x512_S1x512_6_0, p6⟩, ⟨Rect.unit (s := S16x512) ![15, 0] S1x512.size inb_S16x512_S1x512_15_0, q7⟩, ⟨Rect.unit (s := S16x512) ![7, 0] S1x512.size inb_S16x512_S1x512_7_0, p7⟩] (Rect.unit (s := S16x512) ![8, 0] S8x512.size inb_S16x512_S8x512_8_0).toLoadRect) c := by
  have hA := (isArr_writes_cons (Val := Elt Ideal) (e := .f32) (o := (8, 0)) (isArr_writes_cons (Val := Elt Ideal) (e := .f32) (o := (0, 0)) (isArr_writes_cons (Val := Elt Ideal) (e := .f32) (o := (9, 0)) (isArr_writes_cons (Val := Elt Ideal) (e := .f32) (o := (1, 0)) (isArr_writes_cons (Val := Elt Ideal) (e := .f32) (o := (10, 0)) (isArr_writes_cons (Val := Elt Ideal) (e := .f32) (o := (2, 0)) (isArr_writes_cons (Val := Elt Ideal) (e := .f32) (o := (11, 0)) (isArr_writes_cons (Val := Elt Ideal) (e := .f32) (o := (3, 0)) (isArr_writes_cons (Val := Elt Ideal) (e := .f32) (o := (12, 0)) (isArr_writes_cons (Val := Elt Ideal) (e := .f32) (o := (4, 0)) (isArr_writes_cons (Val := Elt Ideal) (e := .f32) (o := (13, 0)) (isArr_writes_cons (Val := Elt Ideal) (e := .f32) (o := (5, 0)) (isArr_writes_cons (Val := Elt Ideal) (e := .f32) (o := (14, 0)) (isArr_writes_cons (Val := Elt Ideal) (e := .f32) (o := (6, 0)) (isArr_writes_cons (Val := Elt Ideal) (e := .f32) (o := (15, 0)) (isArr_writes_cons (Val := Elt Ideal) (e := .f32) (o := (7, 0)) (isArr_ofBlk (R := 16) (C := 512) (by decide) (by decide) (v.read (Elt Ideal) (v.writes (Elt Ideal) v.junk []))) rfl inb_S16x512_S1x512_7_0 h7.1) rfl inb_S16x512_S1x512_15_0 h7.2) rfl inb_S16x512_S1x512_6_0 h6.1) rfl inb_S16x512_S1x512_14_0 h6.2) rfl inb_S16x512_S1x512_5_0 h5.1) rfl inb_S16x512_S1x512_13_0 h5.2) rfl inb_S16x512_S1x512_4_0 h4.1) rfl inb_S16x512_S1x512_12_0 h4.2) rfl inb_S16x512_S1x512_3_0 h3.1) rfl inb_S16x512_S1x512_11_0 h3.2) rfl inb_S16x512_S1x512_2_0 h2.1) rfl inb_S16x512_S1x512_10_0 h2.2) rfl inb_S16x512_S1x512_1_0 h1.1) rfl inb_S16x512_S1x512_9_0 h1.2) rfl inb_S16x512_S1x512_0_0 h0.1) rfl inb_S16x512_S1x512_8_0 h0.2)
  constructor
  · refine (isArr_load (o := (0, 0)) hA rfl inb_S16x512_S8x512_0_0).congr fun r q hr hq => ?_
    classical
    unfold loadAt
    simp only [Nat.zero_add, storeAt_eq]
    interval_cases r <;> simp [hq]
  · refine (isArr_load (o := (8, 0)) hA rfl inb_S16x512_S8x512_8_0).congr fun r q hr hq => ?_
    classical
    unfold loadAt
    simp only [Nat.zero_add, storeAt_eq]
    interval_cases r <;> simp [hq]

/-- What each stretch is handed in the forward scan. -/
theorem carryF (v : View sig κ sp S16x512 .f32) {s0 s1 : FVec Ideal Cert.KernelIdeal.S8x512 .f32} {v74 v77 : FVec Ideal Cert.KernelIdeal.S1x512 .f32} {S : ℕ → ℕ → ℂ} {a : ℕ → ℂ}
    (hS : CArr (R := 8) (C := 512) s0 s1 S) (hA : CArr (R := 1) (C := 512) v74 v77 (fun _ q => a q ^ 256)) :
    CArr (R := 8) (C := 512) (View.readCov (Val := Elt Ideal) v [⟨Rect.unit (s := S16x512) ![15, 0] S1x512.size inb_S16x512_S1x512_15_0, k0_pay64 s0 s1 v74 v77 (k0_pay54 s0 s1 v74 v77 (k0_pay44 s0 s1 v74 v77 (k0_pay32 (F := Ideal)) (k0_pay33 (F := Ideal))) (k0_pay45 s0 s1 v74 v77 (k0_pay32 (F := Ideal)) (k0_pay33 (F := Ideal))) (k0_pay46 s1)) (k0_pay55 s0 s1 v74 v77 (k0_pay44 s0 s1 v74 v77 (k0_pay32 (F := Ideal)) (k0_pay33 (F := Ideal))) (k0_pay45 s0 s1 v74 v77 (k0_pay32 (F := Ideal)) (k0_pay33 (F := Ideal))) (k0_pay46 s1)) (k0_pay58 s0 s1 v74 v77 (k0_pay44 s0 s1 v74 v77 (k0_pay32 (F := Ideal)) (k0_pay33 (F := Ideal))) (k0_pay45 s0 s1 v74 v77 (k0_pay32 (F := Ideal)) (k0_pay33 (F := Ideal))) (k0_pay46 s1))⟩, ⟨Rect.unit (s := S16x512) ![7, 0] S1x512.size inb_S16x512_S1x512_7_0, k0_pay63 s0 s1 v74 v77 (k0_pay54 s0 s1 v74 v77 (k0_pay44 s0 s1 v74 v77 (k0_pay32 (F := Ideal)) (k0_pay33 (F := Ideal))) (k0_pay45 s0 s1 v74 v77 (k0_pay32 (F := Ideal)) (k0_pay33 (F := Ideal))) (k0_pay46 s1)) (k0_pay55 s0 s1 v74 v77 (k0_pay44 s0 s1 v74 v77 (k0_pay32 (F := Ideal)) (k0_pay33 (F := Ideal))) (k0_pay45 s0 s1 v74 v77 (k0_pay32 (F := Ideal)) (k0_pay33 (F := Ideal))) (k0_pay46 s1)) (k0_pay58 s0 s1 v74 v77 (k0_pay44 s0 s1 v74 v77 (k0_pay32 (F := Ideal)) (k0_pay33 (F := Ideal))) (k0_pay45 s0 s1 v74 v77 (k0_pay32 (F := Ideal)) (k0_pay33 (F := Ideal))) (k0_pay46 s1))⟩, ⟨Rect.unit (s := S16x512) ![14, 0] S1x512.size inb_S16x512_S1x512_14_0, k0_pay62 s1 v74 v77 (k0_pay54 s0 s1 v74 v77 (k0_pay44 s0 s1 v74 v77 (k0_pay32 (F := Ideal)) (k0_pay33 (F := Ideal))) (k0_pay45 s0 s1 v74 v77 (k0_pay32 (F := Ideal)) (k0_pay33 (F := Ideal))) (k0_pay46 s1)) (k0_pay55 s0 s1 v74 v77 (k0_pay44 s0 s1 v74 v77 (k0_pay32 (F := Ideal)) (k0_pay33 (F := Ideal))) (k0_pay45 s0 s1 v74 v77 (k0_pay32 (F := Ideal)) (k0_pay33 (F := Ideal))) (k0_pay46 s1))⟩, ⟨Rect.unit (s := S16x512) ![6, 0] S1x512.size inb_S16x512_S1x512_6_0, k0_pay61 s0 (k0_pay58 s0 s1 v74 v77 (k0_pay44 s0 s1 v74 v77 (k0_pay32 (F := Ideal)) (k0_pay33 (F := Ideal))) (k0_pay45 s0 s1 v74 v77 (k0_pay32 (F := Ideal)) (k0_pay33 (F := Ideal))) (k0_pay46 s1))⟩, ⟨Rect.unit (s := S16x512) ![13, 0] S1x512.size inb_S16x512_S1x512_13_0, k0_pay57 s0 s1 v74 v77 (k0_pay44 s0 s1 v74 v77 (k0_pay32 (F := Ideal)) (k0_pay33 (F := Ideal))) (k0_pay45 s0 s1 v74 v77 (k0_pay32 (F := Ideal)) (k0_pay33 (F := Ideal))) (k0_pay46 s1)⟩, ⟨Rect.unit (s := S16x512) ![5, 0] S1x512.size inb_S16x512_S1x512_5_0, k0_pay56 s0 s1 v74 v77 (k0_pay44 s0 s1 v74 v77 (k0_pay32 (F := Ideal)) (k0_pay33 (F := Ideal))) (k0_pay45 s0 s1 v74 v77 (k0_pay32 (F := Ideal)) (k0_pay33 (F := Ideal))) (k0_pay46 s1)⟩, ⟨Rect.unit (s := S16x512) ![12, 0] S1x512.size inb_S16x512_S1x512_12_0, k0_pay53 s1 v74 v77 (k0_pay44 s0 s1 v74 v77 (k0_pay32 (F := Ideal)) (k0_pay33 (F := Ideal))) (k0_pay45 s0 s1 v74 v77 (k0_pay32 (F := Ideal)) (k0_pay33 (F := Ideal))) (k0_pay46 s1)⟩, ⟨Rect.unit (s := S16x512) ![4, 0] S1x512.size inb_S16x512_S1x512_4_0, k0_pay52 s0 v74 v77 (k0_pay44 s0 s1 v74 v77 (k0_pay32 (F := Ideal)) (k0_pay33 (F := Ideal))) (k0_pay45 s0 s1 v74 v77 (k0_pay32 (F := Ideal)) (k0_pay33 (F := Ideal))) (k0_pay46 s1)⟩, ⟨Rect.unit (s := S16x512) ![11, 0] S1x512.size inb_S16x512_S1x512_11_0, k0_pay49 (k0_pay44 s0 s1 v74 v77 (k0_pay32 (F := Ideal)) (k0_pay33 (F := Ideal))) (k0_pay46 s1)⟩, ⟨Rect.unit (s := S16x512) ![3, 0] S1x512.size inb_S16x512_S1x512_3_0, k0_pay48 (k0_pay45 s0 s1 v74 v77 (k0_pay32 (F := Ideal)) (k0_pay33 (F := Ideal)))⟩, ⟨Rect.unit (s := S16x512) ![10, 0] S1x512.size inb_S16x512_S1x512_10_0, k0_pay43 s0 s1 v74 v77 (k0_pay32 (F := Ideal)) (k0_pay33 (F := Ideal))⟩, ⟨Rect.unit (s := S16x512) ![2, 0] S1x512.size inb_S16x512_S1x512_2_0, k0_pay42 s0 s1 v74 v77 (k0_pay32 (F := Ideal)) (k0_pay33 (F := Ideal))⟩, ⟨Rect.unit (s := S16x512) ![9, 0] S1x512.size inb_S16x512_S1x512_9_0, k0_pay39 s1 v74 v77 (k0_pay32 (F := Ideal)) (k0_pay33 (F := Ideal))⟩, ⟨Rect.unit (s := S16x512) ![1, 0] S1x512.size inb_S16x512_S1x512_1_0, k0_pay38 s0 v74 v77 (k0_pay32 (F := Ideal)) (k0_pay33 (F := Ideal))⟩, ⟨Rect.unit (s := S16x512) ![8, 0] S1x512.size inb_S16x512_S1x512_8_0, k0_pay35 (k0_pay33 (F := Ideal))⟩, ⟨Rect.unit (s := S16x512) ![0, 0] S1x512.size inb_S16x512_S1x512_0_0, (k0_pay34 (F := Ideal))⟩] (Rect.unit (s := S16x512) ![0, 0] S8x512.size inb_S16x512_S8x512_0_0).toLoadRect)
      (View.readCov (Val := Elt Ideal) v [⟨Rect.unit (s := S16x512) ![15, 0] S1x512.size inb_S16x512_S1x512_15_0, k0_pay64 s0 s1 v74 v77 (k0_pay54 s0 s1 v74 v77 (k0_pay44 s0 s1 v74 v77 (k0_pay32 (F := Ideal)) (k0_pay33 (F := Ideal))) (k0_pay45 s0 s1 v74 v77 (k0_pay32 (F := Ideal)) (k0_pay33 (F := Ideal))) (k0_pay46 s1)) (k0_pay55 s0 s1 v74 v77 (k0_pay44 s0 s1 v74 v77 (k0_pay32 (F := Ideal)) (k0_pay33 (F := Ideal))) (k0_pay45 s0 s1 v74 v77 (k0_pay32 (F := Ideal)) (k0_pay33 (F := Ideal))) (k0_pay46 s1)) (k0_pay58 s0 s1 v74 v77 (k0_pay44 s0 s1 v74 v77 (k0_pay32 (F := Ideal)) (k0_pay33 (F := Ideal))) (k0_pay45 s0 s1 v74 v77 (k0_pay32 (F := Ideal)) (k0_pay33 (F := Ideal))) (k0_pay46 s1))⟩, ⟨Rect.unit (s := S16x512) ![7, 0] S1x512.size inb_S16x512_S1x512_7_0, k0_pay63 s0 s1 v74 v77 (k0_pay54 s0 s1 v74 v77 (k0_pay44 s0 s1 v74 v77 (k0_pay32 (F := Ideal)) (k0_pay33 (F := Ideal))) (k0_pay45 s0 s1 v74 v77 (k0_pay32 (F := Ideal)) (k0_pay33 (F := Ideal))) (k0_pay46 s1)) (k0_pay55 s0 s1 v74 v77 (k0_pay44 s0 s1 v74 v77 (k0_pay32 (F := Ideal)) (k0_pay33 (F := Ideal))) (k0_pay45 s0 s1 v74 v77 (k0_pay32 (F := Ideal)) (k0_pay33 (F := Ideal))) (k0_pay46 s1)) (k0_pay58 s0 s1 v74 v77 (k0_pay44 s0 s1 v74 v77 (k0_pay32 (F := Ideal)) (k0_pay33 (F := Ideal))) (k0_pay45 s0 s1 v74 v77 (k0_pay32 (F := Ideal)) (k0_pay33 (F := Ideal))) (k0_pay46 s1))⟩, ⟨Rect.unit (s := S16x512) ![14, 0] S1x512.size inb_S16x512_S1x512_14_0, k0_pay62 s1 v74 v77 (k0_pay54 s0 s1 v74 v77 (k0_pay44 s0 s1 v74 v77 (k0_pay32 (F := Ideal)) (k0_pay33 (F := Ideal))) (k0_pay45 s0 s1 v74 v77 (k0_pay32 (F := Ideal)) (k0_pay33 (F := Ideal))) (k0_pay46 s1)) (k0_pay55 s0 s1 v74 v77 (k0_pay44 s0 s1 v74 v77 (k0_pay32 (F := Ideal)) (k0_pay33 (F := Ideal))) (k0_pay45 s0 s1 v74 v77 (k0_pay32 (F := Ideal)) (k0_pay33 (F := Ideal))) (k0_pay46 s1))⟩, ⟨Rect.unit (s := S16x512) ![6, 0] S1x512.size inb_S16x512_S1x512_6_0, k0_pay61 s0 (k0_pay58 s0 s1 v74 v77 (k0_pay44 s0 s1 v74 v77 (k0_pay32 (F := Ideal)) (k0_pay33 (F := Ideal))) (k0_pay45 s0 s1 v74 v77 (k0_pay32 (F := Ideal)) (k0_pay33 (F := Ideal))) (k0_pay46 s1))⟩, ⟨Rect.unit (s := S16x512) ![13, 0] S1x512.size inb_S16x512_S1x512_13_0, k0_pay57 s0 s1 v74 v77 (k0_pay44 s0 s1 v74 v77 (k0_pay32 (F := Ideal)) (k0_pay33 (F := Ideal))) (k0_pay45 s0 s1 v74 v77 (k0_pay32 (F := Ideal)) (k0_pay33 (F := Ideal))) (k0_pay46 s1)⟩, ⟨Rect.unit (s := S16x512) ![5, 0] S1x512.size inb_S16x512_S1x512_5_0, k0_pay56 s0 s1 v74 v77 (k0_pay44 s0 s1 v74 v77 (k0_pay32 (F := Ideal)) (k0_pay33 (F := Ideal))) (k0_pay45 s0 s1 v74 v77 (k0_pay32 (F := Ideal)) (k0_pay33 (F := Ideal))) (k0_pay46 s1)⟩, ⟨Rect.unit (s := S16x512) ![12, 0] S1x512.size inb_S16x512_S1x512_12_0, k0_pay53 s1 v74 v77 (k0_pay44 s0 s1 v74 v77 (k0_pay32 (F := Ideal)) (k0_pay33 (F := Ideal))) (k0_pay45 s0 s1 v74 v77 (k0_pay32 (F := Ideal)) (k0_pay33 (F := Ideal))) (k0_pay46 s1)⟩, ⟨Rect.unit (s := S16x512) ![4, 0] S1x512.size inb_S16x512_S1x512_4_0, k0_pay52 s0 v74 v77 (k0_pay44 s0 s1 v74 v77 (k0_pay32 (F := Ideal)) (k0_pay33 (F := Ideal))) (k0_pay45 s0 s1 v74 v77 (k0_pay32 (F := Ideal)) (k0_pay33 (F := Ideal))) (k0_pay46 s1)⟩, ⟨Rect.unit (s := S16x512) ![11, 0] S1x512.size inb_S16x512_S1x512_11_0, k0_pay49 (k0_pay44 s0 s1 v74 v77 (k0_pay32 (F := Ideal)) (k0_pay33 (F := Ideal))) (k0_pay46 s1)⟩, ⟨Rect.unit (s := S16x512) ![3, 0] S1x512.size inb_S16x512_S1x512_3_0, k0_pay48 (k0_pay45 s0 s1 v74 v77 (k0_pay32 (F := Ideal)) (k0_pay33 (F := Ideal)))⟩, ⟨Rect.unit (s := S16x512) ![10, 0] S1x512.size inb_S16x512_S1x512_10_0, k0_pay43 s0 s1 v74 v77 (k0_pay32 (F := Ideal)) (k0_pay33 (F := Ideal))⟩, ⟨Rect.unit (s := S16x512) ![2, 0] S1x512.size inb_S16x512_S1x512_2_0, k0_pay42 s0 s1 v74 v77 (k0_pay32 (F := Ideal)) (k0_pay33 (F := Ideal))⟩, ⟨Rect.unit (s := S16x512) ![9, 0] S1x512.size inb_S16x512_S1x512_9_0, k0_pay39 s1 v74 v77 (k0_pay32 (F := Ideal)) (k0_pay33 (F := Ideal))⟩, ⟨Rect.unit (s := S16x512) ![1, 0] S1x512.size inb_S16x512_S1x512_1_0, k0_pay38 s0 v74 v77 (k0_pay32 (F := Ideal)) (k0_pay33 (F := Ideal))⟩, ⟨Rect.unit (s := S16x512) ![8, 0] S1x512.size inb_S16x512_S1x512_8_0, k0_pay35 (k0_pay33 (F := Ideal))⟩, ⟨Rect.unit (s := S16x512) ![0, 0] S1x512.size inb_S16x512_S1x512_0_0, (k0_pay34 (F := Ideal))⟩] (Rect.unit (s := S16x512) ![8, 0] S8x512.size inb_S16x512_S8x512_8_0).toLoadRect)
      (fun j q => carry (fun q => a q ^ 256) S q j) := by
  have e := fun x : FVec Ideal Cert.KernelIdeal.S1x512 .f32 => shapeCast_self x shapeCasts_S1x512_S1x512
  have h0 : CArr (R := 1) (C := 512) ((k0_pay34 (F := Ideal))) (k0_pay35 (k0_pay33 (F := Ideal))) (fun _ q => carry (fun q => a q ^ 256) (S) q 0) := by
    exact czero.cast shapeCasts_S1x512_S1x512 shapeCasts_S1x512_S1x512
  have h1 : CArr (R := 1) (C := 512) (k0_pay38 s0 v74 v77 (k0_pay32 (F := Ideal)) (k0_pay33 (F := Ideal))) (k0_pay39 s1 v74 v77 (k0_pay32 (F := Ideal)) (k0_pay33 (F := Ideal))) (fun _ q => carry (fun q => a q ^ 256) (S) q 1) := by
    have t := (carry_step (S' := S) hS 0 0 rfl slices_S8x512_o0_0_S1x512 slices_S8x512_o0_0_S1x512 hA h0).cast shapeCasts_S1x512_S1x512 shapeCasts_S1x512_S1x512
    simp only [k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, e] at t ⊢
    exact t
  have h2 : CArr (R := 1) (C := 512) (k0_pay42 s0 s1 v74 v77 (k0_pay32 (F := Ideal)) (k0_pay33 (F := Ideal))) (k0_pay43 s0 s1 v74 v77 (k0_pay32 (F := Ideal)) (k0_pay33 (F := Ideal))) (fun _ q => carry (fun q => a q ^ 256) (S) q 2) := by
    have t := (carry_step (S' := S) hS 1 1 rfl slices_S8x512_o1_0_S1x512 slices_S8x512_o1_0_S1x512 hA h1).cast shapeCasts_S1x512_S1x512 shapeCasts_S1x512_S1x512
    simp only [k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, e] at t ⊢
    exact t
  have h3 : CArr (R := 1) (C := 512) (k0_pay48 (k0_pay45 s0 s1 v74 v77 (k0_pay32 (F := Ideal)) (k0_pay33 (F := Ideal)))) (k0_pay49 (k0_pay44 s0 s1 v74 v77 (k0_pay32 (F := Ideal)) (k0_pay33 (F := Ideal))) (k0_pay46 s1)) (fun _ q => carry (fun q => a q ^ 256) (S) q 3) := by
    have t := (carry_step (S' := S) hS 2 2 rfl slices_S8x512_o2_0_S1x512 slices_S8x512_o2_0_S1x512 hA h2).cast shapeCasts_S1x512_S1x512 shapeCasts_S1x512_S1x512
    simp only [k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, e] at t ⊢
    exact t
  have h4 : CArr (R := 1) (C := 512) (k0_pay52 s0 v74 v77 (k0_pay44 s0 s1 v74 v77 (k0_pay32 (F := Ideal)) (k0_pay33 (F := Ideal))) (k0_pay45 s0 s1 v74 v77 (k0_pay32 (F := Ideal)) (k0_pay33 (F := Ideal))) (k0_pay46 s1)) (k0_pay53 s1 v74 v77 (k0_pay44 s0 s1 v74 v77 (k0_pay32 (F := Ideal)) (k0_pay33 (F := Ideal))) (k0_pay45 s0 s1 v74 v77 (k0_pay32 (F := Ideal)) (k0_pay33 (F := Ideal))) (k0_pay46 s1)) (fun _ q => carry (fun q => a q ^ 256) (S) q 4) := by
    have t := (carry_step (S' := S) hS 3 3 rfl slices_S8x512_o3_0_S1x512 slices_S8x512_o3_0_S1x512 hA h3).cast shapeCasts_S1x512_S1x512 shapeCasts_S1x512_S1x512
    simp only [k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, e] at t ⊢
    exact t
  have h5 : CArr (R := 1) (C := 512) (k0_pay56 s0 s1 v74 v77 (k0_pay44 s0 s1 v74 v77 (k0_pay32 (F := Ideal)) (k0_pay33 (F := Ideal))) (k0_pay45 s0 s1 v74 v77 (k0_pay32 (F := Ideal)) (k0_pay33 (F := Ideal))) (k0_pay46 s1)) (k0_pay57 s0 s1 v74 v77 (k0_pay44 s0 s1 v74 v77 (k0_pay32 (F := Ideal)) (k0_pay33 (F := Ideal))) (k0_pay45 s0 s1 v74 v77 (k0_pay32 (F := Ideal)) (k0_pay33 (F := Ideal))) (k0_pay46 s1)) (fun _ q => carry (fun q => a q ^ 256) (S) q 5) := by
    have t := (carry_step (S' := S) hS 4 4 rfl slices_S8x512_o4_0_S1x512 slices_S8x512_o4_0_S1x512 hA h4).cast shapeCasts_S1x512_S1x512 shapeCasts_S1x512_S1x512
    simp only [k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, e] at t ⊢
    exact t
  have h6 : CArr (R := 1) (C := 512) (k0_pay61 s0 (k0_pay58 s0 s1 v74 v77 (k0_pay44 s0 s1 v74 v77 (k0_pay32 (F := Ideal)) (k0_pay33 (F := Ideal))) (k0_pay45 s0 s1 v74 v77 (k0_pay32 (F := Ideal)) (k0_pay33 (F := Ideal))) (k0_pay46 s1))) (k0_pay62 s1 v74 v77 (k0_pay54 s0 s1 v74 v77 (k0_pay44 s0 s1 v74 v77 (k0_pay32 (F := Ideal)) (k0_pay33 (F := Ideal))) (k0_pay45 s0 s1 v74 v77 (k0_pay32 (F := Ideal)) (k0_pay33 (F := Ideal))) (k0_pay46 s1)) (k0_pay55 s0 s1 v74 v77 (k0_pay44 s0 s1 v74 v77 (k0_pay32 (F := Ideal)) (k0_pay33 (F := Ideal))) (k0_pay45 s0 s1 v74 v77 (k0_pay32 (F := Ideal)) (k0_pay33 (F := Ideal))) (k0_pay46 s1))) (fun _ q => carry (fun q => a q ^ 256) (S) q 6) := by
    have t := (carry_step (S' := S) hS 5 5 rfl slices_S8x512_o5_0_S1x512 slices_S8x512_o5_0_S1x512 hA h5).cast shapeCasts_S1x512_S1x512 shapeCasts_S1x512_S1x512
    simp only [k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, e] at t ⊢
    exact t
  have h7 : CArr (R := 1) (C := 512) (k0_pay63 s0 s1 v74 v77 (k0_pay54 s0 s1 v74 v77 (k0_pay44 s0 s1 v74 v77 (k0_pay32 (F := Ideal)) (k0_pay33 (F := Ideal))) (k0_pay45 s0 s1 v74 v77 (k0_pay32 (F := Ideal)) (k0_pay33 (F := Ideal))) (k0_pay46 s1)) (k0_pay55 s0 s1 v74 v77 (k0_pay44 s0 s1 v74 v77 (k0_pay32 (F := Ideal)) (k0_pay33 (F := Ideal))) (k0_pay45 s0 s1 v74 v77 (k0_pay32 (F := Ideal)) (k0_pay33 (F := Ideal))) (k0_pay46 s1)) (k0_pay58 s0 s1 v74 v77 (k0_pay44 s0 s1 v74 v77 (k0_pay32 (F := Ideal)) (k0_pay33 (F := Ideal))) (k0_pay45 s0 s1 v74 v77 (k0_pay32 (F := Ideal)) (k0_pay33 (F := Ideal))) (k0_pay46 s1))) (k0_pay64 s0 s1 v74 v77 (k0_pay54 s0 s1 v74 v77 (k0_pay44 s0 s1 v74 v77 (k0_pay32 (F := Ideal)) (k0_pay33 (F := Ideal))) (k0_pay45 s0 s1 v74 v77 (k0_pay32 (F := Ideal)) (k0_pay33 (F := Ideal))) (k0_pay46 s1)) (k0_pay55 s0 s1 v74 v77 (k0_pay44 s0 s1 v74 v77 (k0_pay32 (F := Ideal)) (k0_pay33 (F := Ideal))) (k0_pay45 s0 s1 v74 v77 (k0_pay32 (F := Ideal)) (k0_pay33 (F := Ideal))) (k0_pay46 s1)) (k0_pay58 s0 s1 v74 v77 (k0_pay44 s0 s1 v74 v77 (k0_pay32 (F := Ideal)) (k0_pay33 (F := Ideal))) (k0_pay45 s0 s1 v74 v77 (k0_pay32 (F := Ideal)) (k0_pay33 (F := Ideal))) (k0_pay46 s1))) (fun _ q => carry (fun q => a q ^ 256) (S) q 7) := by
    have t := (carry_step (S' := S) hS 6 6 rfl slices_S8x512_o6_0_S1x512 slices_S8x512_o6_0_S1x512 hA h6).cast shapeCasts_S1x512_S1x512 shapeCasts_S1x512_S1x512
    simp only [k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, e] at t ⊢
    exact t
  exact rowsF v (c := fun j q => carry (fun q => a q ^ 256) S q j) h0 h1 h2 h3 h4 h5 h6 h7

/-- What each stretch is handed in the backward scan. -/
theorem carryB (v : View sig κ sp S16x512 .f32) {s0 s1 : FVec Ideal Cert.KernelIdeal.S8x512 .f32} {v1 v3 : FVec Ideal Cert.KernelIdeal.S1x512 .f32} {S : ℕ → ℕ → ℂ} {a : ℕ → ℂ}
    (hS : CArr (R := 8) (C := 512) s0 s1 S) (ha : CArr (R := 1) (C := 512) v1 v3 (fun _ q => a q)) :
    CArr (R := 8) (C := 512) (View.readCov (Val := Elt Ideal) v [⟨Rect.unit (s := S16x512) ![8, 0] S1x512.size inb_S16x512_S1x512_8_0, k0_pay127 s0 s1 (k0_pay96 v1 v3) (k0_pay97 (k0_pay94 v1 v3) (k0_pay95 v1 v3)) (k0_pay118 s0 s1 (k0_pay96 v1 v3) (k0_pay97 (k0_pay94 v1 v3) (k0_pay95 v1 v3)) (k0_pay106 s0 s1 (k0_pay94 v1 v3) (k0_pay95 v1 v3) (k0_pay96 v1 v3)) (k0_pay107 s0 s1 (k0_pay94 v1 v3) (k0_pay95 v1 v3) (k0_pay96 v1 v3))) (k0_pay119 s0 s1 (k0_pay96 v1 v3) (k0_pay97 (k0_pay94 v1 v3) (k0_pay95 v1 v3)) (k0_pay106 s0 s1 (k0_pay94 v1 v3) (k0_pay95 v1 v3) (k0_pay96 v1 v3)) (k0_pay107 s0 s1 (k0_pay94 v1 v3) (k0_pay95 v1 v3) (k0_pay96 v1 v3)))⟩, ⟨Rect.unit (s := S16x512) ![0, 0] S1x512.size inb_S16x512_S1x512_0_0, k0_pay126 s0 s1 (k0_pay96 v1 v3) (k0_pay97 (k0_pay94 v1 v3) (k0_pay95 v1 v3)) (k0_pay118 s0 s1 (k0_pay96 v1 v3) (k0_pay97 (k0_pay94 v1 v3) (k0_pay95 v1 v3)) (k0_pay106 s0 s1 (k0_pay94 v1 v3) (k0_pay95 v1 v3) (k0_pay96 v1 v3)) (k0_pay107 s0 s1 (k0_pay94 v1 v3) (k0_pay95 v1 v3) (k0_pay96 v1 v3))) (k0_pay119 s0 s1 (k0_pay96 v1 v3) (k0_pay97 (k0_pay94 v1 v3) (k0_pay95 v1 v3)) (k0_pay106 s0 s1 (k0_pay94 v1 v3) (k0_pay95 v1 v3) (k0_pay96 v1 v3)) (k0_pay107 s0 s1 (k0_pay94 v1 v3) (k0_pay95 v1 v3) (k0_pay96 v1 v3)))⟩, ⟨Rect.unit (s := S16x512) ![9, 0] S1x512.size inb_S16x512_S1x512_9_0, k0_pay125 s1 (k0_pay96 v1 v3) (k0_pay97 (k0_pay94 v1 v3) (k0_pay95 v1 v3)) (k0_pay118 s0 s1 (k0_pay96 v1 v3) (k0_pay97 (k0_pay94 v1 v3) (k0_pay95 v1 v3)) (k0_pay106 s0 s1 (k0_pay94 v1 v3) (k0_pay95 v1 v3) (k0_pay96 v1 v3)) (k0_pay107 s0 s1 (k0_pay94 v1 v3) (k0_pay95 v1 v3) (k0_pay96 v1 v3))) (k0_pay119 s0 s1 (k0_pay96 v1 v3) (k0_pay97 (k0_pay94 v1 v3) (k0_pay95 v1 v3)) (k0_pay106 s0 s1 (k0_pay94 v1 v3) (k0_pay95 v1 v3) (k0_pay96 v1 v3)) (k0_pay107 s0 s1 (k0_pay94 v1 v3) (k0_pay95 v1 v3) (k0_pay96 v1 v3)))⟩, ⟨Rect.unit (s := S16x512) ![1, 0] S1x512.size inb_S16x512_S1x512_1_0, k0_pay124 s0 (k0_pay96 v1 v3) (k0_pay97 (k0_pay94 v1 v3) (k0_pay95 v1 v3)) (k0_pay118 s0 s1 (k0_pay96 v1 v3) (k0_pay97 (k0_pay94 v1 v3) (k0_pay95 v1 v3)) (k0_pay106 s0 s1 (k0_pay94 v1 v3) (k0_pay95 v1 v3) (k0_pay96 v1 v3)) (k0_pay107 s0 s1 (k0_pay94 v1 v3) (k0_pay95 v1 v3) (k0_pay96 v1 v3))) (k0_pay119 s0 s1 (k0_pay96 v1 v3) (k0_pay97 (k0_pay94 v1 v3) (k0_pay95 v1 v3)) (k0_pay106 s0 s1 (k0_pay94 v1 v3) (k0_pay95 v1 v3) (k0_pay96 v1 v3)) (k0_pay107 s0 s1 (k0_pay94 v1 v3) (k0_pay95 v1 v3) (k0_pay96 v1 v3)))⟩, ⟨Rect.unit (s := S16x512) ![10, 0] S1x512.size inb_S16x512_S1x512_10_0, k0_pay121 (k0_pay119 s0 s1 (k0_pay96 v1 v3) (k0_pay97 (k0_pay94 v1 v3) (k0_pay95 v1 v3)) (k0_pay106 s0 s1 (k0_pay94 v1 v3) (k0_pay95 v1 v3) (k0_pay96 v1 v3)) (k0_pay107 s0 s1 (k0_pay94 v1 v3) (k0_pay95 v1 v3) (k0_pay96 v1 v3)))⟩, ⟨Rect.unit (s := S16x512) ![2, 0] S1x512.size inb_S16x512_S1x512_2_0, k0_pay120 (k0_pay118 s0 s1 (k0_pay96 v1 v3) (k0_pay97 (k0_pay94 v1 v3) (k0_pay95 v1 v3)) (k0_pay106 s0 s1 (k0_pay94 v1 v3) (k0_pay95 v1 v3) (k0_pay96 v1 v3)) (k0_pay107 s0 s1 (k0_pay94 v1 v3) (k0_pay95 v1 v3) (k0_pay96 v1 v3)))⟩, ⟨Rect.unit (s := S16x512) ![11, 0] S1x512.size inb_S16x512_S1x512_11_0, k0_pay117 s0 s1 (k0_pay96 v1 v3) (k0_pay97 (k0_pay94 v1 v3) (k0_pay95 v1 v3)) (k0_pay106 s0 s1 (k0_pay94 v1 v3) (k0_pay95 v1 v3) (k0_pay96 v1 v3)) (k0_pay107 s0 s1 (k0_pay94 v1 v3) (k0_pay95 v1 v3) (k0_pay96 v1 v3))⟩, ⟨Rect.unit (s := S16x512) ![3, 0] S1x512.size inb_S16x512_S1x512_3_0, k0_pay116 s0 s1 (k0_pay96 v1 v3) (k0_pay97 (k0_pay94 v1 v3) (k0_pay95 v1 v3)) (k0_pay106 s0 s1 (k0_pay94 v1 v3) (k0_pay95 v1 v3) (k0_pay96 v1 v3)) (k0_pay107 s0 s1 (k0_pay94 v1 v3) (k0_pay95 v1 v3) (k0_pay96 v1 v3))⟩, ⟨Rect.unit (s := S16x512) ![12, 0] S1x512.size inb_S16x512_S1x512_12_0, k0_pay113 s1 (k0_pay96 v1 v3) (k0_pay97 (k0_pay94 v1 v3) (k0_pay95 v1 v3)) (k0_pay106 s0 s1 (k0_pay94 v1 v3) (k0_pay95 v1 v3) (k0_pay96 v1 v3)) (k0_pay107 s0 s1 (k0_pay94 v1 v3) (k0_pay95 v1 v3) (k0_pay96 v1 v3))⟩, ⟨Rect.unit (s := S16x512) ![4, 0] S1x512.size inb_S16x512_S1x512_4_0, k0_pay112 s0 (k0_pay96 v1 v3) (k0_pay97 (k0_pay94 v1 v3) (k0_pay95 v1 v3)) (k0_pay106 s0 s1 (k0_pay94 v1 v3) (k0_pay95 v1 v3) (k0_pay96 v1 v3)) (k0_pay107 s0 s1 (k0_pay94 v1 v3) (k0_pay95 v1 v3) (k0_pay96 v1 v3))⟩, ⟨Rect.unit (s := S16x512) ![13, 0] S1x512.size inb_S16x512_S1x512_13_0, k0_pay109 (k0_pay107 s0 s1 (k0_pay94 v1 v3) (k0_pay95 v1 v3) (k0_pay96 v1 v3))⟩, ⟨Rect.unit (s := S16x512) ![5, 0] S1x512.size inb_S16x512_S1x512_5_0, k0_pay108 s0 s1 (k0_pay94 v1 v3) (k0_pay95 v1 v3) (k0_pay96 v1 v3)⟩, ⟨Rect.unit (s := S16x512) ![14, 0] S1x512.size inb_S16x512_S1x512_14_0, k0_pay105 s1 (k0_pay94 v1 v3) (k0_pay95 v1 v3) (k0_pay96 v1 v3)⟩, ⟨Rect.unit (s := S16x512) ![6, 0] S1x512.size inb_S16x512_S1x512_6_0, k0_pay104 s0 (k0_pay94 v1 v3) (k0_pay95 v1 v3) (k0_pay96 v1 v3)⟩, ⟨Rect.unit (s := S16x512) ![15, 0] S1x512.size inb_S16x512_S1x512_15_0, (k0_pay101 (F := Ideal))⟩, ⟨Rect.unit (s := S16x512) ![7, 0] S1x512.size inb_S16x512_S1x512_7_0, (k0_pay100 (F := Ideal))⟩] (Rect.unit (s := S16x512) ![0, 0] S8x512.size inb_S16x512_S8x512_0_0).toLoadRect)
      (View.readCov (Val := Elt Ideal) v [⟨Rect.unit (s := S16x512) ![8, 0] S1x512.size inb_S16x512_S1x512_8_0, k0_pay127 s0 s1 (k0_pay96 v1 v3) (k0_pay97 (k0_pay94 v1 v3) (k0_pay95 v1 v3)) (k0_pay118 s0 s1 (k0_pay96 v1 v3) (k0_pay97 (k0_pay94 v1 v3) (k0_pay95 v1 v3)) (k0_pay106 s0 s1 (k0_pay94 v1 v3) (k0_pay95 v1 v3) (k0_pay96 v1 v3)) (k0_pay107 s0 s1 (k0_pay94 v1 v3) (k0_pay95 v1 v3) (k0_pay96 v1 v3))) (k0_pay119 s0 s1 (k0_pay96 v1 v3) (k0_pay97 (k0_pay94 v1 v3) (k0_pay95 v1 v3)) (k0_pay106 s0 s1 (k0_pay94 v1 v3) (k0_pay95 v1 v3) (k0_pay96 v1 v3)) (k0_pay107 s0 s1 (k0_pay94 v1 v3) (k0_pay95 v1 v3) (k0_pay96 v1 v3)))⟩, ⟨Rect.unit (s := S16x512) ![0, 0] S1x512.size inb_S16x512_S1x512_0_0, k0_pay126 s0 s1 (k0_pay96 v1 v3) (k0_pay97 (k0_pay94 v1 v3) (k0_pay95 v1 v3)) (k0_pay118 s0 s1 (k0_pay96 v1 v3) (k0_pay97 (k0_pay94 v1 v3) (k0_pay95 v1 v3)) (k0_pay106 s0 s1 (k0_pay94 v1 v3) (k0_pay95 v1 v3) (k0_pay96 v1 v3)) (k0_pay107 s0 s1 (k0_pay94 v1 v3) (k0_pay95 v1 v3) (k0_pay96 v1 v3))) (k0_pay119 s0 s1 (k0_pay96 v1 v3) (k0_pay97 (k0_pay94 v1 v3) (k0_pay95 v1 v3)) (k0_pay106 s0 s1 (k0_pay94 v1 v3) (k0_pay95 v1 v3) (k0_pay96 v1 v3)) (k0_pay107 s0 s1 (k0_pay94 v1 v3) (k0_pay95 v1 v3) (k0_pay96 v1 v3)))⟩, ⟨Rect.unit (s := S16x512) ![9, 0] S1x512.size inb_S16x512_S1x512_9_0, k0_pay125 s1 (k0_pay96 v1 v3) (k0_pay97 (k0_pay94 v1 v3) (k0_pay95 v1 v3)) (k0_pay118 s0 s1 (k0_pay96 v1 v3) (k0_pay97 (k0_pay94 v1 v3) (k0_pay95 v1 v3)) (k0_pay106 s0 s1 (k0_pay94 v1 v3) (k0_pay95 v1 v3) (k0_pay96 v1 v3)) (k0_pay107 s0 s1 (k0_pay94 v1 v3) (k0_pay95 v1 v3) (k0_pay96 v1 v3))) (k0_pay119 s0 s1 (k0_pay96 v1 v3) (k0_pay97 (k0_pay94 v1 v3) (k0_pay95 v1 v3)) (k0_pay106 s0 s1 (k0_pay94 v1 v3) (k0_pay95 v1 v3) (k0_pay96 v1 v3)) (k0_pay107 s0 s1 (k0_pay94 v1 v3) (k0_pay95 v1 v3) (k0_pay96 v1 v3)))⟩, ⟨Rect.unit (s := S16x512) ![1, 0] S1x512.size inb_S16x512_S1x512_1_0, k0_pay124 s0 (k0_pay96 v1 v3) (k0_pay97 (k0_pay94 v1 v3) (k0_pay95 v1 v3)) (k0_pay118 s0 s1 (k0_pay96 v1 v3) (k0_pay97 (k0_pay94 v1 v3) (k0_pay95 v1 v3)) (k0_pay106 s0 s1 (k0_pay94 v1 v3) (k0_pay95 v1 v3) (k0_pay96 v1 v3)) (k0_pay107 s0 s1 (k0_pay94 v1 v3) (k0_pay95 v1 v3) (k0_pay96 v1 v3))) (k0_pay119 s0 s1 (k0_pay96 v1 v3) (k0_pay97 (k0_pay94 v1 v3) (k0_pay95 v1 v3)) (k0_pay106 s0 s1 (k0_pay94 v1 v3) (k0_pay95 v1 v3) (k0_pay96 v1 v3)) (k0_pay107 s0 s1 (k0_pay94 v1 v3) (k0_pay95 v1 v3) (k0_pay96 v1 v3)))⟩, ⟨Rect.unit (s := S16x512) ![10, 0] S1x512.size inb_S16x512_S1x512_10_0, k0_pay121 (k0_pay119 s0 s1 (k0_pay96 v1 v3) (k0_pay97 (k0_pay94 v1 v3) (k0_pay95 v1 v3)) (k0_pay106 s0 s1 (k0_pay94 v1 v3) (k0_pay95 v1 v3) (k0_pay96 v1 v3)) (k0_pay107 s0 s1 (k0_pay94 v1 v3) (k0_pay95 v1 v3) (k0_pay96 v1 v3)))⟩, ⟨Rect.unit (s := S16x512) ![2, 0] S1x512.size inb_S16x512_S1x512_2_0, k0_pay120 (k0_pay118 s0 s1 (k0_pay96 v1 v3) (k0_pay97 (k0_pay94 v1 v3) (k0_pay95 v1 v3)) (k0_pay106 s0 s1 (k0_pay94 v1 v3) (k0_pay95 v1 v3) (k0_pay96 v1 v3)) (k0_pay107 s0 s1 (k0_pay94 v1 v3) (k0_pay95 v1 v3) (k0_pay96 v1 v3)))⟩, ⟨Rect.unit (s := S16x512) ![11, 0] S1x512.size inb_S16x512_S1x512_11_0, k0_pay117 s0 s1 (k0_pay96 v1 v3) (k0_pay97 (k0_pay94 v1 v3) (k0_pay95 v1 v3)) (k0_pay106 s0 s1 (k0_pay94 v1 v3) (k0_pay95 v1 v3) (k0_pay96 v1 v3)) (k0_pay107 s0 s1 (k0_pay94 v1 v3) (k0_pay95 v1 v3) (k0_pay96 v1 v3))⟩, ⟨Rect.unit (s := S16x512) ![3, 0] S1x512.size inb_S16x512_S1x512_3_0, k0_pay116 s0 s1 (k0_pay96 v1 v3) (k0_pay97 (k0_pay94 v1 v3) (k0_pay95 v1 v3)) (k0_pay106 s0 s1 (k0_pay94 v1 v3) (k0_pay95 v1 v3) (k0_pay96 v1 v3)) (k0_pay107 s0 s1 (k0_pay94 v1 v3) (k0_pay95 v1 v3) (k0_pay96 v1 v3))⟩, ⟨Rect.unit (s := S16x512) ![12, 0] S1x512.size inb_S16x512_S1x512_12_0, k0_pay113 s1 (k0_pay96 v1 v3) (k0_pay97 (k0_pay94 v1 v3) (k0_pay95 v1 v3)) (k0_pay106 s0 s1 (k0_pay94 v1 v3) (k0_pay95 v1 v3) (k0_pay96 v1 v3)) (k0_pay107 s0 s1 (k0_pay94 v1 v3) (k0_pay95 v1 v3) (k0_pay96 v1 v3))⟩, ⟨Rect.unit (s := S16x512) ![4, 0] S1x512.size inb_S16x512_S1x512_4_0, k0_pay112 s0 (k0_pay96 v1 v3) (k0_pay97 (k0_pay94 v1 v3) (k0_pay95 v1 v3)) (k0_pay106 s0 s1 (k0_pay94 v1 v3) (k0_pay95 v1 v3) (k0_pay96 v1 v3)) (k0_pay107 s0 s1 (k0_pay94 v1 v3) (k0_pay95 v1 v3) (k0_pay96 v1 v3))⟩, ⟨Rect.unit (s := S16x512) ![13, 0] S1x512.size inb_S16x512_S1x512_13_0, k0_pay109 (k0_pay107 s0 s1 (k0_pay94 v1 v3) (k0_pay95 v1 v3) (k0_pay96 v1 v3))⟩, ⟨Rect.unit (s := S16x512) ![5, 0] S1x512.size inb_S16x512_S1x512_5_0, k0_pay108 s0 s1 (k0_pay94 v1 v3) (k0_pay95 v1 v3) (k0_pay96 v1 v3)⟩, ⟨Rect.unit (s := S16x512) ![14, 0] S1x512.size inb_S16x512_S1x512_14_0, k0_pay105 s1 (k0_pay94 v1 v3) (k0_pay95 v1 v3) (k0_pay96 v1 v3)⟩, ⟨Rect.unit (s := S16x512) ![6, 0] S1x512.size inb_S16x512_S1x512_6_0, k0_pay104 s0 (k0_pay94 v1 v3) (k0_pay95 v1 v3) (k0_pay96 v1 v3)⟩, ⟨Rect.unit (s := S16x512) ![15, 0] S1x512.size inb_S16x512_S1x512_15_0, (k0_pay101 (F := Ideal))⟩, ⟨Rect.unit (s := S16x512) ![7, 0] S1x512.size inb_S16x512_S1x512_7_0, (k0_pay100 (F := Ideal))⟩] (Rect.unit (s := S16x512) ![8, 0] S8x512.size inb_S16x512_S8x512_8_0).toLoadRect)
      (fun j q => carry (fun q => (starRingEnd ℂ) (a q) ^ 256) (fun j => S (7 - j)) q (7 - j)) := by
  have hA := apow' ha
  generalize k0_pay96 v1 v3 = v289 at hA ⊢
  generalize k0_pay94 v1 v3 = v283 at hA ⊢
  generalize k0_pay95 v1 v3 = v286 at hA ⊢
  have e := fun x : FVec Ideal Cert.KernelIdeal.S1x512 .f32 => shapeCast_self x shapeCasts_S1x512_S1x512
  have h7 : CArr (R := 1) (C := 512) ((k0_pay100 (F := Ideal))) ((k0_pay101 (F := Ideal))) (fun _ q => carry (fun q => (starRingEnd ℂ) (a q) ^ 256) (fun j => S (7 - j)) q 0) := by
    exact czero.cast shapeCasts_S1x512_S1x512 shapeCasts_S1x512_S1x512
  have h6 : CArr (R := 1) (C := 512) (k0_pay104 s0 v283 v286 v289) (k0_pay105 s1 v283 v286 v289) (fun _ q => carry (fun q => (starRingEnd ℂ) (a q) ^ 256) (fun j => S (7 - j)) q 1) := by
    have t := (carry_step (S' := fun j => S (7 - j)) hS 0 7 rfl slices_S8x512_o7_0_S1x512 slices_S8x512_o7_0_S1x512 hA h7).cast shapeCasts_S1x512_S1x512 shapeCasts_S1x512_S1x512
    simp only [k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, e] at t ⊢
    exact t
  have h5 : CArr (R := 1) (C := 512) (k0_pay108 s0 s1 v283 v286 v289) (k0_pay109 (k0_pay107 s0 s1 v283 v286 v289)) (fun _ q => carry (fun q => (starRingEnd ℂ) (a q) ^ 256) (fun j => S (7 - j)) q 2) := by
    have t := (carry_step (S' := fun j => S (7 - j)) hS 1 6 rfl slices_S8x512_o6_0_S1x512 slices_S8x512_o6_0_S1x512 hA h6).cast shapeCasts_S1x512_S1x512 shapeCasts_S1x512_S1x512
    simp only [k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, e] at t ⊢
    exact t
  have h4 : CArr (R := 1) (C := 512) (k0_pay112 s0 v289 (k0_pay97 v283 v286) (k0_pay106 s0 s1 v283 v286 v289) (k0_pay107 s0 s1 v283 v286 v289)) (k0_pay113 s1 v289 (k0_pay97 v283 v286) (k0_pay106 s0 s1 v283 v286 v289) (k0_pay107 s0 s1 v283 v286 v289)) (fun _ q => carry (fun q => (starRingEnd ℂ) (a q) ^ 256) (fun j => S (7 - j)) q 3) := by
    have t := (carry_step (S' := fun j => S (7 - j)) hS 2 5 rfl slices_S8x512_o5_0_S1x512 slices_S8x512_o5_0_S1x512 hA h5).cast shapeCasts_S1x512_S1x512 shapeCasts_S1x512_S1x512
    simp only [k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, e] at t ⊢
    exact t
  have h3 : CArr (R := 1) (C := 512) (k0_pay116 s0 s1 v289 (k0_pay97 v283 v286) (k0_pay106 s0 s1 v283 v286 v289) (k0_pay107 s0 s1 v283 v286 v289)) (k0_pay117 s0 s1 v289 (k0_pay97 v283 v286) (k0_pay106 s0 s1 v283 v286 v289) (k0_pay107 s0 s1 v283 v286 v289)) (fun _ q => carry (fun q => (starRingEnd ℂ) (a q) ^ 256) (fun j => S (7 - j)) q 4) := by
    have t := (carry_step (S' := fun j => S (7 - j)) hS 3 4 rfl slices_S8x512_o4_0_S1x512 slices_S8x512_o4_0_S1x512 hA h4).cast shapeCasts_S1x512_S1x512 shapeCasts_S1x512_S1x512
    simp only [k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, e] at t ⊢
    exact t
  have h2 : CArr (R := 1) (C := 512) (k0_pay120 (k0_pay118 s0 s1 v289 (k0_pay97 v283 v286) (k0_pay106 s0 s1 v283 v286 v289) (k0_pay107 s0 s1 v283 v286 v289))) (k0_pay121 (k0_pay119 s0 s1 v289 (k0_pay97 v283 v286) (k0_pay106 s0 s1 v283 v286 v289) (k0_pay107 s0 s1 v283 v286 v289))) (fun _ q => carry (fun q => (starRingEnd ℂ) (a q) ^ 256) (fun j => S (7 - j)) q 5) := by
    have t := (carry_step (S' := fun j => S (7 - j)) hS 4 3 rfl slices_S8x512_o3_0_S1x512 slices_S8x512_o3_0_S1x512 hA h3).cast shapeCasts_S1x512_S1x512 shapeCasts_S1x512_S1x512
    simp only [k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, e] at t ⊢
    exact t
  have h1 : CArr (R := 1) (C := 512) (k0_pay124 s0 v289 (k0_pay97 v283 v286) (k0_pay118 s0 s1 v289 (k0_pay97 v283 v286) (k0_pay106 s0 s1 v283 v286 v289) (k0_pay107 s0 s1 v283 v286 v289)) (k0_pay119 s0 s1 v289 (k0_pay97 v283 v286) (k0_pay106 s0 s1 v283 v286 v289) (k0_pay107 s0 s1 v283 v286 v289))) (k0_pay125 s1 v289 (k0_pay97 v283 v286) (k0_pay118 s0 s1 v289 (k0_pay97 v283 v286) (k0_pay106 s0 s1 v283 v286 v289) (k0_pay107 s0 s1 v283 v286 v289)) (k0_pay119 s0 s1 v289 (k0_pay97 v283 v286) (k0_pay106 s0 s1 v283 v286 v289) (k0_pay107 s0 s1 v283 v286 v289))) (fun _ q => carry (fun q => (starRingEnd ℂ) (a q) ^ 256) (fun j => S (7 - j)) q 6) := by
    have t := (carry_step (S' := fun j => S (7 - j)) hS 5 2 rfl slices_S8x512_o2_0_S1x512 slices_S8x512_o2_0_S1x512 hA h2).cast shapeCasts_S1x512_S1x512 shapeCasts_S1x512_S1x512
    simp only [k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, e] at t ⊢
    exact t
  have h0 : CArr (R := 1) (C := 512) (k0_pay126 s0 s1 v289 (k0_pay97 v283 v286) (k0_pay118 s0 s1 v289 (k0_pay97 v283 v286) (k0_pay106 s0 s1 v283 v286 v289) (k0_pay107 s0 s1 v283 v286 v289)) (k0_pay119 s0 s1 v289 (k0_pay97 v283 v286) (k0_pay106 s0 s1 v283 v286 v289) (k0_pay107 s0 s1 v283 v286 v289))) (k0_pay127 s0 s1 v289 (k0_pay97 v283 v286) (k0_pay118 s0 s1 v289 (k0_pay97 v283 v286) (k0_pay106 s0 s1 v283 v286 v289) (k0_pay107 s0 s1 v283 v286 v289)) (k0_pay119 s0 s1 v289 (k0_pay97 v283 v286) (k0_pay106 s0 s1 v283 v286 v289) (k0_pay107 s0 s1 v283 v286 v289))) (fun _ q => carry (fun q => (starRingEnd ℂ) (a q) ^ 256) (fun j => S (7 - j)) q 7) := by
    have t := (carry_step (S' := fun j => S (7 - j)) hS 6 1 rfl slices_S8x512_o1_0_S1x512 slices_S8x512_o1_0_S1x512 hA h1).cast shapeCasts_S1x512_S1x512 shapeCasts_S1x512_S1x512
    simp only [k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, e] at t ⊢
    exact t
  exact rowsB v (c := fun j q => carry (fun q => (starRingEnd ℂ) (a q) ^ 256) (fun j => S (7 - j)) q (7 - j)) h0 h1 h2 h3 h4 h5 h6 h7

end Cert.Scan
-- ==== Proof.Scan.Math.lean ====
/-
  A linear recurrence run over a stretch, from what the stretch before it carries in; and the eight stretches of 256
  steps put together, forwards and backwards.
-/
module

public import proofs.«01_k».proof.Proof.Scan.Loops
public import proofs.«01_k».proof.Proof.Scan.Carry
public import Mathlib.Tactic.Ring
public import Mathlib.Algebra.BigOperators.Fin

@[expose] public section

noncomputable section

namespace Cert.Scan

/-- The value of the recurrence just before step `m`, which is zero before the first step. -/
def before (a : ℂ) (B : ℕ → ℂ) : ℕ → ℂ
  | 0 => 0
  | m + 1 => run a B m

theorem run_add (a : ℂ) (B : ℕ → ℂ) (m k : ℕ) :
    run a B (m + k) = run a (fun s => B (m + s)) k + a ^ (k + 1) * before a B m := by
  induction k with
  | zero =>
    cases m with
    | zero => show B 0 = B (0 + 0) + a ^ (0 + 1) * 0; simp
    | succ m => show a * run a B m + B (m + 1) = B (m + 1 + 0) + a ^ (0 + 1) * run a B m; rw [Nat.add_zero]; ring
  | succ k ih =>
    show a * run a B (m + k) + B (m + k + 1) = a * run a (fun s => B (m + s)) k + B (m + (k + 1)) + a ^ (k + 1 + 1) * before a B m
    rw [ih, Nat.add_assoc]
    ring

theorem run_congr (a : ℂ) {B B' : ℕ → ℂ} (k : ℕ) (h : ∀ s, s ≤ k → B s = B' s) : run a B k = run a B' k := by
  induction k with
  | zero => exact h 0 le_rfl
  | succ k ih =>
    show a * run a B k + B (k + 1) = a * run a B' k + B' (k + 1)
    rw [ih fun s hs => h s (Nat.le_succ_of_le hs), h (k + 1) le_rfl]

/-- The scratch row of time `t`, and the time of scratch row `r`. -/
def rowOf (t : ℕ) : ℕ := 8 * (t % 256) + t / 256
def timeOf (r : ℕ) : ℕ := 256 * (r % 8) + r / 8

/-- The stretches' last values and the carries make up the recurrence at the ends of the stretches. -/
theorem carry_eq (a : ℂ) (B : ℕ → ℂ) (S : ℕ → ℕ → ℂ) (A : ℕ → ℂ) (q : ℕ) (hA : A q = a ^ 256)
    (hS : ∀ j, j < 8 → S j q = run a (fun s => B (256 * j + s)) 255) (j : ℕ) (hj : j ≤ 8) :
    carry A S q j = before a B (256 * j) := by
  induction j with
  | zero => rfl
  | succ j ih =>
    show S j q + A q * carry A S q j = before a B (256 * j + 255 + 1)
    show _ = run a B (256 * j + 255)
    rw [run_add, hS j (by omega), ih (by omega), hA]

/-- The forward scan, stretch by stretch. -/
theorem fwd_eq (a : ℕ → ℂ) (Z : ℕ → ℕ → ℂ) (q : ℕ) (S : ℕ → ℕ → ℂ) (hS : ∀ j, j < 8 → S j q = loc a Z j q 255) (j k : ℕ) (hj : j < 8) (hk : k < 256) :
    loc a Z j q k + a q ^ (k + 1) * carry (fun q => a q ^ 256) S q j = run (a q) (fun t => Z (rowOf t) q) (256 * j + k) := by
  have hl : ∀ j k, j < 8 → k < 256 → loc a Z j q k = run (a q) (fun s => Z (rowOf (256 * j + s)) q) k := fun j k hj hk =>
    run_congr (a q) k fun s hs => by
      show Z (8 * s + j) q = Z (rowOf (256 * j + s)) q
      unfold rowOf
      rw [show (256 * j + s) % 256 = s by omega, show (256 * j + s) / 256 = j by omega]
  rw [run_add (a q) (fun t => Z (rowOf t) q) (256 * j) k,
    carry_eq (a q) (fun t => Z (rowOf t) q) S (fun q => a q ^ 256) q rfl (fun j hj => (hS j hj).trans (hl j 255 hj (by omega))) j (by omega), hl j k hj hk]

theorem carry_before (a : ℕ → ℂ) (Z : ℕ → ℕ → ℂ) (q : ℕ) (S : ℕ → ℕ → ℂ) (hS : ∀ j, j < 8 → S j q = loc a Z j q 255) (j : ℕ) (hj : j < 8) :
    carry (fun q => a q ^ 256) S q j = before (a q) (fun t => Z (rowOf t) q) (256 * j) :=
  carry_eq (a q) (fun t => Z (rowOf t) q) S (fun q => a q ^ 256) q rfl (fun j hj => (hS j hj).trans (run_congr (a q) 255 fun s hs => by
      show Z (8 * s + j) q = Z (rowOf (256 * j + s)) q
      unfold rowOf
      rw [show (256 * j + s) % 256 = s by omega, show (256 * j + s) / 256 = j by omega])) j (by omega)

/-- The backward scan, stretch by stretch. -/
theorem bwd_eq (b : ℕ → ℂ) (Z : ℕ → ℕ → ℂ) (q : ℕ) (S : ℕ → ℕ → ℂ) (hS : ∀ j, j < 8 → S j q = back b Z j q 255) (j k : ℕ) (hj : j < 8) (hk : k < 256) :
    back b Z j q (255 - k) + b q ^ (256 - k) * carry (fun q => b q ^ 256) (fun j => S (7 - j)) q (7 - j)
      = run (b q) (fun t => Z (rowOf (2047 - t)) q) (2047 - (256 * j + k)) := by
  have hl : ∀ j k, j < 8 → k < 256 → back b Z j q k = run (b q) (fun s => Z (rowOf (2047 - (256 * (7 - j) + s))) q) k := fun j k hj hk =>
    run_congr (b q) k fun s hs => by
      show Z (8 * (255 - s) + j) q = Z (rowOf (2047 - (256 * (7 - j) + s))) q
      unfold rowOf
      rw [show (2047 - (256 * (7 - j) + s)) % 256 = 255 - s by omega, show (2047 - (256 * (7 - j) + s)) / 256 = j by omega]
  rw [show 2047 - (256 * j + k) = 256 * (7 - j) + (255 - k) by omega, run_add (b q) (fun t => Z (rowOf (2047 - t)) q) (256 * (7 - j)) (255 - k),
    carry_eq (b q) (fun t => Z (rowOf (2047 - t)) q) (fun j => S (7 - j)) (fun q => b q ^ 256) q rfl (fun i hi => by
      rw [hS (7 - i) (by omega), hl (7 - i) 255 (by omega) (by omega), show 7 - (7 - i) = i by omega]) (7 - j) (by omega),
    hl j (255 - k) hj (by omega), show 255 - k + 1 = 256 - k by omega]

end Cert.Scan
-- ==== Proof.Scan.Prods.lean ====
/-
  The kernel's products and sums, element by element.
-/
module

public import proofs.«01_k».proof.Proof.Gen.KernelIdeal.Skeleton
public import Idealize.ShloMosaic.Lib.Pointwise
public import Idealize.ShloMosaic.Lib.Tactic

@[expose] public section

set_option maxRecDepth 16384

noncomputable section

namespace Cert.Scan

open Idealize.ShloMosaic Idealize.ShloMosaic.TcCoe Cert.KernelIdeal Cert.KernelIdeal.Gen

theorem pay8_val (X0 : Vec Ideal S2048x128 .f32) (X4 : Vec Ideal S1x128x512 .bf16) (r : Fin 2048) (q : Fin 512) :
    k0_pay8 X0 X4 (ix2 r q) = ∑ s : Fin 128, X0 (ix2 r s) * X4 (ix3 (0 : Fin 1) s q) := by
  pointwise [k0_pay8, k0_pay5, k0_pay4]

theorem pay9_val (X0 : Vec Ideal S2048x128 .f32) (X5 : Vec Ideal S1x128x512 .bf16) (r : Fin 2048) (q : Fin 512) :
    k0_pay9 X0 X5 (ix2 r q) = ∑ s : Fin 128, X0 (ix2 r s) * X5 (ix3 (0 : Fin 1) s q) := by
  pointwise [k0_pay9, k0_pay5, k0_pay4]

theorem pay72_val (X1 : Vec Ideal S2048x128 .f32) (X6 : Vec Ideal S1x128x512 .bf16) (r : Fin 2048) (q : Fin 512) :
    k0_pay72 (k0_pay7 X1) X6 (ix2 r q) = ∑ s : Fin 128, X1 (ix2 r s) * X6 (ix3 (0 : Fin 1) s q) := by
  pointwise [k0_pay72, k0_pay7, k0_pay6]

theorem pay73_val (X1 : Vec Ideal S2048x128 .f32) (X7 : Vec Ideal S1x128x512 .bf16) (r : Fin 2048) (q : Fin 512) :
    k0_pay73 (k0_pay7 X1) X7 (ix2 r q) = 0 - ∑ s : Fin 128, X1 (ix2 r s) * X7 (ix3 (0 : Fin 1) s q) := by
  pointwise [k0_pay73, k0_pay7, k0_pay6]

theorem pay70_val (X1 : Vec Ideal S2048x128 .f32) (W : Vec Ideal S2048x512 .f32) (q : Fin 512) (n : Fin 128) :
    k0_pay70 (k0_pay69 (k0_pay7 X1) W) (ix3 (0 : Fin 1) q n) = ∑ r : Fin 2048, W (ix2 r q) * X1 (ix2 r n) := by
  pointwise [k0_pay70, k0_pay69, k0_pay7, k0_pay6]

theorem pay71_val (X1 : Vec Ideal S2048x128 .f32) (W : Vec Ideal S2048x512 .f32) (q : Fin 512) (n : Fin 128) :
    k0_pay71 (k0_pay7 X1) W (ix3 (0 : Fin 1) q n) = 0 - ∑ r : Fin 2048, W (ix2 r q) * X1 (ix2 r n) := by
  pointwise [k0_pay71, k0_pay7, k0_pay6]

theorem pay146_val (X0 : Vec Ideal S2048x128 .f32) (W : Vec Ideal S2048x512 .f32) (n : Fin 128) (q : Fin 512) :
    k0_pay146 (k0_pay5 X0) W (ix3 (0 : Fin 1) n q) = ∑ r : Fin 2048, X0 (ix2 r n) * W (ix2 r q) := by
  pointwise [k0_pay146, k0_pay144, k0_pay5, k0_pay4]

theorem pay147_val (X0 : Vec Ideal S2048x128 .f32) (W : Vec Ideal S2048x512 .f32) (n : Fin 128) (q : Fin 512) :
    k0_pay147 (k0_pay5 X0) W (ix3 (0 : Fin 1) n q) = ∑ r : Fin 2048, X0 (ix2 r n) * W (ix2 r q) := by
  pointwise [k0_pay147, k0_pay145, k0_pay5, k0_pay4]

theorem pay148_val (X1 : Vec Ideal S2048x128 .f32) (W W' : Vec Ideal S2048x512 .f32) (X4 X5 : Vec Ideal S1x128x512 .bf16) (X8 : Vec Ideal S1x128 .f32) (r : Fin 2048) (n : Fin 128) :
    k0_pay148 (k0_pay6 X1) W W' X4 X5 X8 (ix2 r n)
      = ∑ q : Fin 512, W (ix2 r q) * X4 (ix3 (0 : Fin 1) n q) + ∑ q : Fin 512, W' (ix2 r q) * X5 (ix3 (0 : Fin 1) n q)
        + X8 (ix2 (0 : Fin 1) n) * X1 (ix2 r n) := by
  pointwise [k0_pay148, k0_pay144, k0_pay145, k0_pay6]

theorem pay1_val (X0 X1 : Vec Ideal S2048x128 .f32) (n : Fin 128) :
    k0_pay1 (k0_pay4 X0) (k0_pay6 X1) (ix2 (0 : Fin 1) n) = ∑ r : Fin 2048, X1 (ix2 r n) * X0 (ix2 r n) := by
  pointwise [k0_pay1, k0_pay4, k0_pay6]

theorem pay143_val (v : Vec Ideal S8x512 .f32) (q : Fin 512) :
    k0_pay143 (F := Ideal) v (ix3 (0 : Fin 1) (0 : Fin 1) q) = ∑ j : Fin 8, v (ix2 j q) := by
  pointwise [k0_pay143]

/-- The rows of the first block and the accumulator, before the sum over the stretches. -/
def lastAcc (v413 v414 v417_0 v417_1 v417_2 v419 v420 v428 v431 : Vec Ideal S8x512 .f32) : Vec Ideal S8x512 .f32 :=
  addf (addf v417_2 (mulf (k0_pay137 v413 v414 v417_0 v417_1 v428) v419)) (mulf (k0_pay138 v413 v414 v417_0 v417_1 v431) v420)

theorem pay142_val (v413 v414 v417_0 v417_1 v417_2 v419 v420 v428 v431 : Vec Ideal S8x512 .f32) (q : Fin 512) :
    k0_pay142 v413 v414 v417_0 v417_1 v417_2 v419 v420 v428 v431 (ix3 (0 : Fin 1) (0 : Fin 1) q)
      = ∑ j : Fin 8, lastAcc v413 v414 v417_0 v417_1 v417_2 v419 v420 v428 v431 (ix2 j q) := by
  exact pay143_val (lastAcc v413 v414 v417_0 v417_1 v417_2 v419 v420 v428 v431) q

theorem pay2_val (X2 : Vec Ideal S1x1x512 .f32) (q : Fin 512) : k0_pay2 X2 (ix2 (0 : Fin 1) q) = X2 (ix3 (0 : Fin 1) (0 : Fin 1) q) := by
  pointwise [k0_pay2]

theorem pay10_val (X2 : Vec Ideal S1x1x512 .f32) (j : Fin 8) (q : Fin 512) : k0_pay10 X2 (ix2 j q) = X2 (ix3 (0 : Fin 1) (0 : Fin 1) q) := by
  pointwise [k0_pay10, k0_pay2]

theorem pay74_val (v1 : Vec Ideal S1x512 .f32) (j : Fin 8) (q : Fin 512) : k0_pay74 (F := Ideal) v1 (ix2 j q) = v1 (ix2 (0 : Fin 1) q) := by
  pointwise [k0_pay74]

end Cert.Scan
-- ==== Proof.Scan.Inp.lean ====
/-
  The real numbers that one block of the scan is given, and what its outputs are in terms of them: the states over time,
  the gradients of the states over time, and the sums over time that the kernel returns.
-/
module

public import proofs.«01_k».proof.Proof.Scan.Math
public import proofs.«01_k».proof.Proof.Scan.Prods

@[expose] public section

set_option maxRecDepth 16384

noncomputable section

namespace Cert.Scan

open Cert.KernelIdeal Cert.KernelIdeal.Gen
open Idealize.ShloMosaic

/-- One block's inputs: `u` and `dy` by scratch row and channel, the transition `a` by column, the input and output maps
    by channel and column, and the skip `d` by channel. -/
structure Inp where
  u : ℕ → ℕ → ℝ
  dy : ℕ → ℕ → ℝ
  a : ℕ → ℂ
  br : ℕ → ℕ → ℝ
  bi : ℕ → ℕ → ℝ
  cr : ℕ → ℕ → ℝ
  ci : ℕ → ℕ → ℝ
  d : ℕ → ℝ

namespace Inp
variable (I : Inp)

/-- What enters the forward scan, by scratch row and column. -/
def Z (r q : ℕ) : ℂ := ⟨∑ s : Fin 128, I.u r s * I.br s q, ∑ s : Fin 128, I.u r s * I.bi s q⟩
/-- What enters the backward scan. -/
def D (r q : ℕ) : ℂ := ⟨∑ s : Fin 128, I.dy r s * I.cr s q, -∑ s : Fin 128, I.dy r s * I.ci s q⟩
/-- The state at time `t`. -/
def x (t q : ℕ) : ℂ := run (I.a q) (fun t => I.Z (rowOf t) q) t
/-- The state before time `t`. -/
def xp (t q : ℕ) : ℂ := before (I.a q) (fun t => I.Z (rowOf t) q) t
/-- The gradient of the state at time `t`. -/
def g (t q : ℕ) : ℂ := run ((starRingEnd ℂ) (I.a q)) (fun t => I.D (rowOf (2047 - t)) q) (2047 - t)
/-- The gradient of the transition that stretch `j` makes. -/
def dacc (j q : ℕ) : ℂ := ∑ s ∈ Finset.range 256, I.g (256 * j + (255 - s)) q * (starRingEnd ℂ) (I.xp (256 * j + (255 - s)) q)

def du (r n : ℕ) : ℝ := ∑ q : Fin 512, (I.g (timeOf r) q).re * I.br n q + ∑ q : Fin 512, (I.g (timeOf r) q).im * I.bi n q + I.d n * I.dy r n
def dbr (n q : ℕ) : ℝ := ∑ r : Fin 2048, I.u r n * (I.g (timeOf r) q).re
def dbi (n q : ℕ) : ℝ := ∑ r : Fin 2048, I.u r n * (I.g (timeOf r) q).im
def dcr (q n : ℕ) : ℝ := ∑ r : Fin 2048, (I.x (timeOf r) q).re * I.dy r n
def dci (q n : ℕ) : ℝ := -∑ r : Fin 2048, (I.x (timeOf r) q).im * I.dy r n
def da (q : ℕ) : ℂ := ∑ j : Fin 8, I.dacc j q
def dd (n : ℕ) : ℝ := ∑ r : Fin 2048, I.dy r n * I.u r n

/-- The nine blocks hold the inputs. -/
structure Holds (x0 x1 : Vec Ideal S2048x128 .f32) (x2 x3 : Vec Ideal S1x1x512 .f32) (x4 x5 x6 x7 : Vec Ideal S1x128x512 .bf16)
    (x8 : Vec Ideal S1x128 .f32) : Prop where
  h0 : ∀ (r : Fin 2048) (n : Fin 128), x0 (ix2 r n) = (I.u r n : EReal)
  h1 : ∀ (r : Fin 2048) (n : Fin 128), x1 (ix2 r n) = (I.dy r n : EReal)
  h2 : ∀ q : Fin 512, x2 (ix3 (0 : Fin 1) (0 : Fin 1) q) = ((I.a q).re : EReal)
  h3 : ∀ q : Fin 512, x3 (ix3 (0 : Fin 1) (0 : Fin 1) q) = ((I.a q).im : EReal)
  h4 : ∀ (n : Fin 128) (q : Fin 512), x4 (ix3 (0 : Fin 1) n q) = (I.br n q : EReal)
  h5 : ∀ (n : Fin 128) (q : Fin 512), x5 (ix3 (0 : Fin 1) n q) = (I.bi n q : EReal)
  h6 : ∀ (n : Fin 128) (q : Fin 512), x6 (ix3 (0 : Fin 1) n q) = (I.cr n q : EReal)
  h7 : ∀ (n : Fin 128) (q : Fin 512), x7 (ix3 (0 : Fin 1) n q) = (I.ci n q : EReal)
  h8 : ∀ n : Fin 128, x8 (ix2 (0 : Fin 1) n) = (I.d n : EReal)

end Inp

theorem coe_sum {n : ℕ} (f : Fin n → ℝ) : ((∑ s, f s : ℝ) : EReal) = ∑ s, (f s : EReal) := by
  classical
  induction (Finset.univ : Finset (Fin n)) using Finset.induction_on with
  | empty => simp
  | insert a s ha ih => rw [Finset.sum_insert ha, Finset.sum_insert ha, EReal.coe_add, ih]

theorem sum_mul_coe {n : ℕ} {f g : Fin n → EReal} {f' g' : Fin n → ℝ} (hf : ∀ s, f s = (f' s : EReal)) (hg : ∀ s, g s = (g' s : EReal)) :
    ∑ s, f s * g s = ((∑ s, f' s * g' s : ℝ) : EReal) := by
  rw [coe_sum]
  exact Finset.sum_congr rfl fun s _ => by rw [hf, hg, EReal.coe_mul]

open Idealize.ShloMosaic.LaneScatter (Blk)
open Idealize.ShloMosaic.Updates (IsArr)

theorem isArr_of {R C : ℕ} {X : (Blk R C).Idx → EReal} {A : ℕ × ℕ → EReal} (h : ∀ (r : Fin R) (q : Fin C), X (ix2 r q) = A (r.val, q.val)) : IsArr X A := by
  intro ι
  have e : ι = ix2 (ι 0) (ι 1) := by
    funext k
    exact Fin.cases rfl (fun k => Fin.cases rfl (fun k => k.elim0) k) k
  exact (congrArg X e).trans (h _ _)

theorem CArr.of {R C : ℕ} {X Y : (Blk R C).Idx → EReal} {Z : ℕ → ℕ → ℂ} (h : ∀ (r : Fin R) (q : Fin C), X (ix2 r q) = ((Z r q).re : EReal))
    (h' : ∀ (r : Fin R) (q : Fin C), Y (ix2 r q) = ((Z r q).im : EReal)) : CArr X Y Z := ⟨isArr_of h, isArr_of h'⟩

theorem CArr.at {R C : ℕ} {X Y : (Blk R C).Idx → EReal} {Z : ℕ → ℕ → ℂ} (h : CArr X Y Z) (r : Fin R) (q : Fin C) :
    X (ix2 r q) = ((Z r q).re : EReal) ∧ Y (ix2 r q) = ((Z r q).im : EReal) := ⟨h.1 _, h.2 _⟩

namespace Inp.Holds
variable {I : Inp} {x0 x1 : Vec Ideal S2048x128 .f32} {x2 x3 : Vec Ideal S1x1x512 .f32} {x4 x5 x6 x7 : Vec Ideal S1x128x512 .bf16} {x8 : Vec Ideal S1x128 .f32}
  (h : I.Holds x0 x1 x2 x3 x4 x5 x6 x7 x8)
include h

theorem a1 : CArr (R := 1) (C := 512) (k0_pay2 x2) (k0_pay3 x3) (fun _ q => I.a q) :=
  .of (fun r q => by rw [show r = 0 from Subsingleton.elim _ _, pay2_val, h.h2])
    (fun r q => by rw [show r = 0 from Subsingleton.elim _ _]; exact (pay2_val x3 q).trans (h.h3 q))

theorem a8 : CArr (R := 8) (C := 512) (k0_pay10 x2) (k0_pay11 x3) (fun _ q => I.a q) :=
  .of (fun r q => by rw [pay10_val, h.h2]) (fun r q => (pay10_val x3 r q).trans (h.h3 q))

theorem a8' : CArr (R := 8) (C := 512) (k0_pay74 (k0_pay2 x2)) (k0_pay75 (k0_pay3 x3)) (fun _ q => I.a q) :=
  .of (fun r q => (pay74_val _ r q).trans ((pay2_val x2 q).trans (h.h2 q))) (fun r q => (pay74_val _ r q).trans ((pay2_val x3 q).trans (h.h3 q)))

theorem b8 : CArr (R := 8) (C := 512) (k0_pay74 (k0_pay2 x2)) (k0_pay76 (k0_pay3 x3)) (fun _ q => (starRingEnd ℂ) (I.a q)) := cconj h.a8'

theorem z : CArr (R := 2048) (C := 512) (k0_pay8 x0 x4) (k0_pay9 x0 x5) I.Z :=
  .of (fun r q => by rw [pay8_val]; exact sum_mul_coe (fun s => h.h0 r s) (fun s => h.h4 s q))
    (fun r q => by rw [pay9_val]; exact sum_mul_coe (fun s => h.h0 r s) (fun s => h.h5 s q))

theorem dz : CArr (R := 2048) (C := 512) (k0_pay72 (k0_pay7 x1) x6) (k0_pay73 (k0_pay7 x1) x7) I.D :=
  .of (fun r q => by rw [pay72_val]; exact sum_mul_coe (fun s => h.h1 r s) (fun s => h.h6 s q))
    (fun r q => by
      rw [pay73_val, sum_mul_coe (fun s => h.h1 r s) (fun s => h.h7 s q), zero_sub]
      exact (EReal.coe_neg _).symm)

end Inp.Holds

end Cert.Scan
-- ==== Proof.Scan.Stage.lean ====
/-
  The kernel's body, scan by scan: what the scratch rows hold when the forward scan is done, when the backward scan is
  done, and the sum that the backward scan keeps on the way.
-/
module

public import proofs.«01_k».proof.Proof.Scan.Loops
public import proofs.«01_k».proof.Proof.Scan.Carry
public import proofs.«01_k».proof.Proof.Scan.Inp

@[expose] public section

set_option maxRecDepth 16384

noncomputable section

namespace Cert.Scan

open Idealize.ShloMosaic Cert.KernelIdeal Cert.KernelIdeal.Gen
open Idealize.ShloMosaic.TcCoe Idealize.ShloMosaic.Tactic
open Idealize.ShloMosaic.LaneScatter (Blk)
open Idealize.ShloMosaic.Updates (isArr_writes_whole)

/-- One store of two whole blocks. -/
theorem CArr.whole {sig : RefSig} {κ : Kind} {sp : Space} {v₀ v₁ : View sig κ sp S2048x512 .f32} {f₀ : v₀.ty.Contents (Elt Ideal)}
    {f₁ : v₁.ty.Contents (Elt Ideal)} {W₀ W₁ : S2048x512.Idx → EReal} {Z : ℕ → ℕ → ℂ} (h : CArr (R := 2048) (C := 512) W₀ W₁ Z) :
    CArr (R := 2048) (C := 512) (v₀.read (Elt Ideal) (v₀.writes (Elt Ideal) f₀ [⟨Rect.unit (s := S2048x512) ![0, 0] S2048x512.size inb_S2048x512_S2048x512_0_0, W₀⟩]))
      (v₁.read (Elt Ideal) (v₁.writes (Elt Ideal) f₁ [⟨Rect.unit (s := S2048x512) ![0, 0] S2048x512.size inb_S2048x512_S2048x512_0_0, W₁⟩])) Z :=
  ⟨isArr_writes_whole _ _ _ h.1, isArr_writes_whole _ _ _ h.2⟩

variable (c : Dev nD) (i : grid0.Coords) {arg1 : Memref sig .tc .vmem S2048x128 .f32} (harg1 : arg1.IsWhole) {arg2 : Memref sig .tc .vmem S2048x128 .f32} (harg2 : arg2.IsWhole) {arg3 : Memref sig .tc .vmem S1x1x512 .f32} (harg3 : arg3.IsWhole) {arg4 : Memref sig .tc .vmem S1x1x512 .f32} (harg4 : arg4.IsWhole) {arg5 : Memref sig .tc .vmem S1x128x512 .bf16} (harg5 : arg5.IsWhole) {arg6 : Memref sig .tc .vmem S1x128x512 .bf16} (harg6 : arg6.IsWhole) {arg7 : Memref sig .tc .vmem S1x128x512 .bf16} (harg7 : arg7.IsWhole) {arg8 : Memref sig .tc .vmem S1x128x512 .bf16} (harg8 : arg8.IsWhole) {arg9 : Memref sig .tc .vmem S1x128 .f32} (harg9 : arg9.IsWhole) {arg10 : Memref sig .tc .vmem S2048x128 .f32} (harg10 : arg10.IsWhole) {arg11 : Memref sig .tc .vmem S1x128x512 .f32} (harg11 : arg11.IsWhole) {arg12 : Memref sig .tc .vmem S1x128x512 .f32} (harg12 : arg12.IsWhole) {arg13 : Memref sig .tc .vmem S1x512x128 .f32} (harg13 : arg13.IsWhole) {arg14 : Memref sig .tc .vmem S1x512x128 .f32} (harg14 : arg14.IsWhole) {arg15 : Memref sig .tc .vmem S1x1x512 .f32} (harg15 : arg15.IsWhole) {arg16 : Memref sig .tc .vmem S1x1x512 .f32} (harg16 : arg16.IsWhole) {arg17 : Memref sig .tc .vmem S1x128 .f32} (harg17 : arg17.IsWhole) {arg18 : Memref sig .tc .vmem S2048x512 .f32} (harg18 : arg18.IsWhole) {arg19 : Memref sig .tc .vmem S2048x512 .f32} (harg19 : arg19.IsWhole) {arg20 : Memref sig .tc .vmem S2048x512 .f32} (harg20 : arg20.IsWhole) {arg21 : Memref sig .tc .vmem S2048x512 .f32} (harg21 : arg21.IsWhole) {arg22 : Memref sig .tc .vmem S16x512 .f32} (harg22 : arg22.IsWhole) {arg23 : Memref sig .tc .vmem S16x512 .f32} (harg23 : arg23.IsWhole)

/-- The forward scan: the scratch rows hold the states over time, and the carries are the states just before each stretch. -/
theorem stage12 (I : Inp) {v1 v3 v74 v77 u0 u1 u2 : FVec Ideal S1x512 .f32} {v23 v25 R0 R1 cm0 cm1 : FVec Ideal S8x512 .f32} {v9 : FVec Ideal S2048x128 .bf16} {w : BitVec 32}
    {L0 L1 : List (View.Piece (Elt Ideal) S2048x512 .f32)} {n1 n2 : ℕ} {S1 S2 : (FVec Ideal S8x512 .f32 × FVec Ideal S8x512 .f32) × List (View.Piece (Elt Ideal) S2048x512 .f32) × List (View.Piece (Elt Ideal) S2048x512 .f32)}
    (ha : CArr (R := 8) (C := 512) v23 v25 (fun _ q => I.a q))
    (hL : CArr (arg18.view.read (Elt Ideal) (arg18.view.writes (Elt Ideal) arg18.view.junk L0)) (arg19.view.read (Elt Ideal) (arg19.view.writes (Elt Ideal) arg19.view.junk L1)) I.Z)
    (hR : CArr (R := 8) (C := 512) R0 R1 I.Z)
    (hs1 : st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1 v3 v23 v25 R0 R1 w (arg18.view.writes (Elt Ideal) arg18.view.junk L0) (arg19.view.writes (Elt Ideal) arg19.view.junk L1) (R0, R1) n1 = S1) (hn1 : n1 = 255)
    (hcm : CArr (R := 8) (C := 512) S1.1.1 S1.1.2 (fun j q => loc I.a I.Z j q 255) → CArr (R := 8) (C := 512) cm0 cm1 (fun j q => carry (fun q => I.a q ^ 256) (fun j q => loc I.a I.Z j q 255) q j))
    (hs2 : st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 v23 v25 S1.1.1 S1.1.2 v74 v77 u0 u1 u2 cm0 cm1 (arg18.view.writes (Elt Ideal) arg18.view.junk (S1.2.1 ++ L0)) (arg19.view.writes (Elt Ideal) arg19.view.junk (S1.2.2 ++ L1)) (v23, v25) n2 = S2) (hn2 : n2 = 256) :
    CArr (R := 8) (C := 512) cm0 cm1 (fun j q => I.xp (256 * j) q) ∧
    CArr (arg18.view.read (Elt Ideal) (arg18.view.writes (Elt Ideal) arg18.view.junk (S2.2.1 ++ (S1.2.1 ++ L0)))) (arg19.view.read (Elt Ideal) (arg19.view.writes (Elt Ideal) arg19.view.junk (S2.2.2 ++ (S1.2.2 ++ L1)))) (fun r q => I.x (timeOf r) q) := by
  obtain ⟨h1, h1'⟩ := loop1S c i harg1 harg2 harg3 harg4 harg5 harg6 harg7 harg8 harg9 harg10 harg11 harg12 harg13 harg14 harg15 harg16 harg17 harg18 harg19 harg20 harg21 harg22 harg23 hs1 hn1 ha hR hL
  have hc := hcm h1
  rw [← View.writes_append, ← View.writes_append] at h1'
  obtain ⟨h2, h2'⟩ := loop2S c i harg1 harg2 harg3 harg4 harg5 harg6 harg7 harg8 harg9 harg10 harg11 harg12 harg13 harg14 harg15 harg16 harg17 harg18 harg19 harg20 harg21 harg22 harg23 hs2 hn2 ha hc ha h1'
  rw [← View.writes_append, ← View.writes_append] at h2'
  refine ⟨hc.congr fun j q hj hq => carry_before I.a I.Z q _ (fun j hj => rfl) j hj, h2'.congr fun r q hr hq => ?_⟩
  show cont2 I.a _ (cont1 I.a I.Z 255) 256 r q = run (I.a q) (fun t => I.Z (rowOf t) q) (256 * (r % 8) + r / 8)
  unfold cont2 cont1
  rw [if_pos (by omega), if_pos (by omega)]
  exact fwd_eq I.a I.Z q _ (fun j hj => rfl) (r % 8) (r / 8) (by omega) (by omega)

theorem Inp.g_eq (I : Inp) (j k q : ℕ) (hj : j < 8) (hk : k < 256) :
    back (fun q => (starRingEnd ℂ) (I.a q)) I.D j q (255 - k) + (starRingEnd ℂ) (I.a q) ^ (256 - k) * carry (fun q => (starRingEnd ℂ) (I.a q) ^ 256) (fun j => (fun j q => back (fun q => (starRingEnd ℂ) (I.a q)) I.D j q 255) (7 - j)) q (7 - j)
      = I.g (256 * j + k) q :=
  bwd_eq (fun q => (starRingEnd ℂ) (I.a q)) I.D q (fun j q => back (fun q => (starRingEnd ℂ) (I.a q)) I.D j q 255) (fun j hj => rfl) j k hj hk

/-- The backward scan: the scratch rows hold the gradients over time, and the sum has every step of each stretch. -/
theorem stage34 (I : Inp) {v1 v3 : FVec Ideal S1x512 .f32} {v231 v233 v235 R2 R3 cm0 cm1 cb0 cb1 z0 z1 : FVec Ideal S8x512 .f32} {w : BitVec 32} {z : EReal}
    {L2 L3 : List (View.Piece (Elt Ideal) S2048x512 .f32)} {X18 : BufTy.Contents (Elt Ideal) arg18.view.ty} {X19 : BufTy.Contents (Elt Ideal) arg19.view.ty} {n3 n4 : ℕ} {S3 : (FVec Ideal S8x512 .f32 × FVec Ideal S8x512 .f32) × List (View.Piece (Elt Ideal) S2048x512 .f32) × List (View.Piece (Elt Ideal) S2048x512 .f32)} {S4 : (FVec Ideal S8x512 .f32 × FVec Ideal S8x512 .f32 × FVec Ideal S8x512 .f32 × FVec Ideal S8x512 .f32) × List (View.Piece (Elt Ideal) S2048x512 .f32) × List (View.Piece (Elt Ideal) S2048x512 .f32)}
    (ha : CArr (R := 8) (C := 512) v231 v233 (fun _ q => I.a q)) (hb : CArr (R := 8) (C := 512) v231 v235 (fun _ q => (starRingEnd ℂ) (I.a q)))
    (hz : CArr (R := 8) (C := 512) z0 z1 (fun _ _ => 0))
    (hL : CArr (arg20.view.read (Elt Ideal) (arg20.view.writes (Elt Ideal) arg20.view.junk L2)) (arg21.view.read (Elt Ideal) (arg21.view.writes (Elt Ideal) arg21.view.junk L3)) I.D)
    (hR : CArr (R := 8) (C := 512) R2 R3 (fun r q => I.D (2040 + r) q))
    (hcm : CArr (R := 8) (C := 512) cm0 cm1 (fun j q => I.xp (256 * j) q))
    (hX : CArr (arg18.view.read (Elt Ideal) X18) (arg19.view.read (Elt Ideal) X19) (fun r q => I.x (timeOf r) q))
    (hs3 : st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1 v3 v231 v233 w (arg20.view.writes (Elt Ideal) arg20.view.junk L2) (arg21.view.writes (Elt Ideal) arg21.view.junk L3) (R2, R3) n3 = S3) (hn3 : n3 = 255)
    (hcb : CArr (R := 8) (C := 512) S3.1.1 S3.1.2 (fun j q => back (fun q => (starRingEnd ℂ) (I.a q)) I.D j q 255) → CArr (R := 8) (C := 512) cb0 cb1 (fun j q => carry (fun q => (starRingEnd ℂ) (I.a q) ^ 256) (fun j => (fun j q => back (fun q => (starRingEnd ℂ) (I.a q)) I.D j q 255) (7 - j)) q (7 - j)))
    (hs4 : st_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v231 v235 cb0 cb1 z X18 X19 (arg20.view.writes (Elt Ideal) arg20.view.junk (S3.2.1 ++ L2)) (arg21.view.writes (Elt Ideal) arg21.view.junk (S3.2.2 ++ L3)) (v231, v235, z0, z1) n4 = S4) (hn4 : n4 = 255) :
    CArr (R := 2048) (C := 512) (arg20.view.read (Elt Ideal) (arg20.view.writes (Elt Ideal) arg20.view.junk (⟨Rect.unit (s := S2048x512) ![0, 0] S8x512.size inb_S2048x512_S8x512_0_0, k0_pay139 cb0 cb1 S4.1.1 S4.1.2.1 (View.readCov (Val := Elt Ideal) arg20.view (S4.2.1 ++ (S3.2.1 ++ L2)) (Rect.unit (s := S2048x512) ![0, 0] S8x512.size inb_S2048x512_S8x512_0_0).toLoadRect)⟩ :: (S4.2.1 ++ (S3.2.1 ++ L2)))))
      (arg21.view.read (Elt Ideal) (arg21.view.writes (Elt Ideal) arg21.view.junk (⟨Rect.unit (s := S2048x512) ![0, 0] S8x512.size inb_S2048x512_S8x512_0_0, k0_pay140 cb0 cb1 S4.1.1 S4.1.2.1 (View.readCov (Val := Elt Ideal) arg21.view (S4.2.2 ++ (S3.2.2 ++ L3)) (Rect.unit (s := S2048x512) ![0, 0] S8x512.size inb_S2048x512_S8x512_0_0).toLoadRect)⟩ :: (S4.2.2 ++ (S3.2.2 ++ L3))))) (fun r q => I.g (timeOf r) q) ∧
    CArr (R := 8) (C := 512) (lastAcc cb0 cb1 S4.1.1 S4.1.2.1 S4.1.2.2.1 cm0 cm1 (View.readCov (Val := Elt Ideal) arg20.view (S4.2.1 ++ (S3.2.1 ++ L2)) (Rect.unit (s := S2048x512) ![0, 0] S8x512.size inb_S2048x512_S8x512_0_0).toLoadRect) (View.readCov (Val := Elt Ideal) arg21.view (S4.2.2 ++ (S3.2.2 ++ L3)) (Rect.unit (s := S2048x512) ![0, 0] S8x512.size inb_S2048x512_S8x512_0_0).toLoadRect))
      (k0_pay141 cb0 cb1 S4.1.1 S4.1.2.1 S4.1.2.2.2 cm0 cm1 (View.readCov (Val := Elt Ideal) arg20.view (S4.2.1 ++ (S3.2.1 ++ L2)) (Rect.unit (s := S2048x512) ![0, 0] S8x512.size inb_S2048x512_S8x512_0_0).toLoadRect) (View.readCov (Val := Elt Ideal) arg21.view (S4.2.2 ++ (S3.2.2 ++ L3)) (Rect.unit (s := S2048x512) ![0, 0] S8x512.size inb_S2048x512_S8x512_0_0).toLoadRect)) I.dacc := by
  obtain ⟨h3, h3'⟩ := loop3S c i harg1 harg2 harg3 harg4 harg5 harg6 harg7 harg8 harg9 harg10 harg11 harg12 harg13 harg14 harg15 harg16 harg17 harg18 harg19 harg20 harg21 harg22 harg23 hs3 hn3 ha hR hL
  have hc := hcb h3
  rw [← View.writes_append, ← View.writes_append] at h3'
  obtain ⟨⟨h4, h4a⟩, h4'⟩ := loop4S c i harg1 harg2 harg3 harg4 harg5 harg6 harg7 harg8 harg9 harg10 harg11 harg12 harg13 harg14 harg15 harg16 harg17 harg18 harg19 harg20 harg21 harg22 harg23 hs4 hn4 hb hc hb hz hX h3'
  rw [← View.writes_append, ← View.writes_append] at h4'
  have hE := CArr.load h4' (h := 8) (w := 512) (off := ![0, 0]) rfl inb_S2048x512_S8x512_0_0
  have hF := pay_fix hc h4 hE
  refine ⟨?_, ?_⟩
  · refine (CArr.store h4' (h := 8) (off := ![0, 0]) rfl inb_S2048x512_S8x512_0_0 (pay_fix' hc h4 hE)).congr fun r q hr hq => ?_
    rw [show timeOf r = 256 * (r % 8) + r / 8 from rfl, ← I.g_eq (r % 8) (r / 8) q (by omega) (by omega)]
    by_cases H : r < 8
    · rw [if_pos ⟨Nat.zero_le _, by omega⟩]
      unfold cont4 cont3
      simp only [Nat.zero_add, Nat.sub_zero, Nat.sub_self]
      rw [if_neg (by omega), if_pos (by omega), show r / 8 = 0 by omega, show r % 8 = r by omega]
    · rw [if_neg (by omega)]
      unfold cont4 cont3
      rw [if_pos (by omega), if_pos (by omega)]
  · refine (pay_acc hc h4 hE h4a hcm).congr fun j q hj hq => ?_
    show _ = ∑ s ∈ Finset.range 256, _
    rw [Finset.sum_range_succ]
    refine congrArg₂ (· + ·) (Finset.sum_congr rfl fun s hs => ?_) ?_
    · have hs := Finset.mem_range.mp hs
      rw [← I.g_eq j (255 - s) q hj (by omega)]
      refine congrArg₂ (fun a b : ℂ => a * (starRingEnd ℂ) b) (congrArg₂ (· + ·) ?_ ?_) ?_
      · unfold cont3
        rw [if_pos (by omega), show (8 * (255 - s) + j) % 8 = j by omega, show (8 * (255 - s) + j) / 8 = 255 - s by omega]
      · rw [show 256 - (255 - s) = s + 1 by omega]
      · unfold timeOf Inp.xp
        dsimp only
        rw [show 256 * j + (255 - s) = (256 * j + (254 - s)) + 1 by omega, show (8 * (254 - s) + j) % 8 = j by omega, show (8 * (254 - s) + j) / 8 = 254 - s by omega]
        rfl
    · rw [← I.g_eq j (255 - 255) q hj (by omega)]
      refine congrArg₂ (fun a b : ℂ => a * (starRingEnd ℂ) b) (congrArg₂ (· + ·) ?_ ?_) ?_
      · unfold cont4 cont3
        rw [if_neg (by omega), if_pos (by omega), show (0 + j) % 8 = j by omega, show (0 + j) / 8 = 0 by omega, Nat.zero_add]
      · rfl
      · rfl

end Cert.Scan
-- ==== Proof.Scan.Stores.lean ====
/-
  One store of a whole block.
-/
module

public import proofs.«01_k».proof.Proof.Gen.KernelIdeal.Frame.RunA
public import proofs.«01_k».proof.Proof.Scan.Stage
public import Idealize.ShloMosaic.Lib.Pointwise
public import Idealize.ShloMosaic.Lib.Claim
public import proofs.«01_k».proof.Defs

@[expose] public section

set_option maxRecDepth 16384

noncomputable section

namespace Cert.Scan

open Cert.KernelIdeal Cert.KernelIdeal.Gen
open Idealize.ShloMosaic Idealize.ShloMosaic.TcCoe Idealize.ShloMosaic.Tactic
open Idealize.SL Idealize.SL.RA Idealize.SL.BI

/-- The list of stores is one store of a whole block, whose contents are as `Q` says. -/
def Stores (s : Shape) (off : Fin s.rank → ℕ) (inb : ∀ a, off a + s.size a ≤ s.size a) (L : List (View.Piece (Elt Ideal) s .f32))
    (Q : (s.Idx → EReal) → Prop) : Prop := ∃ pay, L = [⟨Rect.unit (s := s) off s.size inb, pay⟩] ∧ Q pay

end Cert.Scan
-- ==== Proof.Scan.Du.lean ====
/-
  The kernel's body at one block of eight groups: what it stores in each of its eight outputs, in terms of the forward
  and the backward scan over time.
-/
module

public import proofs.«01_k».proof.Proof.Gen.KernelIdeal.Frame.RunA
public import proofs.«01_k».proof.Proof.Scan.Stage
public import proofs.«01_k».proof.Proof.Scan.Stores
public import Idealize.ShloMosaic.Lib.Pointwise
public import Idealize.ShloMosaic.Lib.Claim
public import proofs.«01_k».proof.Defs

@[expose] public section

set_option maxRecDepth 16384

noncomputable section

namespace Cert.Scan

open Cert.KernelIdeal Cert.KernelIdeal.Gen
open Idealize.ShloMosaic Idealize.ShloMosaic.TcCoe Idealize.ShloMosaic.Tactic
open Idealize.SL Idealize.SL.RA Idealize.SL.BI

private theorem hz2 : (![0, 0] : Fin 2 → ℕ) = fun _ => 0 := by decide
private theorem hz3 : (![0, 0, 0] : Fin 3 → ℕ) = fun _ => 0 := by decide

set_option maxHeartbeats 2000000 in
/-- What the body stores in output 1. -/
theorem body_9 (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S1x1x512 .f32) (harg3 : arg3.IsWhole) (arg4 : Memref sig .tc .vmem S1x1x512 .f32) (harg4 : arg4.IsWhole) (arg5 : Memref sig .tc .vmem S1x128x512 .bf16) (harg5 : arg5.IsWhole) (arg6 : Memref sig .tc .vmem S1x128x512 .bf16) (harg6 : arg6.IsWhole) (arg7 : Memref sig .tc .vmem S1x128x512 .bf16) (harg7 : arg7.IsWhole) (arg8 : Memref sig .tc .vmem S1x128x512 .bf16) (harg8 : arg8.IsWhole) (arg9 : Memref sig .tc .vmem S1x128 .f32) (harg9 : arg9.IsWhole) (arg10 : Memref sig .tc .vmem S2048x128 .f32) (harg10 : arg10.IsWhole) (arg11 : Memref sig .tc .vmem S1x128x512 .f32) (harg11 : arg11.IsWhole) (arg12 : Memref sig .tc .vmem S1x128x512 .f32) (harg12 : arg12.IsWhole) (arg13 : Memref sig .tc .vmem S1x512x128 .f32) (harg13 : arg13.IsWhole) (arg14 : Memref sig .tc .vmem S1x512x128 .f32) (harg14 : arg14.IsWhole) (arg15 : Memref sig .tc .vmem S1x1x512 .f32) (harg15 : arg15.IsWhole) (arg16 : Memref sig .tc .vmem S1x1x512 .f32) (harg16 : arg16.IsWhole) (arg17 : Memref sig .tc .vmem S1x128 .f32) (harg17 : arg17.IsWhole) (arg18 : Memref sig .tc .vmem S2048x512 .f32) (harg18 : arg18.IsWhole) (arg19 : Memref sig .tc .vmem S2048x512 .f32) (harg19 : arg19.IsWhole) (arg20 : Memref sig .tc .vmem S2048x512 .f32) (harg20 : arg20.IsWhole) (arg21 : Memref sig .tc .vmem S2048x512 .f32) (harg21 : arg21.IsWhole) (arg22 : Memref sig .tc .vmem S16x512 .f32) (harg22 : arg22.IsWhole) (arg23 : Memref sig .tc .vmem S16x512 .f32) (harg23 : arg23.IsWhole)
    (x0 : Vec Ideal S2048x128 .f32) (x1 : Vec Ideal S2048x128 .f32) (x2 : Vec Ideal S1x1x512 .f32) (x3 : Vec Ideal S1x1x512 .f32) (x4 : Vec Ideal S1x128x512 .bf16) (x5 : Vec Ideal S1x128x512 .bf16) (x6 : Vec Ideal S1x128x512 .bf16) (x7 : Vec Ideal S1x128x512 .bf16) (x8 : Vec Ideal S1x128 .f32) {I : Inp} (h : I.Holds x0 x1 x2 x3 x4 x5 x6 x7 x8) :
    Stores S2048x128 ![0, 0] inb_S2048x128_S2048x128_0_0 (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).1 (fun P => ∀ (r : Fin 2048) (n : Fin 128), P (ix2 r n) = (I.du r n : EReal)) := by
  unfold kernelRun0_A
  dsimp only
  sl_unfold_words
  generalize hX0 : View.readAt (Elt Ideal) arg1.view (Rect.unit (s := S2048x128) ![0, 0] S2048x128.size inb_S2048x128_S2048x128_0_0).toLoadRect (harg1.unread x0) = X0
  generalize hX1 : View.readAt (Elt Ideal) arg2.view (Rect.unit (s := S2048x128) ![0, 0] S2048x128.size inb_S2048x128_S2048x128_0_0).toLoadRect (harg2.unread x1) = X1
  generalize hX2 : View.readAt (Elt Ideal) arg3.view (Rect.unit (s := S1x1x512) ![0, 0, 0] S1x1x512.size inb_S1x1x512_S1x1x512_0_0_0).toLoadRect (harg3.unread x2) = X2
  generalize hX3 : View.readAt (Elt Ideal) arg4.view (Rect.unit (s := S1x1x512) ![0, 0, 0] S1x1x512.size inb_S1x1x512_S1x1x512_0_0_0).toLoadRect (harg4.unread x3) = X3
  generalize hX4 : View.readAt (Elt Ideal) arg5.view (Rect.unit (s := S1x128x512) ![0, 0, 0] S1x128x512.size inb_S1x128x512_S1x128x512_0_0_0).toLoadRect (harg5.unread x4) = X4
  generalize hX5 : View.readAt (Elt Ideal) arg6.view (Rect.unit (s := S1x128x512) ![0, 0, 0] S1x128x512.size inb_S1x128x512_S1x128x512_0_0_0).toLoadRect (harg6.unread x5) = X5
  generalize hX6 : View.readAt (Elt Ideal) arg7.view (Rect.unit (s := S1x128x512) ![0, 0, 0] S1x128x512.size inb_S1x128x512_S1x128x512_0_0_0).toLoadRect (harg7.unread x6) = X6
  generalize hX7 : View.readAt (Elt Ideal) arg8.view (Rect.unit (s := S1x128x512) ![0, 0, 0] S1x128x512.size inb_S1x128x512_S1x128x512_0_0_0).toLoadRect (harg8.unread x7) = X7
  generalize hX8 : View.readAt (Elt Ideal) arg9.view (Rect.unit (s := S1x128) ![0, 0] S1x128.size inb_S1x128_S1x128_0_0).toLoadRect (harg9.unread x8) = X8
  generalize hv1 : k0_pay2 X2 = v1
  generalize hv3 : k0_pay3 X3 = v3
  generalize hv23 : k0_pay10 X2 = v23
  generalize hv25 : k0_pay11 X3 = v25
  generalize hv74 : k0_pay30 v1 v3 = v74
  generalize hv77 : k0_pay31 v1 v3 = v77
  generalize hs1 : st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _ _ _ _ _ _ _ _ = S1
  generalize hcm0 : View.readCov (Val := Elt Ideal) arg22.view _ (Rect.unit (s := S16x512) ![0, 0] S8x512.size inb_S16x512_S8x512_0_0).toLoadRect = cm0
  generalize hcm1 : View.readCov (Val := Elt Ideal) arg22.view _ (Rect.unit (s := S16x512) ![8, 0] S8x512.size inb_S16x512_S8x512_8_0).toLoadRect = cm1
  generalize hs2 : st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _ _ _ _ _ _ _ _ _ _ _ _ _ = S2
  generalize hs3 : st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _ _ _ _ _ _ = S3
  generalize hcb0 : View.readCov (Val := Elt Ideal) arg23.view _ (Rect.unit (s := S16x512) ![0, 0] S8x512.size inb_S16x512_S8x512_0_0).toLoadRect = cb0
  generalize hcb1 : View.readCov (Val := Elt Ideal) arg23.view _ (Rect.unit (s := S16x512) ![8, 0] S8x512.size inb_S16x512_S8x512_8_0).toLoadRect = cb1
  generalize hs4 : st_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _ _ _ _ _ _ _ _ = S4
  replace hX0 : x0 = X0 := by rw [← hX0, View.readAt_eq_ld, harg1.read_unread]; exact (View.ld_unit_zero (S := S2048x128) hz2 _ x0).symm
  subst hX0
  replace hX1 : x1 = X1 := by rw [← hX1, View.readAt_eq_ld, harg2.read_unread]; exact (View.ld_unit_zero (S := S2048x128) hz2 _ x1).symm
  subst hX1
  replace hX2 : x2 = X2 := by rw [← hX2, View.readAt_eq_ld, harg3.read_unread]; exact (View.ld_unit_zero (S := S1x1x512) hz3 _ x2).symm
  subst hX2
  replace hX3 : x3 = X3 := by rw [← hX3, View.readAt_eq_ld, harg4.read_unread]; exact (View.ld_unit_zero (S := S1x1x512) hz3 _ x3).symm
  subst hX3
  replace hX4 : x4 = X4 := by rw [← hX4, View.readAt_eq_ld, harg5.read_unread]; exact (View.ld_unit_zero (S := S1x128x512) hz3 _ x4).symm
  subst hX4
  replace hX5 : x5 = X5 := by rw [← hX5, View.readAt_eq_ld, harg6.read_unread]; exact (View.ld_unit_zero (S := S1x128x512) hz3 _ x5).symm
  subst hX5
  replace hX6 : x6 = X6 := by rw [← hX6, View.readAt_eq_ld, harg7.read_unread]; exact (View.ld_unit_zero (S := S1x128x512) hz3 _ x6).symm
  subst hX6
  replace hX7 : x7 = X7 := by rw [← hX7, View.readAt_eq_ld, harg8.read_unread]; exact (View.ld_unit_zero (S := S1x128x512) hz3 _ x7).symm
  subst hX7
  replace hX8 : x8 = X8 := by rw [← hX8, View.readAt_eq_ld, harg9.read_unread]; exact (View.ld_unit_zero (S := S1x128) hz2 _ x8).symm
  subst hX8
  subst hv1 hv3 hv23 hv25 hv74 hv77
  have hR := (CArr.load (CArr.whole (v₀ := arg18.view) (v₁ := arg19.view) (f₀ := arg18.view.junk) (f₁ := arg19.view.junk) h.z) (h := 8) (w := 512) (off := ![0, 0]) rfl inb_S2048x512_S8x512_0_0).congr
    (fun r q _ _ => show I.Z (0 + r) (0 + q) = I.Z r q by rw [Nat.zero_add, Nat.zero_add])
  obtain ⟨hcm, hX⟩ := stage12 c i harg1 harg2 harg3 harg4 harg5 harg6 harg7 harg8 harg9 harg10 harg11 harg12 harg13 harg14 harg15 harg16 harg17 harg18 harg19 harg20 harg21 harg22 harg23 I h.a8 (CArr.whole h.z) hR hs1 (by decide +kernel)
    (fun t => by rw [← hcm0, ← hcm1]; exact carryF arg22.view t (apow h.a1)) hs2 (by decide +kernel)
  have hx := (CArr.load hX (h := 2048) (w := 512) (off := ![0, 0]) rfl inb_S2048x512_S2048x512_0_0).congr
    (fun r q _ _ => show I.x (timeOf (0 + r)) (0 + q) = I.x (timeOf r) q by rw [Nat.zero_add, Nat.zero_add])
  have hR' := (CArr.load (CArr.whole (v₀ := arg20.view) (v₁ := arg21.view) (f₀ := arg20.view.junk) (f₁ := arg21.view.junk) h.dz) (h := 8) (w := 512) (off := ![2040, 0]) rfl inb_S2048x512_S8x512_2040_0).congr
    (fun r q _ _ => show I.D (2040 + r) (0 + q) = I.D (2040 + r) q by rw [Nat.zero_add])
  obtain ⟨hG, hacc⟩ := stage34 c i harg1 harg2 harg3 harg4 harg5 harg6 harg7 harg8 harg9 harg10 harg11 harg12 harg13 harg14 harg15 harg16 harg17 harg18 harg19 harg20 harg21 harg22 harg23 I h.a8' h.b8 czero (CArr.whole h.dz) hR' hcm hX hs3 (by decide +kernel)
    (fun t => by rw [← hcb0, ← hcb1]; exact carryB arg23.view t h.a1) hs4 (by decide +kernel)
  have hg := (CArr.load hG (h := 2048) (w := 512) (off := ![0, 0]) rfl inb_S2048x512_S2048x512_0_0).congr
    (fun r q _ _ => show I.g (timeOf (0 + r)) (0 + q) = I.g (timeOf r) q by rw [Nat.zero_add, Nat.zero_add])
  refine ⟨_, rfl, fun r n => (pay148_val _ _ _ _ _ _ r n).trans ?_⟩
  refine (congrArg₂ (fun a b : EReal => a + b) (congrArg₂ (fun a b : EReal => a + b) (sum_mul_coe (fun q => (hg.at r q).1) (fun q => h.h4 n q))
    (sum_mul_coe (fun q => (hg.at r q).2) (fun q => h.h5 n q))) (congrArg₂ (fun a b : EReal => a * b) (h.h8 n) (h.h1 r n))).trans ?_
  unfold Inp.du
  rw [EReal.coe_add, EReal.coe_add, EReal.coe_mul]

end Cert.Scan
-- ==== Proof.Scan.Dbr.lean ====
/-
  The kernel's body at one block of eight groups: what it stores in each of its eight outputs, in terms of the forward
  and the backward scan over time.
-/
module

public import proofs.«01_k».proof.Proof.Gen.KernelIdeal.Frame.RunA
public import proofs.«01_k».proof.Proof.Scan.Stage
public import proofs.«01_k».proof.Proof.Scan.Stores
public import Idealize.ShloMosaic.Lib.Pointwise
public import Idealize.ShloMosaic.Lib.Claim
public import proofs.«01_k».proof.Defs

@[expose] public section

set_option maxRecDepth 16384

noncomputable section

namespace Cert.Scan

open Cert.KernelIdeal Cert.KernelIdeal.Gen
open Idealize.ShloMosaic Idealize.ShloMosaic.TcCoe Idealize.ShloMosaic.Tactic
open Idealize.SL Idealize.SL.RA Idealize.SL.BI

private theorem hz2 : (![0, 0] : Fin 2 → ℕ) = fun _ => 0 := by decide
private theorem hz3 : (![0, 0, 0] : Fin 3 → ℕ) = fun _ => 0 := by decide

set_option maxHeartbeats 2000000 in
/-- What the body stores in output 2. -/
theorem body_10 (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S1x1x512 .f32) (harg3 : arg3.IsWhole) (arg4 : Memref sig .tc .vmem S1x1x512 .f32) (harg4 : arg4.IsWhole) (arg5 : Memref sig .tc .vmem S1x128x512 .bf16) (harg5 : arg5.IsWhole) (arg6 : Memref sig .tc .vmem S1x128x512 .bf16) (harg6 : arg6.IsWhole) (arg7 : Memref sig .tc .vmem S1x128x512 .bf16) (harg7 : arg7.IsWhole) (arg8 : Memref sig .tc .vmem S1x128x512 .bf16) (harg8 : arg8.IsWhole) (arg9 : Memref sig .tc .vmem S1x128 .f32) (harg9 : arg9.IsWhole) (arg10 : Memref sig .tc .vmem S2048x128 .f32) (harg10 : arg10.IsWhole) (arg11 : Memref sig .tc .vmem S1x128x512 .f32) (harg11 : arg11.IsWhole) (arg12 : Memref sig .tc .vmem S1x128x512 .f32) (harg12 : arg12.IsWhole) (arg13 : Memref sig .tc .vmem S1x512x128 .f32) (harg13 : arg13.IsWhole) (arg14 : Memref sig .tc .vmem S1x512x128 .f32) (harg14 : arg14.IsWhole) (arg15 : Memref sig .tc .vmem S1x1x512 .f32) (harg15 : arg15.IsWhole) (arg16 : Memref sig .tc .vmem S1x1x512 .f32) (harg16 : arg16.IsWhole) (arg17 : Memref sig .tc .vmem S1x128 .f32) (harg17 : arg17.IsWhole) (arg18 : Memref sig .tc .vmem S2048x512 .f32) (harg18 : arg18.IsWhole) (arg19 : Memref sig .tc .vmem S2048x512 .f32) (harg19 : arg19.IsWhole) (arg20 : Memref sig .tc .vmem S2048x512 .f32) (harg20 : arg20.IsWhole) (arg21 : Memref sig .tc .vmem S2048x512 .f32) (harg21 : arg21.IsWhole) (arg22 : Memref sig .tc .vmem S16x512 .f32) (harg22 : arg22.IsWhole) (arg23 : Memref sig .tc .vmem S16x512 .f32) (harg23 : arg23.IsWhole)
    (x0 : Vec Ideal S2048x128 .f32) (x1 : Vec Ideal S2048x128 .f32) (x2 : Vec Ideal S1x1x512 .f32) (x3 : Vec Ideal S1x1x512 .f32) (x4 : Vec Ideal S1x128x512 .bf16) (x5 : Vec Ideal S1x128x512 .bf16) (x6 : Vec Ideal S1x128x512 .bf16) (x7 : Vec Ideal S1x128x512 .bf16) (x8 : Vec Ideal S1x128 .f32) {I : Inp} (h : I.Holds x0 x1 x2 x3 x4 x5 x6 x7 x8) :
    Stores S1x128x512 ![0, 0, 0] inb_S1x128x512_S1x128x512_0_0_0 (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).2.1 (fun P => ∀ (n : Fin 128) (q : Fin 512), P (ix3 (0 : Fin 1) n q) = (I.dbr n q : EReal)) := by
  unfold kernelRun0_A
  dsimp only
  sl_unfold_words
  generalize hX0 : View.readAt (Elt Ideal) arg1.view (Rect.unit (s := S2048x128) ![0, 0] S2048x128.size inb_S2048x128_S2048x128_0_0).toLoadRect (harg1.unread x0) = X0
  generalize hX1 : View.readAt (Elt Ideal) arg2.view (Rect.unit (s := S2048x128) ![0, 0] S2048x128.size inb_S2048x128_S2048x128_0_0).toLoadRect (harg2.unread x1) = X1
  generalize hX2 : View.readAt (Elt Ideal) arg3.view (Rect.unit (s := S1x1x512) ![0, 0, 0] S1x1x512.size inb_S1x1x512_S1x1x512_0_0_0).toLoadRect (harg3.unread x2) = X2
  generalize hX3 : View.readAt (Elt Ideal) arg4.view (Rect.unit (s := S1x1x512) ![0, 0, 0] S1x1x512.size inb_S1x1x512_S1x1x512_0_0_0).toLoadRect (harg4.unread x3) = X3
  generalize hX4 : View.readAt (Elt Ideal) arg5.view (Rect.unit (s := S1x128x512) ![0, 0, 0] S1x128x512.size inb_S1x128x512_S1x128x512_0_0_0).toLoadRect (harg5.unread x4) = X4
  generalize hX5 : View.readAt (Elt Ideal) arg6.view (Rect.unit (s := S1x128x512) ![0, 0, 0] S1x128x512.size inb_S1x128x512_S1x128x512_0_0_0).toLoadRect (harg6.unread x5) = X5
  generalize hX6 : View.readAt (Elt Ideal) arg7.view (Rect.unit (s := S1x128x512) ![0, 0, 0] S1x128x512.size inb_S1x128x512_S1x128x512_0_0_0).toLoadRect (harg7.unread x6) = X6
  generalize hX7 : View.readAt (Elt Ideal) arg8.view (Rect.unit (s := S1x128x512) ![0, 0, 0] S1x128x512.size inb_S1x128x512_S1x128x512_0_0_0).toLoadRect (harg8.unread x7) = X7
  generalize hX8 : View.readAt (Elt Ideal) arg9.view (Rect.unit (s := S1x128) ![0, 0] S1x128.size inb_S1x128_S1x128_0_0).toLoadRect (harg9.unread x8) = X8
  generalize hv1 : k0_pay2 X2 = v1
  generalize hv3 : k0_pay3 X3 = v3
  generalize hv23 : k0_pay10 X2 = v23
  generalize hv25 : k0_pay11 X3 = v25
  generalize hv74 : k0_pay30 v1 v3 = v74
  generalize hv77 : k0_pay31 v1 v3 = v77
  generalize hs1 : st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _ _ _ _ _ _ _ _ = S1
  generalize hcm0 : View.readCov (Val := Elt Ideal) arg22.view _ (Rect.unit (s := S16x512) ![0, 0] S8x512.size inb_S16x512_S8x512_0_0).toLoadRect = cm0
  generalize hcm1 : View.readCov (Val := Elt Ideal) arg22.view _ (Rect.unit (s := S16x512) ![8, 0] S8x512.size inb_S16x512_S8x512_8_0).toLoadRect = cm1
  generalize hs2 : st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _ _ _ _ _ _ _ _ _ _ _ _ _ = S2
  generalize hs3 : st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _ _ _ _ _ _ = S3
  generalize hcb0 : View.readCov (Val := Elt Ideal) arg23.view _ (Rect.unit (s := S16x512) ![0, 0] S8x512.size inb_S16x512_S8x512_0_0).toLoadRect = cb0
  generalize hcb1 : View.readCov (Val := Elt Ideal) arg23.view _ (Rect.unit (s := S16x512) ![8, 0] S8x512.size inb_S16x512_S8x512_8_0).toLoadRect = cb1
  generalize hs4 : st_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _ _ _ _ _ _ _ _ = S4
  replace hX0 : x0 = X0 := by rw [← hX0, View.readAt_eq_ld, harg1.read_unread]; exact (View.ld_unit_zero (S := S2048x128) hz2 _ x0).symm
  subst hX0
  replace hX1 : x1 = X1 := by rw [← hX1, View.readAt_eq_ld, harg2.read_unread]; exact (View.ld_unit_zero (S := S2048x128) hz2 _ x1).symm
  subst hX1
  replace hX2 : x2 = X2 := by rw [← hX2, View.readAt_eq_ld, harg3.read_unread]; exact (View.ld_unit_zero (S := S1x1x512) hz3 _ x2).symm
  subst hX2
  replace hX3 : x3 = X3 := by rw [← hX3, View.readAt_eq_ld, harg4.read_unread]; exact (View.ld_unit_zero (S := S1x1x512) hz3 _ x3).symm
  subst hX3
  replace hX4 : x4 = X4 := by rw [← hX4, View.readAt_eq_ld, harg5.read_unread]; exact (View.ld_unit_zero (S := S1x128x512) hz3 _ x4).symm
  subst hX4
  replace hX5 : x5 = X5 := by rw [← hX5, View.readAt_eq_ld, harg6.read_unread]; exact (View.ld_unit_zero (S := S1x128x512) hz3 _ x5).symm
  subst hX5
  replace hX6 : x6 = X6 := by rw [← hX6, View.readAt_eq_ld, harg7.read_unread]; exact (View.ld_unit_zero (S := S1x128x512) hz3 _ x6).symm
  subst hX6
  replace hX7 : x7 = X7 := by rw [← hX7, View.readAt_eq_ld, harg8.read_unread]; exact (View.ld_unit_zero (S := S1x128x512) hz3 _ x7).symm
  subst hX7
  replace hX8 : x8 = X8 := by rw [← hX8, View.readAt_eq_ld, harg9.read_unread]; exact (View.ld_unit_zero (S := S1x128) hz2 _ x8).symm
  subst hX8
  subst hv1 hv3 hv23 hv25 hv74 hv77
  have hR := (CArr.load (CArr.whole (v₀ := arg18.view) (v₁ := arg19.view) (f₀ := arg18.view.junk) (f₁ := arg19.view.junk) h.z) (h := 8) (w := 512) (off := ![0, 0]) rfl inb_S2048x512_S8x512_0_0).congr
    (fun r q _ _ => show I.Z (0 + r) (0 + q) = I.Z r q by rw [Nat.zero_add, Nat.zero_add])
  obtain ⟨hcm, hX⟩ := stage12 c i harg1 harg2 harg3 harg4 harg5 harg6 harg7 harg8 harg9 harg10 harg11 harg12 harg13 harg14 harg15 harg16 harg17 harg18 harg19 harg20 harg21 harg22 harg23 I h.a8 (CArr.whole h.z) hR hs1 (by decide +kernel)
    (fun t => by rw [← hcm0, ← hcm1]; exact carryF arg22.view t (apow h.a1)) hs2 (by decide +kernel)
  have hx := (CArr.load hX (h := 2048) (w := 512) (off := ![0, 0]) rfl inb_S2048x512_S2048x512_0_0).congr
    (fun r q _ _ => show I.x (timeOf (0 + r)) (0 + q) = I.x (timeOf r) q by rw [Nat.zero_add, Nat.zero_add])
  have hR' := (CArr.load (CArr.whole (v₀ := arg20.view) (v₁ := arg21.view) (f₀ := arg20.view.junk) (f₁ := arg21.view.junk) h.dz) (h := 8) (w := 512) (off := ![2040, 0]) rfl inb_S2048x512_S8x512_2040_0).congr
    (fun r q _ _ => show I.D (2040 + r) (0 + q) = I.D (2040 + r) q by rw [Nat.zero_add])
  obtain ⟨hG, hacc⟩ := stage34 c i harg1 harg2 harg3 harg4 harg5 harg6 harg7 harg8 harg9 harg10 harg11 harg12 harg13 harg14 harg15 harg16 harg17 harg18 harg19 harg20 harg21 harg22 harg23 I h.a8' h.b8 czero (CArr.whole h.dz) hR' hcm hX hs3 (by decide +kernel)
    (fun t => by rw [← hcb0, ← hcb1]; exact carryB arg23.view t h.a1) hs4 (by decide +kernel)
  have hg := (CArr.load hG (h := 2048) (w := 512) (off := ![0, 0]) rfl inb_S2048x512_S2048x512_0_0).congr
    (fun r q _ _ => show I.g (timeOf (0 + r)) (0 + q) = I.g (timeOf r) q by rw [Nat.zero_add, Nat.zero_add])
  refine ⟨_, rfl, fun n q => (pay146_val _ _ n q).trans ?_⟩
  exact sum_mul_coe (fun r => h.h0 r n) (fun r => (hg.at r q).1)

end Cert.Scan
-- ==== Proof.Scan.Dbi.lean ====
/-
  The kernel's body at one block of eight groups: what it stores in each of its eight outputs, in terms of the forward
  and the backward scan over time.
-/
module

public import proofs.«01_k».proof.Proof.Gen.KernelIdeal.Frame.RunA
public import proofs.«01_k».proof.Proof.Scan.Stage
public import proofs.«01_k».proof.Proof.Scan.Stores
public import Idealize.ShloMosaic.Lib.Pointwise
public import Idealize.ShloMosaic.Lib.Claim
public import proofs.«01_k».proof.Defs

@[expose] public section

set_option maxRecDepth 16384

noncomputable section

namespace Cert.Scan

open Cert.KernelIdeal Cert.KernelIdeal.Gen
open Idealize.ShloMosaic Idealize.ShloMosaic.TcCoe Idealize.ShloMosaic.Tactic
open Idealize.SL Idealize.SL.RA Idealize.SL.BI

private theorem hz2 : (![0, 0] : Fin 2 → ℕ) = fun _ => 0 := by decide
private theorem hz3 : (![0, 0, 0] : Fin 3 → ℕ) = fun _ => 0 := by decide

set_option maxHeartbeats 2000000 in
/-- What the body stores in output 3. -/
theorem body_11 (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S1x1x512 .f32) (harg3 : arg3.IsWhole) (arg4 : Memref sig .tc .vmem S1x1x512 .f32) (harg4 : arg4.IsWhole) (arg5 : Memref sig .tc .vmem S1x128x512 .bf16) (harg5 : arg5.IsWhole) (arg6 : Memref sig .tc .vmem S1x128x512 .bf16) (harg6 : arg6.IsWhole) (arg7 : Memref sig .tc .vmem S1x128x512 .bf16) (harg7 : arg7.IsWhole) (arg8 : Memref sig .tc .vmem S1x128x512 .bf16) (harg8 : arg8.IsWhole) (arg9 : Memref sig .tc .vmem S1x128 .f32) (harg9 : arg9.IsWhole) (arg10 : Memref sig .tc .vmem S2048x128 .f32) (harg10 : arg10.IsWhole) (arg11 : Memref sig .tc .vmem S1x128x512 .f32) (harg11 : arg11.IsWhole) (arg12 : Memref sig .tc .vmem S1x128x512 .f32) (harg12 : arg12.IsWhole) (arg13 : Memref sig .tc .vmem S1x512x128 .f32) (harg13 : arg13.IsWhole) (arg14 : Memref sig .tc .vmem S1x512x128 .f32) (harg14 : arg14.IsWhole) (arg15 : Memref sig .tc .vmem S1x1x512 .f32) (harg15 : arg15.IsWhole) (arg16 : Memref sig .tc .vmem S1x1x512 .f32) (harg16 : arg16.IsWhole) (arg17 : Memref sig .tc .vmem S1x128 .f32) (harg17 : arg17.IsWhole) (arg18 : Memref sig .tc .vmem S2048x512 .f32) (harg18 : arg18.IsWhole) (arg19 : Memref sig .tc .vmem S2048x512 .f32) (harg19 : arg19.IsWhole) (arg20 : Memref sig .tc .vmem S2048x512 .f32) (harg20 : arg20.IsWhole) (arg21 : Memref sig .tc .vmem S2048x512 .f32) (harg21 : arg21.IsWhole) (arg22 : Memref sig .tc .vmem S16x512 .f32) (harg22 : arg22.IsWhole) (arg23 : Memref sig .tc .vmem S16x512 .f32) (harg23 : arg23.IsWhole)
    (x0 : Vec Ideal S2048x128 .f32) (x1 : Vec Ideal S2048x128 .f32) (x2 : Vec Ideal S1x1x512 .f32) (x3 : Vec Ideal S1x1x512 .f32) (x4 : Vec Ideal S1x128x512 .bf16) (x5 : Vec Ideal S1x128x512 .bf16) (x6 : Vec Ideal S1x128x512 .bf16) (x7 : Vec Ideal S1x128x512 .bf16) (x8 : Vec Ideal S1x128 .f32) {I : Inp} (h : I.Holds x0 x1 x2 x3 x4 x5 x6 x7 x8) :
    Stores S1x128x512 ![0, 0, 0] inb_S1x128x512_S1x128x512_0_0_0 (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).2.2.1 (fun P => ∀ (n : Fin 128) (q : Fin 512), P (ix3 (0 : Fin 1) n q) = (I.dbi n q : EReal)) := by
  unfold kernelRun0_A
  dsimp only
  sl_unfold_words
  generalize hX0 : View.readAt (Elt Ideal) arg1.view (Rect.unit (s := S2048x128) ![0, 0] S2048x128.size inb_S2048x128_S2048x128_0_0).toLoadRect (harg1.unread x0) = X0
  generalize hX1 : View.readAt (Elt Ideal) arg2.view (Rect.unit (s := S2048x128) ![0, 0] S2048x128.size inb_S2048x128_S2048x128_0_0).toLoadRect (harg2.unread x1) = X1
  generalize hX2 : View.readAt (Elt Ideal) arg3.view (Rect.unit (s := S1x1x512) ![0, 0, 0] S1x1x512.size inb_S1x1x512_S1x1x512_0_0_0).toLoadRect (harg3.unread x2) = X2
  generalize hX3 : View.readAt (Elt Ideal) arg4.view (Rect.unit (s := S1x1x512) ![0, 0, 0] S1x1x512.size inb_S1x1x512_S1x1x512_0_0_0).toLoadRect (harg4.unread x3) = X3
  generalize hX4 : View.readAt (Elt Ideal) arg5.view (Rect.unit (s := S1x128x512) ![0, 0, 0] S1x128x512.size inb_S1x128x512_S1x128x512_0_0_0).toLoadRect (harg5.unread x4) = X4
  generalize hX5 : View.readAt (Elt Ideal) arg6.view (Rect.unit (s := S1x128x512) ![0, 0, 0] S1x128x512.size inb_S1x128x512_S1x128x512_0_0_0).toLoadRect (harg6.unread x5) = X5
  generalize hX6 : View.readAt (Elt Ideal) arg7.view (Rect.unit (s := S1x128x512) ![0, 0, 0] S1x128x512.size inb_S1x128x512_S1x128x512_0_0_0).toLoadRect (harg7.unread x6) = X6
  generalize hX7 : View.readAt (Elt Ideal) arg8.view (Rect.unit (s := S1x128x512) ![0, 0, 0] S1x128x512.size inb_S1x128x512_S1x128x512_0_0_0).toLoadRect (harg8.unread x7) = X7
  generalize hX8 : View.readAt (Elt Ideal) arg9.view (Rect.unit (s := S1x128) ![0, 0] S1x128.size inb_S1x128_S1x128_0_0).toLoadRect (harg9.unread x8) = X8
  generalize hv1 : k0_pay2 X2 = v1
  generalize hv3 : k0_pay3 X3 = v3
  generalize hv23 : k0_pay10 X2 = v23
  generalize hv25 : k0_pay11 X3 = v25
  generalize hv74 : k0_pay30 v1 v3 = v74
  generalize hv77 : k0_pay31 v1 v3 = v77
  generalize hs1 : st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _ _ _ _ _ _ _ _ = S1
  generalize hcm0 : View.readCov (Val := Elt Ideal) arg22.view _ (Rect.unit (s := S16x512) ![0, 0] S8x512.size inb_S16x512_S8x512_0_0).toLoadRect = cm0
  generalize hcm1 : View.readCov (Val := Elt Ideal) arg22.view _ (Rect.unit (s := S16x512) ![8, 0] S8x512.size inb_S16x512_S8x512_8_0).toLoadRect = cm1
  generalize hs2 : st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _ _ _ _ _ _ _ _ _ _ _ _ _ = S2
  generalize hs3 : st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _ _ _ _ _ _ = S3
  generalize hcb0 : View.readCov (Val := Elt Ideal) arg23.view _ (Rect.unit (s := S16x512) ![0, 0] S8x512.size inb_S16x512_S8x512_0_0).toLoadRect = cb0
  generalize hcb1 : View.readCov (Val := Elt Ideal) arg23.view _ (Rect.unit (s := S16x512) ![8, 0] S8x512.size inb_S16x512_S8x512_8_0).toLoadRect = cb1
  generalize hs4 : st_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _ _ _ _ _ _ _ _ = S4
  replace hX0 : x0 = X0 := by rw [← hX0, View.readAt_eq_ld, harg1.read_unread]; exact (View.ld_unit_zero (S := S2048x128) hz2 _ x0).symm
  subst hX0
  replace hX1 : x1 = X1 := by rw [← hX1, View.readAt_eq_ld, harg2.read_unread]; exact (View.ld_unit_zero (S := S2048x128) hz2 _ x1).symm
  subst hX1
  replace hX2 : x2 = X2 := by rw [← hX2, View.readAt_eq_ld, harg3.read_unread]; exact (View.ld_unit_zero (S := S1x1x512) hz3 _ x2).symm
  subst hX2
  replace hX3 : x3 = X3 := by rw [← hX3, View.readAt_eq_ld, harg4.read_unread]; exact (View.ld_unit_zero (S := S1x1x512) hz3 _ x3).symm
  subst hX3
  replace hX4 : x4 = X4 := by rw [← hX4, View.readAt_eq_ld, harg5.read_unread]; exact (View.ld_unit_zero (S := S1x128x512) hz3 _ x4).symm
  subst hX4
  replace hX5 : x5 = X5 := by rw [← hX5, View.readAt_eq_ld, harg6.read_unread]; exact (View.ld_unit_zero (S := S1x128x512) hz3 _ x5).symm
  subst hX5
  replace hX6 : x6 = X6 := by rw [← hX6, View.readAt_eq_ld, harg7.read_unread]; exact (View.ld_unit_zero (S := S1x128x512) hz3 _ x6).symm
  subst hX6
  replace hX7 : x7 = X7 := by rw [← hX7, View.readAt_eq_ld, harg8.read_unread]; exact (View.ld_unit_zero (S := S1x128x512) hz3 _ x7).symm
  subst hX7
  replace hX8 : x8 = X8 := by rw [← hX8, View.readAt_eq_ld, harg9.read_unread]; exact (View.ld_unit_zero (S := S1x128) hz2 _ x8).symm
  subst hX8
  subst hv1 hv3 hv23 hv25 hv74 hv77
  have hR := (CArr.load (CArr.whole (v₀ := arg18.view) (v₁ := arg19.view) (f₀ := arg18.view.junk) (f₁ := arg19.view.junk) h.z) (h := 8) (w := 512) (off := ![0, 0]) rfl inb_S2048x512_S8x512_0_0).congr
    (fun r q _ _ => show I.Z (0 + r) (0 + q) = I.Z r q by rw [Nat.zero_add, Nat.zero_add])
  obtain ⟨hcm, hX⟩ := stage12 c i harg1 harg2 harg3 harg4 harg5 harg6 harg7 harg8 harg9 harg10 harg11 harg12 harg13 harg14 harg15 harg16 harg17 harg18 harg19 harg20 harg21 harg22 harg23 I h.a8 (CArr.whole h.z) hR hs1 (by decide +kernel)
    (fun t => by rw [← hcm0, ← hcm1]; exact carryF arg22.view t (apow h.a1)) hs2 (by decide +kernel)
  have hx := (CArr.load hX (h := 2048) (w := 512) (off := ![0, 0]) rfl inb_S2048x512_S2048x512_0_0).congr
    (fun r q _ _ => show I.x (timeOf (0 + r)) (0 + q) = I.x (timeOf r) q by rw [Nat.zero_add, Nat.zero_add])
  have hR' := (CArr.load (CArr.whole (v₀ := arg20.view) (v₁ := arg21.view) (f₀ := arg20.view.junk) (f₁ := arg21.view.junk) h.dz) (h := 8) (w := 512) (off := ![2040, 0]) rfl inb_S2048x512_S8x512_2040_0).congr
    (fun r q _ _ => show I.D (2040 + r) (0 + q) = I.D (2040 + r) q by rw [Nat.zero_add])
  obtain ⟨hG, hacc⟩ := stage34 c i harg1 harg2 harg3 harg4 harg5 harg6 harg7 harg8 harg9 harg10 harg11 harg12 harg13 harg14 harg15 harg16 harg17 harg18 harg19 harg20 harg21 harg22 harg23 I h.a8' h.b8 czero (CArr.whole h.dz) hR' hcm hX hs3 (by decide +kernel)
    (fun t => by rw [← hcb0, ← hcb1]; exact carryB arg23.view t h.a1) hs4 (by decide +kernel)
  have hg := (CArr.load hG (h := 2048) (w := 512) (off := ![0, 0]) rfl inb_S2048x512_S2048x512_0_0).congr
    (fun r q _ _ => show I.g (timeOf (0 + r)) (0 + q) = I.g (timeOf r) q by rw [Nat.zero_add, Nat.zero_add])
  refine ⟨_, rfl, fun n q => (pay147_val _ _ n q).trans ?_⟩
  exact sum_mul_coe (fun r => h.h0 r n) (fun r => (hg.at r q).2)

end Cert.Scan
-- ==== Proof.Scan.Dcr.lean ====
/-
  The kernel's body at one block of eight groups: what it stores in each of its eight outputs, in terms of the forward
  and the backward scan over time.
-/
module

public import proofs.«01_k».proof.Proof.Gen.KernelIdeal.Frame.RunA
public import proofs.«01_k».proof.Proof.Scan.Stage
public import proofs.«01_k».proof.Proof.Scan.Stores
public import Idealize.ShloMosaic.Lib.Pointwise
public import Idealize.ShloMosaic.Lib.Claim
public import proofs.«01_k».proof.Defs

@[expose] public section

set_option maxRecDepth 16384

noncomputable section

namespace Cert.Scan

open Cert.KernelIdeal Cert.KernelIdeal.Gen
open Idealize.ShloMosaic Idealize.ShloMosaic.TcCoe Idealize.ShloMosaic.Tactic
open Idealize.SL Idealize.SL.RA Idealize.SL.BI

private theorem hz2 : (![0, 0] : Fin 2 → ℕ) = fun _ => 0 := by decide
private theorem hz3 : (![0, 0, 0] : Fin 3 → ℕ) = fun _ => 0 := by decide

set_option maxHeartbeats 2000000 in
/-- What the body stores in output 4. -/
theorem body_12 (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S1x1x512 .f32) (harg3 : arg3.IsWhole) (arg4 : Memref sig .tc .vmem S1x1x512 .f32) (harg4 : arg4.IsWhole) (arg5 : Memref sig .tc .vmem S1x128x512 .bf16) (harg5 : arg5.IsWhole) (arg6 : Memref sig .tc .vmem S1x128x512 .bf16) (harg6 : arg6.IsWhole) (arg7 : Memref sig .tc .vmem S1x128x512 .bf16) (harg7 : arg7.IsWhole) (arg8 : Memref sig .tc .vmem S1x128x512 .bf16) (harg8 : arg8.IsWhole) (arg9 : Memref sig .tc .vmem S1x128 .f32) (harg9 : arg9.IsWhole) (arg10 : Memref sig .tc .vmem S2048x128 .f32) (harg10 : arg10.IsWhole) (arg11 : Memref sig .tc .vmem S1x128x512 .f32) (harg11 : arg11.IsWhole) (arg12 : Memref sig .tc .vmem S1x128x512 .f32) (harg12 : arg12.IsWhole) (arg13 : Memref sig .tc .vmem S1x512x128 .f32) (harg13 : arg13.IsWhole) (arg14 : Memref sig .tc .vmem S1x512x128 .f32) (harg14 : arg14.IsWhole) (arg15 : Memref sig .tc .vmem S1x1x512 .f32) (harg15 : arg15.IsWhole) (arg16 : Memref sig .tc .vmem S1x1x512 .f32) (harg16 : arg16.IsWhole) (arg17 : Memref sig .tc .vmem S1x128 .f32) (harg17 : arg17.IsWhole) (arg18 : Memref sig .tc .vmem S2048x512 .f32) (harg18 : arg18.IsWhole) (arg19 : Memref sig .tc .vmem S2048x512 .f32) (harg19 : arg19.IsWhole) (arg20 : Memref sig .tc .vmem S2048x512 .f32) (harg20 : arg20.IsWhole) (arg21 : Memref sig .tc .vmem S2048x512 .f32) (harg21 : arg21.IsWhole) (arg22 : Memref sig .tc .vmem S16x512 .f32) (harg22 : arg22.IsWhole) (arg23 : Memref sig .tc .vmem S16x512 .f32) (harg23 : arg23.IsWhole)
    (x0 : Vec Ideal S2048x128 .f32) (x1 : Vec Ideal S2048x128 .f32) (x2 : Vec Ideal S1x1x512 .f32) (x3 : Vec Ideal S1x1x512 .f32) (x4 : Vec Ideal S1x128x512 .bf16) (x5 : Vec Ideal S1x128x512 .bf16) (x6 : Vec Ideal S1x128x512 .bf16) (x7 : Vec Ideal S1x128x512 .bf16) (x8 : Vec Ideal S1x128 .f32) {I : Inp} (h : I.Holds x0 x1 x2 x3 x4 x5 x6 x7 x8) :
    Stores S1x512x128 ![0, 0, 0] inb_S1x512x128_S1x512x128_0_0_0 (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).2.2.2.1 (fun P => ∀ (q : Fin 512) (n : Fin 128), P (ix3 (0 : Fin 1) q n) = (I.dcr q n : EReal)) := by
  unfold kernelRun0_A
  dsimp only
  sl_unfold_words
  generalize hX0 : View.readAt (Elt Ideal) arg1.view (Rect.unit (s := S2048x128) ![0, 0] S2048x128.size inb_S2048x128_S2048x128_0_0).toLoadRect (harg1.unread x0) = X0
  generalize hX1 : View.readAt (Elt Ideal) arg2.view (Rect.unit (s := S2048x128) ![0, 0] S2048x128.size inb_S2048x128_S2048x128_0_0).toLoadRect (harg2.unread x1) = X1
  generalize hX2 : View.readAt (Elt Ideal) arg3.view (Rect.unit (s := S1x1x512) ![0, 0, 0] S1x1x512.size inb_S1x1x512_S1x1x512_0_0_0).toLoadRect (harg3.unread x2) = X2
  generalize hX3 : View.readAt (Elt Ideal) arg4.view (Rect.unit (s := S1x1x512) ![0, 0, 0] S1x1x512.size inb_S1x1x512_S1x1x512_0_0_0).toLoadRect (harg4.unread x3) = X3
  generalize hX4 : View.readAt (Elt Ideal) arg5.view (Rect.unit (s := S1x128x512) ![0, 0, 0] S1x128x512.size inb_S1x128x512_S1x128x512_0_0_0).toLoadRect (harg5.unread x4) = X4
  generalize hX5 : View.readAt (Elt Ideal) arg6.view (Rect.unit (s := S1x128x512) ![0, 0, 0] S1x128x512.size inb_S1x128x512_S1x128x512_0_0_0).toLoadRect (harg6.unread x5) = X5
  generalize hX6 : View.readAt (Elt Ideal) arg7.view (Rect.unit (s := S1x128x512) ![0, 0, 0] S1x128x512.size inb_S1x128x512_S1x128x512_0_0_0).toLoadRect (harg7.unread x6) = X6
  generalize hX7 : View.readAt (Elt Ideal) arg8.view (Rect.unit (s := S1x128x512) ![0, 0, 0] S1x128x512.size inb_S1x128x512_S1x128x512_0_0_0).toLoadRect (harg8.unread x7) = X7
  generalize hX8 : View.readAt (Elt Ideal) arg9.view (Rect.unit (s := S1x128) ![0, 0] S1x128.size inb_S1x128_S1x128_0_0).toLoadRect (harg9.unread x8) = X8
  generalize hv1 : k0_pay2 X2 = v1
  generalize hv3 : k0_pay3 X3 = v3
  generalize hv23 : k0_pay10 X2 = v23
  generalize hv25 : k0_pay11 X3 = v25
  generalize hv74 : k0_pay30 v1 v3 = v74
  generalize hv77 : k0_pay31 v1 v3 = v77
  generalize hs1 : st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _ _ _ _ _ _ _ _ = S1
  generalize hcm0 : View.readCov (Val := Elt Ideal) arg22.view _ (Rect.unit (s := S16x512) ![0, 0] S8x512.size inb_S16x512_S8x512_0_0).toLoadRect = cm0
  generalize hcm1 : View.readCov (Val := Elt Ideal) arg22.view _ (Rect.unit (s := S16x512) ![8, 0] S8x512.size inb_S16x512_S8x512_8_0).toLoadRect = cm1
  generalize hs2 : st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _ _ _ _ _ _ _ _ _ _ _ _ _ = S2
  replace hX0 : x0 = X0 := by rw [← hX0, View.readAt_eq_ld, harg1.read_unread]; exact (View.ld_unit_zero (S := S2048x128) hz2 _ x0).symm
  subst hX0
  replace hX1 : x1 = X1 := by rw [← hX1, View.readAt_eq_ld, harg2.read_unread]; exact (View.ld_unit_zero (S := S2048x128) hz2 _ x1).symm
  subst hX1
  replace hX2 : x2 = X2 := by rw [← hX2, View.readAt_eq_ld, harg3.read_unread]; exact (View.ld_unit_zero (S := S1x1x512) hz3 _ x2).symm
  subst hX2
  replace hX3 : x3 = X3 := by rw [← hX3, View.readAt_eq_ld, harg4.read_unread]; exact (View.ld_unit_zero (S := S1x1x512) hz3 _ x3).symm
  subst hX3
  replace hX4 : x4 = X4 := by rw [← hX4, View.readAt_eq_ld, harg5.read_unread]; exact (View.ld_unit_zero (S := S1x128x512) hz3 _ x4).symm
  subst hX4
  replace hX5 : x5 = X5 := by rw [← hX5, View.readAt_eq_ld, harg6.read_unread]; exact (View.ld_unit_zero (S := S1x128x512) hz3 _ x5).symm
  subst hX5
  replace hX6 : x6 = X6 := by rw [← hX6, View.readAt_eq_ld, harg7.read_unread]; exact (View.ld_unit_zero (S := S1x128x512) hz3 _ x6).symm
  subst hX6
  replace hX7 : x7 = X7 := by rw [← hX7, View.readAt_eq_ld, harg8.read_unread]; exact (View.ld_unit_zero (S := S1x128x512) hz3 _ x7).symm
  subst hX7
  replace hX8 : x8 = X8 := by rw [← hX8, View.readAt_eq_ld, harg9.read_unread]; exact (View.ld_unit_zero (S := S1x128) hz2 _ x8).symm
  subst hX8
  subst hv1 hv3 hv23 hv25 hv74 hv77
  have hR := (CArr.load (CArr.whole (v₀ := arg18.view) (v₁ := arg19.view) (f₀ := arg18.view.junk) (f₁ := arg19.view.junk) h.z) (h := 8) (w := 512) (off := ![0, 0]) rfl inb_S2048x512_S8x512_0_0).congr
    (fun r q _ _ => show I.Z (0 + r) (0 + q) = I.Z r q by rw [Nat.zero_add, Nat.zero_add])
  obtain ⟨hcm, hX⟩ := stage12 c i harg1 harg2 harg3 harg4 harg5 harg6 harg7 harg8 harg9 harg10 harg11 harg12 harg13 harg14 harg15 harg16 harg17 harg18 harg19 harg20 harg21 harg22 harg23 I h.a8 (CArr.whole h.z) hR hs1 (by decide +kernel)
    (fun t => by rw [← hcm0, ← hcm1]; exact carryF arg22.view t (apow h.a1)) hs2 (by decide +kernel)
  have hx := (CArr.load hX (h := 2048) (w := 512) (off := ![0, 0]) rfl inb_S2048x512_S2048x512_0_0).congr
    (fun r q _ _ => show I.x (timeOf (0 + r)) (0 + q) = I.x (timeOf r) q by rw [Nat.zero_add, Nat.zero_add])
  refine ⟨_, rfl, fun q n => (pay70_val _ _ q n).trans ?_⟩
  exact sum_mul_coe (fun r => (hx.at r q).1) (fun r => h.h1 r n)

end Cert.Scan
-- ==== Proof.Scan.Dci.lean ====
/-
  The kernel's body at one block of eight groups: what it stores in each of its eight outputs, in terms of the forward
  and the backward scan over time.
-/
module

public import proofs.«01_k».proof.Proof.Gen.KernelIdeal.Frame.RunA
public import proofs.«01_k».proof.Proof.Scan.Stage
public import proofs.«01_k».proof.Proof.Scan.Stores
public import Idealize.ShloMosaic.Lib.Pointwise
public import Idealize.ShloMosaic.Lib.Claim
public import proofs.«01_k».proof.Defs

@[expose] public section

set_option maxRecDepth 16384

noncomputable section

namespace Cert.Scan

open Cert.KernelIdeal Cert.KernelIdeal.Gen
open Idealize.ShloMosaic Idealize.ShloMosaic.TcCoe Idealize.ShloMosaic.Tactic
open Idealize.SL Idealize.SL.RA Idealize.SL.BI

private theorem hz2 : (![0, 0] : Fin 2 → ℕ) = fun _ => 0 := by decide
private theorem hz3 : (![0, 0, 0] : Fin 3 → ℕ) = fun _ => 0 := by decide

set_option maxHeartbeats 2000000 in
/-- What the body stores in output 5. -/
theorem body_13 (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S1x1x512 .f32) (harg3 : arg3.IsWhole) (arg4 : Memref sig .tc .vmem S1x1x512 .f32) (harg4 : arg4.IsWhole) (arg5 : Memref sig .tc .vmem S1x128x512 .bf16) (harg5 : arg5.IsWhole) (arg6 : Memref sig .tc .vmem S1x128x512 .bf16) (harg6 : arg6.IsWhole) (arg7 : Memref sig .tc .vmem S1x128x512 .bf16) (harg7 : arg7.IsWhole) (arg8 : Memref sig .tc .vmem S1x128x512 .bf16) (harg8 : arg8.IsWhole) (arg9 : Memref sig .tc .vmem S1x128 .f32) (harg9 : arg9.IsWhole) (arg10 : Memref sig .tc .vmem S2048x128 .f32) (harg10 : arg10.IsWhole) (arg11 : Memref sig .tc .vmem S1x128x512 .f32) (harg11 : arg11.IsWhole) (arg12 : Memref sig .tc .vmem S1x128x512 .f32) (harg12 : arg12.IsWhole) (arg13 : Memref sig .tc .vmem S1x512x128 .f32) (harg13 : arg13.IsWhole) (arg14 : Memref sig .tc .vmem S1x512x128 .f32) (harg14 : arg14.IsWhole) (arg15 : Memref sig .tc .vmem S1x1x512 .f32) (harg15 : arg15.IsWhole) (arg16 : Memref sig .tc .vmem S1x1x512 .f32) (harg16 : arg16.IsWhole) (arg17 : Memref sig .tc .vmem S1x128 .f32) (harg17 : arg17.IsWhole) (arg18 : Memref sig .tc .vmem S2048x512 .f32) (harg18 : arg18.IsWhole) (arg19 : Memref sig .tc .vmem S2048x512 .f32) (harg19 : arg19.IsWhole) (arg20 : Memref sig .tc .vmem S2048x512 .f32) (harg20 : arg20.IsWhole) (arg21 : Memref sig .tc .vmem S2048x512 .f32) (harg21 : arg21.IsWhole) (arg22 : Memref sig .tc .vmem S16x512 .f32) (harg22 : arg22.IsWhole) (arg23 : Memref sig .tc .vmem S16x512 .f32) (harg23 : arg23.IsWhole)
    (x0 : Vec Ideal S2048x128 .f32) (x1 : Vec Ideal S2048x128 .f32) (x2 : Vec Ideal S1x1x512 .f32) (x3 : Vec Ideal S1x1x512 .f32) (x4 : Vec Ideal S1x128x512 .bf16) (x5 : Vec Ideal S1x128x512 .bf16) (x6 : Vec Ideal S1x128x512 .bf16) (x7 : Vec Ideal S1x128x512 .bf16) (x8 : Vec Ideal S1x128 .f32) {I : Inp} (h : I.Holds x0 x1 x2 x3 x4 x5 x6 x7 x8) :
    Stores S1x512x128 ![0, 0, 0] inb_S1x512x128_S1x512x128_0_0_0 (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).2.2.2.2.1 (fun P => ∀ (q : Fin 512) (n : Fin 128), P (ix3 (0 : Fin 1) q n) = (I.dci q n : EReal)) := by
  unfold kernelRun0_A
  dsimp only
  sl_unfold_words
  generalize hX0 : View.readAt (Elt Ideal) arg1.view (Rect.unit (s := S2048x128) ![0, 0] S2048x128.size inb_S2048x128_S2048x128_0_0).toLoadRect (harg1.unread x0) = X0
  generalize hX1 : View.readAt (Elt Ideal) arg2.view (Rect.unit (s := S2048x128) ![0, 0] S2048x128.size inb_S2048x128_S2048x128_0_0).toLoadRect (harg2.unread x1) = X1
  generalize hX2 : View.readAt (Elt Ideal) arg3.view (Rect.unit (s := S1x1x512) ![0, 0, 0] S1x1x512.size inb_S1x1x512_S1x1x512_0_0_0).toLoadRect (harg3.unread x2) = X2
  generalize hX3 : View.readAt (Elt Ideal) arg4.view (Rect.unit (s := S1x1x512) ![0, 0, 0] S1x1x512.size inb_S1x1x512_S1x1x512_0_0_0).toLoadRect (harg4.unread x3) = X3
  generalize hX4 : View.readAt (Elt Ideal) arg5.view (Rect.unit (s := S1x128x512) ![0, 0, 0] S1x128x512.size inb_S1x128x512_S1x128x512_0_0_0).toLoadRect (harg5.unread x4) = X4
  generalize hX5 : View.readAt (Elt Ideal) arg6.view (Rect.unit (s := S1x128x512) ![0, 0, 0] S1x128x512.size inb_S1x128x512_S1x128x512_0_0_0).toLoadRect (harg6.unread x5) = X5
  generalize hX6 : View.readAt (Elt Ideal) arg7.view (Rect.unit (s := S1x128x512) ![0, 0, 0] S1x128x512.size inb_S1x128x512_S1x128x512_0_0_0).toLoadRect (harg7.unread x6) = X6
  generalize hX7 : View.readAt (Elt Ideal) arg8.view (Rect.unit (s := S1x128x512) ![0, 0, 0] S1x128x512.size inb_S1x128x512_S1x128x512_0_0_0).toLoadRect (harg8.unread x7) = X7
  generalize hX8 : View.readAt (Elt Ideal) arg9.view (Rect.unit (s := S1x128) ![0, 0] S1x128.size inb_S1x128_S1x128_0_0).toLoadRect (harg9.unread x8) = X8
  generalize hv1 : k0_pay2 X2 = v1
  generalize hv3 : k0_pay3 X3 = v3
  generalize hv23 : k0_pay10 X2 = v23
  generalize hv25 : k0_pay11 X3 = v25
  generalize hv74 : k0_pay30 v1 v3 = v74
  generalize hv77 : k0_pay31 v1 v3 = v77
  generalize hs1 : st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _ _ _ _ _ _ _ _ = S1
  generalize hcm0 : View.readCov (Val := Elt Ideal) arg22.view _ (Rect.unit (s := S16x512) ![0, 0] S8x512.size inb_S16x512_S8x512_0_0).toLoadRect = cm0
  generalize hcm1 : View.readCov (Val := Elt Ideal) arg22.view _ (Rect.unit (s := S16x512) ![8, 0] S8x512.size inb_S16x512_S8x512_8_0).toLoadRect = cm1
  generalize hs2 : st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _ _ _ _ _ _ _ _ _ _ _ _ _ = S2
  replace hX0 : x0 = X0 := by rw [← hX0, View.readAt_eq_ld, harg1.read_unread]; exact (View.ld_unit_zero (S := S2048x128) hz2 _ x0).symm
  subst hX0
  replace hX1 : x1 = X1 := by rw [← hX1, View.readAt_eq_ld, harg2.read_unread]; exact (View.ld_unit_zero (S := S2048x128) hz2 _ x1).symm
  subst hX1
  replace hX2 : x2 = X2 := by rw [← hX2, View.readAt_eq_ld, harg3.read_unread]; exact (View.ld_unit_zero (S := S1x1x512) hz3 _ x2).symm
  subst hX2
  replace hX3 : x3 = X3 := by rw [← hX3, View.readAt_eq_ld, harg4.read_unread]; exact (View.ld_unit_zero (S := S1x1x512) hz3 _ x3).symm
  subst hX3
  replace hX4 : x4 = X4 := by rw [← hX4, View.readAt_eq_ld, harg5.read_unread]; exact (View.ld_unit_zero (S := S1x128x512) hz3 _ x4).symm
  subst hX4
  replace hX5 : x5 = X5 := by rw [← hX5, View.readAt_eq_ld, harg6.read_unread]; exact (View.ld_unit_zero (S := S1x128x512) hz3 _ x5).symm
  subst hX5
  replace hX6 : x6 = X6 := by rw [← hX6, View.readAt_eq_ld, harg7.read_unread]; exact (View.ld_unit_zero (S := S1x128x512) hz3 _ x6).symm
  subst hX6
  replace hX7 : x7 = X7 := by rw [← hX7, View.readAt_eq_ld, harg8.read_unread]; exact (View.ld_unit_zero (S := S1x128x512) hz3 _ x7).symm
  subst hX7
  replace hX8 : x8 = X8 := by rw [← hX8, View.readAt_eq_ld, harg9.read_unread]; exact (View.ld_unit_zero (S := S1x128) hz2 _ x8).symm
  subst hX8
  subst hv1 hv3 hv23 hv25 hv74 hv77
  have hR := (CArr.load (CArr.whole (v₀ := arg18.view) (v₁ := arg19.view) (f₀ := arg18.view.junk) (f₁ := arg19.view.junk) h.z) (h := 8) (w := 512) (off := ![0, 0]) rfl inb_S2048x512_S8x512_0_0).congr
    (fun r q _ _ => show I.Z (0 + r) (0 + q) = I.Z r q by rw [Nat.zero_add, Nat.zero_add])
  obtain ⟨hcm, hX⟩ := stage12 c i harg1 harg2 harg3 harg4 harg5 harg6 harg7 harg8 harg9 harg10 harg11 harg12 harg13 harg14 harg15 harg16 harg17 harg18 harg19 harg20 harg21 harg22 harg23 I h.a8 (CArr.whole h.z) hR hs1 (by decide +kernel)
    (fun t => by rw [← hcm0, ← hcm1]; exact carryF arg22.view t (apow h.a1)) hs2 (by decide +kernel)
  have hx := (CArr.load hX (h := 2048) (w := 512) (off := ![0, 0]) rfl inb_S2048x512_S2048x512_0_0).congr
    (fun r q _ _ => show I.x (timeOf (0 + r)) (0 + q) = I.x (timeOf r) q by rw [Nat.zero_add, Nat.zero_add])
  refine ⟨_, rfl, fun q n => (pay71_val _ _ q n).trans ?_⟩
  refine (congrArg (fun a : EReal => 0 - a) (sum_mul_coe (fun r => (hx.at r q).2) (fun r => h.h1 r n))).trans ((zero_sub _).trans ?_)
  exact (EReal.coe_neg _).symm

end Cert.Scan
-- ==== Proof.Scan.Dar.lean ====
/-
  The kernel's body at one block of eight groups: what it stores in each of its eight outputs, in terms of the forward
  and the backward scan over time.
-/
module

public import proofs.«01_k».proof.Proof.Gen.KernelIdeal.Frame.RunA
public import proofs.«01_k».proof.Proof.Scan.Stage
public import proofs.«01_k».proof.Proof.Scan.Stores
public import Idealize.ShloMosaic.Lib.Pointwise
public import Idealize.ShloMosaic.Lib.Claim
public import proofs.«01_k».proof.Defs

@[expose] public section

set_option maxRecDepth 16384

noncomputable section

namespace Cert.Scan

open Cert.KernelIdeal Cert.KernelIdeal.Gen
open Idealize.ShloMosaic Idealize.ShloMosaic.TcCoe Idealize.ShloMosaic.Tactic
open Idealize.SL Idealize.SL.RA Idealize.SL.BI

private theorem hz2 : (![0, 0] : Fin 2 → ℕ) = fun _ => 0 := by decide
private theorem hz3 : (![0, 0, 0] : Fin 3 → ℕ) = fun _ => 0 := by decide

set_option maxHeartbeats 2000000 in
/-- What the body stores in output 6. -/
theorem body_14 (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S1x1x512 .f32) (harg3 : arg3.IsWhole) (arg4 : Memref sig .tc .vmem S1x1x512 .f32) (harg4 : arg4.IsWhole) (arg5 : Memref sig .tc .vmem S1x128x512 .bf16) (harg5 : arg5.IsWhole) (arg6 : Memref sig .tc .vmem S1x128x512 .bf16) (harg6 : arg6.IsWhole) (arg7 : Memref sig .tc .vmem S1x128x512 .bf16) (harg7 : arg7.IsWhole) (arg8 : Memref sig .tc .vmem S1x128x512 .bf16) (harg8 : arg8.IsWhole) (arg9 : Memref sig .tc .vmem S1x128 .f32) (harg9 : arg9.IsWhole) (arg10 : Memref sig .tc .vmem S2048x128 .f32) (harg10 : arg10.IsWhole) (arg11 : Memref sig .tc .vmem S1x128x512 .f32) (harg11 : arg11.IsWhole) (arg12 : Memref sig .tc .vmem S1x128x512 .f32) (harg12 : arg12.IsWhole) (arg13 : Memref sig .tc .vmem S1x512x128 .f32) (harg13 : arg13.IsWhole) (arg14 : Memref sig .tc .vmem S1x512x128 .f32) (harg14 : arg14.IsWhole) (arg15 : Memref sig .tc .vmem S1x1x512 .f32) (harg15 : arg15.IsWhole) (arg16 : Memref sig .tc .vmem S1x1x512 .f32) (harg16 : arg16.IsWhole) (arg17 : Memref sig .tc .vmem S1x128 .f32) (harg17 : arg17.IsWhole) (arg18 : Memref sig .tc .vmem S2048x512 .f32) (harg18 : arg18.IsWhole) (arg19 : Memref sig .tc .vmem S2048x512 .f32) (harg19 : arg19.IsWhole) (arg20 : Memref sig .tc .vmem S2048x512 .f32) (harg20 : arg20.IsWhole) (arg21 : Memref sig .tc .vmem S2048x512 .f32) (harg21 : arg21.IsWhole) (arg22 : Memref sig .tc .vmem S16x512 .f32) (harg22 : arg22.IsWhole) (arg23 : Memref sig .tc .vmem S16x512 .f32) (harg23 : arg23.IsWhole)
    (x0 : Vec Ideal S2048x128 .f32) (x1 : Vec Ideal S2048x128 .f32) (x2 : Vec Ideal S1x1x512 .f32) (x3 : Vec Ideal S1x1x512 .f32) (x4 : Vec Ideal S1x128x512 .bf16) (x5 : Vec Ideal S1x128x512 .bf16) (x6 : Vec Ideal S1x128x512 .bf16) (x7 : Vec Ideal S1x128x512 .bf16) (x8 : Vec Ideal S1x128 .f32) {I : Inp} (h : I.Holds x0 x1 x2 x3 x4 x5 x6 x7 x8) :
    Stores S1x1x512 ![0, 0, 0] inb_S1x1x512_S1x1x512_0_0_0 (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).2.2.2.2.2.1 (fun P => ∀ q : Fin 512, P (ix3 (0 : Fin 1) (0 : Fin 1) q) = ((I.da q).re : EReal)) := by
  unfold kernelRun0_A
  dsimp only
  sl_unfold_words
  generalize hX0 : View.readAt (Elt Ideal) arg1.view (Rect.unit (s := S2048x128) ![0, 0] S2048x128.size inb_S2048x128_S2048x128_0_0).toLoadRect (harg1.unread x0) = X0
  generalize hX1 : View.readAt (Elt Ideal) arg2.view (Rect.unit (s := S2048x128) ![0, 0] S2048x128.size inb_S2048x128_S2048x128_0_0).toLoadRect (harg2.unread x1) = X1
  generalize hX2 : View.readAt (Elt Ideal) arg3.view (Rect.unit (s := S1x1x512) ![0, 0, 0] S1x1x512.size inb_S1x1x512_S1x1x512_0_0_0).toLoadRect (harg3.unread x2) = X2
  generalize hX3 : View.readAt (Elt Ideal) arg4.view (Rect.unit (s := S1x1x512) ![0, 0, 0] S1x1x512.size inb_S1x1x512_S1x1x512_0_0_0).toLoadRect (harg4.unread x3) = X3
  generalize hX4 : View.readAt (Elt Ideal) arg5.view (Rect.unit (s := S1x128x512) ![0, 0, 0] S1x128x512.size inb_S1x128x512_S1x128x512_0_0_0).toLoadRect (harg5.unread x4) = X4
  generalize hX5 : View.readAt (Elt Ideal) arg6.view (Rect.unit (s := S1x128x512) ![0, 0, 0] S1x128x512.size inb_S1x128x512_S1x128x512_0_0_0).toLoadRect (harg6.unread x5) = X5
  generalize hX6 : View.readAt (Elt Ideal) arg7.view (Rect.unit (s := S1x128x512) ![0, 0, 0] S1x128x512.size inb_S1x128x512_S1x128x512_0_0_0).toLoadRect (harg7.unread x6) = X6
  generalize hX7 : View.readAt (Elt Ideal) arg8.view (Rect.unit (s := S1x128x512) ![0, 0, 0] S1x128x512.size inb_S1x128x512_S1x128x512_0_0_0).toLoadRect (harg8.unread x7) = X7
  generalize hX8 : View.readAt (Elt Ideal) arg9.view (Rect.unit (s := S1x128) ![0, 0] S1x128.size inb_S1x128_S1x128_0_0).toLoadRect (harg9.unread x8) = X8
  generalize hv1 : k0_pay2 X2 = v1
  generalize hv3 : k0_pay3 X3 = v3
  generalize hv23 : k0_pay10 X2 = v23
  generalize hv25 : k0_pay11 X3 = v25
  generalize hv74 : k0_pay30 v1 v3 = v74
  generalize hv77 : k0_pay31 v1 v3 = v77
  generalize hs1 : st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _ _ _ _ _ _ _ _ = S1
  generalize hcm0 : View.readCov (Val := Elt Ideal) arg22.view _ (Rect.unit (s := S16x512) ![0, 0] S8x512.size inb_S16x512_S8x512_0_0).toLoadRect = cm0
  generalize hcm1 : View.readCov (Val := Elt Ideal) arg22.view _ (Rect.unit (s := S16x512) ![8, 0] S8x512.size inb_S16x512_S8x512_8_0).toLoadRect = cm1
  generalize hs2 : st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _ _ _ _ _ _ _ _ _ _ _ _ _ = S2
  generalize hs3 : st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _ _ _ _ _ _ = S3
  generalize hcb0 : View.readCov (Val := Elt Ideal) arg23.view _ (Rect.unit (s := S16x512) ![0, 0] S8x512.size inb_S16x512_S8x512_0_0).toLoadRect = cb0
  generalize hcb1 : View.readCov (Val := Elt Ideal) arg23.view _ (Rect.unit (s := S16x512) ![8, 0] S8x512.size inb_S16x512_S8x512_8_0).toLoadRect = cb1
  generalize hs4 : st_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _ _ _ _ _ _ _ _ = S4
  replace hX0 : x0 = X0 := by rw [← hX0, View.readAt_eq_ld, harg1.read_unread]; exact (View.ld_unit_zero (S := S2048x128) hz2 _ x0).symm
  subst hX0
  replace hX1 : x1 = X1 := by rw [← hX1, View.readAt_eq_ld, harg2.read_unread]; exact (View.ld_unit_zero (S := S2048x128) hz2 _ x1).symm
  subst hX1
  replace hX2 : x2 = X2 := by rw [← hX2, View.readAt_eq_ld, harg3.read_unread]; exact (View.ld_unit_zero (S := S1x1x512) hz3 _ x2).symm
  subst hX2
  replace hX3 : x3 = X3 := by rw [← hX3, View.readAt_eq_ld, harg4.read_unread]; exact (View.ld_unit_zero (S := S1x1x512) hz3 _ x3).symm
  subst hX3
  replace hX4 : x4 = X4 := by rw [← hX4, View.readAt_eq_ld, harg5.read_unread]; exact (View.ld_unit_zero (S := S1x128x512) hz3 _ x4).symm
  subst hX4
  replace hX5 : x5 = X5 := by rw [← hX5, View.readAt_eq_ld, harg6.read_unread]; exact (View.ld_unit_zero (S := S1x128x512) hz3 _ x5).symm
  subst hX5
  replace hX6 : x6 = X6 := by rw [← hX6, View.readAt_eq_ld, harg7.read_unread]; exact (View.ld_unit_zero (S := S1x128x512) hz3 _ x6).symm
  subst hX6
  replace hX7 : x7 = X7 := by rw [← hX7, View.readAt_eq_ld, harg8.read_unread]; exact (View.ld_unit_zero (S := S1x128x512) hz3 _ x7).symm
  subst hX7
  replace hX8 : x8 = X8 := by rw [← hX8, View.readAt_eq_ld, harg9.read_unread]; exact (View.ld_unit_zero (S := S1x128) hz2 _ x8).symm
  subst hX8
  subst hv1 hv3 hv23 hv25 hv74 hv77
  have hR := (CArr.load (CArr.whole (v₀ := arg18.view) (v₁ := arg19.view) (f₀ := arg18.view.junk) (f₁ := arg19.view.junk) h.z) (h := 8) (w := 512) (off := ![0, 0]) rfl inb_S2048x512_S8x512_0_0).congr
    (fun r q _ _ => show I.Z (0 + r) (0 + q) = I.Z r q by rw [Nat.zero_add, Nat.zero_add])
  obtain ⟨hcm, hX⟩ := stage12 c i harg1 harg2 harg3 harg4 harg5 harg6 harg7 harg8 harg9 harg10 harg11 harg12 harg13 harg14 harg15 harg16 harg17 harg18 harg19 harg20 harg21 harg22 harg23 I h.a8 (CArr.whole h.z) hR hs1 (by decide +kernel)
    (fun t => by rw [← hcm0, ← hcm1]; exact carryF arg22.view t (apow h.a1)) hs2 (by decide +kernel)
  have hx := (CArr.load hX (h := 2048) (w := 512) (off := ![0, 0]) rfl inb_S2048x512_S2048x512_0_0).congr
    (fun r q _ _ => show I.x (timeOf (0 + r)) (0 + q) = I.x (timeOf r) q by rw [Nat.zero_add, Nat.zero_add])
  have hR' := (CArr.load (CArr.whole (v₀ := arg20.view) (v₁ := arg21.view) (f₀ := arg20.view.junk) (f₁ := arg21.view.junk) h.dz) (h := 8) (w := 512) (off := ![2040, 0]) rfl inb_S2048x512_S8x512_2040_0).congr
    (fun r q _ _ => show I.D (2040 + r) (0 + q) = I.D (2040 + r) q by rw [Nat.zero_add])
  obtain ⟨hG, hacc⟩ := stage34 c i harg1 harg2 harg3 harg4 harg5 harg6 harg7 harg8 harg9 harg10 harg11 harg12 harg13 harg14 harg15 harg16 harg17 harg18 harg19 harg20 harg21 harg22 harg23 I h.a8' h.b8 czero (CArr.whole h.dz) hR' hcm hX hs3 (by decide +kernel)
    (fun t => by rw [← hcb0, ← hcb1]; exact carryB arg23.view t h.a1) hs4 (by decide +kernel)
  have hg := (CArr.load hG (h := 2048) (w := 512) (off := ![0, 0]) rfl inb_S2048x512_S2048x512_0_0).congr
    (fun r q _ _ => show I.g (timeOf (0 + r)) (0 + q) = I.g (timeOf r) q by rw [Nat.zero_add, Nat.zero_add])
  refine ⟨_, rfl, fun q => (pay142_val _ _ _ _ _ _ _ _ _ q).trans ?_⟩
  unfold Inp.da
  rw [Complex.re_sum, coe_sum]
  exact Finset.sum_congr rfl fun j _ => (hacc.at j q).1

end Cert.Scan
-- ==== Proof.Scan.Dai.lean ====
/-
  The kernel's body at one block of eight groups: what it stores in each of its eight outputs, in terms of the forward
  and the backward scan over time.
-/
module

public import proofs.«01_k».proof.Proof.Gen.KernelIdeal.Frame.RunA
public import proofs.«01_k».proof.Proof.Scan.Stage
public import proofs.«01_k».proof.Proof.Scan.Stores
public import Idealize.ShloMosaic.Lib.Pointwise
public import Idealize.ShloMosaic.Lib.Claim
public import proofs.«01_k».proof.Defs

@[expose] public section

set_option maxRecDepth 16384

noncomputable section

namespace Cert.Scan

open Cert.KernelIdeal Cert.KernelIdeal.Gen
open Idealize.ShloMosaic Idealize.ShloMosaic.TcCoe Idealize.ShloMosaic.Tactic
open Idealize.SL Idealize.SL.RA Idealize.SL.BI

private theorem hz2 : (![0, 0] : Fin 2 → ℕ) = fun _ => 0 := by decide
private theorem hz3 : (![0, 0, 0] : Fin 3 → ℕ) = fun _ => 0 := by decide

set_option maxHeartbeats 2000000 in
/-- What the body stores in output 7. -/
theorem body_15 (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S1x1x512 .f32) (harg3 : arg3.IsWhole) (arg4 : Memref sig .tc .vmem S1x1x512 .f32) (harg4 : arg4.IsWhole) (arg5 : Memref sig .tc .vmem S1x128x512 .bf16) (harg5 : arg5.IsWhole) (arg6 : Memref sig .tc .vmem S1x128x512 .bf16) (harg6 : arg6.IsWhole) (arg7 : Memref sig .tc .vmem S1x128x512 .bf16) (harg7 : arg7.IsWhole) (arg8 : Memref sig .tc .vmem S1x128x512 .bf16) (harg8 : arg8.IsWhole) (arg9 : Memref sig .tc .vmem S1x128 .f32) (harg9 : arg9.IsWhole) (arg10 : Memref sig .tc .vmem S2048x128 .f32) (harg10 : arg10.IsWhole) (arg11 : Memref sig .tc .vmem S1x128x512 .f32) (harg11 : arg11.IsWhole) (arg12 : Memref sig .tc .vmem S1x128x512 .f32) (harg12 : arg12.IsWhole) (arg13 : Memref sig .tc .vmem S1x512x128 .f32) (harg13 : arg13.IsWhole) (arg14 : Memref sig .tc .vmem S1x512x128 .f32) (harg14 : arg14.IsWhole) (arg15 : Memref sig .tc .vmem S1x1x512 .f32) (harg15 : arg15.IsWhole) (arg16 : Memref sig .tc .vmem S1x1x512 .f32) (harg16 : arg16.IsWhole) (arg17 : Memref sig .tc .vmem S1x128 .f32) (harg17 : arg17.IsWhole) (arg18 : Memref sig .tc .vmem S2048x512 .f32) (harg18 : arg18.IsWhole) (arg19 : Memref sig .tc .vmem S2048x512 .f32) (harg19 : arg19.IsWhole) (arg20 : Memref sig .tc .vmem S2048x512 .f32) (harg20 : arg20.IsWhole) (arg21 : Memref sig .tc .vmem S2048x512 .f32) (harg21 : arg21.IsWhole) (arg22 : Memref sig .tc .vmem S16x512 .f32) (harg22 : arg22.IsWhole) (arg23 : Memref sig .tc .vmem S16x512 .f32) (harg23 : arg23.IsWhole)
    (x0 : Vec Ideal S2048x128 .f32) (x1 : Vec Ideal S2048x128 .f32) (x2 : Vec Ideal S1x1x512 .f32) (x3 : Vec Ideal S1x1x512 .f32) (x4 : Vec Ideal S1x128x512 .bf16) (x5 : Vec Ideal S1x128x512 .bf16) (x6 : Vec Ideal S1x128x512 .bf16) (x7 : Vec Ideal S1x128x512 .bf16) (x8 : Vec Ideal S1x128 .f32) {I : Inp} (h : I.Holds x0 x1 x2 x3 x4 x5 x6 x7 x8) :
    Stores S1x1x512 ![0, 0, 0] inb_S1x1x512_S1x1x512_0_0_0 (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).2.2.2.2.2.2.1 (fun P => ∀ q : Fin 512, P (ix3 (0 : Fin 1) (0 : Fin 1) q) = ((I.da q).im : EReal)) := by
  unfold kernelRun0_A
  dsimp only
  sl_unfold_words
  generalize hX0 : View.readAt (Elt Ideal) arg1.view (Rect.unit (s := S2048x128) ![0, 0] S2048x128.size inb_S2048x128_S2048x128_0_0).toLoadRect (harg1.unread x0) = X0
  generalize hX1 : View.readAt (Elt Ideal) arg2.view (Rect.unit (s := S2048x128) ![0, 0] S2048x128.size inb_S2048x128_S2048x128_0_0).toLoadRect (harg2.unread x1) = X1
  generalize hX2 : View.readAt (Elt Ideal) arg3.view (Rect.unit (s := S1x1x512) ![0, 0, 0] S1x1x512.size inb_S1x1x512_S1x1x512_0_0_0).toLoadRect (harg3.unread x2) = X2
  generalize hX3 : View.readAt (Elt Ideal) arg4.view (Rect.unit (s := S1x1x512) ![0, 0, 0] S1x1x512.size inb_S1x1x512_S1x1x512_0_0_0).toLoadRect (harg4.unread x3) = X3
  generalize hX4 : View.readAt (Elt Ideal) arg5.view (Rect.unit (s := S1x128x512) ![0, 0, 0] S1x128x512.size inb_S1x128x512_S1x128x512_0_0_0).toLoadRect (harg5.unread x4) = X4
  generalize hX5 : View.readAt (Elt Ideal) arg6.view (Rect.unit (s := S1x128x512) ![0, 0, 0] S1x128x512.size inb_S1x128x512_S1x128x512_0_0_0).toLoadRect (harg6.unread x5) = X5
  generalize hX6 : View.readAt (Elt Ideal) arg7.view (Rect.unit (s := S1x128x512) ![0, 0, 0] S1x128x512.size inb_S1x128x512_S1x128x512_0_0_0).toLoadRect (harg7.unread x6) = X6
  generalize hX7 : View.readAt (Elt Ideal) arg8.view (Rect.unit (s := S1x128x512) ![0, 0, 0] S1x128x512.size inb_S1x128x512_S1x128x512_0_0_0).toLoadRect (harg8.unread x7) = X7
  generalize hX8 : View.readAt (Elt Ideal) arg9.view (Rect.unit (s := S1x128) ![0, 0] S1x128.size inb_S1x128_S1x128_0_0).toLoadRect (harg9.unread x8) = X8
  generalize hv1 : k0_pay2 X2 = v1
  generalize hv3 : k0_pay3 X3 = v3
  generalize hv23 : k0_pay10 X2 = v23
  generalize hv25 : k0_pay11 X3 = v25
  generalize hv74 : k0_pay30 v1 v3 = v74
  generalize hv77 : k0_pay31 v1 v3 = v77
  generalize hs1 : st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _ _ _ _ _ _ _ _ = S1
  generalize hcm0 : View.readCov (Val := Elt Ideal) arg22.view _ (Rect.unit (s := S16x512) ![0, 0] S8x512.size inb_S16x512_S8x512_0_0).toLoadRect = cm0
  generalize hcm1 : View.readCov (Val := Elt Ideal) arg22.view _ (Rect.unit (s := S16x512) ![8, 0] S8x512.size inb_S16x512_S8x512_8_0).toLoadRect = cm1
  generalize hs2 : st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _ _ _ _ _ _ _ _ _ _ _ _ _ = S2
  generalize hs3 : st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _ _ _ _ _ _ = S3
  generalize hcb0 : View.readCov (Val := Elt Ideal) arg23.view _ (Rect.unit (s := S16x512) ![0, 0] S8x512.size inb_S16x512_S8x512_0_0).toLoadRect = cb0
  generalize hcb1 : View.readCov (Val := Elt Ideal) arg23.view _ (Rect.unit (s := S16x512) ![8, 0] S8x512.size inb_S16x512_S8x512_8_0).toLoadRect = cb1
  generalize hs4 : st_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _ _ _ _ _ _ _ _ = S4
  replace hX0 : x0 = X0 := by rw [← hX0, View.readAt_eq_ld, harg1.read_unread]; exact (View.ld_unit_zero (S := S2048x128) hz2 _ x0).symm
  subst hX0
  replace hX1 : x1 = X1 := by rw [← hX1, View.readAt_eq_ld, harg2.read_unread]; exact (View.ld_unit_zero (S := S2048x128) hz2 _ x1).symm
  subst hX1
  replace hX2 : x2 = X2 := by rw [← hX2, View.readAt_eq_ld, harg3.read_unread]; exact (View.ld_unit_zero (S := S1x1x512) hz3 _ x2).symm
  subst hX2
  replace hX3 : x3 = X3 := by rw [← hX3, View.readAt_eq_ld, harg4.read_unread]; exact (View.ld_unit_zero (S := S1x1x512) hz3 _ x3).symm
  subst hX3
  replace hX4 : x4 = X4 := by rw [← hX4, View.readAt_eq_ld, harg5.read_unread]; exact (View.ld_unit_zero (S := S1x128x512) hz3 _ x4).symm
  subst hX4
  replace hX5 : x5 = X5 := by rw [← hX5, View.readAt_eq_ld, harg6.read_unread]; exact (View.ld_unit_zero (S := S1x128x512) hz3 _ x5).symm
  subst hX5
  replace hX6 : x6 = X6 := by rw [← hX6, View.readAt_eq_ld, harg7.read_unread]; exact (View.ld_unit_zero (S := S1x128x512) hz3 _ x6).symm
  subst hX6
  replace hX7 : x7 = X7 := by rw [← hX7, View.readAt_eq_ld, harg8.read_unread]; exact (View.ld_unit_zero (S := S1x128x512) hz3 _ x7).symm
  subst hX7
  replace hX8 : x8 = X8 := by rw [← hX8, View.readAt_eq_ld, harg9.read_unread]; exact (View.ld_unit_zero (S := S1x128) hz2 _ x8).symm
  subst hX8
  subst hv1 hv3 hv23 hv25 hv74 hv77
  have hR := (CArr.load (CArr.whole (v₀ := arg18.view) (v₁ := arg19.view) (f₀ := arg18.view.junk) (f₁ := arg19.view.junk) h.z) (h := 8) (w := 512) (off := ![0, 0]) rfl inb_S2048x512_S8x512_0_0).congr
    (fun r q _ _ => show I.Z (0 + r) (0 + q) = I.Z r q by rw [Nat.zero_add, Nat.zero_add])
  obtain ⟨hcm, hX⟩ := stage12 c i harg1 harg2 harg3 harg4 harg5 harg6 harg7 harg8 harg9 harg10 harg11 harg12 harg13 harg14 harg15 harg16 harg17 harg18 harg19 harg20 harg21 harg22 harg23 I h.a8 (CArr.whole h.z) hR hs1 (by decide +kernel)
    (fun t => by rw [← hcm0, ← hcm1]; exact carryF arg22.view t (apow h.a1)) hs2 (by decide +kernel)
  have hx := (CArr.load hX (h := 2048) (w := 512) (off := ![0, 0]) rfl inb_S2048x512_S2048x512_0_0).congr
    (fun r q _ _ => show I.x (timeOf (0 + r)) (0 + q) = I.x (timeOf r) q by rw [Nat.zero_add, Nat.zero_add])
  have hR' := (CArr.load (CArr.whole (v₀ := arg20.view) (v₁ := arg21.view) (f₀ := arg20.view.junk) (f₁ := arg21.view.junk) h.dz) (h := 8) (w := 512) (off := ![2040, 0]) rfl inb_S2048x512_S8x512_2040_0).congr
    (fun r q _ _ => show I.D (2040 + r) (0 + q) = I.D (2040 + r) q by rw [Nat.zero_add])
  obtain ⟨hG, hacc⟩ := stage34 c i harg1 harg2 harg3 harg4 harg5 harg6 harg7 harg8 harg9 harg10 harg11 harg12 harg13 harg14 harg15 harg16 harg17 harg18 harg19 harg20 harg21 harg22 harg23 I h.a8' h.b8 czero (CArr.whole h.dz) hR' hcm hX hs3 (by decide +kernel)
    (fun t => by rw [← hcb0, ← hcb1]; exact carryB arg23.view t h.a1) hs4 (by decide +kernel)
  have hg := (CArr.load hG (h := 2048) (w := 512) (off := ![0, 0]) rfl inb_S2048x512_S2048x512_0_0).congr
    (fun r q _ _ => show I.g (timeOf (0 + r)) (0 + q) = I.g (timeOf r) q by rw [Nat.zero_add, Nat.zero_add])
  refine ⟨_, rfl, fun q => (pay143_val _ q).trans ?_⟩
  unfold Inp.da
  rw [Complex.im_sum, coe_sum]
  exact Finset.sum_congr rfl fun j _ => (hacc.at j q).2

end Cert.Scan
-- ==== Proof.Scan.Dd.lean ====
/-
  The kernel's body at one block of eight groups: what it stores in each of its eight outputs, in terms of the forward
  and the backward scan over time.
-/
module

public import proofs.«01_k».proof.Proof.Gen.KernelIdeal.Frame.RunA
public import proofs.«01_k».proof.Proof.Scan.Stage
public import proofs.«01_k».proof.Proof.Scan.Stores
public import Idealize.ShloMosaic.Lib.Pointwise
public import Idealize.ShloMosaic.Lib.Claim
public import proofs.«01_k».proof.Defs

@[expose] public section

set_option maxRecDepth 16384

noncomputable section

namespace Cert.Scan

open Cert.KernelIdeal Cert.KernelIdeal.Gen
open Idealize.ShloMosaic Idealize.ShloMosaic.TcCoe Idealize.ShloMosaic.Tactic
open Idealize.SL Idealize.SL.RA Idealize.SL.BI

private theorem hz2 : (![0, 0] : Fin 2 → ℕ) = fun _ => 0 := by decide
private theorem hz3 : (![0, 0, 0] : Fin 3 → ℕ) = fun _ => 0 := by decide

set_option maxHeartbeats 2000000 in
/-- What the body stores in output 8. -/
theorem body_16 (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S1x1x512 .f32) (harg3 : arg3.IsWhole) (arg4 : Memref sig .tc .vmem S1x1x512 .f32) (harg4 : arg4.IsWhole) (arg5 : Memref sig .tc .vmem S1x128x512 .bf16) (harg5 : arg5.IsWhole) (arg6 : Memref sig .tc .vmem S1x128x512 .bf16) (harg6 : arg6.IsWhole) (arg7 : Memref sig .tc .vmem S1x128x512 .bf16) (harg7 : arg7.IsWhole) (arg8 : Memref sig .tc .vmem S1x128x512 .bf16) (harg8 : arg8.IsWhole) (arg9 : Memref sig .tc .vmem S1x128 .f32) (harg9 : arg9.IsWhole) (arg10 : Memref sig .tc .vmem S2048x128 .f32) (harg10 : arg10.IsWhole) (arg11 : Memref sig .tc .vmem S1x128x512 .f32) (harg11 : arg11.IsWhole) (arg12 : Memref sig .tc .vmem S1x128x512 .f32) (harg12 : arg12.IsWhole) (arg13 : Memref sig .tc .vmem S1x512x128 .f32) (harg13 : arg13.IsWhole) (arg14 : Memref sig .tc .vmem S1x512x128 .f32) (harg14 : arg14.IsWhole) (arg15 : Memref sig .tc .vmem S1x1x512 .f32) (harg15 : arg15.IsWhole) (arg16 : Memref sig .tc .vmem S1x1x512 .f32) (harg16 : arg16.IsWhole) (arg17 : Memref sig .tc .vmem S1x128 .f32) (harg17 : arg17.IsWhole) (arg18 : Memref sig .tc .vmem S2048x512 .f32) (harg18 : arg18.IsWhole) (arg19 : Memref sig .tc .vmem S2048x512 .f32) (harg19 : arg19.IsWhole) (arg20 : Memref sig .tc .vmem S2048x512 .f32) (harg20 : arg20.IsWhole) (arg21 : Memref sig .tc .vmem S2048x512 .f32) (harg21 : arg21.IsWhole) (arg22 : Memref sig .tc .vmem S16x512 .f32) (harg22 : arg22.IsWhole) (arg23 : Memref sig .tc .vmem S16x512 .f32) (harg23 : arg23.IsWhole)
    (x0 : Vec Ideal S2048x128 .f32) (x1 : Vec Ideal S2048x128 .f32) (x2 : Vec Ideal S1x1x512 .f32) (x3 : Vec Ideal S1x1x512 .f32) (x4 : Vec Ideal S1x128x512 .bf16) (x5 : Vec Ideal S1x128x512 .bf16) (x6 : Vec Ideal S1x128x512 .bf16) (x7 : Vec Ideal S1x128x512 .bf16) (x8 : Vec Ideal S1x128 .f32) {I : Inp} (h : I.Holds x0 x1 x2 x3 x4 x5 x6 x7 x8) :
    Stores S1x128 ![0, 0] inb_S1x128_S1x128_0_0 (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).2.2.2.2.2.2.2.1 (fun P => ∀ n : Fin 128, P (ix2 (0 : Fin 1) n) = (I.dd n : EReal)) := by
  unfold kernelRun0_A
  dsimp only
  sl_unfold_words
  generalize hX0 : View.readAt (Elt Ideal) arg1.view (Rect.unit (s := S2048x128) ![0, 0] S2048x128.size inb_S2048x128_S2048x128_0_0).toLoadRect (harg1.unread x0) = X0
  generalize hX1 : View.readAt (Elt Ideal) arg2.view (Rect.unit (s := S2048x128) ![0, 0] S2048x128.size inb_S2048x128_S2048x128_0_0).toLoadRect (harg2.unread x1) = X1
  generalize hX2 : View.readAt (Elt Ideal) arg3.view (Rect.unit (s := S1x1x512) ![0, 0, 0] S1x1x512.size inb_S1x1x512_S1x1x512_0_0_0).toLoadRect (harg3.unread x2) = X2
  generalize hX3 : View.readAt (Elt Ideal) arg4.view (Rect.unit (s := S1x1x512) ![0, 0, 0] S1x1x512.size inb_S1x1x512_S1x1x512_0_0_0).toLoadRect (harg4.unread x3) = X3
  generalize hX4 : View.readAt (Elt Ideal) arg5.view (Rect.unit (s := S1x128x512) ![0, 0, 0] S1x128x512.size inb_S1x128x512_S1x128x512_0_0_0).toLoadRect (harg5.unread x4) = X4
  generalize hX5 : View.readAt (Elt Ideal) arg6.view (Rect.unit (s := S1x128x512) ![0, 0, 0] S1x128x512.size inb_S1x128x512_S1x128x512_0_0_0).toLoadRect (harg6.unread x5) = X5
  generalize hX6 : View.readAt (Elt Ideal) arg7.view (Rect.unit (s := S1x128x512) ![0, 0, 0] S1x128x512.size inb_S1x128x512_S1x128x512_0_0_0).toLoadRect (harg7.unread x6) = X6
  generalize hX7 : View.readAt (Elt Ideal) arg8.view (Rect.unit (s := S1x128x512) ![0, 0, 0] S1x128x512.size inb_S1x128x512_S1x128x512_0_0_0).toLoadRect (harg8.unread x7) = X7
  generalize hX8 : View.readAt (Elt Ideal) arg9.view (Rect.unit (s := S1x128) ![0, 0] S1x128.size inb_S1x128_S1x128_0_0).toLoadRect (harg9.unread x8) = X8
  replace hX0 : x0 = X0 := by rw [← hX0, View.readAt_eq_ld, harg1.read_unread]; exact (View.ld_unit_zero (S := S2048x128) hz2 _ x0).symm
  subst hX0
  replace hX1 : x1 = X1 := by rw [← hX1, View.readAt_eq_ld, harg2.read_unread]; exact (View.ld_unit_zero (S := S2048x128) hz2 _ x1).symm
  subst hX1
  refine ⟨_, rfl, fun n => (pay1_val _ _ n).trans ?_⟩
  exact sum_mul_coe (fun r => h.h1 r n) (fun r => h.h0 r n)

end Cert.Scan
-- ==== Proof.Scan.PointA.lean ====
/-
  What one grid point writes back, in terms of the real numbers that its blocks hold.
-/
module

public import proofs.«01_k».proof.Proof.Scan.Du
public import proofs.«01_k».proof.Proof.Scan.Dbr
public import proofs.«01_k».proof.Proof.Scan.Dbi
public import proofs.«01_k».proof.Proof.Scan.Dcr
public import proofs.«01_k».proof.Proof.Scan.Dci
public import proofs.«01_k».proof.Proof.Scan.Dar
public import proofs.«01_k».proof.Proof.Scan.Dai
public import proofs.«01_k».proof.Proof.Scan.Dd
public import proofs.«01_k».proof.Proof.Gen.KernelIdeal.Frame
public import Idealize.ShloMosaic.Lib.Pipeline.Value

@[expose] public section

set_option maxRecDepth 16384

noncomputable section

namespace Cert.Scan

open Cert.KernelIdeal Cert.KernelIdeal.Gen
open Idealize.ShloMosaic Idealize.ShloMosaic.TcCoe

theorem z2 : (![0, 0] : Fin 2 → Nat) = fun _ => 0 := funext fun a => by fin_cases a <;> rfl
theorem z3 : (![0, 0, 0] : Fin 3 → Nat) = fun _ => 0 := funext fun a => by fin_cases a <;> rfl

/-- A block that one store fills reads back as what was stored. -/
theorem read_stores {κ : _} {sp : _} {s : Shape} (v : View sig κ sp s .f32) (f : v.ty.Contents (Elt Ideal)) {off : Fin s.rank → ℕ}
    {inb : ∀ a, off a + s.size a ≤ s.size a} (L : List (View.Piece (Elt Ideal) s .f32)) (Q : (s.Idx → EReal) → Prop)
    (hc : ∀ y, ∃ p ∈ L, y ∈ p.1.set) (h : Stores s off inb L Q) (hz : off = fun _ => 0) :
    Q (v.read (Elt Ideal) (v.writes (Elt Ideal) f L)) := by
  obtain ⟨pay, hL, hQ⟩ := h
  rw [View.read_writes_eq_canon v f L hc, hL, View.canon_unit_zero hz]
  exact hQ

theorem outA_9 (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S1x1x512 .f32) (harg3 : arg3.IsWhole) (arg4 : Memref sig .tc .vmem S1x1x512 .f32) (harg4 : arg4.IsWhole) (arg5 : Memref sig .tc .vmem S1x128x512 .bf16) (harg5 : arg5.IsWhole) (arg6 : Memref sig .tc .vmem S1x128x512 .bf16) (harg6 : arg6.IsWhole) (arg7 : Memref sig .tc .vmem S1x128x512 .bf16) (harg7 : arg7.IsWhole) (arg8 : Memref sig .tc .vmem S1x128x512 .bf16) (harg8 : arg8.IsWhole) (arg9 : Memref sig .tc .vmem S1x128 .f32) (harg9 : arg9.IsWhole) (arg10 : Memref sig .tc .vmem S2048x128 .f32) (harg10 : arg10.IsWhole) (arg11 : Memref sig .tc .vmem S1x128x512 .f32) (harg11 : arg11.IsWhole) (arg12 : Memref sig .tc .vmem S1x128x512 .f32) (harg12 : arg12.IsWhole) (arg13 : Memref sig .tc .vmem S1x512x128 .f32) (harg13 : arg13.IsWhole) (arg14 : Memref sig .tc .vmem S1x512x128 .f32) (harg14 : arg14.IsWhole) (arg15 : Memref sig .tc .vmem S1x1x512 .f32) (harg15 : arg15.IsWhole) (arg16 : Memref sig .tc .vmem S1x1x512 .f32) (harg16 : arg16.IsWhole) (arg17 : Memref sig .tc .vmem S1x128 .f32) (harg17 : arg17.IsWhole) (arg18 : Memref sig .tc .vmem S2048x512 .f32) (harg18 : arg18.IsWhole) (arg19 : Memref sig .tc .vmem S2048x512 .f32) (harg19 : arg19.IsWhole) (arg20 : Memref sig .tc .vmem S2048x512 .f32) (harg20 : arg20.IsWhole) (arg21 : Memref sig .tc .vmem S2048x512 .f32) (harg21 : arg21.IsWhole) (arg22 : Memref sig .tc .vmem S16x512 .f32) (harg22 : arg22.IsWhole) (arg23 : Memref sig .tc .vmem S16x512 .f32) (harg23 : arg23.IsWhole)
    (x0 : Vec Ideal S2048x128 .f32) (x1 : Vec Ideal S2048x128 .f32) (x2 : Vec Ideal S1x1x512 .f32) (x3 : Vec Ideal S1x1x512 .f32) (x4 : Vec Ideal S1x128x512 .bf16) (x5 : Vec Ideal S1x128x512 .bf16) (x6 : Vec Ideal S1x128x512 .bf16) (x7 : Vec Ideal S1x128x512 .bf16) (x8 : Vec Ideal S1x128 .f32)  {I : Inp} (h : I.Holds x0 x1 x2 x3 x4 x5 x6 x7 x8) :
    (fun P => ∀ (r : Fin 2048) (n : Fin 128), P (ix2 r n) = (I.du r n : EReal)) (out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8) := by
  unfold out0_A_9
  exact read_stores VO0_9 VO0_9.junk _ (fun P => ∀ (r : Fin 2048) (n : Fin 128), P (ix2 r n) = (I.du r n : EReal)) (cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8)
    (body_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 h) z2

theorem outA_10 (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S1x1x512 .f32) (harg3 : arg3.IsWhole) (arg4 : Memref sig .tc .vmem S1x1x512 .f32) (harg4 : arg4.IsWhole) (arg5 : Memref sig .tc .vmem S1x128x512 .bf16) (harg5 : arg5.IsWhole) (arg6 : Memref sig .tc .vmem S1x128x512 .bf16) (harg6 : arg6.IsWhole) (arg7 : Memref sig .tc .vmem S1x128x512 .bf16) (harg7 : arg7.IsWhole) (arg8 : Memref sig .tc .vmem S1x128x512 .bf16) (harg8 : arg8.IsWhole) (arg9 : Memref sig .tc .vmem S1x128 .f32) (harg9 : arg9.IsWhole) (arg10 : Memref sig .tc .vmem S2048x128 .f32) (harg10 : arg10.IsWhole) (arg11 : Memref sig .tc .vmem S1x128x512 .f32) (harg11 : arg11.IsWhole) (arg12 : Memref sig .tc .vmem S1x128x512 .f32) (harg12 : arg12.IsWhole) (arg13 : Memref sig .tc .vmem S1x512x128 .f32) (harg13 : arg13.IsWhole) (arg14 : Memref sig .tc .vmem S1x512x128 .f32) (harg14 : arg14.IsWhole) (arg15 : Memref sig .tc .vmem S1x1x512 .f32) (harg15 : arg15.IsWhole) (arg16 : Memref sig .tc .vmem S1x1x512 .f32) (harg16 : arg16.IsWhole) (arg17 : Memref sig .tc .vmem S1x128 .f32) (harg17 : arg17.IsWhole) (arg18 : Memref sig .tc .vmem S2048x512 .f32) (harg18 : arg18.IsWhole) (arg19 : Memref sig .tc .vmem S2048x512 .f32) (harg19 : arg19.IsWhole) (arg20 : Memref sig .tc .vmem S2048x512 .f32) (harg20 : arg20.IsWhole) (arg21 : Memref sig .tc .vmem S2048x512 .f32) (harg21 : arg21.IsWhole) (arg22 : Memref sig .tc .vmem S16x512 .f32) (harg22 : arg22.IsWhole) (arg23 : Memref sig .tc .vmem S16x512 .f32) (harg23 : arg23.IsWhole)
    (x0 : Vec Ideal S2048x128 .f32) (x1 : Vec Ideal S2048x128 .f32) (x2 : Vec Ideal S1x1x512 .f32) (x3 : Vec Ideal S1x1x512 .f32) (x4 : Vec Ideal S1x128x512 .bf16) (x5 : Vec Ideal S1x128x512 .bf16) (x6 : Vec Ideal S1x128x512 .bf16) (x7 : Vec Ideal S1x128x512 .bf16) (x8 : Vec Ideal S1x128 .f32)  {I : Inp} (h : I.Holds x0 x1 x2 x3 x4 x5 x6 x7 x8) :
    (fun P => ∀ (n : Fin 128) (q : Fin 512), P (ix3 (0 : Fin 1) n q) = (I.dbr n q : EReal)) (out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8) := by
  unfold out0_A_10
  exact read_stores VO0_10 VO0_10.junk _ (fun P => ∀ (n : Fin 128) (q : Fin 512), P (ix3 (0 : Fin 1) n q) = (I.dbr n q : EReal)) (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8)
    (body_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 h) z3

theorem outA_11 (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S1x1x512 .f32) (harg3 : arg3.IsWhole) (arg4 : Memref sig .tc .vmem S1x1x512 .f32) (harg4 : arg4.IsWhole) (arg5 : Memref sig .tc .vmem S1x128x512 .bf16) (harg5 : arg5.IsWhole) (arg6 : Memref sig .tc .vmem S1x128x512 .bf16) (harg6 : arg6.IsWhole) (arg7 : Memref sig .tc .vmem S1x128x512 .bf16) (harg7 : arg7.IsWhole) (arg8 : Memref sig .tc .vmem S1x128x512 .bf16) (harg8 : arg8.IsWhole) (arg9 : Memref sig .tc .vmem S1x128 .f32) (harg9 : arg9.IsWhole) (arg10 : Memref sig .tc .vmem S2048x128 .f32) (harg10 : arg10.IsWhole) (arg11 : Memref sig .tc .vmem S1x128x512 .f32) (harg11 : arg11.IsWhole) (arg12 : Memref sig .tc .vmem S1x128x512 .f32) (harg12 : arg12.IsWhole) (arg13 : Memref sig .tc .vmem S1x512x128 .f32) (harg13 : arg13.IsWhole) (arg14 : Memref sig .tc .vmem S1x512x128 .f32) (harg14 : arg14.IsWhole) (arg15 : Memref sig .tc .vmem S1x1x512 .f32) (harg15 : arg15.IsWhole) (arg16 : Memref sig .tc .vmem S1x1x512 .f32) (harg16 : arg16.IsWhole) (arg17 : Memref sig .tc .vmem S1x128 .f32) (harg17 : arg17.IsWhole) (arg18 : Memref sig .tc .vmem S2048x512 .f32) (harg18 : arg18.IsWhole) (arg19 : Memref sig .tc .vmem S2048x512 .f32) (harg19 : arg19.IsWhole) (arg20 : Memref sig .tc .vmem S2048x512 .f32) (harg20 : arg20.IsWhole) (arg21 : Memref sig .tc .vmem S2048x512 .f32) (harg21 : arg21.IsWhole) (arg22 : Memref sig .tc .vmem S16x512 .f32) (harg22 : arg22.IsWhole) (arg23 : Memref sig .tc .vmem S16x512 .f32) (harg23 : arg23.IsWhole)
    (x0 : Vec Ideal S2048x128 .f32) (x1 : Vec Ideal S2048x128 .f32) (x2 : Vec Ideal S1x1x512 .f32) (x3 : Vec Ideal S1x1x512 .f32) (x4 : Vec Ideal S1x128x512 .bf16) (x5 : Vec Ideal S1x128x512 .bf16) (x6 : Vec Ideal S1x128x512 .bf16) (x7 : Vec Ideal S1x128x512 .bf16) (x8 : Vec Ideal S1x128 .f32)  {I : Inp} (h : I.Holds x0 x1 x2 x3 x4 x5 x6 x7 x8) :
    (fun P => ∀ (n : Fin 128) (q : Fin 512), P (ix3 (0 : Fin 1) n q) = (I.dbi n q : EReal)) (out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8) := by
  unfold out0_A_11
  exact read_stores VO0_11 VO0_11.junk _ (fun P => ∀ (n : Fin 128) (q : Fin 512), P (ix3 (0 : Fin 1) n q) = (I.dbi n q : EReal)) (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8)
    (body_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 h) z3

theorem outA_12 (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S1x1x512 .f32) (harg3 : arg3.IsWhole) (arg4 : Memref sig .tc .vmem S1x1x512 .f32) (harg4 : arg4.IsWhole) (arg5 : Memref sig .tc .vmem S1x128x512 .bf16) (harg5 : arg5.IsWhole) (arg6 : Memref sig .tc .vmem S1x128x512 .bf16) (harg6 : arg6.IsWhole) (arg7 : Memref sig .tc .vmem S1x128x512 .bf16) (harg7 : arg7.IsWhole) (arg8 : Memref sig .tc .vmem S1x128x512 .bf16) (harg8 : arg8.IsWhole) (arg9 : Memref sig .tc .vmem S1x128 .f32) (harg9 : arg9.IsWhole) (arg10 : Memref sig .tc .vmem S2048x128 .f32) (harg10 : arg10.IsWhole) (arg11 : Memref sig .tc .vmem S1x128x512 .f32) (harg11 : arg11.IsWhole) (arg12 : Memref sig .tc .vmem S1x128x512 .f32) (harg12 : arg12.IsWhole) (arg13 : Memref sig .tc .vmem S1x512x128 .f32) (harg13 : arg13.IsWhole) (arg14 : Memref sig .tc .vmem S1x512x128 .f32) (harg14 : arg14.IsWhole) (arg15 : Memref sig .tc .vmem S1x1x512 .f32) (harg15 : arg15.IsWhole) (arg16 : Memref sig .tc .vmem S1x1x512 .f32) (harg16 : arg16.IsWhole) (arg17 : Memref sig .tc .vmem S1x128 .f32) (harg17 : arg17.IsWhole) (arg18 : Memref sig .tc .vmem S2048x512 .f32) (harg18 : arg18.IsWhole) (arg19 : Memref sig .tc .vmem S2048x512 .f32) (harg19 : arg19.IsWhole) (arg20 : Memref sig .tc .vmem S2048x512 .f32) (harg20 : arg20.IsWhole) (arg21 : Memref sig .tc .vmem S2048x512 .f32) (harg21 : arg21.IsWhole) (arg22 : Memref sig .tc .vmem S16x512 .f32) (harg22 : arg22.IsWhole) (arg23 : Memref sig .tc .vmem S16x512 .f32) (harg23 : arg23.IsWhole)
    (x0 : Vec Ideal S2048x128 .f32) (x1 : Vec Ideal S2048x128 .f32) (x2 : Vec Ideal S1x1x512 .f32) (x3 : Vec Ideal S1x1x512 .f32) (x4 : Vec Ideal S1x128x512 .bf16) (x5 : Vec Ideal S1x128x512 .bf16) (x6 : Vec Ideal S1x128x512 .bf16) (x7 : Vec Ideal S1x128x512 .bf16) (x8 : Vec Ideal S1x128 .f32)  {I : Inp} (h : I.Holds x0 x1 x2 x3 x4 x5 x6 x7 x8) :
    (fun P => ∀ (q : Fin 512) (n : Fin 128), P (ix3 (0 : Fin 1) q n) = (I.dcr q n : EReal)) (out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8) := by
  unfold out0_A_12
  exact read_stores VO0_12 VO0_12.junk _ (fun P => ∀ (q : Fin 512) (n : Fin 128), P (ix3 (0 : Fin 1) q n) = (I.dcr q n : EReal)) (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8)
    (body_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 h) z3

theorem outA_13 (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S1x1x512 .f32) (harg3 : arg3.IsWhole) (arg4 : Memref sig .tc .vmem S1x1x512 .f32) (harg4 : arg4.IsWhole) (arg5 : Memref sig .tc .vmem S1x128x512 .bf16) (harg5 : arg5.IsWhole) (arg6 : Memref sig .tc .vmem S1x128x512 .bf16) (harg6 : arg6.IsWhole) (arg7 : Memref sig .tc .vmem S1x128x512 .bf16) (harg7 : arg7.IsWhole) (arg8 : Memref sig .tc .vmem S1x128x512 .bf16) (harg8 : arg8.IsWhole) (arg9 : Memref sig .tc .vmem S1x128 .f32) (harg9 : arg9.IsWhole) (arg10 : Memref sig .tc .vmem S2048x128 .f32) (harg10 : arg10.IsWhole) (arg11 : Memref sig .tc .vmem S1x128x512 .f32) (harg11 : arg11.IsWhole) (arg12 : Memref sig .tc .vmem S1x128x512 .f32) (harg12 : arg12.IsWhole) (arg13 : Memref sig .tc .vmem S1x512x128 .f32) (harg13 : arg13.IsWhole) (arg14 : Memref sig .tc .vmem S1x512x128 .f32) (harg14 : arg14.IsWhole) (arg15 : Memref sig .tc .vmem S1x1x512 .f32) (harg15 : arg15.IsWhole) (arg16 : Memref sig .tc .vmem S1x1x512 .f32) (harg16 : arg16.IsWhole) (arg17 : Memref sig .tc .vmem S1x128 .f32) (harg17 : arg17.IsWhole) (arg18 : Memref sig .tc .vmem S2048x512 .f32) (harg18 : arg18.IsWhole) (arg19 : Memref sig .tc .vmem S2048x512 .f32) (harg19 : arg19.IsWhole) (arg20 : Memref sig .tc .vmem S2048x512 .f32) (harg20 : arg20.IsWhole) (arg21 : Memref sig .tc .vmem S2048x512 .f32) (harg21 : arg21.IsWhole) (arg22 : Memref sig .tc .vmem S16x512 .f32) (harg22 : arg22.IsWhole) (arg23 : Memref sig .tc .vmem S16x512 .f32) (harg23 : arg23.IsWhole)
    (x0 : Vec Ideal S2048x128 .f32) (x1 : Vec Ideal S2048x128 .f32) (x2 : Vec Ideal S1x1x512 .f32) (x3 : Vec Ideal S1x1x512 .f32) (x4 : Vec Ideal S1x128x512 .bf16) (x5 : Vec Ideal S1x128x512 .bf16) (x6 : Vec Ideal S1x128x512 .bf16) (x7 : Vec Ideal S1x128x512 .bf16) (x8 : Vec Ideal S1x128 .f32)  {I : Inp} (h : I.Holds x0 x1 x2 x3 x4 x5 x6 x7 x8) :
    (fun P => ∀ (q : Fin 512) (n : Fin 128), P (ix3 (0 : Fin 1) q n) = (I.dci q n : EReal)) (out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8) := by
  unfold out0_A_13
  exact read_stores VO0_13 VO0_13.junk _ (fun P => ∀ (q : Fin 512) (n : Fin 128), P (ix3 (0 : Fin 1) q n) = (I.dci q n : EReal)) (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8)
    (body_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 h) z3

theorem outA_14 (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S1x1x512 .f32) (harg3 : arg3.IsWhole) (arg4 : Memref sig .tc .vmem S1x1x512 .f32) (harg4 : arg4.IsWhole) (arg5 : Memref sig .tc .vmem S1x128x512 .bf16) (harg5 : arg5.IsWhole) (arg6 : Memref sig .tc .vmem S1x128x512 .bf16) (harg6 : arg6.IsWhole) (arg7 : Memref sig .tc .vmem S1x128x512 .bf16) (harg7 : arg7.IsWhole) (arg8 : Memref sig .tc .vmem S1x128x512 .bf16) (harg8 : arg8.IsWhole) (arg9 : Memref sig .tc .vmem S1x128 .f32) (harg9 : arg9.IsWhole) (arg10 : Memref sig .tc .vmem S2048x128 .f32) (harg10 : arg10.IsWhole) (arg11 : Memref sig .tc .vmem S1x128x512 .f32) (harg11 : arg11.IsWhole) (arg12 : Memref sig .tc .vmem S1x128x512 .f32) (harg12 : arg12.IsWhole) (arg13 : Memref sig .tc .vmem S1x512x128 .f32) (harg13 : arg13.IsWhole) (arg14 : Memref sig .tc .vmem S1x512x128 .f32) (harg14 : arg14.IsWhole) (arg15 : Memref sig .tc .vmem S1x1x512 .f32) (harg15 : arg15.IsWhole) (arg16 : Memref sig .tc .vmem S1x1x512 .f32) (harg16 : arg16.IsWhole) (arg17 : Memref sig .tc .vmem S1x128 .f32) (harg17 : arg17.IsWhole) (arg18 : Memref sig .tc .vmem S2048x512 .f32) (harg18 : arg18.IsWhole) (arg19 : Memref sig .tc .vmem S2048x512 .f32) (harg19 : arg19.IsWhole) (arg20 : Memref sig .tc .vmem S2048x512 .f32) (harg20 : arg20.IsWhole) (arg21 : Memref sig .tc .vmem S2048x512 .f32) (harg21 : arg21.IsWhole) (arg22 : Memref sig .tc .vmem S16x512 .f32) (harg22 : arg22.IsWhole) (arg23 : Memref sig .tc .vmem S16x512 .f32) (harg23 : arg23.IsWhole)
    (x0 : Vec Ideal S2048x128 .f32) (x1 : Vec Ideal S2048x128 .f32) (x2 : Vec Ideal S1x1x512 .f32) (x3 : Vec Ideal S1x1x512 .f32) (x4 : Vec Ideal S1x128x512 .bf16) (x5 : Vec Ideal S1x128x512 .bf16) (x6 : Vec Ideal S1x128x512 .bf16) (x7 : Vec Ideal S1x128x512 .bf16) (x8 : Vec Ideal S1x128 .f32)  {I : Inp} (h : I.Holds x0 x1 x2 x3 x4 x5 x6 x7 x8) :
    (fun P => ∀ q : Fin 512, P (ix3 (0 : Fin 1) (0 : Fin 1) q) = ((I.da q).re : EReal)) (out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8) := by
  unfold out0_A_14
  exact read_stores VO0_14 VO0_14.junk _ (fun P => ∀ q : Fin 512, P (ix3 (0 : Fin 1) (0 : Fin 1) q) = ((I.da q).re : EReal)) (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8)
    (body_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 h) z3

theorem outA_15 (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S1x1x512 .f32) (harg3 : arg3.IsWhole) (arg4 : Memref sig .tc .vmem S1x1x512 .f32) (harg4 : arg4.IsWhole) (arg5 : Memref sig .tc .vmem S1x128x512 .bf16) (harg5 : arg5.IsWhole) (arg6 : Memref sig .tc .vmem S1x128x512 .bf16) (harg6 : arg6.IsWhole) (arg7 : Memref sig .tc .vmem S1x128x512 .bf16) (harg7 : arg7.IsWhole) (arg8 : Memref sig .tc .vmem S1x128x512 .bf16) (harg8 : arg8.IsWhole) (arg9 : Memref sig .tc .vmem S1x128 .f32) (harg9 : arg9.IsWhole) (arg10 : Memref sig .tc .vmem S2048x128 .f32) (harg10 : arg10.IsWhole) (arg11 : Memref sig .tc .vmem S1x128x512 .f32) (harg11 : arg11.IsWhole) (arg12 : Memref sig .tc .vmem S1x128x512 .f32) (harg12 : arg12.IsWhole) (arg13 : Memref sig .tc .vmem S1x512x128 .f32) (harg13 : arg13.IsWhole) (arg14 : Memref sig .tc .vmem S1x512x128 .f32) (harg14 : arg14.IsWhole) (arg15 : Memref sig .tc .vmem S1x1x512 .f32) (harg15 : arg15.IsWhole) (arg16 : Memref sig .tc .vmem S1x1x512 .f32) (harg16 : arg16.IsWhole) (arg17 : Memref sig .tc .vmem S1x128 .f32) (harg17 : arg17.IsWhole) (arg18 : Memref sig .tc .vmem S2048x512 .f32) (harg18 : arg18.IsWhole) (arg19 : Memref sig .tc .vmem S2048x512 .f32) (harg19 : arg19.IsWhole) (arg20 : Memref sig .tc .vmem S2048x512 .f32) (harg20 : arg20.IsWhole) (arg21 : Memref sig .tc .vmem S2048x512 .f32) (harg21 : arg21.IsWhole) (arg22 : Memref sig .tc .vmem S16x512 .f32) (harg22 : arg22.IsWhole) (arg23 : Memref sig .tc .vmem S16x512 .f32) (harg23 : arg23.IsWhole)
    (x0 : Vec Ideal S2048x128 .f32) (x1 : Vec Ideal S2048x128 .f32) (x2 : Vec Ideal S1x1x512 .f32) (x3 : Vec Ideal S1x1x512 .f32) (x4 : Vec Ideal S1x128x512 .bf16) (x5 : Vec Ideal S1x128x512 .bf16) (x6 : Vec Ideal S1x128x512 .bf16) (x7 : Vec Ideal S1x128x512 .bf16) (x8 : Vec Ideal S1x128 .f32)  {I : Inp} (h : I.Holds x0 x1 x2 x3 x4 x5 x6 x7 x8) :
    (fun P => ∀ q : Fin 512, P (ix3 (0 : Fin 1) (0 : Fin 1) q) = ((I.da q).im : EReal)) (out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8) := by
  unfold out0_A_15
  exact read_stores VO0_15 VO0_15.junk _ (fun P => ∀ q : Fin 512, P (ix3 (0 : Fin 1) (0 : Fin 1) q) = ((I.da q).im : EReal)) (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8)
    (body_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 h) z3

theorem outA_16 (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S1x1x512 .f32) (harg3 : arg3.IsWhole) (arg4 : Memref sig .tc .vmem S1x1x512 .f32) (harg4 : arg4.IsWhole) (arg5 : Memref sig .tc .vmem S1x128x512 .bf16) (harg5 : arg5.IsWhole) (arg6 : Memref sig .tc .vmem S1x128x512 .bf16) (harg6 : arg6.IsWhole) (arg7 : Memref sig .tc .vmem S1x128x512 .bf16) (harg7 : arg7.IsWhole) (arg8 : Memref sig .tc .vmem S1x128x512 .bf16) (harg8 : arg8.IsWhole) (arg9 : Memref sig .tc .vmem S1x128 .f32) (harg9 : arg9.IsWhole) (arg10 : Memref sig .tc .vmem S2048x128 .f32) (harg10 : arg10.IsWhole) (arg11 : Memref sig .tc .vmem S1x128x512 .f32) (harg11 : arg11.IsWhole) (arg12 : Memref sig .tc .vmem S1x128x512 .f32) (harg12 : arg12.IsWhole) (arg13 : Memref sig .tc .vmem S1x512x128 .f32) (harg13 : arg13.IsWhole) (arg14 : Memref sig .tc .vmem S1x512x128 .f32) (harg14 : arg14.IsWhole) (arg15 : Memref sig .tc .vmem S1x1x512 .f32) (harg15 : arg15.IsWhole) (arg16 : Memref sig .tc .vmem S1x1x512 .f32) (harg16 : arg16.IsWhole) (arg17 : Memref sig .tc .vmem S1x128 .f32) (harg17 : arg17.IsWhole) (arg18 : Memref sig .tc .vmem S2048x512 .f32) (harg18 : arg18.IsWhole) (arg19 : Memref sig .tc .vmem S2048x512 .f32) (harg19 : arg19.IsWhole) (arg20 : Memref sig .tc .vmem S2048x512 .f32) (harg20 : arg20.IsWhole) (arg21 : Memref sig .tc .vmem S2048x512 .f32) (harg21 : arg21.IsWhole) (arg22 : Memref sig .tc .vmem S16x512 .f32) (harg22 : arg22.IsWhole) (arg23 : Memref sig .tc .vmem S16x512 .f32) (harg23 : arg23.IsWhole)
    (x0 : Vec Ideal S2048x128 .f32) (x1 : Vec Ideal S2048x128 .f32) (x2 : Vec Ideal S1x1x512 .f32) (x3 : Vec Ideal S1x1x512 .f32) (x4 : Vec Ideal S1x128x512 .bf16) (x5 : Vec Ideal S1x128x512 .bf16) (x6 : Vec Ideal S1x128x512 .bf16) (x7 : Vec Ideal S1x128x512 .bf16) (x8 : Vec Ideal S1x128 .f32)  {I : Inp} (h : I.Holds x0 x1 x2 x3 x4 x5 x6 x7 x8) :
    (fun P => ∀ n : Fin 128, P (ix2 (0 : Fin 1) n) = (I.dd n : EReal)) (out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8) := by
  unfold out0_A_16
  exact read_stores VO0_16 VO0_16.junk _ (fun P => ∀ n : Fin 128, P (ix2 (0 : Fin 1) n) = (I.dd n : EReal)) (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8)
    (body_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 h) z2

end Cert.Scan
-- ==== Proof.Scan.Point.lean ====
/-
  What one grid point writes back, in terms of the real numbers that its blocks hold.
-/
module

public import proofs.«01_k».proof.Proof.Scan.PointA
public import proofs.«01_k».proof.Proof.Gen.KernelIdeal.Frame
public import Idealize.ShloMosaic.Lib.Pipeline.Value

@[expose] public section

set_option maxRecDepth 16384

noncomputable section

namespace Cert.Scan

open Cert.KernelIdeal Cert.KernelIdeal.Gen
open Idealize.ShloMosaic Idealize.ShloMosaic.TcCoe

variable (m : (ℓ : Loc nD τ sig) → Buf (Elt Ideal) ℓ) (c : Dev nD) (t : Fin cfg0.N) {I : Inp}

/-- The nine input blocks of a grid point hold the numbers `I`. -/
abbrev HoldsAt (I : Inp) : Prop := I.Holds (iblk m c 0 t) (iblk m c 1 t) (iblk m c 2 t) (iblk m c 3 t) (iblk m c 4 t) (iblk m c 5 t)
  (iblk m c 6 t) (iblk m c 7 t) (iblk m c 8 t)

attribute [local irreducible] out0_A_9 out0_A_10 out0_A_11 out0_A_12 out0_A_13 out0_A_14 out0_A_15 out0_A_16 iblk

theorem out_9 (h : HoldsAt m c t I) : (fun P => ∀ (r : Fin 2048) (n : Fin 128), P (ix2 r n) = (I.du r n : EReal)) (outsAt0 m c t).1 := by
  have e := outA_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t) (iblk m c 8 t) h
  unfold outsAt0
  exact e

theorem out_10 (h : HoldsAt m c t I) : (fun P => ∀ (n : Fin 128) (q : Fin 512), P (ix3 (0 : Fin 1) n q) = (I.dbr n q : EReal)) (outsAt0 m c t).2.1 := by
  have e := outA_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t) (iblk m c 8 t) h
  unfold outsAt0
  exact e

theorem out_11 (h : HoldsAt m c t I) : (fun P => ∀ (n : Fin 128) (q : Fin 512), P (ix3 (0 : Fin 1) n q) = (I.dbi n q : EReal)) (outsAt0 m c t).2.2.1 := by
  have e := outA_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t) (iblk m c 8 t) h
  unfold outsAt0
  exact e

theorem out_12 (h : HoldsAt m c t I) : (fun P => ∀ (q : Fin 512) (n : Fin 128), P (ix3 (0 : Fin 1) q n) = (I.dcr q n : EReal)) (outsAt0 m c t).2.2.2.1 := by
  have e := outA_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t) (iblk m c 8 t) h
  unfold outsAt0
  exact e

theorem out_13 (h : HoldsAt m c t I) : (fun P => ∀ (q : Fin 512) (n : Fin 128), P (ix3 (0 : Fin 1) q n) = (I.dci q n : EReal)) (outsAt0 m c t).2.2.2.2.1 := by
  have e := outA_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t) (iblk m c 8 t) h
  unfold outsAt0
  exact e

theorem out_14 (h : HoldsAt m c t I) : (fun P => ∀ q : Fin 512, P (ix3 (0 : Fin 1) (0 : Fin 1) q) = ((I.da q).re : EReal)) (outsAt0 m c t).2.2.2.2.2.1 := by
  have e := outA_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t) (iblk m c 8 t) h
  unfold outsAt0
  exact e

theorem out_15 (h : HoldsAt m c t I) : (fun P => ∀ q : Fin 512, P (ix3 (0 : Fin 1) (0 : Fin 1) q) = ((I.da q).im : EReal)) (outsAt0 m c t).2.2.2.2.2.2.1 := by
  have e := outA_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t) (iblk m c 8 t) h
  unfold outsAt0
  exact e

theorem out_16 (h : HoldsAt m c t I) : (fun P => ∀ n : Fin 128, P (ix2 (0 : Fin 1) n) = (I.dd n : EReal)) (outsAt0 m c t).2.2.2.2.2.2.2 := by
  have e := outA_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t) (iblk m c 8 t) h
  unfold outsAt0
  exact e

end Cert.Scan
-- ==== Proof.Ends.PreK.lean ====
module

public import proofs.«01_k».proof.Proof.Gen.KernelIdeal.Launch
public import Idealize.ShloMosaic.Lib.Pointwise
public import Idealize.ShloMosaic.Lib.StableHlo.RunRead

/-! The discretisation, written out: the values that the rest of the program starts from. -/

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.ShloMosaic.StableHlo

/-- Value 0. -/
def pre0 (arg4 : FVec Ideal S64 .f32) : FVec Ideal S64 .f32 :=
  let v0 : FVec Ideal S64 .f32 := (Host.exp) arg4
  v0

set_option maxHeartbeats 2000000 in
theorem pre0_eq (V : Valuation τ sig (Elt Ideal)) : after hostOps0 V (Proc.devRef .tc main_v0)
    = pre0 (V (Proc.devRef .tc main_arg4)) := by
  after_results
  rfl

/-- Value 1. -/
def pre1 (arg4 : FVec Ideal S64 .f32) : FVec Ideal S64x1 .f32 :=
  let v0 : FVec Ideal S64 .f32 := (Host.exp) arg4
  let v1 : FVec Ideal S64x1 .f32 := (broadcastInDim S64x1 ![0] bcast_S64_S64x1_0) v0
  v1

set_option maxHeartbeats 2000000 in
theorem pre1_eq (V : Valuation τ sig (Elt Ideal)) : after hostOps0 V (Proc.devRef .tc main_v1)
    = pre1 (V (Proc.devRef .tc main_arg4)) := by
  after_results
  rfl

/-- Value 4. -/
def pre4 (arg2 : FVec Ideal S64x64 .f32) (arg4 : FVec Ideal S64 .f32) : FVec Ideal S64x64 .f32 :=
  let v0 : FVec Ideal S64 .f32 := (Host.exp) arg4
  let v1 : FVec Ideal S64x1 .f32 := (broadcastInDim S64x1 ![0] bcast_S64_S64x1_0) v0
  let v2 : FVec Ideal S64x64 .f32 := (broadcastInDim S64x64 ![0, 1] bcast_S64x1_S64x64_0_1) v1
  let v3 : FVec Ideal S64x64 .f32 := (mulf) arg2 v2
  let v4 : FVec Ideal S64x64 .f32 := (Host.exp) v3
  v4

set_option maxHeartbeats 2000000 in
theorem pre4_eq (V : Valuation τ sig (Elt Ideal)) : after hostOps0 V (Proc.devRef .tc main_v4)
    = pre4 (V (Proc.devRef .tc main_arg2)) (V (Proc.devRef .tc main_arg4)) := by
  after_results
  rfl

/-- Value 7. -/
def pre7 (arg3 : FVec Ideal S64x64 .f32) (arg4 : FVec Ideal S64 .f32) : FVec Ideal S64x64 .f32 :=
  let v0 : FVec Ideal S64 .f32 := (Host.exp) arg4
  let v1 : FVec Ideal S64x1 .f32 := (broadcastInDim S64x1 ![0] bcast_S64_S64x1_0) v0
  let v5 : FVec Ideal S64x64 .f32 := (broadcastInDim S64x64 ![0, 1] bcast_S64x1_S64x64_0_1) v1
  let v6 : FVec Ideal S64x64 .f32 := (mulf) arg3 v5
  let v7 : FVec Ideal S64x64 .f32 := (Host.cos) v6
  v7

set_option maxHeartbeats 2000000 in
theorem pre7_eq (V : Valuation τ sig (Elt Ideal)) : after hostOps0 V (Proc.devRef .tc main_v7)
    = pre7 (V (Proc.devRef .tc main_arg3)) (V (Proc.devRef .tc main_arg4)) := by
  after_results
  rfl

/-- Value 8. -/
def pre8 (arg3 : FVec Ideal S64x64 .f32) (arg4 : FVec Ideal S64 .f32) : FVec Ideal S64x64 .f32 :=
  let v0 : FVec Ideal S64 .f32 := (Host.exp) arg4
  let v1 : FVec Ideal S64x1 .f32 := (broadcastInDim S64x1 ![0] bcast_S64_S64x1_0) v0
  let v5 : FVec Ideal S64x64 .f32 := (broadcastInDim S64x64 ![0, 1] bcast_S64x1_S64x64_0_1) v1
  let v6 : FVec Ideal S64x64 .f32 := (mulf) arg3 v5
  let v8 : FVec Ideal S64x64 .f32 := (Host.sin) v6
  v8

set_option maxHeartbeats 2000000 in
theorem pre8_eq (V : Valuation τ sig (Elt Ideal)) : after hostOps0 V (Proc.devRef .tc main_v8)
    = pre8 (V (Proc.devRef .tc main_arg3)) (V (Proc.devRef .tc main_arg4)) := by
  after_results
  rfl

/-- Value 9. -/
def pre9 (arg2 : FVec Ideal S64x64 .f32) (arg3 : FVec Ideal S64x64 .f32) (arg4 : FVec Ideal S64 .f32) : FVec Ideal S64x64 .f32 :=
  let v0 : FVec Ideal S64 .f32 := (Host.exp) arg4
  let v1 : FVec Ideal S64x1 .f32 := (broadcastInDim S64x1 ![0] bcast_S64_S64x1_0) v0
  let v2 : FVec Ideal S64x64 .f32 := (broadcastInDim S64x64 ![0, 1] bcast_S64x1_S64x64_0_1) v1
  let v3 : FVec Ideal S64x64 .f32 := (mulf) arg2 v2
  let v4 : FVec Ideal S64x64 .f32 := (Host.exp) v3
  let v5 : FVec Ideal S64x64 .f32 := (broadcastInDim S64x64 ![0, 1] bcast_S64x1_S64x64_0_1) v1
  let v6 : FVec Ideal S64x64 .f32 := (mulf) arg3 v5
  let v7 : FVec Ideal S64x64 .f32 := (Host.cos) v6
  let v9 : FVec Ideal S64x64 .f32 := (mulf) v4 v7
  v9

set_option maxHeartbeats 2000000 in
theorem pre9_eq (V : Valuation τ sig (Elt Ideal)) : after hostOps0 V (Proc.devRef .tc main_v9)
    = pre9 (V (Proc.devRef .tc main_arg2)) (V (Proc.devRef .tc main_arg3)) (V (Proc.devRef .tc main_arg4)) := by
  after_results
  rfl

/-- Value 12. -/
def pre12 (arg3 : FVec Ideal S64x64 .f32) (arg4 : FVec Ideal S64 .f32) : FVec Ideal S64x64 .f32 :=
  let v0 : FVec Ideal S64 .f32 := (Host.exp) arg4
  let v1 : FVec Ideal S64x1 .f32 := (broadcastInDim S64x1 ![0] bcast_S64_S64x1_0) v0
  let v10 : FVec Ideal S64x64 .f32 := (broadcastInDim S64x64 ![0, 1] bcast_S64x1_S64x64_0_1) v1
  let v11 : FVec Ideal S64x64 .f32 := (mulf) arg3 v10
  let v12 : FVec Ideal S64x64 .f32 := (Host.sin) v11
  v12

set_option maxHeartbeats 2000000 in
theorem pre12_eq (V : Valuation τ sig (Elt Ideal)) : after hostOps0 V (Proc.devRef .tc main_v12)
    = pre12 (V (Proc.devRef .tc main_arg3)) (V (Proc.devRef .tc main_arg4)) := by
  after_results
  rfl

/-- Value 13. -/
def pre13 (arg3 : FVec Ideal S64x64 .f32) (arg4 : FVec Ideal S64 .f32) : FVec Ideal S64x64 .f32 :=
  let v0 : FVec Ideal S64 .f32 := (Host.exp) arg4
  let v1 : FVec Ideal S64x1 .f32 := (broadcastInDim S64x1 ![0] bcast_S64_S64x1_0) v0
  let v10 : FVec Ideal S64x64 .f32 := (broadcastInDim S64x64 ![0, 1] bcast_S64x1_S64x64_0_1) v1
  let v11 : FVec Ideal S64x64 .f32 := (mulf) arg3 v10
  let v13 : FVec Ideal S64x64 .f32 := (Host.cos) v11
  v13

set_option maxHeartbeats 2000000 in
theorem pre13_eq (V : Valuation τ sig (Elt Ideal)) : after hostOps0 V (Proc.devRef .tc main_v13)
    = pre13 (V (Proc.devRef .tc main_arg3)) (V (Proc.devRef .tc main_arg4)) := by
  after_results
  rfl

/-- Value 14. -/
def pre14 (arg2 : FVec Ideal S64x64 .f32) (arg3 : FVec Ideal S64x64 .f32) (arg4 : FVec Ideal S64 .f32) : FVec Ideal S64x64 .f32 :=
  let v0 : FVec Ideal S64 .f32 := (Host.exp) arg4
  let v1 : FVec Ideal S64x1 .f32 := (broadcastInDim S64x1 ![0] bcast_S64_S64x1_0) v0
  let v2 : FVec Ideal S64x64 .f32 := (broadcastInDim S64x64 ![0, 1] bcast_S64x1_S64x64_0_1) v1
  let v3 : FVec Ideal S64x64 .f32 := (mulf) arg2 v2
  let v4 : FVec Ideal S64x64 .f32 := (Host.exp) v3
  let v10 : FVec Ideal S64x64 .f32 := (broadcastInDim S64x64 ![0, 1] bcast_S64x1_S64x64_0_1) v1
  let v11 : FVec Ideal S64x64 .f32 := (mulf) arg3 v10
  let v12 : FVec Ideal S64x64 .f32 := (Host.sin) v11
  let v14 : FVec Ideal S64x64 .f32 := (mulf) v4 v12
  v14

set_option maxHeartbeats 2000000 in
theorem pre14_eq (V : Valuation τ sig (Elt Ideal)) : after hostOps0 V (Proc.devRef .tc main_v14)
    = pre14 (V (Proc.devRef .tc main_arg2)) (V (Proc.devRef .tc main_arg3)) (V (Proc.devRef .tc main_arg4)) := by
  after_results
  rfl

/-- Value 17. -/
def pre17 (arg2 : FVec Ideal S64x64 .f32) (arg3 : FVec Ideal S64x64 .f32) : FVec Ideal S64x64 .f32 :=
  let v15 : FVec Ideal S64x64 .f32 := (mulf) arg2 arg2
  let v16 : FVec Ideal S64x64 .f32 := (mulf) arg3 arg3
  let v17 : FVec Ideal S64x64 .f32 := (addf) v15 v16
  v17

set_option maxHeartbeats 2000000 in
theorem pre17_eq (V : Valuation τ sig (Elt Ideal)) : after hostOps0 V (Proc.devRef .tc main_v17)
    = pre17 (V (Proc.devRef .tc main_arg2)) (V (Proc.devRef .tc main_arg3)) := by
  after_results
  rfl

/-- Value 19. -/
def pre19 (arg2 : FVec Ideal S64x64 .f32) (arg3 : FVec Ideal S64x64 .f32) (arg4 : FVec Ideal S64 .f32) : FVec Ideal S64x64 .f32 :=
  let v0 : FVec Ideal S64 .f32 := (Host.exp) arg4
  let v1 : FVec Ideal S64x1 .f32 := (broadcastInDim S64x1 ![0] bcast_S64_S64x1_0) v0
  let v2 : FVec Ideal S64x64 .f32 := (broadcastInDim S64x64 ![0, 1] bcast_S64x1_S64x64_0_1) v1
  let v3 : FVec Ideal S64x64 .f32 := (mulf) arg2 v2
  let v4 : FVec Ideal S64x64 .f32 := (Host.exp) v3
  let v5 : FVec Ideal S64x64 .f32 := (broadcastInDim S64x64 ![0, 1] bcast_S64x1_S64x64_0_1) v1
  let v6 : FVec Ideal S64x64 .f32 := (mulf) arg3 v5
  let v7 : FVec Ideal S64x64 .f32 := (Host.cos) v6
  let v9 : FVec Ideal S64x64 .f32 := (mulf) v4 v7
  let cst : FVec Ideal S_ .f32 := constant (F := Ideal) S_ .f32 0x3F800000#32
  let v18 : FVec Ideal S64x64 .f32 := (broadcastInDim S64x64 ![] bcast_S_S64x64) cst
  let v19 : FVec Ideal S64x64 .f32 := (subf) v9 v18
  v19

set_option maxHeartbeats 2000000 in
theorem pre19_eq (V : Valuation τ sig (Elt Ideal)) : after hostOps0 V (Proc.devRef .tc main_v19)
    = pre19 (V (Proc.devRef .tc main_arg2)) (V (Proc.devRef .tc main_arg3)) (V (Proc.devRef .tc main_arg4)) := by
  after_results
  rfl

/-- Value 22. -/
def pre22 (arg2 : FVec Ideal S64x64 .f32) (arg3 : FVec Ideal S64x64 .f32) (arg4 : FVec Ideal S64 .f32) : FVec Ideal S64x64 .f32 :=
  let v0 : FVec Ideal S64 .f32 := (Host.exp) arg4
  let v1 : FVec Ideal S64x1 .f32 := (broadcastInDim S64x1 ![0] bcast_S64_S64x1_0) v0
  let v2 : FVec Ideal S64x64 .f32 := (broadcastInDim S64x64 ![0, 1] bcast_S64x1_S64x64_0_1) v1
  let v3 : FVec Ideal S64x64 .f32 := (mulf) arg2 v2
  let v4 : FVec Ideal S64x64 .f32 := (Host.exp) v3
  let v5 : FVec Ideal S64x64 .f32 := (broadcastInDim S64x64 ![0, 1] bcast_S64x1_S64x64_0_1) v1
  let v6 : FVec Ideal S64x64 .f32 := (mulf) arg3 v5
  let v7 : FVec Ideal S64x64 .f32 := (Host.cos) v6
  let v9 : FVec Ideal S64x64 .f32 := (mulf) v4 v7
  let v10 : FVec Ideal S64x64 .f32 := (broadcastInDim S64x64 ![0, 1] bcast_S64x1_S64x64_0_1) v1
  let v11 : FVec Ideal S64x64 .f32 := (mulf) arg3 v10
  let v12 : FVec Ideal S64x64 .f32 := (Host.sin) v11
  let v14 : FVec Ideal S64x64 .f32 := (mulf) v4 v12
  let cst : FVec Ideal S_ .f32 := constant (F := Ideal) S_ .f32 0x3F800000#32
  let v18 : FVec Ideal S64x64 .f32 := (broadcastInDim S64x64 ![] bcast_S_S64x64) cst
  let v19 : FVec Ideal S64x64 .f32 := (subf) v9 v18
  let v20 : FVec Ideal S64x64 .f32 := (mulf) v19 arg2
  let v21 : FVec Ideal S64x64 .f32 := (mulf) v14 arg3
  let v22 : FVec Ideal S64x64 .f32 := (addf) v20 v21
  v22

set_option maxHeartbeats 2000000 in
theorem pre22_eq (V : Valuation τ sig (Elt Ideal)) : after hostOps0 V (Proc.devRef .tc main_v22)
    = pre22 (V (Proc.devRef .tc main_arg2)) (V (Proc.devRef .tc main_arg3)) (V (Proc.devRef .tc main_arg4)) := by
  after_results
  rfl

/-- Value 26. -/
def pre26 (arg2 : FVec Ideal S64x64 .f32) (arg3 : FVec Ideal S64x64 .f32) : FVec Ideal S64x64 .f32 :=
  let v15 : FVec Ideal S64x64 .f32 := (mulf) arg2 arg2
  let v16 : FVec Ideal S64x64 .f32 := (mulf) arg3 arg3
  let v17 : FVec Ideal S64x64 .f32 := (addf) v15 v16
  let v24 : FVec Ideal S64x64 .f32 := (mulf) v17 v17
  let cst_0 : FVec Ideal S_ .f32 := constant (F := Ideal) S_ .f32 0x3F800000#32
  let v25 : FVec Ideal S64x64 .f32 := (broadcastInDim S64x64 ![] bcast_S_S64x64) cst_0
  let v26 : FVec Ideal S64x64 .f32 := (Host.divf) v25 v24
  v26

set_option maxHeartbeats 2000000 in
theorem pre26_eq (V : Valuation τ sig (Elt Ideal)) : after hostOps0 V (Proc.devRef .tc main_v26)
    = pre26 (V (Proc.devRef .tc main_arg2)) (V (Proc.devRef .tc main_arg3)) := by
  after_results
  rfl

/-- Value 29. -/
def pre29 (arg2 : FVec Ideal S64x64 .f32) (arg3 : FVec Ideal S64x64 .f32) (arg4 : FVec Ideal S64 .f32) : FVec Ideal S64x64 .f32 :=
  let v0 : FVec Ideal S64 .f32 := (Host.exp) arg4
  let v1 : FVec Ideal S64x1 .f32 := (broadcastInDim S64x1 ![0] bcast_S64_S64x1_0) v0
  let v2 : FVec Ideal S64x64 .f32 := (broadcastInDim S64x64 ![0, 1] bcast_S64x1_S64x64_0_1) v1
  let v3 : FVec Ideal S64x64 .f32 := (mulf) arg2 v2
  let v4 : FVec Ideal S64x64 .f32 := (Host.exp) v3
  let v5 : FVec Ideal S64x64 .f32 := (broadcastInDim S64x64 ![0, 1] bcast_S64x1_S64x64_0_1) v1
  let v6 : FVec Ideal S64x64 .f32 := (mulf) arg3 v5
  let v7 : FVec Ideal S64x64 .f32 := (Host.cos) v6
  let v9 : FVec Ideal S64x64 .f32 := (mulf) v4 v7
  let cst_1 : FVec Ideal S_ .f32 := constant (F := Ideal) S_ .f32 0x3F800000#32
  let v28 : FVec Ideal S64x64 .f32 := (broadcastInDim S64x64 ![] bcast_S_S64x64) cst_1
  let v29 : FVec Ideal S64x64 .f32 := (subf) v9 v28
  v29

set_option maxHeartbeats 2000000 in
theorem pre29_eq (V : Valuation τ sig (Elt Ideal)) : after hostOps0 V (Proc.devRef .tc main_v29)
    = pre29 (V (Proc.devRef .tc main_arg2)) (V (Proc.devRef .tc main_arg3)) (V (Proc.devRef .tc main_arg4)) := by
  after_results
  rfl

/-- Value 31. -/
def pre31 (arg2 : FVec Ideal S64x64 .f32) (arg3 : FVec Ideal S64x64 .f32) (arg4 : FVec Ideal S64 .f32) : FVec Ideal S64x64 .f32 :=
  let v0 : FVec Ideal S64 .f32 := (Host.exp) arg4
  let v1 : FVec Ideal S64x1 .f32 := (broadcastInDim S64x1 ![0] bcast_S64_S64x1_0) v0
  let v2 : FVec Ideal S64x64 .f32 := (broadcastInDim S64x64 ![0, 1] bcast_S64x1_S64x64_0_1) v1
  let v3 : FVec Ideal S64x64 .f32 := (mulf) arg2 v2
  let v4 : FVec Ideal S64x64 .f32 := (Host.exp) v3
  let v5 : FVec Ideal S64x64 .f32 := (broadcastInDim S64x64 ![0, 1] bcast_S64x1_S64x64_0_1) v1
  let v6 : FVec Ideal S64x64 .f32 := (mulf) arg3 v5
  let v7 : FVec Ideal S64x64 .f32 := (Host.cos) v6
  let v9 : FVec Ideal S64x64 .f32 := (mulf) v4 v7
  let v10 : FVec Ideal S64x64 .f32 := (broadcastInDim S64x64 ![0, 1] bcast_S64x1_S64x64_0_1) v1
  let v11 : FVec Ideal S64x64 .f32 := (mulf) arg3 v10
  let v12 : FVec Ideal S64x64 .f32 := (Host.sin) v11
  let v14 : FVec Ideal S64x64 .f32 := (mulf) v4 v12
  let v27 : FVec Ideal S64x64 .f32 := (mulf) v14 arg2
  let cst_1 : FVec Ideal S_ .f32 := constant (F := Ideal) S_ .f32 0x3F800000#32
  let v28 : FVec Ideal S64x64 .f32 := (broadcastInDim S64x64 ![] bcast_S_S64x64) cst_1
  let v29 : FVec Ideal S64x64 .f32 := (subf) v9 v28
  let v30 : FVec Ideal S64x64 .f32 := (mulf) v29 arg3
  let v31 : FVec Ideal S64x64 .f32 := (subf) v27 v30
  v31

set_option maxHeartbeats 2000000 in
theorem pre31_eq (V : Valuation τ sig (Elt Ideal)) : after hostOps0 V (Proc.devRef .tc main_v31)
    = pre31 (V (Proc.devRef .tc main_arg2)) (V (Proc.devRef .tc main_arg3)) (V (Proc.devRef .tc main_arg4)) := by
  after_results
  rfl

/-- Value 35. -/
def pre35 (arg2 : FVec Ideal S64x64 .f32) (arg3 : FVec Ideal S64x64 .f32) : FVec Ideal S64x64 .f32 :=
  let v15 : FVec Ideal S64x64 .f32 := (mulf) arg2 arg2
  let v16 : FVec Ideal S64x64 .f32 := (mulf) arg3 arg3
  let v17 : FVec Ideal S64x64 .f32 := (addf) v15 v16
  let v33 : FVec Ideal S64x64 .f32 := (mulf) v17 v17
  let cst_2 : FVec Ideal S_ .f32 := constant (F := Ideal) S_ .f32 0x3F800000#32
  let v34 : FVec Ideal S64x64 .f32 := (broadcastInDim S64x64 ![] bcast_S_S64x64) cst_2
  let v35 : FVec Ideal S64x64 .f32 := (Host.divf) v34 v33
  v35

set_option maxHeartbeats 2000000 in
theorem pre35_eq (V : Valuation τ sig (Elt Ideal)) : after hostOps0 V (Proc.devRef .tc main_v35)
    = pre35 (V (Proc.devRef .tc main_arg2)) (V (Proc.devRef .tc main_arg3)) := by
  after_results
  rfl

/-- Value 36. -/
def pre36 (arg2 : FVec Ideal S64x64 .f32) (arg3 : FVec Ideal S64x64 .f32) (arg4 : FVec Ideal S64 .f32) : FVec Ideal S64x64x1 .f32 :=
  let v0 : FVec Ideal S64 .f32 := (Host.exp) arg4
  let v1 : FVec Ideal S64x1 .f32 := (broadcastInDim S64x1 ![0] bcast_S64_S64x1_0) v0
  let v2 : FVec Ideal S64x64 .f32 := (broadcastInDim S64x64 ![0, 1] bcast_S64x1_S64x64_0_1) v1
  let v3 : FVec Ideal S64x64 .f32 := (mulf) arg2 v2
  let v4 : FVec Ideal S64x64 .f32 := (Host.exp) v3
  let v5 : FVec Ideal S64x64 .f32 := (broadcastInDim S64x64 ![0, 1] bcast_S64x1_S64x64_0_1) v1
  let v6 : FVec Ideal S64x64 .f32 := (mulf) arg3 v5
  let v7 : FVec Ideal S64x64 .f32 := (Host.cos) v6
  let v9 : FVec Ideal S64x64 .f32 := (mulf) v4 v7
  let v10 : FVec Ideal S64x64 .f32 := (broadcastInDim S64x64 ![0, 1] bcast_S64x1_S64x64_0_1) v1
  let v11 : FVec Ideal S64x64 .f32 := (mulf) arg3 v10
  let v12 : FVec Ideal S64x64 .f32 := (Host.sin) v11
  let v14 : FVec Ideal S64x64 .f32 := (mulf) v4 v12
  let v15 : FVec Ideal S64x64 .f32 := (mulf) arg2 arg2
  let v16 : FVec Ideal S64x64 .f32 := (mulf) arg3 arg3
  let v17 : FVec Ideal S64x64 .f32 := (addf) v15 v16
  let cst : FVec Ideal S_ .f32 := constant (F := Ideal) S_ .f32 0x3F800000#32
  let v18 : FVec Ideal S64x64 .f32 := (broadcastInDim S64x64 ![] bcast_S_S64x64) cst
  let v19 : FVec Ideal S64x64 .f32 := (subf) v9 v18
  let v20 : FVec Ideal S64x64 .f32 := (mulf) v19 arg2
  let v21 : FVec Ideal S64x64 .f32 := (mulf) v14 arg3
  let v22 : FVec Ideal S64x64 .f32 := (addf) v20 v21
  let v23 : FVec Ideal S64x64 .f32 := (Host.divf) v22 v17
  let v36 : FVec Ideal S64x64x1 .f32 := (broadcastInDim S64x64x1 ![0, 1] bcast_S64x64_S64x64x1_0_1) v23
  v36

set_option maxHeartbeats 2000000 in
theorem pre36_eq (V : Valuation τ sig (Elt Ideal)) : after hostOps0 V (Proc.devRef .tc main_v36)
    = pre36 (V (Proc.devRef .tc main_arg2)) (V (Proc.devRef .tc main_arg3)) (V (Proc.devRef .tc main_arg4)) := by
  after_results
  rfl

/-- Value 39. -/
def pre39 (arg2 : FVec Ideal S64x64 .f32) (arg3 : FVec Ideal S64x64 .f32) (arg4 : FVec Ideal S64 .f32) : FVec Ideal S64x64x1 .f32 :=
  let v0 : FVec Ideal S64 .f32 := (Host.exp) arg4
  let v1 : FVec Ideal S64x1 .f32 := (broadcastInDim S64x1 ![0] bcast_S64_S64x1_0) v0
  let v2 : FVec Ideal S64x64 .f32 := (broadcastInDim S64x64 ![0, 1] bcast_S64x1_S64x64_0_1) v1
  let v3 : FVec Ideal S64x64 .f32 := (mulf) arg2 v2
  let v4 : FVec Ideal S64x64 .f32 := (Host.exp) v3
  let v5 : FVec Ideal S64x64 .f32 := (broadcastInDim S64x64 ![0, 1] bcast_S64x1_S64x64_0_1) v1
  let v6 : FVec Ideal S64x64 .f32 := (mulf) arg3 v5
  let v7 : FVec Ideal S64x64 .f32 := (Host.cos) v6
  let v9 : FVec Ideal S64x64 .f32 := (mulf) v4 v7
  let v10 : FVec Ideal S64x64 .f32 := (broadcastInDim S64x64 ![0, 1] bcast_S64x1_S64x64_0_1) v1
  let v11 : FVec Ideal S64x64 .f32 := (mulf) arg3 v10
  let v12 : FVec Ideal S64x64 .f32 := (Host.sin) v11
  let v14 : FVec Ideal S64x64 .f32 := (mulf) v4 v12
  let v15 : FVec Ideal S64x64 .f32 := (mulf) arg2 arg2
  let v16 : FVec Ideal S64x64 .f32 := (mulf) arg3 arg3
  let v17 : FVec Ideal S64x64 .f32 := (addf) v15 v16
  let v27 : FVec Ideal S64x64 .f32 := (mulf) v14 arg2
  let cst_1 : FVec Ideal S_ .f32 := constant (F := Ideal) S_ .f32 0x3F800000#32
  let v28 : FVec Ideal S64x64 .f32 := (broadcastInDim S64x64 ![] bcast_S_S64x64) cst_1
  let v29 : FVec Ideal S64x64 .f32 := (subf) v9 v28
  let v30 : FVec Ideal S64x64 .f32 := (mulf) v29 arg3
  let v31 : FVec Ideal S64x64 .f32 := (subf) v27 v30
  let v32 : FVec Ideal S64x64 .f32 := (Host.divf) v31 v17
  let v39 : FVec Ideal S64x64x1 .f32 := (broadcastInDim S64x64x1 ![0, 1] bcast_S64x64_S64x64x1_0_1) v32
  v39

set_option maxHeartbeats 2000000 in
theorem pre39_eq (V : Valuation τ sig (Elt Ideal)) : after hostOps0 V (Proc.devRef .tc main_v39)
    = pre39 (V (Proc.devRef .tc main_arg2)) (V (Proc.devRef .tc main_arg3)) (V (Proc.devRef .tc main_arg4)) := by
  after_results
  rfl

/-- Value 42. -/
def pre42 (arg2 : FVec Ideal S64x64 .f32) (arg3 : FVec Ideal S64x64 .f32) (arg4 : FVec Ideal S64 .f32) (arg5 : FVec Ideal S64x64x16 .f32) (arg6 : FVec Ideal S64x64x16 .f32) : FVec Ideal S64x64x16 .f32 :=
  let v0 : FVec Ideal S64 .f32 := (Host.exp) arg4
  let v1 : FVec Ideal S64x1 .f32 := (broadcastInDim S64x1 ![0] bcast_S64_S64x1_0) v0
  let v2 : FVec Ideal S64x64 .f32 := (broadcastInDim S64x64 ![0, 1] bcast_S64x1_S64x64_0_1) v1
  let v3 : FVec Ideal S64x64 .f32 := (mulf) arg2 v2
  let v4 : FVec Ideal S64x64 .f32 := (Host.exp) v3
  let v5 : FVec Ideal S64x64 .f32 := (broadcastInDim S64x64 ![0, 1] bcast_S64x1_S64x64_0_1) v1
  let v6 : FVec Ideal S64x64 .f32 := (mulf) arg3 v5
  let v7 : FVec Ideal S64x64 .f32 := (Host.cos) v6
  let v9 : FVec Ideal S64x64 .f32 := (mulf) v4 v7
  let v10 : FVec Ideal S64x64 .f32 := (broadcastInDim S64x64 ![0, 1] bcast_S64x1_S64x64_0_1) v1
  let v11 : FVec Ideal S64x64 .f32 := (mulf) arg3 v10
  let v12 : FVec Ideal S64x64 .f32 := (Host.sin) v11
  let v14 : FVec Ideal S64x64 .f32 := (mulf) v4 v12
  let v15 : FVec Ideal S64x64 .f32 := (mulf) arg2 arg2
  let v16 : FVec Ideal S64x64 .f32 := (mulf) arg3 arg3
  let v17 : FVec Ideal S64x64 .f32 := (addf) v15 v16
  let cst : FVec Ideal S_ .f32 := constant (F := Ideal) S_ .f32 0x3F800000#32
  let v18 : FVec Ideal S64x64 .f32 := (broadcastInDim S64x64 ![] bcast_S_S64x64) cst
  let v19 : FVec Ideal S64x64 .f32 := (subf) v9 v18
  let v20 : FVec Ideal S64x64 .f32 := (mulf) v19 arg2
  let v21 : FVec Ideal S64x64 .f32 := (mulf) v14 arg3
  let v22 : FVec Ideal S64x64 .f32 := (addf) v20 v21
  let v23 : FVec Ideal S64x64 .f32 := (Host.divf) v22 v17
  let v27 : FVec Ideal S64x64 .f32 := (mulf) v14 arg2
  let cst_1 : FVec Ideal S_ .f32 := constant (F := Ideal) S_ .f32 0x3F800000#32
  let v28 : FVec Ideal S64x64 .f32 := (broadcastInDim S64x64 ![] bcast_S_S64x64) cst_1
  let v29 : FVec Ideal S64x64 .f32 := (subf) v9 v28
  let v30 : FVec Ideal S64x64 .f32 := (mulf) v29 arg3
  let v31 : FVec Ideal S64x64 .f32 := (subf) v27 v30
  let v32 : FVec Ideal S64x64 .f32 := (Host.divf) v31 v17
  let v36 : FVec Ideal S64x64x1 .f32 := (broadcastInDim S64x64x1 ![0, 1] bcast_S64x64_S64x64x1_0_1) v23
  let v37 : FVec Ideal S64x64x16 .f32 := (broadcastInDim S64x64x16 ![0, 1, 2] bcast_S64x64x1_S64x64x16_0_1_2) v36
  let v38 : FVec Ideal S64x64x16 .f32 := (mulf) v37 arg5
  let v39 : FVec Ideal S64x64x1 .f32 := (broadcastInDim S64x64x1 ![0, 1] bcast_S64x64_S64x64x1_0_1) v32
  let v40 : FVec Ideal S64x64x16 .f32 := (broadcastInDim S64x64x16 ![0, 1, 2] bcast_S64x64x1_S64x64x16_0_1_2) v39
  let v41 : FVec Ideal S64x64x16 .f32 := (mulf) v40 arg6
  let v42 : FVec Ideal S64x64x16 .f32 := (subf) v38 v41
  v42

set_option maxHeartbeats 2000000 in
theorem pre42_eq (V : Valuation τ sig (Elt Ideal)) : after hostOps0 V (Proc.devRef .tc main_v42)
    = pre42 (V (Proc.devRef .tc main_arg2)) (V (Proc.devRef .tc main_arg3)) (V (Proc.devRef .tc main_arg4)) (V (Proc.devRef .tc main_arg5)) (V (Proc.devRef .tc main_arg6)) := by
  after_results
  rfl

/-- Value 43. -/
def pre43 (arg2 : FVec Ideal S64x64 .f32) (arg3 : FVec Ideal S64x64 .f32) (arg4 : FVec Ideal S64 .f32) : FVec Ideal S64x64x1 .f32 :=
  let v0 : FVec Ideal S64 .f32 := (Host.exp) arg4
  let v1 : FVec Ideal S64x1 .f32 := (broadcastInDim S64x1 ![0] bcast_S64_S64x1_0) v0
  let v2 : FVec Ideal S64x64 .f32 := (broadcastInDim S64x64 ![0, 1] bcast_S64x1_S64x64_0_1) v1
  let v3 : FVec Ideal S64x64 .f32 := (mulf) arg2 v2
  let v4 : FVec Ideal S64x64 .f32 := (Host.exp) v3
  let v5 : FVec Ideal S64x64 .f32 := (broadcastInDim S64x64 ![0, 1] bcast_S64x1_S64x64_0_1) v1
  let v6 : FVec Ideal S64x64 .f32 := (mulf) arg3 v5
  let v7 : FVec Ideal S64x64 .f32 := (Host.cos) v6
  let v9 : FVec Ideal S64x64 .f32 := (mulf) v4 v7
  let v10 : FVec Ideal S64x64 .f32 := (broadcastInDim S64x64 ![0, 1] bcast_S64x1_S64x64_0_1) v1
  let v11 : FVec Ideal S64x64 .f32 := (mulf) arg3 v10
  let v12 : FVec Ideal S64x64 .f32 := (Host.sin) v11
  let v14 : FVec Ideal S64x64 .f32 := (mulf) v4 v12
  let v15 : FVec Ideal S64x64 .f32 := (mulf) arg2 arg2
  let v16 : FVec Ideal S64x64 .f32 := (mulf) arg3 arg3
  let v17 : FVec Ideal S64x64 .f32 := (addf) v15 v16
  let cst : FVec Ideal S_ .f32 := constant (F := Ideal) S_ .f32 0x3F800000#32
  let v18 : FVec Ideal S64x64 .f32 := (broadcastInDim S64x64 ![] bcast_S_S64x64) cst
  let v19 : FVec Ideal S64x64 .f32 := (subf) v9 v18
  let v20 : FVec Ideal S64x64 .f32 := (mulf) v19 arg2
  let v21 : FVec Ideal S64x64 .f32 := (mulf) v14 arg3
  let v22 : FVec Ideal S64x64 .f32 := (addf) v20 v21
  let v23 : FVec Ideal S64x64 .f32 := (Host.divf) v22 v17
  let v43 : FVec Ideal S64x64x1 .f32 := (broadcastInDim S64x64x1 ![0, 1] bcast_S64x64_S64x64x1_0_1) v23
  v43

set_option maxHeartbeats 2000000 in
theorem pre43_eq (V : Valuation τ sig (Elt Ideal)) : after hostOps0 V (Proc.devRef .tc main_v43)
    = pre43 (V (Proc.devRef .tc main_arg2)) (V (Proc.devRef .tc main_arg3)) (V (Proc.devRef .tc main_arg4)) := by
  after_results
  rfl

/-- Value 46. -/
def pre46 (arg2 : FVec Ideal S64x64 .f32) (arg3 : FVec Ideal S64x64 .f32) (arg4 : FVec Ideal S64 .f32) : FVec Ideal S64x64x1 .f32 :=
  let v0 : FVec Ideal S64 .f32 := (Host.exp) arg4
  let v1 : FVec Ideal S64x1 .f32 := (broadcastInDim S64x1 ![0] bcast_S64_S64x1_0) v0
  let v2 : FVec Ideal S64x64 .f32 := (broadcastInDim S64x64 ![0, 1] bcast_S64x1_S64x64_0_1) v1
  let v3 : FVec Ideal S64x64 .f32 := (mulf) arg2 v2
  let v4 : FVec Ideal S64x64 .f32 := (Host.exp) v3
  let v5 : FVec Ideal S64x64 .f32 := (broadcastInDim S64x64 ![0, 1] bcast_S64x1_S64x64_0_1) v1
  let v6 : FVec Ideal S64x64 .f32 := (mulf) arg3 v5
  let v7 : FVec Ideal S64x64 .f32 := (Host.cos) v6
  let v9 : FVec Ideal S64x64 .f32 := (mulf) v4 v7
  let v10 : FVec Ideal S64x64 .f32 := (broadcastInDim S64x64 ![0, 1] bcast_S64x1_S64x64_0_1) v1
  let v11 : FVec Ideal S64x64 .f32 := (mulf) arg3 v10
  let v12 : FVec Ideal S64x64 .f32 := (Host.sin) v11
  let v14 : FVec Ideal S64x64 .f32 := (mulf) v4 v12
  let v15 : FVec Ideal S64x64 .f32 := (mulf) arg2 arg2
  let v16 : FVec Ideal S64x64 .f32 := (mulf) arg3 arg3
  let v17 : FVec Ideal S64x64 .f32 := (addf) v15 v16
  let v27 : FVec Ideal S64x64 .f32 := (mulf) v14 arg2
  let cst_1 : FVec Ideal S_ .f32 := constant (F := Ideal) S_ .f32 0x3F800000#32
  let v28 : FVec Ideal S64x64 .f32 := (broadcastInDim S64x64 ![] bcast_S_S64x64) cst_1
  let v29 : FVec Ideal S64x64 .f32 := (subf) v9 v28
  let v30 : FVec Ideal S64x64 .f32 := (mulf) v29 arg3
  let v31 : FVec Ideal S64x64 .f32 := (subf) v27 v30
  let v32 : FVec Ideal S64x64 .f32 := (Host.divf) v31 v17
  let v46 : FVec Ideal S64x64x1 .f32 := (broadcastInDim S64x64x1 ![0, 1] bcast_S64x64_S64x64x1_0_1) v32
  v46

set_option maxHeartbeats 2000000 in
theorem pre46_eq (V : Valuation τ sig (Elt Ideal)) : after hostOps0 V (Proc.devRef .tc main_v46)
    = pre46 (V (Proc.devRef .tc main_arg2)) (V (Proc.devRef .tc main_arg3)) (V (Proc.devRef .tc main_arg4)) := by
  after_results
  rfl

/-- Value 49. -/
def pre49 (arg2 : FVec Ideal S64x64 .f32) (arg3 : FVec Ideal S64x64 .f32) (arg4 : FVec Ideal S64 .f32) (arg5 : FVec Ideal S64x64x16 .f32) (arg6 : FVec Ideal S64x64x16 .f32) : FVec Ideal S64x64x16 .f32 :=
  let v0 : FVec Ideal S64 .f32 := (Host.exp) arg4
  let v1 : FVec Ideal S64x1 .f32 := (broadcastInDim S64x1 ![0] bcast_S64_S64x1_0) v0
  let v2 : FVec Ideal S64x64 .f32 := (broadcastInDim S64x64 ![0, 1] bcast_S64x1_S64x64_0_1) v1
  let v3 : FVec Ideal S64x64 .f32 := (mulf) arg2 v2
  let v4 : FVec Ideal S64x64 .f32 := (Host.exp) v3
  let v5 : FVec Ideal S64x64 .f32 := (broadcastInDim S64x64 ![0, 1] bcast_S64x1_S64x64_0_1) v1
  let v6 : FVec Ideal S64x64 .f32 := (mulf) arg3 v5
  let v7 : FVec Ideal S64x64 .f32 := (Host.cos) v6
  let v9 : FVec Ideal S64x64 .f32 := (mulf) v4 v7
  let v10 : FVec Ideal S64x64 .f32 := (broadcastInDim S64x64 ![0, 1] bcast_S64x1_S64x64_0_1) v1
  let v11 : FVec Ideal S64x64 .f32 := (mulf) arg3 v10
  let v12 : FVec Ideal S64x64 .f32 := (Host.sin) v11
  let v14 : FVec Ideal S64x64 .f32 := (mulf) v4 v12
  let v15 : FVec Ideal S64x64 .f32 := (mulf) arg2 arg2
  let v16 : FVec Ideal S64x64 .f32 := (mulf) arg3 arg3
  let v17 : FVec Ideal S64x64 .f32 := (addf) v15 v16
  let cst : FVec Ideal S_ .f32 := constant (F := Ideal) S_ .f32 0x3F800000#32
  let v18 : FVec Ideal S64x64 .f32 := (broadcastInDim S64x64 ![] bcast_S_S64x64) cst
  let v19 : FVec Ideal S64x64 .f32 := (subf) v9 v18
  let v20 : FVec Ideal S64x64 .f32 := (mulf) v19 arg2
  let v21 : FVec Ideal S64x64 .f32 := (mulf) v14 arg3
  let v22 : FVec Ideal S64x64 .f32 := (addf) v20 v21
  let v23 : FVec Ideal S64x64 .f32 := (Host.divf) v22 v17
  let v27 : FVec Ideal S64x64 .f32 := (mulf) v14 arg2
  let cst_1 : FVec Ideal S_ .f32 := constant (F := Ideal) S_ .f32 0x3F800000#32
  let v28 : FVec Ideal S64x64 .f32 := (broadcastInDim S64x64 ![] bcast_S_S64x64) cst_1
  let v29 : FVec Ideal S64x64 .f32 := (subf) v9 v28
  let v30 : FVec Ideal S64x64 .f32 := (mulf) v29 arg3
  let v31 : FVec Ideal S64x64 .f32 := (subf) v27 v30
  let v32 : FVec Ideal S64x64 .f32 := (Host.divf) v31 v17
  let v43 : FVec Ideal S64x64x1 .f32 := (broadcastInDim S64x64x1 ![0, 1] bcast_S64x64_S64x64x1_0_1) v23
  let v44 : FVec Ideal S64x64x16 .f32 := (broadcastInDim S64x64x16 ![0, 1, 2] bcast_S64x64x1_S64x64x16_0_1_2) v43
  let v45 : FVec Ideal S64x64x16 .f32 := (mulf) v44 arg6
  let v46 : FVec Ideal S64x64x1 .f32 := (broadcastInDim S64x64x1 ![0, 1] bcast_S64x64_S64x64x1_0_1) v32
  let v47 : FVec Ideal S64x64x16 .f32 := (broadcastInDim S64x64x16 ![0, 1, 2] bcast_S64x64x1_S64x64x16_0_1_2) v46
  let v48 : FVec Ideal S64x64x16 .f32 := (mulf) v47 arg5
  let v49 : FVec Ideal S64x64x16 .f32 := (addf) v45 v48
  v49

set_option maxHeartbeats 2000000 in
theorem pre49_eq (V : Valuation τ sig (Elt Ideal)) : after hostOps0 V (Proc.devRef .tc main_v49)
    = pre49 (V (Proc.devRef .tc main_arg2)) (V (Proc.devRef .tc main_arg3)) (V (Proc.devRef .tc main_arg4)) (V (Proc.devRef .tc main_arg5)) (V (Proc.devRef .tc main_arg6)) := by
  after_results
  rfl

end Cert.KernelIdeal.Value
-- ==== Proof.Scan.Glob.lean ====
/-
  The real numbers behind the whole layer, what its outputs are in terms of them, and the part of them that one block of
  the kernel's grid sees.
-/
module

public import proofs.«01_k».proof.Proof.Scan.Inp
public import Mathlib.Logic.Equiv.Fin.Basic
public import Mathlib.Algebra.BigOperators.Fin

@[expose] public section

set_option maxRecDepth 16384

noncomputable section

namespace Cert.Scan

/-- The layer's inputs: `u` and `dy` by time and channel, the transition `a` by group and state, the input maps by group,
    state and channel of the group, the output maps by group, channel and state, the skip `d` by channel. -/
structure Glob where
  u : ℕ → ℕ → ℝ
  dy : ℕ → ℕ → ℝ
  a : ℕ → ℕ → ℂ
  br : ℕ → ℕ → ℕ → ℝ
  bi : ℕ → ℕ → ℕ → ℝ
  cr : ℕ → ℕ → ℕ → ℝ
  ci : ℕ → ℕ → ℕ → ℝ
  d : ℕ → ℝ

namespace Glob
variable (G : Glob)

/-- What enters the states, by time, group and state. -/
def Z (t g p : ℕ) : ℂ := ⟨∑ n : Fin 16, G.u t (16 * g + n) * G.br g p n, ∑ n : Fin 16, G.u t (16 * g + n) * G.bi g p n⟩
/-- What enters the gradients of the states. -/
def D (t g p : ℕ) : ℂ := ⟨∑ n : Fin 16, G.dy t (16 * g + n) * G.cr g n p, -∑ n : Fin 16, G.dy t (16 * g + n) * G.ci g n p⟩
/-- The state at time `t`. -/
def x (t g p : ℕ) : ℂ := run (G.a g p) (fun t => G.Z t g p) t
/-- The state before time `t`. -/
def xp (t g p : ℕ) : ℂ := before (G.a g p) (fun t => G.Z t g p) t
/-- The gradient of the state at time `t`. -/
def gr (t g p : ℕ) : ℂ := run ((starRingEnd ℂ) (G.a g p)) (fun t => G.D (2047 - t) g p) (2047 - t)

def du (t g n : ℕ) : ℝ := ∑ p : Fin 64, (G.gr t g p).re * G.br g p n + ∑ p : Fin 64, (G.gr t g p).im * G.bi g p n
  + G.d (16 * g + n) * G.dy t (16 * g + n)
def dbr (g p n : ℕ) : ℝ := ∑ t : Fin 2048, G.u t (16 * g + n) * (G.gr t g p).re
def dbi (g p n : ℕ) : ℝ := ∑ t : Fin 2048, G.u t (16 * g + n) * (G.gr t g p).im
def dcr (g n p : ℕ) : ℝ := ∑ t : Fin 2048, (G.x t g p).re * G.dy t (16 * g + n)
def dci (g n p : ℕ) : ℝ := -∑ t : Fin 2048, (G.x t g p).im * G.dy t (16 * g + n)
def da (g p : ℕ) : ℂ := ∑ s ∈ Finset.range 2048, G.gr (2047 - s) g p * (starRingEnd ℂ) (G.xp (2047 - s) g p)
def dd (n : ℕ) : ℝ := ∑ t : Fin 2048, G.dy t n * G.u t n

/-- The arrays hold the inputs. -/
structure Holds (u dy : Fin 2048 → Fin 1024 → EReal) (ar ai : Fin 64 → Fin 64 → EReal) (br bi : Fin 64 → Fin 64 → Fin 16 → EReal)
    (cr ci : Fin 64 → Fin 16 → Fin 64 → EReal) (d : Fin 1024 → EReal) : Prop where
  hu : ∀ t n, u t n = (G.u t n : EReal)
  hdy : ∀ t n, dy t n = (G.dy t n : EReal)
  har : ∀ g p, ar g p = ((G.a g p).re : EReal)
  hai : ∀ g p, ai g p = ((G.a g p).im : EReal)
  hbr : ∀ g p n, br g p n = (G.br g p n : EReal)
  hbi : ∀ g p n, bi g p n = (G.bi g p n : EReal)
  hcr : ∀ g n p, cr g n p = (G.cr g n p : EReal)
  hci : ∀ g n p, ci g n p = (G.ci g n p : EReal)
  hd : ∀ n, d n = (G.d n : EReal)

/-- What block `b` of the grid sees: eight groups, in the scratch's order of times, with the maps laid out block by block. -/
def blk (b : ℕ) : Inp where
  u r n := G.u (timeOf r) (128 * b + n)
  dy r n := G.dy (timeOf r) (128 * b + n)
  a q := G.a (8 * b + q / 64) (q % 64)
  br n q := if n / 16 = q / 64 then G.br (8 * b + q / 64) (q % 64) (n % 16) else 0
  bi n q := if n / 16 = q / 64 then G.bi (8 * b + q / 64) (q % 64) (n % 16) else 0
  cr n q := if n / 16 = q / 64 then G.cr (8 * b + q / 64) (n % 16) (q % 64) else 0
  ci n q := if n / 16 = q / 64 then G.ci (8 * b + q / 64) (n % 16) (q % 64) else 0
  d n := G.d (128 * b + n)

end Glob

/-- A sum over `a * b` terms of which only those of group `k` count. -/
theorem sum_group {M : Type} [AddCommMonoid M] (a b k : ℕ) (hk : k < a) (f : ℕ → M) :
    ∑ s : Fin (a * b), (if s.val / b = k then f s.val else 0) = ∑ n : Fin b, f (b * k + n.val) := by
  rw [← finProdFinEquiv.sum_comp, Fintype.sum_prod_type]
  rw [Finset.sum_eq_single (⟨k, hk⟩ : Fin a)]
  · refine Finset.sum_congr rfl fun n _ => ?_
    have hb : 0 < b := n.pos
    have e : ((finProdFinEquiv ((⟨k, hk⟩ : Fin a), n)).val) = b * k + n.val := by
      show n.val + b * k = _; omega
    rw [e, if_pos]
    rw [Nat.mul_add_div hb, Nat.div_eq_of_lt n.isLt, Nat.add_zero]
  · intro i _ hi
    refine Finset.sum_eq_zero fun n _ => ?_
    have hb : 0 < b := n.pos
    rw [if_neg]
    intro h
    apply hi
    apply Fin.ext
    have e : ((finProdFinEquiv (i, n)).val) = b * i.val + n.val := by
      show n.val + b * i.val = _; omega
    rw [e, Nat.mul_add_div hb, Nat.div_eq_of_lt n.isLt, Nat.add_zero] at h
    exact h
  · intro h; exact absurd (Finset.mem_univ _) h

theorem timeOf_rowOf (t : ℕ) (h : t < 2048) : timeOf (rowOf t) = t := by
  unfold timeOf rowOf; omega

theorem rowOf_timeOf (r : ℕ) (h : r < 2048) : rowOf (timeOf r) = r := by
  unfold timeOf rowOf; omega

theorem timeOf_lt (r : ℕ) (h : r < 2048) : timeOf r < 2048 := by unfold timeOf; omega
theorem rowOf_lt (t : ℕ) (h : t < 2048) : rowOf t < 2048 := by unfold rowOf; omega

/-- The scratch's order of times is a permutation. -/
def timePerm : Fin 2048 ≃ Fin 2048 where
  toFun r := ⟨timeOf r, timeOf_lt r r.isLt⟩
  invFun t := ⟨rowOf t, rowOf_lt t t.isLt⟩
  left_inv r := Fin.ext (rowOf_timeOf r r.isLt)
  right_inv t := Fin.ext (timeOf_rowOf t t.isLt)

theorem sum_time {M : Type} [AddCommMonoid M] (f : ℕ → M) : ∑ r : Fin 2048, f (timeOf r) = ∑ t : Fin 2048, f t :=
  timePerm.sum_comp (fun t : Fin 2048 => f t)

namespace Glob
variable (G : Glob) (b : ℕ)

theorem blk_Z (t q : ℕ) (ht : t < 2048) (hq : q < 512) : (G.blk b).Z (rowOf t) q = G.Z t (8 * b + q / 64) (q % 64) := by
  have h : q / 64 < 8 := by omega
  unfold Inp.Z Z blk
  dsimp only
  rw [timeOf_rowOf t ht]
  congr 1
  · refine Eq.trans ?_ ((sum_group 8 16 (q / 64) h (fun s => G.u t (128 * b + s) * G.br (8 * b + q / 64) (q % 64) (s % 16))).trans ?_)
    · exact Finset.sum_congr rfl fun s _ => by rw [mul_ite, mul_zero]
    · refine Finset.sum_congr rfl fun n _ => ?_
      rw [show (16 * (q / 64) + n.val) % 16 = n.val by omega, show 128 * b + (16 * (q / 64) + n.val) = 16 * (8 * b + q / 64) + n.val by omega]
  · refine Eq.trans ?_ ((sum_group 8 16 (q / 64) h (fun s => G.u t (128 * b + s) * G.bi (8 * b + q / 64) (q % 64) (s % 16))).trans ?_)
    · exact Finset.sum_congr rfl fun s _ => by rw [mul_ite, mul_zero]
    · refine Finset.sum_congr rfl fun n _ => ?_
      rw [show (16 * (q / 64) + n.val) % 16 = n.val by omega, show 128 * b + (16 * (q / 64) + n.val) = 16 * (8 * b + q / 64) + n.val by omega]

theorem blk_D (t q : ℕ) (ht : t < 2048) (hq : q < 512) : (G.blk b).D (rowOf t) q = G.D t (8 * b + q / 64) (q % 64) := by
  have h : q / 64 < 8 := by omega
  unfold Inp.D D blk
  dsimp only
  rw [timeOf_rowOf t ht]
  congr 1
  · refine Eq.trans ?_ ((sum_group 8 16 (q / 64) h (fun s => G.dy t (128 * b + s) * G.cr (8 * b + q / 64) (s % 16) (q % 64))).trans ?_)
    · exact Finset.sum_congr rfl fun s _ => by rw [mul_ite, mul_zero]
    · refine Finset.sum_congr rfl fun n _ => ?_
      rw [show (16 * (q / 64) + n.val) % 16 = n.val by omega, show 128 * b + (16 * (q / 64) + n.val) = 16 * (8 * b + q / 64) + n.val by omega]
  · refine congrArg Neg.neg ?_
    refine Eq.trans ?_ ((sum_group 8 16 (q / 64) h (fun s => G.dy t (128 * b + s) * G.ci (8 * b + q / 64) (s % 16) (q % 64))).trans ?_)
    · exact Finset.sum_congr rfl fun s _ => by rw [mul_ite, mul_zero]
    · refine Finset.sum_congr rfl fun n _ => ?_
      rw [show (16 * (q / 64) + n.val) % 16 = n.val by omega, show 128 * b + (16 * (q / 64) + n.val) = 16 * (8 * b + q / 64) + n.val by omega]

theorem blk_x (t q : ℕ) (ht : t < 2048) (hq : q < 512) : (G.blk b).x t q = G.x t (8 * b + q / 64) (q % 64) :=
  run_congr _ _ fun s hs => blk_Z G b s q (by omega) hq

theorem blk_xp (t q : ℕ) (ht : t < 2048) (hq : q < 512) : (G.blk b).xp t q = G.xp t (8 * b + q / 64) (q % 64) := by
  cases t with
  | zero => rfl
  | succ t => exact blk_x G b t q (by omega) hq

theorem blk_g (t q : ℕ) (ht : t < 2048) (hq : q < 512) : (G.blk b).g t q = G.gr t (8 * b + q / 64) (q % 64) :=
  run_congr _ _ fun s hs => blk_D G b (2047 - s) q (by omega) hq

theorem blk_du (r n : ℕ) (hr : r < 2048) (hn : n < 128) : (G.blk b).du r n = G.du (timeOf r) (8 * b + n / 16) (n % 16) := by
  have h : n / 16 < 8 := by omega
  have ht := timeOf_lt r hr
  unfold Inp.du du
  congr 1
  · congr 1
    · refine Eq.trans ?_ ((sum_group 8 64 (n / 16) h (fun q => (G.gr (timeOf r) (8 * b + q / 64) (q % 64)).re * G.br (8 * b + q / 64) (q % 64) (n % 16))).trans ?_)
      · refine Finset.sum_congr rfl fun q _ => ?_
        rw [blk_g G b _ _ ht q.isLt]
        show _ * (if n / 16 = q.val / 64 then _ else 0) = _
        rw [mul_ite, mul_zero]
        exact if_congr eq_comm rfl rfl
      · refine Finset.sum_congr rfl fun p _ => ?_
        rw [show (64 * (n / 16) + p.val) % 64 = p.val by omega, show (64 * (n / 16) + p.val) / 64 = n / 16 by omega]
    · refine Eq.trans ?_ ((sum_group 8 64 (n / 16) h (fun q => (G.gr (timeOf r) (8 * b + q / 64) (q % 64)).im * G.bi (8 * b + q / 64) (q % 64) (n % 16))).trans ?_)
      · refine Finset.sum_congr rfl fun q _ => ?_
        rw [blk_g G b _ _ ht q.isLt]
        show _ * (if n / 16 = q.val / 64 then _ else 0) = _
        rw [mul_ite, mul_zero]
        exact if_congr eq_comm rfl rfl
      · refine Finset.sum_congr rfl fun p _ => ?_
        rw [show (64 * (n / 16) + p.val) % 64 = p.val by omega, show (64 * (n / 16) + p.val) / 64 = n / 16 by omega]
  · show G.d (128 * b + n) * G.dy (timeOf r) (128 * b + n) = _
    rw [show 128 * b + n = 16 * (8 * b + n / 16) + n % 16 by omega]

theorem blk_dbr (k n p : ℕ) (hk : k < 8) (hn : n < 16) (hp : p < 64) : (G.blk b).dbr (16 * k + n) (64 * k + p) = G.dbr (8 * b + k) p n := by
  unfold Inp.dbr dbr
  rw [← sum_time (fun t => G.u t (16 * (8 * b + k) + n) * (G.gr t (8 * b + k) p).re)]
  refine Finset.sum_congr rfl fun r _ => ?_
  rw [blk_g G b _ _ (timeOf_lt r r.isLt) (by omega), show (64 * k + p) % 64 = p by omega, show (64 * k + p) / 64 = k by omega]
  show G.u (timeOf r) (128 * b + (16 * k + n)) * _ = _
  rw [show 128 * b + (16 * k + n) = 16 * (8 * b + k) + n by omega]

theorem blk_dbi (k n p : ℕ) (hk : k < 8) (hn : n < 16) (hp : p < 64) : (G.blk b).dbi (16 * k + n) (64 * k + p) = G.dbi (8 * b + k) p n := by
  unfold Inp.dbi dbi
  rw [← sum_time (fun t => G.u t (16 * (8 * b + k) + n) * (G.gr t (8 * b + k) p).im)]
  refine Finset.sum_congr rfl fun r _ => ?_
  rw [blk_g G b _ _ (timeOf_lt r r.isLt) (by omega), show (64 * k + p) % 64 = p by omega, show (64 * k + p) / 64 = k by omega]
  show G.u (timeOf r) (128 * b + (16 * k + n)) * _ = _
  rw [show 128 * b + (16 * k + n) = 16 * (8 * b + k) + n by omega]

theorem blk_dcr (k n p : ℕ) (hk : k < 8) (hn : n < 16) (hp : p < 64) : (G.blk b).dcr (64 * k + p) (16 * k + n) = G.dcr (8 * b + k) n p := by
  unfold Inp.dcr dcr
  rw [← sum_time (fun t => (G.x t (8 * b + k) p).re * G.dy t (16 * (8 * b + k) + n))]
  refine Finset.sum_congr rfl fun r _ => ?_
  rw [blk_x G b _ _ (timeOf_lt r r.isLt) (by omega), show (64 * k + p) % 64 = p by omega, show (64 * k + p) / 64 = k by omega]
  show _ * G.dy (timeOf r) (128 * b + (16 * k + n)) = _
  rw [show 128 * b + (16 * k + n) = 16 * (8 * b + k) + n by omega]

theorem blk_dci (k n p : ℕ) (hk : k < 8) (hn : n < 16) (hp : p < 64) : (G.blk b).dci (64 * k + p) (16 * k + n) = G.dci (8 * b + k) n p := by
  unfold Inp.dci dci
  rw [← sum_time (fun t => (G.x t (8 * b + k) p).im * G.dy t (16 * (8 * b + k) + n))]
  refine congrArg Neg.neg (Finset.sum_congr rfl fun r _ => ?_)
  rw [blk_x G b _ _ (timeOf_lt r r.isLt) (by omega), show (64 * k + p) % 64 = p by omega, show (64 * k + p) / 64 = k by omega]
  show _ * G.dy (timeOf r) (128 * b + (16 * k + n)) = _
  rw [show 128 * b + (16 * k + n) = 16 * (8 * b + k) + n by omega]

theorem blk_dd (n : ℕ) : (G.blk b).dd n = G.dd (128 * b + n) := by
  unfold Inp.dd dd
  rw [← sum_time (fun t => G.dy t (128 * b + n) * G.u t (128 * b + n))]
  rfl

theorem blk_da (q : ℕ) (hq : q < 512) : (G.blk b).da q = G.da (8 * b + q / 64) (q % 64) := by
  unfold Inp.da da Inp.dacc
  generalize hF : (fun t => G.gr t (8 * b + q / 64) (q % 64) * (starRingEnd ℂ) (G.xp t (8 * b + q / 64) (q % 64))) = F
  have e1 : ∀ j : Fin 8, ∑ s ∈ Finset.range 256, (G.blk b).g (256 * j.val + (255 - s)) q * (starRingEnd ℂ) ((G.blk b).xp (256 * j.val + (255 - s)) q)
      = ∑ s : Fin 256, F (s.val + 256 * j.val) := fun j => by
    rw [← Finset.sum_range (fun s => F (s + 256 * j.val)), ← Finset.sum_range_reflect]
    refine Finset.sum_congr rfl fun s hs => ?_
    have hs' := Finset.mem_range.mp hs
    rw [blk_g G b _ _ (by omega) hq, blk_xp G b _ _ (by omega) hq, ← hF]
    dsimp only
    rw [show 256 * j.val + (255 - (256 - 1 - s)) = s + 256 * j.val by omega]
  have e2 : ∑ s ∈ Finset.range 2048, G.gr (2047 - s) (8 * b + q / 64) (q % 64) * (starRingEnd ℂ) (G.xp (2047 - s) (8 * b + q / 64) (q % 64))
      = ∑ t : Fin (8 * 256), F t := by
    rw [← Finset.sum_range F, ← Finset.sum_range_reflect]
    refine Finset.sum_congr rfl fun s hs => ?_
    have hs' := Finset.mem_range.mp hs
    rw [← hF]
    dsimp only
    rw [show 2047 - (2048 - 1 - s) = s by omega]
  rw [Finset.sum_congr rfl fun j _ => e1 j, e2, ← finProdFinEquiv.sum_comp, Fintype.sum_prod_type]
  rfl

end Glob

end Cert.Scan
-- ==== Proof.Ends.InK.lean ====
/-
  What the host code before the call makes of the arguments, element by element.
-/
module

public import proofs.«01_k».proof.Proof.Ends.PreK
public import proofs.«01_k».proof.Proof.Scan.Glob

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.ShloMosaic.StableHlo

/-- The identity of eight groups. -/
def eye : FVec Ideal S8x8 .f32 :=
  uitofp .f32 (cmpi .eq (addi (iotaInDim S8x8 32 0) (broadcastInDim S8x8 ![] bcast_S_S8x8 (constantI S_ 32 0#32))) (iotaInDim S8x8 32 1))

theorem eye_apply (i j : Fin 8) : eye (ix2 i j) = if i = j then (1 : EReal) else 0 := by
  have h : ∀ i j : Fin 8, (cmpi .eq (addi (iotaInDim S8x8 32 0) (broadcastInDim S8x8 ![] bcast_S_S8x8 (constantI S_ 32 0#32))) (iotaInDim S8x8 32 1) : Vec Ideal S8x8 .i1) (ix2 i j)
      = if i = j then 1#1 else 0#1 := by decide +kernel
  have e : eye (ix2 i j) = (((if i = j then 1#1 else 0#1 : BitVec 1).toNat : ℝ) : EReal) := by
    rw [← h]; rfl
  rw [e]
  split <;> simp

/-- Eight groups' maps laid out along the diagonal. -/
def diag (x : FVec Ideal S64x16x64 .f32) : FVec Ideal S8x128x512 .bf16 :=
  truncf (F := Ideal) .bf16 (shapeCast S8x128x512 (mulf
    (broadcastInDim S8x8x16x8x64 ![0, 1, 2, 3, 4] bcast_S8x8x16x1x64_S8x8x16x8x64_0_1_2_3_4
      (broadcastInDim S8x8x16x1x64 ![0, 1, 2, 4] bcast_S8x8x16x64_S8x8x16x1x64_0_1_2_4
        (shapeCast S8x8x16x64 x shapeCasts_S64x16x64_S8x8x16x64)))
    (broadcastInDim S8x8x16x8x64 ![0, 1, 2, 3, 4] bcast_S1x8x1x8x1_S8x8x16x8x64_0_1_2_3_4
      (broadcastInDim S1x8x1x8x1 ![1, 3] bcast_S8x8_S1x8x1x8x1_1_3 eye))) shapeCasts_S8x8x16x8x64_S8x128x512) bitsLt_bf16_f32

theorem diag_apply (x : FVec Ideal S64x16x64 .f32) (b : Fin 8) (n : Fin 128) (q : Fin 512) :
    diag x (ix3 b n q) = (x (ix3 ⟨8 * b.val + n.val / 16, by omega⟩ ⟨n.val % 16, by omega⟩ ⟨q.val % 64, by omega⟩) : EReal)
      * eye (ix2 ⟨n.val / 16, by omega⟩ ⟨q.val / 64, by omega⟩) := by
  unfold diag
  pointwise
  simp only [Nat.mul_comm]

variable (V : Valuation τ sig (Elt Ideal))

set_option maxHeartbeats 2000000 in
theorem v88_eq : after hostOps0 V (Proc.devRef .tc main_v88)
    = diag (transpose S64x16x64 [0, 2, 1] (after hostOps0 V (Proc.devRef .tc main_v42) : FVec Ideal S64x64x16 .f32) transposes_S64x64x16_S64x16x64_0_2_1) := by
  rw [pre42_eq]
  after_results
  rfl

set_option maxHeartbeats 2000000 in
theorem v89_eq : after hostOps0 V (Proc.devRef .tc main_v89)
    = diag (transpose S64x16x64 [0, 2, 1] (after hostOps0 V (Proc.devRef .tc main_v49) : FVec Ideal S64x64x16 .f32) transposes_S64x64x16_S64x16x64_0_2_1) := by
  rw [pre49_eq]
  after_results
  rfl

set_option maxHeartbeats 2000000 in
theorem v90_eq : after hostOps0 V (Proc.devRef .tc main_v90) = diag (V (Proc.devRef .tc main_arg7)) := by
  after_results
  rfl

set_option maxHeartbeats 2000000 in
theorem v91_eq : after hostOps0 V (Proc.devRef .tc main_v91) = diag (V (Proc.devRef .tc main_arg8)) := by
  after_results
  rfl

/-- The kernel's order of times. -/
def interleave (x : FVec Ideal S2048x1024 .f32) : FVec Ideal S2048x1024 .f32 :=
  shapeCast S2048x1024 (transpose S256x8x1024 [1, 0, 2] (shapeCast S8x256x1024 x shapeCasts_S2048x1024_S8x256x1024)
    transposes_S8x256x1024_S256x8x1024_1_0_2) shapeCasts_S256x8x1024_S2048x1024

theorem interleave_apply (x : FVec Ideal S2048x1024 .f32) (r : Fin 2048) (n : Fin 1024) :
    interleave x (ix2 r n) = x (ix2 ⟨Scan.timeOf r.val, Scan.timeOf_lt r.val r.isLt⟩ n) := by
  unfold interleave Scan.timeOf
  pointwise
  simp only [Nat.mul_comm]

set_option maxHeartbeats 2000000 in
theorem v94_eq : after hostOps0 V (Proc.devRef .tc main_v94) = interleave (V (Proc.devRef .tc main_arg0)) := by
  after_results
  rfl

set_option maxHeartbeats 2000000 in
theorem v97_eq : after hostOps0 V (Proc.devRef .tc main_v97) = interleave (V (Proc.devRef .tc main_arg1)) := by
  after_results
  rfl

/-- A matrix of groups and states, eight groups to a row. -/
def rows (x : FVec Ideal S64x64 .f32) : FVec Ideal S8x1x512 .f32 := shapeCast S8x1x512 x shapeCasts_S64x64_S8x1x512

theorem rows_apply (x : FVec Ideal S64x64 .f32) (b : Fin 8) (q : Fin 512) :
    rows x (ix3 b (0 : Fin 1) q) = x (ix2 ⟨8 * b.val + q.val / 64, by omega⟩ ⟨q.val % 64, by omega⟩) := by
  unfold rows
  pointwise
  simp only [Nat.mul_comm]

set_option maxHeartbeats 2000000 in
theorem v58_eq : after hostOps0 V (Proc.devRef .tc main_v58) = rows (after hostOps0 V (Proc.devRef .tc main_v9)) := by
  rw [pre9_eq]
  after_results
  rfl

set_option maxHeartbeats 2000000 in
theorem v59_eq : after hostOps0 V (Proc.devRef .tc main_v59) = rows (after hostOps0 V (Proc.devRef .tc main_v14)) := by
  rw [pre14_eq]
  after_results
  rfl

/-- A vector over the channels, as one row. -/
def asRow (x : FVec Ideal S1024 .f32) : FVec Ideal S1x1024 .f32 := shapeCast S1x1024 x shapeCasts_S1024_S1x1024

theorem asRow_apply (x : FVec Ideal S1024 .f32) (n : Fin 1024) : asRow x (ix2 (0 : Fin 1) n) = x (ix1 n) := by
  unfold asRow
  pointwise

set_option maxHeartbeats 2000000 in
theorem v98_eq : after hostOps0 V (Proc.devRef .tc main_v98) = asRow (V (Proc.devRef .tc main_arg9)) := by
  after_results
  rfl

/-- What the four broadcasts of the identity are, which the host code after the call reads again. -/
def eyeB : FVec Ideal S1x8x1x8x1 .f32 := broadcastInDim S1x8x1x8x1 ![1, 3] bcast_S8x8_S1x8x1x8x1_1_3 eye

set_option maxHeartbeats 2000000 in
theorem v62_eq : after hostOps0 V (Proc.devRef .tc main_v62) = eyeB := by
  after_results
  rfl

set_option maxHeartbeats 2000000 in
theorem v69_eq : after hostOps0 V (Proc.devRef .tc main_v69) = eyeB := by
  after_results
  rfl

set_option maxHeartbeats 2000000 in
theorem v76_eq : after hostOps0 V (Proc.devRef .tc main_v76) = eyeB := by
  after_results
  rfl

set_option maxHeartbeats 2000000 in
theorem v83_eq : after hostOps0 V (Proc.devRef .tc main_v83) = eyeB := by
  after_results
  rfl

end Cert.KernelIdeal.Value
-- ==== Proof.Scan.Grid.lean ====
/-
  The arrays that the call leaves, block by block, in terms of the real numbers behind the whole layer.
-/
module

public import proofs.«01_k».proof.Proof.Scan.Point
public import proofs.«01_k».proof.Proof.Ends.InK

@[expose] public section

set_option maxRecDepth 16384

noncomputable section

namespace Cert.Scan

open Cert.KernelIdeal Cert.KernelIdeal.Gen Cert.KernelIdeal.Value
open Idealize.ShloMosaic Idealize.ShloMosaic.TcCoe Idealize.ShloMosaic.Tactic
open Idealize.ShloMosaic.Pipeline (Dat)

attribute [local irreducible] outsAt0

/-- A grid point is one of the eight blocks. -/
def blkOf (t : Fin cfg0.N) : Fin 8 := ⟨t.val, lt_of_lt_of_eq t.isLt N_0⟩

/-- Channel `n` of block `b`. -/
def chan (b : Fin 8) (n : Fin 128) : Fin 1024 := ⟨128 * b.val + n.val, by omega⟩

theorem idx_0 : ∀ t : Fin cfg0.N, win0_0.index t (0 : Fin 2) = 0 ∧ win0_0.index t (1 : Fin 2) = t.val :=
  (by decide +kernel : ∀ t : Fin grid0.N, _)
theorem emb_0 (t : Fin cfg0.N) (j : S2048x128.Idx) : ((cfg0.win 0).blk t).view.emb j = ix2 (j 0) (chan (blkOf t) (j 1)) := by
  obtain ⟨e0, e1⟩ := idx_0 t
  funext a; apply Fin.ext
  match a with
  | ⟨0, _⟩ => show win0_0.index t (0 : Fin 2) * 2048 + 1 * (j 0).val = (j 0).val; omega
  | ⟨1, _⟩ => show win0_0.index t (1 : Fin 2) * 128 + 1 * (j 1).val = 128 * t.val + (j 1).val; omega

theorem idx_1 : ∀ t : Fin cfg0.N, win0_1.index t (0 : Fin 2) = 0 ∧ win0_1.index t (1 : Fin 2) = t.val :=
  (by decide +kernel : ∀ t : Fin grid0.N, _)
theorem emb_1 (t : Fin cfg0.N) (j : S2048x128.Idx) : ((cfg0.win 1).blk t).view.emb j = ix2 (j 0) (chan (blkOf t) (j 1)) := by
  obtain ⟨e0, e1⟩ := idx_1 t
  funext a; apply Fin.ext
  match a with
  | ⟨0, _⟩ => show win0_1.index t (0 : Fin 2) * 2048 + 1 * (j 0).val = (j 0).val; omega
  | ⟨1, _⟩ => show win0_1.index t (1 : Fin 2) * 128 + 1 * (j 1).val = 128 * t.val + (j 1).val; omega

theorem idx_2 : ∀ t : Fin cfg0.N, win0_2.index t (0 : Fin 3) = t.val ∧ win0_2.index t (1 : Fin 3) = 0 ∧ win0_2.index t (2 : Fin 3) = 0 :=
  (by decide +kernel : ∀ t : Fin grid0.N, _)
theorem emb_2 (t : Fin cfg0.N) (j : S1x1x512.Idx) : ((cfg0.win 2).blk t).view.emb j = ix3 (blkOf t) (j 1) (j 2) := by
  obtain ⟨e0, e1, e2⟩ := idx_2 t
  funext a; apply Fin.ext
  match a with
  | ⟨0, _⟩ => show win0_2.index t (0 : Fin 3) * 1 + 1 * (j 0).val = t.val; have : (j 0).val < 1 := (j 0).isLt; omega
  | ⟨1, _⟩ => show win0_2.index t (1 : Fin 3) * 1 + 1 * (j 1).val = (j 1).val; omega
  | ⟨2, _⟩ => show win0_2.index t (2 : Fin 3) * 512 + 1 * (j 2).val = (j 2).val; omega

theorem idx_3 : ∀ t : Fin cfg0.N, win0_3.index t (0 : Fin 3) = t.val ∧ win0_3.index t (1 : Fin 3) = 0 ∧ win0_3.index t (2 : Fin 3) = 0 :=
  (by decide +kernel : ∀ t : Fin grid0.N, _)
theorem emb_3 (t : Fin cfg0.N) (j : S1x1x512.Idx) : ((cfg0.win 3).blk t).view.emb j = ix3 (blkOf t) (j 1) (j 2) := by
  obtain ⟨e0, e1, e2⟩ := idx_3 t
  funext a; apply Fin.ext
  match a with
  | ⟨0, _⟩ => show win0_3.index t (0 : Fin 3) * 1 + 1 * (j 0).val = t.val; have : (j 0).val < 1 := (j 0).isLt; omega
  | ⟨1, _⟩ => show win0_3.index t (1 : Fin 3) * 1 + 1 * (j 1).val = (j 1).val; omega
  | ⟨2, _⟩ => show win0_3.index t (2 : Fin 3) * 512 + 1 * (j 2).val = (j 2).val; omega

theorem idx_4 : ∀ t : Fin cfg0.N, win0_4.index t (0 : Fin 3) = t.val ∧ win0_4.index t (1 : Fin 3) = 0 ∧ win0_4.index t (2 : Fin 3) = 0 :=
  (by decide +kernel : ∀ t : Fin grid0.N, _)
theorem emb_4 (t : Fin cfg0.N) (j : S1x128x512.Idx) : ((cfg0.win 4).blk t).view.emb j = ix3 (blkOf t) (j 1) (j 2) := by
  obtain ⟨e0, e1, e2⟩ := idx_4 t
  funext a; apply Fin.ext
  match a with
  | ⟨0, _⟩ => show win0_4.index t (0 : Fin 3) * 1 + 1 * (j 0).val = t.val; have : (j 0).val < 1 := (j 0).isLt; omega
  | ⟨1, _⟩ => show win0_4.index t (1 : Fin 3) * 128 + 1 * (j 1).val = (j 1).val; omega
  | ⟨2, _⟩ => show win0_4.index t (2 : Fin 3) * 512 + 1 * (j 2).val = (j 2).val; omega

theorem idx_5 : ∀ t : Fin cfg0.N, win0_5.index t (0 : Fin 3) = t.val ∧ win0_5.index t (1 : Fin 3) = 0 ∧ win0_5.index t (2 : Fin 3) = 0 :=
  (by decide +kernel : ∀ t : Fin grid0.N, _)
theorem emb_5 (t : Fin cfg0.N) (j : S1x128x512.Idx) : ((cfg0.win 5).blk t).view.emb j = ix3 (blkOf t) (j 1) (j 2) := by
  obtain ⟨e0, e1, e2⟩ := idx_5 t
  funext a; apply Fin.ext
  match a with
  | ⟨0, _⟩ => show win0_5.index t (0 : Fin 3) * 1 + 1 * (j 0).val = t.val; have : (j 0).val < 1 := (j 0).isLt; omega
  | ⟨1, _⟩ => show win0_5.index t (1 : Fin 3) * 128 + 1 * (j 1).val = (j 1).val; omega
  | ⟨2, _⟩ => show win0_5.index t (2 : Fin 3) * 512 + 1 * (j 2).val = (j 2).val; omega

theorem idx_6 : ∀ t : Fin cfg0.N, win0_6.index t (0 : Fin 3) = t.val ∧ win0_6.index t (1 : Fin 3) = 0 ∧ win0_6.index t (2 : Fin 3) = 0 :=
  (by decide +kernel : ∀ t : Fin grid0.N, _)
theorem emb_6 (t : Fin cfg0.N) (j : S1x128x512.Idx) : ((cfg0.win 6).blk t).view.emb j = ix3 (blkOf t) (j 1) (j 2) := by
  obtain ⟨e0, e1, e2⟩ := idx_6 t
  funext a; apply Fin.ext
  match a with
  | ⟨0, _⟩ => show win0_6.index t (0 : Fin 3) * 1 + 1 * (j 0).val = t.val; have : (j 0).val < 1 := (j 0).isLt; omega
  | ⟨1, _⟩ => show win0_6.index t (1 : Fin 3) * 128 + 1 * (j 1).val = (j 1).val; omega
  | ⟨2, _⟩ => show win0_6.index t (2 : Fin 3) * 512 + 1 * (j 2).val = (j 2).val; omega

theorem idx_7 : ∀ t : Fin cfg0.N, win0_7.index t (0 : Fin 3) = t.val ∧ win0_7.index t (1 : Fin 3) = 0 ∧ win0_7.index t (2 : Fin 3) = 0 :=
  (by decide +kernel : ∀ t : Fin grid0.N, _)
theorem emb_7 (t : Fin cfg0.N) (j : S1x128x512.Idx) : ((cfg0.win 7).blk t).view.emb j = ix3 (blkOf t) (j 1) (j 2) := by
  obtain ⟨e0, e1, e2⟩ := idx_7 t
  funext a; apply Fin.ext
  match a with
  | ⟨0, _⟩ => show win0_7.index t (0 : Fin 3) * 1 + 1 * (j 0).val = t.val; have : (j 0).val < 1 := (j 0).isLt; omega
  | ⟨1, _⟩ => show win0_7.index t (1 : Fin 3) * 128 + 1 * (j 1).val = (j 1).val; omega
  | ⟨2, _⟩ => show win0_7.index t (2 : Fin 3) * 512 + 1 * (j 2).val = (j 2).val; omega

theorem idx_8 : ∀ t : Fin cfg0.N, win0_8.index t (0 : Fin 2) = 0 ∧ win0_8.index t (1 : Fin 2) = t.val :=
  (by decide +kernel : ∀ t : Fin grid0.N, _)
theorem emb_8 (t : Fin cfg0.N) (j : S1x128.Idx) : ((cfg0.win 8).blk t).view.emb j = ix2 (j 0) (chan (blkOf t) (j 1)) := by
  obtain ⟨e0, e1⟩ := idx_8 t
  funext a; apply Fin.ext
  match a with
  | ⟨0, _⟩ => show win0_8.index t (0 : Fin 2) * 1 + 1 * (j 0).val = (j 0).val; omega
  | ⟨1, _⟩ => show win0_8.index t (1 : Fin 2) * 128 + 1 * (j 1).val = 128 * t.val + (j 1).val; omega

theorem idx_9 : ∀ t : Fin cfg0.N, win0_9.index t (0 : Fin 2) = 0 ∧ win0_9.index t (1 : Fin 2) = t.val :=
  (by decide +kernel : ∀ t : Fin grid0.N, _)
theorem emb_9 (t : Fin cfg0.N) (j : S2048x128.Idx) : ((cfg0.win 9).blk t).view.emb j = ix2 (j 0) (chan (blkOf t) (j 1)) := by
  obtain ⟨e0, e1⟩ := idx_9 t
  funext a; apply Fin.ext
  match a with
  | ⟨0, _⟩ => show win0_9.index t (0 : Fin 2) * 2048 + 1 * (j 0).val = (j 0).val; omega
  | ⟨1, _⟩ => show win0_9.index t (1 : Fin 2) * 128 + 1 * (j 1).val = 128 * t.val + (j 1).val; omega

theorem idx_10 : ∀ t : Fin cfg0.N, win0_10.index t (0 : Fin 3) = t.val ∧ win0_10.index t (1 : Fin 3) = 0 ∧ win0_10.index t (2 : Fin 3) = 0 :=
  (by decide +kernel : ∀ t : Fin grid0.N, _)
theorem emb_10 (t : Fin cfg0.N) (j : S1x128x512.Idx) : ((cfg0.win 10).blk t).view.emb j = ix3 (blkOf t) (j 1) (j 2) := by
  obtain ⟨e0, e1, e2⟩ := idx_10 t
  funext a; apply Fin.ext
  match a with
  | ⟨0, _⟩ => show win0_10.index t (0 : Fin 3) * 1 + 1 * (j 0).val = t.val; have : (j 0).val < 1 := (j 0).isLt; omega
  | ⟨1, _⟩ => show win0_10.index t (1 : Fin 3) * 128 + 1 * (j 1).val = (j 1).val; omega
  | ⟨2, _⟩ => show win0_10.index t (2 : Fin 3) * 512 + 1 * (j 2).val = (j 2).val; omega

theorem idx_11 : ∀ t : Fin cfg0.N, win0_11.index t (0 : Fin 3) = t.val ∧ win0_11.index t (1 : Fin 3) = 0 ∧ win0_11.index t (2 : Fin 3) = 0 :=
  (by decide +kernel : ∀ t : Fin grid0.N, _)
theorem emb_11 (t : Fin cfg0.N) (j : S1x128x512.Idx) : ((cfg0.win 11).blk t).view.emb j = ix3 (blkOf t) (j 1) (j 2) := by
  obtain ⟨e0, e1, e2⟩ := idx_11 t
  funext a; apply Fin.ext
  match a with
  | ⟨0, _⟩ => show win0_11.index t (0 : Fin 3) * 1 + 1 * (j 0).val = t.val; have : (j 0).val < 1 := (j 0).isLt; omega
  | ⟨1, _⟩ => show win0_11.index t (1 : Fin 3) * 128 + 1 * (j 1).val = (j 1).val; omega
  | ⟨2, _⟩ => show win0_11.index t (2 : Fin 3) * 512 + 1 * (j 2).val = (j 2).val; omega

theorem idx_12 : ∀ t : Fin cfg0.N, win0_12.index t (0 : Fin 3) = t.val ∧ win0_12.index t (1 : Fin 3) = 0 ∧ win0_12.index t (2 : Fin 3) = 0 :=
  (by decide +kernel : ∀ t : Fin grid0.N, _)
theorem emb_12 (t : Fin cfg0.N) (j : S1x512x128.Idx) : ((cfg0.win 12).blk t).view.emb j = ix3 (blkOf t) (j 1) (j 2) := by
  obtain ⟨e0, e1, e2⟩ := idx_12 t
  funext a; apply Fin.ext
  match a with
  | ⟨0, _⟩ => show win0_12.index t (0 : Fin 3) * 1 + 1 * (j 0).val = t.val; have : (j 0).val < 1 := (j 0).isLt; omega
  | ⟨1, _⟩ => show win0_12.index t (1 : Fin 3) * 512 + 1 * (j 1).val = (j 1).val; omega
  | ⟨2, _⟩ => show win0_12.index t (2 : Fin 3) * 128 + 1 * (j 2).val = (j 2).val; omega

theorem idx_13 : ∀ t : Fin cfg0.N, win0_13.index t (0 : Fin 3) = t.val ∧ win0_13.index t (1 : Fin 3) = 0 ∧ win0_13.index t (2 : Fin 3) = 0 :=
  (by decide +kernel : ∀ t : Fin grid0.N, _)
theorem emb_13 (t : Fin cfg0.N) (j : S1x512x128.Idx) : ((cfg0.win 13).blk t).view.emb j = ix3 (blkOf t) (j 1) (j 2) := by
  obtain ⟨e0, e1, e2⟩ := idx_13 t
  funext a; apply Fin.ext
  match a with
  | ⟨0, _⟩ => show win0_13.index t (0 : Fin 3) * 1 + 1 * (j 0).val = t.val; have : (j 0).val < 1 := (j 0).isLt; omega
  | ⟨1, _⟩ => show win0_13.index t (1 : Fin 3) * 512 + 1 * (j 1).val = (j 1).val; omega
  | ⟨2, _⟩ => show win0_13.index t (2 : Fin 3) * 128 + 1 * (j 2).val = (j 2).val; omega

theorem idx_14 : ∀ t : Fin cfg0.N, win0_14.index t (0 : Fin 3) = t.val ∧ win0_14.index t (1 : Fin 3) = 0 ∧ win0_14.index t (2 : Fin 3) = 0 :=
  (by decide +kernel : ∀ t : Fin grid0.N, _)
theorem emb_14 (t : Fin cfg0.N) (j : S1x1x512.Idx) : ((cfg0.win 14).blk t).view.emb j = ix3 (blkOf t) (j 1) (j 2) := by
  obtain ⟨e0, e1, e2⟩ := idx_14 t
  funext a; apply Fin.ext
  match a with
  | ⟨0, _⟩ => show win0_14.index t (0 : Fin 3) * 1 + 1 * (j 0).val = t.val; have : (j 0).val < 1 := (j 0).isLt; omega
  | ⟨1, _⟩ => show win0_14.index t (1 : Fin 3) * 1 + 1 * (j 1).val = (j 1).val; omega
  | ⟨2, _⟩ => show win0_14.index t (2 : Fin 3) * 512 + 1 * (j 2).val = (j 2).val; omega

theorem idx_15 : ∀ t : Fin cfg0.N, win0_15.index t (0 : Fin 3) = t.val ∧ win0_15.index t (1 : Fin 3) = 0 ∧ win0_15.index t (2 : Fin 3) = 0 :=
  (by decide +kernel : ∀ t : Fin grid0.N, _)
theorem emb_15 (t : Fin cfg0.N) (j : S1x1x512.Idx) : ((cfg0.win 15).blk t).view.emb j = ix3 (blkOf t) (j 1) (j 2) := by
  obtain ⟨e0, e1, e2⟩ := idx_15 t
  funext a; apply Fin.ext
  match a with
  | ⟨0, _⟩ => show win0_15.index t (0 : Fin 3) * 1 + 1 * (j 0).val = t.val; have : (j 0).val < 1 := (j 0).isLt; omega
  | ⟨1, _⟩ => show win0_15.index t (1 : Fin 3) * 1 + 1 * (j 1).val = (j 1).val; omega
  | ⟨2, _⟩ => show win0_15.index t (2 : Fin 3) * 512 + 1 * (j 2).val = (j 2).val; omega

theorem idx_16 : ∀ t : Fin cfg0.N, win0_16.index t (0 : Fin 2) = 0 ∧ win0_16.index t (1 : Fin 2) = t.val :=
  (by decide +kernel : ∀ t : Fin grid0.N, _)
theorem emb_16 (t : Fin cfg0.N) (j : S1x128.Idx) : ((cfg0.win 16).blk t).view.emb j = ix2 (j 0) (chan (blkOf t) (j 1)) := by
  obtain ⟨e0, e1⟩ := idx_16 t
  funext a; apply Fin.ext
  match a with
  | ⟨0, _⟩ => show win0_16.index t (0 : Fin 2) * 1 + 1 * (j 0).val = (j 0).val; omega
  | ⟨1, _⟩ => show win0_16.index t (1 : Fin 2) * 128 + 1 * (j 1).val = 128 * t.val + (j 1).val; omega

variable (m : (ℓ : Loc nD τ sig) → Buf (Elt Ideal) ℓ) (c : Dev nD) (G : Glob)

/-- The kernel's arguments, and what its host code first makes of them, hold the numbers `G`. -/
abbrev KHolds : Prop := G.Holds (fun t n => (m (c, Proc.devRef .tc main_arg0) : FVec Ideal S2048x1024 .f32) (ix2 t n))
  (fun t n => (m (c, Proc.devRef .tc main_arg1) : FVec Ideal S2048x1024 .f32) (ix2 t n))
  (fun g p => (V m c main_v9 : FVec Ideal S64x64 .f32) (ix2 g p)) (fun g p => (V m c main_v14 : FVec Ideal S64x64 .f32) (ix2 g p))
  (fun g p n => (V m c main_v42 : FVec Ideal S64x64x16 .f32) (ix3 g p n)) (fun g p n => (V m c main_v49 : FVec Ideal S64x64x16 .f32) (ix3 g p n))
  (fun g n p => (m (c, Proc.devRef .tc main_arg7) : FVec Ideal S64x16x64 .f32) (ix3 g n p))
  (fun g n p => (m (c, Proc.devRef .tc main_arg8) : FVec Ideal S64x16x64 .f32) (ix3 g n p))
  (fun n => (m (c, Proc.devRef .tc main_arg9) : FVec Ideal S1024 .f32) (ix1 n))

theorem in_94 : V m c main_v94 = interleave (m (c, Proc.devRef .tc main_arg0)) := v94_eq (fun b => m (c, b))
theorem in_97 : V m c main_v97 = interleave (m (c, Proc.devRef .tc main_arg1)) := v97_eq (fun b => m (c, b))
theorem in_58 : V m c main_v58 = rows (V m c main_v9) := v58_eq (fun b => m (c, b))
theorem in_59 : V m c main_v59 = rows (V m c main_v14) := v59_eq (fun b => m (c, b))
theorem in_88 : V m c main_v88 = diag (transpose S64x16x64 [0, 2, 1] (V m c main_v42 : FVec Ideal S64x64x16 .f32) transposes_S64x64x16_S64x16x64_0_2_1) :=
  v88_eq (fun b => m (c, b))
theorem in_89 : V m c main_v89 = diag (transpose S64x16x64 [0, 2, 1] (V m c main_v49 : FVec Ideal S64x64x16 .f32) transposes_S64x64x16_S64x16x64_0_2_1) :=
  v89_eq (fun b => m (c, b))
theorem in_90 : V m c main_v90 = diag (m (c, Proc.devRef .tc main_arg7)) := v90_eq (fun b => m (c, b))
theorem in_91 : V m c main_v91 = diag (m (c, Proc.devRef .tc main_arg8)) := v91_eq (fun b => m (c, b))
theorem in_98 : V m c main_v98 = asRow (m (c, Proc.devRef .tc main_arg9)) := v98_eq (fun b => m (c, b))

theorem mul_eye (x : ℝ) (i j : Fin 8) : (x : EReal) * eye (ix2 i j) = ((if i.val = j.val then x else 0 : ℝ) : EReal) := by
  rw [eye_apply]
  by_cases h : i = j
  · rw [if_pos h, if_pos (congrArg Fin.val h), mul_one]
  · rw [if_neg h, if_neg (fun e => h (Fin.ext e)), mul_zero, EReal.coe_zero]

theorem swap_apply (x : FVec Ideal S64x64x16 .f32) (g : Fin 64) (n : Fin 16) (p : Fin 64) :
    (transpose S64x16x64 [0, 2, 1] x transposes_S64x64x16_S64x16x64_0_2_1) (ix3 g n p) = x (ix3 g p n) := by
  pointwise

theorem diag_blk {X : FVec Ideal S64x16x64 .f32} {f : ℕ → ℕ → ℕ → ℝ} (hX : ∀ (g : Fin 64) (n : Fin 16) (p : Fin 64), X (ix3 g n p) = (f g n p : EReal))
    (b : Fin 8) (n : Fin 128) (q : Fin 512) :
    diag X (ix3 b n q) = ((if n.val / 16 = q.val / 64 then f (8 * b.val + q.val / 64) (n.val % 16) (q.val % 64) else 0 : ℝ) : EReal) := by
  rw [diag_apply, hX, mul_eye]
  by_cases e : n.val / 16 = q.val / 64
  · rw [if_pos e, if_pos e]
    dsimp only
    rw [e]
  · rw [if_neg e, if_neg e]

set_option maxHeartbeats 2000000 in
/-- Every grid point's blocks hold its part of the numbers. -/
theorem holdsAt (h : KHolds m c G) (t : Fin cfg0.N) : HoldsAt m c t (G.blk (blkOf t).val) where
  h0 r n := by
    refine (congrArg (V m c main_v94) (emb_0 t (ix2 r n))).trans ?_
    rw [in_94]
    exact (interleave_apply _ r (chan (blkOf t) n)).trans (h.hu _ _)
  h1 r n := by
    refine (congrArg (V m c main_v97) (emb_1 t (ix2 r n))).trans ?_
    rw [in_97]
    exact (interleave_apply _ r (chan (blkOf t) n)).trans (h.hdy _ _)
  h2 q := by
    refine (congrArg (V m c main_v58) (emb_2 t (ix3 (0 : Fin 1) (0 : Fin 1) q))).trans ?_
    rw [in_58]
    exact (rows_apply _ (blkOf t) q).trans (h.har _ _)
  h3 q := by
    refine (congrArg (V m c main_v59) (emb_3 t (ix3 (0 : Fin 1) (0 : Fin 1) q))).trans ?_
    rw [in_59]
    exact (rows_apply _ (blkOf t) q).trans (h.hai _ _)
  h4 n q := by
    refine (congrArg (V m c main_v88) (emb_4 t (ix3 (0 : Fin 1) n q))).trans ?_
    rw [in_88]
    exact diag_blk (f := fun g n p => G.br g p n) (fun g n p => (swap_apply _ _ _ _).trans (h.hbr _ _ _)) (blkOf t) n q
  h5 n q := by
    refine (congrArg (V m c main_v89) (emb_5 t (ix3 (0 : Fin 1) n q))).trans ?_
    rw [in_89]
    exact diag_blk (f := fun g n p => G.bi g p n) (fun g n p => (swap_apply _ _ _ _).trans (h.hbi _ _ _)) (blkOf t) n q
  h6 n q := by
    refine (congrArg (V m c main_v90) (emb_6 t (ix3 (0 : Fin 1) n q))).trans ?_
    rw [in_90]
    exact diag_blk (f := fun g n p => G.cr g n p) (fun g n p => h.hcr _ _ _) (blkOf t) n q
  h7 n q := by
    refine (congrArg (V m c main_v91) (emb_7 t (ix3 (0 : Fin 1) n q))).trans ?_
    rw [in_91]
    exact diag_blk (f := fun g n p => G.ci g n p) (fun g n p => h.hci _ _ _) (blkOf t) n q
  h8 n := by
    refine (congrArg (V m c main_v98) (emb_8 t (ix2 (0 : Fin 1) n))).trans ?_
    rw [in_98]
    exact (asRow_apply _ (chan (blkOf t) n)).trans (h.hd _)

/-- Result 0 of the call. -/
def arr_9 : FVec Ideal S2048x1024 .f32 := fun j => (((G.blk ((j 1).val / 128)).du (j 0).val ((j 1).val % 128) : ℝ) : EReal)

theorem flushed_9 (h : KHolds m c G) (t : Fin cfg0.N) :
    (dats m 0 c).flushed 9 t = ((cfg0.win 9).blk t).view.read (Elt Ideal) (arr_9 G) := by
  show (cfg0.win 9).cut (grid0.coords t) ((dats m 0 c).after 9 t) = _
  rw [after0_9]
  have key : ∀ j : S2048x128.Idx, (outsAt0 m c t).1 j = arr_9 G (((cfg0.win 9).blk t).view.emb j) := fun j => by
    rw [emb_9]
    idx_vars j
    refine (out_9 m c t (holdsAt m c G h t) j0 j1).trans ?_
    unfold arr_9
    have a1 : (128 * (blkOf t).val + j1.val) / 128 = (blkOf t).val := by omega
    have a2 : (128 * (blkOf t).val + j1.val) % 128 = j1.val := by omega
    show _ = (((G.blk ((128 * (blkOf t).val + j1.val) / 128)).du j0.val ((128 * (blkOf t).val + j1.val) % 128) : ℝ) : EReal)
    rw [a1, a2]
  funext j
  exact key j

theorem cover_9 (i : S2048x1024.Idx) : ∃ t : Fin cfg0.N, (cfg0.win 9).flush t = true ∧ i ∈ ((cfg0.win 9).blk t).view.set := by
  have hb : (i 1).val < 1024 := (i 1).isLt
  have hb' : (i 1).val / 128 < 8 := by omega
  have hn : (i 1).val % 128 < 128 := by omega
  refine ⟨⟨(i 1).val / 128, lt_of_lt_of_eq hb' N_0.symm⟩, flush0_9 _, ?_⟩
  have h := ((cfg0.win 9).blk (⟨(i 1).val / 128, lt_of_lt_of_eq hb' N_0.symm⟩ : Fin cfg0.N)).view.emb_mem_set (ix2 (i 0) (⟨(i 1).val % 128, hn⟩ : Fin 128))
  rw [emb_9] at h
  have e : (ix2 (i 0) (chan (blkOf ⟨(i 1).val / 128, lt_of_lt_of_eq hb' N_0.symm⟩) (⟨(i 1).val % 128, hn⟩ : Fin 128)) : S2048x1024.Idx) = i := by
    funext a; match a with
    | ⟨0, _⟩ => rfl
    | ⟨1, _⟩ => exact Fin.ext (by show 128 * ((i 1).val / 128) + (i 1).val % 128 = (i 1).val; omega)
  have h' : (ix2 (i 0) (chan (blkOf ⟨(i 1).val / 128, lt_of_lt_of_eq hb' N_0.symm⟩) (⟨(i 1).val % 128, hn⟩ : Fin 128)) : S2048x1024.Idx)
      ∈ ((cfg0.win 9).blk (⟨(i 1).val / 128, lt_of_lt_of_eq hb' N_0.symm⟩ : Fin cfg0.N)).view.set := h
  rwa [e] at h'

theorem final_9 (h : KHolds m c G) : (dats m 0 c).arrAt 9 cfg0.N = arr_9 G :=
  (dats m 0 c).arrAt_eq_of_cover 9 _ (fun t _ => flushed_9 m c G h t) cover_9

/-- Result 1 of the call. -/
def arr_10 : FVec Ideal S8x128x512 .f32 := fun j => (((G.blk (j 0).val).dbr (j 1).val (j 2).val : ℝ) : EReal)

theorem flushed_10 (h : KHolds m c G) (t : Fin cfg0.N) :
    (dats m 0 c).flushed 10 t = ((cfg0.win 10).blk t).view.read (Elt Ideal) (arr_10 G) := by
  show (cfg0.win 10).cut (grid0.coords t) ((dats m 0 c).after 10 t) = _
  rw [after0_10]
  have key : ∀ j : S1x128x512.Idx, (outsAt0 m c t).2.1 j = arr_10 G (((cfg0.win 10).blk t).view.emb j) := fun j => by
    rw [emb_10]
    idx_vars j
    have e0 : j0 = 0 := Subsingleton.elim _ _
    subst e0
    refine (out_10 m c t (holdsAt m c G h t) j1 j2).trans ?_
    rfl
  funext j
  exact key j

theorem cover_10 (i : S8x128x512.Idx) : ∃ t : Fin cfg0.N, (cfg0.win 10).flush t = true ∧ i ∈ ((cfg0.win 10).blk t).view.set := by
  have h0 : (i 0).val < 8 := (i 0).isLt
  refine ⟨⟨(i 0).val, lt_of_lt_of_eq h0 N_0.symm⟩, flush0_10 _, ?_⟩
  have h := ((cfg0.win 10).blk (⟨(i 0).val, lt_of_lt_of_eq h0 N_0.symm⟩ : Fin cfg0.N)).view.emb_mem_set (ix3 (0 : Fin 1) (i 1) (i 2))
  rw [emb_10] at h
  have e : (ix3 (blkOf ⟨(i 0).val, lt_of_lt_of_eq h0 N_0.symm⟩) (i 1) (i 2) : S8x128x512.Idx) = i := by
    funext a; match a with | ⟨0, _⟩ => rfl | ⟨1, _⟩ => rfl | ⟨2, _⟩ => rfl
  have h' : (ix3 (blkOf ⟨(i 0).val, lt_of_lt_of_eq h0 N_0.symm⟩) (i 1) (i 2) : S8x128x512.Idx)
      ∈ ((cfg0.win 10).blk (⟨(i 0).val, lt_of_lt_of_eq h0 N_0.symm⟩ : Fin cfg0.N)).view.set := h
  rwa [e] at h'

theorem final_10 (h : KHolds m c G) : (dats m 0 c).arrAt 10 cfg0.N = arr_10 G :=
  (dats m 0 c).arrAt_eq_of_cover 10 _ (fun t _ => flushed_10 m c G h t) cover_10

/-- Result 2 of the call. -/
def arr_11 : FVec Ideal S8x128x512 .f32 := fun j => (((G.blk (j 0).val).dbi (j 1).val (j 2).val : ℝ) : EReal)

theorem flushed_11 (h : KHolds m c G) (t : Fin cfg0.N) :
    (dats m 0 c).flushed 11 t = ((cfg0.win 11).blk t).view.read (Elt Ideal) (arr_11 G) := by
  show (cfg0.win 11).cut (grid0.coords t) ((dats m 0 c).after 11 t) = _
  rw [after0_11]
  have key : ∀ j : S1x128x512.Idx, (outsAt0 m c t).2.2.1 j = arr_11 G (((cfg0.win 11).blk t).view.emb j) := fun j => by
    rw [emb_11]
    idx_vars j
    have e0 : j0 = 0 := Subsingleton.elim _ _
    subst e0
    refine (out_11 m c t (holdsAt m c G h t) j1 j2).trans ?_
    rfl
  funext j
  exact key j

theorem cover_11 (i : S8x128x512.Idx) : ∃ t : Fin cfg0.N, (cfg0.win 11).flush t = true ∧ i ∈ ((cfg0.win 11).blk t).view.set := by
  have h0 : (i 0).val < 8 := (i 0).isLt
  refine ⟨⟨(i 0).val, lt_of_lt_of_eq h0 N_0.symm⟩, flush0_11 _, ?_⟩
  have h := ((cfg0.win 11).blk (⟨(i 0).val, lt_of_lt_of_eq h0 N_0.symm⟩ : Fin cfg0.N)).view.emb_mem_set (ix3 (0 : Fin 1) (i 1) (i 2))
  rw [emb_11] at h
  have e : (ix3 (blkOf ⟨(i 0).val, lt_of_lt_of_eq h0 N_0.symm⟩) (i 1) (i 2) : S8x128x512.Idx) = i := by
    funext a; match a with | ⟨0, _⟩ => rfl | ⟨1, _⟩ => rfl | ⟨2, _⟩ => rfl
  have h' : (ix3 (blkOf ⟨(i 0).val, lt_of_lt_of_eq h0 N_0.symm⟩) (i 1) (i 2) : S8x128x512.Idx)
      ∈ ((cfg0.win 11).blk (⟨(i 0).val, lt_of_lt_of_eq h0 N_0.symm⟩ : Fin cfg0.N)).view.set := h
  rwa [e] at h'

theorem final_11 (h : KHolds m c G) : (dats m 0 c).arrAt 11 cfg0.N = arr_11 G :=
  (dats m 0 c).arrAt_eq_of_cover 11 _ (fun t _ => flushed_11 m c G h t) cover_11

/-- Result 3 of the call. -/
def arr_12 : FVec Ideal S8x512x128 .f32 := fun j => (((G.blk (j 0).val).dcr (j 1).val (j 2).val : ℝ) : EReal)

theorem flushed_12 (h : KHolds m c G) (t : Fin cfg0.N) :
    (dats m 0 c).flushed 12 t = ((cfg0.win 12).blk t).view.read (Elt Ideal) (arr_12 G) := by
  show (cfg0.win 12).cut (grid0.coords t) ((dats m 0 c).after 12 t) = _
  rw [after0_12]
  have key : ∀ j : S1x512x128.Idx, (outsAt0 m c t).2.2.2.1 j = arr_12 G (((cfg0.win 12).blk t).view.emb j) := fun j => by
    rw [emb_12]
    idx_vars j
    have e0 : j0 = 0 := Subsingleton.elim _ _
    subst e0
    refine (out_12 m c t (holdsAt m c G h t) j1 j2).trans ?_
    rfl
  funext j
  exact key j

theorem cover_12 (i : S8x512x128.Idx) : ∃ t : Fin cfg0.N, (cfg0.win 12).flush t = true ∧ i ∈ ((cfg0.win 12).blk t).view.set := by
  have h0 : (i 0).val < 8 := (i 0).isLt
  refine ⟨⟨(i 0).val, lt_of_lt_of_eq h0 N_0.symm⟩, flush0_12 _, ?_⟩
  have h := ((cfg0.win 12).blk (⟨(i 0).val, lt_of_lt_of_eq h0 N_0.symm⟩ : Fin cfg0.N)).view.emb_mem_set (ix3 (0 : Fin 1) (i 1) (i 2))
  rw [emb_12] at h
  have e : (ix3 (blkOf ⟨(i 0).val, lt_of_lt_of_eq h0 N_0.symm⟩) (i 1) (i 2) : S8x512x128.Idx) = i := by
    funext a; match a with | ⟨0, _⟩ => rfl | ⟨1, _⟩ => rfl | ⟨2, _⟩ => rfl
  have h' : (ix3 (blkOf ⟨(i 0).val, lt_of_lt_of_eq h0 N_0.symm⟩) (i 1) (i 2) : S8x512x128.Idx)
      ∈ ((cfg0.win 12).blk (⟨(i 0).val, lt_of_lt_of_eq h0 N_0.symm⟩ : Fin cfg0.N)).view.set := h
  rwa [e] at h'

theorem final_12 (h : KHolds m c G) : (dats m 0 c).arrAt 12 cfg0.N = arr_12 G :=
  (dats m 0 c).arrAt_eq_of_cover 12 _ (fun t _ => flushed_12 m c G h t) cover_12

/-- Result 4 of the call. -/
def arr_13 : FVec Ideal S8x512x128 .f32 := fun j => (((G.blk (j 0).val).dci (j 1).val (j 2).val : ℝ) : EReal)

theorem flushed_13 (h : KHolds m c G) (t : Fin cfg0.N) :
    (dats m 0 c).flushed 13 t = ((cfg0.win 13).blk t).view.read (Elt Ideal) (arr_13 G) := by
  show (cfg0.win 13).cut (grid0.coords t) ((dats m 0 c).after 13 t) = _
  rw [after0_13]
  have key : ∀ j : S1x512x128.Idx, (outsAt0 m c t).2.2.2.2.1 j = arr_13 G (((cfg0.win 13).blk t).view.emb j) := fun j => by
    rw [emb_13]
    idx_vars j
    have e0 : j0 = 0 := Subsingleton.elim _ _
    subst e0
    refine (out_13 m c t (holdsAt m c G h t) j1 j2).trans ?_
    rfl
  funext j
  exact key j

theorem cover_13 (i : S8x512x128.Idx) : ∃ t : Fin cfg0.N, (cfg0.win 13).flush t = true ∧ i ∈ ((cfg0.win 13).blk t).view.set := by
  have h0 : (i 0).val < 8 := (i 0).isLt
  refine ⟨⟨(i 0).val, lt_of_lt_of_eq h0 N_0.symm⟩, flush0_13 _, ?_⟩
  have h := ((cfg0.win 13).blk (⟨(i 0).val, lt_of_lt_of_eq h0 N_0.symm⟩ : Fin cfg0.N)).view.emb_mem_set (ix3 (0 : Fin 1) (i 1) (i 2))
  rw [emb_13] at h
  have e : (ix3 (blkOf ⟨(i 0).val, lt_of_lt_of_eq h0 N_0.symm⟩) (i 1) (i 2) : S8x512x128.Idx) = i := by
    funext a; match a with | ⟨0, _⟩ => rfl | ⟨1, _⟩ => rfl | ⟨2, _⟩ => rfl
  have h' : (ix3 (blkOf ⟨(i 0).val, lt_of_lt_of_eq h0 N_0.symm⟩) (i 1) (i 2) : S8x512x128.Idx)
      ∈ ((cfg0.win 13).blk (⟨(i 0).val, lt_of_lt_of_eq h0 N_0.symm⟩ : Fin cfg0.N)).view.set := h
  rwa [e] at h'

theorem final_13 (h : KHolds m c G) : (dats m 0 c).arrAt 13 cfg0.N = arr_13 G :=
  (dats m 0 c).arrAt_eq_of_cover 13 _ (fun t _ => flushed_13 m c G h t) cover_13

/-- Result 5 of the call. -/
def arr_14 : FVec Ideal S8x1x512 .f32 := fun j => ((((G.blk (j 0).val).da (j 2).val).re : ℝ) : EReal)

theorem flushed_14 (h : KHolds m c G) (t : Fin cfg0.N) :
    (dats m 0 c).flushed 14 t = ((cfg0.win 14).blk t).view.read (Elt Ideal) (arr_14 G) := by
  show (cfg0.win 14).cut (grid0.coords t) ((dats m 0 c).after 14 t) = _
  rw [after0_14]
  have key : ∀ j : S1x1x512.Idx, (outsAt0 m c t).2.2.2.2.2.1 j = arr_14 G (((cfg0.win 14).blk t).view.emb j) := fun j => by
    rw [emb_14]
    idx_vars j
    have e0 : j0 = 0 := Subsingleton.elim _ _
    subst e0
    have e1 : j1 = 0 := Subsingleton.elim _ _
    subst e1
    refine (out_14 m c t (holdsAt m c G h t) j2).trans ?_
    rfl
  funext j
  exact key j

theorem cover_14 (i : S8x1x512.Idx) : ∃ t : Fin cfg0.N, (cfg0.win 14).flush t = true ∧ i ∈ ((cfg0.win 14).blk t).view.set := by
  have h0 : (i 0).val < 8 := (i 0).isLt
  refine ⟨⟨(i 0).val, lt_of_lt_of_eq h0 N_0.symm⟩, flush0_14 _, ?_⟩
  have h := ((cfg0.win 14).blk (⟨(i 0).val, lt_of_lt_of_eq h0 N_0.symm⟩ : Fin cfg0.N)).view.emb_mem_set (ix3 (0 : Fin 1) (i 1) (i 2))
  rw [emb_14] at h
  have e : (ix3 (blkOf ⟨(i 0).val, lt_of_lt_of_eq h0 N_0.symm⟩) (i 1) (i 2) : S8x1x512.Idx) = i := by
    funext a; match a with | ⟨0, _⟩ => rfl | ⟨1, _⟩ => rfl | ⟨2, _⟩ => rfl
  have h' : (ix3 (blkOf ⟨(i 0).val, lt_of_lt_of_eq h0 N_0.symm⟩) (i 1) (i 2) : S8x1x512.Idx)
      ∈ ((cfg0.win 14).blk (⟨(i 0).val, lt_of_lt_of_eq h0 N_0.symm⟩ : Fin cfg0.N)).view.set := h
  rwa [e] at h'

theorem final_14 (h : KHolds m c G) : (dats m 0 c).arrAt 14 cfg0.N = arr_14 G :=
  (dats m 0 c).arrAt_eq_of_cover 14 _ (fun t _ => flushed_14 m c G h t) cover_14

/-- Result 6 of the call. -/
def arr_15 : FVec Ideal S8x1x512 .f32 := fun j => ((((G.blk (j 0).val).da (j 2).val).im : ℝ) : EReal)

theorem flushed_15 (h : KHolds m c G) (t : Fin cfg0.N) :
    (dats m 0 c).flushed 15 t = ((cfg0.win 15).blk t).view.read (Elt Ideal) (arr_15 G) := by
  show (cfg0.win 15).cut (grid0.coords t) ((dats m 0 c).after 15 t) = _
  rw [after0_15]
  have key : ∀ j : S1x1x512.Idx, (outsAt0 m c t).2.2.2.2.2.2.1 j = arr_15 G (((cfg0.win 15).blk t).view.emb j) := fun j => by
    rw [emb_15]
    idx_vars j
    have e0 : j0 = 0 := Subsingleton.elim _ _
    subst e0
    have e1 : j1 = 0 := Subsingleton.elim _ _
    subst e1
    refine (out_15 m c t (holdsAt m c G h t) j2).trans ?_
    rfl
  funext j
  exact key j

theorem cover_15 (i : S8x1x512.Idx) : ∃ t : Fin cfg0.N, (cfg0.win 15).flush t = true ∧ i ∈ ((cfg0.win 15).blk t).view.set := by
  have h0 : (i 0).val < 8 := (i 0).isLt
  refine ⟨⟨(i 0).val, lt_of_lt_of_eq h0 N_0.symm⟩, flush0_15 _, ?_⟩
  have h := ((cfg0.win 15).blk (⟨(i 0).val, lt_of_lt_of_eq h0 N_0.symm⟩ : Fin cfg0.N)).view.emb_mem_set (ix3 (0 : Fin 1) (i 1) (i 2))
  rw [emb_15] at h
  have e : (ix3 (blkOf ⟨(i 0).val, lt_of_lt_of_eq h0 N_0.symm⟩) (i 1) (i 2) : S8x1x512.Idx) = i := by
    funext a; match a with | ⟨0, _⟩ => rfl | ⟨1, _⟩ => rfl | ⟨2, _⟩ => rfl
  have h' : (ix3 (blkOf ⟨(i 0).val, lt_of_lt_of_eq h0 N_0.symm⟩) (i 1) (i 2) : S8x1x512.Idx)
      ∈ ((cfg0.win 15).blk (⟨(i 0).val, lt_of_lt_of_eq h0 N_0.symm⟩ : Fin cfg0.N)).view.set := h
  rwa [e] at h'

theorem final_15 (h : KHolds m c G) : (dats m 0 c).arrAt 15 cfg0.N = arr_15 G :=
  (dats m 0 c).arrAt_eq_of_cover 15 _ (fun t _ => flushed_15 m c G h t) cover_15

/-- Result 7 of the call. -/
def arr_16 : FVec Ideal S1x1024 .f32 := fun j => (((G.blk ((j 1).val / 128)).dd ((j 1).val % 128) : ℝ) : EReal)

theorem flushed_16 (h : KHolds m c G) (t : Fin cfg0.N) :
    (dats m 0 c).flushed 16 t = ((cfg0.win 16).blk t).view.read (Elt Ideal) (arr_16 G) := by
  show (cfg0.win 16).cut (grid0.coords t) ((dats m 0 c).after 16 t) = _
  rw [after0_16]
  have key : ∀ j : S1x128.Idx, (outsAt0 m c t).2.2.2.2.2.2.2 j = arr_16 G (((cfg0.win 16).blk t).view.emb j) := fun j => by
    rw [emb_16]
    idx_vars j
    have e0 : j0 = 0 := Subsingleton.elim _ _
    subst e0
    refine (out_16 m c t (holdsAt m c G h t) j1).trans ?_
    unfold arr_16
    have a1 : (128 * (blkOf t).val + j1.val) / 128 = (blkOf t).val := by omega
    have a2 : (128 * (blkOf t).val + j1.val) % 128 = j1.val := by omega
    show _ = (((G.blk ((128 * (blkOf t).val + j1.val) / 128)).dd ((128 * (blkOf t).val + j1.val) % 128) : ℝ) : EReal)
    rw [a1, a2]
  funext j
  exact key j

theorem cover_16 (i : S1x1024.Idx) : ∃ t : Fin cfg0.N, (cfg0.win 16).flush t = true ∧ i ∈ ((cfg0.win 16).blk t).view.set := by
  have hb : (i 1).val < 1024 := (i 1).isLt
  have hb' : (i 1).val / 128 < 8 := by omega
  have hn : (i 1).val % 128 < 128 := by omega
  refine ⟨⟨(i 1).val / 128, lt_of_lt_of_eq hb' N_0.symm⟩, flush0_16 _, ?_⟩
  have h := ((cfg0.win 16).blk (⟨(i 1).val / 128, lt_of_lt_of_eq hb' N_0.symm⟩ : Fin cfg0.N)).view.emb_mem_set (ix2 (i 0) (⟨(i 1).val % 128, hn⟩ : Fin 128))
  rw [emb_16] at h
  have e : (ix2 (i 0) (chan (blkOf ⟨(i 1).val / 128, lt_of_lt_of_eq hb' N_0.symm⟩) (⟨(i 1).val % 128, hn⟩ : Fin 128)) : S1x1024.Idx) = i := by
    funext a; match a with
    | ⟨0, _⟩ => rfl
    | ⟨1, _⟩ => exact Fin.ext (by show 128 * ((i 1).val / 128) + (i 1).val % 128 = (i 1).val; omega)
  have h' : (ix2 (i 0) (chan (blkOf ⟨(i 1).val / 128, lt_of_lt_of_eq hb' N_0.symm⟩) (⟨(i 1).val % 128, hn⟩ : Fin 128)) : S1x1024.Idx)
      ∈ ((cfg0.win 16).blk (⟨(i 1).val / 128, lt_of_lt_of_eq hb' N_0.symm⟩ : Fin cfg0.N)).view.set := h
  rwa [e] at h'

theorem final_16 (h : KHolds m c G) : (dats m 0 c).arrAt 16 cfg0.N = arr_16 G :=
  (dats m 0 c).arrAt_eq_of_cover 16 _ (fun t _ => flushed_16 m c G h t) cover_16

end Cert.Scan
-- ==== Proof.Ends.TailK.lean ====
module

public import proofs.«01_k».proof.Proof.Gen.KernelIdeal.Launch
public import Idealize.ShloMosaic.Lib.Pointwise
public import Idealize.ShloMosaic.Lib.StableHlo.RunRead

/-! The gradient of the discretisation, written out: the gradients of the parameters from those of the transition and of
the input maps. -/

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.ShloMosaic.StableHlo

/-- The operations from the gradients of the input maps on. -/
abbrev tailOps : List (HloOp τ sig (Elt Ideal)) := List.drop 45 hostOps1

/-- The gradient that ends in result `gLamRe`. -/
def gLamRe (arg2 : FVec Ideal S64x64 .f32) (arg3 : FVec Ideal S64x64 .f32) (arg5 : FVec Ideal S64x64x16 .f32) (arg6 : FVec Ideal S64x64x16 .f32) (v1 : FVec Ideal S64x1 .f32) (v12 : FVec Ideal S64x64 .f32) (dai : FVec Ideal S64x64 .f32) (dar : FVec Ideal S64x64 .f32) (dbi : FVec Ideal S64x64x16 .f32) (dbr : FVec Ideal S64x64x16 .f32) (v14 : FVec Ideal S64x64 .f32) (v17 : FVec Ideal S64x64 .f32) (v19 : FVec Ideal S64x64 .f32) (v22 : FVec Ideal S64x64 .f32) (v26 : FVec Ideal S64x64 .f32) (v31 : FVec Ideal S64x64 .f32) (v35 : FVec Ideal S64x64 .f32) (v4 : FVec Ideal S64x64 .f32) (v7 : FVec Ideal S64x64 .f32) : FVec Ideal S64x64 .f32 :=
  let v139 : FVec Ideal S64x64x16 .f32 := (mulf) dbi arg5
  let cst_11 : FVec Ideal S_ .f32 := constant (F := Ideal) S_ .f32 0x00000000#32
  let v140 : FVec Ideal S64x64 .f32 := ((fun x v => Host.reduceAdd x v reducesTo_S64x64x16_S64x64_d2 h_S_)) v139 cst_11
  let v141 : FVec Ideal S64x64x1 .f32 := shapeCast S64x64x1 v140 shapeCasts_S64x64_S64x64x1
  let cst_12 : FVec Ideal S_ .f32 := constant (F := Ideal) S_ .f32 0x00000000#32
  let v142 : FVec Ideal S64x64 .f32 := ((fun x v => Host.reduceAdd x v reducesTo_S64x64x1_S64x64_d2 h_S_)) v141 cst_12
  let v145 : FVec Ideal S64x64x16 .f32 := (mulf) dbi arg6
  let cst_13 : FVec Ideal S_ .f32 := constant (F := Ideal) S_ .f32 0x00000000#32
  let v146 : FVec Ideal S64x64 .f32 := ((fun x v => Host.reduceAdd x v reducesTo_S64x64x16_S64x64_d2 h_S_)) v145 cst_13
  let v147 : FVec Ideal S64x64x1 .f32 := shapeCast S64x64x1 v146 shapeCasts_S64x64_S64x64x1
  let cst_14 : FVec Ideal S_ .f32 := constant (F := Ideal) S_ .f32 0x00000000#32
  let v148 : FVec Ideal S64x64 .f32 := ((fun x v => Host.reduceAdd x v reducesTo_S64x64x1_S64x64_d2 h_S_)) v147 cst_14
  let v149 : FVec Ideal S64x64x16 .f32 := (Host.negf) dbr
  let v153 : FVec Ideal S64x64x16 .f32 := (mulf) v149 arg6
  let cst_15 : FVec Ideal S_ .f32 := constant (F := Ideal) S_ .f32 0x00000000#32
  let v154 : FVec Ideal S64x64 .f32 := ((fun x v => Host.reduceAdd x v reducesTo_S64x64x16_S64x64_d2 h_S_)) v153 cst_15
  let v155 : FVec Ideal S64x64x1 .f32 := shapeCast S64x64x1 v154 shapeCasts_S64x64_S64x64x1
  let cst_16 : FVec Ideal S_ .f32 := constant (F := Ideal) S_ .f32 0x00000000#32
  let v156 : FVec Ideal S64x64 .f32 := ((fun x v => Host.reduceAdd x v reducesTo_S64x64x1_S64x64_d2 h_S_)) v155 cst_16
  let v157 : FVec Ideal S64x64 .f32 := (addf) v142 v156
  let v161 : FVec Ideal S64x64x16 .f32 := (mulf) dbr arg5
  let cst_17 : FVec Ideal S_ .f32 := constant (F := Ideal) S_ .f32 0x00000000#32
  let v162 : FVec Ideal S64x64 .f32 := ((fun x v => Host.reduceAdd x v reducesTo_S64x64x16_S64x64_d2 h_S_)) v161 cst_17
  let v163 : FVec Ideal S64x64x1 .f32 := shapeCast S64x64x1 v162 shapeCasts_S64x64_S64x64x1
  let cst_18 : FVec Ideal S_ .f32 := constant (F := Ideal) S_ .f32 0x00000000#32
  let v164 : FVec Ideal S64x64 .f32 := ((fun x v => Host.reduceAdd x v reducesTo_S64x64x1_S64x64_d2 h_S_)) v163 cst_18
  let v165 : FVec Ideal S64x64 .f32 := (addf) v148 v164
  let v166 : FVec Ideal S64x64 .f32 := (mulf) v157 v35
  let v167 : FVec Ideal S64x64 .f32 := (mulf) v166 v31
  let v168 : FVec Ideal S64x64 .f32 := (Host.negf) v167
  let v169 : FVec Ideal S64x64 .f32 := (Host.divf) v157 v17
  let v170 : FVec Ideal S64x64 .f32 := (Host.negf) v169
  let v172 : FVec Ideal S64x64 .f32 := (mulf) v170 arg3
  let v173 : FVec Ideal S64x64 .f32 := (addf) dar v172
  let v174 : FVec Ideal S64x64 .f32 := (mulf) v14 v169
  let v175 : FVec Ideal S64x64 .f32 := (mulf) v169 arg2
  let v176 : FVec Ideal S64x64 .f32 := (addf) dai v175
  let v177 : FVec Ideal S64x64 .f32 := (mulf) v165 v26
  let v178 : FVec Ideal S64x64 .f32 := (mulf) v177 v22
  let v179 : FVec Ideal S64x64 .f32 := (Host.negf) v178
  let v180 : FVec Ideal S64x64 .f32 := (addf) v168 v179
  let v181 : FVec Ideal S64x64 .f32 := (Host.divf) v165 v17
  let v184 : FVec Ideal S64x64 .f32 := (mulf) v181 arg3
  let v185 : FVec Ideal S64x64 .f32 := (addf) v176 v184
  let v186 : FVec Ideal S64x64 .f32 := (mulf) v19 v181
  let v187 : FVec Ideal S64x64 .f32 := (addf) v174 v186
  let v188 : FVec Ideal S64x64 .f32 := (mulf) v181 arg2
  let v189 : FVec Ideal S64x64 .f32 := (addf) v173 v188
  let v194 : FVec Ideal S64x64 .f32 := (mulf) arg2 v180
  let v195 : FVec Ideal S64x64 .f32 := (addf) v187 v194
  let v196 : FVec Ideal S64x64 .f32 := (mulf) v180 arg2
  let v197 : FVec Ideal S64x64 .f32 := (addf) v195 v196
  let v199 : FVec Ideal S64x64 .f32 := (mulf) v185 v12
  let v208 : FVec Ideal S64x64 .f32 := (mulf) v189 v7
  let v209 : FVec Ideal S64x64 .f32 := (addf) v199 v208
  let v219 : FVec Ideal S64x64 .f32 := (mulf) v209 v4
  let v224 : FVec Ideal S64x64 .f32 := (broadcastInDim S64x64 ![0, 1] bcast_S64x1_S64x64_0_1) v1
  let v225 : FVec Ideal S64x64 .f32 := (mulf) v219 v224
  let v226 : FVec Ideal S64x64 .f32 := (addf) v197 v225
  v226

set_option maxHeartbeats 2000000 in
theorem tail_gLamRe (V : Valuation τ sig (Elt Ideal)) : after tailOps V (Proc.devRef .tc main_v226)
    = gLamRe (V (Proc.devRef .tc main_arg2)) (V (Proc.devRef .tc main_arg3)) (V (Proc.devRef .tc main_arg5)) (V (Proc.devRef .tc main_arg6)) (V (Proc.devRef .tc main_v1)) (V (Proc.devRef .tc main_v12)) (V (Proc.devRef .tc main_v133)) (V (Proc.devRef .tc main_v134)) (V (Proc.devRef .tc main_v135)) (V (Proc.devRef .tc main_v136)) (V (Proc.devRef .tc main_v14)) (V (Proc.devRef .tc main_v17)) (V (Proc.devRef .tc main_v19)) (V (Proc.devRef .tc main_v22)) (V (Proc.devRef .tc main_v26)) (V (Proc.devRef .tc main_v31)) (V (Proc.devRef .tc main_v35)) (V (Proc.devRef .tc main_v4)) (V (Proc.devRef .tc main_v7)) := by
  simp only [tailOps, hostOps1, List.drop_succ_cons, List.drop_zero]
  after_results
  rfl

/-- The gradient that ends in result `gLamIm`. -/
def gLamIm (arg2 : FVec Ideal S64x64 .f32) (arg3 : FVec Ideal S64x64 .f32) (arg5 : FVec Ideal S64x64x16 .f32) (arg6 : FVec Ideal S64x64x16 .f32) (v1 : FVec Ideal S64x1 .f32) (v13 : FVec Ideal S64x64 .f32) (dai : FVec Ideal S64x64 .f32) (dar : FVec Ideal S64x64 .f32) (dbi : FVec Ideal S64x64x16 .f32) (dbr : FVec Ideal S64x64x16 .f32) (v14 : FVec Ideal S64x64 .f32) (v17 : FVec Ideal S64x64 .f32) (v22 : FVec Ideal S64x64 .f32) (v26 : FVec Ideal S64x64 .f32) (v29 : FVec Ideal S64x64 .f32) (v31 : FVec Ideal S64x64 .f32) (v35 : FVec Ideal S64x64 .f32) (v4 : FVec Ideal S64x64 .f32) (v8 : FVec Ideal S64x64 .f32) : FVec Ideal S64x64 .f32 :=
  let v139 : FVec Ideal S64x64x16 .f32 := (mulf) dbi arg5
  let cst_11 : FVec Ideal S_ .f32 := constant (F := Ideal) S_ .f32 0x00000000#32
  let v140 : FVec Ideal S64x64 .f32 := ((fun x v => Host.reduceAdd x v reducesTo_S64x64x16_S64x64_d2 h_S_)) v139 cst_11
  let v141 : FVec Ideal S64x64x1 .f32 := shapeCast S64x64x1 v140 shapeCasts_S64x64_S64x64x1
  let cst_12 : FVec Ideal S_ .f32 := constant (F := Ideal) S_ .f32 0x00000000#32
  let v142 : FVec Ideal S64x64 .f32 := ((fun x v => Host.reduceAdd x v reducesTo_S64x64x1_S64x64_d2 h_S_)) v141 cst_12
  let v145 : FVec Ideal S64x64x16 .f32 := (mulf) dbi arg6
  let cst_13 : FVec Ideal S_ .f32 := constant (F := Ideal) S_ .f32 0x00000000#32
  let v146 : FVec Ideal S64x64 .f32 := ((fun x v => Host.reduceAdd x v reducesTo_S64x64x16_S64x64_d2 h_S_)) v145 cst_13
  let v147 : FVec Ideal S64x64x1 .f32 := shapeCast S64x64x1 v146 shapeCasts_S64x64_S64x64x1
  let cst_14 : FVec Ideal S_ .f32 := constant (F := Ideal) S_ .f32 0x00000000#32
  let v148 : FVec Ideal S64x64 .f32 := ((fun x v => Host.reduceAdd x v reducesTo_S64x64x1_S64x64_d2 h_S_)) v147 cst_14
  let v149 : FVec Ideal S64x64x16 .f32 := (Host.negf) dbr
  let v153 : FVec Ideal S64x64x16 .f32 := (mulf) v149 arg6
  let cst_15 : FVec Ideal S_ .f32 := constant (F := Ideal) S_ .f32 0x00000000#32
  let v154 : FVec Ideal S64x64 .f32 := ((fun x v => Host.reduceAdd x v reducesTo_S64x64x16_S64x64_d2 h_S_)) v153 cst_15
  let v155 : FVec Ideal S64x64x1 .f32 := shapeCast S64x64x1 v154 shapeCasts_S64x64_S64x64x1
  let cst_16 : FVec Ideal S_ .f32 := constant (F := Ideal) S_ .f32 0x00000000#32
  let v156 : FVec Ideal S64x64 .f32 := ((fun x v => Host.reduceAdd x v reducesTo_S64x64x1_S64x64_d2 h_S_)) v155 cst_16
  let v157 : FVec Ideal S64x64 .f32 := (addf) v142 v156
  let v161 : FVec Ideal S64x64x16 .f32 := (mulf) dbr arg5
  let cst_17 : FVec Ideal S_ .f32 := constant (F := Ideal) S_ .f32 0x00000000#32
  let v162 : FVec Ideal S64x64 .f32 := ((fun x v => Host.reduceAdd x v reducesTo_S64x64x16_S64x64_d2 h_S_)) v161 cst_17
  let v163 : FVec Ideal S64x64x1 .f32 := shapeCast S64x64x1 v162 shapeCasts_S64x64_S64x64x1
  let cst_18 : FVec Ideal S_ .f32 := constant (F := Ideal) S_ .f32 0x00000000#32
  let v164 : FVec Ideal S64x64 .f32 := ((fun x v => Host.reduceAdd x v reducesTo_S64x64x1_S64x64_d2 h_S_)) v163 cst_18
  let v165 : FVec Ideal S64x64 .f32 := (addf) v148 v164
  let v166 : FVec Ideal S64x64 .f32 := (mulf) v157 v35
  let v167 : FVec Ideal S64x64 .f32 := (mulf) v166 v31
  let v168 : FVec Ideal S64x64 .f32 := (Host.negf) v167
  let v169 : FVec Ideal S64x64 .f32 := (Host.divf) v157 v17
  let v170 : FVec Ideal S64x64 .f32 := (Host.negf) v169
  let v171 : FVec Ideal S64x64 .f32 := (mulf) v29 v170
  let v172 : FVec Ideal S64x64 .f32 := (mulf) v170 arg3
  let v173 : FVec Ideal S64x64 .f32 := (addf) dar v172
  let v175 : FVec Ideal S64x64 .f32 := (mulf) v169 arg2
  let v176 : FVec Ideal S64x64 .f32 := (addf) dai v175
  let v177 : FVec Ideal S64x64 .f32 := (mulf) v165 v26
  let v178 : FVec Ideal S64x64 .f32 := (mulf) v177 v22
  let v179 : FVec Ideal S64x64 .f32 := (Host.negf) v178
  let v180 : FVec Ideal S64x64 .f32 := (addf) v168 v179
  let v181 : FVec Ideal S64x64 .f32 := (Host.divf) v165 v17
  let v182 : FVec Ideal S64x64 .f32 := (mulf) v14 v181
  let v183 : FVec Ideal S64x64 .f32 := (addf) v171 v182
  let v184 : FVec Ideal S64x64 .f32 := (mulf) v181 arg3
  let v185 : FVec Ideal S64x64 .f32 := (addf) v176 v184
  let v188 : FVec Ideal S64x64 .f32 := (mulf) v181 arg2
  let v189 : FVec Ideal S64x64 .f32 := (addf) v173 v188
  let v190 : FVec Ideal S64x64 .f32 := (mulf) arg3 v180
  let v191 : FVec Ideal S64x64 .f32 := (addf) v183 v190
  let v192 : FVec Ideal S64x64 .f32 := (mulf) v180 arg3
  let v193 : FVec Ideal S64x64 .f32 := (addf) v191 v192
  let v198 : FVec Ideal S64x64 .f32 := (mulf) v4 v185
  let v200 : FVec Ideal S64x64 .f32 := (mulf) v198 v13
  let v204 : FVec Ideal S64x64 .f32 := (broadcastInDim S64x64 ![0, 1] bcast_S64x1_S64x64_0_1) v1
  let v205 : FVec Ideal S64x64 .f32 := (mulf) v200 v204
  let v206 : FVec Ideal S64x64 .f32 := (addf) v193 v205
  let v207 : FVec Ideal S64x64 .f32 := (mulf) v4 v189
  let v210 : FVec Ideal S64x64 .f32 := (Host.negf) v207
  let v211 : FVec Ideal S64x64 .f32 := (mulf) v210 v8
  let v216 : FVec Ideal S64x64 .f32 := (broadcastInDim S64x64 ![0, 1] bcast_S64x1_S64x64_0_1) v1
  let v217 : FVec Ideal S64x64 .f32 := (mulf) v211 v216
  let v218 : FVec Ideal S64x64 .f32 := (addf) v206 v217
  v218

set_option maxHeartbeats 2000000 in
theorem tail_gLamIm (V : Valuation τ sig (Elt Ideal)) : after tailOps V (Proc.devRef .tc main_v218)
    = gLamIm (V (Proc.devRef .tc main_arg2)) (V (Proc.devRef .tc main_arg3)) (V (Proc.devRef .tc main_arg5)) (V (Proc.devRef .tc main_arg6)) (V (Proc.devRef .tc main_v1)) (V (Proc.devRef .tc main_v13)) (V (Proc.devRef .tc main_v133)) (V (Proc.devRef .tc main_v134)) (V (Proc.devRef .tc main_v135)) (V (Proc.devRef .tc main_v136)) (V (Proc.devRef .tc main_v14)) (V (Proc.devRef .tc main_v17)) (V (Proc.devRef .tc main_v22)) (V (Proc.devRef .tc main_v26)) (V (Proc.devRef .tc main_v29)) (V (Proc.devRef .tc main_v31)) (V (Proc.devRef .tc main_v35)) (V (Proc.devRef .tc main_v4)) (V (Proc.devRef .tc main_v8)) := by
  simp only [tailOps, hostOps1, List.drop_succ_cons, List.drop_zero]
  after_results
  rfl

/-- The gradient that ends in result `gStep`. -/
def gStep (arg2 : FVec Ideal S64x64 .f32) (arg3 : FVec Ideal S64x64 .f32) (arg5 : FVec Ideal S64x64x16 .f32) (arg6 : FVec Ideal S64x64x16 .f32) (v0 : FVec Ideal S64 .f32) (v12 : FVec Ideal S64x64 .f32) (v13 : FVec Ideal S64x64 .f32) (dai : FVec Ideal S64x64 .f32) (dar : FVec Ideal S64x64 .f32) (dbi : FVec Ideal S64x64x16 .f32) (dbr : FVec Ideal S64x64x16 .f32) (v17 : FVec Ideal S64x64 .f32) (v4 : FVec Ideal S64x64 .f32) (v7 : FVec Ideal S64x64 .f32) (v8 : FVec Ideal S64x64 .f32) : FVec Ideal S64 .f32 :=
  let v139 : FVec Ideal S64x64x16 .f32 := (mulf) dbi arg5
  let cst_11 : FVec Ideal S_ .f32 := constant (F := Ideal) S_ .f32 0x00000000#32
  let v140 : FVec Ideal S64x64 .f32 := ((fun x v => Host.reduceAdd x v reducesTo_S64x64x16_S64x64_d2 h_S_)) v139 cst_11
  let v141 : FVec Ideal S64x64x1 .f32 := shapeCast S64x64x1 v140 shapeCasts_S64x64_S64x64x1
  let cst_12 : FVec Ideal S_ .f32 := constant (F := Ideal) S_ .f32 0x00000000#32
  let v142 : FVec Ideal S64x64 .f32 := ((fun x v => Host.reduceAdd x v reducesTo_S64x64x1_S64x64_d2 h_S_)) v141 cst_12
  let v145 : FVec Ideal S64x64x16 .f32 := (mulf) dbi arg6
  let cst_13 : FVec Ideal S_ .f32 := constant (F := Ideal) S_ .f32 0x00000000#32
  let v146 : FVec Ideal S64x64 .f32 := ((fun x v => Host.reduceAdd x v reducesTo_S64x64x16_S64x64_d2 h_S_)) v145 cst_13
  let v147 : FVec Ideal S64x64x1 .f32 := shapeCast S64x64x1 v146 shapeCasts_S64x64_S64x64x1
  let cst_14 : FVec Ideal S_ .f32 := constant (F := Ideal) S_ .f32 0x00000000#32
  let v148 : FVec Ideal S64x64 .f32 := ((fun x v => Host.reduceAdd x v reducesTo_S64x64x1_S64x64_d2 h_S_)) v147 cst_14
  let v149 : FVec Ideal S64x64x16 .f32 := (Host.negf) dbr
  let v153 : FVec Ideal S64x64x16 .f32 := (mulf) v149 arg6
  let cst_15 : FVec Ideal S_ .f32 := constant (F := Ideal) S_ .f32 0x00000000#32
  let v154 : FVec Ideal S64x64 .f32 := ((fun x v => Host.reduceAdd x v reducesTo_S64x64x16_S64x64_d2 h_S_)) v153 cst_15
  let v155 : FVec Ideal S64x64x1 .f32 := shapeCast S64x64x1 v154 shapeCasts_S64x64_S64x64x1
  let cst_16 : FVec Ideal S_ .f32 := constant (F := Ideal) S_ .f32 0x00000000#32
  let v156 : FVec Ideal S64x64 .f32 := ((fun x v => Host.reduceAdd x v reducesTo_S64x64x1_S64x64_d2 h_S_)) v155 cst_16
  let v157 : FVec Ideal S64x64 .f32 := (addf) v142 v156
  let v161 : FVec Ideal S64x64x16 .f32 := (mulf) dbr arg5
  let cst_17 : FVec Ideal S_ .f32 := constant (F := Ideal) S_ .f32 0x00000000#32
  let v162 : FVec Ideal S64x64 .f32 := ((fun x v => Host.reduceAdd x v reducesTo_S64x64x16_S64x64_d2 h_S_)) v161 cst_17
  let v163 : FVec Ideal S64x64x1 .f32 := shapeCast S64x64x1 v162 shapeCasts_S64x64_S64x64x1
  let cst_18 : FVec Ideal S_ .f32 := constant (F := Ideal) S_ .f32 0x00000000#32
  let v164 : FVec Ideal S64x64 .f32 := ((fun x v => Host.reduceAdd x v reducesTo_S64x64x1_S64x64_d2 h_S_)) v163 cst_18
  let v165 : FVec Ideal S64x64 .f32 := (addf) v148 v164
  let v169 : FVec Ideal S64x64 .f32 := (Host.divf) v157 v17
  let v170 : FVec Ideal S64x64 .f32 := (Host.negf) v169
  let v172 : FVec Ideal S64x64 .f32 := (mulf) v170 arg3
  let v173 : FVec Ideal S64x64 .f32 := (addf) dar v172
  let v175 : FVec Ideal S64x64 .f32 := (mulf) v169 arg2
  let v176 : FVec Ideal S64x64 .f32 := (addf) dai v175
  let v181 : FVec Ideal S64x64 .f32 := (Host.divf) v165 v17
  let v184 : FVec Ideal S64x64 .f32 := (mulf) v181 arg3
  let v185 : FVec Ideal S64x64 .f32 := (addf) v176 v184
  let v188 : FVec Ideal S64x64 .f32 := (mulf) v181 arg2
  let v189 : FVec Ideal S64x64 .f32 := (addf) v173 v188
  let v198 : FVec Ideal S64x64 .f32 := (mulf) v4 v185
  let v199 : FVec Ideal S64x64 .f32 := (mulf) v185 v12
  let v200 : FVec Ideal S64x64 .f32 := (mulf) v198 v13
  let v201 : FVec Ideal S64x64 .f32 := (mulf) arg3 v200
  let cst_19 : FVec Ideal S_ .f32 := constant (F := Ideal) S_ .f32 0x00000000#32
  let v202 : FVec Ideal S64 .f32 := ((fun x v => Host.reduceAdd x v reducesTo_S64x64_S64_d1 h_S_)) v201 cst_19
  let v203 : FVec Ideal S64x1 .f32 := shapeCast S64x1 v202 shapeCasts_S64_S64x1
  let v207 : FVec Ideal S64x64 .f32 := (mulf) v4 v189
  let v208 : FVec Ideal S64x64 .f32 := (mulf) v189 v7
  let v209 : FVec Ideal S64x64 .f32 := (addf) v199 v208
  let v210 : FVec Ideal S64x64 .f32 := (Host.negf) v207
  let v211 : FVec Ideal S64x64 .f32 := (mulf) v210 v8
  let v212 : FVec Ideal S64x64 .f32 := (mulf) arg3 v211
  let cst_20 : FVec Ideal S_ .f32 := constant (F := Ideal) S_ .f32 0x00000000#32
  let v213 : FVec Ideal S64 .f32 := ((fun x v => Host.reduceAdd x v reducesTo_S64x64_S64_d1 h_S_)) v212 cst_20
  let v214 : FVec Ideal S64x1 .f32 := shapeCast S64x1 v213 shapeCasts_S64_S64x1
  let v215 : FVec Ideal S64x1 .f32 := (addf) v203 v214
  let v219 : FVec Ideal S64x64 .f32 := (mulf) v209 v4
  let v220 : FVec Ideal S64x64 .f32 := (mulf) arg2 v219
  let cst_21 : FVec Ideal S_ .f32 := constant (F := Ideal) S_ .f32 0x00000000#32
  let v221 : FVec Ideal S64 .f32 := ((fun x v => Host.reduceAdd x v reducesTo_S64x64_S64_d1 h_S_)) v220 cst_21
  let v222 : FVec Ideal S64x1 .f32 := shapeCast S64x1 v221 shapeCasts_S64_S64x1
  let v223 : FVec Ideal S64x1 .f32 := (addf) v215 v222
  let cst_22 : FVec Ideal S_ .f32 := constant (F := Ideal) S_ .f32 0x00000000#32
  let v227 : FVec Ideal S64 .f32 := ((fun x v => Host.reduceAdd x v reducesTo_S64x1_S64_d1 h_S_)) v223 cst_22
  let v228 : FVec Ideal S64 .f32 := (mulf) v227 v0
  v228

set_option maxHeartbeats 2000000 in
theorem tail_gStep (V : Valuation τ sig (Elt Ideal)) : after tailOps V (Proc.devRef .tc main_v228)
    = gStep (V (Proc.devRef .tc main_arg2)) (V (Proc.devRef .tc main_arg3)) (V (Proc.devRef .tc main_arg5)) (V (Proc.devRef .tc main_arg6)) (V (Proc.devRef .tc main_v0)) (V (Proc.devRef .tc main_v12)) (V (Proc.devRef .tc main_v13)) (V (Proc.devRef .tc main_v133)) (V (Proc.devRef .tc main_v134)) (V (Proc.devRef .tc main_v135)) (V (Proc.devRef .tc main_v136)) (V (Proc.devRef .tc main_v17)) (V (Proc.devRef .tc main_v4)) (V (Proc.devRef .tc main_v7)) (V (Proc.devRef .tc main_v8)) := by
  simp only [tailOps, hostOps1, List.drop_succ_cons, List.drop_zero]
  after_results
  rfl

/-- The gradient that ends in result `gBRe`. -/
def gBRe (dbi : FVec Ideal S64x64x16 .f32) (dbr : FVec Ideal S64x64x16 .f32) (v36 : FVec Ideal S64x64x1 .f32) (v46 : FVec Ideal S64x64x1 .f32) : FVec Ideal S64x64x16 .f32 :=
  let v137 : FVec Ideal S64x64x16 .f32 := (broadcastInDim S64x64x16 ![0, 1, 2] bcast_S64x64x1_S64x64x16_0_1_2) v46
  let v138 : FVec Ideal S64x64x16 .f32 := (mulf) v137 dbi
  let v158 : FVec Ideal S64x64x16 .f32 := (broadcastInDim S64x64x16 ![0, 1, 2] bcast_S64x64x1_S64x64x16_0_1_2) v36
  let v159 : FVec Ideal S64x64x16 .f32 := (mulf) v158 dbr
  let v160 : FVec Ideal S64x64x16 .f32 := (addf) v138 v159
  v160

set_option maxHeartbeats 2000000 in
theorem tail_gBRe (V : Valuation τ sig (Elt Ideal)) : after tailOps V (Proc.devRef .tc main_v160)
    = gBRe (V (Proc.devRef .tc main_v135)) (V (Proc.devRef .tc main_v136)) (V (Proc.devRef .tc main_v36)) (V (Proc.devRef .tc main_v46)) := by
  simp only [tailOps, hostOps1, List.drop_succ_cons, List.drop_zero]
  after_results
  rfl

/-- The gradient that ends in result `gBIm`. -/
def gBIm (dbi : FVec Ideal S64x64x16 .f32) (dbr : FVec Ideal S64x64x16 .f32) (v39 : FVec Ideal S64x64x1 .f32) (v43 : FVec Ideal S64x64x1 .f32) : FVec Ideal S64x64x16 .f32 :=
  let v143 : FVec Ideal S64x64x16 .f32 := (broadcastInDim S64x64x16 ![0, 1, 2] bcast_S64x64x1_S64x64x16_0_1_2) v43
  let v144 : FVec Ideal S64x64x16 .f32 := (mulf) v143 dbi
  let v149 : FVec Ideal S64x64x16 .f32 := (Host.negf) dbr
  let v150 : FVec Ideal S64x64x16 .f32 := (broadcastInDim S64x64x16 ![0, 1, 2] bcast_S64x64x1_S64x64x16_0_1_2) v39
  let v151 : FVec Ideal S64x64x16 .f32 := (mulf) v150 v149
  let v152 : FVec Ideal S64x64x16 .f32 := (addf) v144 v151
  v152

set_option maxHeartbeats 2000000 in
theorem tail_gBIm (V : Valuation τ sig (Elt Ideal)) : after tailOps V (Proc.devRef .tc main_v152)
    = gBIm (V (Proc.devRef .tc main_v135)) (V (Proc.devRef .tc main_v136)) (V (Proc.devRef .tc main_v39)) (V (Proc.devRef .tc main_v43)) := by
  simp only [tailOps, hostOps1, List.drop_succ_cons, List.drop_zero]
  after_results
  rfl

end Cert.KernelIdeal.Value
-- ==== Proof.Ends.OutK.lean ====
/-
  What the host code after the call makes of the call's results: the order of times undone, the diagonal blocks read out,
  and the values that the last part starts from.
-/
module

public import proofs.«01_k».proof.Proof.Ends.TailK
public import proofs.«01_k».proof.Proof.Ends.InK

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.ShloMosaic.StableHlo

/-- The order of times, undone. -/
def inOrder (x : FVec Ideal S2048x1024 .f32) : FVec Ideal S2048x1024 .f32 :=
  shapeCast S2048x1024 (transpose S8x256x1024 [1, 0, 2] (shapeCast S256x8x1024 x shapeCasts_S2048x1024_S256x8x1024)
    transposes_S256x8x1024_S8x256x1024_1_0_2) shapeCasts_S8x256x1024_S2048x1024

theorem inOrder_apply (x : FVec Ideal S2048x1024 .f32) (t : Fin 2048) (n : Fin 1024) :
    inOrder x (ix2 t n) = x (ix2 ⟨Scan.rowOf t.val, Scan.rowOf_lt t.val t.isLt⟩ n) := by
  unfold inOrder Scan.rowOf
  pointwise
  simp only [Nat.mul_comm]

/-- The diagonal blocks of a map. -/
def blocks (y : FVec Ideal S8x128x512 .f32) (e : FVec Ideal S1x8x1x8x1 .f32) : FVec Ideal S64x16x64 .f32 :=
  shapeCast S64x16x64 (Host.reduceAdd (shapeCast S8x8x16x1x64 (Host.reduceAdd (mulf (shapeCast S8x8x16x8x64 y shapeCasts_S8x128x512_S8x8x16x8x64)
      (broadcastInDim S8x8x16x8x64 ![0, 1, 2, 3, 4] bcast_S1x8x1x8x1_S8x8x16x8x64_0_1_2_3_4 e))
    (constant (F := Ideal) S_ .f32 0x00000000#32) reducesTo_S8x8x16x8x64_S8x8x16x64_d3 h_S_) shapeCasts_S8x8x16x64_S8x8x16x1x64)
    (constant (F := Ideal) S_ .f32 0x00000000#32) reducesTo_S8x8x16x1x64_S8x8x16x64_d3 h_S_) shapeCasts_S8x8x16x64_S64x16x64

theorem blocks_apply (y : FVec Ideal S8x128x512 .f32) (f : ℕ → ℕ → ℕ → ℝ) (hy : ∀ (b : Fin 8) (n : Fin 128) (q : Fin 512), y (ix3 b n q) = (f b n q : EReal))
    (g : Fin 64) (n : Fin 16) (p : Fin 64) :
    blocks y eyeB (ix3 g n p) = (f (g.val / 8) (16 * (g.val % 8) + n.val) (64 * (g.val % 8) + p.val) : EReal) := by
  have h : blocks y eyeB (ix3 g n p) = ∑ k : Fin 8, (y (ix3 ⟨g.val / 8, by omega⟩ ⟨16 * (g.val % 8) + n.val, by omega⟩ ⟨64 * k.val + p.val, by omega⟩) : EReal)
      * eye (ix2 ⟨g.val % 8, by omega⟩ k) := by
    unfold blocks eyeB
    pointwise
    simp only [Finset.univ_unique, Finset.sum_const, Finset.card_singleton, one_smul, Nat.mul_comm]
  rw [h, Finset.sum_eq_single (⟨g.val % 8, by omega⟩ : Fin 8)]
  · rw [eye_apply, if_pos rfl, mul_one, hy]
  · intro k _ hk
    rw [eye_apply, if_neg (fun e => hk e.symm), mul_zero]
  · intro h; exact absurd (Finset.mem_univ _) h

/-- Columns before channels. -/
def turned (x : FVec Ideal S8x512x128 .f32) : FVec Ideal S8x128x512 .f32 :=
  transpose S8x128x512 [0, 2, 1] x transposes_S8x512x128_S8x128x512_0_2_1

theorem turned_apply (x : FVec Ideal S8x512x128 .f32) (b : Fin 8) (n : Fin 128) (q : Fin 512) : turned x (ix3 b n q) = x (ix3 b q n) := by
  unfold turned
  pointwise

/-- A map by group, state and channel. -/
def statesFirst (x : FVec Ideal S64x16x64 .f32) : FVec Ideal S64x64x16 .f32 :=
  transpose S64x64x16 [0, 2, 1] x transposes_S64x16x64_S64x64x16_0_2_1

theorem statesFirst_apply (x : FVec Ideal S64x16x64 .f32) (g p : Fin 64) (n : Fin 16) : statesFirst x (ix3 g p n) = x (ix3 g n p) := by
  unfold statesFirst
  pointwise

/-- Eight groups to a row, undone. -/
def asMat (x : FVec Ideal S8x1x512 .f32) : FVec Ideal S64x64 .f32 := shapeCast S64x64 x shapeCasts_S8x1x512_S64x64

theorem asMat_apply (x : FVec Ideal S8x1x512 .f32) (g p : Fin 64) :
    asMat x (ix2 g p) = x (ix3 ⟨g.val / 8, by omega⟩ (0 : Fin 1) ⟨64 * (g.val % 8) + p.val, by omega⟩) := by
  unfold asMat
  pointwise
  simp only [Nat.mul_comm]

/-- One row, as a vector. -/
def asVec (x : FVec Ideal S1x1024 .f32) : FVec Ideal S1024 .f32 := shapeCast S1024 x shapeCasts_S1x1024_S1024

theorem asVec_apply (x : FVec Ideal S1x1024 .f32) (n : Fin 1024) : asVec x (ix1 n) = x (ix2 (0 : Fin 1) n) := by
  unfold asVec
  pointwise

variable (V : Valuation τ sig (Elt Ideal))

/-- The operations before the gradient of the discretisation. -/
abbrev headOps : List (HloOp τ sig (Elt Ideal)) := List.take 45 hostOps1

theorem after_split (b : DevRef τ sig) : after (hostOps1 (F := Ideal)) V b = after tailOps (after headOps V) b := by
  rw [show (hostOps1 (F := Ideal)) = headOps ++ tailOps from (List.take_append_drop 45 hostOps1).symm, after_append]

set_option maxHeartbeats 2000000 in
theorem v102_eq : after hostOps1 V (Proc.devRef .tc main_v102) = inOrder (V (Proc.devRef .tc main_v99_0)) := by
  after_results
  rfl

set_option maxHeartbeats 2000000 in
theorem v111_eq : after hostOps1 V (Proc.devRef .tc main_v111) = blocks (turned (V (Proc.devRef .tc main_v99_4))) (V (Proc.devRef .tc main_v83)) := by
  after_results
  rfl

set_option maxHeartbeats 2000000 in
theorem v118_eq : after hostOps1 V (Proc.devRef .tc main_v118) = blocks (turned (V (Proc.devRef .tc main_v99_3))) (V (Proc.devRef .tc main_v76)) := by
  after_results
  rfl

set_option maxHeartbeats 2000000 in
theorem v229_eq : after hostOps1 V (Proc.devRef .tc main_v229) = asVec (V (Proc.devRef .tc main_v99_7)) := by
  after_results
  rfl

set_option maxHeartbeats 2000000 in
theorem v135_eq : after headOps V (Proc.devRef .tc main_v135) = statesFirst (blocks (V (Proc.devRef .tc main_v99_2)) (V (Proc.devRef .tc main_v69))) := by
  simp only [headOps, hostOps1, List.take_succ_cons, List.take_zero]
  after_results
  rfl

set_option maxHeartbeats 2000000 in
theorem v136_eq : after headOps V (Proc.devRef .tc main_v136) = statesFirst (blocks (V (Proc.devRef .tc main_v99_1)) (V (Proc.devRef .tc main_v62))) := by
  simp only [headOps, hostOps1, List.take_succ_cons, List.take_zero]
  after_results
  rfl

set_option maxHeartbeats 2000000 in
theorem v133_eq : after headOps V (Proc.devRef .tc main_v133) = asMat (V (Proc.devRef .tc main_v99_6)) := by
  simp only [headOps, hostOps1, List.take_succ_cons, List.take_zero]
  after_results
  rfl

set_option maxHeartbeats 2000000 in
theorem v134_eq : after headOps V (Proc.devRef .tc main_v134) = asMat (V (Proc.devRef .tc main_v99_5)) := by
  simp only [headOps, hostOps1, List.take_succ_cons, List.take_zero]
  after_results
  rfl

theorem head_arg2 : after headOps V (Proc.devRef .tc main_arg2) = V (Proc.devRef .tc main_arg2) := by
  simp only [headOps, hostOps1, List.take_succ_cons, List.take_zero]
  after_results

theorem head_arg3 : after headOps V (Proc.devRef .tc main_arg3) = V (Proc.devRef .tc main_arg3) := by
  simp only [headOps, hostOps1, List.take_succ_cons, List.take_zero]
  after_results

theorem head_arg5 : after headOps V (Proc.devRef .tc main_arg5) = V (Proc.devRef .tc main_arg5) := by
  simp only [headOps, hostOps1, List.take_succ_cons, List.take_zero]
  after_results

theorem head_arg6 : after headOps V (Proc.devRef .tc main_arg6) = V (Proc.devRef .tc main_arg6) := by
  simp only [headOps, hostOps1, List.take_succ_cons, List.take_zero]
  after_results

theorem head_v0 : after headOps V (Proc.devRef .tc main_v0) = V (Proc.devRef .tc main_v0) := by
  simp only [headOps, hostOps1, List.take_succ_cons, List.take_zero]
  after_results

theorem head_v1 : after headOps V (Proc.devRef .tc main_v1) = V (Proc.devRef .tc main_v1) := by
  simp only [headOps, hostOps1, List.take_succ_cons, List.take_zero]
  after_results

theorem head_v4 : after headOps V (Proc.devRef .tc main_v4) = V (Proc.devRef .tc main_v4) := by
  simp only [headOps, hostOps1, List.take_succ_cons, List.take_zero]
  after_results

theorem head_v7 : after headOps V (Proc.devRef .tc main_v7) = V (Proc.devRef .tc main_v7) := by
  simp only [headOps, hostOps1, List.take_succ_cons, List.take_zero]
  after_results

theorem head_v8 : after headOps V (Proc.devRef .tc main_v8) = V (Proc.devRef .tc main_v8) := by
  simp only [headOps, hostOps1, List.take_succ_cons, List.take_zero]
  after_results

theorem head_v12 : after headOps V (Proc.devRef .tc main_v12) = V (Proc.devRef .tc main_v12) := by
  simp only [headOps, hostOps1, List.take_succ_cons, List.take_zero]
  after_results

theorem head_v13 : after headOps V (Proc.devRef .tc main_v13) = V (Proc.devRef .tc main_v13) := by
  simp only [headOps, hostOps1, List.take_succ_cons, List.take_zero]
  after_results

theorem head_v14 : after headOps V (Proc.devRef .tc main_v14) = V (Proc.devRef .tc main_v14) := by
  simp only [headOps, hostOps1, List.take_succ_cons, List.take_zero]
  after_results

theorem head_v17 : after headOps V (Proc.devRef .tc main_v17) = V (Proc.devRef .tc main_v17) := by
  simp only [headOps, hostOps1, List.take_succ_cons, List.take_zero]
  after_results

theorem head_v19 : after headOps V (Proc.devRef .tc main_v19) = V (Proc.devRef .tc main_v19) := by
  simp only [headOps, hostOps1, List.take_succ_cons, List.take_zero]
  after_results

theorem head_v22 : after headOps V (Proc.devRef .tc main_v22) = V (Proc.devRef .tc main_v22) := by
  simp only [headOps, hostOps1, List.take_succ_cons, List.take_zero]
  after_results

theorem head_v26 : after headOps V (Proc.devRef .tc main_v26) = V (Proc.devRef .tc main_v26) := by
  simp only [headOps, hostOps1, List.take_succ_cons, List.take_zero]
  after_results

theorem head_v29 : after headOps V (Proc.devRef .tc main_v29) = V (Proc.devRef .tc main_v29) := by
  simp only [headOps, hostOps1, List.take_succ_cons, List.take_zero]
  after_results

theorem head_v31 : after headOps V (Proc.devRef .tc main_v31) = V (Proc.devRef .tc main_v31) := by
  simp only [headOps, hostOps1, List.take_succ_cons, List.take_zero]
  after_results

theorem head_v35 : after headOps V (Proc.devRef .tc main_v35) = V (Proc.devRef .tc main_v35) := by
  simp only [headOps, hostOps1, List.take_succ_cons, List.take_zero]
  after_results

theorem head_v36 : after headOps V (Proc.devRef .tc main_v36) = V (Proc.devRef .tc main_v36) := by
  simp only [headOps, hostOps1, List.take_succ_cons, List.take_zero]
  after_results

theorem head_v39 : after headOps V (Proc.devRef .tc main_v39) = V (Proc.devRef .tc main_v39) := by
  simp only [headOps, hostOps1, List.take_succ_cons, List.take_zero]
  after_results

theorem head_v43 : after headOps V (Proc.devRef .tc main_v43) = V (Proc.devRef .tc main_v43) := by
  simp only [headOps, hostOps1, List.take_succ_cons, List.take_zero]
  after_results

theorem head_v46 : after headOps V (Proc.devRef .tc main_v46) = V (Proc.devRef .tc main_v46) := by
  simp only [headOps, hostOps1, List.take_succ_cons, List.take_zero]
  after_results

end Cert.KernelIdeal.Value
-- ==== Proof.Ends.KerEnd.lean ====
/-
  What the kernel's program ends with, in terms of the numbers its arguments hold: the arrays the call leaves, put in the
  order of times and cut into the groups' own maps.
-/
module

public import proofs.«01_k».proof.Proof.Scan.Grid
public import proofs.«01_k».proof.Proof.Ends.OutK
public import proofs.«01_k».proof.Proof.Ends.PreK

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.ShloMosaic.StableHlo Cert.Scan

variable (m : (ℓ : Loc nD τ sig) → Buf (Elt Ideal) ℓ) (c : Dev nD) (G : Glob)

/-- The gradients, as arrays. -/
def ansDu : FVec Ideal S2048x1024 .f32 := fun j => ((G.du (j 0).val ((j 1).val / 16) ((j 1).val % 16) : ℝ) : EReal)
def ansDbr : FVec Ideal S64x64x16 .f32 := fun j => ((G.dbr (j 0).val (j 1).val (j 2).val : ℝ) : EReal)
def ansDbi : FVec Ideal S64x64x16 .f32 := fun j => ((G.dbi (j 0).val (j 1).val (j 2).val : ℝ) : EReal)
def ansDcr : FVec Ideal S64x16x64 .f32 := fun j => ((G.dcr (j 0).val (j 1).val (j 2).val : ℝ) : EReal)
def ansDci : FVec Ideal S64x16x64 .f32 := fun j => ((G.dci (j 0).val (j 1).val (j 2).val : ℝ) : EReal)
def ansDar : FVec Ideal S64x64 .f32 := fun j => (((G.da (j 0).val (j 1).val).re : ℝ) : EReal)
def ansDai : FVec Ideal S64x64 .f32 := fun j => (((G.da (j 0).val (j 1).val).im : ℝ) : EReal)
def ansDd : FVec Ideal S1024 .f32 := fun j => ((G.dd (j 0).val : ℝ) : EReal)

/-- The buffers after the call. -/
abbrev kW : Valuation τ sig (Elt Ideal) := Pipeline.withArrays (cfgs 0).spec c (V0 m c) fun w => (dats m 0 c).arrAt w (cfgs 0).N

theorem kW_pre (r : Ref sig .tc) (hr : ∀ w, Pipeline.arrRef spec0 w ≠ r) : kW m c (Proc.devRef .tc r) = after hostOps0 (fun b => m (c, b)) (Proc.devRef .tc r) :=
  Pipeline.withArrays_of_ne _ c (V0 m c) _ r (by exact hr)

theorem kW_arg2 : kW m c (Proc.devRef .tc main_arg2) = m (c, Proc.devRef .tc main_arg2) := (kW_pre m c main_arg2 (by decide)).trans (V_main_arg2 m c)
theorem kW_arg3 : kW m c (Proc.devRef .tc main_arg3) = m (c, Proc.devRef .tc main_arg3) := (kW_pre m c main_arg3 (by decide)).trans (V_main_arg3 m c)
theorem kW_arg5 : kW m c (Proc.devRef .tc main_arg5) = m (c, Proc.devRef .tc main_arg5) := (kW_pre m c main_arg5 (by decide)).trans (V_main_arg5 m c)
theorem kW_arg6 : kW m c (Proc.devRef .tc main_arg6) = m (c, Proc.devRef .tc main_arg6) := (kW_pre m c main_arg6 (by decide)).trans (V_main_arg6 m c)

theorem kW_9 (h : KHolds m c G) : kW m c (Proc.devRef .tc main_v99_0) = arr_9 G :=
  (Pipeline.withArrays_arr (cfgs 0).spec winFacts0.arr_inj c (V0 m c) (fun w => (dats m 0 c).arrAt w (cfgs 0).N) 9).trans (final_9 m c G h)

theorem kW_10 (h : KHolds m c G) : kW m c (Proc.devRef .tc main_v99_1) = arr_10 G :=
  (Pipeline.withArrays_arr (cfgs 0).spec winFacts0.arr_inj c (V0 m c) (fun w => (dats m 0 c).arrAt w (cfgs 0).N) 10).trans (final_10 m c G h)

theorem kW_11 (h : KHolds m c G) : kW m c (Proc.devRef .tc main_v99_2) = arr_11 G :=
  (Pipeline.withArrays_arr (cfgs 0).spec winFacts0.arr_inj c (V0 m c) (fun w => (dats m 0 c).arrAt w (cfgs 0).N) 11).trans (final_11 m c G h)

theorem kW_12 (h : KHolds m c G) : kW m c (Proc.devRef .tc main_v99_3) = arr_12 G :=
  (Pipeline.withArrays_arr (cfgs 0).spec winFacts0.arr_inj c (V0 m c) (fun w => (dats m 0 c).arrAt w (cfgs 0).N) 12).trans (final_12 m c G h)

theorem kW_13 (h : KHolds m c G) : kW m c (Proc.devRef .tc main_v99_4) = arr_13 G :=
  (Pipeline.withArrays_arr (cfgs 0).spec winFacts0.arr_inj c (V0 m c) (fun w => (dats m 0 c).arrAt w (cfgs 0).N) 13).trans (final_13 m c G h)

theorem kW_14 (h : KHolds m c G) : kW m c (Proc.devRef .tc main_v99_5) = arr_14 G :=
  (Pipeline.withArrays_arr (cfgs 0).spec winFacts0.arr_inj c (V0 m c) (fun w => (dats m 0 c).arrAt w (cfgs 0).N) 14).trans (final_14 m c G h)

theorem kW_15 (h : KHolds m c G) : kW m c (Proc.devRef .tc main_v99_6) = arr_15 G :=
  (Pipeline.withArrays_arr (cfgs 0).spec winFacts0.arr_inj c (V0 m c) (fun w => (dats m 0 c).arrAt w (cfgs 0).N) 15).trans (final_15 m c G h)

theorem kW_16 (h : KHolds m c G) : kW m c (Proc.devRef .tc main_v99_7) = arr_16 G :=
  (Pipeline.withArrays_arr (cfgs 0).spec winFacts0.arr_inj c (V0 m c) (fun w => (dats m 0 c).arrAt w (cfgs 0).N) 16).trans (final_16 m c G h)

theorem kW_v62 : kW m c (Proc.devRef .tc main_v62) = eyeB := (kW_pre m c main_v62 (by decide)).trans (v62_eq _)

theorem kW_v69 : kW m c (Proc.devRef .tc main_v69) = eyeB := (kW_pre m c main_v69 (by decide)).trans (v69_eq _)

theorem kW_v76 : kW m c (Proc.devRef .tc main_v76) = eyeB := (kW_pre m c main_v76 (by decide)).trans (v76_eq _)

theorem kW_v83 : kW m c (Proc.devRef .tc main_v83) = eyeB := (kW_pre m c main_v83 (by decide)).trans (v83_eq _)

theorem group_eq (g : ℕ) : 8 * (g / 8) + g % 8 = g := Nat.div_add_mod g 8

/-- Two arrays with the same entries are the same. -/
theorem ext_ix1 {a : ℕ} {x y : (⟨1, ![a]⟩ : Shape).Idx → EReal} (h : ∀ i, x (ix1 i) = y (ix1 i)) : x = y := by
  funext j; rw [eq_ix1 j]; exact h _
theorem ext_ix2 {a b : ℕ} {x y : (⟨2, ![a, b]⟩ : Shape).Idx → EReal} (h : ∀ i k, x (ix2 i k) = y (ix2 i k)) : x = y := by
  funext j; rw [eq_ix2 j]; exact h _ _
theorem ext_ix3 {a b d : ℕ} {x y : (⟨3, ![a, b, d]⟩ : Shape).Idx → EReal} (h : ∀ i k l, x (ix3 i k l) = y (ix3 i k l)) : x = y := by
  funext j; rw [eq_ix3 j]; exact h _ _ _

/-- The arrays of the call, put in order, are the gradients. -/
theorem inOrder_arr : inOrder (arr_9 G) = ansDu G := by
  refine ext_ix2 fun t n => ?_
  refine (inOrder_apply _ t n).trans (congrArg (fun x : ℝ => (x : EReal)) ?_)
  show (G.blk (n.val / 128)).du (rowOf t.val) (n.val % 128) = G.du t.val (n.val / 16) (n.val % 16)
  rw [G.blk_du _ _ _ (rowOf_lt t.val t.isLt) (by omega), timeOf_rowOf t.val t.isLt]
  congr 1 <;> omega

theorem blocks_dbr : statesFirst (blocks (arr_10 G) eyeB) = ansDbr G := by
  refine ext_ix3 fun g p n => ?_
  refine (statesFirst_apply _ g p n).trans ((blocks_apply _ (fun b => (G.blk b).dbr) (fun b n q => rfl) g n p).trans (congrArg (fun x : ℝ => (x : EReal)) ?_))
  show (G.blk (g.val / 8)).dbr (16 * (g.val % 8) + n.val) (64 * (g.val % 8) + p.val) = G.dbr g.val p.val n.val
  rw [G.blk_dbr _ _ _ _ (by omega) n.isLt p.isLt, group_eq]

theorem blocks_dbi : statesFirst (blocks (arr_11 G) eyeB) = ansDbi G := by
  refine ext_ix3 fun g p n => ?_
  refine (statesFirst_apply _ g p n).trans ((blocks_apply _ (fun b => (G.blk b).dbi) (fun b n q => rfl) g n p).trans (congrArg (fun x : ℝ => (x : EReal)) ?_))
  show (G.blk (g.val / 8)).dbi (16 * (g.val % 8) + n.val) (64 * (g.val % 8) + p.val) = G.dbi g.val p.val n.val
  rw [G.blk_dbi _ _ _ _ (by omega) n.isLt p.isLt, group_eq]

theorem blocks_dcr : blocks (turned (arr_12 G)) eyeB = ansDcr G := by
  refine ext_ix3 fun g n p => ?_
  refine (blocks_apply _ (fun b n q => (G.blk b).dcr q n) (fun b n q => turned_apply _ b n q) g n p).trans (congrArg (fun x : ℝ => (x : EReal)) ?_)
  show (G.blk (g.val / 8)).dcr (64 * (g.val % 8) + p.val) (16 * (g.val % 8) + n.val) = G.dcr g.val n.val p.val
  rw [G.blk_dcr _ _ _ _ (by omega) n.isLt p.isLt, group_eq]

theorem blocks_dci : blocks (turned (arr_13 G)) eyeB = ansDci G := by
  refine ext_ix3 fun g n p => ?_
  refine (blocks_apply _ (fun b n q => (G.blk b).dci q n) (fun b n q => turned_apply _ b n q) g n p).trans (congrArg (fun x : ℝ => (x : EReal)) ?_)
  show (G.blk (g.val / 8)).dci (64 * (g.val % 8) + p.val) (16 * (g.val % 8) + n.val) = G.dci g.val n.val p.val
  rw [G.blk_dci _ _ _ _ (by omega) n.isLt p.isLt, group_eq]

theorem mat_Dar : asMat (arr_14 G) = ansDar G := by
  refine ext_ix2 fun g p => ?_
  refine (asMat_apply _ g p).trans (congrArg (fun x : ℂ => (x.re : EReal)) ?_)
  show (G.blk (g.val / 8)).da (64 * (g.val % 8) + p.val) = G.da g.val p.val
  rw [G.blk_da _ _ (by omega)]
  congr 1 <;> omega

theorem mat_Dai : asMat (arr_15 G) = ansDai G := by
  refine ext_ix2 fun g p => ?_
  refine (asMat_apply _ g p).trans (congrArg (fun x : ℂ => (x.im : EReal)) ?_)
  show (G.blk (g.val / 8)).da (64 * (g.val % 8) + p.val) = G.da g.val p.val
  rw [G.blk_da _ _ (by omega)]
  congr 1 <;> omega

theorem vec_dd : asVec (arr_16 G) = ansDd G := by
  refine ext_ix1 fun n => ?_
  refine (asVec_apply _ n).trans (congrArg (fun x : ℝ => (x : EReal)) ?_)
  show (G.blk (n.val / 128)).dd (n.val % 128) = G.dd n.val
  rw [G.blk_dd, Nat.div_add_mod]

section
variable {m c G} (h : KHolds m c G)
include h

theorem k_v102 : after hostOps1 (kW m c) (Proc.devRef .tc main_v102) = ansDu G := by
  rw [v102_eq, kW_9 m c G h]
  exact inOrder_arr G

theorem k_v118 : after hostOps1 (kW m c) (Proc.devRef .tc main_v118) = ansDcr G := by
  rw [v118_eq, kW_12 m c G h, kW_v76 m c]
  exact blocks_dcr G

theorem k_v111 : after hostOps1 (kW m c) (Proc.devRef .tc main_v111) = ansDci G := by
  rw [v111_eq, kW_13 m c G h, kW_v83 m c]
  exact blocks_dci G

theorem k_v229 : after hostOps1 (kW m c) (Proc.devRef .tc main_v229) = ansDd G := by
  rw [v229_eq, kW_16 m c G h]
  exact vec_dd G

theorem k_v136 : after headOps (kW m c) (Proc.devRef .tc main_v136) = ansDbr G := by
  rw [v136_eq, kW_10 m c G h, kW_v62 m c]
  exact blocks_dbr G

theorem k_v135 : after headOps (kW m c) (Proc.devRef .tc main_v135) = ansDbi G := by
  rw [v135_eq, kW_11 m c G h, kW_v69 m c]
  exact blocks_dbi G

theorem k_v134 : after headOps (kW m c) (Proc.devRef .tc main_v134) = ansDar G := by
  rw [v134_eq, kW_14 m c G h]
  exact mat_Dar G

theorem k_v133 : after headOps (kW m c) (Proc.devRef .tc main_v133) = ansDai G := by
  rw [v133_eq, kW_15 m c G h]
  exact mat_Dai G

end

end Cert.KernelIdeal.Value
-- ==== Proof.Ends.AnsK.lean ====
/-
  The gradients that the kernel's program makes after the call: functions of its arguments and of what the call computes.
-/
module

public import proofs.«01_k».proof.Proof.Ends.KerEnd
public import proofs.«01_k».proof.Proof.Ends.TailK

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.ShloMosaic.StableHlo Cert.Scan

/-- The gradient that `gLamRe` makes of the layer's arguments and the numbers' gradients. -/
def resLamRe (G : Glob) (arg2 : FVec Ideal S64x64 .f32) (arg3 : FVec Ideal S64x64 .f32) (arg4 : FVec Ideal S64 .f32) (arg5 : FVec Ideal S64x64x16 .f32) (arg6 : FVec Ideal S64x64x16 .f32) : FVec Ideal S64x64 .f32 :=
  gLamRe arg2 arg3 arg5 arg6 (pre1 arg4) (pre12 arg3 arg4) (ansDai G) (ansDar G) (ansDbi G) (ansDbr G) (pre14 arg2 arg3 arg4) (pre17 arg2 arg3) (pre19 arg2 arg3 arg4) (pre22 arg2 arg3 arg4) (pre26 arg2 arg3) (pre31 arg2 arg3 arg4) (pre35 arg2 arg3) (pre4 arg2 arg4) (pre7 arg3 arg4)

/-- The gradient that `gLamIm` makes of the layer's arguments and the numbers' gradients. -/
def resLamIm (G : Glob) (arg2 : FVec Ideal S64x64 .f32) (arg3 : FVec Ideal S64x64 .f32) (arg4 : FVec Ideal S64 .f32) (arg5 : FVec Ideal S64x64x16 .f32) (arg6 : FVec Ideal S64x64x16 .f32) : FVec Ideal S64x64 .f32 :=
  gLamIm arg2 arg3 arg5 arg6 (pre1 arg4) (pre13 arg3 arg4) (ansDai G) (ansDar G) (ansDbi G) (ansDbr G) (pre14 arg2 arg3 arg4) (pre17 arg2 arg3) (pre22 arg2 arg3 arg4) (pre26 arg2 arg3) (pre29 arg2 arg3 arg4) (pre31 arg2 arg3 arg4) (pre35 arg2 arg3) (pre4 arg2 arg4) (pre8 arg3 arg4)

/-- The gradient that `gStep` makes of the layer's arguments and the numbers' gradients. -/
def resStep (G : Glob) (arg2 : FVec Ideal S64x64 .f32) (arg3 : FVec Ideal S64x64 .f32) (arg4 : FVec Ideal S64 .f32) (arg5 : FVec Ideal S64x64x16 .f32) (arg6 : FVec Ideal S64x64x16 .f32) : FVec Ideal S64 .f32 :=
  gStep arg2 arg3 arg5 arg6 (pre0 arg4) (pre12 arg3 arg4) (pre13 arg3 arg4) (ansDai G) (ansDar G) (ansDbi G) (ansDbr G) (pre17 arg2 arg3) (pre4 arg2 arg4) (pre7 arg3 arg4) (pre8 arg3 arg4)

/-- The gradient that `gBRe` makes of the layer's arguments and the numbers' gradients. -/
def resBRe (G : Glob) (arg2 : FVec Ideal S64x64 .f32) (arg3 : FVec Ideal S64x64 .f32) (arg4 : FVec Ideal S64 .f32) (arg5 : FVec Ideal S64x64x16 .f32) (arg6 : FVec Ideal S64x64x16 .f32) : FVec Ideal S64x64x16 .f32 :=
  gBRe (ansDbi G) (ansDbr G) (pre36 arg2 arg3 arg4) (pre46 arg2 arg3 arg4)

/-- The gradient that `gBIm` makes of the layer's arguments and the numbers' gradients. -/
def resBIm (G : Glob) (arg2 : FVec Ideal S64x64 .f32) (arg3 : FVec Ideal S64x64 .f32) (arg4 : FVec Ideal S64 .f32) (arg5 : FVec Ideal S64x64x16 .f32) (arg6 : FVec Ideal S64x64x16 .f32) : FVec Ideal S64x64x16 .f32 :=
  gBIm (ansDbi G) (ansDbr G) (pre39 arg2 arg3 arg4) (pre43 arg2 arg3 arg4)

variable (m : (ℓ : Loc nD τ sig) → Buf (Elt Ideal) ℓ) (c : Dev nD) (G : Glob)

theorem leaf_arg2 : after headOps (kW m c) (Proc.devRef .tc main_arg2) = m (c, Proc.devRef .tc main_arg2) := (head_arg2 _).trans (kW_arg2 m c)
theorem leaf_arg3 : after headOps (kW m c) (Proc.devRef .tc main_arg3) = m (c, Proc.devRef .tc main_arg3) := (head_arg3 _).trans (kW_arg3 m c)
theorem leaf_arg5 : after headOps (kW m c) (Proc.devRef .tc main_arg5) = m (c, Proc.devRef .tc main_arg5) := (head_arg5 _).trans (kW_arg5 m c)
theorem leaf_arg6 : after headOps (kW m c) (Proc.devRef .tc main_arg6) = m (c, Proc.devRef .tc main_arg6) := (head_arg6 _).trans (kW_arg6 m c)
theorem leaf_v0 : after headOps (kW m c) (Proc.devRef .tc main_v0) = pre0 (m (c, Proc.devRef .tc main_arg4)) :=
  (head_v0 _).trans ((kW_pre m c main_v0 (by decide)).trans (pre0_eq _))
theorem leaf_v1 : after headOps (kW m c) (Proc.devRef .tc main_v1) = pre1 (m (c, Proc.devRef .tc main_arg4)) :=
  (head_v1 _).trans ((kW_pre m c main_v1 (by decide)).trans (pre1_eq _))
theorem leaf_v4 : after headOps (kW m c) (Proc.devRef .tc main_v4) = pre4 (m (c, Proc.devRef .tc main_arg2)) (m (c, Proc.devRef .tc main_arg4)) :=
  (head_v4 _).trans ((kW_pre m c main_v4 (by decide)).trans (pre4_eq _))
theorem leaf_v7 : after headOps (kW m c) (Proc.devRef .tc main_v7) = pre7 (m (c, Proc.devRef .tc main_arg3)) (m (c, Proc.devRef .tc main_arg4)) :=
  (head_v7 _).trans ((kW_pre m c main_v7 (by decide)).trans (pre7_eq _))
theorem leaf_v8 : after headOps (kW m c) (Proc.devRef .tc main_v8) = pre8 (m (c, Proc.devRef .tc main_arg3)) (m (c, Proc.devRef .tc main_arg4)) :=
  (head_v8 _).trans ((kW_pre m c main_v8 (by decide)).trans (pre8_eq _))
theorem leaf_v12 : after headOps (kW m c) (Proc.devRef .tc main_v12) = pre12 (m (c, Proc.devRef .tc main_arg3)) (m (c, Proc.devRef .tc main_arg4)) :=
  (head_v12 _).trans ((kW_pre m c main_v12 (by decide)).trans (pre12_eq _))
theorem leaf_v13 : after headOps (kW m c) (Proc.devRef .tc main_v13) = pre13 (m (c, Proc.devRef .tc main_arg3)) (m (c, Proc.devRef .tc main_arg4)) :=
  (head_v13 _).trans ((kW_pre m c main_v13 (by decide)).trans (pre13_eq _))
theorem leaf_v14 : after headOps (kW m c) (Proc.devRef .tc main_v14) = pre14 (m (c, Proc.devRef .tc main_arg2)) (m (c, Proc.devRef .tc main_arg3)) (m (c, Proc.devRef .tc main_arg4)) :=
  (head_v14 _).trans ((kW_pre m c main_v14 (by decide)).trans (pre14_eq _))
theorem leaf_v17 : after headOps (kW m c) (Proc.devRef .tc main_v17) = pre17 (m (c, Proc.devRef .tc main_arg2)) (m (c, Proc.devRef .tc main_arg3)) :=
  (head_v17 _).trans ((kW_pre m c main_v17 (by decide)).trans (pre17_eq _))
theorem leaf_v19 : after headOps (kW m c) (Proc.devRef .tc main_v19) = pre19 (m (c, Proc.devRef .tc main_arg2)) (m (c, Proc.devRef .tc main_arg3)) (m (c, Proc.devRef .tc main_arg4)) :=
  (head_v19 _).trans ((kW_pre m c main_v19 (by decide)).trans (pre19_eq _))
theorem leaf_v22 : after headOps (kW m c) (Proc.devRef .tc main_v22) = pre22 (m (c, Proc.devRef .tc main_arg2)) (m (c, Proc.devRef .tc main_arg3)) (m (c, Proc.devRef .tc main_arg4)) :=
  (head_v22 _).trans ((kW_pre m c main_v22 (by decide)).trans (pre22_eq _))
theorem leaf_v26 : after headOps (kW m c) (Proc.devRef .tc main_v26) = pre26 (m (c, Proc.devRef .tc main_arg2)) (m (c, Proc.devRef .tc main_arg3)) :=
  (head_v26 _).trans ((kW_pre m c main_v26 (by decide)).trans (pre26_eq _))
theorem leaf_v29 : after headOps (kW m c) (Proc.devRef .tc main_v29) = pre29 (m (c, Proc.devRef .tc main_arg2)) (m (c, Proc.devRef .tc main_arg3)) (m (c, Proc.devRef .tc main_arg4)) :=
  (head_v29 _).trans ((kW_pre m c main_v29 (by decide)).trans (pre29_eq _))
theorem leaf_v31 : after headOps (kW m c) (Proc.devRef .tc main_v31) = pre31 (m (c, Proc.devRef .tc main_arg2)) (m (c, Proc.devRef .tc main_arg3)) (m (c, Proc.devRef .tc main_arg4)) :=
  (head_v31 _).trans ((kW_pre m c main_v31 (by decide)).trans (pre31_eq _))
theorem leaf_v35 : after headOps (kW m c) (Proc.devRef .tc main_v35) = pre35 (m (c, Proc.devRef .tc main_arg2)) (m (c, Proc.devRef .tc main_arg3)) :=
  (head_v35 _).trans ((kW_pre m c main_v35 (by decide)).trans (pre35_eq _))
theorem leaf_v36 : after headOps (kW m c) (Proc.devRef .tc main_v36) = pre36 (m (c, Proc.devRef .tc main_arg2)) (m (c, Proc.devRef .tc main_arg3)) (m (c, Proc.devRef .tc main_arg4)) :=
  (head_v36 _).trans ((kW_pre m c main_v36 (by decide)).trans (pre36_eq _))
theorem leaf_v39 : after headOps (kW m c) (Proc.devRef .tc main_v39) = pre39 (m (c, Proc.devRef .tc main_arg2)) (m (c, Proc.devRef .tc main_arg3)) (m (c, Proc.devRef .tc main_arg4)) :=
  (head_v39 _).trans ((kW_pre m c main_v39 (by decide)).trans (pre39_eq _))
theorem leaf_v43 : after headOps (kW m c) (Proc.devRef .tc main_v43) = pre43 (m (c, Proc.devRef .tc main_arg2)) (m (c, Proc.devRef .tc main_arg3)) (m (c, Proc.devRef .tc main_arg4)) :=
  (head_v43 _).trans ((kW_pre m c main_v43 (by decide)).trans (pre43_eq _))
theorem leaf_v46 : after headOps (kW m c) (Proc.devRef .tc main_v46) = pre46 (m (c, Proc.devRef .tc main_arg2)) (m (c, Proc.devRef .tc main_arg3)) (m (c, Proc.devRef .tc main_arg4)) :=
  (head_v46 _).trans ((kW_pre m c main_v46 (by decide)).trans (pre46_eq _))

section
variable {m c G} (h : KHolds m c G)
include h

theorem k_gLamRe : after hostOps1 (kW m c) (Proc.devRef .tc main_v226) = resLamRe G (m (c, Proc.devRef .tc main_arg2)) (m (c, Proc.devRef .tc main_arg3)) (m (c, Proc.devRef .tc main_arg4)) (m (c, Proc.devRef .tc main_arg5)) (m (c, Proc.devRef .tc main_arg6)) := by
  rw [after_split, tail_gLamRe, leaf_arg2, leaf_arg3, leaf_arg5, leaf_arg6, leaf_v1, leaf_v12, k_v133 h, k_v134 h, k_v135 h, k_v136 h, leaf_v14, leaf_v17, leaf_v19, leaf_v22, leaf_v26, leaf_v31, leaf_v35, leaf_v4, leaf_v7]
  rfl

theorem k_gLamIm : after hostOps1 (kW m c) (Proc.devRef .tc main_v218) = resLamIm G (m (c, Proc.devRef .tc main_arg2)) (m (c, Proc.devRef .tc main_arg3)) (m (c, Proc.devRef .tc main_arg4)) (m (c, Proc.devRef .tc main_arg5)) (m (c, Proc.devRef .tc main_arg6)) := by
  rw [after_split, tail_gLamIm, leaf_arg2, leaf_arg3, leaf_arg5, leaf_arg6, leaf_v1, leaf_v13, k_v133 h, k_v134 h, k_v135 h, k_v136 h, leaf_v14, leaf_v17, leaf_v22, leaf_v26, leaf_v29, leaf_v31, leaf_v35, leaf_v4, leaf_v8]
  rfl

theorem k_gStep : after hostOps1 (kW m c) (Proc.devRef .tc main_v228) = resStep G (m (c, Proc.devRef .tc main_arg2)) (m (c, Proc.devRef .tc main_arg3)) (m (c, Proc.devRef .tc main_arg4)) (m (c, Proc.devRef .tc main_arg5)) (m (c, Proc.devRef .tc main_arg6)) := by
  rw [after_split, tail_gStep, leaf_arg2, leaf_arg3, leaf_arg5, leaf_arg6, leaf_v0, leaf_v12, leaf_v13, k_v133 h, k_v134 h, k_v135 h, k_v136 h, leaf_v17, leaf_v4, leaf_v7, leaf_v8]
  rfl

theorem k_gBRe : after hostOps1 (kW m c) (Proc.devRef .tc main_v160) = resBRe G (m (c, Proc.devRef .tc main_arg2)) (m (c, Proc.devRef .tc main_arg3)) (m (c, Proc.devRef .tc main_arg4)) (m (c, Proc.devRef .tc main_arg5)) (m (c, Proc.devRef .tc main_arg6)) := by
  rw [after_split, tail_gBRe, k_v135 h, k_v136 h, leaf_v36, leaf_v46]
  rfl

theorem k_gBIm : after hostOps1 (kW m c) (Proc.devRef .tc main_v152) = resBIm G (m (c, Proc.devRef .tc main_arg2)) (m (c, Proc.devRef .tc main_arg3)) (m (c, Proc.devRef .tc main_arg4)) (m (c, Proc.devRef .tc main_arg5)) (m (c, Proc.devRef .tc main_arg6)) := by
  rw [after_split, tail_gBIm, k_v135 h, k_v136 h, leaf_v39, leaf_v43]
  rfl

end

end Cert.KernelIdeal.Value
-- ==== Proof.Ends.Finite.lean ====
/-
  Arguments that are finite are real numbers, and so is everything the programs first make of them.
-/
module

public import proofs.«01_k».proof.Proof.Ends.PreK
public import proofs.«01_k».proof.Proof.Gen.Pre_finite_args
public import proofs.«01_k».proof.Defs

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.ShloMosaic.StableHlo

/-- An extended real that is a real number. -/
def IsReal (x : EReal) : Prop := ∃ r : ℝ, x = (r : EReal)

theorem isReal_toReal {x : EReal} (h : IsReal x) : x = ((EReal.toReal x : ℝ) : EReal) := by
  obtain ⟨r, rfl⟩ := h
  rw [EReal.toReal_coe]

theorem isReal_add {x y : EReal} (hx : IsReal x) (hy : IsReal y) : IsReal (x + y) := by
  obtain ⟨a, rfl⟩ := hx
  obtain ⟨b, rfl⟩ := hy
  exact ⟨a + b, (EReal.coe_add a b).symm⟩

theorem isReal_sub {x y : EReal} (hx : IsReal x) (hy : IsReal y) : IsReal (x - y) := by
  obtain ⟨a, rfl⟩ := hx
  obtain ⟨b, rfl⟩ := hy
  exact ⟨a - b, (EReal.coe_sub a b).symm⟩

theorem isReal_mul {x y : EReal} (hx : IsReal x) (hy : IsReal y) : IsReal (x * y) := by
  obtain ⟨a, rfl⟩ := hx
  obtain ⟨b, rfl⟩ := hy
  exact ⟨a * b, (EReal.coe_mul a b).symm⟩

theorem isReal_exp {x : EReal} (hx : IsReal x) : IsReal (Ideal.exp x) := by
  obtain ⟨a, rfl⟩ := hx
  exact ⟨Real.exp a, rfl⟩

theorem isReal_cos {x : EReal} (hx : IsReal x) : IsReal (Ideal.cos x) := by
  obtain ⟨a, rfl⟩ := hx
  exact ⟨Real.cos a, rfl⟩

theorem isReal_sin {x : EReal} (hx : IsReal x) : IsReal (Ideal.sin x) := by
  obtain ⟨a, rfl⟩ := hx
  exact ⟨Real.sin a, rfl⟩

theorem isReal_div {x y : EReal} (hx : IsReal x) (hy : IsReal y) (h0 : 0 < y) : IsReal (Ideal.div x y) := by
  unfold Ideal.div
  rw [if_neg h0.ne']
  obtain ⟨b, rfl⟩ := hy
  rw [← EReal.coe_inv]
  exact isReal_mul hx ⟨b⁻¹, rfl⟩

theorem isReal_one : IsReal (1 : EReal) := ⟨1, rfl⟩

/-- A number whose difference with itself is zero is real. -/
theorem isReal_of_sub {x : EReal} (h : x - x = 0) : IsReal x := by
  induction x using EReal.rec with
  | bot => exact absurd h (by decide)
  | coe r => exact ⟨r, rfl⟩
  | top => exact absurd h (by decide)

theorem of_oeq {x y : EReal} (h : Ideal.cmp .oeq x y = 1#1) : x = y := by
  by_contra hn
  simp [Ideal.cmp, hn] at h

theorem of_ogt {x y : EReal} (h : Ideal.cmp .ogt x y = 1#1) : y < x := by
  by_contra hn
  simp [Ideal.cmp, hn] at h

/-- An array of real numbers. -/
def AllReal {S : Shape} (x : FVec Ideal S .f32) : Prop := ∀ j, IsReal (x j)

section
variable {S T : Shape} {x y : FVec Ideal S .f32}

theorem allReal_add (hx : AllReal x) (hy : AllReal y) : AllReal (addf x y) := fun j => isReal_add (hx j) (hy j)
theorem allReal_sub (hx : AllReal x) (hy : AllReal y) : AllReal (subf x y) := fun j => isReal_sub (hx j) (hy j)
theorem allReal_mul (hx : AllReal x) (hy : AllReal y) : AllReal (mulf x y) := fun j => isReal_mul (hx j) (hy j)
theorem allReal_exp (hx : AllReal x) : AllReal (Host.exp x) := fun j => isReal_exp (hx j)
theorem allReal_cos (hx : AllReal x) : AllReal (Host.cos x) := fun j => isReal_cos (hx j)
theorem allReal_sin (hx : AllReal x) : AllReal (Host.sin x) := fun j => isReal_sin (hx j)
theorem allReal_div (hx : AllReal x) (hy : AllReal y) (h0 : ∀ j, (0 : EReal) < y j) : AllReal (Host.divf x y) := fun j => isReal_div (hx j) (hy j) (h0 j)
theorem allReal_bcast {d : Fin S.rank → Fin T.rank} (h : S.BroadcastsInDim T d) (hx : AllReal x) : AllReal (broadcastInDim T d h x) := fun j => hx _
theorem allReal_one : AllReal (constant (F := Ideal) S_ .f32 0x3F800000#32) := fun j => ⟨1, Ideal.ofBits_one_f32⟩

/-- The word of zero denotes zero. -/
theorem zero_word : Ideal.ofBits .f32 0x00000000#32 = (0 : EReal) := Ideal.ofBits_zero .f32

theorem allReal_of_cmp (x z : FVec Ideal S .f32) (hz : ∀ j, z j = (0 : EReal)) (h : cmpf .oeq (subf x x) z = fun _ => 1#1) : AllReal x := by
  intro j
  have h1 : Ideal.cmp .oeq ((x j : EReal) - x j) (z j) = 1#1 := congrFun h j
  rw [hz] at h1
  exact isReal_of_sub (of_oeq h1)

end

section
variable {a2 a3 : FVec Ideal S64x64 .f32} {a4 : FVec Ideal S64 .f32} {a5 a6 : FVec Ideal S64x64x16 .f32}
variable (h2 : AllReal a2) (h3 : AllReal a3) (h4 : AllReal a4) (h5 : AllReal a5) (h6 : AllReal a6)
variable (pos : ∀ j, (0 : EReal) < addf (mulf a2 a2) (mulf a3 a3) j)

section
include h2 h3 h4
theorem real_pre9 : AllReal (pre9 a2 a3 a4) :=
  allReal_mul (allReal_exp (allReal_mul h2 (allReal_bcast _ (allReal_bcast _ (allReal_exp h4)))))
    (allReal_cos (allReal_mul h3 (allReal_bcast _ (allReal_bcast _ (allReal_exp h4)))))

theorem real_pre14 : AllReal (pre14 a2 a3 a4) :=
  allReal_mul (allReal_exp (allReal_mul h2 (allReal_bcast _ (allReal_bcast _ (allReal_exp h4)))))
    (allReal_sin (allReal_mul h3 (allReal_bcast _ (allReal_bcast _ (allReal_exp h4)))))

theorem real_norm : AllReal (addf (mulf a2 a2) (mulf a3 a3)) := allReal_add (allReal_mul h2 h2) (allReal_mul h3 h3)

include pos
theorem real_ratio_re : AllReal (Host.divf (addf (mulf (subf (pre9 a2 a3 a4) (broadcastInDim S64x64 ![] bcast_S_S64x64 (constant (F := Ideal) S_ .f32 0x3F800000#32))) a2)
    (mulf (pre14 a2 a3 a4) a3)) (addf (mulf a2 a2) (mulf a3 a3))) :=
  allReal_div (allReal_add (allReal_mul (allReal_sub (real_pre9 h2 h3 h4) (allReal_bcast _ allReal_one)) h2) (allReal_mul (real_pre14 h2 h3 h4) h3))
    (real_norm h2 h3 h4) pos

theorem real_ratio_im : AllReal (Host.divf (subf (mulf (pre14 a2 a3 a4) a2) (mulf (subf (pre9 a2 a3 a4)
    (broadcastInDim S64x64 ![] bcast_S_S64x64 (constant (F := Ideal) S_ .f32 0x3F800000#32))) a3)) (addf (mulf a2 a2) (mulf a3 a3))) :=
  allReal_div (allReal_sub (allReal_mul (real_pre14 h2 h3 h4) h2) (allReal_mul (allReal_sub (real_pre9 h2 h3 h4) (allReal_bcast _ allReal_one)) h3))
    (real_norm h2 h3 h4) pos
end

include h2 h3 h4 h5 h6 pos
theorem real_pre42 : AllReal (pre42 a2 a3 a4 a5 a6) :=
  allReal_sub (allReal_mul (allReal_bcast _ (allReal_bcast _ (real_ratio_re h2 h3 h4 pos))) h5)
    (allReal_mul (allReal_bcast _ (allReal_bcast _ (real_ratio_im h2 h3 h4 pos))) h6)

theorem real_pre49 : AllReal (pre49 a2 a3 a4 a5 a6) :=
  allReal_add (allReal_mul (allReal_bcast _ (allReal_bcast _ (real_ratio_re h2 h3 h4 pos))) h6)
    (allReal_mul (allReal_bcast _ (allReal_bcast _ (real_ratio_im h2 h3 h4 pos))) h5)
end

variable (m : (ℓ : Loc nD τ sig) → Buf (Elt Ideal) ℓ)

/-- What the precondition says of the arguments on one device. -/
structure FiniteArgs (c : Dev nD) : Prop where
  h0 : AllReal (m (c, Proc.devRef .tc main_arg0) : FVec Ideal S2048x1024 .f32)
  h1 : AllReal (m (c, Proc.devRef .tc main_arg1) : FVec Ideal S2048x1024 .f32)
  h2 : AllReal (m (c, Proc.devRef .tc main_arg2) : FVec Ideal S64x64 .f32)
  h3 : AllReal (m (c, Proc.devRef .tc main_arg3) : FVec Ideal S64x64 .f32)
  h4 : AllReal (m (c, Proc.devRef .tc main_arg4) : FVec Ideal S64 .f32)
  h5 : AllReal (m (c, Proc.devRef .tc main_arg5) : FVec Ideal S64x64x16 .f32)
  h6 : AllReal (m (c, Proc.devRef .tc main_arg6) : FVec Ideal S64x64x16 .f32)
  h7 : AllReal (m (c, Proc.devRef .tc main_arg7) : FVec Ideal S64x16x64 .f32)
  h8 : AllReal (m (c, Proc.devRef .tc main_arg8) : FVec Ideal S64x16x64 .f32)
  h9 : AllReal (m (c, Proc.devRef .tc main_arg9) : FVec Ideal S1024 .f32)
  pos : ∀ j, (0 : EReal) < (addf (mulf (m (c, Proc.devRef .tc main_arg2) : FVec Ideal S64x64 .f32) (m (c, Proc.devRef .tc main_arg2) : FVec Ideal S64x64 .f32))
    (mulf (m (c, Proc.devRef .tc main_arg3) : FVec Ideal S64x64 .f32) (m (c, Proc.devRef .tc main_arg3) : FVec Ideal S64x64 .f32)) : FVec Ideal S64x64 .f32) j

variable {m} in
theorem finiteArgs (h : Cert.Pre_KernelIdeal (hPre_finite_args := Cert.Pre_finite_args.Gen.facts) m) (c : Dev nD) : FiniteArgs m c := by
  obtain ⟨h0, h1, h2, h3, h4, h5, h6, h7, h8, h9, hp⟩ := h c
  refine ⟨allReal_of_cmp _ _ (fun j => zero_word) h0, allReal_of_cmp _ _ (fun j => zero_word) h1, allReal_of_cmp _ _ (fun j => zero_word) h2, allReal_of_cmp _ _ (fun j => zero_word) h3, allReal_of_cmp _ _ (fun j => zero_word) h4, allReal_of_cmp _ _ (fun j => zero_word) h5, allReal_of_cmp _ _ (fun j => zero_word) h6, allReal_of_cmp _ _ (fun j => zero_word) h7, allReal_of_cmp _ _ (fun j => zero_word) h8, allReal_of_cmp _ _ (fun j => zero_word) h9, fun j => ?_⟩
  have h1 := of_ogt (x := _) (y := Ideal.ofBits .f32 0x00000000#32) (congrFun hp j)
  rw [zero_word] at h1
  exact h1

end Cert.KernelIdeal.Value
-- ==== Proof.Ends.RunK.lean ====
/-
  The real numbers behind finite arguments, and the run of the kernel's program in terms of them.
-/
module

public import proofs.«01_k».proof.Proof.Ends.AnsK
public import proofs.«01_k».proof.Proof.Ends.Finite

@[expose] public section

set_option maxRecDepth 16384

noncomputable section

namespace Cert.KernelIdeal.Value

open Cert.KernelIdeal Cert.KernelIdeal.Gen
open Idealize.ShloMosaic Idealize.ShloMosaic.TcCoe Idealize.SL.Sem
open Idealize.ShloMosaic.StableHlo Cert.Scan

/-- The numbers of an array, by position; zero outside it. -/
def nums1 {a : ℕ} (x : Fin a → EReal) (i : ℕ) : ℝ := if h : i < a then (x ⟨i, h⟩).toReal else 0
def nums2 {a b : ℕ} (x : Fin a → Fin b → EReal) (i j : ℕ) : ℝ := if h : i < a ∧ j < b then (x ⟨i, h.1⟩ ⟨j, h.2⟩).toReal else 0
def nums3 {a b d : ℕ} (x : Fin a → Fin b → Fin d → EReal) (i j k : ℕ) : ℝ :=
  if h : i < a ∧ j < b ∧ k < d then (x ⟨i, h.1⟩ ⟨j, h.2.1⟩ ⟨k, h.2.2⟩).toReal else 0

theorem nums1_eq {a : ℕ} (x : Fin a → EReal) (i : Fin a) (h : IsReal (x i)) : x i = (nums1 x i.val : EReal) := by
  unfold nums1
  rw [dif_pos i.isLt]
  exact isReal_toReal h

theorem nums2_eq {a b : ℕ} (x : Fin a → Fin b → EReal) (i : Fin a) (j : Fin b) (h : IsReal (x i j)) : x i j = (nums2 x i.val j.val : EReal) := by
  unfold nums2
  rw [dif_pos ⟨i.isLt, j.isLt⟩]
  exact isReal_toReal h

theorem nums3_eq {a b d : ℕ} (x : Fin a → Fin b → Fin d → EReal) (i : Fin a) (j : Fin b) (k : Fin d) (h : IsReal (x i j k)) :
    x i j k = (nums3 x i.val j.val k.val : EReal) := by
  unfold nums3
  rw [dif_pos ⟨i.isLt, j.isLt, k.isLt⟩]
  exact isReal_toReal h

variable (m : (ℓ : Loc nD τ sig) → Buf (Elt Ideal) ℓ) (ρ : Dev nD → PrngReg) (c : Dev nD)

/-- The real numbers the kernel's arguments hold. -/
def numbers : Glob where
  u := nums2 fun t n => (m (c, Proc.devRef .tc main_arg0) : FVec Ideal S2048x1024 .f32) (ix2 t n)
  dy := nums2 fun t n => (m (c, Proc.devRef .tc main_arg1) : FVec Ideal S2048x1024 .f32) (ix2 t n)
  a g p := ⟨nums2 (fun g p => (V m c main_v9 : FVec Ideal S64x64 .f32) (ix2 g p)) g p, nums2 (fun g p => (V m c main_v14 : FVec Ideal S64x64 .f32) (ix2 g p)) g p⟩
  br := nums3 fun g p n => (V m c main_v42 : FVec Ideal S64x64x16 .f32) (ix3 g p n)
  bi := nums3 fun g p n => (V m c main_v49 : FVec Ideal S64x64x16 .f32) (ix3 g p n)
  cr := nums3 fun g n p => (m (c, Proc.devRef .tc main_arg7) : FVec Ideal S64x16x64 .f32) (ix3 g n p)
  ci := nums3 fun g n p => (m (c, Proc.devRef .tc main_arg8) : FVec Ideal S64x16x64 .f32) (ix3 g n p)
  d := nums1 fun n => (m (c, Proc.devRef .tc main_arg9) : FVec Ideal S1024 .f32) (ix1 n)

variable {m c} in
theorem kHolds (h : FiniteArgs m c) : KHolds m c (numbers m c) where
  hu t n := nums2_eq (fun t n => (m (c, Proc.devRef .tc main_arg0) : FVec Ideal S2048x1024 .f32) (ix2 t n)) t n (h.h0 _)
  hdy t n := nums2_eq (fun t n => (m (c, Proc.devRef .tc main_arg1) : FVec Ideal S2048x1024 .f32) (ix2 t n)) t n (h.h1 _)
  har g p := nums2_eq (fun g p => (V m c main_v9 : FVec Ideal S64x64 .f32) (ix2 g p)) g p (by
    have e : V m c main_v9 = pre9 _ _ _ := pre9_eq (fun b => m (c, b))
    rw [e]
    exact real_pre9 h.h2 h.h3 h.h4 _)
  hai g p := nums2_eq (fun g p => (V m c main_v14 : FVec Ideal S64x64 .f32) (ix2 g p)) g p (by
    have e : V m c main_v14 = pre14 _ _ _ := pre14_eq (fun b => m (c, b))
    rw [e]
    exact real_pre14 h.h2 h.h3 h.h4 _)
  hbr g p n := nums3_eq (fun g p n => (V m c main_v42 : FVec Ideal S64x64x16 .f32) (ix3 g p n)) g p n (by
    have e : V m c main_v42 = pre42 _ _ _ _ _ := pre42_eq (fun b => m (c, b))
    rw [e]
    exact real_pre42 h.h2 h.h3 h.h4 h.h5 h.h6 h.pos _)
  hbi g p n := nums3_eq (fun g p n => (V m c main_v49 : FVec Ideal S64x64x16 .f32) (ix3 g p n)) g p n (by
    have e : V m c main_v49 = pre49 _ _ _ _ _ := pre49_eq (fun b => m (c, b))
    rw [e]
    exact real_pre49 h.h2 h.h3 h.h4 h.h5 h.h6 h.pos _)
  hcr g n p := nums3_eq (fun g n p => (m (c, Proc.devRef .tc main_arg7) : FVec Ideal S64x16x64 .f32) (ix3 g n p)) g n p (h.h7 _)
  hci g n p := nums3_eq (fun g n p => (m (c, Proc.devRef .tc main_arg8) : FVec Ideal S64x16x64 .f32) (ix3 g n p)) g n p (h.h8 _)
  hd n := nums1_eq (fun n => (m (c, Proc.devRef .tc main_arg9) : FVec Ideal S1024 .f32) (ix1 n)) n (h.h9 _)

theorem tail_v102 (G : Glob) (h : KHolds m c G) : Pipeline.afterTail₀ cfgs (dats m) 0 (V0 m) [hostOps1] c main_v102 = ansDu G := by
  unfold Pipeline.afterTail₀
  show StableHlo.after hostOps1 _ (Proc.devRef .tc main_v102) = _
  exact k_v102 h

theorem tail_v226 (G : Glob) (h : KHolds m c G) : Pipeline.afterTail₀ cfgs (dats m) 0 (V0 m) [hostOps1] c main_v226 = resLamRe G (m (c, Proc.devRef .tc main_arg2)) (m (c, Proc.devRef .tc main_arg3)) (m (c, Proc.devRef .tc main_arg4)) (m (c, Proc.devRef .tc main_arg5)) (m (c, Proc.devRef .tc main_arg6)) := by
  unfold Pipeline.afterTail₀
  show StableHlo.after hostOps1 _ (Proc.devRef .tc main_v226) = _
  exact k_gLamRe h

theorem tail_v218 (G : Glob) (h : KHolds m c G) : Pipeline.afterTail₀ cfgs (dats m) 0 (V0 m) [hostOps1] c main_v218 = resLamIm G (m (c, Proc.devRef .tc main_arg2)) (m (c, Proc.devRef .tc main_arg3)) (m (c, Proc.devRef .tc main_arg4)) (m (c, Proc.devRef .tc main_arg5)) (m (c, Proc.devRef .tc main_arg6)) := by
  unfold Pipeline.afterTail₀
  show StableHlo.after hostOps1 _ (Proc.devRef .tc main_v218) = _
  exact k_gLamIm h

theorem tail_v228 (G : Glob) (h : KHolds m c G) : Pipeline.afterTail₀ cfgs (dats m) 0 (V0 m) [hostOps1] c main_v228 = resStep G (m (c, Proc.devRef .tc main_arg2)) (m (c, Proc.devRef .tc main_arg3)) (m (c, Proc.devRef .tc main_arg4)) (m (c, Proc.devRef .tc main_arg5)) (m (c, Proc.devRef .tc main_arg6)) := by
  unfold Pipeline.afterTail₀
  show StableHlo.after hostOps1 _ (Proc.devRef .tc main_v228) = _
  exact k_gStep h

theorem tail_v160 (G : Glob) (h : KHolds m c G) : Pipeline.afterTail₀ cfgs (dats m) 0 (V0 m) [hostOps1] c main_v160 = resBRe G (m (c, Proc.devRef .tc main_arg2)) (m (c, Proc.devRef .tc main_arg3)) (m (c, Proc.devRef .tc main_arg4)) (m (c, Proc.devRef .tc main_arg5)) (m (c, Proc.devRef .tc main_arg6)) := by
  unfold Pipeline.afterTail₀
  show StableHlo.after hostOps1 _ (Proc.devRef .tc main_v160) = _
  exact k_gBRe h

theorem tail_v152 (G : Glob) (h : KHolds m c G) : Pipeline.afterTail₀ cfgs (dats m) 0 (V0 m) [hostOps1] c main_v152 = resBIm G (m (c, Proc.devRef .tc main_arg2)) (m (c, Proc.devRef .tc main_arg3)) (m (c, Proc.devRef .tc main_arg4)) (m (c, Proc.devRef .tc main_arg5)) (m (c, Proc.devRef .tc main_arg6)) := by
  unfold Pipeline.afterTail₀
  show StableHlo.after hostOps1 _ (Proc.devRef .tc main_v152) = _
  exact k_gBIm h

theorem tail_v118 (G : Glob) (h : KHolds m c G) : Pipeline.afterTail₀ cfgs (dats m) 0 (V0 m) [hostOps1] c main_v118 = ansDcr G := by
  unfold Pipeline.afterTail₀
  show StableHlo.after hostOps1 _ (Proc.devRef .tc main_v118) = _
  exact k_v118 h

theorem tail_v111 (G : Glob) (h : KHolds m c G) : Pipeline.afterTail₀ cfgs (dats m) 0 (V0 m) [hostOps1] c main_v111 = ansDci G := by
  unfold Pipeline.afterTail₀
  show StableHlo.after hostOps1 _ (Proc.devRef .tc main_v111) = _
  exact k_v111 h

theorem tail_v229 (G : Glob) (h : KHolds m c G) : Pipeline.afterTail₀ cfgs (dats m) 0 (V0 m) [hostOps1] c main_v229 = ansDd G := by
  unfold Pipeline.afterTail₀
  show StableHlo.after hostOps1 _ (Proc.devRef .tc main_v229) = _
  exact k_v229 h

/-- The run of the kernel's program: its results are the gradients, and its arguments stay as they are. -/
theorem run (h : ∀ c, FiniteArgs m c) : θ_run defs (onTc (τ := τ) (main (F := Ideal))) ⟨m, fun _ => 0, ρ⟩ fun r => ∀ c : Dev nD,
      r.2.mem ((c.tc : Thread nD τ).loc main_v102) = ansDu (numbers m c)
      ∧ r.2.mem ((c.tc : Thread nD τ).loc main_v226) = resLamRe (numbers m c) (m (c, Proc.devRef .tc main_arg2)) (m (c, Proc.devRef .tc main_arg3)) (m (c, Proc.devRef .tc main_arg4)) (m (c, Proc.devRef .tc main_arg5)) (m (c, Proc.devRef .tc main_arg6))
      ∧ r.2.mem ((c.tc : Thread nD τ).loc main_v218) = resLamIm (numbers m c) (m (c, Proc.devRef .tc main_arg2)) (m (c, Proc.devRef .tc main_arg3)) (m (c, Proc.devRef .tc main_arg4)) (m (c, Proc.devRef .tc main_arg5)) (m (c, Proc.devRef .tc main_arg6))
      ∧ r.2.mem ((c.tc : Thread nD τ).loc main_v228) = resStep (numbers m c) (m (c, Proc.devRef .tc main_arg2)) (m (c, Proc.devRef .tc main_arg3)) (m (c, Proc.devRef .tc main_arg4)) (m (c, Proc.devRef .tc main_arg5)) (m (c, Proc.devRef .tc main_arg6))
      ∧ r.2.mem ((c.tc : Thread nD τ).loc main_v160) = resBRe (numbers m c) (m (c, Proc.devRef .tc main_arg2)) (m (c, Proc.devRef .tc main_arg3)) (m (c, Proc.devRef .tc main_arg4)) (m (c, Proc.devRef .tc main_arg5)) (m (c, Proc.devRef .tc main_arg6))
      ∧ r.2.mem ((c.tc : Thread nD τ).loc main_v152) = resBIm (numbers m c) (m (c, Proc.devRef .tc main_arg2)) (m (c, Proc.devRef .tc main_arg3)) (m (c, Proc.devRef .tc main_arg4)) (m (c, Proc.devRef .tc main_arg5)) (m (c, Proc.devRef .tc main_arg6))
      ∧ r.2.mem ((c.tc : Thread nD τ).loc main_v118) = ansDcr (numbers m c)
      ∧ r.2.mem ((c.tc : Thread nD τ).loc main_v111) = ansDci (numbers m c)
      ∧ r.2.mem ((c.tc : Thread nD τ).loc main_v229) = ansDd (numbers m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r hr c =>
      ⟨((hr c).2 main_v102 (Pipeline.mem_restRefs_of main_v102 (by decide) (by decide))).trans (tail_v102 m c (numbers m c) (kHolds (h c))),
       ((hr c).2 main_v226 (Pipeline.mem_restRefs_of main_v226 (by decide) (by decide))).trans (tail_v226 m c (numbers m c) (kHolds (h c))),
       ((hr c).2 main_v218 (Pipeline.mem_restRefs_of main_v218 (by decide) (by decide))).trans (tail_v218 m c (numbers m c) (kHolds (h c))),
       ((hr c).2 main_v228 (Pipeline.mem_restRefs_of main_v228 (by decide) (by decide))).trans (tail_v228 m c (numbers m c) (kHolds (h c))),
       ((hr c).2 main_v160 (Pipeline.mem_restRefs_of main_v160 (by decide) (by decide))).trans (tail_v160 m c (numbers m c) (kHolds (h c))),
       ((hr c).2 main_v152 (Pipeline.mem_restRefs_of main_v152 (by decide) (by decide))).trans (tail_v152 m c (numbers m c) (kHolds (h c))),
       ((hr c).2 main_v118 (Pipeline.mem_restRefs_of main_v118 (by decide) (by decide))).trans (tail_v118 m c (numbers m c) (kHolds (h c))),
       ((hr c).2 main_v111 (Pipeline.mem_restRefs_of main_v111 (by decide) (by decide))).trans (tail_v111 m c (numbers m c) (kHolds (h c))),
       ((hr c).2 main_v229 (Pipeline.mem_restRefs_of main_v229 (by decide) (by decide))).trans (tail_v229 m c (numbers m c) (kHolds (h c))),
       ((hr c).2 main_arg0 (Pipeline.mem_restRefs_of main_arg0 (by decide) (by decide))).trans (W_main_arg0 m (dats m) c),
       ((hr c).2 main_arg1 (Pipeline.mem_restRefs_of main_arg1 (by decide) (by decide))).trans (W_main_arg1 m (dats m) c),
       ((hr c).2 main_arg2 (Pipeline.mem_restRefs_of main_arg2 (by decide) (by decide))).trans (W_main_arg2 m (dats m) c),
       ((hr c).2 main_arg3 (Pipeline.mem_restRefs_of main_arg3 (by decide) (by decide))).trans (W_main_arg3 m (dats m) c),
       ((hr c).2 main_arg4 (Pipeline.mem_restRefs_of main_arg4 (by decide) (by decide))).trans (W_main_arg4 m (dats m) c),
       ((hr c).2 main_arg5 (Pipeline.mem_restRefs_of main_arg5 (by decide) (by decide))).trans (W_main_arg5 m (dats m) c),
       ((hr c).2 main_arg6 (Pipeline.mem_restRefs_of main_arg6 (by decide) (by decide))).trans (W_main_arg6 m (dats m) c),
       ((hr c).2 main_arg7 (Pipeline.mem_restRefs_of main_arg7 (by decide) (by decide))).trans (W_main_arg7 m (dats m) c),
       ((hr c).2 main_arg8 (Pipeline.mem_restRefs_of main_arg8 (by decide) (by decide))).trans (W_main_arg8 m (dats m) c),
       ((hr c).2 main_arg9 (Pipeline.mem_restRefs_of main_arg9 (by decide) (by decide))).trans (W_main_arg9 m (dats m) c)⟩)
    (run_main m ρ)

end Cert.KernelIdeal.Value
-- ==== Proof.Ends.TailR.lean ====
module

public import proofs.«01_k».proof.Proof.Ref.Run
public import Idealize.ShloMosaic.Lib.Pointwise
public import Idealize.ShloMosaic.Lib.StableHlo.RunRead

/-! The gradient of the discretisation, written out: the gradients of the parameters from those of the transition and of
the input maps. -/

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.Tactic
open Idealize.ShloMosaic.StableHlo

/-- The operations from the gradients of the input maps on. -/
abbrev tailOps : List (HloOp τ sig (Elt Ideal)) := List.drop 11 hostOps0_2

/-- The gradient that ends in result `gLamRe`. -/
def gLamRe (arg2 : FVec Ideal S64x64 .f32) (arg3 : FVec Ideal S64x64 .f32) (arg5 : FVec Ideal S64x64x16 .f32) (arg6 : FVec Ideal S64x64x16 .f32) (v1 : FVec Ideal S64x1 .f32) (v12 : FVec Ideal S64x64 .f32) (dai : FVec Ideal S64x64 .f32) (dar : FVec Ideal S64x64 .f32) (dbi : FVec Ideal S64x64x16 .f32) (dbr : FVec Ideal S64x64x16 .f32) (v14 : FVec Ideal S64x64 .f32) (v17 : FVec Ideal S64x64 .f32) (v19 : FVec Ideal S64x64 .f32) (v22 : FVec Ideal S64x64 .f32) (v26 : FVec Ideal S64x64 .f32) (v31 : FVec Ideal S64x64 .f32) (v35 : FVec Ideal S64x64 .f32) (v4 : FVec Ideal S64x64 .f32) (v7 : FVec Ideal S64x64 .f32) : FVec Ideal S64x64 .f32 :=
  let v139 : FVec Ideal S64x64x16 .f32 := (mulf) dbi arg5
  let cst_19 : FVec Ideal S_ .f32 := constant (F := Ideal) S_ .f32 0x00000000#32
  let v140 : FVec Ideal S64x64 .f32 := ((fun x v => Host.reduceAdd x v reducesTo_S64x64x16_S64x64_d2 h_S_)) v139 cst_19
  let v141 : FVec Ideal S64x64x1 .f32 := shapeCast S64x64x1 v140 shapeCasts_S64x64_S64x64x1
  let cst_20 : FVec Ideal S_ .f32 := constant (F := Ideal) S_ .f32 0x00000000#32
  let v142 : FVec Ideal S64x64 .f32 := ((fun x v => Host.reduceAdd x v reducesTo_S64x64x1_S64x64_d2 h_S_)) v141 cst_20
  let v145 : FVec Ideal S64x64x16 .f32 := (mulf) dbi arg6
  let cst_21 : FVec Ideal S_ .f32 := constant (F := Ideal) S_ .f32 0x00000000#32
  let v146 : FVec Ideal S64x64 .f32 := ((fun x v => Host.reduceAdd x v reducesTo_S64x64x16_S64x64_d2 h_S_)) v145 cst_21
  let v147 : FVec Ideal S64x64x1 .f32 := shapeCast S64x64x1 v146 shapeCasts_S64x64_S64x64x1
  let cst_22 : FVec Ideal S_ .f32 := constant (F := Ideal) S_ .f32 0x00000000#32
  let v148 : FVec Ideal S64x64 .f32 := ((fun x v => Host.reduceAdd x v reducesTo_S64x64x1_S64x64_d2 h_S_)) v147 cst_22
  let v149 : FVec Ideal S64x64x16 .f32 := (Host.negf) dbr
  let v153 : FVec Ideal S64x64x16 .f32 := (mulf) v149 arg6
  let cst_23 : FVec Ideal S_ .f32 := constant (F := Ideal) S_ .f32 0x00000000#32
  let v154 : FVec Ideal S64x64 .f32 := ((fun x v => Host.reduceAdd x v reducesTo_S64x64x16_S64x64_d2 h_S_)) v153 cst_23
  let v155 : FVec Ideal S64x64x1 .f32 := shapeCast S64x64x1 v154 shapeCasts_S64x64_S64x64x1
  let cst_24 : FVec Ideal S_ .f32 := constant (F := Ideal) S_ .f32 0x00000000#32
  let v156 : FVec Ideal S64x64 .f32 := ((fun x v => Host.reduceAdd x v reducesTo_S64x64x1_S64x64_d2 h_S_)) v155 cst_24
  let v157 : FVec Ideal S64x64 .f32 := (addf) v142 v156
  let v161 : FVec Ideal S64x64x16 .f32 := (mulf) dbr arg5
  let cst_25 : FVec Ideal S_ .f32 := constant (F := Ideal) S_ .f32 0x00000000#32
  let v162 : FVec Ideal S64x64 .f32 := ((fun x v => Host.reduceAdd x v reducesTo_S64x64x16_S64x64_d2 h_S_)) v161 cst_25
  let v163 : FVec Ideal S64x64x1 .f32 := shapeCast S64x64x1 v162 shapeCasts_S64x64_S64x64x1
  let cst_26 : FVec Ideal S_ .f32 := constant (F := Ideal) S_ .f32 0x00000000#32
  let v164 : FVec Ideal S64x64 .f32 := ((fun x v => Host.reduceAdd x v reducesTo_S64x64x1_S64x64_d2 h_S_)) v163 cst_26
  let v165 : FVec Ideal S64x64 .f32 := (addf) v148 v164
  let v166 : FVec Ideal S64x64 .f32 := (mulf) v157 v35
  let v167 : FVec Ideal S64x64 .f32 := (mulf) v166 v31
  let v168 : FVec Ideal S64x64 .f32 := (Host.negf) v167
  let v169 : FVec Ideal S64x64 .f32 := (Host.divf) v157 v17
  let v170 : FVec Ideal S64x64 .f32 := (Host.negf) v169
  let v172 : FVec Ideal S64x64 .f32 := (mulf) v170 arg3
  let v173 : FVec Ideal S64x64 .f32 := (addf) dar v172
  let v174 : FVec Ideal S64x64 .f32 := (mulf) v14 v169
  let v175 : FVec Ideal S64x64 .f32 := (mulf) v169 arg2
  let v176 : FVec Ideal S64x64 .f32 := (addf) dai v175
  let v177 : FVec Ideal S64x64 .f32 := (mulf) v165 v26
  let v178 : FVec Ideal S64x64 .f32 := (mulf) v177 v22
  let v179 : FVec Ideal S64x64 .f32 := (Host.negf) v178
  let v180 : FVec Ideal S64x64 .f32 := (addf) v168 v179
  let v181 : FVec Ideal S64x64 .f32 := (Host.divf) v165 v17
  let v184 : FVec Ideal S64x64 .f32 := (mulf) v181 arg3
  let v185 : FVec Ideal S64x64 .f32 := (addf) v176 v184
  let v186 : FVec Ideal S64x64 .f32 := (mulf) v19 v181
  let v187 : FVec Ideal S64x64 .f32 := (addf) v174 v186
  let v188 : FVec Ideal S64x64 .f32 := (mulf) v181 arg2
  let v189 : FVec Ideal S64x64 .f32 := (addf) v173 v188
  let v194 : FVec Ideal S64x64 .f32 := (mulf) arg2 v180
  let v195 : FVec Ideal S64x64 .f32 := (addf) v187 v194
  let v196 : FVec Ideal S64x64 .f32 := (mulf) v180 arg2
  let v197 : FVec Ideal S64x64 .f32 := (addf) v195 v196
  let v199 : FVec Ideal S64x64 .f32 := (mulf) v185 v12
  let v208 : FVec Ideal S64x64 .f32 := (mulf) v189 v7
  let v209 : FVec Ideal S64x64 .f32 := (addf) v199 v208
  let v219 : FVec Ideal S64x64 .f32 := (mulf) v209 v4
  let v224 : FVec Ideal S64x64 .f32 := (broadcastInDim S64x64 ![0, 1] bcast_S64x1_S64x64_0_1) v1
  let v225 : FVec Ideal S64x64 .f32 := (mulf) v219 v224
  let v226 : FVec Ideal S64x64 .f32 := (addf) v197 v225
  v226

set_option maxHeartbeats 2000000 in
theorem tail_gLamRe (V : Valuation τ sig (Elt Ideal)) : after tailOps V (Proc.devRef .tc main_v198)
    = gLamRe (V (Proc.devRef .tc main_arg2)) (V (Proc.devRef .tc main_arg3)) (V (Proc.devRef .tc main_arg5)) (V (Proc.devRef .tc main_arg6)) (V (Proc.devRef .tc main_v1)) (V (Proc.devRef .tc main_v12)) (V (Proc.devRef .tc main_v97_8)) (V (Proc.devRef .tc main_v97_7)) (V (Proc.devRef .tc main_v99)) (V (Proc.devRef .tc main_v103)) (V (Proc.devRef .tc main_v14)) (V (Proc.devRef .tc main_v17)) (V (Proc.devRef .tc main_v19)) (V (Proc.devRef .tc main_v22)) (V (Proc.devRef .tc main_v26)) (V (Proc.devRef .tc main_v31)) (V (Proc.devRef .tc main_v35)) (V (Proc.devRef .tc main_v4)) (V (Proc.devRef .tc main_v7)) := by
  simp only [tailOps, hostOps0_2, List.drop_succ_cons, List.drop_zero]
  after_results
  rfl

/-- The gradient that ends in result `gLamIm`. -/
def gLamIm (arg2 : FVec Ideal S64x64 .f32) (arg3 : FVec Ideal S64x64 .f32) (arg5 : FVec Ideal S64x64x16 .f32) (arg6 : FVec Ideal S64x64x16 .f32) (v1 : FVec Ideal S64x1 .f32) (v13 : FVec Ideal S64x64 .f32) (dai : FVec Ideal S64x64 .f32) (dar : FVec Ideal S64x64 .f32) (dbi : FVec Ideal S64x64x16 .f32) (dbr : FVec Ideal S64x64x16 .f32) (v14 : FVec Ideal S64x64 .f32) (v17 : FVec Ideal S64x64 .f32) (v22 : FVec Ideal S64x64 .f32) (v26 : FVec Ideal S64x64 .f32) (v29 : FVec Ideal S64x64 .f32) (v31 : FVec Ideal S64x64 .f32) (v35 : FVec Ideal S64x64 .f32) (v4 : FVec Ideal S64x64 .f32) (v8 : FVec Ideal S64x64 .f32) : FVec Ideal S64x64 .f32 :=
  let v139 : FVec Ideal S64x64x16 .f32 := (mulf) dbi arg5
  let cst_19 : FVec Ideal S_ .f32 := constant (F := Ideal) S_ .f32 0x00000000#32
  let v140 : FVec Ideal S64x64 .f32 := ((fun x v => Host.reduceAdd x v reducesTo_S64x64x16_S64x64_d2 h_S_)) v139 cst_19
  let v141 : FVec Ideal S64x64x1 .f32 := shapeCast S64x64x1 v140 shapeCasts_S64x64_S64x64x1
  let cst_20 : FVec Ideal S_ .f32 := constant (F := Ideal) S_ .f32 0x00000000#32
  let v142 : FVec Ideal S64x64 .f32 := ((fun x v => Host.reduceAdd x v reducesTo_S64x64x1_S64x64_d2 h_S_)) v141 cst_20
  let v145 : FVec Ideal S64x64x16 .f32 := (mulf) dbi arg6
  let cst_21 : FVec Ideal S_ .f32 := constant (F := Ideal) S_ .f32 0x00000000#32
  let v146 : FVec Ideal S64x64 .f32 := ((fun x v => Host.reduceAdd x v reducesTo_S64x64x16_S64x64_d2 h_S_)) v145 cst_21
  let v147 : FVec Ideal S64x64x1 .f32 := shapeCast S64x64x1 v146 shapeCasts_S64x64_S64x64x1
  let cst_22 : FVec Ideal S_ .f32 := constant (F := Ideal) S_ .f32 0x00000000#32
  let v148 : FVec Ideal S64x64 .f32 := ((fun x v => Host.reduceAdd x v reducesTo_S64x64x1_S64x64_d2 h_S_)) v147 cst_22
  let v149 : FVec Ideal S64x64x16 .f32 := (Host.negf) dbr
  let v153 : FVec Ideal S64x64x16 .f32 := (mulf) v149 arg6
  let cst_23 : FVec Ideal S_ .f32 := constant (F := Ideal) S_ .f32 0x00000000#32
  let v154 : FVec Ideal S64x64 .f32 := ((fun x v => Host.reduceAdd x v reducesTo_S64x64x16_S64x64_d2 h_S_)) v153 cst_23
  let v155 : FVec Ideal S64x64x1 .f32 := shapeCast S64x64x1 v154 shapeCasts_S64x64_S64x64x1
  let cst_24 : FVec Ideal S_ .f32 := constant (F := Ideal) S_ .f32 0x00000000#32
  let v156 : FVec Ideal S64x64 .f32 := ((fun x v => Host.reduceAdd x v reducesTo_S64x64x1_S64x64_d2 h_S_)) v155 cst_24
  let v157 : FVec Ideal S64x64 .f32 := (addf) v142 v156
  let v161 : FVec Ideal S64x64x16 .f32 := (mulf) dbr arg5
  let cst_25 : FVec Ideal S_ .f32 := constant (F := Ideal) S_ .f32 0x00000000#32
  let v162 : FVec Ideal S64x64 .f32 := ((fun x v => Host.reduceAdd x v reducesTo_S64x64x16_S64x64_d2 h_S_)) v161 cst_25
  let v163 : FVec Ideal S64x64x1 .f32 := shapeCast S64x64x1 v162 shapeCasts_S64x64_S64x64x1
  let cst_26 : FVec Ideal S_ .f32 := constant (F := Ideal) S_ .f32 0x00000000#32
  let v164 : FVec Ideal S64x64 .f32 := ((fun x v => Host.reduceAdd x v reducesTo_S64x64x1_S64x64_d2 h_S_)) v163 cst_26
  let v165 : FVec Ideal S64x64 .f32 := (addf) v148 v164
  let v166 : FVec Ideal S64x64 .f32 := (mulf) v157 v35
  let v167 : FVec Ideal S64x64 .f32 := (mulf) v166 v31
  let v168 : FVec Ideal S64x64 .f32 := (Host.negf) v167
  let v169 : FVec Ideal S64x64 .f32 := (Host.divf) v157 v17
  let v170 : FVec Ideal S64x64 .f32 := (Host.negf) v169
  let v171 : FVec Ideal S64x64 .f32 := (mulf) v29 v170
  let v172 : FVec Ideal S64x64 .f32 := (mulf) v170 arg3
  let v173 : FVec Ideal S64x64 .f32 := (addf) dar v172
  let v175 : FVec Ideal S64x64 .f32 := (mulf) v169 arg2
  let v176 : FVec Ideal S64x64 .f32 := (addf) dai v175
  let v177 : FVec Ideal S64x64 .f32 := (mulf) v165 v26
  let v178 : FVec Ideal S64x64 .f32 := (mulf) v177 v22
  let v179 : FVec Ideal S64x64 .f32 := (Host.negf) v178
  let v180 : FVec Ideal S64x64 .f32 := (addf) v168 v179
  let v181 : FVec Ideal S64x64 .f32 := (Host.divf) v165 v17
  let v182 : FVec Ideal S64x64 .f32 := (mulf) v14 v181
  let v183 : FVec Ideal S64x64 .f32 := (addf) v171 v182
  let v184 : FVec Ideal S64x64 .f32 := (mulf) v181 arg3
  let v185 : FVec Ideal S64x64 .f32 := (addf) v176 v184
  let v188 : FVec Ideal S64x64 .f32 := (mulf) v181 arg2
  let v189 : FVec Ideal S64x64 .f32 := (addf) v173 v188
  let v190 : FVec Ideal S64x64 .f32 := (mulf) arg3 v180
  let v191 : FVec Ideal S64x64 .f32 := (addf) v183 v190
  let v192 : FVec Ideal S64x64 .f32 := (mulf) v180 arg3
  let v193 : FVec Ideal S64x64 .f32 := (addf) v191 v192
  let v198 : FVec Ideal S64x64 .f32 := (mulf) v4 v185
  let v200 : FVec Ideal S64x64 .f32 := (mulf) v198 v13
  let v204 : FVec Ideal S64x64 .f32 := (broadcastInDim S64x64 ![0, 1] bcast_S64x1_S64x64_0_1) v1
  let v205 : FVec Ideal S64x64 .f32 := (mulf) v200 v204
  let v206 : FVec Ideal S64x64 .f32 := (addf) v193 v205
  let v207 : FVec Ideal S64x64 .f32 := (mulf) v4 v189
  let v210 : FVec Ideal S64x64 .f32 := (Host.negf) v207
  let v211 : FVec Ideal S64x64 .f32 := (mulf) v210 v8
  let v216 : FVec Ideal S64x64 .f32 := (broadcastInDim S64x64 ![0, 1] bcast_S64x1_S64x64_0_1) v1
  let v217 : FVec Ideal S64x64 .f32 := (mulf) v211 v216
  let v218 : FVec Ideal S64x64 .f32 := (addf) v206 v217
  v218

set_option maxHeartbeats 2000000 in
theorem tail_gLamIm (V : Valuation τ sig (Elt Ideal)) : after tailOps V (Proc.devRef .tc main_v190)
    = gLamIm (V (Proc.devRef .tc main_arg2)) (V (Proc.devRef .tc main_arg3)) (V (Proc.devRef .tc main_arg5)) (V (Proc.devRef .tc main_arg6)) (V (Proc.devRef .tc main_v1)) (V (Proc.devRef .tc main_v13)) (V (Proc.devRef .tc main_v97_8)) (V (Proc.devRef .tc main_v97_7)) (V (Proc.devRef .tc main_v99)) (V (Proc.devRef .tc main_v103)) (V (Proc.devRef .tc main_v14)) (V (Proc.devRef .tc main_v17)) (V (Proc.devRef .tc main_v22)) (V (Proc.devRef .tc main_v26)) (V (Proc.devRef .tc main_v29)) (V (Proc.devRef .tc main_v31)) (V (Proc.devRef .tc main_v35)) (V (Proc.devRef .tc main_v4)) (V (Proc.devRef .tc main_v8)) := by
  simp only [tailOps, hostOps0_2, List.drop_succ_cons, List.drop_zero]
  after_results
  rfl

/-- The gradient that ends in result `gStep`. -/
def gStep (arg2 : FVec Ideal S64x64 .f32) (arg3 : FVec Ideal S64x64 .f32) (arg5 : FVec Ideal S64x64x16 .f32) (arg6 : FVec Ideal S64x64x16 .f32) (v0 : FVec Ideal S64 .f32) (v12 : FVec Ideal S64x64 .f32) (v13 : FVec Ideal S64x64 .f32) (dai : FVec Ideal S64x64 .f32) (dar : FVec Ideal S64x64 .f32) (dbi : FVec Ideal S64x64x16 .f32) (dbr : FVec Ideal S64x64x16 .f32) (v17 : FVec Ideal S64x64 .f32) (v4 : FVec Ideal S64x64 .f32) (v7 : FVec Ideal S64x64 .f32) (v8 : FVec Ideal S64x64 .f32) : FVec Ideal S64 .f32 :=
  let v139 : FVec Ideal S64x64x16 .f32 := (mulf) dbi arg5
  let cst_19 : FVec Ideal S_ .f32 := constant (F := Ideal) S_ .f32 0x00000000#32
  let v140 : FVec Ideal S64x64 .f32 := ((fun x v => Host.reduceAdd x v reducesTo_S64x64x16_S64x64_d2 h_S_)) v139 cst_19
  let v141 : FVec Ideal S64x64x1 .f32 := shapeCast S64x64x1 v140 shapeCasts_S64x64_S64x64x1
  let cst_20 : FVec Ideal S_ .f32 := constant (F := Ideal) S_ .f32 0x00000000#32
  let v142 : FVec Ideal S64x64 .f32 := ((fun x v => Host.reduceAdd x v reducesTo_S64x64x1_S64x64_d2 h_S_)) v141 cst_20
  let v145 : FVec Ideal S64x64x16 .f32 := (mulf) dbi arg6
  let cst_21 : FVec Ideal S_ .f32 := constant (F := Ideal) S_ .f32 0x00000000#32
  let v146 : FVec Ideal S64x64 .f32 := ((fun x v => Host.reduceAdd x v reducesTo_S64x64x16_S64x64_d2 h_S_)) v145 cst_21
  let v147 : FVec Ideal S64x64x1 .f32 := shapeCast S64x64x1 v146 shapeCasts_S64x64_S64x64x1
  let cst_22 : FVec Ideal S_ .f32 := constant (F := Ideal) S_ .f32 0x00000000#32
  let v148 : FVec Ideal S64x64 .f32 := ((fun x v => Host.reduceAdd x v reducesTo_S64x64x1_S64x64_d2 h_S_)) v147 cst_22
  let v149 : FVec Ideal S64x64x16 .f32 := (Host.negf) dbr
  let v153 : FVec Ideal S64x64x16 .f32 := (mulf) v149 arg6
  let cst_23 : FVec Ideal S_ .f32 := constant (F := Ideal) S_ .f32 0x00000000#32
  let v154 : FVec Ideal S64x64 .f32 := ((fun x v => Host.reduceAdd x v reducesTo_S64x64x16_S64x64_d2 h_S_)) v153 cst_23
  let v155 : FVec Ideal S64x64x1 .f32 := shapeCast S64x64x1 v154 shapeCasts_S64x64_S64x64x1
  let cst_24 : FVec Ideal S_ .f32 := constant (F := Ideal) S_ .f32 0x00000000#32
  let v156 : FVec Ideal S64x64 .f32 := ((fun x v => Host.reduceAdd x v reducesTo_S64x64x1_S64x64_d2 h_S_)) v155 cst_24
  let v157 : FVec Ideal S64x64 .f32 := (addf) v142 v156
  let v161 : FVec Ideal S64x64x16 .f32 := (mulf) dbr arg5
  let cst_25 : FVec Ideal S_ .f32 := constant (F := Ideal) S_ .f32 0x00000000#32
  let v162 : FVec Ideal S64x64 .f32 := ((fun x v => Host.reduceAdd x v reducesTo_S64x64x16_S64x64_d2 h_S_)) v161 cst_25
  let v163 : FVec Ideal S64x64x1 .f32 := shapeCast S64x64x1 v162 shapeCasts_S64x64_S64x64x1
  let cst_26 : FVec Ideal S_ .f32 := constant (F := Ideal) S_ .f32 0x00000000#32
  let v164 : FVec Ideal S64x64 .f32 := ((fun x v => Host.reduceAdd x v reducesTo_S64x64x1_S64x64_d2 h_S_)) v163 cst_26
  let v165 : FVec Ideal S64x64 .f32 := (addf) v148 v164
  let v169 : FVec Ideal S64x64 .f32 := (Host.divf) v157 v17
  let v170 : FVec Ideal S64x64 .f32 := (Host.negf) v169
  let v172 : FVec Ideal S64x64 .f32 := (mulf) v170 arg3
  let v173 : FVec Ideal S64x64 .f32 := (addf) dar v172
  let v175 : FVec Ideal S64x64 .f32 := (mulf) v169 arg2
  let v176 : FVec Ideal S64x64 .f32 := (addf) dai v175
  let v181 : FVec Ideal S64x64 .f32 := (Host.divf) v165 v17
  let v184 : FVec Ideal S64x64 .f32 := (mulf) v181 arg3
  let v185 : FVec Ideal S64x64 .f32 := (addf) v176 v184
  let v188 : FVec Ideal S64x64 .f32 := (mulf) v181 arg2
  let v189 : FVec Ideal S64x64 .f32 := (addf) v173 v188
  let v198 : FVec Ideal S64x64 .f32 := (mulf) v4 v185
  let v199 : FVec Ideal S64x64 .f32 := (mulf) v185 v12
  let v200 : FVec Ideal S64x64 .f32 := (mulf) v198 v13
  let v201 : FVec Ideal S64x64 .f32 := (mulf) arg3 v200
  let cst_27 : FVec Ideal S_ .f32 := constant (F := Ideal) S_ .f32 0x00000000#32
  let v202 : FVec Ideal S64 .f32 := ((fun x v => Host.reduceAdd x v reducesTo_S64x64_S64_d1 h_S_)) v201 cst_27
  let v203 : FVec Ideal S64x1 .f32 := shapeCast S64x1 v202 shapeCasts_S64_S64x1
  let v207 : FVec Ideal S64x64 .f32 := (mulf) v4 v189
  let v208 : FVec Ideal S64x64 .f32 := (mulf) v189 v7
  let v209 : FVec Ideal S64x64 .f32 := (addf) v199 v208
  let v210 : FVec Ideal S64x64 .f32 := (Host.negf) v207
  let v211 : FVec Ideal S64x64 .f32 := (mulf) v210 v8
  let v212 : FVec Ideal S64x64 .f32 := (mulf) arg3 v211
  let cst_28 : FVec Ideal S_ .f32 := constant (F := Ideal) S_ .f32 0x00000000#32
  let v213 : FVec Ideal S64 .f32 := ((fun x v => Host.reduceAdd x v reducesTo_S64x64_S64_d1 h_S_)) v212 cst_28
  let v214 : FVec Ideal S64x1 .f32 := shapeCast S64x1 v213 shapeCasts_S64_S64x1
  let v215 : FVec Ideal S64x1 .f32 := (addf) v203 v214
  let v219 : FVec Ideal S64x64 .f32 := (mulf) v209 v4
  let v220 : FVec Ideal S64x64 .f32 := (mulf) arg2 v219
  let cst_29 : FVec Ideal S_ .f32 := constant (F := Ideal) S_ .f32 0x00000000#32
  let v221 : FVec Ideal S64 .f32 := ((fun x v => Host.reduceAdd x v reducesTo_S64x64_S64_d1 h_S_)) v220 cst_29
  let v222 : FVec Ideal S64x1 .f32 := shapeCast S64x1 v221 shapeCasts_S64_S64x1
  let v223 : FVec Ideal S64x1 .f32 := (addf) v215 v222
  let cst_30 : FVec Ideal S_ .f32 := constant (F := Ideal) S_ .f32 0x00000000#32
  let v227 : FVec Ideal S64 .f32 := ((fun x v => Host.reduceAdd x v reducesTo_S64x1_S64_d1 h_S_)) v223 cst_30
  let v228 : FVec Ideal S64 .f32 := (mulf) v227 v0
  v228

set_option maxHeartbeats 2000000 in
theorem tail_gStep (V : Valuation τ sig (Elt Ideal)) : after tailOps V (Proc.devRef .tc main_v200)
    = gStep (V (Proc.devRef .tc main_arg2)) (V (Proc.devRef .tc main_arg3)) (V (Proc.devRef .tc main_arg5)) (V (Proc.devRef .tc main_arg6)) (V (Proc.devRef .tc main_v0)) (V (Proc.devRef .tc main_v12)) (V (Proc.devRef .tc main_v13)) (V (Proc.devRef .tc main_v97_8)) (V (Proc.devRef .tc main_v97_7)) (V (Proc.devRef .tc main_v99)) (V (Proc.devRef .tc main_v103)) (V (Proc.devRef .tc main_v17)) (V (Proc.devRef .tc main_v4)) (V (Proc.devRef .tc main_v7)) (V (Proc.devRef .tc main_v8)) := by
  simp only [tailOps, hostOps0_2, List.drop_succ_cons, List.drop_zero]
  after_results
  rfl

/-- The gradient that ends in result `gBRe`. -/
def gBRe (dbi : FVec Ideal S64x64x16 .f32) (dbr : FVec Ideal S64x64x16 .f32) (v36 : FVec Ideal S64x64x1 .f32) (v46 : FVec Ideal S64x64x1 .f32) : FVec Ideal S64x64x16 .f32 :=
  let v137 : FVec Ideal S64x64x16 .f32 := (broadcastInDim S64x64x16 ![0, 1, 2] bcast_S64x64x1_S64x64x16_0_1_2) v46
  let v138 : FVec Ideal S64x64x16 .f32 := (mulf) v137 dbi
  let v158 : FVec Ideal S64x64x16 .f32 := (broadcastInDim S64x64x16 ![0, 1, 2] bcast_S64x64x1_S64x64x16_0_1_2) v36
  let v159 : FVec Ideal S64x64x16 .f32 := (mulf) v158 dbr
  let v160 : FVec Ideal S64x64x16 .f32 := (addf) v138 v159
  v160

set_option maxHeartbeats 2000000 in
theorem tail_gBRe (V : Valuation τ sig (Elt Ideal)) : after tailOps V (Proc.devRef .tc main_v132)
    = gBRe (V (Proc.devRef .tc main_v99)) (V (Proc.devRef .tc main_v103)) (V (Proc.devRef .tc main_v36)) (V (Proc.devRef .tc main_v46)) := by
  simp only [tailOps, hostOps0_2, List.drop_succ_cons, List.drop_zero]
  after_results
  rfl

/-- The gradient that ends in result `gBIm`. -/
def gBIm (dbi : FVec Ideal S64x64x16 .f32) (dbr : FVec Ideal S64x64x16 .f32) (v39 : FVec Ideal S64x64x1 .f32) (v43 : FVec Ideal S64x64x1 .f32) : FVec Ideal S64x64x16 .f32 :=
  let v143 : FVec Ideal S64x64x16 .f32 := (broadcastInDim S64x64x16 ![0, 1, 2] bcast_S64x64x1_S64x64x16_0_1_2) v43
  let v144 : FVec Ideal S64x64x16 .f32 := (mulf) v143 dbi
  let v149 : FVec Ideal S64x64x16 .f32 := (Host.negf) dbr
  let v150 : FVec Ideal S64x64x16 .f32 := (broadcastInDim S64x64x16 ![0, 1, 2] bcast_S64x64x1_S64x64x16_0_1_2) v39
  let v151 : FVec Ideal S64x64x16 .f32 := (mulf) v150 v149
  let v152 : FVec Ideal S64x64x16 .f32 := (addf) v144 v151
  v152

set_option maxHeartbeats 2000000 in
theorem tail_gBIm (V : Valuation τ sig (Elt Ideal)) : after tailOps V (Proc.devRef .tc main_v124)
    = gBIm (V (Proc.devRef .tc main_v99)) (V (Proc.devRef .tc main_v103)) (V (Proc.devRef .tc main_v39)) (V (Proc.devRef .tc main_v43)) := by
  simp only [tailOps, hostOps0_2, List.drop_succ_cons, List.drop_zero]
  after_results
  rfl

end Cert.ReferenceIdeal.Value
-- ==== Proof.Ends.RefFn.lean ====
/-
  What the reference's host code makes of its values, element by element: the inputs of the two loops and the results.
-/
module

public import proofs.«01_k».proof.Proof.Ref.Run
public import Idealize.ShloMosaic.Lib.Pointwise
public import Idealize.ShloMosaic.Lib.StableHlo.RunRead

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.Tactic
open Idealize.ShloMosaic.StableHlo

/-- Channel `n` of group `g`. -/
def gch (g : Fin 64) (n : Fin 16) : Fin 1024 := ⟨16 * g.val + n.val, by omega⟩

/-- The channels cut into groups. -/
def grouped (u : FVec Ideal S2048x1024 .f32) : FVec Ideal S2048x64x16 .f32 := shapeCast S2048x64x16 u shapeCasts_S2048x1024_S2048x64x16

theorem grouped_apply (u : FVec Ideal S2048x1024 .f32) (t : Fin 2048) (g : Fin 64) (n : Fin 16) : grouped u (ix3 t g n) = u (ix2 t (gch g n)) := by
  unfold grouped gch
  pointwise
  simp only [Nat.mul_comm]

/-- An array read under its own shape. -/
def same (u : FVec Ideal S2048x1024 .f32) : FVec Ideal S2048x1024 .f32 := shapeCast S2048x1024 u shapeCasts_S2048x1024_S2048x1024

theorem same_apply (u : FVec Ideal S2048x1024 .f32) (t : Fin 2048) (n : Fin 1024) : same u (ix2 t n) = u (ix2 t n) := by
  unfold same
  pointwise

/-- The channels of one time taken to the states. -/
def toStates (u : FVec Ideal S2048x64x16 .f32) (b : FVec Ideal S64x64x16 .f32) : FVec Ideal S2048x64x64 .f32 :=
  transpose S2048x64x64 [1, 0, 2] (Host.dotGeneral (F := Ideal) (φ₁ := .f32) (φ₂ := .f32) dot_S2048x64x16_S64x64x16_S64x2048x64_2_2_0_1_1_0 none u b)
    transposes_S64x2048x64_S2048x64x64_1_0_2

theorem toStates_apply (u : FVec Ideal S2048x64x16 .f32) (b : FVec Ideal S64x64x16 .f32) (t : Fin 2048) (g p : Fin 64) :
    toStates u b (ix3 t g p) = ∑ n : Fin 16, (u (ix3 t g n) : EReal) * b (ix3 g p n) := by
  unfold toStates
  pointwise!

/-- Groups before times. -/
def gFirst (u : FVec Ideal S2048x64x16 .f32) : FVec Ideal S64x2048x16 .f32 := transpose S64x2048x16 [1, 0, 2] u transposes_S2048x64x16_S64x2048x16_1_0_2

theorem gFirst_apply (u : FVec Ideal S2048x64x16 .f32) (t : Fin 2048) (g : Fin 64) (n : Fin 16) : gFirst u (ix3 g t n) = u (ix3 t g n) := by
  unfold gFirst
  pointwise

/-- The cotangents of one time taken to the states. -/
def toGrads (y : FVec Ideal S64x2048x16 .f32) (b : FVec Ideal S64x16x64 .f32) : FVec Ideal S2048x64x64 .f32 :=
  transpose S2048x64x64 [1, 0, 2] (Host.dotGeneral (F := Ideal) (φ₁ := .f32) (φ₂ := .f32) dot_S64x2048x16_S64x16x64_S64x2048x64_2_1_1_2_0_0 none y b)
    transposes_S64x2048x64_S2048x64x64_1_0_2

theorem toGrads_apply (y : FVec Ideal S64x2048x16 .f32) (b : FVec Ideal S64x16x64 .f32) (t : Fin 2048) (g p : Fin 64) :
    toGrads y b (ix3 t g p) = ∑ n : Fin 16, (y (ix3 g t n) : EReal) * b (ix3 g n p) := by
  unfold toGrads
  pointwise!

/-- The gradient of an output map. -/
def outMap (y : FVec Ideal S64x2048x16 .f32) (x : FVec Ideal S2048x64x64 .f32) : FVec Ideal S64x16x64 .f32 :=
  Host.dotGeneral (F := Ideal) (φ₁ := .f32) (φ₂ := .f32) dot_S64x2048x16_S2048x64x64_S64x16x64_1_0_2_2_0_1 none y x

theorem outMap_apply (y : FVec Ideal S64x2048x16 .f32) (x : FVec Ideal S2048x64x64 .f32) (g : Fin 64) (n : Fin 16) (p : Fin 64) :
    outMap y x (ix3 g n p) = ∑ t : Fin 2048, (y (ix3 g t n) : EReal) * x (ix3 t g p) := by
  unfold outMap
  pointwise!

/-- The gradient of an input map. -/
def inMap (x : FVec Ideal S2048x64x64 .f32) (u : FVec Ideal S2048x64x16 .f32) : FVec Ideal S64x64x16 .f32 :=
  Host.dotGeneral (F := Ideal) (φ₁ := .f32) (φ₂ := .f32) dot_S64x2048x64_S2048x64x16_S64x64x16_1_0_2_2_0_1 none
    (transpose S64x2048x64 [1, 0, 2] x transposes_S2048x64x64_S64x2048x64_1_0_2) u

theorem inMap_apply (x : FVec Ideal S2048x64x64 .f32) (u : FVec Ideal S2048x64x16 .f32) (g p : Fin 64) (n : Fin 16) :
    inMap x u (ix3 g p n) = ∑ t : Fin 2048, (x (ix3 t g p) : EReal) * u (ix3 t g n) := by
  unfold inMap
  pointwise!

/-- The gradients of the states of one time taken to the channels. -/
def toChans (x : FVec Ideal S2048x64x64 .f32) (b : FVec Ideal S64x64x16 .f32) : FVec Ideal S2048x64x16 .f32 :=
  transpose S2048x64x16 [1, 0, 2] (Host.dotGeneral (F := Ideal) (φ₁ := .f32) (φ₂ := .f32) dot_S64x2048x64_S64x64x16_S64x2048x16_2_1_1_2_0_0 none
    (transpose S64x2048x64 [1, 0, 2] x transposes_S2048x64x64_S64x2048x64_1_0_2) b) transposes_S64x2048x16_S2048x64x16_1_0_2

theorem toChans_apply (x : FVec Ideal S2048x64x64 .f32) (b : FVec Ideal S64x64x16 .f32) (t : Fin 2048) (g : Fin 64) (n : Fin 16) :
    toChans x b (ix3 t g n) = ∑ p : Fin 64, (x (ix3 t g p) : EReal) * b (ix3 g p n) := by
  unfold toChans
  pointwise!

/-- The groups' channels side by side. -/
def flat (x : FVec Ideal S2048x64x16 .f32) : FVec Ideal S2048x1024 .f32 := shapeCast S2048x1024 x shapeCasts_S2048x64x16_S2048x1024

theorem flat_apply (x : FVec Ideal S2048x64x16 .f32) (t : Fin 2048) (n : Fin 1024) :
    flat x (ix2 t n) = x (ix3 t ⟨n.val / 16, by omega⟩ ⟨n.val % 16, by omega⟩) := by
  unfold flat
  pointwise

/-- The skip's part of the gradient of the layer's input. -/
def skip (d : FVec Ideal S1024 .f32) (dy : FVec Ideal S2048x1024 .f32) : FVec Ideal S2048x1024 .f32 :=
  mulf (broadcastInDim S2048x1024 ![0, 1] bcast_S1x1024_S2048x1024_0_1 (broadcastInDim S1x1024 ![1] bcast_S1024_S1x1024_1 d))
    (shapeCast S2048x1024 dy shapeCasts_S2048x1024_S2048x1024)

theorem skip_apply (d : FVec Ideal S1024 .f32) (dy : FVec Ideal S2048x1024 .f32) (t : Fin 2048) (n : Fin 1024) :
    skip d dy (ix2 t n) = (d (ix1 n) : EReal) * dy (ix2 t n) := by
  unfold skip
  pointwise

/-- The gradient of the skip. -/
def skipGrad (dy u : FVec Ideal S2048x1024 .f32) : FVec Ideal S1024 .f32 :=
  Host.reduceAdd (shapeCast S1x1024 (Host.reduceAdd (mulf (shapeCast S2048x1024 dy shapeCasts_S2048x1024_S2048x1024) u)
    (constant (F := Ideal) S_ .f32 0x00000000#32) reducesTo_S2048x1024_S1024_d0 h_S_) shapeCasts_S1024_S1x1024)
    (constant (F := Ideal) S_ .f32 0x00000000#32) reducesTo_S1x1024_S1024_d0 h_S_

theorem skipGrad_apply (dy u : FVec Ideal S2048x1024 .f32) (n : Fin 1024) :
    skipGrad dy u (ix1 n) = ∑ t : Fin 2048, (dy (ix2 t n) : EReal) * u (ix2 t n) := by
  unfold skipGrad
  pointwise
  simp only [Finset.univ_unique, Finset.sum_const, Finset.card_singleton, one_smul]

/-- A level of zeros. -/
def zeros : FVec Ideal S64x64 .f32 := broadcastInDim S64x64 ![] bcast_S_S64x64 (constant (F := Ideal) S_ .f32 0x00000000#32)

theorem zeros_apply (g p : Fin 64) : zeros (ix2 g p) = (0 : EReal) := by
  unfold zeros
  pointwise

end Cert.ReferenceIdeal.Value
-- ==== Proof.Ends.OutR.lean ====
/-
  What the reference's host code makes of its values, element by element: the inputs of the two loops and the results.
-/
module

public import proofs.«01_k».proof.Proof.Ends.TailR
public import proofs.«01_k».proof.Proof.Ends.PreR
public import proofs.«01_k».proof.Proof.Ends.RefFn

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.Tactic
open Idealize.ShloMosaic.StableHlo

variable (V : Valuation τ sig (Elt Ideal))

/-- The operations between the loop and the gradient of the discretisation. -/
abbrev headOps : List (HloOp τ sig (Elt Ideal)) := List.take 11 hostOps0_2

theorem after_split (b : DevRef τ sig) : after (hostOps0_2 (F := Ideal)) V b = after tailOps (after headOps V) b := by
  rw [show (hostOps0_2 (F := Ideal)) = headOps ++ tailOps from (List.take_append_drop 11 hostOps0_2).symm, after_append]

set_option maxHeartbeats 2000000 in
theorem v99_eq : after headOps V (Proc.devRef .tc main_v99) = inMap (V (Proc.devRef .tc main_v97_12)) (V (Proc.devRef .tc main_v50)) := by
  simp only [headOps, hostOps0_2, List.take_succ_cons, List.take_zero]
  after_results
  rfl

set_option maxHeartbeats 2000000 in
theorem v103_eq : after headOps V (Proc.devRef .tc main_v103) = inMap (V (Proc.devRef .tc main_v97_11)) (V (Proc.devRef .tc main_v50)) := by
  simp only [headOps, hostOps0_2, List.take_succ_cons, List.take_zero]
  after_results
  rfl

set_option maxHeartbeats 2000000 in
theorem v108_eq : after hostOps0_2 V (Proc.devRef .tc main_v108) = addf (V (Proc.devRef .tc main_v76)) (flat (addf (toChans (V (Proc.devRef .tc main_v97_12)) (V (Proc.devRef .tc main_v49))) (toChans (V (Proc.devRef .tc main_v97_11)) (V (Proc.devRef .tc main_v42))))) := by
  after_results
  rfl

theorem head_arg2 : after headOps V (Proc.devRef .tc main_arg2) = V (Proc.devRef .tc main_arg2) := by
  simp only [headOps, hostOps0_2, List.take_succ_cons, List.take_zero]
  after_results

theorem head_arg3 : after headOps V (Proc.devRef .tc main_arg3) = V (Proc.devRef .tc main_arg3) := by
  simp only [headOps, hostOps0_2, List.take_succ_cons, List.take_zero]
  after_results

theorem head_arg5 : after headOps V (Proc.devRef .tc main_arg5) = V (Proc.devRef .tc main_arg5) := by
  simp only [headOps, hostOps0_2, List.take_succ_cons, List.take_zero]
  after_results

theorem head_arg6 : after headOps V (Proc.devRef .tc main_arg6) = V (Proc.devRef .tc main_arg6) := by
  simp only [headOps, hostOps0_2, List.take_succ_cons, List.take_zero]
  after_results

theorem head_v0 : after headOps V (Proc.devRef .tc main_v0) = V (Proc.devRef .tc main_v0) := by
  simp only [headOps, hostOps0_2, List.take_succ_cons, List.take_zero]
  after_results

theorem head_v1 : after headOps V (Proc.devRef .tc main_v1) = V (Proc.devRef .tc main_v1) := by
  simp only [headOps, hostOps0_2, List.take_succ_cons, List.take_zero]
  after_results

theorem head_v4 : after headOps V (Proc.devRef .tc main_v4) = V (Proc.devRef .tc main_v4) := by
  simp only [headOps, hostOps0_2, List.take_succ_cons, List.take_zero]
  after_results

theorem head_v7 : after headOps V (Proc.devRef .tc main_v7) = V (Proc.devRef .tc main_v7) := by
  simp only [headOps, hostOps0_2, List.take_succ_cons, List.take_zero]
  after_results

theorem head_v8 : after headOps V (Proc.devRef .tc main_v8) = V (Proc.devRef .tc main_v8) := by
  simp only [headOps, hostOps0_2, List.take_succ_cons, List.take_zero]
  after_results

theorem head_v12 : after headOps V (Proc.devRef .tc main_v12) = V (Proc.devRef .tc main_v12) := by
  simp only [headOps, hostOps0_2, List.take_succ_cons, List.take_zero]
  after_results

theorem head_v13 : after headOps V (Proc.devRef .tc main_v13) = V (Proc.devRef .tc main_v13) := by
  simp only [headOps, hostOps0_2, List.take_succ_cons, List.take_zero]
  after_results

theorem head_v14 : after headOps V (Proc.devRef .tc main_v14) = V (Proc.devRef .tc main_v14) := by
  simp only [headOps, hostOps0_2, List.take_succ_cons, List.take_zero]
  after_results

theorem head_v17 : after headOps V (Proc.devRef .tc main_v17) = V (Proc.devRef .tc main_v17) := by
  simp only [headOps, hostOps0_2, List.take_succ_cons, List.take_zero]
  after_results

theorem head_v19 : after headOps V (Proc.devRef .tc main_v19) = V (Proc.devRef .tc main_v19) := by
  simp only [headOps, hostOps0_2, List.take_succ_cons, List.take_zero]
  after_results

theorem head_v22 : after headOps V (Proc.devRef .tc main_v22) = V (Proc.devRef .tc main_v22) := by
  simp only [headOps, hostOps0_2, List.take_succ_cons, List.take_zero]
  after_results

theorem head_v26 : after headOps V (Proc.devRef .tc main_v26) = V (Proc.devRef .tc main_v26) := by
  simp only [headOps, hostOps0_2, List.take_succ_cons, List.take_zero]
  after_results

theorem head_v29 : after headOps V (Proc.devRef .tc main_v29) = V (Proc.devRef .tc main_v29) := by
  simp only [headOps, hostOps0_2, List.take_succ_cons, List.take_zero]
  after_results

theorem head_v31 : after headOps V (Proc.devRef .tc main_v31) = V (Proc.devRef .tc main_v31) := by
  simp only [headOps, hostOps0_2, List.take_succ_cons, List.take_zero]
  after_results

theorem head_v35 : after headOps V (Proc.devRef .tc main_v35) = V (Proc.devRef .tc main_v35) := by
  simp only [headOps, hostOps0_2, List.take_succ_cons, List.take_zero]
  after_results

theorem head_v36 : after headOps V (Proc.devRef .tc main_v36) = V (Proc.devRef .tc main_v36) := by
  simp only [headOps, hostOps0_2, List.take_succ_cons, List.take_zero]
  after_results

theorem head_v39 : after headOps V (Proc.devRef .tc main_v39) = V (Proc.devRef .tc main_v39) := by
  simp only [headOps, hostOps0_2, List.take_succ_cons, List.take_zero]
  after_results

theorem head_v43 : after headOps V (Proc.devRef .tc main_v43) = V (Proc.devRef .tc main_v43) := by
  simp only [headOps, hostOps0_2, List.take_succ_cons, List.take_zero]
  after_results

theorem head_v46 : after headOps V (Proc.devRef .tc main_v46) = V (Proc.devRef .tc main_v46) := by
  simp only [headOps, hostOps0_2, List.take_succ_cons, List.take_zero]
  after_results

theorem head_v97_7 : after headOps V (Proc.devRef .tc main_v97_7) = V (Proc.devRef .tc main_v97_7) := by
  simp only [headOps, hostOps0_2, List.take_succ_cons, List.take_zero]
  after_results

theorem head_v97_8 : after headOps V (Proc.devRef .tc main_v97_8) = V (Proc.devRef .tc main_v97_8) := by
  simp only [headOps, hostOps0_2, List.take_succ_cons, List.take_zero]
  after_results

end Cert.ReferenceIdeal.Value
-- ==== Proof.Ends.InR.lean ====
/-
  What the reference's host code makes of its values, element by element: the inputs of the two loops and the results.
-/
module

public import proofs.«01_k».proof.Proof.Ends.TailR
public import proofs.«01_k».proof.Proof.Ends.PreR
public import proofs.«01_k».proof.Proof.Ends.RefFn

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.Tactic
open Idealize.ShloMosaic.StableHlo

variable (V : Valuation τ sig (Elt Ideal))

set_option maxHeartbeats 2000000 in
theorem v50_eq : after hostOps0 V (Proc.devRef .tc main_v50) = grouped (V (Proc.devRef .tc main_arg0)) := by
  after_results
  rfl

set_option maxHeartbeats 2000000 in
theorem v60_0_eq : after hostOps0 V (Proc.devRef .tc main_v60_0) = toStates (grouped (V (Proc.devRef .tc main_arg0))) (after hostOps0 V (Proc.devRef .tc main_v42)) := by
  rw [pre42_eq]
  after_results
  rfl

set_option maxHeartbeats 2000000 in
theorem v60_1_eq : after hostOps0 V (Proc.devRef .tc main_v60_1) = toStates (grouped (V (Proc.devRef .tc main_arg0))) (after hostOps0 V (Proc.devRef .tc main_v49)) := by
  rw [pre49_eq]
  after_results
  rfl

set_option maxHeartbeats 2000000 in
theorem v60_2_eq : after hostOps0 V (Proc.devRef .tc main_v60_2) = after hostOps0 V (Proc.devRef .tc main_v9) := by
  rw [pre9_eq]
  after_results
  rfl

set_option maxHeartbeats 2000000 in
theorem v60_3_eq : after hostOps0 V (Proc.devRef .tc main_v60_3) = after hostOps0 V (Proc.devRef .tc main_v14) := by
  rw [pre14_eq]
  after_results
  rfl

set_option maxHeartbeats 2000000 in
theorem v60_5_eq : after hostOps0 V (Proc.devRef .tc main_v60_5) = zeros := by
  after_results
  rfl

set_option maxHeartbeats 2000000 in
theorem v60_6_eq : after hostOps0 V (Proc.devRef .tc main_v60_6) = zeros := by
  after_results
  rfl

end Cert.ReferenceIdeal.Value
-- ==== Proof.Ends.MidR.lean ====
/-
  What the reference's host code makes of its values, element by element: the inputs of the two loops and the results.
-/
module

public import proofs.«01_k».proof.Proof.Ends.TailR
public import proofs.«01_k».proof.Proof.Ends.PreR
public import proofs.«01_k».proof.Proof.Ends.RefFn

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.Tactic
open Idealize.ShloMosaic.StableHlo

variable (V : Valuation τ sig (Elt Ideal))

set_option maxHeartbeats 2000000 in
theorem v76_eq : after hostOps0_1 V (Proc.devRef .tc main_v76) = skip (V (Proc.devRef .tc main_arg9)) (V (Proc.devRef .tc main_arg1)) := by
  after_results
  rfl

set_option maxHeartbeats 2000000 in
theorem v80_eq : after hostOps0_1 V (Proc.devRef .tc main_v80) = skipGrad (V (Proc.devRef .tc main_arg1)) (V (Proc.devRef .tc main_arg0)) := by
  after_results
  rfl

set_option maxHeartbeats 2000000 in
theorem v84_eq : after hostOps0_1 V (Proc.devRef .tc main_v84) = outMap (gFirst (Host.negf (grouped (same (V (Proc.devRef .tc main_arg1)))))) (V (Proc.devRef .tc main_v60_8)) := by
  after_results
  rfl

set_option maxHeartbeats 2000000 in
theorem v88_eq : after hostOps0_1 V (Proc.devRef .tc main_v88) = outMap (gFirst (grouped (same (V (Proc.devRef .tc main_arg1))))) (V (Proc.devRef .tc main_v60_7)) := by
  after_results
  rfl

set_option maxHeartbeats 2000000 in
theorem v97_0_eq : after hostOps0_1 V (Proc.devRef .tc main_v97_0) = toGrads (gFirst (grouped (same (V (Proc.devRef .tc main_arg1))))) (V (Proc.devRef .tc main_arg7)) := by
  after_results
  rfl

set_option maxHeartbeats 2000000 in
theorem v97_1_eq : after hostOps0_1 V (Proc.devRef .tc main_v97_1) = toGrads (gFirst (Host.negf (grouped (same (V (Proc.devRef .tc main_arg1)))))) (V (Proc.devRef .tc main_arg8)) := by
  after_results
  rfl

set_option maxHeartbeats 2000000 in
theorem v97_2_eq : after hostOps0_1 V (Proc.devRef .tc main_v97_2) = (V (Proc.devRef .tc main_v60_9)) := by
  after_results
  rfl

set_option maxHeartbeats 2000000 in
theorem v97_3_eq : after hostOps0_1 V (Proc.devRef .tc main_v97_3) = (V (Proc.devRef .tc main_v60_10)) := by
  after_results
  rfl

set_option maxHeartbeats 2000000 in
theorem v97_4_eq : after hostOps0_1 V (Proc.devRef .tc main_v97_4) = (V (Proc.devRef .tc main_v9)) := by
  after_results
  rfl

set_option maxHeartbeats 2000000 in
theorem v97_5_eq : after hostOps0_1 V (Proc.devRef .tc main_v97_5) = (V (Proc.devRef .tc main_v14)) := by
  after_results
  rfl

set_option maxHeartbeats 2000000 in
theorem v97_7_eq : after hostOps0_1 V (Proc.devRef .tc main_v97_7) = zeros := by
  after_results
  rfl

set_option maxHeartbeats 2000000 in
theorem v97_8_eq : after hostOps0_1 V (Proc.devRef .tc main_v97_8) = zeros := by
  after_results
  rfl

set_option maxHeartbeats 2000000 in
theorem v97_9_eq : after hostOps0_1 V (Proc.devRef .tc main_v97_9) = zeros := by
  after_results
  rfl

set_option maxHeartbeats 2000000 in
theorem v97_10_eq : after hostOps0_1 V (Proc.devRef .tc main_v97_10) = zeros := by
  after_results
  rfl

end Cert.ReferenceIdeal.Value
-- ==== Proof.Ref.Slice.lean ====
module

public import proofs.«01_k».proof.Proof.Ref.Kept
public import Idealize.ShloMosaic.Lib.Pointwise
public import Idealize.ShloMosaic.Lib.StableHlo.RunRead
public import Idealize.ShloMosaic.Lib.WordCmp
public import proofs.«01_k».proof.Defs

/-! One step of a time series held in an array of all times: reading it, and writing it. -/

@[expose] public section

set_option maxRecDepth 16384

noncomputable section

namespace Cert.ReferenceIdeal.Value

open Cert.ReferenceIdeal Cert.ReferenceIdeal.Gen Cert.TwoLoops
open Idealize.ShloMosaic Idealize.ShloMosaic.TcCoe Idealize.ShloMosaic.Tactic
open Idealize.ShloMosaic.StableHlo Idealize.ShloMosaic.WordCmp

/-- A series: one value for each time, group and state. -/
abbrev Ser : Type := S2048x64x64.Idx → EReal

/-- One step of a series. -/
abbrev Lvl : Type := S64x64.Idx → EReal

/-- A step's entry. -/
abbrev lv (X : Lvl) (g p : Fin 64) : EReal := X (ix2 g p)

/-- A series' entry. -/
abbrev sr (X : Ser) (t : Fin 2048) (g p : Fin 64) : EReal := X (ix3 t g p)

/-- The slice at time `k`, with its leading axis dropped, is the series at time `k`. -/
theorem level_of (X : Ser) (st : Fin 3 → Int) (k : ℕ) (hk : k < 2048) (h0 : st 0 = k) (h1 : st 1 = 0) (h2 : st 2 = 0)
    (h : S2048x64x64.Slices (fun _ => 0) S1x64x64) (h' : S1x64x64.ShapeCasts S64x64) (g p : Fin 64) :
    shapeCast S64x64 (Host.dynamicSlice S1x64x64 X st h) h' (ix2 g p) = X (ix3 (⟨k, hk⟩ : Fin 2048) g p) := by
  have e : Host.dynamicSlice S1x64x64 X st h
      = extractStridedSlice S1x64x64 ![k, 0, 0] X ⟨rfl, fun a => by
          fin_cases a
          · show k + 1 ≤ 2048; omega
          · show 0 + 64 ≤ 64; omega
          · show 0 + 64 ≤ 64; omega⟩ := by
    refine dynamicSlice_eq_extract S1x64x64 X st h ![k, 0, 0] _ fun a => ?_
    fin_cases a
    · exact h0
    · exact h1
    · exact h2
  rw [e]
  pointwise

/-- Writing one step at time `k` changes the series there, and only there. -/
theorem put_at (X : Ser) (Y : Lvl) (st : Fin 3 → Int) (k : ℕ) (hk : k < 2048) (h0 : st 0 = k) (h1 : st 1 = 0)
    (h2 : st 2 = 0) (h : S2048x64x64.Slices (fun _ => 0) S1x64x64)
    (h' : S64x64.BroadcastsInDim S1x64x64 (![1, 2] : Fin 2 → Fin S1x64x64.rank)) (t : Fin 2048) (g p : Fin 64) :
    Host.dynamicUpdateSlice X (broadcastInDim S1x64x64 ![1, 2] h' Y) st h (ix3 t g p)
      = if t.val = k then Y (ix2 g p) else X (ix3 t g p) := by
  have e : Host.dynamicUpdateSlice X (broadcastInDim S1x64x64 ![1, 2] h' Y) st h
      = updateSlice X (broadcastInDim S1x64x64 ![1, 2] h' Y) ![k, 0, 0] ⟨rfl, fun a => by
          fin_cases a
          · show k + 1 ≤ 2048; omega
          · show 0 + 64 ≤ 64; omega
          · show 0 + 64 ≤ 64; omega⟩ := by
    refine dynamicUpdateSlice_eq_update X _ st h ![k, 0, 0] _ fun a => ?_
    fin_cases a
    · exact h0
    · exact h1
    · exact h2
  rw [e]
  unfold updateSlice
  by_cases hc : t.val = k
  · rw [if_pos hc, dif_pos]
    · refine congrArg Y ?_
      funext a
      fin_cases a
      · apply Fin.ext; show g.val - 0 = g.val; omega
      · apply Fin.ext; show p.val - 0 = p.val; omega
    · intro a
      fin_cases a
      · show k ≤ t.val ∧ t.val < k + 1; omega
      · show 0 ≤ g.val ∧ g.val < 0 + 64; omega
      · show 0 ≤ p.val ∧ p.val < 0 + 64; omega
  · rw [if_neg hc, dif_neg]
    intro hh
    have := hh 0
    have h1 : k ≤ t.val ∧ t.val < k + 1 := this
    omega

/-- The count of a loop from zero in steps of one. -/
theorem iv_toInt (k : ℕ) (hk : k < 2048) : (Scf.iv (0#32) (1#32) k).toInt = k := by
  unfold Scf.iv
  rw [BitVec.zero_add, BitVec.mul_one]
  exact toInt_ofNat_of_lt (by omega)

/-- The time the backward loop visits at its step `k`. -/
theorem rev_toInt (k : ℕ) (hk : k < 2048) :
    (IntOp.subi (IntOp.subi (2048#32) (Scf.iv (0#32) (1#32) k)) (1#32)).toInt = ((2047 - k : ℕ) : Int) := by
  have e : IntOp.subi (IntOp.subi (2048#32) (Scf.iv (0#32) (1#32) k)) (1#32) = BitVec.ofNat 32 (2047 - k) := by
    unfold Scf.iv
    rw [BitVec.zero_add, BitVec.mul_one]
    apply BitVec.eq_of_toNat_eq
    simp only [IntOp.subi, BitVec.toNat_sub, BitVec.toNat_ofNat]
    omega
  rw [e]
  exact toInt_ofNat_of_lt (by omega)

end Cert.ReferenceIdeal.Value
-- ==== Proof.Ref.Fwd.lean ====
module

public import proofs.«01_k».proof.Proof.Ref.Slice

/-! One step of the reference's loop forward in time. -/

@[expose] public section

set_option maxRecDepth 16384

noncomputable section

namespace Cert.ReferenceIdeal.Value

open Cert.ReferenceIdeal Cert.ReferenceIdeal.Gen Cert.TwoLoops
open Idealize.ShloMosaic Idealize.ShloMosaic.TcCoe Idealize.ShloMosaic.Tactic
open Idealize.ShloMosaic.StableHlo

/-- The step's two slices read. -/
abbrev fwdRead (V : Valuation τ sig (Elt Ideal)) : Valuation τ sig (Elt Ideal) := after while0Ops0_1 (after while0Ops0 (after fwdCond V))

/-- The rest of the step. -/
abbrev fwdRest (W : Valuation τ sig (Elt Ideal)) : Valuation τ sig (Elt Ideal) := after while0Ops0_7 (after while0Ops0_6 (after while0Ops0_5 (after while0Ops0_4 (after while0Ops0_3 (after while0Ops0_2 W)))))

theorem fwd_split (V : Valuation τ sig (Elt Ideal)) : afterL fwdI (after fwdCond V) = fwdRest (fwdRead V) := by
  simp only [afterL_cons, afterL_nil]

section
variable (W : Valuation τ sig (Elt Ideal))

set_option maxHeartbeats 1000000 in
theorem rest_re (g p : Fin 64) : lv (fwdRest W (Proc.devRef .tc main_v60_5)) g p
    = (lv (W (Proc.devRef .tc main_v60_2)) g p * lv (W (Proc.devRef .tc main_v60_5)) g p - lv (W (Proc.devRef .tc main_v60_3)) g p * lv (W (Proc.devRef .tc main_v60_6)) g p)
      + lv (W (Proc.devRef .tc main_while0b_v201)) g p := by
  unfold fwdRest
  after_reads_simp
  rfl

set_option maxHeartbeats 1000000 in
theorem rest_im (g p : Fin 64) : lv (fwdRest W (Proc.devRef .tc main_v60_6)) g p
    = (lv (W (Proc.devRef .tc main_v60_2)) g p * lv (W (Proc.devRef .tc main_v60_6)) g p + lv (W (Proc.devRef .tc main_v60_3)) g p * lv (W (Proc.devRef .tc main_v60_5)) g p)
      + lv (W (Proc.devRef .tc main_while0b_v202)) g p := by
  unfold fwdRest
  after_reads_simp
  rfl

section
variable (k : ℕ) (hk : k < 2048) (hc : W (Proc.devRef .tc main_v60_4) = fun _ => Scf.iv 0#32 1#32 k)
include hk hc

set_option maxHeartbeats 1000000 in
theorem put_seen_re (t : Fin 2048) (g p : Fin 64) :
    sr (after while0Ops0_7 (after while0Ops0_6 (after while0Ops0_5 (after while0Ops0_4 (after while0Ops0_3 W)))) (Proc.devRef .tc main_v60_7)) t g p
    = if t.val = k then lv (W (Proc.devRef .tc main_while0b_v206)) g p else sr (W (Proc.devRef .tc main_v60_7)) t g p := by
  after_reads_simp
  refine put_at _ _ _ k hk ?_ ?_ ?_ updateFits_S2048x64x64_S1x64x64 bcast_S64x64_S1x64x64_1_2 t g p
  · exact (congrArg BitVec.toInt (congrFun hc _)).trans (iv_toInt k hk)
  · rfl
  · rfl

set_option maxHeartbeats 1000000 in
theorem put_seen_im (t : Fin 2048) (g p : Fin 64) :
    sr (after while0Ops0_7 (after while0Ops0_6 (after while0Ops0_5 (after while0Ops0_4 (after while0Ops0_3 W)))) (Proc.devRef .tc main_v60_8)) t g p
    = if t.val = k then lv (W (Proc.devRef .tc main_while0b_v210)) g p else sr (W (Proc.devRef .tc main_v60_8)) t g p := by
  after_reads_simp
  refine put_at _ _ _ k hk ?_ ?_ ?_ updateFits_S2048x64x64_S1x64x64 bcast_S64x64_S1x64x64_1_2 t g p
  · exact (congrArg BitVec.toInt (congrFun hc _)).trans (iv_toInt k hk)
  · rfl
  · rfl

set_option maxHeartbeats 1000000 in
theorem put_prev_re (t : Fin 2048) (g p : Fin 64) :
    sr (after while0Ops0_7 (after while0Ops0_6 (after while0Ops0_5 (after while0Ops0_4 (after while0Ops0_3 W)))) (Proc.devRef .tc main_v60_9)) t g p
    = if t.val = k then lv (W (Proc.devRef .tc main_v60_5)) g p else sr (W (Proc.devRef .tc main_v60_9)) t g p := by
  after_reads_simp
  refine put_at _ _ _ k hk ?_ ?_ ?_ updateFits_S2048x64x64_S1x64x64 bcast_S64x64_S1x64x64_1_2 t g p
  · exact (congrArg BitVec.toInt (congrFun hc _)).trans (iv_toInt k hk)
  · rfl
  · rfl

set_option maxHeartbeats 1000000 in
theorem put_prev_im (t : Fin 2048) (g p : Fin 64) :
    sr (after while0Ops0_7 (after while0Ops0_6 (after while0Ops0_5 (after while0Ops0_4 (after while0Ops0_3 W)))) (Proc.devRef .tc main_v60_10)) t g p
    = if t.val = k then lv (W (Proc.devRef .tc main_v60_6)) g p else sr (W (Proc.devRef .tc main_v60_10)) t g p := by
  after_reads_simp
  refine put_at _ _ _ k hk ?_ ?_ ?_ updateFits_S2048x64x64_S1x64x64 bcast_S64x64_S1x64x64_1_2 t g p
  · exact (congrArg BitVec.toInt (congrFun hc _)).trans (iv_toInt k hk)
  · rfl
  · rfl

end

end

section
variable (V : Valuation τ sig (Elt Ideal))

theorem read_2 : fwdRead V (Proc.devRef .tc main_v60_2) = V (Proc.devRef .tc main_v60_2) := by
  unfold fwdRead
  after_reads_simp

theorem read_3 : fwdRead V (Proc.devRef .tc main_v60_3) = V (Proc.devRef .tc main_v60_3) := by
  unfold fwdRead
  after_reads_simp

theorem read_4 : fwdRead V (Proc.devRef .tc main_v60_4) = V (Proc.devRef .tc main_v60_4) := by
  unfold fwdRead
  after_reads_simp

theorem read_5 : fwdRead V (Proc.devRef .tc main_v60_5) = V (Proc.devRef .tc main_v60_5) := by
  unfold fwdRead
  after_reads_simp

theorem read_6 : fwdRead V (Proc.devRef .tc main_v60_6) = V (Proc.devRef .tc main_v60_6) := by
  unfold fwdRead
  after_reads_simp

theorem read_7 : fwdRead V (Proc.devRef .tc main_v60_7) = V (Proc.devRef .tc main_v60_7) := by
  unfold fwdRead
  after_reads_simp

theorem read_8 : fwdRead V (Proc.devRef .tc main_v60_8) = V (Proc.devRef .tc main_v60_8) := by
  unfold fwdRead
  after_reads_simp

theorem read_9 : fwdRead V (Proc.devRef .tc main_v60_9) = V (Proc.devRef .tc main_v60_9) := by
  unfold fwdRead
  after_reads_simp

theorem read_10 : fwdRead V (Proc.devRef .tc main_v60_10) = V (Proc.devRef .tc main_v60_10) := by
  unfold fwdRead
  after_reads_simp

variable (k : ℕ) (hk : k < 2048) (hc : V (Proc.devRef .tc main_v60_4) = fun _ => Scf.iv 0#32 1#32 k)
include hk hc

set_option maxHeartbeats 1000000 in
theorem read_v201 (g p : Fin 64) : lv (fwdRead V (Proc.devRef .tc main_while0b_v201)) g p = sr (V (Proc.devRef .tc main_v60_0)) ⟨k, hk⟩ g p := by
  unfold fwdRead
  after_reads_simp
  refine level_of _ _ k hk ?_ ?_ ?_ sliceFits_S2048x64x64_S1x64x64 shapeCasts_S1x64x64_S64x64 g p
  · exact (congrArg BitVec.toInt (congrFun hc _)).trans (iv_toInt k hk)
  · rfl
  · rfl

set_option maxHeartbeats 1000000 in
theorem read_v202 (g p : Fin 64) : lv (fwdRead V (Proc.devRef .tc main_while0b_v202)) g p = sr (V (Proc.devRef .tc main_v60_1)) ⟨k, hk⟩ g p := by
  unfold fwdRead
  after_reads_simp
  refine level_of _ _ k hk ?_ ?_ ?_ sliceFits_S2048x64x64_S1x64x64 shapeCasts_S1x64x64_S64x64 g p
  · exact (congrArg BitVec.toInt (congrFun hc _)).trans (iv_toInt k hk)
  · rfl
  · rfl

theorem fwd_re (g p : Fin 64) : lv (afterL fwdI (after fwdCond V) (Proc.devRef .tc main_v60_5)) g p
    = (lv (V (Proc.devRef .tc main_v60_2)) g p * lv (V (Proc.devRef .tc main_v60_5)) g p - lv (V (Proc.devRef .tc main_v60_3)) g p * lv (V (Proc.devRef .tc main_v60_6)) g p)
      + sr (V (Proc.devRef .tc main_v60_0)) ⟨k, hk⟩ g p := by
  rw [fwd_split, rest_re, read_2, read_3, read_5, read_6, read_v201 V k hk hc]

theorem fwd_im (g p : Fin 64) : lv (afterL fwdI (after fwdCond V) (Proc.devRef .tc main_v60_6)) g p
    = (lv (V (Proc.devRef .tc main_v60_2)) g p * lv (V (Proc.devRef .tc main_v60_6)) g p + lv (V (Proc.devRef .tc main_v60_3)) g p * lv (V (Proc.devRef .tc main_v60_5)) g p)
      + sr (V (Proc.devRef .tc main_v60_1)) ⟨k, hk⟩ g p := by
  rw [fwd_split, rest_im, read_2, read_3, read_5, read_6, read_v202 V k hk hc]

set_option maxHeartbeats 1000000 in
theorem fwd_seen_re (t : Fin 2048) (g p : Fin 64) : sr (afterL fwdI (after fwdCond V) (Proc.devRef .tc main_v60_7)) t g p
    = if t.val = k then lv (afterL fwdI (after fwdCond V) (Proc.devRef .tc main_v60_5)) g p else sr (V (Proc.devRef .tc main_v60_7)) t g p := by
  have hc2 : after while0Ops0_2 (fwdRead V) (Proc.devRef .tc main_v60_4) = fun _ => Scf.iv 0#32 1#32 k := by
    rw [show after while0Ops0_2 (fwdRead V) (Proc.devRef .tc main_v60_4) = fwdRead V (Proc.devRef .tc main_v60_4) by after_reads_simp, read_4, hc]
  rw [fwd_split]
  refine (put_seen_re (after while0Ops0_2 (fwdRead V)) k hk hc2 t g p).trans ?_
  have e1 : lv (after while0Ops0_2 (fwdRead V) (Proc.devRef .tc main_while0b_v206)) g p = lv (fwdRest (fwdRead V) (Proc.devRef .tc main_v60_5)) g p := by
    generalize fwdRead V = W
    unfold fwdRest
    after_reads_simp
    rfl
  have e2 : after while0Ops0_2 (fwdRead V) (Proc.devRef .tc main_v60_7) = V (Proc.devRef .tc main_v60_7) := by
    rw [show after while0Ops0_2 (fwdRead V) (Proc.devRef .tc main_v60_7) = fwdRead V (Proc.devRef .tc main_v60_7) by after_reads_simp, read_7]
  rw [e1, e2]

set_option maxHeartbeats 1000000 in
theorem fwd_seen_im (t : Fin 2048) (g p : Fin 64) : sr (afterL fwdI (after fwdCond V) (Proc.devRef .tc main_v60_8)) t g p
    = if t.val = k then lv (afterL fwdI (after fwdCond V) (Proc.devRef .tc main_v60_6)) g p else sr (V (Proc.devRef .tc main_v60_8)) t g p := by
  have hc2 : after while0Ops0_2 (fwdRead V) (Proc.devRef .tc main_v60_4) = fun _ => Scf.iv 0#32 1#32 k := by
    rw [show after while0Ops0_2 (fwdRead V) (Proc.devRef .tc main_v60_4) = fwdRead V (Proc.devRef .tc main_v60_4) by after_reads_simp, read_4, hc]
  rw [fwd_split]
  refine (put_seen_im (after while0Ops0_2 (fwdRead V)) k hk hc2 t g p).trans ?_
  have e1 : lv (after while0Ops0_2 (fwdRead V) (Proc.devRef .tc main_while0b_v210)) g p = lv (fwdRest (fwdRead V) (Proc.devRef .tc main_v60_6)) g p := by
    generalize fwdRead V = W
    unfold fwdRest
    after_reads_simp
    rfl
  have e2 : after while0Ops0_2 (fwdRead V) (Proc.devRef .tc main_v60_8) = V (Proc.devRef .tc main_v60_8) := by
    rw [show after while0Ops0_2 (fwdRead V) (Proc.devRef .tc main_v60_8) = fwdRead V (Proc.devRef .tc main_v60_8) by after_reads_simp, read_8]
  rw [e1, e2]

set_option maxHeartbeats 1000000 in
theorem fwd_prev_re (t : Fin 2048) (g p : Fin 64) : sr (afterL fwdI (after fwdCond V) (Proc.devRef .tc main_v60_9)) t g p
    = if t.val = k then lv (V (Proc.devRef .tc main_v60_5)) g p else sr (V (Proc.devRef .tc main_v60_9)) t g p := by
  have hc2 : after while0Ops0_2 (fwdRead V) (Proc.devRef .tc main_v60_4) = fun _ => Scf.iv 0#32 1#32 k := by
    rw [show after while0Ops0_2 (fwdRead V) (Proc.devRef .tc main_v60_4) = fwdRead V (Proc.devRef .tc main_v60_4) by after_reads_simp, read_4, hc]
  rw [fwd_split]
  refine (put_prev_re (after while0Ops0_2 (fwdRead V)) k hk hc2 t g p).trans ?_
  rw [show after while0Ops0_2 (fwdRead V) (Proc.devRef .tc main_v60_5) = fwdRead V (Proc.devRef .tc main_v60_5) by after_reads_simp, read_5,
    show after while0Ops0_2 (fwdRead V) (Proc.devRef .tc main_v60_9) = fwdRead V (Proc.devRef .tc main_v60_9) by after_reads_simp, read_9]

set_option maxHeartbeats 1000000 in
theorem fwd_prev_im (t : Fin 2048) (g p : Fin 64) : sr (afterL fwdI (after fwdCond V) (Proc.devRef .tc main_v60_10)) t g p
    = if t.val = k then lv (V (Proc.devRef .tc main_v60_6)) g p else sr (V (Proc.devRef .tc main_v60_10)) t g p := by
  have hc2 : after while0Ops0_2 (fwdRead V) (Proc.devRef .tc main_v60_4) = fun _ => Scf.iv 0#32 1#32 k := by
    rw [show after while0Ops0_2 (fwdRead V) (Proc.devRef .tc main_v60_4) = fwdRead V (Proc.devRef .tc main_v60_4) by after_reads_simp, read_4, hc]
  rw [fwd_split]
  refine (put_prev_im (after while0Ops0_2 (fwdRead V)) k hk hc2 t g p).trans ?_
  rw [show after while0Ops0_2 (fwdRead V) (Proc.devRef .tc main_v60_6) = fwdRead V (Proc.devRef .tc main_v60_6) by after_reads_simp, read_6,
    show after while0Ops0_2 (fwdRead V) (Proc.devRef .tc main_v60_10) = fwdRead V (Proc.devRef .tc main_v60_10) by after_reads_simp, read_10]

end

end Cert.ReferenceIdeal.Value
-- ==== Proof.Ref.Bwd.lean ====
module

public import proofs.«01_k».proof.Proof.Ref.Slice

/-! One step of the reference's loop backward in time. -/

@[expose] public section

set_option maxRecDepth 16384

noncomputable section

namespace Cert.ReferenceIdeal.Value

open Cert.ReferenceIdeal Cert.ReferenceIdeal.Gen Cert.TwoLoops
open Idealize.ShloMosaic Idealize.ShloMosaic.TcCoe Idealize.ShloMosaic.Tactic
open Idealize.ShloMosaic.StableHlo

/-- The time of the step. -/
abbrev bwdTime (V : Valuation τ sig (Elt Ideal)) : Valuation τ sig (Elt Ideal) := after while1Ops0 (after bwdCond V)

/-- The step's four slices read. -/
abbrev bwdRead (V : Valuation τ sig (Elt Ideal)) : Valuation τ sig (Elt Ideal) := after while1Ops0_4 (after while1Ops0_3 (after while1Ops0_2 (after while1Ops0_1 V)))

/-- The rest of the step. -/
abbrev bwdRest (W : Valuation τ sig (Elt Ideal)) : Valuation τ sig (Elt Ideal) := after while1Ops0_8 (after while1Ops0_7 (after while1Ops0_6 (after while1Ops0_5 W)))

theorem bwd_split (V : Valuation τ sig (Elt Ideal)) : afterL bwdI (after bwdCond V) = bwdRest (bwdRead (bwdTime V)) := by
  simp only [afterL_cons, afterL_nil]

section
variable (W : Valuation τ sig (Elt Ideal))

set_option maxHeartbeats 1000000 in
theorem back_re (g p : Fin 64) : lv (bwdRest W (Proc.devRef .tc main_v97_9)) g p
    = lv (W (Proc.devRef .tc main_v97_5)) g p * (lv (W (Proc.devRef .tc main_v97_10)) g p + lv (W (Proc.devRef .tc main_while1b_v204)) g p) + lv (W (Proc.devRef .tc main_v97_4)) g p * (lv (W (Proc.devRef .tc main_v97_9)) g p + lv (W (Proc.devRef .tc main_while1b_v203)) g p) := by
  unfold bwdRest
  after_reads_simp
  rfl

set_option maxHeartbeats 1000000 in
theorem back_im (g p : Fin 64) : lv (bwdRest W (Proc.devRef .tc main_v97_10)) g p
    = lv (W (Proc.devRef .tc main_v97_4)) g p * (lv (W (Proc.devRef .tc main_v97_10)) g p + lv (W (Proc.devRef .tc main_while1b_v204)) g p) + lv (W (Proc.devRef .tc main_v97_5)) g p * (-(lv (W (Proc.devRef .tc main_v97_9)) g p + lv (W (Proc.devRef .tc main_while1b_v203)) g p)) := by
  unfold bwdRest
  after_reads_simp
  rfl

set_option maxHeartbeats 1000000 in
theorem back_da_re (g p : Fin 64) : lv (bwdRest W (Proc.devRef .tc main_v97_7)) g p
    = (lv (W (Proc.devRef .tc main_v97_7)) g p + (lv (W (Proc.devRef .tc main_v97_10)) g p + lv (W (Proc.devRef .tc main_while1b_v204)) g p) * lv (W (Proc.devRef .tc main_while1b_v206)) g p) + (lv (W (Proc.devRef .tc main_v97_9)) g p + lv (W (Proc.devRef .tc main_while1b_v203)) g p) * lv (W (Proc.devRef .tc main_while1b_v205)) g p := by
  unfold bwdRest
  after_reads_simp
  rfl

set_option maxHeartbeats 1000000 in
theorem back_da_im (g p : Fin 64) : lv (bwdRest W (Proc.devRef .tc main_v97_8)) g p
    = (lv (W (Proc.devRef .tc main_v97_8)) g p + (lv (W (Proc.devRef .tc main_v97_10)) g p + lv (W (Proc.devRef .tc main_while1b_v204)) g p) * lv (W (Proc.devRef .tc main_while1b_v205)) g p) + (-(lv (W (Proc.devRef .tc main_v97_9)) g p + lv (W (Proc.devRef .tc main_while1b_v203)) g p)) * lv (W (Proc.devRef .tc main_while1b_v206)) g p := by
  unfold bwdRest
  after_reads_simp
  rfl

section
variable (k : ℕ) (hk : k < 2048) (hc : W (Proc.devRef .tc main_while1b_v202) = fun _ => (IntOp.subi (IntOp.subi (2048#32) (Scf.iv 0#32 1#32 k)) (1#32)))
include hk hc

set_option maxHeartbeats 1000000 in
theorem put_back_re (t : Fin 2048) (g p : Fin 64) :
    sr (after while1Ops0_8 (after while1Ops0_7 (after while1Ops0_6 W)) (Proc.devRef .tc main_v97_11)) t g p
    = if t.val = 2047 - k then lv (W (Proc.devRef .tc main_while1b_v207)) g p else sr (W (Proc.devRef .tc main_v97_11)) t g p := by
  after_reads_simp
  refine put_at _ _ _ (2047 - k) (by omega) ?_ ?_ ?_ updateFits_S2048x64x64_S1x64x64 bcast_S64x64_S1x64x64_1_2 t g p
  · exact (congrArg BitVec.toInt (congrFun hc _)).trans (rev_toInt k hk)
  · rfl
  · rfl

set_option maxHeartbeats 1000000 in
theorem put_back_im (t : Fin 2048) (g p : Fin 64) :
    sr (after while1Ops0_8 (after while1Ops0_7 (after while1Ops0_6 W)) (Proc.devRef .tc main_v97_12)) t g p
    = if t.val = 2047 - k then lv (W (Proc.devRef .tc main_while1b_v208)) g p else sr (W (Proc.devRef .tc main_v97_12)) t g p := by
  after_reads_simp
  refine put_at _ _ _ (2047 - k) (by omega) ?_ ?_ ?_ updateFits_S2048x64x64_S1x64x64 bcast_S64x64_S1x64x64_1_2 t g p
  · exact (congrArg BitVec.toInt (congrFun hc _)).trans (rev_toInt k hk)
  · rfl
  · rfl

set_option maxHeartbeats 1000000 in
theorem take_v203 (g p : Fin 64) :
    lv (after while1Ops0_1 W (Proc.devRef .tc main_while1b_v203)) g p = sr (W (Proc.devRef .tc main_v97_0)) ⟨2047 - k, by omega⟩ g p := by
  after_reads_simp
  refine level_of _ _ (2047 - k) (by omega) ?_ ?_ ?_ sliceFits_S2048x64x64_S1x64x64 shapeCasts_S1x64x64_S64x64 g p
  · exact (congrArg BitVec.toInt (congrFun hc _)).trans (rev_toInt k hk)
  · rfl
  · rfl

set_option maxHeartbeats 1000000 in
theorem take_v204 (g p : Fin 64) :
    lv (after while1Ops0_2 W (Proc.devRef .tc main_while1b_v204)) g p = sr (W (Proc.devRef .tc main_v97_1)) ⟨2047 - k, by omega⟩ g p := by
  after_reads_simp
  refine level_of _ _ (2047 - k) (by omega) ?_ ?_ ?_ sliceFits_S2048x64x64_S1x64x64 shapeCasts_S1x64x64_S64x64 g p
  · exact (congrArg BitVec.toInt (congrFun hc _)).trans (rev_toInt k hk)
  · rfl
  · rfl

set_option maxHeartbeats 1000000 in
theorem take_v205 (g p : Fin 64) :
    lv (after while1Ops0_3 W (Proc.devRef .tc main_while1b_v205)) g p = sr (W (Proc.devRef .tc main_v97_2)) ⟨2047 - k, by omega⟩ g p := by
  after_reads_simp
  refine level_of _ _ (2047 - k) (by omega) ?_ ?_ ?_ sliceFits_S2048x64x64_S1x64x64 shapeCasts_S1x64x64_S64x64 g p
  · exact (congrArg BitVec.toInt (congrFun hc _)).trans (rev_toInt k hk)
  · rfl
  · rfl

set_option maxHeartbeats 1000000 in
theorem take_v206 (g p : Fin 64) :
    lv (after while1Ops0_4 W (Proc.devRef .tc main_while1b_v206)) g p = sr (W (Proc.devRef .tc main_v97_3)) ⟨2047 - k, by omega⟩ g p := by
  after_reads_simp
  refine level_of _ _ (2047 - k) (by omega) ?_ ?_ ?_ sliceFits_S2048x64x64_S1x64x64 shapeCasts_S1x64x64_S64x64 g p
  · exact (congrArg BitVec.toInt (congrFun hc _)).trans (rev_toInt k hk)
  · rfl
  · rfl

end

theorem got_4 : bwdRead W (Proc.devRef .tc main_v97_4) = W (Proc.devRef .tc main_v97_4) := by
  unfold bwdRead
  after_reads_simp

theorem got_5 : bwdRead W (Proc.devRef .tc main_v97_5) = W (Proc.devRef .tc main_v97_5) := by
  unfold bwdRead
  after_reads_simp

theorem got_7 : bwdRead W (Proc.devRef .tc main_v97_7) = W (Proc.devRef .tc main_v97_7) := by
  unfold bwdRead
  after_reads_simp

theorem got_8 : bwdRead W (Proc.devRef .tc main_v97_8) = W (Proc.devRef .tc main_v97_8) := by
  unfold bwdRead
  after_reads_simp

theorem got_9 : bwdRead W (Proc.devRef .tc main_v97_9) = W (Proc.devRef .tc main_v97_9) := by
  unfold bwdRead
  after_reads_simp

theorem got_10 : bwdRead W (Proc.devRef .tc main_v97_10) = W (Proc.devRef .tc main_v97_10) := by
  unfold bwdRead
  after_reads_simp

theorem got_11 : bwdRead W (Proc.devRef .tc main_v97_11) = W (Proc.devRef .tc main_v97_11) := by
  unfold bwdRead
  after_reads_simp

theorem got_12 : bwdRead W (Proc.devRef .tc main_v97_12) = W (Proc.devRef .tc main_v97_12) := by
  unfold bwdRead
  after_reads_simp

theorem got_v202 : bwdRead W (Proc.devRef .tc main_while1b_v202) = W (Proc.devRef .tc main_while1b_v202) := by
  unfold bwdRead
  after_reads_simp

section
variable (k : ℕ) (hk : k < 2048) (hc : W (Proc.devRef .tc main_while1b_v202) = fun _ => (IntOp.subi (IntOp.subi (2048#32) (Scf.iv 0#32 1#32 k)) (1#32)))
include hk hc

set_option maxHeartbeats 1000000 in
theorem got_v203 (g p : Fin 64) : lv (bwdRead W (Proc.devRef .tc main_while1b_v203)) g p = sr (W (Proc.devRef .tc main_v97_0)) ⟨2047 - k, by omega⟩ g p := by
  have e : bwdRead W (Proc.devRef .tc main_while1b_v203) = after while1Ops0_1 W (Proc.devRef .tc main_while1b_v203) := by
    unfold bwdRead
    generalize (after while1Ops0_1 W) = X
    after_reads_simp
  rw [e]
  exact take_v203 W k hk hc g p

set_option maxHeartbeats 1000000 in
theorem got_v204 (g p : Fin 64) : lv (bwdRead W (Proc.devRef .tc main_while1b_v204)) g p = sr (W (Proc.devRef .tc main_v97_1)) ⟨2047 - k, by omega⟩ g p := by
  have e : bwdRead W (Proc.devRef .tc main_while1b_v204) = after while1Ops0_2 (after while1Ops0_1 W) (Proc.devRef .tc main_while1b_v204) := by
    unfold bwdRead
    generalize (after while1Ops0_2 (after while1Ops0_1 W)) = X
    after_reads_simp
  have h2 : (after while1Ops0_1 W) (Proc.devRef .tc main_while1b_v202) = W (Proc.devRef .tc main_while1b_v202) := by
    after_reads_simp
  have hb : (after while1Ops0_1 W) (Proc.devRef .tc main_v97_1) = W (Proc.devRef .tc main_v97_1) := by
    after_reads_simp
  rw [e]
  refine (take_v204 (after while1Ops0_1 W) k hk (h2.trans hc) g p).trans ?_
  rw [hb]

set_option maxHeartbeats 1000000 in
theorem got_v205 (g p : Fin 64) : lv (bwdRead W (Proc.devRef .tc main_while1b_v205)) g p = sr (W (Proc.devRef .tc main_v97_2)) ⟨2047 - k, by omega⟩ g p := by
  have e : bwdRead W (Proc.devRef .tc main_while1b_v205) = after while1Ops0_3 (after while1Ops0_2 (after while1Ops0_1 W)) (Proc.devRef .tc main_while1b_v205) := by
    unfold bwdRead
    generalize (after while1Ops0_3 (after while1Ops0_2 (after while1Ops0_1 W))) = X
    after_reads_simp
  have h2 : (after while1Ops0_2 (after while1Ops0_1 W)) (Proc.devRef .tc main_while1b_v202) = W (Proc.devRef .tc main_while1b_v202) := by
    after_reads_simp
  have hb : (after while1Ops0_2 (after while1Ops0_1 W)) (Proc.devRef .tc main_v97_2) = W (Proc.devRef .tc main_v97_2) := by
    after_reads_simp
  rw [e]
  refine (take_v205 (after while1Ops0_2 (after while1Ops0_1 W)) k hk (h2.trans hc) g p).trans ?_
  rw [hb]

set_option maxHeartbeats 1000000 in
theorem got_v206 (g p : Fin 64) : lv (bwdRead W (Proc.devRef .tc main_while1b_v206)) g p = sr (W (Proc.devRef .tc main_v97_3)) ⟨2047 - k, by omega⟩ g p := by
  have e : bwdRead W (Proc.devRef .tc main_while1b_v206) = after while1Ops0_4 (after while1Ops0_3 (after while1Ops0_2 (after while1Ops0_1 W))) (Proc.devRef .tc main_while1b_v206) := by
    unfold bwdRead
    generalize (after while1Ops0_4 (after while1Ops0_3 (after while1Ops0_2 (after while1Ops0_1 W)))) = X
    after_reads_simp
  have h2 : (after while1Ops0_3 (after while1Ops0_2 (after while1Ops0_1 W))) (Proc.devRef .tc main_while1b_v202) = W (Proc.devRef .tc main_while1b_v202) := by
    after_reads_simp
  have hb : (after while1Ops0_3 (after while1Ops0_2 (after while1Ops0_1 W))) (Proc.devRef .tc main_v97_3) = W (Proc.devRef .tc main_v97_3) := by
    after_reads_simp
  rw [e]
  refine (take_v206 (after while1Ops0_3 (after while1Ops0_2 (after while1Ops0_1 W))) k hk (h2.trans hc) g p).trans ?_
  rw [hb]

end

end

section
variable (V : Valuation τ sig (Elt Ideal))

theorem time_0 : bwdTime V (Proc.devRef .tc main_v97_0) = V (Proc.devRef .tc main_v97_0) := by
  unfold bwdTime
  after_reads_simp

theorem time_1 : bwdTime V (Proc.devRef .tc main_v97_1) = V (Proc.devRef .tc main_v97_1) := by
  unfold bwdTime
  after_reads_simp

theorem time_2 : bwdTime V (Proc.devRef .tc main_v97_2) = V (Proc.devRef .tc main_v97_2) := by
  unfold bwdTime
  after_reads_simp

theorem time_3 : bwdTime V (Proc.devRef .tc main_v97_3) = V (Proc.devRef .tc main_v97_3) := by
  unfold bwdTime
  after_reads_simp

theorem time_4 : bwdTime V (Proc.devRef .tc main_v97_4) = V (Proc.devRef .tc main_v97_4) := by
  unfold bwdTime
  after_reads_simp

theorem time_5 : bwdTime V (Proc.devRef .tc main_v97_5) = V (Proc.devRef .tc main_v97_5) := by
  unfold bwdTime
  after_reads_simp

theorem time_7 : bwdTime V (Proc.devRef .tc main_v97_7) = V (Proc.devRef .tc main_v97_7) := by
  unfold bwdTime
  after_reads_simp

theorem time_8 : bwdTime V (Proc.devRef .tc main_v97_8) = V (Proc.devRef .tc main_v97_8) := by
  unfold bwdTime
  after_reads_simp

theorem time_9 : bwdTime V (Proc.devRef .tc main_v97_9) = V (Proc.devRef .tc main_v97_9) := by
  unfold bwdTime
  after_reads_simp

theorem time_10 : bwdTime V (Proc.devRef .tc main_v97_10) = V (Proc.devRef .tc main_v97_10) := by
  unfold bwdTime
  after_reads_simp

theorem time_11 : bwdTime V (Proc.devRef .tc main_v97_11) = V (Proc.devRef .tc main_v97_11) := by
  unfold bwdTime
  after_reads_simp

theorem time_12 : bwdTime V (Proc.devRef .tc main_v97_12) = V (Proc.devRef .tc main_v97_12) := by
  unfold bwdTime
  after_reads_simp

variable (k : ℕ) (hk : k < 2048) (hc : V (Proc.devRef .tc main_v97_6) = fun _ => Scf.iv 0#32 1#32 k)
include hc

theorem time_v202 : bwdTime V (Proc.devRef .tc main_while1b_v202) = fun _ => (IntOp.subi (IntOp.subi (2048#32) (Scf.iv 0#32 1#32 k)) (1#32)) := by
  unfold bwdTime
  after_reads_simp
  rw [hc]
  rfl

include hk

theorem bwd_re (g p : Fin 64) : lv (afterL bwdI (after bwdCond V) (Proc.devRef .tc main_v97_9)) g p
    = lv (V (Proc.devRef .tc main_v97_5)) g p * (lv (V (Proc.devRef .tc main_v97_10)) g p + sr (V (Proc.devRef .tc main_v97_1)) ⟨2047 - k, by omega⟩ g p) + lv (V (Proc.devRef .tc main_v97_4)) g p * (lv (V (Proc.devRef .tc main_v97_9)) g p + sr (V (Proc.devRef .tc main_v97_0)) ⟨2047 - k, by omega⟩ g p) := by
  have ht := time_v202 V k hc
  rw [bwd_split, back_re, got_9, got_10, got_5, got_4, got_v203 _ k hk ht, got_v204 _ k hk ht, time_9, time_10, time_5, time_4, time_0, time_1]

theorem bwd_im (g p : Fin 64) : lv (afterL bwdI (after bwdCond V) (Proc.devRef .tc main_v97_10)) g p
    = lv (V (Proc.devRef .tc main_v97_4)) g p * (lv (V (Proc.devRef .tc main_v97_10)) g p + sr (V (Proc.devRef .tc main_v97_1)) ⟨2047 - k, by omega⟩ g p) + lv (V (Proc.devRef .tc main_v97_5)) g p * (-(lv (V (Proc.devRef .tc main_v97_9)) g p + sr (V (Proc.devRef .tc main_v97_0)) ⟨2047 - k, by omega⟩ g p)) := by
  have ht := time_v202 V k hc
  rw [bwd_split, back_im, got_9, got_10, got_5, got_4, got_v203 _ k hk ht, got_v204 _ k hk ht, time_9, time_10, time_5, time_4, time_0, time_1]

theorem bwd_da_re (g p : Fin 64) : lv (afterL bwdI (after bwdCond V) (Proc.devRef .tc main_v97_7)) g p
    = (lv (V (Proc.devRef .tc main_v97_7)) g p + (lv (V (Proc.devRef .tc main_v97_10)) g p + sr (V (Proc.devRef .tc main_v97_1)) ⟨2047 - k, by omega⟩ g p) * sr (V (Proc.devRef .tc main_v97_3)) ⟨2047 - k, by omega⟩ g p) + (lv (V (Proc.devRef .tc main_v97_9)) g p + sr (V (Proc.devRef .tc main_v97_0)) ⟨2047 - k, by omega⟩ g p) * sr (V (Proc.devRef .tc main_v97_2)) ⟨2047 - k, by omega⟩ g p := by
  have ht := time_v202 V k hc
  rw [bwd_split, back_da_re, got_9, got_10, got_7, got_v203 _ k hk ht, got_v204 _ k hk ht, got_v205 _ k hk ht, got_v206 _ k hk ht, time_9, time_10, time_7, time_0, time_1, time_2, time_3]

theorem bwd_da_im (g p : Fin 64) : lv (afterL bwdI (after bwdCond V) (Proc.devRef .tc main_v97_8)) g p
    = (lv (V (Proc.devRef .tc main_v97_8)) g p + (lv (V (Proc.devRef .tc main_v97_10)) g p + sr (V (Proc.devRef .tc main_v97_1)) ⟨2047 - k, by omega⟩ g p) * sr (V (Proc.devRef .tc main_v97_2)) ⟨2047 - k, by omega⟩ g p) + (-(lv (V (Proc.devRef .tc main_v97_9)) g p + sr (V (Proc.devRef .tc main_v97_0)) ⟨2047 - k, by omega⟩ g p)) * sr (V (Proc.devRef .tc main_v97_3)) ⟨2047 - k, by omega⟩ g p := by
  have ht := time_v202 V k hc
  rw [bwd_split, back_da_im, got_9, got_10, got_8, got_v203 _ k hk ht, got_v204 _ k hk ht, got_v205 _ k hk ht, got_v206 _ k hk ht, time_9, time_10, time_8, time_0, time_1, time_2, time_3]

set_option maxHeartbeats 1000000 in
theorem bwd_seen_re (t : Fin 2048) (g p : Fin 64) : sr (afterL bwdI (after bwdCond V) (Proc.devRef .tc main_v97_11)) t g p
    = if t.val = 2047 - k then (lv (V (Proc.devRef .tc main_v97_9)) g p + sr (V (Proc.devRef .tc main_v97_0)) ⟨2047 - k, by omega⟩ g p) else sr (V (Proc.devRef .tc main_v97_11)) t g p := by
  have ht := time_v202 V k hc
  have keep : ∀ W : Valuation τ sig (Elt Ideal), after while1Ops0_5 W (Proc.devRef .tc main_while1b_v202) = W (Proc.devRef .tc main_while1b_v202) := fun W => by
    after_reads_simp
  have keep' : ∀ W : Valuation τ sig (Elt Ideal), after while1Ops0_5 W (Proc.devRef .tc main_v97_11) = W (Proc.devRef .tc main_v97_11) := fun W => by
    after_reads_simp
  have sum : ∀ W : Valuation τ sig (Elt Ideal), lv (after while1Ops0_5 W (Proc.devRef .tc main_while1b_v207)) g p
      = lv (W (Proc.devRef .tc main_v97_9)) g p + lv (W (Proc.devRef .tc main_while1b_v203)) g p := fun W => by
    after_reads_simp
    rfl
  rw [bwd_split]
  refine (put_back_re (after while1Ops0_5 (bwdRead (bwdTime V))) k hk ((keep _).trans ((got_v202 _).trans ht)) t g p).trans ?_
  rw [sum, keep', got_9, got_11, got_v203 _ k hk ht, time_9, time_11, time_0]

set_option maxHeartbeats 1000000 in
theorem bwd_seen_im (t : Fin 2048) (g p : Fin 64) : sr (afterL bwdI (after bwdCond V) (Proc.devRef .tc main_v97_12)) t g p
    = if t.val = 2047 - k then (lv (V (Proc.devRef .tc main_v97_10)) g p + sr (V (Proc.devRef .tc main_v97_1)) ⟨2047 - k, by omega⟩ g p) else sr (V (Proc.devRef .tc main_v97_12)) t g p := by
  have ht := time_v202 V k hc
  have keep : ∀ W : Valuation τ sig (Elt Ideal), after while1Ops0_5 W (Proc.devRef .tc main_while1b_v202) = W (Proc.devRef .tc main_while1b_v202) := fun W => by
    after_reads_simp
  have keep' : ∀ W : Valuation τ sig (Elt Ideal), after while1Ops0_5 W (Proc.devRef .tc main_v97_12) = W (Proc.devRef .tc main_v97_12) := fun W => by
    after_reads_simp
  have sum : ∀ W : Valuation τ sig (Elt Ideal), lv (after while1Ops0_5 W (Proc.devRef .tc main_while1b_v208)) g p
      = lv (W (Proc.devRef .tc main_v97_10)) g p + lv (W (Proc.devRef .tc main_while1b_v204)) g p := fun W => by
    after_reads_simp
    rfl
  rw [bwd_split]
  refine (put_back_im (after while1Ops0_5 (bwdRead (bwdTime V))) k hk ((keep _).trans ((got_v202 _).trans ht)) t g p).trans ?_
  rw [sum, keep', got_10, got_12, got_v204 _ k hk ht, time_10, time_12, time_1]

end

end Cert.ReferenceIdeal.Value
-- ==== Proof.Ref.Series.lean ====
module

public import proofs.«01_k».proof.Proof.Ref.Fwd
public import proofs.«01_k».proof.Proof.Ref.Bwd
public import proofs.«01_k».proof.Proof.Scan.Glob

/-! What the reference's two loops leave: the states and the states before them, the gradients of the states, and the
gradient of the transition. -/

@[expose] public section

set_option maxRecDepth 16384

noncomputable section

namespace Cert.ReferenceIdeal.Value

open Cert.ReferenceIdeal Cert.ReferenceIdeal.Gen Cert.TwoLoops
open Idealize.ShloMosaic Idealize.ShloMosaic.TcCoe
open Idealize.ShloMosaic.StableHlo Cert.Scan

variable (m : (ℓ : Loc nD τ sig) → Buf (Elt Ideal) ℓ) (c : Dev nD) (G : Glob)

theorem run_before (a : ℂ) (B : ℕ → ℂ) (k : ℕ) : run a B k = a * before a B k + B k := by
  cases k with
  | zero => show B 0 = a * 0 + B 0; rw [mul_zero, zero_add]
  | succ k => rfl

/-- The real part of `a * x + b`, spelt on the parts. -/
theorem coe_re (a x b : ℂ) : ((a.re : EReal) * (x.re : EReal) - (a.im : EReal) * (x.im : EReal)) + (b.re : EReal) = ((a * x + b).re : EReal) := by
  rw [← EReal.coe_mul, ← EReal.coe_mul, ← EReal.coe_sub, ← EReal.coe_add, Complex.add_re, Complex.mul_re]

theorem coe_im (a x b : ℂ) : ((a.re : EReal) * (x.im : EReal) + (a.im : EReal) * (x.re : EReal)) + (b.im : EReal) = ((a * x + b).im : EReal) := by
  rw [← EReal.coe_mul, ← EReal.coe_mul, ← EReal.coe_add, ← EReal.coe_add, Complex.add_im, Complex.mul_im]

/-- What the forward loop starts from. -/
structure FwdStart : Prop where
  h0 : ∀ t g p, sr (fwdAt m 0 c (Proc.devRef .tc main_v60_0)) t g p = ((G.Z t g p).re : EReal)
  h1 : ∀ t g p, sr (fwdAt m 0 c (Proc.devRef .tc main_v60_1)) t g p = ((G.Z t g p).im : EReal)
  h2 : ∀ g p, lv (fwdAt m 0 c (Proc.devRef .tc main_v60_2)) g p = ((G.a g p).re : EReal)
  h3 : ∀ g p, lv (fwdAt m 0 c (Proc.devRef .tc main_v60_3)) g p = ((G.a g p).im : EReal)
  h5 : ∀ g p, lv (fwdAt m 0 c (Proc.devRef .tc main_v60_5)) g p = 0
  h6 : ∀ g p, lv (fwdAt m 0 c (Proc.devRef .tc main_v60_6)) g p = 0

/-- What the forward loop has made after `k` steps. -/
structure FwdDone (k : ℕ) : Prop where
  h0 : ∀ t g p, sr (fwdAt m k c (Proc.devRef .tc main_v60_0)) t g p = ((G.Z t g p).re : EReal)
  h1 : ∀ t g p, sr (fwdAt m k c (Proc.devRef .tc main_v60_1)) t g p = ((G.Z t g p).im : EReal)
  h2 : ∀ g p, lv (fwdAt m k c (Proc.devRef .tc main_v60_2)) g p = ((G.a g p).re : EReal)
  h3 : ∀ g p, lv (fwdAt m k c (Proc.devRef .tc main_v60_3)) g p = ((G.a g p).im : EReal)
  h5 : ∀ g p, lv (fwdAt m k c (Proc.devRef .tc main_v60_5)) g p = ((G.xp k g p).re : EReal)
  h6 : ∀ g p, lv (fwdAt m k c (Proc.devRef .tc main_v60_6)) g p = ((G.xp k g p).im : EReal)
  h7 : ∀ t g p, t.val < k → sr (fwdAt m k c (Proc.devRef .tc main_v60_7)) t g p = ((G.x t g p).re : EReal)
  h8 : ∀ t g p, t.val < k → sr (fwdAt m k c (Proc.devRef .tc main_v60_8)) t g p = ((G.x t g p).im : EReal)
  h9 : ∀ t g p, t.val < k → sr (fwdAt m k c (Proc.devRef .tc main_v60_9)) t g p = ((G.xp t g p).re : EReal)
  h10 : ∀ t g p, t.val < k → sr (fwdAt m k c (Proc.devRef .tc main_v60_10)) t g p = ((G.xp t g p).im : EReal)

theorem fwd_start {m c G} (h : FwdStart m c G) : FwdDone m c G 0 where
  h0 := h.h0
  h1 := h.h1
  h2 := h.h2
  h3 := h.h3
  h5 g p := h.h5 g p
  h6 g p := h.h6 g p
  h7 t g p ht := absurd ht (Nat.not_lt_zero _)
  h8 t g p ht := absurd ht (Nat.not_lt_zero _)
  h9 t g p ht := absurd ht (Nat.not_lt_zero _)
  h10 t g p ht := absurd ht (Nat.not_lt_zero _)

theorem fwdAt_succ (k : ℕ) : fwdAt m (k + 1) c = afterL fwdI (after fwdCond (fwdAt m k c)) := rfl

theorem fwd_same_0 (V : Valuation τ sig (Elt Ideal)) : afterL fwdI (after fwdCond V) (Proc.devRef .tc main_v60_0) = V (Proc.devRef .tc main_v60_0) := by
  simp only [afterL_cons, afterL_nil]
  after_reads_simp

theorem fwd_same_1 (V : Valuation τ sig (Elt Ideal)) : afterL fwdI (after fwdCond V) (Proc.devRef .tc main_v60_1) = V (Proc.devRef .tc main_v60_1) := by
  simp only [afterL_cons, afterL_nil]
  after_reads_simp

theorem fwd_same_2 (V : Valuation τ sig (Elt Ideal)) : afterL fwdI (after fwdCond V) (Proc.devRef .tc main_v60_2) = V (Proc.devRef .tc main_v60_2) := by
  simp only [afterL_cons, afterL_nil]
  after_reads_simp

theorem fwd_same_3 (V : Valuation τ sig (Elt Ideal)) : afterL fwdI (after fwdCond V) (Proc.devRef .tc main_v60_3) = V (Proc.devRef .tc main_v60_3) := by
  simp only [afterL_cons, afterL_nil]
  after_reads_simp

set_option maxHeartbeats 1000000 in
theorem fwd_next {m c G} {k : ℕ} (hk : k < 2048) (h : FwdDone m c G k) : FwdDone m c G (k + 1) := by
  have hc := fwdAt_ctr m c k
  have re5 : ∀ g p : Fin 64, lv (afterL fwdI (after fwdCond (fwdAt m k c)) (Proc.devRef .tc main_v60_5)) g p = ((G.x k g p).re : EReal) := fun g p => by
    rw [fwd_re _ k hk hc, h.h2, h.h3, h.h5, h.h6, h.h0, coe_re]
    exact congrArg (fun z : ℂ => (z.re : EReal)) (run_before _ _ k).symm
  have im6 : ∀ g p : Fin 64, lv (afterL fwdI (after fwdCond (fwdAt m k c)) (Proc.devRef .tc main_v60_6)) g p = ((G.x k g p).im : EReal) := fun g p => by
    rw [fwd_im _ k hk hc, h.h2, h.h3, h.h5, h.h6, h.h1, coe_im]
    exact congrArg (fun z : ℂ => (z.im : EReal)) (run_before _ _ k).symm
  exact {
    h0 := fun t g p => by rw [fwdAt_succ, fwd_same_0]; exact h.h0 t g p
    h1 := fun t g p => by rw [fwdAt_succ, fwd_same_1]; exact h.h1 t g p
    h2 := fun g p => by rw [fwdAt_succ, fwd_same_2]; exact h.h2 g p
    h3 := fun g p => by rw [fwdAt_succ, fwd_same_3]; exact h.h3 g p
    h5 := re5
    h6 := im6
    h7 := fun t g p ht => by
      rw [fwdAt_succ, fwd_seen_re _ k hk hc, re5]
      by_cases e : t.val = k
      · rw [if_pos e, e]
      · rw [if_neg e]; exact h.h7 t g p (by omega)
    h8 := fun t g p ht => by
      rw [fwdAt_succ, fwd_seen_im _ k hk hc, im6]
      by_cases e : t.val = k
      · rw [if_pos e, e]
      · rw [if_neg e]; exact h.h8 t g p (by omega)
    h9 := fun t g p ht => by
      rw [fwdAt_succ, fwd_prev_re _ k hk hc, h.h5]
      by_cases e : t.val = k
      · rw [if_pos e, e]
      · rw [if_neg e]; exact h.h9 t g p (by omega)
    h10 := fun t g p ht => by
      rw [fwdAt_succ, fwd_prev_im _ k hk hc, h.h6]
      by_cases e : t.val = k
      · rw [if_pos e, e]
      · rw [if_neg e]; exact h.h10 t g p (by omega)
  }

theorem fwd_done {m c G} (h : FwdStart m c G) : ∀ k, k ≤ 2048 → FwdDone m c G k
  | 0, _ => fwd_start h
  | k + 1, hk => fwd_next (by omega) (fwd_done h k (by omega))

/-- What the backward loop starts from. -/
structure BwdStart : Prop where
  h0 : ∀ t g p, sr (bwdAt m 0 c (Proc.devRef .tc main_v97_0)) t g p = ((G.D t g p).re : EReal)
  h1 : ∀ t g p, sr (bwdAt m 0 c (Proc.devRef .tc main_v97_1)) t g p = ((G.D t g p).im : EReal)
  h2 : ∀ t g p, sr (bwdAt m 0 c (Proc.devRef .tc main_v97_2)) t g p = ((G.xp t g p).re : EReal)
  h3 : ∀ t g p, sr (bwdAt m 0 c (Proc.devRef .tc main_v97_3)) t g p = ((G.xp t g p).im : EReal)
  h4 : ∀ g p, lv (bwdAt m 0 c (Proc.devRef .tc main_v97_4)) g p = ((G.a g p).re : EReal)
  h5 : ∀ g p, lv (bwdAt m 0 c (Proc.devRef .tc main_v97_5)) g p = ((G.a g p).im : EReal)
  h7 : ∀ g p, lv (bwdAt m 0 c (Proc.devRef .tc main_v97_7)) g p = 0
  h8 : ∀ g p, lv (bwdAt m 0 c (Proc.devRef .tc main_v97_8)) g p = 0
  h9 : ∀ g p, lv (bwdAt m 0 c (Proc.devRef .tc main_v97_9)) g p = 0
  h10 : ∀ g p, lv (bwdAt m 0 c (Proc.devRef .tc main_v97_10)) g p = 0

/-- What is carried into step `k` of the backward loop. -/
def carried (k g p : ℕ) : ℂ := (starRingEnd ℂ) (G.a g p) * before ((starRingEnd ℂ) (G.a g p)) (fun t => G.D (2047 - t) g p) k

/-- The sum for the transition's gradient after `k` steps of the backward loop. -/
def daSum (k g p : ℕ) : ℂ := ∑ s ∈ Finset.range k, G.gr (2047 - s) g p * (starRingEnd ℂ) (G.xp (2047 - s) g p)

theorem gr_carried (k g p : ℕ) (hk : k < 2048) : G.gr (2047 - k) g p = carried G k g p + G.D (2047 - k) g p := by
  unfold Glob.gr carried
  rw [show 2047 - (2047 - k) = k by omega]
  exact run_before _ _ k

theorem carried_succ (k g p : ℕ) (hk : k < 2048) : carried G (k + 1) g p = (starRingEnd ℂ) (G.a g p) * G.gr (2047 - k) g p := by
  unfold Glob.gr carried
  rw [show 2047 - (2047 - k) = k by omega]
  rfl

theorem coe_conj_re (a w : ℂ) : (a.im : EReal) * (w.im : EReal) + (a.re : EReal) * (w.re : EReal) = (((starRingEnd ℂ) a * w).re : EReal) := by
  rw [← EReal.coe_mul, ← EReal.coe_mul, ← EReal.coe_add]
  refine congrArg _ ?_
  rw [Complex.mul_re, Complex.conj_re, Complex.conj_im]; ring

theorem coe_conj_im (a w : ℂ) : (a.re : EReal) * (w.im : EReal) + (a.im : EReal) * (-(w.re : EReal)) = (((starRingEnd ℂ) a * w).im : EReal) := by
  rw [← EReal.coe_neg, ← EReal.coe_mul, ← EReal.coe_mul, ← EReal.coe_add]
  refine congrArg _ ?_
  rw [Complex.mul_im, Complex.conj_re, Complex.conj_im]; ring

theorem coe_acc_re (s w x : ℂ) : ((s.re : EReal) + (w.im : EReal) * (x.im : EReal)) + (w.re : EReal) * (x.re : EReal)
    = ((s + w * (starRingEnd ℂ) x).re : EReal) := by
  rw [← EReal.coe_mul, ← EReal.coe_mul, ← EReal.coe_add, ← EReal.coe_add]
  refine congrArg _ ?_
  rw [Complex.add_re, Complex.mul_re, Complex.conj_re, Complex.conj_im]; ring

theorem coe_acc_im (s w x : ℂ) : ((s.im : EReal) + (w.im : EReal) * (x.re : EReal)) + (-(w.re : EReal)) * (x.im : EReal)
    = ((s + w * (starRingEnd ℂ) x).im : EReal) := by
  rw [← EReal.coe_neg, ← EReal.coe_mul, ← EReal.coe_mul, ← EReal.coe_add, ← EReal.coe_add]
  refine congrArg _ ?_
  rw [Complex.add_im, Complex.mul_im, Complex.conj_re, Complex.conj_im]; ring

/-- What the backward loop has made after `k` steps. -/
structure BwdDone (k : ℕ) : Prop where
  h0 : ∀ t g p, sr (bwdAt m k c (Proc.devRef .tc main_v97_0)) t g p = ((G.D t g p).re : EReal)
  h1 : ∀ t g p, sr (bwdAt m k c (Proc.devRef .tc main_v97_1)) t g p = ((G.D t g p).im : EReal)
  h2 : ∀ t g p, sr (bwdAt m k c (Proc.devRef .tc main_v97_2)) t g p = ((G.xp t g p).re : EReal)
  h3 : ∀ t g p, sr (bwdAt m k c (Proc.devRef .tc main_v97_3)) t g p = ((G.xp t g p).im : EReal)
  h4 : ∀ g p, lv (bwdAt m k c (Proc.devRef .tc main_v97_4)) g p = ((G.a g p).re : EReal)
  h5 : ∀ g p, lv (bwdAt m k c (Proc.devRef .tc main_v97_5)) g p = ((G.a g p).im : EReal)
  h7 : ∀ g p, lv (bwdAt m k c (Proc.devRef .tc main_v97_7)) g p = ((daSum G k g p).re : EReal)
  h8 : ∀ g p, lv (bwdAt m k c (Proc.devRef .tc main_v97_8)) g p = ((daSum G k g p).im : EReal)
  h9 : ∀ g p, lv (bwdAt m k c (Proc.devRef .tc main_v97_9)) g p = ((carried G k g p).re : EReal)
  h10 : ∀ g p, lv (bwdAt m k c (Proc.devRef .tc main_v97_10)) g p = ((carried G k g p).im : EReal)
  h11 : ∀ t g p, 2047 < t.val + k → sr (bwdAt m k c (Proc.devRef .tc main_v97_11)) t g p = ((G.gr t g p).re : EReal)
  h12 : ∀ t g p, 2047 < t.val + k → sr (bwdAt m k c (Proc.devRef .tc main_v97_12)) t g p = ((G.gr t g p).im : EReal)

theorem bwd_start {m c G} (h : BwdStart m c G) : BwdDone m c G 0 where
  h0 := h.h0
  h1 := h.h1
  h2 := h.h2
  h3 := h.h3
  h4 := h.h4
  h5 := h.h5
  h7 g p := (h.h7 g p).trans (by unfold daSum; rw [Finset.sum_range_zero]; rfl)
  h8 g p := (h.h8 g p).trans (by unfold daSum; rw [Finset.sum_range_zero]; rfl)
  h9 g p := (h.h9 g p).trans (by unfold carried before; rw [mul_zero]; rfl)
  h10 g p := (h.h10 g p).trans (by unfold carried before; rw [mul_zero]; rfl)
  h11 t g p ht := absurd ht (by omega)
  h12 t g p ht := absurd ht (by omega)

theorem bwdAt_succ (k : ℕ) : bwdAt m (k + 1) c = afterL bwdI (after bwdCond (bwdAt m k c)) := rfl

theorem bwd_same_0 (V : Valuation τ sig (Elt Ideal)) : afterL bwdI (after bwdCond V) (Proc.devRef .tc main_v97_0) = V (Proc.devRef .tc main_v97_0) := by
  simp only [afterL_cons, afterL_nil]
  after_reads_simp

theorem bwd_same_1 (V : Valuation τ sig (Elt Ideal)) : afterL bwdI (after bwdCond V) (Proc.devRef .tc main_v97_1) = V (Proc.devRef .tc main_v97_1) := by
  simp only [afterL_cons, afterL_nil]
  after_reads_simp

theorem bwd_same_2 (V : Valuation τ sig (Elt Ideal)) : afterL bwdI (after bwdCond V) (Proc.devRef .tc main_v97_2) = V (Proc.devRef .tc main_v97_2) := by
  simp only [afterL_cons, afterL_nil]
  after_reads_simp

theorem bwd_same_3 (V : Valuation τ sig (Elt Ideal)) : afterL bwdI (after bwdCond V) (Proc.devRef .tc main_v97_3) = V (Proc.devRef .tc main_v97_3) := by
  simp only [afterL_cons, afterL_nil]
  after_reads_simp

theorem bwd_same_4 (V : Valuation τ sig (Elt Ideal)) : afterL bwdI (after bwdCond V) (Proc.devRef .tc main_v97_4) = V (Proc.devRef .tc main_v97_4) := by
  simp only [afterL_cons, afterL_nil]
  after_reads_simp

theorem bwd_same_5 (V : Valuation τ sig (Elt Ideal)) : afterL bwdI (after bwdCond V) (Proc.devRef .tc main_v97_5) = V (Proc.devRef .tc main_v97_5) := by
  simp only [afterL_cons, afterL_nil]
  after_reads_simp

set_option maxHeartbeats 1000000 in
theorem bwd_next {m c G} {k : ℕ} (hk : k < 2048) (h : BwdDone m c G k) : BwdDone m c G (k + 1) := by
  have hc := bwdAt_ctr m c k
  have wre : ∀ g p : Fin 64, lv (bwdAt m k c (Proc.devRef .tc main_v97_9)) g p + sr (bwdAt m k c (Proc.devRef .tc main_v97_0)) ⟨2047 - k, by omega⟩ g p
      = ((G.gr (2047 - k) g p).re : EReal) := fun g p => by
    rw [h.h9, h.h0, ← EReal.coe_add, gr_carried G k g p hk]; rfl
  have wim : ∀ g p : Fin 64, lv (bwdAt m k c (Proc.devRef .tc main_v97_10)) g p + sr (bwdAt m k c (Proc.devRef .tc main_v97_1)) ⟨2047 - k, by omega⟩ g p
      = ((G.gr (2047 - k) g p).im : EReal) := fun g p => by
    rw [h.h10, h.h1, ← EReal.coe_add, gr_carried G k g p hk]; rfl
  exact {
    h0 := fun t g p => by rw [bwdAt_succ, bwd_same_0]; exact h.h0 t g p
    h1 := fun t g p => by rw [bwdAt_succ, bwd_same_1]; exact h.h1 t g p
    h2 := fun t g p => by rw [bwdAt_succ, bwd_same_2]; exact h.h2 t g p
    h3 := fun t g p => by rw [bwdAt_succ, bwd_same_3]; exact h.h3 t g p
    h4 := fun g p => by rw [bwdAt_succ, bwd_same_4]; exact h.h4 g p
    h5 := fun g p => by rw [bwdAt_succ, bwd_same_5]; exact h.h5 g p
    h7 := fun g p => by
      rw [bwdAt_succ, bwd_da_re _ k hk hc, wre, wim, h.h7, h.h2, h.h3, coe_acc_re]
      unfold daSum
      rw [Finset.sum_range_succ]
    h8 := fun g p => by
      rw [bwdAt_succ, bwd_da_im _ k hk hc, wre, wim, h.h8, h.h2, h.h3, coe_acc_im]
      unfold daSum
      rw [Finset.sum_range_succ]
    h9 := fun g p => by
      rw [bwdAt_succ, bwd_re _ k hk hc, wre, wim, h.h4, h.h5, coe_conj_re, carried_succ G k g p hk]
    h10 := fun g p => by
      rw [bwdAt_succ, bwd_im _ k hk hc, wre, wim, h.h4, h.h5, coe_conj_im, carried_succ G k g p hk]
    h11 := fun t g p ht => by
      rw [bwdAt_succ, bwd_seen_re _ k hk hc, wre]
      by_cases e : t.val = 2047 - k
      · rw [if_pos e, e]
      · rw [if_neg e]; exact h.h11 t g p (by omega)
    h12 := fun t g p ht => by
      rw [bwdAt_succ, bwd_seen_im _ k hk hc, wim]
      by_cases e : t.val = 2047 - k
      · rw [if_pos e, e]
      · rw [if_neg e]; exact h.h12 t g p (by omega)
  }

theorem bwd_done {m c G} (h : BwdStart m c G) : ∀ k, k ≤ 2048 → BwdDone m c G k
  | 0, _ => bwd_start h
  | k + 1, hk => bwd_next (by omega) (bwd_done h k (by omega))

end Cert.ReferenceIdeal.Value
-- ==== Proof.Ends.RefEnd.lean ====
/-
  What the reference's program makes, in terms of the numbers its arguments hold: the inputs of its loops, and after them
  the gradients of the layer's input, of the maps, of the transition and of the skip.
-/
module

public import proofs.«01_k».proof.Proof.Ends.OutR
public import proofs.«01_k».proof.Proof.Ends.InR
public import proofs.«01_k».proof.Proof.Ends.MidR
public import proofs.«01_k».proof.Proof.Ref.Kept
public import proofs.«01_k».proof.Proof.Ref.Series

@[expose] public section

set_option maxRecDepth 16384

noncomputable section

namespace Cert.ReferenceIdeal.Value

open Cert.ReferenceIdeal Cert.ReferenceIdeal.Gen Cert.TwoLoops
open Idealize.ShloMosaic Idealize.ShloMosaic.TcCoe Idealize.ShloMosaic.Tactic
open Idealize.ShloMosaic.StableHlo Cert.Scan

variable (m : (ℓ : Loc nD τ sig) → Buf (Elt Ideal) ℓ) (c : Dev nD) (G : Glob)

/-- The buffers before the first loop, between the loops and after the second. -/
abbrev rE : Valuation τ sig (Elt Ideal) := after hostOps0 (launchContents m c)
abbrev rX : Valuation τ sig (Elt Ideal) := after fwdCond (fwdAt m 2048 c)
abbrev rY : Valuation τ sig (Elt Ideal) := after bwdCond (bwdAt m 2048 c)

theorem rX_pre {r : Ref sig .tc} (hf : r ∉ fwdW) : rX m c (Proc.devRef .tc r) = rE m c (Proc.devRef .tc r) := by
  unfold rX
  rw [(fwd_misses hf).1 _ List.mem_cons_self, fwdAt_kept m hf]

theorem rX_arg {r : Ref sig .tc} (h0 : r ∉ hostOps0_W) (hf : r ∉ fwdW) : rX m c (Proc.devRef .tc r) = launchContents m c (Proc.devRef .tc r) := by
  rw [rX_pre m c hf]
  exact after_of_writes_sub _ _ hostOps0_writes h0

theorem rX_loop {r : Ref sig .tc} (hc : r ∉ fwdCond_W) : rX m c (Proc.devRef .tc r) = fwdAt m 2048 c (Proc.devRef .tc r) :=
  after_of_writes_sub _ _ fwdCond_writes hc

theorem rY_mid {r : Ref sig .tc} (hb : r ∉ bwdW) : rY m c (Proc.devRef .tc r) = after hostOps0_1 (rX m c) (Proc.devRef .tc r) := by
  unfold rY
  rw [(bwd_misses hb).1 _ List.mem_cons_self, bwdAt_kept m hb]

theorem rY_pre {r : Ref sig .tc} (hf : r ∉ fwdW) (h1 : r ∉ hostOps0_1_W) (hb : r ∉ bwdW) :
    rY m c (Proc.devRef .tc r) = rE m c (Proc.devRef .tc r) := by
  rw [rY_mid m c hb, after_of_writes_sub _ _ hostOps0_1_writes h1]
  exact rX_pre m c hf

theorem rY_arg {r : Ref sig .tc} (h0 : r ∉ hostOps0_W) (hf : r ∉ fwdW) (h1 : r ∉ hostOps0_1_W) (hb : r ∉ bwdW) :
    rY m c (Proc.devRef .tc r) = launchContents m c (Proc.devRef .tc r) := by
  rw [rY_pre m c hf h1 hb]
  exact after_of_writes_sub _ _ hostOps0_writes h0

theorem rY_loop {r : Ref sig .tc} (hc : r ∉ bwdCond_W) : rY m c (Proc.devRef .tc r) = bwdAt m 2048 c (Proc.devRef .tc r) :=
  after_of_writes_sub _ _ bwdCond_writes hc

theorem last_mid {r : Ref sig .tc} (hb : r ∉ bwdW) (h2 : r ∉ hostOps0_2_W) : lastAt m c (Proc.devRef .tc r) = after hostOps0_1 (rX m c) (Proc.devRef .tc r) :=
  (after_of_writes_sub hostOps0_2 (rY m c) hostOps0_2_writes h2).trans (rY_mid m c hb)

/-- The reference's arguments, and what its host code first makes of them, hold the numbers `G`. -/
abbrev RHolds : Prop := G.Holds (fun t n => (launchContents m c (Proc.devRef .tc main_arg0) : FVec Ideal S2048x1024 .f32) (ix2 t n))
  (fun t n => (launchContents m c (Proc.devRef .tc main_arg1) : FVec Ideal S2048x1024 .f32) (ix2 t n))
  (fun g p => (rE m c (Proc.devRef .tc main_v9) : FVec Ideal S64x64 .f32) (ix2 g p))
  (fun g p => (rE m c (Proc.devRef .tc main_v14) : FVec Ideal S64x64 .f32) (ix2 g p))
  (fun g p n => (rE m c (Proc.devRef .tc main_v42) : FVec Ideal S64x64x16 .f32) (ix3 g p n))
  (fun g p n => (rE m c (Proc.devRef .tc main_v49) : FVec Ideal S64x64x16 .f32) (ix3 g p n))
  (fun g n p => (launchContents m c (Proc.devRef .tc main_arg7) : FVec Ideal S64x16x64 .f32) (ix3 g n p))
  (fun g n p => (launchContents m c (Proc.devRef .tc main_arg8) : FVec Ideal S64x16x64 .f32) (ix3 g n p))
  (fun n => (launchContents m c (Proc.devRef .tc main_arg9) : FVec Ideal S1024 .f32) (ix1 n))

theorem negf_apply (x : FVec Ideal S2048x64x16 .f32) (t : Fin 2048) (g : Fin 64) (n : Fin 16) :
    Host.negf x (ix3 t g n) = -(x (ix3 t g n) : EReal) := rfl

/-- What the numbers make of the entries of the arrays the products take. -/
theorem u_entry {u : FVec Ideal S2048x1024 .f32} {f : ℕ → ℕ → ℝ} (h : ∀ t n, u (ix2 t n) = (f t.val n.val : EReal))
    (t : Fin 2048) (g : Fin 64) (n : Fin 16) : grouped u (ix3 t g n) = (f t (16 * g + n) : EReal) :=
  (grouped_apply u t g n).trans (h t (gch g n))

theorem y_entry {u : FVec Ideal S2048x1024 .f32} {f : ℕ → ℕ → ℝ} (h : ∀ t n, u (ix2 t n) = (f t.val n.val : EReal))
    (t : Fin 2048) (g : Fin 64) (n : Fin 16) : gFirst (grouped (same u)) (ix3 g t n) = (f t (16 * g + n) : EReal) :=
  (gFirst_apply _ t g n).trans (u_entry (fun t n => (same_apply u t n).trans (h t n)) t g n)

theorem y_neg {u : FVec Ideal S2048x1024 .f32} {f : ℕ → ℕ → ℝ} (h : ∀ t n, u (ix2 t n) = (f t.val n.val : EReal))
    (t : Fin 2048) (g : Fin 64) (n : Fin 16) : gFirst (Host.negf (grouped (same u))) (ix3 g t n) = ((-f t (16 * g + n) : ℝ) : EReal) := by
  rw [gFirst_apply, negf_apply, u_entry (fun t n => (same_apply u t n).trans (h t n)) t g n, ← EReal.coe_neg]

/-- The parts of the gradient of the layer's input add to it. -/
theorem du_entry (s : FVec Ideal S2048x1024 .f32) (x y : FVec Ideal S2048x64x16 .f32) (t : Fin 2048) (n : Fin 1024)
    (hs : s (ix2 t n) = ((G.d n * G.dy t n : ℝ) : EReal))
    (hx : x (ix3 t ⟨n.val / 16, by omega⟩ ⟨n.val % 16, by omega⟩) = ((∑ p : Fin 64, (G.gr t (n.val / 16) p).im * G.bi (n.val / 16) p (n.val % 16) : ℝ) : EReal))
    (hy : y (ix3 t ⟨n.val / 16, by omega⟩ ⟨n.val % 16, by omega⟩) = ((∑ p : Fin 64, (G.gr t (n.val / 16) p).re * G.br (n.val / 16) p (n.val % 16) : ℝ) : EReal)) :
    addf s (flat (addf x y)) (ix2 t n) = (G.du t (n.val / 16) (n.val % 16) : EReal) := by
  have e : addf s (flat (addf x y)) (ix2 t n) = (s (ix2 t n) : EReal) + flat (addf x y) (ix2 t n) := rfl
  rw [e, flat_apply]
  have e' : addf x y (ix3 t ⟨n.val / 16, by omega⟩ ⟨n.val % 16, by omega⟩)
    = (x (ix3 t ⟨n.val / 16, by omega⟩ ⟨n.val % 16, by omega⟩) : EReal) + y (ix3 t ⟨n.val / 16, by omega⟩ ⟨n.val % 16, by omega⟩) := rfl
  rw [e', hs, hx, hy, ← EReal.coe_add, ← EReal.coe_add]
  refine congrArg _ ?_
  unfold Glob.du
  rw [Nat.div_add_mod]
  ring

section
variable {m c G} (h : RHolds m c G)
include h

theorem fwdStart : FwdStart m c G where
  h0 t g p := by
    show (after hostOps0 (launchContents m c) (Proc.devRef .tc main_v60_0) : FVec Ideal S2048x64x64 .f32) (ix3 t g p) = _
    rw [v60_0_eq]
    exact (toStates_apply _ _ t g p).trans (sum_mul_coe (fun n => u_entry h.hu t g n) (fun n => h.hbr g p n))
  h1 t g p := by
    show (after hostOps0 (launchContents m c) (Proc.devRef .tc main_v60_1) : FVec Ideal S2048x64x64 .f32) (ix3 t g p) = _
    rw [v60_1_eq]
    exact (toStates_apply _ _ t g p).trans (sum_mul_coe (fun n => u_entry h.hu t g n) (fun n => h.hbi g p n))
  h2 g p := by
    show (after hostOps0 (launchContents m c) (Proc.devRef .tc main_v60_2) : FVec Ideal S64x64 .f32) (ix2 g p) = _
    rw [v60_2_eq]
    exact h.har g p
  h3 g p := by
    show (after hostOps0 (launchContents m c) (Proc.devRef .tc main_v60_3) : FVec Ideal S64x64 .f32) (ix2 g p) = _
    rw [v60_3_eq]
    exact h.hai g p
  h5 g p := by
    show (after hostOps0 (launchContents m c) (Proc.devRef .tc main_v60_5) : FVec Ideal S64x64 .f32) (ix2 g p) = _
    rw [v60_5_eq]
    exact zeros_apply g p
  h6 g p := by
    show (after hostOps0 (launchContents m c) (Proc.devRef .tc main_v60_6) : FVec Ideal S64x64 .f32) (ix2 g p) = _
    rw [v60_6_eq]
    exact zeros_apply g p

theorem fwdEnd : FwdDone m c G 2048 := fwd_done (fwdStart h) 2048 le_rfl

/-- The values the second loop and the results start from. -/
theorem rX_u (t : Fin 2048) (n : Fin 1024) : (rX m c (Proc.devRef .tc main_arg0) : FVec Ideal S2048x1024 .f32) (ix2 t n) = (G.u t n : EReal) := by
  rw [rX_arg m c (r := main_arg0) (by decide) (by decide)]; exact h.hu t n
theorem rX_dy (t : Fin 2048) (n : Fin 1024) : (rX m c (Proc.devRef .tc main_arg1) : FVec Ideal S2048x1024 .f32) (ix2 t n) = (G.dy t n : EReal) := by
  rw [rX_arg m c (r := main_arg1) (by decide) (by decide)]; exact h.hdy t n
theorem rX_cr (g : Fin 64) (n : Fin 16) (p : Fin 64) : (rX m c (Proc.devRef .tc main_arg7) : FVec Ideal S64x16x64 .f32) (ix3 g n p) = (G.cr g n p : EReal) := by
  rw [rX_arg m c (r := main_arg7) (by decide) (by decide)]; exact h.hcr g n p
theorem rX_ci (g : Fin 64) (n : Fin 16) (p : Fin 64) : (rX m c (Proc.devRef .tc main_arg8) : FVec Ideal S64x16x64 .f32) (ix3 g n p) = (G.ci g n p : EReal) := by
  rw [rX_arg m c (r := main_arg8) (by decide) (by decide)]; exact h.hci g n p
theorem rX_d (n : Fin 1024) : (rX m c (Proc.devRef .tc main_arg9) : FVec Ideal S1024 .f32) (ix1 n) = (G.d n : EReal) := by
  rw [rX_arg m c (r := main_arg9) (by decide) (by decide)]; exact h.hd n
theorem rX_xr (t : Fin 2048) (g p : Fin 64) : (rX m c (Proc.devRef .tc main_v60_7) : FVec Ideal S2048x64x64 .f32) (ix3 t g p) = ((G.x t g p).re : EReal) := by
  rw [rX_loop m c (r := main_v60_7) (by decide)]; exact (fwdEnd h).h7 t g p t.isLt
theorem rX_xi (t : Fin 2048) (g p : Fin 64) : (rX m c (Proc.devRef .tc main_v60_8) : FVec Ideal S2048x64x64 .f32) (ix3 t g p) = ((G.x t g p).im : EReal) := by
  rw [rX_loop m c (r := main_v60_8) (by decide)]; exact (fwdEnd h).h8 t g p t.isLt

theorem bwdStart : BwdStart m c G where
  h0 t g p := by
    show (after hostOps0_1 (rX m c) (Proc.devRef .tc main_v97_0) : FVec Ideal S2048x64x64 .f32) (ix3 t g p) = _
    rw [v97_0_eq]
    exact (toGrads_apply _ _ t g p).trans (sum_mul_coe (fun n => y_entry (rX_dy h) t g n) (fun n => rX_cr h g n p))
  h1 t g p := by
    show (after hostOps0_1 (rX m c) (Proc.devRef .tc main_v97_1) : FVec Ideal S2048x64x64 .f32) (ix3 t g p) = _
    rw [v97_1_eq]
    refine (toGrads_apply _ _ t g p).trans ((sum_mul_coe (fun n => y_neg (rX_dy h) t g n) (fun n => rX_ci h g n p)).trans (congrArg _ ?_))
    simp only [neg_mul, Finset.sum_neg_distrib]
    rfl
  h2 t g p := by
    show (after hostOps0_1 (rX m c) (Proc.devRef .tc main_v97_2) : FVec Ideal S2048x64x64 .f32) (ix3 t g p) = _
    rw [v97_2_eq, rX_loop m c (r := main_v60_9) (by decide)]
    exact (fwdEnd h).h9 t g p t.isLt
  h3 t g p := by
    show (after hostOps0_1 (rX m c) (Proc.devRef .tc main_v97_3) : FVec Ideal S2048x64x64 .f32) (ix3 t g p) = _
    rw [v97_3_eq, rX_loop m c (r := main_v60_10) (by decide)]
    exact (fwdEnd h).h10 t g p t.isLt
  h4 g p := by
    show (after hostOps0_1 (rX m c) (Proc.devRef .tc main_v97_4) : FVec Ideal S64x64 .f32) (ix2 g p) = _
    rw [v97_4_eq, rX_pre m c (r := main_v9) (by decide)]
    exact h.har g p
  h5 g p := by
    show (after hostOps0_1 (rX m c) (Proc.devRef .tc main_v97_5) : FVec Ideal S64x64 .f32) (ix2 g p) = _
    rw [v97_5_eq, rX_pre m c (r := main_v14) (by decide)]
    exact h.hai g p
  h7 g p := by
    show (after hostOps0_1 (rX m c) (Proc.devRef .tc main_v97_7) : FVec Ideal S64x64 .f32) (ix2 g p) = _
    rw [v97_7_eq]
    exact zeros_apply g p
  h8 g p := by
    show (after hostOps0_1 (rX m c) (Proc.devRef .tc main_v97_8) : FVec Ideal S64x64 .f32) (ix2 g p) = _
    rw [v97_8_eq]
    exact zeros_apply g p
  h9 g p := by
    show (after hostOps0_1 (rX m c) (Proc.devRef .tc main_v97_9) : FVec Ideal S64x64 .f32) (ix2 g p) = _
    rw [v97_9_eq]
    exact zeros_apply g p
  h10 g p := by
    show (after hostOps0_1 (rX m c) (Proc.devRef .tc main_v97_10) : FVec Ideal S64x64 .f32) (ix2 g p) = _
    rw [v97_10_eq]
    exact zeros_apply g p

theorem bwdEnd : BwdDone m c G 2048 := bwd_done (bwdStart h) 2048 le_rfl

/-- The values the results take from the second loop and before it. -/
theorem rY_gr (t : Fin 2048) (g p : Fin 64) : (rY m c (Proc.devRef .tc main_v97_11) : FVec Ideal S2048x64x64 .f32) (ix3 t g p) = ((G.gr t g p).re : EReal) := by
  rw [rY_loop m c (r := main_v97_11) (by decide)]; exact (bwdEnd h).h11 t g p (by omega)
theorem rY_gi (t : Fin 2048) (g p : Fin 64) : (rY m c (Proc.devRef .tc main_v97_12) : FVec Ideal S2048x64x64 .f32) (ix3 t g p) = ((G.gr t g p).im : EReal) := by
  rw [rY_loop m c (r := main_v97_12) (by decide)]; exact (bwdEnd h).h12 t g p (by omega)
theorem rY_ar (g p : Fin 64) : (rY m c (Proc.devRef .tc main_v97_7) : FVec Ideal S64x64 .f32) (ix2 g p) = ((G.da g p).re : EReal) := by
  rw [rY_loop m c (r := main_v97_7) (by decide)]; exact (bwdEnd h).h7 g p
theorem rY_ai (g p : Fin 64) : (rY m c (Proc.devRef .tc main_v97_8) : FVec Ideal S64x64 .f32) (ix2 g p) = ((G.da g p).im : EReal) := by
  rw [rY_loop m c (r := main_v97_8) (by decide)]; exact (bwdEnd h).h8 g p
theorem rY_u (t : Fin 2048) (g : Fin 64) (n : Fin 16) : (rY m c (Proc.devRef .tc main_v50) : FVec Ideal S2048x64x16 .f32) (ix3 t g n) = (G.u t (16 * g + n) : EReal) := by
  rw [rY_pre m c (r := main_v50) (by decide) (by decide) (by decide)]
  unfold rE
  rw [v50_eq]
  exact u_entry h.hu t g n
theorem rY_br (g p : Fin 64) (n : Fin 16) : (rY m c (Proc.devRef .tc main_v42) : FVec Ideal S64x64x16 .f32) (ix3 g p n) = (G.br g p n : EReal) := by
  rw [rY_pre m c (r := main_v42) (by decide) (by decide) (by decide)]; exact h.hbr g p n
theorem rY_bi (g p : Fin 64) (n : Fin 16) : (rY m c (Proc.devRef .tc main_v49) : FVec Ideal S64x64x16 .f32) (ix3 g p n) = (G.bi g p n : EReal) := by
  rw [rY_pre m c (r := main_v49) (by decide) (by decide) (by decide)]; exact h.hbi g p n
theorem rY_skip (t : Fin 2048) (n : Fin 1024) : (rY m c (Proc.devRef .tc main_v76) : FVec Ideal S2048x1024 .f32) (ix2 t n) = ((G.d n * G.dy t n : ℝ) : EReal) := by
  rw [rY_mid m c (r := main_v76) (by decide), v76_eq]
  refine (skip_apply _ _ t n).trans ?_
  rw [rX_d h n, rX_dy h t n, ← EReal.coe_mul]

/-- The gradient of the layer's input. -/
theorem r_du (t : Fin 2048) (n : Fin 1024) : (lastAt m c (Proc.devRef .tc main_v108) : FVec Ideal S2048x1024 .f32) (ix2 t n)
    = (G.du t (n.val / 16) (n.val % 16) : EReal) := by
  show (after hostOps0_2 (rY m c) (Proc.devRef .tc main_v108) : FVec Ideal S2048x1024 .f32) (ix2 t n) = _
  rw [v108_eq]
  have e1 : ∀ g : Fin 64, ∀ k : Fin 16, toChans (rY m c (Proc.devRef .tc main_v97_12)) (rY m c (Proc.devRef .tc main_v49)) (ix3 t g k)
      = ((∑ p : Fin 64, (G.gr t g p).im * G.bi g p k : ℝ) : EReal) := fun g k =>
    (toChans_apply _ _ t g k).trans (sum_mul_coe (fun p => rY_gi h t g p) (fun p => rY_bi h g p k))
  have e2 : ∀ g : Fin 64, ∀ k : Fin 16, toChans (rY m c (Proc.devRef .tc main_v97_11)) (rY m c (Proc.devRef .tc main_v42)) (ix3 t g k)
      = ((∑ p : Fin 64, (G.gr t g p).re * G.br g p k : ℝ) : EReal) := fun g k =>
    (toChans_apply _ _ t g k).trans (sum_mul_coe (fun p => rY_gr h t g p) (fun p => rY_br h g p k))
  exact du_entry G _ _ _ t n (rY_skip h t n) (e1 ⟨n.val / 16, by omega⟩ ⟨n.val % 16, by omega⟩) (e2 ⟨n.val / 16, by omega⟩ ⟨n.val % 16, by omega⟩)

set_option maxHeartbeats 1000000 in
/-- The gradients of the output maps. -/
theorem r_dcr (g : Fin 64) (n : Fin 16) (p : Fin 64) : (lastAt m c (Proc.devRef .tc main_v88) : FVec Ideal S64x16x64 .f32) (ix3 g n p)
    = (G.dcr g n p : EReal) := by
  rw [last_mid m c (r := main_v88) (by decide) (by decide), v88_eq]
  refine (outMap_apply _ _ g n p).trans ((sum_mul_coe (fun t => y_entry (rX_dy h) t g n) (fun t => rX_xr h t g p)).trans (congrArg _ ?_))
  exact Finset.sum_congr rfl fun t _ => mul_comm _ _

set_option maxHeartbeats 1000000 in
theorem r_dci (g : Fin 64) (n : Fin 16) (p : Fin 64) : (lastAt m c (Proc.devRef .tc main_v84) : FVec Ideal S64x16x64 .f32) (ix3 g n p)
    = (G.dci g n p : EReal) := by
  rw [last_mid m c (r := main_v84) (by decide) (by decide), v84_eq]
  refine (outMap_apply _ _ g n p).trans ((sum_mul_coe (fun t => y_neg (rX_dy h) t g n) (fun t => rX_xi h t g p)).trans (congrArg _ ?_))
  unfold Glob.dci
  rw [← Finset.sum_neg_distrib]
  exact Finset.sum_congr rfl fun t _ => by ring

/-- The gradient of the skip. -/
theorem r_dd (n : Fin 1024) : (lastAt m c (Proc.devRef .tc main_v80) : FVec Ideal S1024 .f32) (ix1 n) = (G.dd n : EReal) := by
  rw [last_mid m c (r := main_v80) (by decide) (by decide), v80_eq]
  exact (skipGrad_apply _ _ n).trans (sum_mul_coe (fun t => rX_dy h t n) (fun t => rX_u h t n))

/-- The gradients of the discretised input maps. -/
theorem r_dbr (g p : Fin 64) (n : Fin 16) : (after headOps (rY m c) (Proc.devRef .tc main_v103) : FVec Ideal S64x64x16 .f32) (ix3 g p n)
    = (G.dbr g p n : EReal) := by
  rw [v103_eq]
  refine (inMap_apply _ _ g p n).trans ((sum_mul_coe (fun t => rY_gr h t g p) (fun t => rY_u h t g n)).trans (congrArg _ ?_))
  exact Finset.sum_congr rfl fun t _ => mul_comm _ _

theorem r_dbi (g p : Fin 64) (n : Fin 16) : (after headOps (rY m c) (Proc.devRef .tc main_v99) : FVec Ideal S64x64x16 .f32) (ix3 g p n)
    = (G.dbi g p n : EReal) := by
  rw [v99_eq]
  refine (inMap_apply _ _ g p n).trans ((sum_mul_coe (fun t => rY_gi h t g p) (fun t => rY_u h t g n)).trans (congrArg _ ?_))
  exact Finset.sum_congr rfl fun t _ => mul_comm _ _

end

end Cert.ReferenceIdeal.Value
-- ==== Proof.Ends.AnsR.lean ====
/-
  The gradients that the reference's program makes after its loops: functions of its arguments and of what the loops compute.
-/
module

public import proofs.«01_k».proof.Proof.Ends.RefEnd
public import proofs.«01_k».proof.Proof.Ends.KerEnd

@[expose] public section

set_option maxRecDepth 16384

noncomputable section

namespace Cert.ReferenceIdeal.Value

open Cert.ReferenceIdeal Cert.ReferenceIdeal.Gen Cert.TwoLoops
open Idealize.ShloMosaic Idealize.ShloMosaic.TcCoe Idealize.ShloMosaic.Tactic
open Idealize.ShloMosaic.StableHlo Cert.Scan
open Cert.KernelIdeal.Value (ext_ix1 ext_ix2 ext_ix3 ansDu ansDbr ansDbi ansDcr ansDci ansDar ansDai ansDd)

/-- The gradient that `gLamRe` makes of the layer's arguments and the numbers' gradients. -/
def resLamRe (G : Glob) (arg2 : FVec Ideal S64x64 .f32) (arg3 : FVec Ideal S64x64 .f32) (arg4 : FVec Ideal S64 .f32) (arg5 : FVec Ideal S64x64x16 .f32) (arg6 : FVec Ideal S64x64x16 .f32) : FVec Ideal S64x64 .f32 :=
  gLamRe arg2 arg3 arg5 arg6 (pre1 arg4) (pre12 arg3 arg4) (ansDai G) (ansDar G) (ansDbi G) (ansDbr G) (pre14 arg2 arg3 arg4) (pre17 arg2 arg3) (pre19 arg2 arg3 arg4) (pre22 arg2 arg3 arg4) (pre26 arg2 arg3) (pre31 arg2 arg3 arg4) (pre35 arg2 arg3) (pre4 arg2 arg4) (pre7 arg3 arg4)

/-- The gradient that `gLamIm` makes of the layer's arguments and the numbers' gradients. -/
def resLamIm (G : Glob) (arg2 : FVec Ideal S64x64 .f32) (arg3 : FVec Ideal S64x64 .f32) (arg4 : FVec Ideal S64 .f32) (arg5 : FVec Ideal S64x64x16 .f32) (arg6 : FVec Ideal S64x64x16 .f32) : FVec Ideal S64x64 .f32 :=
  gLamIm arg2 arg3 arg5 arg6 (pre1 arg4) (pre13 arg3 arg4) (ansDai G) (ansDar G) (ansDbi G) (ansDbr G) (pre14 arg2 arg3 arg4) (pre17 arg2 arg3) (pre22 arg2 arg3 arg4) (pre26 arg2 arg3) (pre29 arg2 arg3 arg4) (pre31 arg2 arg3 arg4) (pre35 arg2 arg3) (pre4 arg2 arg4) (pre8 arg3 arg4)

/-- The gradient that `gStep` makes of the layer's arguments and the numbers' gradients. -/
def resStep (G : Glob) (arg2 : FVec Ideal S64x64 .f32) (arg3 : FVec Ideal S64x64 .f32) (arg4 : FVec Ideal S64 .f32) (arg5 : FVec Ideal S64x64x16 .f32) (arg6 : FVec Ideal S64x64x16 .f32) : FVec Ideal S64 .f32 :=
  gStep arg2 arg3 arg5 arg6 (pre0 arg4) (pre12 arg3 arg4) (pre13 arg3 arg4) (ansDai G) (ansDar G) (ansDbi G) (ansDbr G) (pre17 arg2 arg3) (pre4 arg2 arg4) (pre7 arg3 arg4) (pre8 arg3 arg4)

/-- The gradient that `gBRe` makes of the layer's arguments and the numbers' gradients. -/
def resBRe (G : Glob) (arg2 : FVec Ideal S64x64 .f32) (arg3 : FVec Ideal S64x64 .f32) (arg4 : FVec Ideal S64 .f32) (arg5 : FVec Ideal S64x64x16 .f32) (arg6 : FVec Ideal S64x64x16 .f32) : FVec Ideal S64x64x16 .f32 :=
  gBRe (ansDbi G) (ansDbr G) (pre36 arg2 arg3 arg4) (pre46 arg2 arg3 arg4)

/-- The gradient that `gBIm` makes of the layer's arguments and the numbers' gradients. -/
def resBIm (G : Glob) (arg2 : FVec Ideal S64x64 .f32) (arg3 : FVec Ideal S64x64 .f32) (arg4 : FVec Ideal S64 .f32) (arg5 : FVec Ideal S64x64x16 .f32) (arg6 : FVec Ideal S64x64x16 .f32) : FVec Ideal S64x64x16 .f32 :=
  gBIm (ansDbi G) (ansDbr G) (pre39 arg2 arg3 arg4) (pre43 arg2 arg3 arg4)

variable (m : (ℓ : Loc nD τ sig) → Buf (Elt Ideal) ℓ) (c : Dev nD) (G : Glob)

theorem leaf_arg2 : after headOps (rY m c) (Proc.devRef .tc main_arg2) = launchContents m c (Proc.devRef .tc main_arg2) := (head_arg2 _).trans (rY_arg m c (r := main_arg2) (by decide) (by decide) (by decide) (by decide))
theorem leaf_arg3 : after headOps (rY m c) (Proc.devRef .tc main_arg3) = launchContents m c (Proc.devRef .tc main_arg3) := (head_arg3 _).trans (rY_arg m c (r := main_arg3) (by decide) (by decide) (by decide) (by decide))
theorem leaf_arg5 : after headOps (rY m c) (Proc.devRef .tc main_arg5) = launchContents m c (Proc.devRef .tc main_arg5) := (head_arg5 _).trans (rY_arg m c (r := main_arg5) (by decide) (by decide) (by decide) (by decide))
theorem leaf_arg6 : after headOps (rY m c) (Proc.devRef .tc main_arg6) = launchContents m c (Proc.devRef .tc main_arg6) := (head_arg6 _).trans (rY_arg m c (r := main_arg6) (by decide) (by decide) (by decide) (by decide))
theorem leaf_v0 : after headOps (rY m c) (Proc.devRef .tc main_v0) = pre0 (launchContents m c (Proc.devRef .tc main_arg4)) :=
  (head_v0 _).trans ((rY_pre m c (r := main_v0) (by decide) (by decide) (by decide)).trans (pre0_eq _))
theorem leaf_v1 : after headOps (rY m c) (Proc.devRef .tc main_v1) = pre1 (launchContents m c (Proc.devRef .tc main_arg4)) :=
  (head_v1 _).trans ((rY_pre m c (r := main_v1) (by decide) (by decide) (by decide)).trans (pre1_eq _))
theorem leaf_v4 : after headOps (rY m c) (Proc.devRef .tc main_v4) = pre4 (launchContents m c (Proc.devRef .tc main_arg2)) (launchContents m c (Proc.devRef .tc main_arg4)) :=
  (head_v4 _).trans ((rY_pre m c (r := main_v4) (by decide) (by decide) (by decide)).trans (pre4_eq _))
theorem leaf_v7 : after headOps (rY m c) (Proc.devRef .tc main_v7) = pre7 (launchContents m c (Proc.devRef .tc main_arg3)) (launchContents m c (Proc.devRef .tc main_arg4)) :=
  (head_v7 _).trans ((rY_pre m c (r := main_v7) (by decide) (by decide) (by decide)).trans (pre7_eq _))
theorem leaf_v8 : after headOps (rY m c) (Proc.devRef .tc main_v8) = pre8 (launchContents m c (Proc.devRef .tc main_arg3)) (launchContents m c (Proc.devRef .tc main_arg4)) :=
  (head_v8 _).trans ((rY_pre m c (r := main_v8) (by decide) (by decide) (by decide)).trans (pre8_eq _))
theorem leaf_v12 : after headOps (rY m c) (Proc.devRef .tc main_v12) = pre12 (launchContents m c (Proc.devRef .tc main_arg3)) (launchContents m c (Proc.devRef .tc main_arg4)) :=
  (head_v12 _).trans ((rY_pre m c (r := main_v12) (by decide) (by decide) (by decide)).trans (pre12_eq _))
theorem leaf_v13 : after headOps (rY m c) (Proc.devRef .tc main_v13) = pre13 (launchContents m c (Proc.devRef .tc main_arg3)) (launchContents m c (Proc.devRef .tc main_arg4)) :=
  (head_v13 _).trans ((rY_pre m c (r := main_v13) (by decide) (by decide) (by decide)).trans (pre13_eq _))
theorem leaf_v14 : after headOps (rY m c) (Proc.devRef .tc main_v14) = pre14 (launchContents m c (Proc.devRef .tc main_arg2)) (launchContents m c (Proc.devRef .tc main_arg3)) (launchContents m c (Proc.devRef .tc main_arg4)) :=
  (head_v14 _).trans ((rY_pre m c (r := main_v14) (by decide) (by decide) (by decide)).trans (pre14_eq _))
theorem leaf_v17 : after headOps (rY m c) (Proc.devRef .tc main_v17) = pre17 (launchContents m c (Proc.devRef .tc main_arg2)) (launchContents m c (Proc.devRef .tc main_arg3)) :=
  (head_v17 _).trans ((rY_pre m c (r := main_v17) (by decide) (by decide) (by decide)).trans (pre17_eq _))
theorem leaf_v19 : after headOps (rY m c) (Proc.devRef .tc main_v19) = pre19 (launchContents m c (Proc.devRef .tc main_arg2)) (launchContents m c (Proc.devRef .tc main_arg3)) (launchContents m c (Proc.devRef .tc main_arg4)) :=
  (head_v19 _).trans ((rY_pre m c (r := main_v19) (by decide) (by decide) (by decide)).trans (pre19_eq _))
theorem leaf_v22 : after headOps (rY m c) (Proc.devRef .tc main_v22) = pre22 (launchContents m c (Proc.devRef .tc main_arg2)) (launchContents m c (Proc.devRef .tc main_arg3)) (launchContents m c (Proc.devRef .tc main_arg4)) :=
  (head_v22 _).trans ((rY_pre m c (r := main_v22) (by decide) (by decide) (by decide)).trans (pre22_eq _))
theorem leaf_v26 : after headOps (rY m c) (Proc.devRef .tc main_v26) = pre26 (launchContents m c (Proc.devRef .tc main_arg2)) (launchContents m c (Proc.devRef .tc main_arg3)) :=
  (head_v26 _).trans ((rY_pre m c (r := main_v26) (by decide) (by decide) (by decide)).trans (pre26_eq _))
theorem leaf_v29 : after headOps (rY m c) (Proc.devRef .tc main_v29) = pre29 (launchContents m c (Proc.devRef .tc main_arg2)) (launchContents m c (Proc.devRef .tc main_arg3)) (launchContents m c (Proc.devRef .tc main_arg4)) :=
  (head_v29 _).trans ((rY_pre m c (r := main_v29) (by decide) (by decide) (by decide)).trans (pre29_eq _))
theorem leaf_v31 : after headOps (rY m c) (Proc.devRef .tc main_v31) = pre31 (launchContents m c (Proc.devRef .tc main_arg2)) (launchContents m c (Proc.devRef .tc main_arg3)) (launchContents m c (Proc.devRef .tc main_arg4)) :=
  (head_v31 _).trans ((rY_pre m c (r := main_v31) (by decide) (by decide) (by decide)).trans (pre31_eq _))
theorem leaf_v35 : after headOps (rY m c) (Proc.devRef .tc main_v35) = pre35 (launchContents m c (Proc.devRef .tc main_arg2)) (launchContents m c (Proc.devRef .tc main_arg3)) :=
  (head_v35 _).trans ((rY_pre m c (r := main_v35) (by decide) (by decide) (by decide)).trans (pre35_eq _))
theorem leaf_v36 : after headOps (rY m c) (Proc.devRef .tc main_v36) = pre36 (launchContents m c (Proc.devRef .tc main_arg2)) (launchContents m c (Proc.devRef .tc main_arg3)) (launchContents m c (Proc.devRef .tc main_arg4)) :=
  (head_v36 _).trans ((rY_pre m c (r := main_v36) (by decide) (by decide) (by decide)).trans (pre36_eq _))
theorem leaf_v39 : after headOps (rY m c) (Proc.devRef .tc main_v39) = pre39 (launchContents m c (Proc.devRef .tc main_arg2)) (launchContents m c (Proc.devRef .tc main_arg3)) (launchContents m c (Proc.devRef .tc main_arg4)) :=
  (head_v39 _).trans ((rY_pre m c (r := main_v39) (by decide) (by decide) (by decide)).trans (pre39_eq _))
theorem leaf_v43 : after headOps (rY m c) (Proc.devRef .tc main_v43) = pre43 (launchContents m c (Proc.devRef .tc main_arg2)) (launchContents m c (Proc.devRef .tc main_arg3)) (launchContents m c (Proc.devRef .tc main_arg4)) :=
  (head_v43 _).trans ((rY_pre m c (r := main_v43) (by decide) (by decide) (by decide)).trans (pre43_eq _))
theorem leaf_v46 : after headOps (rY m c) (Proc.devRef .tc main_v46) = pre46 (launchContents m c (Proc.devRef .tc main_arg2)) (launchContents m c (Proc.devRef .tc main_arg3)) (launchContents m c (Proc.devRef .tc main_arg4)) :=
  (head_v46 _).trans ((rY_pre m c (r := main_v46) (by decide) (by decide) (by decide)).trans (pre46_eq _))

section
variable {m c G} (h : RHolds m c G)
include h

theorem grad_v99 : after headOps (rY m c) (Proc.devRef .tc main_v99) = ansDbi G :=
  ext_ix3 (r_dbi h)
theorem grad_v103 : after headOps (rY m c) (Proc.devRef .tc main_v103) = ansDbr G :=
  ext_ix3 (r_dbr h)
theorem grad_v97_7 : after headOps (rY m c) (Proc.devRef .tc main_v97_7) = ansDar G :=
  (head_v97_7 _).trans (ext_ix2 (rY_ar h))
theorem grad_v97_8 : after headOps (rY m c) (Proc.devRef .tc main_v97_8) = ansDai G :=
  (head_v97_8 _).trans (ext_ix2 (rY_ai h))
theorem last_v108 : lastAt m c (Proc.devRef .tc main_v108) = ansDu G := ext_ix2 (r_du h)
theorem last_v88 : lastAt m c (Proc.devRef .tc main_v88) = ansDcr G := ext_ix3 (r_dcr h)
theorem last_v84 : lastAt m c (Proc.devRef .tc main_v84) = ansDci G := ext_ix3 (r_dci h)
theorem last_v80 : lastAt m c (Proc.devRef .tc main_v80) = ansDd G := ext_ix1 (r_dd h)

theorem last_gLamRe : lastAt m c (Proc.devRef .tc main_v198) = resLamRe G (launchContents m c (Proc.devRef .tc main_arg2)) (launchContents m c (Proc.devRef .tc main_arg3)) (launchContents m c (Proc.devRef .tc main_arg4)) (launchContents m c (Proc.devRef .tc main_arg5)) (launchContents m c (Proc.devRef .tc main_arg6)) := by
  show after hostOps0_2 (rY m c) (Proc.devRef .tc main_v198) = _
  rw [after_split, tail_gLamRe, leaf_arg2, leaf_arg3, leaf_arg5, leaf_arg6, leaf_v1, leaf_v12, grad_v97_8 h, grad_v97_7 h, grad_v99 h, grad_v103 h, leaf_v14, leaf_v17, leaf_v19, leaf_v22, leaf_v26, leaf_v31, leaf_v35, leaf_v4, leaf_v7]
  rfl

theorem last_gLamIm : lastAt m c (Proc.devRef .tc main_v190) = resLamIm G (launchContents m c (Proc.devRef .tc main_arg2)) (launchContents m c (Proc.devRef .tc main_arg3)) (launchContents m c (Proc.devRef .tc main_arg4)) (launchContents m c (Proc.devRef .tc main_arg5)) (launchContents m c (Proc.devRef .tc main_arg6)) := by
  show after hostOps0_2 (rY m c) (Proc.devRef .tc main_v190) = _
  rw [after_split, tail_gLamIm, leaf_arg2, leaf_arg3, leaf_arg5, leaf_arg6, leaf_v1, leaf_v13, grad_v97_8 h, grad_v97_7 h, grad_v99 h, grad_v103 h, leaf_v14, leaf_v17, leaf_v22, leaf_v26, leaf_v29, leaf_v31, leaf_v35, leaf_v4, leaf_v8]
  rfl

theorem last_gStep : lastAt m c (Proc.devRef .tc main_v200) = resStep G (launchContents m c (Proc.devRef .tc main_arg2)) (launchContents m c (Proc.devRef .tc main_arg3)) (launchContents m c (Proc.devRef .tc main_arg4)) (launchContents m c (Proc.devRef .tc main_arg5)) (launchContents m c (Proc.devRef .tc main_arg6)) := by
  show after hostOps0_2 (rY m c) (Proc.devRef .tc main_v200) = _
  rw [after_split, tail_gStep, leaf_arg2, leaf_arg3, leaf_arg5, leaf_arg6, leaf_v0, leaf_v12, leaf_v13, grad_v97_8 h, grad_v97_7 h, grad_v99 h, grad_v103 h, leaf_v17, leaf_v4, leaf_v7, leaf_v8]
  rfl

theorem last_gBRe : lastAt m c (Proc.devRef .tc main_v132) = resBRe G (launchContents m c (Proc.devRef .tc main_arg2)) (launchContents m c (Proc.devRef .tc main_arg3)) (launchContents m c (Proc.devRef .tc main_arg4)) (launchContents m c (Proc.devRef .tc main_arg5)) (launchContents m c (Proc.devRef .tc main_arg6)) := by
  show after hostOps0_2 (rY m c) (Proc.devRef .tc main_v132) = _
  rw [after_split, tail_gBRe, grad_v99 h, grad_v103 h, leaf_v36, leaf_v46]
  rfl

theorem last_gBIm : lastAt m c (Proc.devRef .tc main_v124) = resBIm G (launchContents m c (Proc.devRef .tc main_arg2)) (launchContents m c (Proc.devRef .tc main_arg3)) (launchContents m c (Proc.devRef .tc main_arg4)) (launchContents m c (Proc.devRef .tc main_arg5)) (launchContents m c (Proc.devRef .tc main_arg6)) := by
  show after hostOps0_2 (rY m c) (Proc.devRef .tc main_v124) = _
  rw [after_split, tail_gBIm, grad_v99 h, grad_v103 h, leaf_v39, leaf_v43]
  rfl

end

end Cert.ReferenceIdeal.Value
-- ==== Proof.Ends.TailSame.lean ====
module

public import proofs.«01_k».proof.Proof.Ends.TailK
public import proofs.«01_k».proof.Proof.Ends.TailR
public import Idealize.ShloMosaic.Lib.Pointwise
public import Idealize.ShloMosaic.Lib.StableHlo.RunRead

/-! The gradient of the discretisation is the same function in both programs. -/

@[expose] public section

set_option maxRecDepth 16384

noncomputable section

namespace Cert.Ends

open Idealize.ShloMosaic

theorem gLamRe_eq : @ReferenceIdeal.Value.gLamRe = @KernelIdeal.Value.gLamRe := by
  funext arg2 arg3 arg5 arg6 v1 v12 dai dar dbi dbr v14 v17 v19 v22 v26 v31 v35 v4 v7
  rfl

theorem gLamIm_eq : @ReferenceIdeal.Value.gLamIm = @KernelIdeal.Value.gLamIm := by
  funext arg2 arg3 arg5 arg6 v1 v13 dai dar dbi dbr v14 v17 v22 v26 v29 v31 v35 v4 v8
  rfl

theorem gStep_eq : @ReferenceIdeal.Value.gStep = @KernelIdeal.Value.gStep := by
  funext arg2 arg3 arg5 arg6 v0 v12 v13 dai dar dbi dbr v17 v4 v7 v8
  rfl

theorem gBRe_eq : @ReferenceIdeal.Value.gBRe = @KernelIdeal.Value.gBRe := by
  funext dbi dbr v36 v46
  rfl

theorem gBIm_eq : @ReferenceIdeal.Value.gBIm = @KernelIdeal.Value.gBIm := by
  funext dbi dbr v39 v43
  rfl

end Cert.Ends
-- ==== Proof.Ends.PreSame.lean ====
module

public import proofs.«01_k».proof.Proof.Ends.PreK
public import proofs.«01_k».proof.Proof.Ends.PreR
public import Idealize.ShloMosaic.Lib.Pointwise
public import Idealize.ShloMosaic.Lib.StableHlo.RunRead

/-! The discretisation is the same function in both programs. -/

@[expose] public section

set_option maxRecDepth 16384

noncomputable section

namespace Cert.Ends

open Idealize.ShloMosaic

theorem pre0_same : @ReferenceIdeal.Value.pre0 = @KernelIdeal.Value.pre0 := by
  funext arg4
  rfl

theorem pre1_same : @ReferenceIdeal.Value.pre1 = @KernelIdeal.Value.pre1 := by
  funext arg4
  rfl

theorem pre4_same : @ReferenceIdeal.Value.pre4 = @KernelIdeal.Value.pre4 := by
  funext arg2 arg4
  rfl

theorem pre7_same : @ReferenceIdeal.Value.pre7 = @KernelIdeal.Value.pre7 := by
  funext arg3 arg4
  rfl

theorem pre8_same : @ReferenceIdeal.Value.pre8 = @KernelIdeal.Value.pre8 := by
  funext arg3 arg4
  rfl

theorem pre9_same : @ReferenceIdeal.Value.pre9 = @KernelIdeal.Value.pre9 := by
  funext arg2 arg3 arg4
  rfl

theorem pre12_same : @ReferenceIdeal.Value.pre12 = @KernelIdeal.Value.pre12 := by
  funext arg3 arg4
  rfl

theorem pre13_same : @ReferenceIdeal.Value.pre13 = @KernelIdeal.Value.pre13 := by
  funext arg3 arg4
  rfl

theorem pre14_same : @ReferenceIdeal.Value.pre14 = @KernelIdeal.Value.pre14 := by
  funext arg2 arg3 arg4
  rfl

theorem pre17_same : @ReferenceIdeal.Value.pre17 = @KernelIdeal.Value.pre17 := by
  funext arg2 arg3
  rfl

theorem pre19_same : @ReferenceIdeal.Value.pre19 = @KernelIdeal.Value.pre19 := by
  funext arg2 arg3 arg4
  rfl

theorem pre22_same : @ReferenceIdeal.Value.pre22 = @KernelIdeal.Value.pre22 := by
  funext arg2 arg3 arg4
  rfl

theorem pre26_same : @ReferenceIdeal.Value.pre26 = @KernelIdeal.Value.pre26 := by
  funext arg2 arg3
  rfl

theorem pre29_same : @ReferenceIdeal.Value.pre29 = @KernelIdeal.Value.pre29 := by
  funext arg2 arg3 arg4
  rfl

theorem pre31_same : @ReferenceIdeal.Value.pre31 = @KernelIdeal.Value.pre31 := by
  funext arg2 arg3 arg4
  rfl

theorem pre35_same : @ReferenceIdeal.Value.pre35 = @KernelIdeal.Value.pre35 := by
  funext arg2 arg3
  rfl

theorem pre36_same : @ReferenceIdeal.Value.pre36 = @KernelIdeal.Value.pre36 := by
  funext arg2 arg3 arg4
  rfl

theorem pre39_same : @ReferenceIdeal.Value.pre39 = @KernelIdeal.Value.pre39 := by
  funext arg2 arg3 arg4
  rfl

theorem pre42_same : @ReferenceIdeal.Value.pre42 = @KernelIdeal.Value.pre42 := by
  funext arg2 arg3 arg4 arg5 arg6
  rfl

theorem pre43_same : @ReferenceIdeal.Value.pre43 = @KernelIdeal.Value.pre43 := by
  funext arg2 arg3 arg4
  rfl

theorem pre46_same : @ReferenceIdeal.Value.pre46 = @KernelIdeal.Value.pre46 := by
  funext arg2 arg3 arg4
  rfl

theorem pre49_same : @ReferenceIdeal.Value.pre49 = @KernelIdeal.Value.pre49 := by
  funext arg2 arg3 arg4 arg5 arg6
  rfl

end Cert.Ends
-- ==== Proof.Ends.AnsSame.lean ====
/-
  The gradients are the same functions in both programs.
-/
module

public import proofs.«01_k».proof.Proof.Ends.AnsK
public import proofs.«01_k».proof.Proof.Ends.AnsR
public import proofs.«01_k».proof.Proof.Ends.TailSame
public import proofs.«01_k».proof.Proof.Ends.PreSame

@[expose] public section

set_option maxRecDepth 16384

noncomputable section

namespace Cert.Ends

theorem resLamRe_same : @ReferenceIdeal.Value.resLamRe = @KernelIdeal.Value.resLamRe := by
  unfold ReferenceIdeal.Value.resLamRe KernelIdeal.Value.resLamRe
  rw [gLamRe_eq, pre1_same, pre4_same, pre7_same, pre12_same, pre14_same, pre17_same, pre19_same, pre22_same, pre26_same, pre31_same, pre35_same]

theorem resLamIm_same : @ReferenceIdeal.Value.resLamIm = @KernelIdeal.Value.resLamIm := by
  unfold ReferenceIdeal.Value.resLamIm KernelIdeal.Value.resLamIm
  rw [gLamIm_eq, pre1_same, pre4_same, pre8_same, pre13_same, pre14_same, pre17_same, pre22_same, pre26_same, pre29_same, pre31_same, pre35_same]

theorem resStep_same : @ReferenceIdeal.Value.resStep = @KernelIdeal.Value.resStep := by
  unfold ReferenceIdeal.Value.resStep KernelIdeal.Value.resStep
  rw [gStep_eq, pre0_same, pre4_same, pre7_same, pre8_same, pre12_same, pre13_same, pre17_same]

theorem resBRe_same : @ReferenceIdeal.Value.resBRe = @KernelIdeal.Value.resBRe := by
  unfold ReferenceIdeal.Value.resBRe KernelIdeal.Value.resBRe
  rw [gBRe_eq, pre36_same, pre46_same]

theorem resBIm_same : @ReferenceIdeal.Value.resBIm = @KernelIdeal.Value.resBIm := by
  unfold ReferenceIdeal.Value.resBIm KernelIdeal.Value.resBIm
  rw [gBIm_eq, pre39_same, pre43_same]

end Cert.Ends
-- ==== Proof.Ends.Meet.lean ====
/-
  The reference's program ends with the gradients of the kernel's numbers, where the arguments are the same.
-/
module

public import proofs.«01_k».proof.Proof.Ends.RunK
public import proofs.«01_k».proof.Proof.Ends.AnsSame

@[expose] public section

set_option maxRecDepth 16384

noncomputable section

namespace Cert.Ends

open Idealize.ShloMosaic Idealize.ShloMosaic.TcCoe Idealize.SL.Sem
open Idealize.ShloMosaic.StableHlo Cert.Scan Cert.TwoLoops

/-- A function of five arguments takes the same value at the same arguments. -/
theorem congr_five {A B C D E F : Type} (f : A → B → C → D → E → F) {a a' : A} {b b' : B} {c c' : C} {d d' : D} {e e' : E}
    (ha : a = a') (hb : b = b') (hc : c = c') (hd : d = d') (he : e = e') : f a b c d e = f a' b' c' d' e' := by
  subst ha hb hc hd he; rfl

/-- Ten pairs of equal things. -/
structure TenSame {X0 X1 X2 X3 X4 X5 X6 X7 X8 X9 : Type} (x0 y0 : X0) (x1 y1 : X1) (x2 y2 : X2) (x3 y3 : X3) (x4 y4 : X4)
    (x5 y5 : X5) (x6 y6 : X6) (x7 y7 : X7) (x8 y8 : X8) (x9 y9 : X9) : Prop where
  h0 : x0 = y0
  h1 : x1 = y1
  h2 : x2 = y2
  h3 : x3 = y3
  h4 : x4 = y4
  h5 : x5 = y5
  h6 : x6 = y6
  h7 : x7 = y7
  h8 : x8 = y8
  h9 : x9 = y9

variable (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (c : Dev Cert.KernelIdeal.nD)

/-- Both programs start from the same arguments. -/
abbrev SameArgs : Prop := TenSame
  (launchContents m' c (Proc.devRef .tc Cert.ReferenceIdeal.main_arg0) : FVec Ideal Cert.KernelIdeal.S2048x1024 .f32) (m (c, Proc.devRef .tc Cert.KernelIdeal.main_arg0) : FVec Ideal Cert.KernelIdeal.S2048x1024 .f32)
  (launchContents m' c (Proc.devRef .tc Cert.ReferenceIdeal.main_arg1) : FVec Ideal Cert.KernelIdeal.S2048x1024 .f32) (m (c, Proc.devRef .tc Cert.KernelIdeal.main_arg1) : FVec Ideal Cert.KernelIdeal.S2048x1024 .f32)
  (launchContents m' c (Proc.devRef .tc Cert.ReferenceIdeal.main_arg2) : FVec Ideal Cert.KernelIdeal.S64x64 .f32) (m (c, Proc.devRef .tc Cert.KernelIdeal.main_arg2) : FVec Ideal Cert.KernelIdeal.S64x64 .f32)
  (launchContents m' c (Proc.devRef .tc Cert.ReferenceIdeal.main_arg3) : FVec Ideal Cert.KernelIdeal.S64x64 .f32) (m (c, Proc.devRef .tc Cert.KernelIdeal.main_arg3) : FVec Ideal Cert.KernelIdeal.S64x64 .f32)
  (launchContents m' c (Proc.devRef .tc Cert.ReferenceIdeal.main_arg4) : FVec Ideal Cert.KernelIdeal.S64 .f32) (m (c, Proc.devRef .tc Cert.KernelIdeal.main_arg4) : FVec Ideal Cert.KernelIdeal.S64 .f32)
  (launchContents m' c (Proc.devRef .tc Cert.ReferenceIdeal.main_arg5) : FVec Ideal Cert.KernelIdeal.S64x64x16 .f32) (m (c, Proc.devRef .tc Cert.KernelIdeal.main_arg5) : FVec Ideal Cert.KernelIdeal.S64x64x16 .f32)
  (launchContents m' c (Proc.devRef .tc Cert.ReferenceIdeal.main_arg6) : FVec Ideal Cert.KernelIdeal.S64x64x16 .f32) (m (c, Proc.devRef .tc Cert.KernelIdeal.main_arg6) : FVec Ideal Cert.KernelIdeal.S64x64x16 .f32)
  (launchContents m' c (Proc.devRef .tc Cert.ReferenceIdeal.main_arg7) : FVec Ideal Cert.KernelIdeal.S64x16x64 .f32) (m (c, Proc.devRef .tc Cert.KernelIdeal.main_arg7) : FVec Ideal Cert.KernelIdeal.S64x16x64 .f32)
  (launchContents m' c (Proc.devRef .tc Cert.ReferenceIdeal.main_arg8) : FVec Ideal Cert.KernelIdeal.S64x16x64 .f32) (m (c, Proc.devRef .tc Cert.KernelIdeal.main_arg8) : FVec Ideal Cert.KernelIdeal.S64x16x64 .f32)
  (launchContents m' c (Proc.devRef .tc Cert.ReferenceIdeal.main_arg9) : FVec Ideal Cert.KernelIdeal.S1024 .f32) (m (c, Proc.devRef .tc Cert.KernelIdeal.main_arg9) : FVec Ideal Cert.KernelIdeal.S1024 .f32)

section
variable {m m' c} (h : SameArgs m m' c)
include h

theorem first_9 : (Cert.ReferenceIdeal.Value.rE m' c (Proc.devRef .tc Cert.ReferenceIdeal.main_v9) : FVec Ideal Cert.KernelIdeal.S64x64 .f32) = (Cert.KernelIdeal.Gen.V m c Cert.KernelIdeal.main_v9 : FVec Ideal Cert.KernelIdeal.S64x64 .f32) := by
  have e1 : (Cert.ReferenceIdeal.Value.rE m' c (Proc.devRef .tc Cert.ReferenceIdeal.main_v9) : FVec Ideal Cert.KernelIdeal.S64x64 .f32) = Cert.ReferenceIdeal.Value.pre9 (launchContents m' c (Proc.devRef .tc Cert.ReferenceIdeal.main_arg2)) (launchContents m' c (Proc.devRef .tc Cert.ReferenceIdeal.main_arg3)) (launchContents m' c (Proc.devRef .tc Cert.ReferenceIdeal.main_arg4)) := Cert.ReferenceIdeal.Value.pre9_eq _
  have e2 : (Cert.KernelIdeal.Gen.V m c Cert.KernelIdeal.main_v9 : FVec Ideal Cert.KernelIdeal.S64x64 .f32) = Cert.KernelIdeal.Value.pre9 (m (c, Proc.devRef .tc Cert.KernelIdeal.main_arg2)) (m (c, Proc.devRef .tc Cert.KernelIdeal.main_arg3)) (m (c, Proc.devRef .tc Cert.KernelIdeal.main_arg4)) := Cert.KernelIdeal.Value.pre9_eq _
  rw [e1, e2, pre9_same, h.h2, h.h3, h.h4]

theorem first_14 : (Cert.ReferenceIdeal.Value.rE m' c (Proc.devRef .tc Cert.ReferenceIdeal.main_v14) : FVec Ideal Cert.KernelIdeal.S64x64 .f32) = (Cert.KernelIdeal.Gen.V m c Cert.KernelIdeal.main_v14 : FVec Ideal Cert.KernelIdeal.S64x64 .f32) := by
  have e1 : (Cert.ReferenceIdeal.Value.rE m' c (Proc.devRef .tc Cert.ReferenceIdeal.main_v14) : FVec Ideal Cert.KernelIdeal.S64x64 .f32) = Cert.ReferenceIdeal.Value.pre14 (launchContents m' c (Proc.devRef .tc Cert.ReferenceIdeal.main_arg2)) (launchContents m' c (Proc.devRef .tc Cert.ReferenceIdeal.main_arg3)) (launchContents m' c (Proc.devRef .tc Cert.ReferenceIdeal.main_arg4)) := Cert.ReferenceIdeal.Value.pre14_eq _
  have e2 : (Cert.KernelIdeal.Gen.V m c Cert.KernelIdeal.main_v14 : FVec Ideal Cert.KernelIdeal.S64x64 .f32) = Cert.KernelIdeal.Value.pre14 (m (c, Proc.devRef .tc Cert.KernelIdeal.main_arg2)) (m (c, Proc.devRef .tc Cert.KernelIdeal.main_arg3)) (m (c, Proc.devRef .tc Cert.KernelIdeal.main_arg4)) := Cert.KernelIdeal.Value.pre14_eq _
  rw [e1, e2, pre14_same, h.h2, h.h3, h.h4]

theorem first_42 : (Cert.ReferenceIdeal.Value.rE m' c (Proc.devRef .tc Cert.ReferenceIdeal.main_v42) : FVec Ideal Cert.KernelIdeal.S64x64x16 .f32) = (Cert.KernelIdeal.Gen.V m c Cert.KernelIdeal.main_v42 : FVec Ideal Cert.KernelIdeal.S64x64x16 .f32) := by
  have e1 : (Cert.ReferenceIdeal.Value.rE m' c (Proc.devRef .tc Cert.ReferenceIdeal.main_v42) : FVec Ideal Cert.KernelIdeal.S64x64x16 .f32) = Cert.ReferenceIdeal.Value.pre42 (launchContents m' c (Proc.devRef .tc Cert.ReferenceIdeal.main_arg2)) (launchContents m' c (Proc.devRef .tc Cert.ReferenceIdeal.main_arg3)) (launchContents m' c (Proc.devRef .tc Cert.ReferenceIdeal.main_arg4)) (launchContents m' c (Proc.devRef .tc Cert.ReferenceIdeal.main_arg5)) (launchContents m' c (Proc.devRef .tc Cert.ReferenceIdeal.main_arg6)) := Cert.ReferenceIdeal.Value.pre42_eq _
  have e2 : (Cert.KernelIdeal.Gen.V m c Cert.KernelIdeal.main_v42 : FVec Ideal Cert.KernelIdeal.S64x64x16 .f32) = Cert.KernelIdeal.Value.pre42 (m (c, Proc.devRef .tc Cert.KernelIdeal.main_arg2)) (m (c, Proc.devRef .tc Cert.KernelIdeal.main_arg3)) (m (c, Proc.devRef .tc Cert.KernelIdeal.main_arg4)) (m (c, Proc.devRef .tc Cert.KernelIdeal.main_arg5)) (m (c, Proc.devRef .tc Cert.KernelIdeal.main_arg6)) := Cert.KernelIdeal.Value.pre42_eq _
  rw [e1, e2, pre42_same, h.h2, h.h3, h.h4, h.h5, h.h6]

theorem first_49 : (Cert.ReferenceIdeal.Value.rE m' c (Proc.devRef .tc Cert.ReferenceIdeal.main_v49) : FVec Ideal Cert.KernelIdeal.S64x64x16 .f32) = (Cert.KernelIdeal.Gen.V m c Cert.KernelIdeal.main_v49 : FVec Ideal Cert.KernelIdeal.S64x64x16 .f32) := by
  have e1 : (Cert.ReferenceIdeal.Value.rE m' c (Proc.devRef .tc Cert.ReferenceIdeal.main_v49) : FVec Ideal Cert.KernelIdeal.S64x64x16 .f32) = Cert.ReferenceIdeal.Value.pre49 (launchContents m' c (Proc.devRef .tc Cert.ReferenceIdeal.main_arg2)) (launchContents m' c (Proc.devRef .tc Cert.ReferenceIdeal.main_arg3)) (launchContents m' c (Proc.devRef .tc Cert.ReferenceIdeal.main_arg4)) (launchContents m' c (Proc.devRef .tc Cert.ReferenceIdeal.main_arg5)) (launchContents m' c (Proc.devRef .tc Cert.ReferenceIdeal.main_arg6)) := Cert.ReferenceIdeal.Value.pre49_eq _
  have e2 : (Cert.KernelIdeal.Gen.V m c Cert.KernelIdeal.main_v49 : FVec Ideal Cert.KernelIdeal.S64x64x16 .f32) = Cert.KernelIdeal.Value.pre49 (m (c, Proc.devRef .tc Cert.KernelIdeal.main_arg2)) (m (c, Proc.devRef .tc Cert.KernelIdeal.main_arg3)) (m (c, Proc.devRef .tc Cert.KernelIdeal.main_arg4)) (m (c, Proc.devRef .tc Cert.KernelIdeal.main_arg5)) (m (c, Proc.devRef .tc Cert.KernelIdeal.main_arg6)) := Cert.KernelIdeal.Value.pre49_eq _
  rw [e1, e2, pre49_same, h.h2, h.h3, h.h4, h.h5, h.h6]

/-- The reference's arguments hold the numbers the kernel's do. -/
theorem rHolds {G : Glob} (hk : KHolds m c G) : Cert.ReferenceIdeal.Value.RHolds m' c G where
  hu t n := (congrFun h.h0 (ix2 t n)).trans (hk.hu t n)
  hdy t n := (congrFun h.h1 (ix2 t n)).trans (hk.hdy t n)
  har g p := (congrFun (first_9 h) (ix2 g p)).trans (hk.har g p)
  hai g p := (congrFun (first_14 h) (ix2 g p)).trans (hk.hai g p)
  hbr g p n := (congrFun (first_42 h) (ix3 g p n)).trans (hk.hbr g p n)
  hbi g p n := (congrFun (first_49 h) (ix3 g p n)).trans (hk.hbi g p n)
  hcr g n p := (congrFun h.h7 (ix3 g n p)).trans (hk.hcr g n p)
  hci g n p := (congrFun h.h8 (ix3 g n p)).trans (hk.hci g n p)
  hd n := (congrFun h.h9 (ix1 n)).trans (hk.hd n)

theorem end_LamRe {G : Glob} (hk : KHolds m c G) : (Cert.ReferenceIdeal.Value.lastAt m' c (Proc.devRef .tc Cert.ReferenceIdeal.main_v198) : FVec Ideal Cert.KernelIdeal.S64x64 .f32)
    = Cert.KernelIdeal.Value.resLamRe G (m (c, Proc.devRef .tc Cert.KernelIdeal.main_arg2)) (m (c, Proc.devRef .tc Cert.KernelIdeal.main_arg3)) (m (c, Proc.devRef .tc Cert.KernelIdeal.main_arg4)) (m (c, Proc.devRef .tc Cert.KernelIdeal.main_arg5)) (m (c, Proc.devRef .tc Cert.KernelIdeal.main_arg6)) :=
  (Cert.ReferenceIdeal.Value.last_gLamRe (rHolds h hk)).trans ((congr_five (Cert.ReferenceIdeal.Value.resLamRe G) h.h2 h.h3 h.h4 h.h5 h.h6).trans
    (congrFun (congrFun (congrFun (congrFun (congrFun (congrFun resLamRe_same G) _) _) _) _) _))

theorem end_LamIm {G : Glob} (hk : KHolds m c G) : (Cert.ReferenceIdeal.Value.lastAt m' c (Proc.devRef .tc Cert.ReferenceIdeal.main_v190) : FVec Ideal Cert.KernelIdeal.S64x64 .f32)
    = Cert.KernelIdeal.Value.resLamIm G (m (c, Proc.devRef .tc Cert.KernelIdeal.main_arg2)) (m (c, Proc.devRef .tc Cert.KernelIdeal.main_arg3)) (m (c, Proc.devRef .tc Cert.KernelIdeal.main_arg4)) (m (c, Proc.devRef .tc Cert.KernelIdeal.main_arg5)) (m (c, Proc.devRef .tc Cert.KernelIdeal.main_arg6)) :=
  (Cert.ReferenceIdeal.Value.last_gLamIm (rHolds h hk)).trans ((congr_five (Cert.ReferenceIdeal.Value.resLamIm G) h.h2 h.h3 h.h4 h.h5 h.h6).trans
    (congrFun (congrFun (congrFun (congrFun (congrFun (congrFun resLamIm_same G) _) _) _) _) _))

theorem end_Step {G : Glob} (hk : KHolds m c G) : (Cert.ReferenceIdeal.Value.lastAt m' c (Proc.devRef .tc Cert.ReferenceIdeal.main_v200) : FVec Ideal Cert.KernelIdeal.S64 .f32)
    = Cert.KernelIdeal.Value.resStep G (m (c, Proc.devRef .tc Cert.KernelIdeal.main_arg2)) (m (c, Proc.devRef .tc Cert.KernelIdeal.main_arg3)) (m (c, Proc.devRef .tc Cert.KernelIdeal.main_arg4)) (m (c, Proc.devRef .tc Cert.KernelIdeal.main_arg5)) (m (c, Proc.devRef .tc Cert.KernelIdeal.main_arg6)) :=
  (Cert.ReferenceIdeal.Value.last_gStep (rHolds h hk)).trans ((congr_five (Cert.ReferenceIdeal.Value.resStep G) h.h2 h.h3 h.h4 h.h5 h.h6).trans
    (congrFun (congrFun (congrFun (congrFun (congrFun (congrFun resStep_same G) _) _) _) _) _))

theorem end_BRe {G : Glob} (hk : KHolds m c G) : (Cert.ReferenceIdeal.Value.lastAt m' c (Proc.devRef .tc Cert.ReferenceIdeal.main_v132) : FVec Ideal Cert.KernelIdeal.S64x64x16 .f32)
    = Cert.KernelIdeal.Value.resBRe G (m (c, Proc.devRef .tc Cert.KernelIdeal.main_arg2)) (m (c, Proc.devRef .tc Cert.KernelIdeal.main_arg3)) (m (c, Proc.devRef .tc Cert.KernelIdeal.main_arg4)) (m (c, Proc.devRef .tc Cert.KernelIdeal.main_arg5)) (m (c, Proc.devRef .tc Cert.KernelIdeal.main_arg6)) :=
  (Cert.ReferenceIdeal.Value.last_gBRe (rHolds h hk)).trans ((congr_five (Cert.ReferenceIdeal.Value.resBRe G) h.h2 h.h3 h.h4 h.h5 h.h6).trans
    (congrFun (congrFun (congrFun (congrFun (congrFun (congrFun resBRe_same G) _) _) _) _) _))

theorem end_BIm {G : Glob} (hk : KHolds m c G) : (Cert.ReferenceIdeal.Value.lastAt m' c (Proc.devRef .tc Cert.ReferenceIdeal.main_v124) : FVec Ideal Cert.KernelIdeal.S64x64x16 .f32)
    = Cert.KernelIdeal.Value.resBIm G (m (c, Proc.devRef .tc Cert.KernelIdeal.main_arg2)) (m (c, Proc.devRef .tc Cert.KernelIdeal.main_arg3)) (m (c, Proc.devRef .tc Cert.KernelIdeal.main_arg4)) (m (c, Proc.devRef .tc Cert.KernelIdeal.main_arg5)) (m (c, Proc.devRef .tc Cert.KernelIdeal.main_arg6)) :=
  (Cert.ReferenceIdeal.Value.last_gBIm (rHolds h hk)).trans ((congr_five (Cert.ReferenceIdeal.Value.resBIm G) h.h2 h.h3 h.h4 h.h5 h.h6).trans
    (congrFun (congrFun (congrFun (congrFun (congrFun (congrFun resBIm_same G) _) _) _) _) _))

end

end Cert.Ends
-- ==== Proof.Ends.Layer.lean ====
/-
  The kernel's program and the reference's end with the same gradients of the state-space layer.
-/
module

public import proofs.«01_k».proof.Proof.Ends.Meet

@[expose] public section

set_option maxRecDepth 16384

noncomputable section

namespace Cert.Ends

open Idealize.ShloMosaic Idealize.ShloMosaic.TcCoe Idealize.SL.Sem
open Idealize.ShloMosaic.StableHlo Cert.Scan Cert.TwoLoops

set_option maxHeartbeats 1000000 in
/-- The kernel's program and the reference's end with the same nine gradients, and with their arguments as they were. -/
theorem algebraic_layer : Cert.algebraic_KernelIdeal_ReferenceIdeal := fun m g m' g' hpre hargs => by
  have hf : ∀ c, Cert.KernelIdeal.Value.FiniteArgs m c := Cert.KernelIdeal.Value.finiteArgs hpre
  have hs : ∀ c, SameArgs m m' c := fun c => by
    obtain ⟨h0, h1, h2, h3, h4, h5, h6, h7, h8, h9⟩ := hargs c
    exact ⟨h0, h1, h2, h3, h4, h5, h6, h7, h8, h9⟩
  have hk : ∀ c, KHolds m c (Cert.KernelIdeal.Value.numbers m c) := fun c => Cert.KernelIdeal.Value.kHolds (hf c)
  refine ⟨fun c => Cert.KernelIdeal.Value.ansDu (Cert.KernelIdeal.Value.numbers m c), fun c => Cert.KernelIdeal.Value.resLamRe (Cert.KernelIdeal.Value.numbers m c) (m (c, Proc.devRef .tc Cert.KernelIdeal.main_arg2)) (m (c, Proc.devRef .tc Cert.KernelIdeal.main_arg3)) (m (c, Proc.devRef .tc Cert.KernelIdeal.main_arg4)) (m (c, Proc.devRef .tc Cert.KernelIdeal.main_arg5)) (m (c, Proc.devRef .tc Cert.KernelIdeal.main_arg6)), fun c => Cert.KernelIdeal.Value.resLamIm (Cert.KernelIdeal.Value.numbers m c) (m (c, Proc.devRef .tc Cert.KernelIdeal.main_arg2)) (m (c, Proc.devRef .tc Cert.KernelIdeal.main_arg3)) (m (c, Proc.devRef .tc Cert.KernelIdeal.main_arg4)) (m (c, Proc.devRef .tc Cert.KernelIdeal.main_arg5)) (m (c, Proc.devRef .tc Cert.KernelIdeal.main_arg6)), fun c => Cert.KernelIdeal.Value.resStep (Cert.KernelIdeal.Value.numbers m c) (m (c, Proc.devRef .tc Cert.KernelIdeal.main_arg2)) (m (c, Proc.devRef .tc Cert.KernelIdeal.main_arg3)) (m (c, Proc.devRef .tc Cert.KernelIdeal.main_arg4)) (m (c, Proc.devRef .tc Cert.KernelIdeal.main_arg5)) (m (c, Proc.devRef .tc Cert.KernelIdeal.main_arg6)), fun c => Cert.KernelIdeal.Value.resBRe (Cert.KernelIdeal.Value.numbers m c) (m (c, Proc.devRef .tc Cert.KernelIdeal.main_arg2)) (m (c, Proc.devRef .tc Cert.KernelIdeal.main_arg3)) (m (c, Proc.devRef .tc Cert.KernelIdeal.main_arg4)) (m (c, Proc.devRef .tc Cert.KernelIdeal.main_arg5)) (m (c, Proc.devRef .tc Cert.KernelIdeal.main_arg6)), fun c => Cert.KernelIdeal.Value.resBIm (Cert.KernelIdeal.Value.numbers m c) (m (c, Proc.devRef .tc Cert.KernelIdeal.main_arg2)) (m (c, Proc.devRef .tc Cert.KernelIdeal.main_arg3)) (m (c, Proc.devRef .tc Cert.KernelIdeal.main_arg4)) (m (c, Proc.devRef .tc Cert.KernelIdeal.main_arg5)) (m (c, Proc.devRef .tc Cert.KernelIdeal.main_arg6)), fun c => Cert.KernelIdeal.Value.ansDcr (Cert.KernelIdeal.Value.numbers m c), fun c => Cert.KernelIdeal.Value.ansDci (Cert.KernelIdeal.Value.numbers m c), fun c => Cert.KernelIdeal.Value.ansDd (Cert.KernelIdeal.Value.numbers m c),
    Cert.KernelIdeal.Value.run m g hf, (θ_run _ _ _).mono (fun r hr c => ?_) (Cert.ReferenceIdeal.Value.run_fold m' g')⟩
  exact ⟨(hr c Cert.ReferenceIdeal.main_v108 rfl).trans (Cert.ReferenceIdeal.Value.last_v108 (rHolds (hs c) (hk c))),
    (hr c Cert.ReferenceIdeal.main_v198 rfl).trans (end_LamRe (hs c) (hk c)),
    (hr c Cert.ReferenceIdeal.main_v190 rfl).trans (end_LamIm (hs c) (hk c)),
    (hr c Cert.ReferenceIdeal.main_v200 rfl).trans (end_Step (hs c) (hk c)),
    (hr c Cert.ReferenceIdeal.main_v132 rfl).trans (end_BRe (hs c) (hk c)),
    (hr c Cert.ReferenceIdeal.main_v124 rfl).trans (end_BIm (hs c) (hk c)),
    (hr c Cert.ReferenceIdeal.main_v88 rfl).trans (Cert.ReferenceIdeal.Value.last_v88 (rHolds (hs c) (hk c))),
    (hr c Cert.ReferenceIdeal.main_v84 rfl).trans (Cert.ReferenceIdeal.Value.last_v84 (rHolds (hs c) (hk c))),
    (hr c Cert.ReferenceIdeal.main_v80 rfl).trans (Cert.ReferenceIdeal.Value.last_v80 (rHolds (hs c) (hk c))), Cert.ReferenceIdeal.Value.args_kept m' r hr c⟩

end Cert.Ends
-- ==== Proof.Ffn.WIn.lean ====
/- The gradient of a feed-forward layer's first weight: the kernel's result, element by element, is the sum over the
   positions of the layer's input times the cotangent, which is what the reference's product is. -/
module

public import proofs.«01_k».proof.Proof.Gen.Kernel2Ideal.Frame
public import proofs.«01_k».proof.Proof.Gen.Reference2Ideal.Run
public import Idealize.ShloMosaic.Lib.Pipeline.Value
public import Idealize.ShloMosaic.Lib.Pointwise
public import Idealize.ShloMosaic.Lib.Claim
public import Idealize.ShloMosaic.Lib.Quiescent
public import proofs.«01_k».proof.Defs
public import Idealize.ShloMosaic.Lib.Tactic

@[expose] public section

set_option maxRecDepth 16384

noncomputable section

namespace Cert.Kernel2Ideal.Value

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The product of one block of the input, transposed, with one slab of the cotangent. -/
def blockOf (x0 : Vec Ideal S2048x1024 .bf16) (x1 : Vec Ideal S1x2048x1408 .bf16) : Vec Ideal S1x1024x1408 .bf16 :=
  fun j => ∑ s : Fin 2048, x0 (ix2 s (j 1)) * x1 (ix3 (0 : Fin 1) s (j 2))

theorem out_eq (x0 : Vec Ideal S2048x1024 .bf16) (x1 : Vec Ideal S1x2048x1408 .bf16) : out0_2 x0 x1 = blockOf x0 x1 := by
  unfold out0_2
  rw [View.canon_unit_zero hz3]
  simp only [View.ld_unit_zero (S := S2048x1024) hz2, View.ld_unit_zero (S := S1x2048x1408) hz3]
  funext j
  idx_vars j
  unfold blockOf
  pointwise [k0_pay1]

/-- The four slabs of the gradient, from the two arrays that the call is given. -/
def slabs (h : Vec Ideal S2048x1024 .bf16) (dz : Vec Ideal S4x2048x1408 .bf16) : Vec Ideal S4x1024x1408 .bf16 :=
  fun j => ∑ s : Fin 2048, h (ix2 s (j 1)) * dz (ix3 (j 0) s (j 2))

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx2 : ∀ t : Fin cfg0.N, win0_2.index t (0 : Fin 3) = t.val ∧ win0_2.index t (1 : Fin 3) = 0 ∧ win0_2.index t (2 : Fin 3) = 0 :=
  (by decide +kernel : ∀ t : Fin grid0.N, _)

/-- A grid point is one of the four slabs. -/
def slabOf (t : Fin cfg0.N) : Fin 4 := ⟨t.val, lt_of_lt_of_eq t.isLt N_0⟩

theorem emb0 (t : Fin cfg0.N) (j : S2048x1024.Idx) : ((cfg0.win 0).blk t).view.emb j = j := by
  obtain ⟨e0, e1⟩ := idx0 t
  funext a; apply Fin.ext
  match a with
  | ⟨0, _⟩ => show win0_0.index t (0 : Fin 2) * 2048 + 1 * (j 0).val = (j 0).val; omega
  | ⟨1, _⟩ => show win0_0.index t (1 : Fin 2) * 1024 + 1 * (j 1).val = (j 1).val; omega

theorem emb1 (t : Fin cfg0.N) (j : S1x2048x1408.Idx) :
    ((cfg0.win 1).blk t).view.emb j = ix3 (slabOf t) (j 1) (j 2) := by
  obtain ⟨e0, e1, e2⟩ := idx1 t
  funext a; apply Fin.ext
  match a with
  | ⟨0, _⟩ => show win0_1.index t (0 : Fin 3) * 1 + 1 * (j 0).val = t.val; have : (j 0).val < 1 := (j 0).isLt; omega
  | ⟨1, _⟩ => show win0_1.index t (1 : Fin 3) * 2048 + 1 * (j 1).val = (j 1).val; omega
  | ⟨2, _⟩ => show win0_1.index t (2 : Fin 3) * 1408 + 1 * (j 2).val = (j 2).val; omega

theorem emb2 (t : Fin cfg0.N) (j : S1x1024x1408.Idx) :
    ((cfg0.win 2).blk t).view.emb j = ix3 (slabOf t) (j 1) (j 2) := by
  obtain ⟨e0, e1, e2⟩ := idx2 t
  funext a; apply Fin.ext
  match a with
  | ⟨0, _⟩ => show win0_2.index t (0 : Fin 3) * 1 + 1 * (j 0).val = t.val; have : (j 0).val < 1 := (j 0).isLt; omega
  | ⟨1, _⟩ => show win0_2.index t (1 : Fin 3) * 1024 + 1 * (j 1).val = (j 1).val; omega
  | ⟨2, _⟩ => show win0_2.index t (2 : Fin 3) * 1408 + 1 * (j 2).val = (j 2).val; omega

/-- What a grid point writes back is its slab of the gradient. -/
theorem flushed_eq (c : Dev nD) (t : Fin cfg0.N) :
    (dats m 0 c).flushed 2 t = ((cfg0.win 2).blk t).view.read (Elt Ideal) (slabs (V m c main_v3) (V m c main_v2)) := by
  show (cfg0.win 2).cut (grid0.coords t) ((dats m 0 c).after 2 t) = _
  rw [after0_2, out_eq]
  funext j
  show blockOf (iblk m c 0 t) (iblk m c 1 t) j = slabs (V m c main_v3) (V m c main_v2) (((cfg0.win 2).blk t).view.emb j)
  rw [emb2]
  exact Finset.sum_congr rfl fun s _ => congrArg₂ (fun a b : EReal => a * b)
    (congrArg (V m c main_v3) (emb0 t (ix2 s (j 1)))) (congrArg (V m c main_v2) (emb1 t (ix3 (0 : Fin 1) s (j 2))))

/-- Every element of the result is in one of the four slabs. -/
theorem cover (i : S4x1024x1408.Idx) :
    ∃ t : Fin cfg0.N, (cfg0.win 2).flush t = true ∧ i ∈ ((cfg0.win 2).blk t).view.set := by
  have h0 : (i 0).val < 4 := (i 0).isLt
  refine ⟨⟨(i 0).val, lt_of_lt_of_eq h0 N_0.symm⟩, flush0_2 _, ?_⟩
  have h := ((cfg0.win 2).blk (⟨(i 0).val, lt_of_lt_of_eq h0 N_0.symm⟩ : Fin cfg0.N)).view.emb_mem_set (ix3 (0 : Fin 1) (i 1) (i 2))
  rw [emb2] at h
  have e : (ix3 (slabOf ⟨(i 0).val, lt_of_lt_of_eq h0 N_0.symm⟩) (i 1) (i 2) : S4x1024x1408.Idx) = i := by
    funext a; match a with | ⟨0, _⟩ => rfl | ⟨1, _⟩ => rfl | ⟨2, _⟩ => rfl
  have h' : (ix3 (slabOf ⟨(i 0).val, lt_of_lt_of_eq h0 N_0.symm⟩) (i 1) (i 2) : S4x1024x1408.Idx)
      ∈ ((cfg0.win 2).blk (⟨(i 0).val, lt_of_lt_of_eq h0 N_0.symm⟩ : Fin cfg0.N)).view.set := h
  rwa [e] at h'

theorem final (c : Dev nD) : (dats m 0 c).arrAt 2 cfg0.N = slabs (V m c main_v3) (V m c main_v2) :=
  (dats m 0 c).arrAt_eq_of_cover 2 _ (fun t _ => flushed_eq m c t) cover

/-- The gradient: at row `i` and column `o`, the sum over the positions of input times cotangent. -/
def gradOf (h : Vec Ideal S2048x1024 .f32) (dz : Vec Ideal S2048x5632 .f32) : Vec Ideal S1024x5632 .f32 :=
  fun j => ∑ s : Fin 2048, h (ix2 s (j 0)) * dz (ix2 s (j 1))

/-- The call's second argument, from the cotangent: rounded and cut into slabs of columns. -/
def slabbed (dz : Vec Ideal S2048x5632 .f32) : Vec Ideal S4x2048x1408 .bf16 :=
  transpose S4x2048x1408 [1, 0, 2] (shapeCast S2048x4x1408 (truncf (F := Ideal) .bf16 dz bitsLt_bf16_f32)
    shapeCasts_S2048x5632_S2048x4x1408) transposes_S2048x4x1408_S4x2048x1408_1_0_2

theorem slabbed_apply (dz : Vec Ideal S2048x5632 .f32) (q : Fin 4) (s : Fin 2048) (o : Fin 1408) :
    slabbed dz (ix3 q s o) = dz (ix2 s ⟨q.val * 1408 + o.val, by omega⟩) := by
  pointwise [slabbed]

theorem V_main_v3 (c : Dev nD) (h : Vec Ideal S2048x1024 .f32) (hh : m ((c : Thread nD τ).loc main_arg0) = h) :
    V m c main_v3 = truncf (F := Ideal) .bf16 h bitsLt_bf16_f32 := by
  subst hh
  show StableHlo.after hostOps0 (fun b => m (c, b)) (Proc.devRef .tc main_v3) = _
  after_results

theorem V_main_v2 (c : Dev nD) (dz : Vec Ideal S2048x5632 .f32) (hh : m ((c : Thread nD τ).loc main_arg1) = dz) :
    V m c main_v2 = slabbed dz := by
  subst hh
  show StableHlo.after hostOps0 (fun b => m (c, b)) (Proc.devRef .tc main_v2) = _
  after_results
  rfl

/-- The slabs laid side by side: what the operations after the call make of its result. -/
theorem tail_of (c : Dev nD) (W : (b : DevRef τ sig) → Buf (Elt Ideal) (c, b)) (h : Vec Ideal S2048x1024 .f32)
    (dz : Vec Ideal S2048x5632 .f32) (hx : W (Proc.devRef .tc main_v4) = slabs (truncf (F := Ideal) .bf16 h bitsLt_bf16_f32) (slabbed dz)) :
    StableHlo.after hostOps1 W (Proc.devRef .tc main_v7) = gradOf h dz := by
  after_results
  rw [hx]
  show shapeCast S1024x5632 (transpose S1024x4x1408 [1, 0, 2] (extf (F := Ideal) .f32 (slabs (truncf (F := Ideal) .bf16 h bitsLt_bf16_f32) (slabbed dz))
    bitsLt_bf16_f32) transposes_S4x1024x1408_S1024x4x1408_1_0_2) shapeCasts_S1024x4x1408_S1024x5632 = _
  funext j
  idx_vars j
  unfold gradOf slabs
  pointwise
  refine Finset.sum_congr rfl fun s _ => ?_
  rw [slabbed_apply]
  have e : (⟨j1.val / 1408 * 1408 + j1.val % 1408, by have := j1.isLt; omega⟩ : Fin 5632) = j1 :=
    Fin.ext (by show j1.val / 1408 * 1408 + j1.val % 1408 = j1.val; omega)
  exact congrArg (fun o => h (ix2 s j0) * dz (ix2 s o)) e

theorem tail_eq (c : Dev nD) :
    Pipeline.afterTail₀ cfgs (dats m) 0 (V0 m) [hostOps1] c main_v7
      = gradOf (m ((c : Thread nD τ).loc main_arg0)) (m ((c : Thread nD τ).loc main_arg1)) := by
  unfold Pipeline.afterTail₀
  show StableHlo.after hostOps1 _ (Proc.devRef .tc main_v7) = _
  refine tail_of c _ _ _ ?_
  have h := Pipeline.withArrays_arr (cfgs 0).spec winFacts0.arr_inj c (V0 m c) (fun w => (dats m 0 c).arrAt w (cfgs 0).N) 2
  refine h.trans ((final m c).trans ?_)
  rw [V_main_v3 m c _ rfl, V_main_v2 m c _ rfl]

/-- The run of the kernel's program: its result is the gradient of its arguments, which stay as they are. -/
theorem run : θ_run defs (onTc (τ := τ) (main (F := Ideal))) ⟨m, fun _ => 0, ρ⟩ fun r => ∀ c : Dev nD,
      r.2.mem ((c.tc : Thread nD τ).loc main_v7)
        = gradOf (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v7 (Pipeline.mem_restRefs_of main_v7 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.Kernel2Ideal.Value

namespace Cert.Reference2Ideal.Value

open Cert.Reference2Ideal Cert.Reference2Ideal.Gen Idealize.ShloMosaic Idealize.ShloMosaic.TcCoe Idealize.SL.Sem Idealize.ShloMosaic.StableHlo

/-- The reference's product, element by element. -/
theorem product_eq (h : Vec Ideal S2048x1024 .f32) (dz : Vec Ideal S2048x5632 .f32) :
    transpose S1024x5632 [1, 0] (Host.dotGeneral (F := Ideal) (φ₁ := .f32) (φ₂ := .f32) dot_S2048x5632_S2048x1024_S5632x1024_0_0_1_1_n_n none dz h)
      transposes_S5632x1024_S1024x5632_1_0 = Cert.Kernel2Ideal.Value.gradOf h dz := by
  funext j
  idx_vars j
  unfold Cert.Kernel2Ideal.Value.gradOf
  pointwise!

/-- The reference's program leaves its arguments as they are and every semaphore at zero. -/
theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r h => ⟨fun c => (h c).2, sem_eq_zero_of_no_sems (by decide) r.2⟩) (run m ρ)

end Cert.Reference2Ideal.Value

namespace Cert.Ffn

open Idealize.ShloMosaic Idealize.ShloMosaic.TcCoe Idealize.SL.Sem

/-- The kernel's program and the reference's end with the same gradient. -/
theorem algebraic_w_in : Cert.algebraic_Kernel2Ideal_Reference2Ideal := fun m g m' g' _ hargs =>
  ⟨fun c => Cert.Kernel2Ideal.Value.gradOf (m (c.tc.loc Cert.Kernel2Ideal.main_arg0)) (m (c.tc.loc Cert.Kernel2Ideal.main_arg1)),
    Cert.Kernel2Ideal.Value.run m g,
    (θ_run _ _ _).mono (fun r h c => ⟨(h c).1.trans ((Cert.Reference2Ideal.Value.product_eq _ _).trans
        (congrArg₂ Cert.Kernel2Ideal.Value.gradOf (hargs c).1 (hargs c).2)), (h c).2⟩)
      (Cert.Reference2Ideal.Value.run m' g')⟩

end Cert.Ffn

end
-- ==== Proof.Ffn.WOut.lean ====
/- The gradient of a feed-forward layer's second weight: the kernel's result, element by element, is the sum over
   the positions of the layer's activation times the cotangent, which is what the reference's product is. -/
module

public import proofs.«01_k».proof.Proof.Gen.Kernel3Ideal.Frame
public import proofs.«01_k».proof.Proof.Gen.Reference3Ideal.Run
public import Idealize.ShloMosaic.Lib.Pipeline.Value
public import Idealize.ShloMosaic.Lib.Pointwise
public import Idealize.ShloMosaic.Lib.Claim
public import Idealize.ShloMosaic.Lib.Quiescent
public import proofs.«01_k».proof.Defs
public import Idealize.ShloMosaic.Lib.Tactic

@[expose] public section

set_option maxRecDepth 16384

noncomputable section

namespace Cert.Kernel3Ideal.Value

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The product of one block of columns of the activation, transposed, with the cotangent. -/
def blockOf (x0 : Vec Ideal S2048x1408 .bf16) (x1 : Vec Ideal S2048x1024 .bf16) : Vec Ideal S1x1408x1024 .bf16 :=
  fun j => ∑ s : Fin 2048, x0 (ix2 s (j 1)) * x1 (ix2 s (j 2))

theorem out_eq (x0 : Vec Ideal S2048x1408 .bf16) (x1 : Vec Ideal S2048x1024 .bf16) : out0_2 x0 x1 = blockOf x0 x1 := by
  unfold out0_2
  rw [View.canon_unit_zero hz3]
  simp only [View.ld_unit_zero (S := S2048x1408) hz2, View.ld_unit_zero (S := S2048x1024) hz2]
  funext j
  idx_vars j
  unfold blockOf
  pointwise [k0_pay1]

/-- The gradient as the call leaves it, with a leading axis of length one. -/
def whole (h : Vec Ideal S2048x2816 .bf16) (dz : Vec Ideal S2048x1024 .bf16) : Vec Ideal S1x2816x1024 .bf16 :=
  fun j => ∑ s : Fin 2048, h (ix2 s (j 1)) * dz (ix2 s (j 2))

theorem idx0 : ∀ t : Fin cfg0.N, win0_0.index t (0 : Fin 2) = 0 ∧ win0_0.index t (1 : Fin 2) = t.val :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 3) = 0 ∧ win0_2.index t (1 : Fin 3) = t.val ∧ win0_2.index t (2 : Fin 3) = 0 :=
  (by decide +kernel : ∀ t : Fin grid0.N, _)

/-- Where a column of a grid point's block lies in the whole array. -/
def colOf (t : Fin cfg0.N) (o : Fin 1408) : Fin 2816 :=
  ⟨t.val * 1408 + o.val, by have := lt_of_lt_of_eq t.isLt N_0; omega⟩

theorem emb0 (t : Fin cfg0.N) (j : S2048x1408.Idx) : ((cfg0.win 0).blk t).view.emb j = ix2 (j 0) (colOf t (j 1)) := by
  obtain ⟨e0, e1⟩ := idx0 t
  funext a; apply Fin.ext
  match a with
  | ⟨0, _⟩ => show win0_0.index t (0 : Fin 2) * 2048 + 1 * (j 0).val = (j 0).val; omega
  | ⟨1, _⟩ => show win0_0.index t (1 : Fin 2) * 1408 + 1 * (j 1).val = t.val * 1408 + (j 1).val; rw [e1]; omega

theorem emb1 (t : Fin cfg0.N) (j : S2048x1024.Idx) : ((cfg0.win 1).blk t).view.emb j = j := by
  obtain ⟨e0, e1⟩ := idx1 t
  funext a; apply Fin.ext
  match a with
  | ⟨0, _⟩ => show win0_1.index t (0 : Fin 2) * 2048 + 1 * (j 0).val = (j 0).val; omega
  | ⟨1, _⟩ => show win0_1.index t (1 : Fin 2) * 1024 + 1 * (j 1).val = (j 1).val; omega

theorem emb2 (t : Fin cfg0.N) (j : S1x1408x1024.Idx) :
    ((cfg0.win 2).blk t).view.emb j = ix3 (j 0) (colOf t (j 1)) (j 2) := by
  obtain ⟨e0, e1, e2⟩ := idx2 t
  funext a; apply Fin.ext
  match a with
  | ⟨0, _⟩ => show win0_2.index t (0 : Fin 3) * 1 + 1 * (j 0).val = (j 0).val; omega
  | ⟨1, _⟩ => show win0_2.index t (1 : Fin 3) * 1408 + 1 * (j 1).val = t.val * 1408 + (j 1).val; rw [e1]; omega
  | ⟨2, _⟩ => show win0_2.index t (2 : Fin 3) * 1024 + 1 * (j 2).val = (j 2).val; omega

/-- What a grid point writes back is its rows of the gradient. -/
theorem flushed_eq (c : Dev nD) (t : Fin cfg0.N) :
    (dats m 0 c).flushed 2 t = ((cfg0.win 2).blk t).view.read (Elt Ideal) (whole (V m c main_v0) (V m c main_v1)) := by
  show (cfg0.win 2).cut (grid0.coords t) ((dats m 0 c).after 2 t) = _
  rw [after0_2, out_eq]
  funext j
  show blockOf (iblk m c 0 t) (iblk m c 1 t) j = whole (V m c main_v0) (V m c main_v1) (((cfg0.win 2).blk t).view.emb j)
  rw [emb2]
  exact Finset.sum_congr rfl fun s _ => congrArg₂ (fun a b : EReal => a * b)
    (congrArg (V m c main_v0) (emb0 t (ix2 s (j 1)))) (congrArg (V m c main_v1) (emb1 t (ix2 s (j 2))))

/-- Every element of the result is in one of the two blocks of rows. -/
theorem cover (i : S1x2816x1024.Idx) :
    ∃ t : Fin cfg0.N, (cfg0.win 2).flush t = true ∧ i ∈ ((cfg0.win 2).blk t).view.set := by
  have h1 : (i 1).val < 2816 := (i 1).isLt
  have hq : (i 1).val / 1408 < cfg0.N := lt_of_lt_of_eq (by omega : (i 1).val / 1408 < 2) N_0.symm
  refine ⟨⟨(i 1).val / 1408, hq⟩, flush0_2 _, ?_⟩
  have h := ((cfg0.win 2).blk (⟨(i 1).val / 1408, hq⟩ : Fin cfg0.N)).view.emb_mem_set
    (ix3 (i 0) (⟨(i 1).val % 1408, Nat.mod_lt _ (by decide)⟩ : Fin 1408) (i 2))
  rw [emb2] at h
  have e : (ix3 (i 0) (colOf ⟨(i 1).val / 1408, hq⟩ ⟨(i 1).val % 1408, Nat.mod_lt _ (by decide)⟩) (i 2) : S1x2816x1024.Idx) = i := by
    funext a
    match a with
    | ⟨0, _⟩ => rfl
    | ⟨1, _⟩ => exact Fin.ext (by show (i 1).val / 1408 * 1408 + (i 1).val % 1408 = (i 1).val; omega)
    | ⟨2, _⟩ => rfl
  have h' : (ix3 (i 0) (colOf ⟨(i 1).val / 1408, hq⟩ ⟨(i 1).val % 1408, Nat.mod_lt _ (by decide)⟩) (i 2) : S1x2816x1024.Idx)
      ∈ ((cfg0.win 2).blk (⟨(i 1).val / 1408, hq⟩ : Fin cfg0.N)).view.set := h
  rwa [e] at h'

theorem final (c : Dev nD) : (dats m 0 c).arrAt 2 cfg0.N = whole (V m c main_v0) (V m c main_v1) :=
  (dats m 0 c).arrAt_eq_of_cover 2 _ (fun t _ => flushed_eq m c t) cover

/-- The gradient: at row `i` and column `o`, the sum over the positions of activation times cotangent. -/
def gradOf (h : Vec Ideal S2048x2816 .f32) (dz : Vec Ideal S2048x1024 .f32) : Vec Ideal S2816x1024 .f32 :=
  fun j => ∑ s : Fin 2048, h (ix2 s (j 0)) * dz (ix2 s (j 1))

theorem V_main_v0 (c : Dev nD) (h : Vec Ideal S2048x2816 .f32) (hh : m ((c : Thread nD τ).loc main_arg0) = h) :
    V m c main_v0 = truncf (F := Ideal) .bf16 h bitsLt_bf16_f32 := by
  subst hh
  show StableHlo.after hostOps0 (fun b => m (c, b)) (Proc.devRef .tc main_v0) = _
  after_results

theorem V_main_v1 (c : Dev nD) (dz : Vec Ideal S2048x1024 .f32) (hh : m ((c : Thread nD τ).loc main_arg1) = dz) :
    V m c main_v1 = truncf (F := Ideal) .bf16 dz bitsLt_bf16_f32 := by
  subst hh
  show StableHlo.after hostOps0 (fun b => m (c, b)) (Proc.devRef .tc main_v1) = _
  after_results

/-- The leading axis dropped: what the operations after the call make of its result. -/
theorem tail_of (c : Dev nD) (W : (b : DevRef τ sig) → Buf (Elt Ideal) (c, b)) (h : Vec Ideal S2048x2816 .f32)
    (dz : Vec Ideal S2048x1024 .f32) (hx : W (Proc.devRef .tc main_v2)
      = whole (truncf (F := Ideal) .bf16 h bitsLt_bf16_f32) (truncf (F := Ideal) .bf16 dz bitsLt_bf16_f32)) :
    StableHlo.after hostOps1 W (Proc.devRef .tc main_v4) = gradOf h dz := by
  after_results
  rw [hx]
  show shapeCast S2816x1024 (extf (F := Ideal) .f32 (whole (truncf (F := Ideal) .bf16 h bitsLt_bf16_f32)
    (truncf (F := Ideal) .bf16 dz bitsLt_bf16_f32)) bitsLt_bf16_f32) shapeCasts_S1x2816x1024_S2816x1024 = _
  funext j
  idx_vars j
  unfold gradOf whole
  pointwise

theorem tail_eq (c : Dev nD) :
    Pipeline.afterTail₀ cfgs (dats m) 0 (V0 m) [hostOps1] c main_v4
      = gradOf (m ((c : Thread nD τ).loc main_arg0)) (m ((c : Thread nD τ).loc main_arg1)) := by
  unfold Pipeline.afterTail₀
  show StableHlo.after hostOps1 _ (Proc.devRef .tc main_v4) = _
  refine tail_of c _ _ _ ?_
  have h := Pipeline.withArrays_arr (cfgs 0).spec winFacts0.arr_inj c (V0 m c) (fun w => (dats m 0 c).arrAt w (cfgs 0).N) 2
  refine h.trans ((final m c).trans ?_)
  rw [V_main_v0 m c _ rfl, V_main_v1 m c _ rfl]

/-- The run of the kernel's program: its result is the gradient of its arguments, which stay as they are. -/
theorem run : θ_run defs (onTc (τ := τ) (main (F := Ideal))) ⟨m, fun _ => 0, ρ⟩ fun r => ∀ c : Dev nD,
      r.2.mem ((c.tc : Thread nD τ).loc main_v4)
        = gradOf (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v4 (Pipeline.mem_restRefs_of main_v4 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.Kernel3Ideal.Value

namespace Cert.Reference3Ideal.Value

open Cert.Reference3Ideal Cert.Reference3Ideal.Gen Idealize.ShloMosaic Idealize.ShloMosaic.TcCoe Idealize.SL.Sem Idealize.ShloMosaic.StableHlo

/-- The reference's product, element by element. -/
theorem product_eq (h : Vec Ideal S2048x2816 .f32) (dz : Vec Ideal S2048x1024 .f32) :
    transpose S2816x1024 [1, 0] (Host.dotGeneral (F := Ideal) (φ₁ := .f32) (φ₂ := .f32) dot_S2048x1024_S2048x2816_S1024x2816_0_0_1_1_n_n none dz h)
      transposes_S1024x2816_S2816x1024_1_0 = Cert.Kernel3Ideal.Value.gradOf h dz := by
  funext j
  idx_vars j
  unfold Cert.Kernel3Ideal.Value.gradOf
  pointwise!

/-- The reference's program leaves its arguments as they are and every semaphore at zero. -/
theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r h => ⟨fun c => (h c).2, sem_eq_zero_of_no_sems (by decide) r.2⟩) (run m ρ)

end Cert.Reference3Ideal.Value

namespace Cert.Ffn

open Idealize.ShloMosaic Idealize.ShloMosaic.TcCoe Idealize.SL.Sem

/-- The kernel's program and the reference's end with the same gradient. -/
theorem algebraic_w_out : Cert.algebraic_Kernel3Ideal_Reference3Ideal := fun m g m' g' _ hargs =>
  ⟨fun c => Cert.Kernel3Ideal.Value.gradOf (m (c.tc.loc Cert.Kernel3Ideal.main_arg0)) (m (c.tc.loc Cert.Kernel3Ideal.main_arg1)),
    Cert.Kernel3Ideal.Value.run m g,
    (θ_run _ _ _).mono (fun r h c => ⟨(h c).1.trans ((Cert.Reference3Ideal.Value.product_eq _ _).trans
        (congrArg₂ Cert.Kernel3Ideal.Value.gradOf (hargs c).1 (hargs c).2)), (h c).2⟩)
      (Cert.Reference3Ideal.Value.run m' g')⟩

end Cert.Ffn

end
-- ==== Proof.Ffn.FwdRows.lean ====
/- A feed-forward layer, one row at a time: what it makes of a row of its input, and that the steps of the kernel's body
   make the same of every row of their block. -/
module

public import proofs.«01_k».proof.Proof.Gen.Kernel4Ideal.Skeleton
public import Idealize.ShloMosaic.Lib.Pointwise
public import Idealize.ShloMosaic.Lib.Tactic

@[expose] public section

set_option maxRecDepth 16384

noncomputable section

namespace Cert.Ffn

open Idealize.ShloMosaic Idealize.ShloMosaic.TcCoe Idealize.SL.Sem

/-- One over the root of a row's mean square, to which a millionth is added. -/
def inv (y : Fin 1024 → EReal) : EReal :=
  Ideal.rsqrt (Ideal.div (∑ k, y k * y k) (Ideal.ofBits FTy.f32 1149239296#32) + Ideal.ofBits FTy.f32 897988541#32)

/-- The row that the first weight is applied to: normed, scaled and shifted. -/
def hidden (x shift scale g : Fin 1024 → EReal) (k : Fin 1024) : EReal := x k * inv x * g k * (1 + scale k) + shift k

/-- A row times the first weight. -/
def up (h : Fin 1024 → EReal) (w : Fin 1024 → Fin 5632 → EReal) (o : Fin 5632) : EReal := ∑ k, h k * w k o

/-- The gated product of the two halves: the first through `z / (1 + exp (-z))`, times the second. -/
def act (h : Fin 1024 → EReal) (w : Fin 1024 → Fin 5632 → EReal) (o : Fin 2816) : EReal :=
  up h w ⟨o.val, by omega⟩ * Ideal.div 1 (1 + Ideal.exp (0 - up h w ⟨o.val, by omega⟩)) * up h w ⟨2816 + o.val, by omega⟩

/-- The product times the second weight. -/
def down (h : Fin 1024 → EReal) (w : Fin 1024 → Fin 5632 → EReal) (wo : Fin 2816 → Fin 1024 → EReal) (n : Fin 1024) : EReal :=
  ∑ o, act h w o * wo o n

/-- The layer's row: the input's, plus half the gate times the normed result. -/
def layerRow (x shift scale gate g gp : Fin 1024 → EReal) (w : Fin 1024 → Fin 5632 → EReal) (wo : Fin 2816 → Fin 1024 → EReal)
    (n : Fin 1024) : EReal :=
  x n + Ideal.ofBits FTy.f32 1056964608#32 * gate n
    * (down (hidden x shift scale g) w wo n * inv (down (hidden x shift scale g) w wo) * gp n)

/-- The sum over the hidden elements, in two halves. -/
theorem down_halves (h : Fin 1024 → EReal) (w : Fin 1024 → Fin 5632 → EReal) (wo : Fin 2816 → Fin 1024 → EReal) (n : Fin 1024) :
    down h w wo n = (∑ o : Fin 1408, act h w ⟨o.val, by omega⟩ * wo ⟨o.val, by omega⟩ n)
      + ∑ o : Fin 1408, act h w ⟨1408 + o.val, by omega⟩ * wo ⟨1408 + o.val, by omega⟩ n :=
  Fin.sum_univ_add (a := 1408) (b := 1408) fun o => act h w o * wo o n

end Cert.Ffn

namespace Cert.Kernel4Ideal.Value

open Cert.Kernel4Ideal Cert.Kernel4Ideal.Gen Idealize.ShloMosaic Idealize.ShloMosaic.TcCoe Idealize.SL.Sem

theorem pay1_apply (x p q : Vec Ideal S512x1024 .f32) (r : Fin 512) (n : Fin 1024) :
    k0_pay1 x p q (ix2 r n) = x (ix2 r n) + q (ix2 r n) * p (ix2 r n) := by
  pointwise [k0_pay1]

theorem pay2_apply (x : Vec Ideal S512x1024 .f32) (g s b : Vec Ideal S1x1024 .f32) (r : Fin 512) (k : Fin 1024) :
    k0_pay2 x g s b (ix2 r k) = Cert.Ffn.hidden (fun k => x (ix2 r k)) (fun k => b (ix2 (0 : Fin 1) k)) (fun k => s (ix2 (0 : Fin 1) k))
      (fun k => g (ix2 (0 : Fin 1) k)) k := by
  unfold Cert.Ffn.hidden Cert.Ffn.inv
  pointwise [k0_pay2]

theorem pay3_apply (r : Fin 512) (n : Fin 1024) : (k0_pay3 : FVec Ideal S512x1024 .f32) (ix2 r n) = 0 := by
  pointwise [k0_pay3]

theorem pay4_apply (x : Vec Ideal S512x1024 .f32) (g s b : Vec Ideal S1x1024 .f32) (w : Vec Ideal S1x1024x1408 .bf16) (r : Fin 512)
    (o : Fin 1408) : k0_pay4 x g s b w (ix2 r o) = ∑ k : Fin 1024, k0_pay2 x g s b (ix2 r k) * w (ix3 (0 : Fin 1) k o) := by
  generalize hh : k0_pay2 x g s b = h
  pointwise [k0_pay4, hh]

theorem pay5_apply (h : Vec Ideal S512x1024 .bf16) (w : Vec Ideal S1x1024x1408 .bf16) (r : Fin 512) (o : Fin 1408) :
    k0_pay5 h w (ix2 r o) = ∑ k : Fin 1024, h (ix2 r k) * w (ix3 (0 : Fin 1) k o) := by
  pointwise [k0_pay5]

theorem pay9_apply (h : Vec Ideal S512x1024 .bf16) (w : Vec Ideal S1x1024x1408 .bf16) (r : Fin 512) (o : Fin 1408) :
    k0_pay9 h w (ix2 r o) = ∑ k : Fin 1024, h (ix2 r k) * w (ix3 (0 : Fin 1) k o) := by
  pointwise [k0_pay9]

theorem pay10_apply (h : Vec Ideal S512x1024 .bf16) (w : Vec Ideal S1x1024x1408 .bf16) (r : Fin 512) (o : Fin 1408) :
    k0_pay10 h w (ix2 r o) = ∑ k : Fin 1024, h (ix2 r k) * w (ix3 (0 : Fin 1) k o) := by
  pointwise [k0_pay10]

theorem pay8_apply (h : Vec Ideal S512x1024 .bf16) (z : Vec Ideal S512x1024 .f32) (a : Vec Ideal S512x1408 .f32)
    (w : Vec Ideal S1x1024x1408 .bf16) (wo : Vec Ideal S1408x1024 .bf16) (r : Fin 512) (n : Fin 1024) :
    k0_pay8 h z a w wo (ix2 r n)
      = z (ix2 r n) + ∑ o : Fin 1408, a (ix2 r o) * Ideal.div 1 (1 + Ideal.exp (0 - a (ix2 r o))) * k0_pay5 h w (ix2 r o) * wo (ix2 o n) := by
  pointwise [k0_pay8]

theorem pay14_apply (f : Vec Ideal S512x1024 .f32) (a b : Vec Ideal S512x1408 .f32) (wo : Vec Ideal S1408x1024 .bf16)
    (r : Fin 512) (n : Fin 1024) :
    k0_pay14 f a b wo (ix2 r n)
      = f (ix2 r n) + ∑ o : Fin 1408, a (ix2 r o) * Ideal.div 1 (1 + Ideal.exp (0 - a (ix2 r o))) * b (ix2 r o) * wo (ix2 o n) := by
  pointwise [k0_pay14]

theorem pay15_apply (f : Vec Ideal S512x1024 .f32) (a b : Vec Ideal S512x1408 .f32) (wo : Vec Ideal S1408x1024 .bf16)
    (gp : Vec Ideal S1x1024 .f32) (r : Fin 512) (n : Fin 1024) :
    k0_pay15 f a b wo gp (ix2 r n)
      = k0_pay14 f a b wo (ix2 r n) * Cert.Ffn.inv (fun k => k0_pay14 f a b wo (ix2 r k)) * gp (ix2 (0 : Fin 1) n) := by
  generalize hh : k0_pay14 f a b wo = h
  unfold Cert.Ffn.inv
  pointwise [k0_pay15, hh]

theorem pay16_apply (t : Vec Ideal S1x1024 .f32) (r : Fin 512) (n : Fin 1024) :
    k0_pay16 t (ix2 r n) = Ideal.ofBits FTy.f32 1056964608#32 * t (ix2 (0 : Fin 1) n) := by
  pointwise [k0_pay16]

/-- What the body stores, from what it loads, is the layer of each row. -/
theorem stored_apply (x : Vec Ideal S512x1024 .f32) (b s t g gp : Vec Ideal S1x1024 .f32) (w0 w1 w2 w3 : Vec Ideal S1x1024x1408 .bf16)
    (wo0 wo1 : Vec Ideal S1408x1024 .bf16) (w : Fin 1024 → Fin 5632 → EReal) (wo : Fin 2816 → Fin 1024 → EReal)
    (h0 : ∀ (k : Fin 1024) (o : Fin 1408), w0 (ix3 (0 : Fin 1) k o) = w k ⟨o.val, by omega⟩)
    (h1 : ∀ (k : Fin 1024) (o : Fin 1408), w1 (ix3 (0 : Fin 1) k o) = w k ⟨1408 + o.val, by omega⟩)
    (h2 : ∀ (k : Fin 1024) (o : Fin 1408), w2 (ix3 (0 : Fin 1) k o) = w k ⟨2816 + o.val, by omega⟩)
    (h3 : ∀ (k : Fin 1024) (o : Fin 1408), w3 (ix3 (0 : Fin 1) k o) = w k ⟨2816 + (1408 + o.val), by omega⟩)
    (ho0 : ∀ (o : Fin 1408) (n : Fin 1024), wo0 (ix2 o n) = wo ⟨o.val, by omega⟩ n)
    (ho1 : ∀ (o : Fin 1408) (n : Fin 1024), wo1 (ix2 o n) = wo ⟨1408 + o.val, by omega⟩ n) (r : Fin 512) (n : Fin 1024) :
    k0_pay1 x (k0_pay15 (k0_pay8 (k0_pay2 x g s b) k0_pay3 (k0_pay4 x g s b w0) w2 wo0) (k0_pay9 (k0_pay2 x g s b) w1)
        (k0_pay10 (k0_pay2 x g s b) w3) wo1 gp) (k0_pay16 t) (ix2 r n)
      = Cert.Ffn.layerRow (fun k => x (ix2 r k)) (fun k => b (ix2 (0 : Fin 1) k)) (fun k => s (ix2 (0 : Fin 1) k))
          (fun k => t (ix2 (0 : Fin 1) k)) (fun k => g (ix2 (0 : Fin 1) k)) (fun k => gp (ix2 (0 : Fin 1) k)) w wo n := by
  have e : ∀ n : Fin 1024, k0_pay14 (k0_pay8 (k0_pay2 x g s b) k0_pay3 (k0_pay4 x g s b w0) w2 wo0) (k0_pay9 (k0_pay2 x g s b) w1)
      (k0_pay10 (k0_pay2 x g s b) w3) wo1 (ix2 r n)
        = Cert.Ffn.down (Cert.Ffn.hidden (fun k => x (ix2 r k)) (fun k => b (ix2 (0 : Fin 1) k)) (fun k => s (ix2 (0 : Fin 1) k))
            (fun k => g (ix2 (0 : Fin 1) k))) w wo n := by
    intro n
    rw [pay14_apply, pay8_apply, pay3_apply, zero_add, Cert.Ffn.down_halves]
    simp only [pay4_apply, pay5_apply, pay9_apply, pay10_apply, pay2_apply, h0, h1, h2, h3, ho0, ho1, Cert.Ffn.act, Cert.Ffn.up]
  rw [pay1_apply, pay15_apply, pay16_apply, e, funext e]
  rfl

end Cert.Kernel4Ideal.Value

end
-- ==== Proof.Ffn.FwdPoint.lean ====
/- What one grid point of the forward call stores: the first point copies the two weights into scratch and uses them
   there, the later ones find them there. -/
module

public import proofs.«01_k».proof.Proof.Gen.Kernel4Ideal.Frame
public import proofs.«01_k».proof.Proof.Ffn.FwdRows
public import Idealize.ShloMosaic.Lib.Pipeline.Value
public import Idealize.ShloMosaic.Lib.Pointwise
public import Idealize.ShloMosaic.Lib.Tactic

@[expose] public section

set_option maxRecDepth 16384

noncomputable section

namespace Cert.Kernel4Ideal.Value

open Cert.Kernel4Ideal Cert.Kernel4Ideal.Gen
open Idealize.ShloMosaic Idealize.ShloMosaic.TcCoe Idealize.ShloMosaic.Tactic

theorem hz2 : (![0, 0] : Fin 2 → Nat) = fun _ => 0 := funext fun a => by fin_cases a <;> rfl

/-- A row of the eight vectors. -/
def vecRow (x1 : Vec Ideal S8x1024 .f32) (q : Fin 8) : Vec Ideal S1x1024 .f32 := fun j => x1 (ix2 q (j 1))
/-- A slab of the first weight. -/
def slabAt (w : Vec Ideal S4x1024x1408 .bf16) (q : Fin 4) : Vec Ideal S1x1024x1408 .bf16 := fun j => w (ix3 q (j 1) (j 2))
/-- A half of the second weight's rows. -/
def halfAt (wo : Vec Ideal S2816x1024 .bf16) (q : Fin 2) : Vec Ideal S1408x1024 .bf16 :=
  fun j => wo (ix2 ⟨q.val * 1408 + (j 0).val, by have h : (j 0).val < 1408 := (j 0).isLt; have := q.isLt; omega⟩ (j 1))

/-- What the body stores, from its block of the input, the vectors and the two weights in scratch. -/
def blockOut (x0 : Vec Ideal S512x1024 .f32) (x1 : Vec Ideal S8x1024 .f32) (w : Vec Ideal S4x1024x1408 .bf16)
    (wo : Vec Ideal S2816x1024 .bf16) : Vec Ideal S512x1024 .f32 :=
  k0_pay1 x0
    (k0_pay15
      (k0_pay8 (k0_pay2 x0 (vecRow x1 3) (vecRow x1 1) (vecRow x1 0)) k0_pay3
        (k0_pay4 x0 (vecRow x1 3) (vecRow x1 1) (vecRow x1 0) (slabAt w 0)) (slabAt w 2) (halfAt wo 0))
      (k0_pay9 (k0_pay2 x0 (vecRow x1 3) (vecRow x1 1) (vecRow x1 0)) (slabAt w 1))
      (k0_pay10 (k0_pay2 x0 (vecRow x1 3) (vecRow x1 1) (vecRow x1 0)) (slabAt w 3)) (halfAt wo 1) (vecRow x1 4))
    (k0_pay16 (vecRow x1 2))

/-- The second weight, whose rows are the slabs' rows one slab after another. -/
def stackOf (v : Vec Ideal S4x704x1024 .bf16) : Vec Ideal S2816x1024 .bf16 :=
  fun j => v (ix3 (⟨(j 0).val / 704, by have h : (j 0).val < 2816 := (j 0).isLt; omega⟩ : Fin 4)
    (⟨(j 0).val % 704, Nat.mod_lt _ (by norm_num)⟩ : Fin 704) (j 1))

theorem ld_vec (x1 : Vec Ideal S8x1024 .f32) (q : Fin 8) (inb : ∀ a, (![q.val, 0] : Fin 2 → ℕ) a + S1x1024.size a ≤ S8x1024.size a) :
    View.ld (Val := Elt Ideal) x1 (Rect.unit (s := S8x1024) ![q.val, 0] S1x1024.size inb) = vecRow x1 q := by
  rw [View.ld_unit]
  funext j
  refine congrArg x1 (funext fun a => Fin.ext ?_)
  match a with
  | ⟨0, _⟩ => show q.val + (j 0).val = q.val; have h : (j 0).val < 1 := (j 0).isLt; omega
  | ⟨1, _⟩ => show 0 + (j 1).val = (j 1).val; omega

theorem ld_slab (w : Vec Ideal S4x1024x1408 .bf16) (q : Fin 4)
    (inb : ∀ a, (![q.val, 0, 0] : Fin 3 → ℕ) a + S1x1024x1408.size a ≤ S4x1024x1408.size a) :
    View.ld (Val := Elt Ideal) w (Rect.unit (s := S4x1024x1408) ![q.val, 0, 0] S1x1024x1408.size inb) = slabAt w q := by
  rw [View.ld_unit]
  funext j
  refine congrArg w (funext fun a => Fin.ext ?_)
  match a with
  | ⟨0, _⟩ => show q.val + (j 0).val = q.val; have h : (j 0).val < 1 := (j 0).isLt; omega
  | ⟨1, _⟩ => show 0 + (j 1).val = (j 1).val; omega
  | ⟨2, _⟩ => show 0 + (j 2).val = (j 2).val; omega

theorem ld_half (wo : Vec Ideal S2816x1024 .bf16) (q : Fin 2)
    (inb : ∀ a, (![q.val * 1408, 0] : Fin 2 → ℕ) a + S1408x1024.size a ≤ S2816x1024.size a) :
    View.ld (Val := Elt Ideal) wo (Rect.unit (s := S2816x1024) ![q.val * 1408, 0] S1408x1024.size inb) = halfAt wo q := by
  rw [View.ld_unit]
  funext j
  refine congrArg wo (funext fun a => Fin.ext ?_)
  match a with
  | ⟨0, _⟩ => rfl
  | ⟨1, _⟩ => show 0 + (j 1).val = (j 1).val; omega

theorem shapeCasts_slab : S1x704x1024.ShapeCasts S704x1024 := by decide

theorem cast_apply (u : Vec Ideal S1x704x1024 .bf16) (hc : S1x704x1024.ShapeCasts S704x1024) (r : Fin 704) (n : Fin 1024) :
    shapeCast S704x1024 u hc (ix2 r n) = u (ix3 (0 : Fin 1) r n) := by
  pointwise

theorem sq_slab (v : Vec Ideal S4x704x1024 .bf16) (q : Fin 4) (inb : ∀ a, (![q.val, 0, 0] : Fin 3 → ℕ) a + S1x704x1024.size a ≤ S4x704x1024.size a)
    (hc : S1x704x1024.ShapeCasts S704x1024) (r : Fin 704) (n : Fin 1024) :
    shapeCast S704x1024 (View.ld (Val := Elt Ideal) v (Rect.unit (s := S4x704x1024) ![q.val, 0, 0] S1x704x1024.size inb)) hc (ix2 r n)
      = v (ix3 q r n) := by
  refine (cast_apply _ hc r n).trans ?_
  rw [View.ld_unit]
  refine congrArg v (funext fun a => Fin.ext ?_)
  match a with
  | ⟨0, _⟩ => show q.val + 0 = q.val; omega
  | ⟨1, _⟩ => show 0 + r.val = r.val; omega
  | ⟨2, _⟩ => show 0 + n.val = n.val; omega

theorem stackOf_emb (v : Vec Ideal S4x704x1024 .bf16) (q : Fin 4) (inb : ∀ a, (![q.val * 704, 0] : Fin 2 → ℕ) a + S704x1024.size a ≤ S2816x1024.size a)
    (r : Fin 704) (n : Fin 1024) :
    stackOf v ((Rect.unit (s := S2816x1024) ![q.val * 704, 0] S704x1024.size inb).emb (ix2 r n)) = v (ix3 q r n) := by
  refine congrArg v (funext fun a => Fin.ext ?_)
  have hr := r.isLt
  match a with
  | ⟨0, _⟩ => show (q.val * 704 + 1 * r.val) / 704 = q.val; omega
  | ⟨1, _⟩ => show (q.val * 704 + 1 * r.val) % 704 = r.val; omega
  | ⟨2, _⟩ => show 0 + 1 * n.val = n.val; omega

theorem slab_row (v : Vec Ideal S4x704x1024 .bf16) (q : Fin 4) (inb : ∀ a, (![q.val, 0, 0] : Fin 3 → ℕ) a + S1x704x1024.size a ≤ S4x704x1024.size a)
    (hc : S1x704x1024.ShapeCasts S704x1024) (inb' : ∀ a, (![q.val * 704, 0] : Fin 2 → ℕ) a + S704x1024.size a ≤ S2816x1024.size a) (x : S704x1024.Idx) :
    shapeCast S704x1024 (View.ld (Val := Elt Ideal) v (Rect.unit (s := S4x704x1024) ![q.val, 0, 0] S1x704x1024.size inb)) hc x
      = stackOf v ((Rect.unit (s := S2816x1024) ![q.val * 704, 0] S704x1024.size inb').emb x) := by
  idx_vars x
  exact (sq_slab v q inb hc _ _).trans (stackOf_emb v q inb' _ _).symm

theorem covLd {s : Shape} {e : EltTy} {κ : Kind} {sp : Space} (v : View sig κ sp s e) (L : List (View.Piece (Elt Ideal) s e)) (r : Rect s) :
    v.readCov L r.toLoadRect = View.ld (View.canon L) r := View.readCov_eq_canon' v L r.toLoadRect

variable (c : Dev nD) (i : grid0.Coords) (arg1 : Memref sig .tc .vmem S512x1024 .f32) (harg1 : arg1.IsWhole) (arg2 : Memref sig .tc .vmem S8x1024 .f32) (harg2 : arg2.IsWhole) (arg5 : Memref sig .tc .vmem S512x1024 .f32) (harg5 : arg5.IsWhole) (arg6 : Memref sig .tc .vmem S512x1024 .bf16) (harg6 : arg6.IsWhole) (arg7 : Memref sig .tc .vmem S4x512x1408 .bf16) (harg7 : arg7.IsWhole) (arg8 : Memref sig .tc .vmem S512x1024 .f32) (harg8 : arg8.IsWhole) (arg9 : Memref sig .tc .vmem S4x1024x1408 .bf16) (harg9 : arg9.IsWhole) (arg10 : Memref sig .tc .vmem S2816x1024 .bf16) (harg10 : arg10.IsWhole)
    (x0 : Vec Ideal S512x1024 .f32) (x1 : Vec Ideal S8x1024 .f32) (fh0 : HbBuf0 (F := Ideal) c hbM0_0) (fh1 : HbBuf0 (F := Ideal) c hbM0_1)

/-- After the first point the first scratch holds the first weight. -/
theorem canonA_0 (hc0 : cond0_0 i) : View.canon (kernelRun0_A c i arg1 harg1 arg2 harg2 arg5 harg5 arg6 harg6 arg7 harg7 arg8 harg8 arg9 harg9 arg10 harg10 hc0 x0 x1 fh0 fh1).2.2.2.2.1 = (fh0 : Vec Ideal S4x1024x1408 .bf16) := by
  funext y
  refine View.canon_apply_of_pieces (Val := Elt Ideal) (fh0 : Vec Ideal S4x1024x1408 .bf16) _ ?_ y (scover0_A_0 c i arg1 harg1 arg2 harg2 arg5 harg5 arg6 harg6 arg7 harg7 arg8 harg8 arg9 harg9 arg10 harg10 hc0 x0 x1 fh0 fh1 y)
  unfold kernelRun0_A
  dsimp only
  sl_unfold_words
  intro p hp
  simp only [List.mem_cons, List.not_mem_nil, or_false] at hp
  rcases hp with rfl | rfl | rfl | rfl <;> exact fun _ => rfl

/-- After the first point the second scratch holds the second weight. -/
theorem canonA_1 (hc0 : cond0_0 i) : View.canon (kernelRun0_A c i arg1 harg1 arg2 harg2 arg5 harg5 arg6 harg6 arg7 harg7 arg8 harg8 arg9 harg9 arg10 harg10 hc0 x0 x1 fh0 fh1).2.2.2.2.2.1 = stackOf fh1 := by
  funext y
  refine View.canon_apply_of_pieces (Val := Elt Ideal) (stackOf fh1) _ ?_ y (scover0_A_1 c i arg1 harg1 arg2 harg2 arg5 harg5 arg6 harg6 arg7 harg7 arg8 harg8 arg9 harg9 arg10 harg10 hc0 x0 x1 fh0 fh1 y)
  unfold kernelRun0_A
  dsimp only
  sl_unfold_words
  intro p hp
  simp only [List.mem_cons, List.not_mem_nil, or_false] at hp
  rcases hp with rfl | rfl | rfl | rfl
  · exact fun x => slab_row fh1 3 _ shapeCasts_slab inb_S2816x1024_S704x1024_2112_0 x
  · exact fun x => slab_row fh1 2 _ shapeCasts_slab inb_S2816x1024_S704x1024_1408_0 x
  · exact fun x => slab_row fh1 1 _ shapeCasts_slab inb_S2816x1024_S704x1024_704_0 x
  · exact fun x => slab_row fh1 0 _ shapeCasts_slab inb_S2816x1024_S704x1024_0_0 x

theorem out_A (hc0 : cond0_0 i) : out0_A_2 c i arg1 harg1 arg2 harg2 arg5 harg5 arg6 harg6 arg7 harg7 arg8 harg8 arg9 harg9 arg10 harg10 hc0 x0 x1 fh0 fh1
    = blockOut x0 x1 (View.canon (kernelRun0_A c i arg1 harg1 arg2 harg2 arg5 harg5 arg6 harg6 arg7 harg7 arg8 harg8 arg9 harg9 arg10 harg10 hc0 x0 x1 fh0 fh1).2.2.2.2.1) (View.canon (kernelRun0_A c i arg1 harg1 arg2 harg2 arg5 harg5 arg6 harg6 arg7 harg7 arg8 harg8 arg9 harg9 arg10 harg10 hc0 x0 x1 fh0 fh1).2.2.2.2.2.1) := by
  unfold out0_A_2
  refine (View.read_writes_junk_eq_canon _ _).trans ?_
  unfold kernelRun0_A
  dsimp only
  sl_unfold_words
  refine (View.canon_unit_zero hz2 _ _).trans ?_
  simp only [View.readAt_eq_ld, harg1.read_unread, harg2.read_unread, covLd, View.ld_unit_zero (S := S512x1024) hz2]
  unfold blockOut
  rw [← ld_vec x1 0 inb_S8x1024_S1x1024_0_0, ← ld_vec x1 1 inb_S8x1024_S1x1024_1_0, ← ld_vec x1 2 inb_S8x1024_S1x1024_2_0, ← ld_vec x1 3 inb_S8x1024_S1x1024_3_0,
    ← ld_vec x1 4 inb_S8x1024_S1x1024_4_0, ← ld_slab _ 0 inb_S4x1024x1408_S1x1024x1408_0_0_0, ← ld_slab _ 1 inb_S4x1024x1408_S1x1024x1408_1_0_0,
    ← ld_slab _ 2 inb_S4x1024x1408_S1x1024x1408_2_0_0, ← ld_slab _ 3 inb_S4x1024x1408_S1x1024x1408_3_0_0,
    ← ld_half _ 0 inb_S2816x1024_S1408x1024_0_0, ← ld_half _ 1 inb_S2816x1024_S1408x1024_1408_0]
  rfl

theorem out_B (hc0 : ¬ cond0_0 i) (xs0 : Vec Ideal S4x1024x1408 .bf16) (xs1 : Vec Ideal S2816x1024 .bf16) :
    out0_B_2 c i arg1 harg1 arg2 harg2 arg5 harg5 arg6 harg6 arg7 harg7 arg8 harg8 arg9 harg9 arg10 harg10 hc0 x0 x1 xs0 xs1 fh0 fh1 = blockOut x0 x1 xs0 xs1 := by
  unfold out0_B_2
  rw [View.read_writes_junk_eq_canon]
  unfold kernelRun0_B
  dsimp only
  sl_unfold_words
  rw [View.canon_unit_zero hz2]
  simp only [View.readAt_eq_ld, harg1.read_unread, harg2.read_unread, harg9.read_unread, harg10.read_unread, View.ld_unit_zero (S := S512x1024) hz2]
  unfold blockOut
  rw [← ld_vec x1 0 inb_S8x1024_S1x1024_0_0, ← ld_vec x1 1 inb_S8x1024_S1x1024_1_0, ← ld_vec x1 2 inb_S8x1024_S1x1024_2_0, ← ld_vec x1 3 inb_S8x1024_S1x1024_3_0,
    ← ld_vec x1 4 inb_S8x1024_S1x1024_4_0, ← ld_slab xs0 0 inb_S4x1024x1408_S1x1024x1408_0_0_0, ← ld_slab xs0 1 inb_S4x1024x1408_S1x1024x1408_1_0_0,
    ← ld_slab xs0 2 inb_S4x1024x1408_S1x1024x1408_2_0_0, ← ld_slab xs0 3 inb_S4x1024x1408_S1x1024x1408_3_0_0,
    ← ld_half xs1 0 inb_S2816x1024_S1408x1024_0_0, ← ld_half xs1 1 inb_S2816x1024_S1408x1024_1408_0]
  rfl

theorem sout_A_0 (hc0 : cond0_0 i) : sout0_A_0 c i arg1 harg1 arg2 harg2 arg5 harg5 arg6 harg6 arg7 harg7 arg8 harg8 arg9 harg9 arg10 harg10 hc0 x0 x1 fh0 fh1 = (fh0 : Vec Ideal S4x1024x1408 .bf16) := by
  unfold sout0_A_0
  rw [View.read_writes_junk_eq_canon]
  exact canonA_0 c i arg1 harg1 arg2 harg2 arg5 harg5 arg6 harg6 arg7 harg7 arg8 harg8 arg9 harg9 arg10 harg10 x0 x1 fh0 fh1 hc0

theorem sout_A_1 (hc0 : cond0_0 i) : sout0_A_1 c i arg1 harg1 arg2 harg2 arg5 harg5 arg6 harg6 arg7 harg7 arg8 harg8 arg9 harg9 arg10 harg10 hc0 x0 x1 fh0 fh1 = stackOf fh1 := by
  unfold sout0_A_1
  rw [View.read_writes_junk_eq_canon]
  exact canonA_1 c i arg1 harg1 arg2 harg2 arg5 harg5 arg6 harg6 arg7 harg7 arg8 harg8 arg9 harg9 arg10 harg10 x0 x1 fh0 fh1 hc0

end Cert.Kernel4Ideal.Value

end
-- ==== Proof.Ffn.FwdLayer.lean ====
/- The forward pass of a feed-forward layer on a whole array, and that the reference's program computes it. -/
module

public import proofs.«01_k».proof.Proof.Gen.Reference4Ideal.Run
public import proofs.«01_k».proof.Proof.Ffn.FwdRows
public import Idealize.ShloMosaic.Lib.Pointwise
public import Idealize.ShloMosaic.Lib.Quiescent
public import Idealize.ShloMosaic.Lib.Tactic

@[expose] public section

set_option maxRecDepth 16384

noncomputable section

namespace Cert.Reference4Ideal.Value

open Cert.Reference4Ideal Cert.Reference4Ideal.Gen Idealize.ShloMosaic Idealize.ShloMosaic.TcCoe Idealize.SL.Sem Idealize.ShloMosaic.StableHlo

/-- The layer's output: each row of the input through `Cert.Ffn.layerRow`. -/
def layerOf (x : Vec Ideal S2048x1024 .f32) (md : Vec Ideal S3x1024 .f32) (g gp : Vec Ideal S1024 .f32) (w : Vec Ideal S1024x5632 .f32)
    (wo : Vec Ideal S2816x1024 .f32) : Vec Ideal S2048x1024 .f32 :=
  fun j => Cert.Ffn.layerRow (fun k => x (ix2 (j 0) k)) (fun k => md (ix2 (0 : Fin 3) k)) (fun k => md (ix2 (1 : Fin 3) k))
    (fun k => md (ix2 (2 : Fin 3) k)) (fun k => g (ix1 k)) (fun k => gp (ix1 k)) (fun k o => w (ix2 k o)) (fun o n => wo (ix2 o n)) (j 1)

/-- The reference's normed, scaled and shifted input. -/
def rHidden (x : Vec Ideal S2048x1024 .f32) (md : Vec Ideal S3x1024 .f32) (g : Vec Ideal S1024 .f32) : Vec Ideal S2048x1024 .f32 :=
  addf (mulf (mulf (mulf x (broadcastInDim S2048x1024 ![0, 1] bcast_S2048x1_S2048x1024_0_1 (Host.rsqrt (addf
    (Host.divf (broadcastInDim S2048x1 ![0] bcast_S2048_S2048x1_0 (Host.reduceAdd (mulf x x) (constant (F :=
    Ideal) S_ .f32 0x00000000#32) reducesTo_S2048x1024_S2048_d1 h_S_)) (broadcastInDim S2048x1 ![]
    bcast_S_S2048x1 (constant (F := Ideal) S_ .f32 0x44800000#32))) (broadcastInDim S2048x1 ![]
    bcast_S_S2048x1 (constant (F := Ideal) S_ .f32 0x358637BD#32)))))) (broadcastInDim S2048x1024 ![0, 1]
    bcast_S1x1024_S2048x1024_0_1 (broadcastInDim S1x1024 ![1] bcast_S1024_S1x1024_1 g))) (broadcastInDim
    S2048x1024 ![0, 1] bcast_S1x1024_S2048x1024_0_1 (broadcastInDim S1x1024 ![1] bcast_S1024_S1x1024_1 (addf
    (broadcastInDim S1024 ![] bcast_S_S1024 (constant (F := Ideal) S_ .f32 0x3F800000#32)) (shapeCast S1024
    (extractStridedSlice S1x1024 ![1, 0] md slices_S3x1024_S1x1024_1_0) shapeCasts_S1x1024_S1024)))))
    (broadcastInDim S2048x1024 ![0, 1] bcast_S1x1024_S2048x1024_0_1 (broadcastInDim S1x1024 ![1]
    bcast_S1024_S1x1024_1 (shapeCast S1024 (extractStridedSlice S1x1024 ![0, 0] md slices_S3x1024_S1x1024_0_0)
    shapeCasts_S1x1024_S1024)))

/-- The reference's first product. -/
def rUp (h : Vec Ideal S2048x1024 .f32) (w : Vec Ideal S1024x5632 .f32) : Vec Ideal S2048x5632 .f32 :=
  Host.dotGeneral (F := Ideal) (φ₁ := .f32) (φ₂ := .f32) dot_S2048x1024_S1024x5632_S2048x5632_1_0_0_1_n_n none h w

/-- The reference's gated product of the two halves. -/
def rAct (z : Vec Ideal S2048x5632 .f32) : Vec Ideal S2048x2816 .f32 :=
  mulf (mulf (extractStridedSlice S2048x2816 ![0, 0] z slices_S2048x5632_S2048x2816_0_0) (Host.divf
    (broadcastInDim S2048x2816 ![] bcast_S_S2048x2816 (constant (F := Ideal) S_ .f32 0x3F800000#32)) (addf
    (broadcastInDim S2048x2816 ![] bcast_S_S2048x2816 (constant (F := Ideal) S_ .f32 0x3F800000#32)) (Host.exp
    (Host.negf (extractStridedSlice S2048x2816 ![0, 0] z slices_S2048x5632_S2048x2816_0_0))))))
    (extractStridedSlice S2048x2816 ![0, 2816] z slices_S2048x5632_S2048x2816_0_2816)

/-- The reference's second product. -/
def rDown (a : Vec Ideal S2048x2816 .f32) (wo : Vec Ideal S2816x1024 .f32) : Vec Ideal S2048x1024 .f32 :=
  Host.dotGeneral (F := Ideal) (φ₁ := .f32) (φ₂ := .f32) dot_S2048x2816_S2816x1024_S2048x1024_1_0_0_1_n_n none a wo

/-- The reference's result: the input plus half the gate times the normed product. -/
def rOut (x : Vec Ideal S2048x1024 .f32) (md : Vec Ideal S3x1024 .f32) (gp : Vec Ideal S1024 .f32) (d : Vec Ideal S2048x1024 .f32) :
    Vec Ideal S2048x1024 .f32 :=
  addf x (mulf (broadcastInDim S2048x1024 ![0, 1] bcast_S1x1024_S2048x1024_0_1 (broadcastInDim S1x1024 ![1]
    bcast_S1024_S1x1024_1 (mulf (broadcastInDim S1024 ![] bcast_S_S1024 (constant (F := Ideal) S_ .f32
    0x3F000000#32)) (shapeCast S1024 (extractStridedSlice S1x1024 ![2, 0] md slices_S3x1024_S1x1024_2_0)
    shapeCasts_S1x1024_S1024)))) (mulf (mulf d (broadcastInDim S2048x1024 ![0, 1] bcast_S2048x1_S2048x1024_0_1
    (Host.rsqrt (addf (Host.divf (broadcastInDim S2048x1 ![0] bcast_S2048_S2048x1_0 (Host.reduceAdd (mulf d d)
    (constant (F := Ideal) S_ .f32 0x00000000#32) reducesTo_S2048x1024_S2048_d1 h_S_)) (broadcastInDim S2048x1
    ![] bcast_S_S2048x1 (constant (F := Ideal) S_ .f32 0x44800000#32))) (broadcastInDim S2048x1 ![]
    bcast_S_S2048x1 (constant (F := Ideal) S_ .f32 0x358637BD#32)))))) (broadcastInDim S2048x1024 ![0, 1]
    bcast_S1x1024_S2048x1024_0_1 (broadcastInDim S1x1024 ![1] bcast_S1024_S1x1024_1 gp))))

theorem rHidden_apply (x : Vec Ideal S2048x1024 .f32) (md : Vec Ideal S3x1024 .f32) (g : Vec Ideal S1024 .f32) (s : Fin 2048) (k : Fin 1024) :
    rHidden x md g (ix2 s k) = Cert.Ffn.hidden (fun k => x (ix2 s k)) (fun k => md (ix2 (0 : Fin 3) k)) (fun k => md (ix2 (1 : Fin 3) k))
      (fun k => g (ix1 k)) k := by
  unfold Cert.Ffn.hidden Cert.Ffn.inv
  pointwise [rHidden]

theorem rUp_apply (h : Vec Ideal S2048x1024 .f32) (w : Vec Ideal S1024x5632 .f32) (s : Fin 2048) (o : Fin 5632) :
    rUp h w (ix2 s o) = Cert.Ffn.up (fun k => h (ix2 s k)) (fun k o => w (ix2 k o)) o := by
  unfold Cert.Ffn.up
  pointwise [rUp]

theorem rAct_apply (z : Vec Ideal S2048x5632 .f32) (s : Fin 2048) (o : Fin 2816) :
    rAct z (ix2 s o) = z (ix2 s ⟨o.val, by omega⟩) * Ideal.div 1 (1 + Ideal.exp (0 - z (ix2 s ⟨o.val, by omega⟩)))
      * z (ix2 s ⟨2816 + o.val, by omega⟩) := by
  rw [zero_sub]
  pointwise [rAct]

theorem rDown_apply (a : Vec Ideal S2048x2816 .f32) (wo : Vec Ideal S2816x1024 .f32) (s : Fin 2048) (n : Fin 1024) :
    rDown a wo (ix2 s n) = ∑ o : Fin 2816, a (ix2 s o) * wo (ix2 o n) := by
  pointwise [rDown]

theorem rOut_apply (x : Vec Ideal S2048x1024 .f32) (md : Vec Ideal S3x1024 .f32) (gp : Vec Ideal S1024 .f32) (d : Vec Ideal S2048x1024 .f32)
    (s : Fin 2048) (n : Fin 1024) :
    rOut x md gp d (ix2 s n) = x (ix2 s n) + Ideal.ofBits FTy.f32 1056964608#32 * md (ix2 (2 : Fin 3) n)
      * (d (ix2 s n) * Cert.Ffn.inv (fun k => d (ix2 s k)) * gp (ix1 n)) := by
  unfold Cert.Ffn.inv
  pointwise [rOut]

/-- The reference's steps, composed, make the layer of their arguments. -/
theorem steps_eq (x : Vec Ideal S2048x1024 .f32) (md : Vec Ideal S3x1024 .f32) (g gp : Vec Ideal S1024 .f32) (w : Vec Ideal S1024x5632 .f32)
    (wo : Vec Ideal S2816x1024 .f32) : rOut x md gp (rDown (rAct (rUp (rHidden x md g) w)) wo) = layerOf x md g gp w wo := by
  funext j
  idx_vars j
  have hd : ∀ n : Fin 1024, rDown (rAct (rUp (rHidden x md g) w)) wo (ix2 j0 n)
      = Cert.Ffn.down (Cert.Ffn.hidden (fun k => x (ix2 j0 k)) (fun k => md (ix2 (0 : Fin 3) k)) (fun k => md (ix2 (1 : Fin 3) k))
        (fun k => g (ix1 k))) (fun k o => w (ix2 k o)) (fun o n => wo (ix2 o n)) n := fun n => by
    rw [rDown_apply]
    unfold Cert.Ffn.down Cert.Ffn.act
    refine Finset.sum_congr rfl fun o _ => ?_
    rw [rAct_apply]
    simp only [rUp_apply, rHidden_apply]
  rw [rOut_apply]
  simp only [hd]
  rfl

theorem res_eq (m : (ℓ : Loc nD τ sig) → Buf (Elt Ideal) ℓ) (c : Dev nD) : res_main_v51 m c
    = layerOf (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) :=
  Eq.trans (by unfold res_main_v51 rOut rDown rAct rUp rHidden; rfl) (steps_eq _ _ _ _ _ _)

/-- The reference's program leaves its arguments as they are and every semaphore at zero. -/
theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0 :=
  (θ_run defs _ _).mono (fun r h => ⟨fun c => (h c).2, sem_eq_zero_of_no_sems (by decide) r.2⟩) (run m ρ)

end Cert.Reference4Ideal.Value

end
-- ==== Proof.Ffn.Fwd.lean ====
/- The forward pass of a feed-forward layer: the kernel's program and the reference's end with the same output. -/
module

public import proofs.«01_k».proof.Proof.Gen.Kernel4Ideal.Frame
public import proofs.«01_k».proof.Proof.Gen.Kernel4Ideal.Value
public import proofs.«01_k».proof.Proof.Ffn.FwdPoint
public import proofs.«01_k».proof.Proof.Ffn.FwdLayer
public import Idealize.ShloMosaic.Lib.Pipeline.Value
public import Idealize.ShloMosaic.Lib.Pointwise
public import Idealize.ShloMosaic.Lib.Claim
public import proofs.«01_k».proof.Defs
public import Idealize.ShloMosaic.Lib.Tactic

@[expose] public section

set_option maxRecDepth 16384

noncomputable section

namespace Cert.Kernel4Ideal.Value

open Cert.Kernel4Ideal Cert.Kernel4Ideal.Gen Idealize.ShloMosaic Idealize.ShloMosaic.TcCoe Idealize.SL.Sem
open Idealize.ShloMosaic.Pipeline (Dat)
open Cert.Reference4Ideal.Value (layerOf)

/-- What the body stores at one row of its block is the layer's row. -/
theorem blockOut_apply (x0 : Vec Ideal S512x1024 .f32) (x1 : Vec Ideal S8x1024 .f32) (w : Vec Ideal S4x1024x1408 .bf16)
    (wo : Vec Ideal S2816x1024 .bf16) (W : Fin 1024 → Fin 5632 → EReal) (Wo : Fin 2816 → Fin 1024 → EReal)
    (hw : ∀ (q : Fin 4) k (o : Fin 1408), w (ix3 q k o) = W k ⟨q.val * 1408 + o.val, by omega⟩)
    (hwo : ∀ o n, wo (ix2 o n) = Wo o n) (r : Fin 512) (n : Fin 1024) :
    blockOut x0 x1 w wo (ix2 r n) = Cert.Ffn.layerRow (fun k => x0 (ix2 r k)) (fun k => x1 (ix2 (0 : Fin 8) k)) (fun k => x1 (ix2 (1 : Fin 8) k))
      (fun k => x1 (ix2 (2 : Fin 8) k)) (fun k => x1 (ix2 (3 : Fin 8) k)) (fun k => x1 (ix2 (4 : Fin 8) k)) W Wo n := by
  unfold blockOut
  exact stored_apply x0 (vecRow x1 0) (vecRow x1 1) (vecRow x1 2) (vecRow x1 3) (vecRow x1 4) (slabAt w 0) (slabAt w 1) (slabAt w 2) (slabAt w 3)
    (halfAt wo 0) (halfAt wo 1) W Wo
    (fun k o => (hw 0 k o).trans (congrArg (W k) (Fin.ext (by show 0 * 1408 + o.val = o.val; omega))))
    (fun k o => (hw 1 k o).trans (congrArg (W k) (Fin.ext (by show 1 * 1408 + o.val = 1408 + o.val; omega))))
    (fun k o => (hw 2 k o).trans (congrArg (W k) (Fin.ext (by show 2 * 1408 + o.val = 2816 + o.val; omega))))
    (fun k o => (hw 3 k o).trans (congrArg (W k) (Fin.ext (by show 3 * 1408 + o.val = 2816 + (1408 + o.val); omega))))
    (fun o n => (hwo _ n).trans (congrArg (fun o => Wo o n) (Fin.ext (by show 0 * 1408 + o.val = o.val; omega))))
    (fun o n => (hwo _ n).trans (congrArg (fun o => Wo o n) (Fin.ext (by show 1 * 1408 + o.val = 1408 + o.val; omega)))) r n

/-- The eight vectors that the call is given. -/
def vecs (md : Vec Ideal S3x1024 .f32) (g gp : Vec Ideal S1024 .f32) : Vec Ideal S8x1024 .f32 :=
  concatenate S8x1024 0 [⟨S3x1024, md⟩, ⟨S1x1024, broadcastInDim S1x1024 ![1] bcast_S1024_S1x1024_1 g⟩,
    ⟨S1x1024, broadcastInDim S1x1024 ![1] bcast_S1024_S1x1024_1 gp⟩,
    ⟨S3x1024, broadcastInDim S3x1024 ![] bcast_S_S3x1024 (constant (F := Ideal) S_ .f32 0x00000000#32)⟩]
    concatenates_S3x1024_S1x1024_S1x1024_S3x1024_S8x1024_d0

theorem vecs_0 (md : Vec Ideal S3x1024 .f32) (g gp : Vec Ideal S1024 .f32) (k : Fin 1024) : vecs md g gp (ix2 (0 : Fin 8) k) = md (ix2 (0 : Fin 3) k) := by
  pointwise [vecs]
theorem vecs_1 (md : Vec Ideal S3x1024 .f32) (g gp : Vec Ideal S1024 .f32) (k : Fin 1024) : vecs md g gp (ix2 (1 : Fin 8) k) = md (ix2 (1 : Fin 3) k) := by
  pointwise [vecs]
theorem vecs_2 (md : Vec Ideal S3x1024 .f32) (g gp : Vec Ideal S1024 .f32) (k : Fin 1024) : vecs md g gp (ix2 (2 : Fin 8) k) = md (ix2 (2 : Fin 3) k) := by
  pointwise [vecs]
theorem vecs_3 (md : Vec Ideal S3x1024 .f32) (g gp : Vec Ideal S1024 .f32) (k : Fin 1024) : vecs md g gp (ix2 (3 : Fin 8) k) = g (ix1 k) := by
  pointwise [vecs]
theorem vecs_4 (md : Vec Ideal S3x1024 .f32) (g gp : Vec Ideal S1024 .f32) (k : Fin 1024) : vecs md g gp (ix2 (4 : Fin 8) k) = gp (ix1 k) := by
  pointwise [vecs]

/-- The first weight as the call is given it: rounded and cut into slabs of columns. -/
def slabW (w : Vec Ideal S1024x5632 .f32) : Vec Ideal S4x1024x1408 .bf16 :=
  transpose S4x1024x1408 [1, 0, 2] (shapeCast S1024x4x1408 (truncf (F := Ideal) .bf16 w bitsLt_bf16_f32)
    shapeCasts_S1024x5632_S1024x4x1408) transposes_S1024x4x1408_S4x1024x1408_1_0_2

theorem slabW_apply (w : Vec Ideal S1024x5632 .f32) (q : Fin 4) (k : Fin 1024) (o : Fin 1408) :
    slabW w (ix3 q k o) = w (ix2 k ⟨q.val * 1408 + o.val, by omega⟩) := by
  pointwise [slabW]

/-- The second weight as the call is given it: rounded and cut into slabs of rows. -/
def slabWo (wo : Vec Ideal S2816x1024 .f32) : Vec Ideal S4x704x1024 .bf16 :=
  shapeCast S4x704x1024 (truncf (F := Ideal) .bf16 wo bitsLt_bf16_f32) shapeCasts_S2816x1024_S4x704x1024

theorem slabWo_apply (wo : Vec Ideal S2816x1024 .f32) (q : Fin 4) (r : Fin 704) (n : Fin 1024) :
    slabWo wo (ix3 q r n) = wo (ix2 ⟨q.val * 704 + r.val, by omega⟩ n) := by
  pointwise [slabWo]

theorem stack_slabWo (wo : Vec Ideal S2816x1024 .f32) (o : Fin 2816) (n : Fin 1024) : stackOf (slabWo wo) (ix2 o n) = wo (ix2 o n) := by
  refine (slabWo_apply wo ⟨o.val / 704, by have := o.isLt; omega⟩ ⟨o.val % 704, Nat.mod_lt _ (by norm_num)⟩ n).trans ?_
  exact congrArg (fun o => wo (ix2 o n)) (Fin.ext (by show o.val / 704 * 704 + o.val % 704 = o.val; omega))

variable (m : (ℓ : Loc nD τ sig) → Buf (Elt Ideal) ℓ) (ρ : Dev nD → PrngReg)

theorem V_main_v3' (c : Dev nD) (md : Vec Ideal S3x1024 .f32) (g gp : Vec Ideal S1024 .f32) (h1 : m ((c : Thread nD τ).loc main_arg1) = md)
    (h2 : m ((c : Thread nD τ).loc main_arg2) = g) (h3 : m ((c : Thread nD τ).loc main_arg3) = gp) : V m c main_v3 = vecs md g gp := by
  subst h1 h2 h3
  show StableHlo.after hostOps0 (fun b => m (c, b)) (Proc.devRef .tc main_v3) = _
  after_results
  rfl

theorem V_main_v6' (c : Dev nD) (w : Vec Ideal S1024x5632 .f32) (h : m ((c : Thread nD τ).loc main_arg4) = w) : V m c main_v6 = slabW w := by
  subst h
  show StableHlo.after hostOps0 (fun b => m (c, b)) (Proc.devRef .tc main_v6) = _
  after_results
  rfl

theorem V_main_v8' (c : Dev nD) (wo : Vec Ideal S2816x1024 .f32) (h : m ((c : Thread nD τ).loc main_arg5) = wo) : V m c main_v8 = slabWo wo := by
  subst h
  show StableHlo.after hostOps0 (fun b => m (c, b)) (Proc.devRef .tc main_v8) = _
  after_results
  rfl

theorem V_main_arg0' (c : Dev nD) (x : Vec Ideal S2048x1024 .f32) (h : m ((c : Thread nD τ).loc main_arg0) = x) : V m c main_arg0 = x := by
  subst h
  show StableHlo.after hostOps0 (fun b => m (c, b)) (Proc.devRef .tc main_arg0) = _
  after_results

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)

/-- The row of the whole array that is row `r` of a grid point's block. -/
def rowOf (t : Fin cfg0.N) (r : Fin 512) : Fin 2048 :=
  ⟨t.val * 512 + r.val, by have h : t.val < 4 := lt_of_lt_of_eq t.isLt N_0; have := r.isLt; omega⟩

theorem emb0 (t : Fin cfg0.N) (j : S512x1024.Idx) : ((cfg0.win 0).blk t).view.emb j = ix2 (rowOf t (j 0)) (j 1) := by
  obtain ⟨e0, e1⟩ := idx0 t
  funext a; apply Fin.ext
  match a with
  | ⟨0, _⟩ => show win0_0.index t (0 : Fin 2) * 512 + 1 * (j 0).val = t.val * 512 + (j 0).val; omega
  | ⟨1, _⟩ => show win0_0.index t (1 : Fin 2) * 1024 + 1 * (j 1).val = (j 1).val; omega

theorem emb1 (t : Fin cfg0.N) (j : S8x1024.Idx) : ((cfg0.win 1).blk t).view.emb j = j := by
  obtain ⟨e0, e1⟩ := idx1 t
  funext a; apply Fin.ext
  match a with
  | ⟨0, _⟩ => show win0_1.index t (0 : Fin 2) * 8 + 1 * (j 0).val = (j 0).val; omega
  | ⟨1, _⟩ => show win0_1.index t (1 : Fin 2) * 1024 + 1 * (j 1).val = (j 1).val; omega

theorem emb2 (t : Fin cfg0.N) (j : S512x1024.Idx) : ((cfg0.win 2).blk t).view.emb j = ix2 (rowOf t (j 0)) (j 1) := by
  obtain ⟨e0, e1⟩ := idx2 t
  funext a; apply Fin.ext
  match a with
  | ⟨0, _⟩ => show win0_2.index t (0 : Fin 2) * 512 + 1 * (j 0).val = t.val * 512 + (j 0).val; omega
  | ⟨1, _⟩ => show win0_2.index t (1 : Fin 2) * 1024 + 1 * (j 1).val = (j 1).val; omega

/-- The first point leaves the first weight in the first scratch. -/
theorem scratchA_0 (c : Dev nD) (t : Fin cfg0.N) (h0 : t.val % 4 = 0) : (outsAt0 m c t.val t.isLt).2.2.2.2.1 = V m c main_v6 := by
  simp only [outsAt0_A m c t h0]
  exact sout_A_0 c (grid0.coords t) (ms0_0 t) (hs0_0 t) (ms0_1 t) (hs0_1 t) (ms0_2 t) (hs0_2 t) (ms0_3 t) (hs0_3 t) (ms0_4 t) (hs0_4 t) (ms0_5 t) (hs0_5 t)
    scM0_0 (Memref.isWhole_whole _) scM0_1 (Memref.isWhole_whole _)
    (iblk m c 0 t) (iblk m c 1 t) (V m c main_v6) (V m c main_v8) ((hcond0_0 t).mpr h0)

/-- The first point leaves the second weight in the second scratch. -/
theorem scratchA_1 (c : Dev nD) (t : Fin cfg0.N) (h0 : t.val % 4 = 0) :
    (outsAt0 m c t.val t.isLt).2.2.2.2.2 = stackOf (V m c main_v8) := by
  simp only [outsAt0_A m c t h0]
  exact sout_A_1 c (grid0.coords t) (ms0_0 t) (hs0_0 t) (ms0_1 t) (hs0_1 t) (ms0_2 t) (hs0_2 t) (ms0_3 t) (hs0_3 t) (ms0_4 t) (hs0_4 t) (ms0_5 t) (hs0_5 t)
    scM0_0 (Memref.isWhole_whole _) scM0_1 (Memref.isWhole_whole _)
    (iblk m c 0 t) (iblk m c 1 t) (V m c main_v6) (V m c main_v8) ((hcond0_0 t).mpr h0)

/-- The other points leave both as they find them. -/
theorem scratchB_0 (c : Dev nD) (t : Fin cfg0.N) (h0 : ¬ t.val % 4 = 0) : (outsAt0 m c t.val t.isLt).2.2.2.2.1
    = (outsAt0 m c (t.val - 1) (Nat.lt_of_le_of_lt (Nat.sub_le _ _) t.isLt)).2.2.2.2.1 := by
  simp only [outsAt0_B m c t h0]
  unfold sout0_B_0
  rfl

theorem scratchB_1 (c : Dev nD) (t : Fin cfg0.N) (h0 : ¬ t.val % 4 = 0) : (outsAt0 m c t.val t.isLt).2.2.2.2.2
    = (outsAt0 m c (t.val - 1) (Nat.lt_of_le_of_lt (Nat.sub_le _ _) t.isLt)).2.2.2.2.2 := by
  simp only [outsAt0_B m c t h0]
  unfold sout0_B_1
  rfl

/-- So every point leaves the two weights in the two scratch buffers. -/
theorem scratch (c : Dev nD) : ∀ (n : ℕ) (hn : n < cfg0.N),
    (outsAt0 m c n hn).2.2.2.2.1 = V m c main_v6 ∧ (outsAt0 m c n hn).2.2.2.2.2 = stackOf (V m c main_v8)
  | 0, hn => ⟨scratchA_0 m c ⟨0, hn⟩ rfl, scratchA_1 m c ⟨0, hn⟩ rfl⟩
  | n + 1, hn =>
    have h4 : n + 1 < 4 := lt_of_lt_of_eq hn N_0
    have h0 : ¬ (n + 1) % 4 = 0 := by omega
    have hp := scratch c n (Nat.lt_of_succ_lt hn)
    ⟨(scratchB_0 m c ⟨n + 1, hn⟩ h0).trans hp.1, (scratchB_1 m c ⟨n + 1, hn⟩ h0).trans hp.2⟩

/-- What the first point leaves in its block of the output. -/
theorem storedA (c : Dev nD) (t : Fin cfg0.N) (h0 : t.val % 4 = 0) :
    (outsAt0 m c t.val t.isLt).1 = blockOut (iblk m c 0 t) (iblk m c 1 t) (V m c main_v6) (stackOf (V m c main_v8)) := by
  simp only [outsAt0_A m c t h0]
  refine (out_A c (grid0.coords t) (ms0_0 t) (hs0_0 t) (ms0_1 t) (hs0_1 t) (ms0_2 t) (hs0_2 t) (ms0_3 t) (hs0_3 t) (ms0_4 t) (hs0_4 t) (ms0_5 t) (hs0_5 t)
    scM0_0 (Memref.isWhole_whole _) scM0_1 (Memref.isWhole_whole _)
    (iblk m c 0 t) (iblk m c 1 t) (V m c main_v6) (V m c main_v8) ((hcond0_0 t).mpr h0)).trans ?_
  exact congrArg₂ (blockOut (iblk m c 0 t) (iblk m c 1 t))
    (canonA_0 c (grid0.coords t) (ms0_0 t) (hs0_0 t) (ms0_1 t) (hs0_1 t) (ms0_2 t) (hs0_2 t) (ms0_3 t) (hs0_3 t) (ms0_4 t) (hs0_4 t) (ms0_5 t) (hs0_5 t)
    scM0_0 (Memref.isWhole_whole _) scM0_1 (Memref.isWhole_whole _)
      (iblk m c 0 t) (iblk m c 1 t) (V m c main_v6) (V m c main_v8) ((hcond0_0 t).mpr h0))
    (canonA_1 c (grid0.coords t) (ms0_0 t) (hs0_0 t) (ms0_1 t) (hs0_1 t) (ms0_2 t) (hs0_2 t) (ms0_3 t) (hs0_3 t) (ms0_4 t) (hs0_4 t) (ms0_5 t) (hs0_5 t)
    scM0_0 (Memref.isWhole_whole _) scM0_1 (Memref.isWhole_whole _)
      (iblk m c 0 t) (iblk m c 1 t) (V m c main_v6) (V m c main_v8) ((hcond0_0 t).mpr h0))

/-- What the others leave in theirs. -/
theorem storedB (c : Dev nD) (t : Fin cfg0.N) (h0 : ¬ t.val % 4 = 0) :
    (outsAt0 m c t.val t.isLt).1 = blockOut (iblk m c 0 t) (iblk m c 1 t) (V m c main_v6) (stackOf (V m c main_v8)) := by
  have hp := scratch m c (t.val - 1) (Nat.lt_of_le_of_lt (Nat.sub_le _ _) t.isLt)
  simp only [outsAt0_B m c t h0]
  refine (out_B c (grid0.coords t) (ms0_0 t) (hs0_0 t) (ms0_1 t) (hs0_1 t) (ms0_2 t) (hs0_2 t) (ms0_3 t) (hs0_3 t) (ms0_4 t) (hs0_4 t) (ms0_5 t) (hs0_5 t)
    scM0_0 (Memref.isWhole_whole _) scM0_1 (Memref.isWhole_whole _)
    (iblk m c 0 t) (iblk m c 1 t) (V m c main_v6) (V m c main_v8) (fun h => h0 ((hcond0_0 t).mp h)) _ _).trans ?_
  exact congrArg₂ (blockOut (iblk m c 0 t) (iblk m c 1 t)) hp.1 hp.2

/-- What a grid point leaves in its block of the output. -/
theorem stored (c : Dev nD) (t : Fin cfg0.N) :
    (outsAt0 m c t.val t.isLt).1 = blockOut (iblk m c 0 t) (iblk m c 1 t) (V m c main_v6) (stackOf (V m c main_v8)) :=
  if h0 : t.val % 4 = 0 then storedA m c t h0 else storedB m c t h0

/-- The layer of the program's arguments. -/
def layerAt (c : Dev nD) : Vec Ideal S2048x1024 .f32 :=
  layerOf (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

/-- One block of the layer, from the arrays that the call is given. -/
theorem block_of (x : Vec Ideal S2048x1024 .f32) (md : Vec Ideal S3x1024 .f32) (g gp : Vec Ideal S1024 .f32) (w : Vec Ideal S1024x5632 .f32)
    (wo : Vec Ideal S2816x1024 .f32) (t : Fin cfg0.N) (x0 : Vec Ideal S512x1024 .f32) (x1 : Vec Ideal S8x1024 .f32)
    (h0 : ∀ r k, x0 (ix2 r k) = x (ix2 (rowOf t r) k)) (h1 : ∀ j, x1 j = vecs md g gp j) (r : Fin 512) (n : Fin 1024) :
    blockOut x0 x1 (slabW w) (stackOf (slabWo wo)) (ix2 r n) = layerOf x md g gp w wo (ix2 (rowOf t r) n) := by
  rw [blockOut_apply x0 x1 (slabW w) (stackOf (slabWo wo)) (fun k o => w (ix2 k o)) (fun o n => wo (ix2 o n)) (slabW_apply w) (stack_slabWo wo) r n]
  simp only [h0, h1, vecs_0, vecs_1, vecs_2, vecs_3, vecs_4]
  rfl

/-- What a grid point writes back is its block of the layer's output. -/
theorem flushed_eq (c : Dev nD) (t : Fin cfg0.N) :
    (dats m 0 c).flushed 2 t = ((cfg0.win 2).blk t).view.read (Elt Ideal) (layerAt m c) := by
  rw [flushed2, stored, V_main_v6' m c _ rfl, V_main_v8' m c _ rfl]
  funext j
  show blockOut (iblk m c 0 t) (iblk m c 1 t) _ _ j = layerAt m c (((cfg0.win 2).blk t).view.emb j)
  rw [emb2]
  have h := block_of (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) t
    (iblk m c 0 t) (iblk m c 1 t)
    (fun r k => (congrArg (V m c main_arg0) (emb0 t (ix2 r k))).trans (congrFun (V_main_arg0' m c _ rfl) _))
    (fun j => (congrArg (V m c main_v3) (emb1 t j)).trans (congrFun (V_main_v3' m c _ _ _ rfl rfl rfl) j)) (j 0) (j 1)
  have e : (ix2 (j 0) (j 1) : S512x1024.Idx) = j := by
    funext a; match a with | ⟨0, _⟩ => rfl | ⟨1, _⟩ => rfl
  rw [e] at h
  exact h

/-- Every element of the output is in one of the four blocks. -/
theorem cover (i : S2048x1024.Idx) : ∃ t : Fin cfg0.N, (cfg0.win 2).flush t = true ∧ i ∈ ((cfg0.win 2).blk t).view.set := by
  have h0 : (i 0).val < 2048 := (i 0).isLt
  have ht : (i 0).val / 512 < cfg0.N := lt_of_lt_of_eq (by omega) N_0.symm
  refine ⟨⟨(i 0).val / 512, ht⟩, flush0_2 _, ?_⟩
  have h := ((cfg0.win 2).blk (⟨(i 0).val / 512, ht⟩ : Fin cfg0.N)).view.emb_mem_set
    (ix2 (⟨(i 0).val % 512, Nat.mod_lt _ (by norm_num)⟩ : Fin 512) (i 1))
  rw [emb2] at h
  have e : (ix2 (rowOf ⟨(i 0).val / 512, ht⟩ (⟨(i 0).val % 512, Nat.mod_lt _ (by norm_num)⟩ : Fin 512)) (i 1) : S2048x1024.Idx) = i := by
    funext a
    match a with
    | ⟨0, _⟩ => exact Fin.ext (by show (i 0).val / 512 * 512 + (i 0).val % 512 = (i 0).val; omega)
    | ⟨1, _⟩ => rfl
  have h' : (ix2 (rowOf ⟨(i 0).val / 512, ht⟩ (⟨(i 0).val % 512, Nat.mod_lt _ (by norm_num)⟩ : Fin 512)) (i 1) : S2048x1024.Idx)
      ∈ ((cfg0.win 2).blk (⟨(i 0).val / 512, ht⟩ : Fin cfg0.N)).view.set := h
  rwa [e] at h'

theorem final (c : Dev nD) : (dats m 0 c).arrAt 2 cfg0.N = layerAt m c :=
  (dats m 0 c).arrAt_eq_of_cover 2 _ (fun t _ => flushed_eq m c t) cover

/-- The run of the kernel's program: its result is the layer of its arguments, which stay as they are. -/
theorem run : θ_run defs (onTc (τ := τ) (main (F := Ideal))) ⟨m, fun _ => 0, ρ⟩ fun r => ∀ c : Dev nD,
      r.2.mem ((c.tc : Thread nD τ).loc main_v9_0) = layerAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1.trans (final m c), (h c).2.2.2.2⟩) (run_blocks m ρ)

end Cert.Kernel4Ideal.Value

namespace Cert.Ffn

open Idealize.ShloMosaic Idealize.ShloMosaic.TcCoe Idealize.SL.Sem

/-- The kernel's program and the reference's end with the same output of the layer. -/
theorem algebraic_forward : Cert.algebraic_Kernel4Ideal_Reference4Ideal := fun m g m' g' _ hargs =>
  ⟨fun c => Cert.Kernel4Ideal.Value.layerAt m c, Cert.Kernel4Ideal.Value.run m g,
    (θ_run _ _ _).mono (fun r h c => ⟨(h c).1.trans ((Cert.Reference4Ideal.Value.res_eq m' c).trans (by
        obtain ⟨h0, h1, h2, h3, h4, h5⟩ := hargs c
        unfold Cert.Kernel4Ideal.Value.layerAt
        rw [h0, h1, h2, h3, h4, h5])), (h c).2⟩)
      (Cert.Reference4Ideal.Value.run m' g')⟩

end Cert.Ffn

end
-- ==== Proof.Ffn.BwdRows.lean ====
/- The backward pass of a feed-forward layer, one row at a time: what the kernel's steps and the reference's make of a row,
   and that the two are the same for real numbers. -/
module

public import proofs.«01_k».proof.Proof.Ends.Finite
public import proofs.«01_k».proof.Proof.Ffn.FwdRows
public import Idealize.ShloMosaic.Lib.Pointwise
public import Idealize.ShloMosaic.Lib.Tactic

@[expose] public section

set_option maxRecDepth 16384

noncomputable section

namespace Cert.Ffn

open Idealize.ShloMosaic Idealize.ShloMosaic.TcCoe Idealize.SL.Sem
open Cert.KernelIdeal.Value (IsReal isReal_add isReal_mul isReal_sub isReal_div isReal_exp isReal_one)

/-- The word of 1024. -/
theorem word_1024 : Ideal.ofBits FTy.f32 1149239296#32 = ((1024 : ℝ) : EReal) := by
  simp [Ideal.ofBits, Ideal.ieee, -EReal.coe_mul]; norm_num

/-- The word of a half. -/
theorem word_half : Ideal.ofBits FTy.f32 1056964608#32 = (((1 : ℝ) / 2 : ℝ) : EReal) := by
  simp [Ideal.ofBits, Ideal.ieee, -EReal.coe_mul]; norm_num

/-- The word of minus a half. -/
theorem word_neg_half : Ideal.ofBits FTy.f32 3204448256#32 = ((-((1 : ℝ) / 2) : ℝ) : EReal) := by
  simp [Ideal.ofBits, Ideal.ieee, -EReal.coe_mul, -EReal.coe_neg]; norm_num

/-- The word of a millionth denotes a positive real number. -/
theorem word_eps : ∃ e : ℝ, 0 < e ∧ Ideal.ofBits FTy.f32 897988541#32 = (e : EReal) := by
  refine ⟨8796093 * 2 ^ (-43 : ℤ), by positivity, ?_⟩
  simp [Ideal.ofBits, Ideal.ieee, -EReal.coe_mul]

theorem isReal_sum {ι : Type} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact isReal_add (h a (Finset.mem_insert_self _ _)) (ih fun i hi => h i (Finset.mem_insert_of_mem hi))

theorem coe_sum' {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A row's mean square with its millionth, and the one-over-root of it. -/
def meanSq (y : Fin 1024 → EReal) : EReal := Ideal.div (∑ k, y k * y k) (Ideal.ofBits FTy.f32 1149239296#32) + Ideal.ofBits FTy.f32 897988541#32

/-- The gradient through a norm as the kernel writes it: `t` is the cotangent of the normed row. -/
def normBack (y t : Fin 1024 → EReal) (n : Fin 1024) : EReal :=
  inv y * (t n - y n * inv y * Ideal.div (∑ k, t k * (y k * inv y)) (Ideal.ofBits FTy.f32 1149239296#32))

/-- The factor by which the mean square's cotangent comes back, as the reference writes it. -/
def meanBack (y t : Fin 1024 → EReal) : EReal :=
  Ideal.div ((∑ k, y k * t k) * (Ideal.ofBits FTy.f32 3204448256#32 * Ideal.div (inv y) (meanSq y))) (Ideal.ofBits FTy.f32 1149239296#32)

/-- The gradient through a norm as the reference writes it. -/
def normBackRef (y t : Fin 1024 → EReal) (n : Fin 1024) : EReal := t n * inv y + y n * meanBack y t + meanBack y t * y n

theorem div_1024 (x : ℝ) : Ideal.div (x : EReal) ((1024 : ℝ) : EReal) = ((x / 1024 : ℝ) : EReal) := by
  rw [Ideal.div_coe (by norm_num), ← EReal.coe_mul]
  congr 1
  ring

/-- Both are the same real number where the rows are real. -/
theorem normBack_real (y t : Fin 1024 → EReal) (hy : ∀ k, IsReal (y k)) (ht : ∀ k, IsReal (t k)) (n : Fin 1024) :
    IsReal (normBack y t n) ∧ normBackRef y t n = normBack y t n := by
  choose yr hyr using hy
  choose tr htr using ht
  obtain ⟨e, he, hw⟩ := word_eps
  have hv : meanSq y = (((∑ k, yr k * yr k) / 1024 + e : ℝ) : EReal) := by
    unfold meanSq
    simp only [hyr, ← EReal.coe_mul, coe_sum', word_1024, hw, div_1024, ← EReal.coe_add]
  have hpos : 0 < (∑ k, yr k * yr k) / 1024 + e :=
    add_pos_of_nonneg_of_pos (div_nonneg (Finset.sum_nonneg fun k _ => mul_self_nonneg _) (by norm_num)) he
  generalize hV : (∑ k, yr k * yr k) / 1024 + e = V at hv hpos
  have hi : inv y = (((Real.sqrt V)⁻¹ : ℝ) : EReal) := by
    show Ideal.rsqrt (meanSq y) = _
    rw [hv, Ideal.rsqrt_coe, if_neg (not_lt.2 hpos.le), if_neg hpos.ne']
  have hs : (Real.sqrt V)⁻¹ * (Real.sqrt V)⁻¹ = V⁻¹ := by
    rw [← mul_inv, Real.mul_self_sqrt hpos.le]
  generalize hr : (Real.sqrt V)⁻¹ = r at hi hs
  have hk : normBack y t n = ((r * (tr n - yr n * r * ((∑ k, tr k * (yr k * r)) / 1024)) : ℝ) : EReal) := by
    unfold normBack
    simp only [hi, hyr, htr, ← EReal.coe_mul, coe_sum', word_1024, div_1024, ← EReal.coe_sub]
  have hm : meanBack y t = (((∑ k, yr k * tr k) * (-((1 : ℝ) / 2) * (r * (1 / V))) / 1024 : ℝ) : EReal) := by
    unfold meanBack
    rw [hv, hi, Ideal.div_coe hpos.ne']
    simp only [hyr, htr, ← EReal.coe_mul, coe_sum', word_1024, word_neg_half, div_1024]
  refine ⟨⟨_, hk⟩, ?_⟩
  rw [hk]
  unfold normBackRef
  rw [hm, hi, hyr, htr]
  simp only [← EReal.coe_mul, ← EReal.coe_add]
  congr 1
  have h1 : ∑ k, tr k * (yr k * r) = (∑ k, yr k * tr k) * r := by
    rw [Finset.sum_mul]
    exact Finset.sum_congr rfl fun k _ => by ring
  rw [h1, one_div V, ← hs]
  ring

/-- The two halves' cotangents as the kernel writes them. -/
def sig (a : EReal) : EReal := Ideal.div 1 (1 + Ideal.exp (-a))
def dFirst (a b d : EReal) : EReal := d * b * (sig a * (1 + a * (1 - sig a)))
def dSecond (a d : EReal) : EReal := d * (a * sig a)

theorem isReal_neg {x : EReal} (hx : IsReal x) : IsReal (-x) := by
  obtain ⟨a, rfl⟩ := hx
  exact ⟨-a, (EReal.coe_neg a).symm⟩

theorem isReal_sig {a : EReal} (ha : IsReal a) : IsReal (sig a) := by
  obtain ⟨r, rfl⟩ := ha
  refine isReal_div isReal_one (isReal_add isReal_one (isReal_exp (isReal_neg ⟨r, rfl⟩))) ?_
  rw [← EReal.coe_neg, Ideal.exp_coe, ← EReal.coe_one, ← EReal.coe_add]
  exact EReal.coe_pos.2 (by positivity)

theorem dFirst_real {a b d : EReal} (ha : IsReal a) (hb : IsReal b) (hd : IsReal d) : IsReal (dFirst a b d)
    ∧ d * b * sig a + a * (d * b) * (sig a * (1 - sig a)) = dFirst a b d := by
  have hs := isReal_sig ha
  unfold dFirst
  generalize sig a = s at hs
  obtain ⟨a, rfl⟩ := ha
  obtain ⟨b, rfl⟩ := hb
  obtain ⟨d, rfl⟩ := hd
  obtain ⟨s, rfl⟩ := hs
  rw [← EReal.coe_one]
  simp only [← EReal.coe_mul, ← EReal.coe_add, ← EReal.coe_sub]
  refine ⟨⟨_, rfl⟩, ?_⟩
  congr 1
  ring

theorem dSecond_real {a d : EReal} (ha : IsReal a) (hd : IsReal d) : IsReal (dSecond a d) := isReal_mul hd (isReal_mul ha (isReal_sig ha))

/-- The cotangent of the second product's result, by the two spellings of its factors. -/
def postCt (dout gate gp : Fin 1024 → EReal) (k : Fin 1024) : EReal := dout k * (Ideal.ofBits FTy.f32 1056964608#32 * gate k) * gp k

/-- The cotangent of the gated activations. -/
def dAct (df : Fin 1024 → EReal) (wo : Fin 2816 → Fin 1024 → EReal) (o : Fin 2816) : EReal := ∑ k, df k * wo o k

/-- The cotangent of the first product's result. -/
def dUp (u : Fin 5632 → EReal) (da : Fin 2816 → EReal) (o : Fin 5632) : EReal :=
  if h : o.val < 2816 then dFirst (u o) (u ⟨2816 + o.val, by omega⟩) (da ⟨o.val, h⟩)
  else dSecond (u ⟨o.val - 2816, by omega⟩) (da ⟨o.val - 2816, by omega⟩)

/-- The cotangent of the normed, scaled and shifted row. -/
def dHidden (du : Fin 5632 → EReal) (w : Fin 1024 → Fin 5632 → EReal) (k : Fin 1024) : EReal := ∑ o, du o * w k o

/-- The gradient of one row of the layer's input. -/
def backRow (dout x f scale gate g gp : Fin 1024 → EReal) (u : Fin 5632 → EReal) (w : Fin 1024 → Fin 5632 → EReal)
    (wo : Fin 2816 → Fin 1024 → EReal) (n : Fin 1024) : EReal :=
  dout n + normBack x (fun k => dHidden (dUp u (dAct (normBack f (postCt dout gate gp)) wo)) w k * (g k * (1 + scale k))) n

/-- The sum over the first product's columns, in the four parts in which the kernel takes it. -/
theorem dHidden_parts (du : Fin 5632 → EReal) (w : Fin 1024 → Fin 5632 → EReal) (k : Fin 1024) :
    dHidden du w k = (∑ o : Fin 1408, du ⟨o.val, by omega⟩ * w k ⟨o.val, by omega⟩)
      + (∑ o : Fin 1408, du ⟨2816 + o.val, by omega⟩ * w k ⟨2816 + o.val, by omega⟩)
      + (∑ o : Fin 1408, du ⟨1408 + o.val, by omega⟩ * w k ⟨1408 + o.val, by omega⟩)
      + (∑ o : Fin 1408, du ⟨2816 + (1408 + o.val), by omega⟩ * w k ⟨2816 + (1408 + o.val), by omega⟩) := by
  have h0 := Fin.sum_univ_add (a := 2816) (b := 2816) fun o : Fin 5632 => du o * w k o
  have h1 := Fin.sum_univ_add (a := 1408) (b := 1408) fun o : Fin 2816 => du ⟨o.val, by omega⟩ * w k ⟨o.val, by omega⟩
  have h2 := Fin.sum_univ_add (a := 1408) (b := 1408) fun o : Fin 2816 => du ⟨2816 + o.val, by omega⟩ * w k ⟨2816 + o.val, by omega⟩
  refine h0.trans ((congrArg₂ (fun a b : EReal => a + b) h1 h2).trans ?_)
  exact (add_add_add_comm _ _ _ _).trans (add_assoc _ _ _).symm

end Cert.Ffn

end
-- ==== Proof.Ffn.BwdPays.lean ====
/- What the backward call's body computes of the values that it loads, one row at a time. -/
module

public import proofs.«01_k».proof.Proof.Gen.Kernel5Ideal.Skeleton
public import proofs.«01_k».proof.Proof.Ffn.BwdRows
public import Idealize.ShloMosaic.Lib.Pointwise
public import Idealize.ShloMosaic.Lib.Tactic

@[expose] public section

set_option maxRecDepth 16384

noncomputable section

namespace Cert.Kernel5Ideal.Value

open Cert.Kernel5Ideal Cert.Kernel5Ideal.Gen Idealize.ShloMosaic Idealize.ShloMosaic.TcCoe Idealize.SL.Sem

/-- The cotangent of the second product's result. -/
def storedDf (d f : Vec Ideal S256x1024 .f32) (gp gate : Vec Ideal S1x1024 .f32) : Vec Ideal S256x1024 .bf16 :=
  k0_pay15 (k0_pay7 f) (k0_pay8 f) (k0_pay12 d gp gate) (k0_pay13 d f gp gate) k0_pay14

/-- What the body stores for the input's gradient, from what it loads. -/
def storedDx (d x f : Vec Ideal S256x1024 .f32) (u0 u1 u2 u3 : Vec Ideal S1x256x1408 .bf16) (sc gate g gp : Vec Ideal S1x1024 .f32)
    (w0 w1 w2 w3 : Vec Ideal S1x1024x1408 .bf16) (wo0 wo1 : Vec Ideal S1408x1024 .bf16) : Vec Ideal S256x1024 .f32 :=
  k0_pay49 d
    (k0_pay39
      (k0_pay27 k0_pay16
        (k0_pay22 (k0_pay7 f) (k0_pay8 f) (k0_pay12 d gp gate) (k0_pay13 d f gp gate) k0_pay14 u0 u2 wo0)
        (k0_pay23 (k0_pay7 f) (k0_pay8 f) (k0_pay12 d gp gate) (k0_pay13 d f gp gate) k0_pay14 u0 wo0) w0 w2)
      (k0_pay28 u1) (k0_pay30 u1) (k0_pay31 u1)
      (k0_pay32 (k0_pay15 (k0_pay7 f) (k0_pay8 f) (k0_pay12 d gp gate) (k0_pay13 d f gp gate) k0_pay14) wo1)
      (k0_pay33 (k0_pay15 (k0_pay7 f) (k0_pay8 f) (k0_pay12 d gp gate) (k0_pay13 d f gp gate) k0_pay14) u3 wo1)
      (Scalar.ofBits .f32 0x3F800000#32) w1 w3)
    x (k0_pay40 g) (k0_pay41 sc) k0_pay42

theorem df_apply (d f : Vec Ideal S256x1024 .f32) (gp gate : Vec Ideal S1x1024 .f32) (r : Fin 256) (n : Fin 1024) :
    storedDf d f gp gate (ix2 r n) = Cert.Ffn.normBack (fun k => f (ix2 r k))
      (Cert.Ffn.postCt (fun k => d (ix2 r k)) (fun k => gate (ix2 (0 : Fin 1) k)) (fun k => gp (ix2 (0 : Fin 1) k))) n := by
  unfold Cert.Ffn.normBack Cert.Ffn.postCt Cert.Ffn.inv
  pointwise [storedDf, k0_pay15, k0_pay14, k0_pay13, k0_pay12, k0_pay10, k0_pay8, k0_pay7, k0_pay6]

theorem first_apply (d f : Vec Ideal S256x1024 .f32) (gp gate : Vec Ideal S1x1024 .f32) (u0 u2 : Vec Ideal S1x256x1408 .bf16)
    (wo : Vec Ideal S1408x1024 .bf16) (r : Fin 256) (o : Fin 1408) :
    k0_pay22 (k0_pay7 f) (k0_pay8 f) (k0_pay12 d gp gate) (k0_pay13 d f gp gate) k0_pay14 u0 u2 wo (ix2 r o)
      = Cert.Ffn.dFirst (u0 (ix3 (0 : Fin 1) r o)) (u2 (ix3 (0 : Fin 1) r o)) (∑ k : Fin 1024, storedDf d f gp gate (ix2 r k) * wo (ix2 o k)) := by
  unfold Cert.Ffn.dFirst Cert.Ffn.sig k0_pay22 k0_pay21
  simp only [← zero_sub (u0 (ix3 (0 : Fin 1) r o))]
  generalize hh : storedDf d f gp gate = z
  unfold storedDf at hh
  rw [hh]
  pointwise [k0_pay19, k0_pay18, k0_pay17]

theorem second_apply (d f : Vec Ideal S256x1024 .f32) (gp gate : Vec Ideal S1x1024 .f32) (u0 : Vec Ideal S1x256x1408 .bf16)
    (wo : Vec Ideal S1408x1024 .bf16) (r : Fin 256) (o : Fin 1408) :
    k0_pay23 (k0_pay7 f) (k0_pay8 f) (k0_pay12 d gp gate) (k0_pay13 d f gp gate) k0_pay14 u0 wo (ix2 r o)
      = Cert.Ffn.dSecond (u0 (ix3 (0 : Fin 1) r o)) (∑ k : Fin 1024, storedDf d f gp gate (ix2 r k) * wo (ix2 o k)) := by
  unfold Cert.Ffn.dSecond Cert.Ffn.sig k0_pay23 k0_pay21
  simp only [← zero_sub (u0 (ix3 (0 : Fin 1) r o))]
  generalize hh : storedDf d f gp gate = z
  unfold storedDf at hh
  rw [hh]
  pointwise [k0_pay20, k0_pay19, k0_pay17]

theorem first'_apply (z : Vec Ideal S256x1024 .bf16) (u1 u3 : Vec Ideal S1x256x1408 .bf16)
    (wo : Vec Ideal S1408x1024 .bf16) (r : Fin 256) (o : Fin 1408) :
    k0_pay34 (k0_pay28 u1) (k0_pay30 u1) (k0_pay33 z u3 wo) (Scalar.ofBits (F := Ideal) .f32 0x3F800000#32) (ix2 r o)
      = Cert.Ffn.dFirst (u1 (ix3 (0 : Fin 1) r o)) (u3 (ix3 (0 : Fin 1) r o)) (∑ k : Fin 1024, z (ix2 r k) * wo (ix2 o k)) := by
  unfold Cert.Ffn.dFirst Cert.Ffn.sig
  simp only [← zero_sub (u1 (ix3 (0 : Fin 1) r o))]
  pointwise [k0_pay34, k0_pay33, k0_pay32, k0_pay30, k0_pay29, k0_pay28]

theorem second'_apply (z : Vec Ideal S256x1024 .bf16) (u1 : Vec Ideal S1x256x1408 .bf16)
    (wo : Vec Ideal S1408x1024 .bf16) (r : Fin 256) (o : Fin 1408) :
    k0_pay35 (k0_pay31 u1) (k0_pay32 z wo) (ix2 r o)
      = Cert.Ffn.dSecond (u1 (ix3 (0 : Fin 1) r o)) (∑ k : Fin 1024, z (ix2 r k) * wo (ix2 o k)) := by
  unfold Cert.Ffn.dSecond Cert.Ffn.sig
  simp only [← zero_sub (u1 (ix3 (0 : Fin 1) r o))]
  pointwise [k0_pay35, k0_pay32, k0_pay31, k0_pay30, k0_pay28]

theorem zero_apply (r : Fin 256) (n : Fin 1024) : (k0_pay16 : FVec Ideal S256x1024 .f32) (ix2 r n) = 0 := by
  pointwise [k0_pay16]

theorem half_apply (v : Vec Ideal S256x1024 .f32) (a b : Vec Ideal S256x1408 .bf16) (w0 w2 : Vec Ideal S1x1024x1408 .bf16) (r : Fin 256)
    (k : Fin 1024) : k0_pay27 v a b w0 w2 (ix2 r k)
      = v (ix2 r k) + (∑ o : Fin 1408, a (ix2 r o) * w0 (ix3 (0 : Fin 1) k o)) + ∑ o : Fin 1408, b (ix2 r o) * w2 (ix3 (0 : Fin 1) k o) := by
  pointwise [k0_pay27]

theorem half'_apply (v : Vec Ideal S256x1024 .f32) (a s p l m : Vec Ideal S256x1408 .f32) (c : Ideal .f32) (w1 w3 : Vec Ideal S1x1024x1408 .bf16)
    (r : Fin 256) (k : Fin 1024) : k0_pay39 v a s p l m c w1 w3 (ix2 r k)
      = v (ix2 r k) + (∑ o : Fin 1408, k0_pay34 (F := Ideal) a s m c (ix2 r o) * w1 (ix3 (0 : Fin 1) k o))
        + ∑ o : Fin 1408, k0_pay35 (F := Ideal) p l (ix2 r o) * w3 (ix3 (0 : Fin 1) k o) := by
  generalize hA : k0_pay34 (F := Ideal) a s m c = A
  generalize hB : k0_pay35 (F := Ideal) p l = B
  pointwise [k0_pay39, hA, hB]

theorem dx_apply (d x h : Vec Ideal S256x1024 .f32) (g sc : Vec Ideal S1x1024 .f32) (r : Fin 256) (n : Fin 1024) :
    k0_pay49 d h x (k0_pay40 g) (k0_pay41 sc) k0_pay42 (ix2 r n)
      = d (ix2 r n) + Cert.Ffn.normBack (fun k => x (ix2 r k))
          (fun k => h (ix2 r k) * (g (ix2 (0 : Fin 1) k) * (1 + sc (ix2 (0 : Fin 1) k)))) n := by
  unfold Cert.Ffn.normBack Cert.Ffn.inv
  pointwise [k0_pay49, k0_pay45, k0_pay44, k0_pay43, k0_pay42, k0_pay41, k0_pay40]

/-- The two halves of the first product's cotangent, by column. -/
theorem dUp_lo (u : Fin 5632 → EReal) (da : Fin 2816 → EReal) (o : Fin 2816) :
    Cert.Ffn.dUp u da ⟨o.val, by omega⟩ = Cert.Ffn.dFirst (u ⟨o.val, by omega⟩) (u ⟨2816 + o.val, by omega⟩) (da o) := by
  unfold Cert.Ffn.dUp
  rw [dif_pos o.isLt]

theorem dUp_hi (u : Fin 5632 → EReal) (da : Fin 2816 → EReal) (o : Fin 2816) :
    Cert.Ffn.dUp u da ⟨2816 + o.val, by omega⟩ = Cert.Ffn.dSecond (u ⟨o.val, by omega⟩) (da o) := by
  unfold Cert.Ffn.dUp
  rw [dif_neg (by show ¬ 2816 + o.val < 2816; omega)]
  have e : 2816 + o.val - 2816 = o.val := by omega
  simp only [e]

/-- What the body stores is the gradient of each row. -/
theorem stored_apply (d x f : Vec Ideal S256x1024 .f32) (u0 u1 u2 u3 : Vec Ideal S1x256x1408 .bf16) (sc gate g gp : Vec Ideal S1x1024 .f32)
    (w0 w1 w2 w3 : Vec Ideal S1x1024x1408 .bf16) (wo0 wo1 : Vec Ideal S1408x1024 .bf16) (r : Fin 256)
    (u : Fin 5632 → EReal) (w : Fin 1024 → Fin 5632 → EReal) (wo : Fin 2816 → Fin 1024 → EReal)
    (hu0 : ∀ o : Fin 1408, u0 (ix3 (0 : Fin 1) r o) = u ⟨o.val, by omega⟩)
    (hu1 : ∀ o : Fin 1408, u1 (ix3 (0 : Fin 1) r o) = u ⟨1408 + o.val, by omega⟩)
    (hu2 : ∀ o : Fin 1408, u2 (ix3 (0 : Fin 1) r o) = u ⟨2816 + o.val, by omega⟩)
    (hu3 : ∀ o : Fin 1408, u3 (ix3 (0 : Fin 1) r o) = u ⟨2816 + (1408 + o.val), by omega⟩)
    (h0 : ∀ (k : Fin 1024) (o : Fin 1408), w0 (ix3 (0 : Fin 1) k o) = w k ⟨o.val, by omega⟩)
    (h1 : ∀ (k : Fin 1024) (o : Fin 1408), w1 (ix3 (0 : Fin 1) k o) = w k ⟨1408 + o.val, by omega⟩)
    (h2 : ∀ (k : Fin 1024) (o : Fin 1408), w2 (ix3 (0 : Fin 1) k o) = w k ⟨2816 + o.val, by omega⟩)
    (h3 : ∀ (k : Fin 1024) (o : Fin 1408), w3 (ix3 (0 : Fin 1) k o) = w k ⟨2816 + (1408 + o.val), by omega⟩)
    (ho0 : ∀ (o : Fin 1408) (n : Fin 1024), wo0 (ix2 o n) = wo ⟨o.val, by omega⟩ n)
    (ho1 : ∀ (o : Fin 1408) (n : Fin 1024), wo1 (ix2 o n) = wo ⟨1408 + o.val, by omega⟩ n) (n : Fin 1024) :
    storedDx d x f u0 u1 u2 u3 sc gate g gp w0 w1 w2 w3 wo0 wo1 (ix2 r n)
      = Cert.Ffn.backRow (fun k => d (ix2 r k)) (fun k => x (ix2 r k)) (fun k => f (ix2 r k)) (fun k => sc (ix2 (0 : Fin 1) k))
          (fun k => gate (ix2 (0 : Fin 1) k)) (fun k => g (ix2 (0 : Fin 1) k)) (fun k => gp (ix2 (0 : Fin 1) k)) u w wo n := by
  unfold storedDx Cert.Ffn.backRow
  rw [dx_apply]
  refine congrArg (fun t => d (ix2 r n) + Cert.Ffn.normBack (fun k => x (ix2 r k)) t n) (funext fun k => ?_)
  refine congrArg (fun t => t * (g (ix2 (0 : Fin 1) k) * (1 + sc (ix2 (0 : Fin 1) k)))) ?_
  have hA : ∀ o : Fin 1408, ∑ k : Fin 1024, storedDf d f gp gate (ix2 r k) * wo0 (ix2 o k)
      = Cert.Ffn.dAct (Cert.Ffn.normBack (fun k => f (ix2 r k)) (Cert.Ffn.postCt (fun k => d (ix2 r k)) (fun k => gate (ix2 (0 : Fin 1) k))
          (fun k => gp (ix2 (0 : Fin 1) k)))) wo ⟨o.val, by omega⟩ := fun o => by
    simp only [df_apply, ho0]; rfl
  have hB : ∀ o : Fin 1408, ∑ k : Fin 1024, storedDf d f gp gate (ix2 r k) * wo1 (ix2 o k)
      = Cert.Ffn.dAct (Cert.Ffn.normBack (fun k => f (ix2 r k)) (Cert.Ffn.postCt (fun k => d (ix2 r k)) (fun k => gate (ix2 (0 : Fin 1) k))
          (fun k => gp (ix2 (0 : Fin 1) k)))) wo ⟨1408 + o.val, by omega⟩ := fun o => by
    simp only [df_apply, ho1]; rfl
  generalize hD : Cert.Ffn.dAct (Cert.Ffn.normBack (fun k => f (ix2 r k)) (Cert.Ffn.postCt (fun k => d (ix2 r k)) (fun k => gate (ix2 (0 : Fin 1) k))
          (fun k => gp (ix2 (0 : Fin 1) k)))) wo = da at hA hB
  have e0 := fun o : Fin 1408 => dUp_lo u da ⟨o.val, by omega⟩
  have e1 := fun o : Fin 1408 => dUp_lo u da ⟨1408 + o.val, by omega⟩
  have e2 := fun o : Fin 1408 => dUp_hi u da ⟨o.val, by omega⟩
  have e3 := fun o : Fin 1408 => dUp_hi u da ⟨1408 + o.val, by omega⟩
  dsimp only at e0 e1 e2 e3
  rw [half'_apply, half_apply, zero_apply, zero_add, Cert.Ffn.dHidden_parts]
  simp only [first_apply, second_apply, first'_apply, second'_apply]
  have hz : k0_pay15 (k0_pay7 f) (k0_pay8 f) (k0_pay12 d gp gate) (k0_pay13 d f gp gate) k0_pay14 = storedDf d f gp gate := rfl
  simp only [hz, hA, hB, hu0, hu1, hu2, hu3, h0, h1, h2, h3, e0, e1, e2, e3]

end Cert.Kernel5Ideal.Value

end
-- ==== Proof.Ffn.BwdPoint.lean ====
/- What one grid point of the backward call stores: the first point copies the two weights into scratch and uses them
   there, the later ones find them there. -/
module

public import proofs.«01_k».proof.Proof.Gen.Kernel5Ideal.Frame
public import proofs.«01_k».proof.Proof.Ffn.BwdPays
public import Idealize.ShloMosaic.Lib.Pipeline.Value
public import Idealize.ShloMosaic.Lib.Pointwise
public import Idealize.ShloMosaic.Lib.Tactic

@[expose] public section

set_option maxRecDepth 16384

noncomputable section

namespace Cert.Kernel5Ideal.Value

open Cert.Kernel5Ideal Cert.Kernel5Ideal.Gen
open Idealize.ShloMosaic Idealize.ShloMosaic.TcCoe Idealize.ShloMosaic.Tactic

theorem hz2 : (![0, 0] : Fin 2 → Nat) = fun _ => 0 := funext fun a => by fin_cases a <;> rfl

/-- A row of the eight vectors. -/
def vecRow (x4 : Vec Ideal S8x1024 .f32) (q : Fin 8) : Vec Ideal S1x1024 .f32 := fun j => x4 (ix2 q (j 1))
/-- A slab of the first weight. -/
def slabAt (w : Vec Ideal S4x1024x1408 .bf16) (q : Fin 4) : Vec Ideal S1x1024x1408 .bf16 := fun j => w (ix3 q (j 1) (j 2))
/-- A slab of the first product. -/
def slabU (u : Vec Ideal S4x256x1408 .bf16) (q : Fin 4) : Vec Ideal S1x256x1408 .bf16 := fun j => u (ix3 q (j 1) (j 2))
/-- A half of the second weight's rows. -/
def halfAt (wo : Vec Ideal S2816x1024 .bf16) (q : Fin 2) : Vec Ideal S1408x1024 .bf16 :=
  fun j => wo (ix2 ⟨q.val * 1408 + (j 0).val, by have h : (j 0).val < 1408 := (j 0).isLt; have := q.isLt; omega⟩ (j 1))

/-- What the body stores for the input's gradient, from its blocks of the operands, the vectors and the two weights in scratch. -/
def blockOut (x0 x1 x2 : Vec Ideal S256x1024 .f32) (x3 : Vec Ideal S4x256x1408 .bf16) (x4 : Vec Ideal S8x1024 .f32)
    (w : Vec Ideal S4x1024x1408 .bf16) (wo : Vec Ideal S2816x1024 .bf16) : Vec Ideal S256x1024 .f32 :=
  storedDx x0 x1 x2 (slabU x3 0) (slabU x3 1) (slabU x3 2) (slabU x3 3) (vecRow x4 1) (vecRow x4 2) (vecRow x4 3) (vecRow x4 4)
    (slabAt w 0) (slabAt w 1) (slabAt w 2) (slabAt w 3) (halfAt wo 0) (halfAt wo 1)

/-- The second weight, whose rows are the slabs' rows one slab after another. -/
def stackOf (v : Vec Ideal S4x704x1024 .bf16) : Vec Ideal S2816x1024 .bf16 :=
  fun j => v (ix3 (⟨(j 0).val / 704, by have h : (j 0).val < 2816 := (j 0).isLt; omega⟩ : Fin 4)
    (⟨(j 0).val % 704, Nat.mod_lt _ (by norm_num)⟩ : Fin 704) (j 1))

theorem ld_vec (x4 : Vec Ideal S8x1024 .f32) (q : Fin 8) (inb : ∀ a, (![q.val, 0] : Fin 2 → ℕ) a + S1x1024.size a ≤ S8x1024.size a) :
    View.ld (Val := Elt Ideal) x4 (Rect.unit (s := S8x1024) ![q.val, 0] S1x1024.size inb) = vecRow x4 q := by
  rw [View.ld_unit]
  funext j
  refine congrArg x4 (funext fun a => Fin.ext ?_)
  match a with
  | ⟨0, _⟩ => show q.val + (j 0).val = q.val; have h : (j 0).val < 1 := (j 0).isLt; omega
  | ⟨1, _⟩ => show 0 + (j 1).val = (j 1).val; omega

theorem ld_slab (w : Vec Ideal S4x1024x1408 .bf16) (q : Fin 4)
    (inb : ∀ a, (![q.val, 0, 0] : Fin 3 → ℕ) a + S1x1024x1408.size a ≤ S4x1024x1408.size a) :
    View.ld (Val := Elt Ideal) w (Rect.unit (s := S4x1024x1408) ![q.val, 0, 0] S1x1024x1408.size inb) = slabAt w q := by
  rw [View.ld_unit]
  funext j
  refine congrArg w (funext fun a => Fin.ext ?_)
  match a with
  | ⟨0, _⟩ => show q.val + (j 0).val = q.val; have h : (j 0).val < 1 := (j 0).isLt; omega
  | ⟨1, _⟩ => show 0 + (j 1).val = (j 1).val; omega
  | ⟨2, _⟩ => show 0 + (j 2).val = (j 2).val; omega

theorem ld_half (wo : Vec Ideal S2816x1024 .bf16) (q : Fin 2)
    (inb : ∀ a, (![q.val * 1408, 0] : Fin 2 → ℕ) a + S1408x1024.size a ≤ S2816x1024.size a) :
    View.ld (Val := Elt Ideal) wo (Rect.unit (s := S2816x1024) ![q.val * 1408, 0] S1408x1024.size inb) = halfAt wo q := by
  rw [View.ld_unit]
  funext j
  refine congrArg wo (funext fun a => Fin.ext ?_)
  match a with
  | ⟨0, _⟩ => rfl
  | ⟨1, _⟩ => show 0 + (j 1).val = (j 1).val; omega

theorem shapeCasts_slab : S1x704x1024.ShapeCasts S704x1024 := by decide

theorem cast_apply (u : Vec Ideal S1x704x1024 .bf16) (hc : S1x704x1024.ShapeCasts S704x1024) (r : Fin 704) (n : Fin 1024) :
    shapeCast S704x1024 u hc (ix2 r n) = u (ix3 (0 : Fin 1) r n) := by
  pointwise

theorem sq_slab (v : Vec Ideal S4x704x1024 .bf16) (q : Fin 4) (inb : ∀ a, (![q.val, 0, 0] : Fin 3 → ℕ) a + S1x704x1024.size a ≤ S4x704x1024.size a)
    (hc : S1x704x1024.ShapeCasts S704x1024) (r : Fin 704) (n : Fin 1024) :
    shapeCast S704x1024 (View.ld (Val := Elt Ideal) v (Rect.unit (s := S4x704x1024) ![q.val, 0, 0] S1x704x1024.size inb)) hc (ix2 r n)
      = v (ix3 q r n) := by
  refine (cast_apply _ hc r n).trans ?_
  rw [View.ld_unit]
  refine congrArg v (funext fun a => Fin.ext ?_)
  match a with
  | ⟨0, _⟩ => show q.val + 0 = q.val; omega
  | ⟨1, _⟩ => show 0 + r.val = r.val; omega
  | ⟨2, _⟩ => show 0 + n.val = n.val; omega

theorem stackOf_emb (v : Vec Ideal S4x704x1024 .bf16) (q : Fin 4) (inb : ∀ a, (![q.val * 704, 0] : Fin 2 → ℕ) a + S704x1024.size a ≤ S2816x1024.size a)
    (r : Fin 704) (n : Fin 1024) :
    stackOf v ((Rect.unit (s := S2816x1024) ![q.val * 704, 0] S704x1024.size inb).emb (ix2 r n)) = v (ix3 q r n) := by
  refine congrArg v (funext fun a => Fin.ext ?_)
  have hr := r.isLt
  match a with
  | ⟨0, _⟩ => show (q.val * 704 + 1 * r.val) / 704 = q.val; omega
  | ⟨1, _⟩ => show (q.val * 704 + 1 * r.val) % 704 = r.val; omega
  | ⟨2, _⟩ => show 0 + 1 * n.val = n.val; omega

theorem slab_row (v : Vec Ideal S4x704x1024 .bf16) (q : Fin 4) (inb : ∀ a, (![q.val, 0, 0] : Fin 3 → ℕ) a + S1x704x1024.size a ≤ S4x704x1024.size a)
    (hc : S1x704x1024.ShapeCasts S704x1024) (inb' : ∀ a, (![q.val * 704, 0] : Fin 2 → ℕ) a + S704x1024.size a ≤ S2816x1024.size a) (x : S704x1024.Idx) :
    shapeCast S704x1024 (View.ld (Val := Elt Ideal) v (Rect.unit (s := S4x704x1024) ![q.val, 0, 0] S1x704x1024.size inb)) hc x
      = stackOf v ((Rect.unit (s := S2816x1024) ![q.val * 704, 0] S704x1024.size inb').emb x) := by
  idx_vars x
  exact (sq_slab v q inb hc _ _).trans (stackOf_emb v q inb' _ _).symm

theorem covLd {s : Shape} {e : EltTy} {κ : Kind} {sp : Space} (v : View sig κ sp s e) (L : List (View.Piece (Elt Ideal) s e)) (r : Rect s) :
    v.readCov L r.toLoadRect = View.ld (View.canon L) r := View.readCov_eq_canon' v L r.toLoadRect

theorem ld_slabU (u : Vec Ideal S4x256x1408 .bf16) (q : Fin 4)
    (inb : ∀ a, (![q.val, 0, 0] : Fin 3 → ℕ) a + S1x256x1408.size a ≤ S4x256x1408.size a) :
    View.ld (Val := Elt Ideal) u (Rect.unit (s := S4x256x1408) ![q.val, 0, 0] S1x256x1408.size inb) = slabU u q := by
  rw [View.ld_unit]
  funext j
  refine congrArg u (funext fun a => Fin.ext ?_)
  match a with
  | ⟨0, _⟩ => show q.val + (j 0).val = q.val; have h : (j 0).val < 1 := (j 0).isLt; omega
  | ⟨1, _⟩ => show 0 + (j 1).val = (j 1).val; omega
  | ⟨2, _⟩ => show 0 + (j 2).val = (j 2).val; omega

variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S4x256x1408 .bf16) (harg4 : arg4.IsWhole) (arg5 : Memref sig .tc .vmem S8x1024 .f32) (harg5 : arg5.IsWhole) (arg8 : Memref sig .tc .vmem S256x1024 .f32) (harg8 : arg8.IsWhole) (arg9 : Memref sig .tc .vmem S256x1024 .bf16) (harg9 : arg9.IsWhole) (arg10 : Memref sig .tc .vmem S4x256x1408 .bf16) (harg10 : arg10.IsWhole) (arg11 : Memref sig .tc .vmem S256x2816 .bf16) (harg11 : arg11.IsWhole) (arg12 : Memref sig .tc .vmem S8x1024 .f32) (harg12 : arg12.IsWhole) (arg13 : Memref sig .tc .vmem S4x1024x1408 .bf16) (harg13 : arg13.IsWhole) (arg14 : Memref sig .tc .vmem S2816x1024 .bf16) (harg14 : arg14.IsWhole)
    (x0 x1 x2 : Vec Ideal S256x1024 .f32) (x3 : Vec Ideal S4x256x1408 .bf16) (x4 : Vec Ideal S8x1024 .f32)
    (fh0 : HbBuf0 (F := Ideal) c hbM0_0) (fh1 : HbBuf0 (F := Ideal) c hbM0_1)

/-- After the first point the first scratch holds the first weight. -/
theorem canonA_0 (hc0 : cond0_0 i) : View.canon (kernelRun0_A c i arg1 harg1 arg2 harg2 arg3 harg3 arg4 harg4 arg5 harg5 arg8 harg8 arg9 harg9 arg10 harg10 arg11 harg11 arg12 harg12 arg13 harg13 arg14 harg14 hc0 x0 x1 x2 x3 x4 fh0 fh1).2.2.2.2.2.1 = (fh0 : Vec Ideal S4x1024x1408 .bf16) := by
  funext y
  refine View.canon_apply_of_pieces (Val := Elt Ideal) (fh0 : Vec Ideal S4x1024x1408 .bf16) _ ?_ y (scover0_A_0 c i arg1 harg1 arg2 harg2 arg3 harg3 arg4 harg4 arg5 harg5 arg8 harg8 arg9 harg9 arg10 harg10 arg11 harg11 arg12 harg12 arg13 harg13 arg14 harg14 hc0 x0 x1 x2 x3 x4 fh0 fh1 y)
  unfold kernelRun0_A
  dsimp only
  sl_unfold_words
  intro p hp
  simp only [List.mem_cons, List.not_mem_nil, or_false] at hp
  rcases hp with rfl | rfl | rfl | rfl <;> exact fun _ => rfl

/-- After the first point the second scratch holds the second weight. -/
theorem canonA_1 (hc0 : cond0_0 i) : View.canon (kernelRun0_A c i arg1 harg1 arg2 harg2 arg3 harg3 arg4 harg4 arg5 harg5 arg8 harg8 arg9 harg9 arg10 harg10 arg11 harg11 arg12 harg12 arg13 harg13 arg14 harg14 hc0 x0 x1 x2 x3 x4 fh0 fh1).2.2.2.2.2.2.1 = stackOf fh1 := by
  funext y
  refine View.canon_apply_of_pieces (Val := Elt Ideal) (stackOf fh1) _ ?_ y (scover0_A_1 c i arg1 harg1 arg2 harg2 arg3 harg3 arg4 harg4 arg5 harg5 arg8 harg8 arg9 harg9 arg10 harg10 arg11 harg11 arg12 harg12 arg13 harg13 arg14 harg14 hc0 x0 x1 x2 x3 x4 fh0 fh1 y)
  unfold kernelRun0_A
  dsimp only
  sl_unfold_words
  intro p hp
  simp only [List.mem_cons, List.not_mem_nil, or_false] at hp
  rcases hp with rfl | rfl | rfl | rfl
  · exact fun x => slab_row fh1 3 _ shapeCasts_slab inb_S2816x1024_S704x1024_2112_0 x
  · exact fun x => slab_row fh1 2 _ shapeCasts_slab inb_S2816x1024_S704x1024_1408_0 x
  · exact fun x => slab_row fh1 1 _ shapeCasts_slab inb_S2816x1024_S704x1024_704_0 x
  · exact fun x => slab_row fh1 0 _ shapeCasts_slab inb_S2816x1024_S704x1024_0_0 x

theorem out_A (hc0 : cond0_0 i) : out0_A_5 c i arg1 harg1 arg2 harg2 arg3 harg3 arg4 harg4 arg5 harg5 arg8 harg8 arg9 harg9 arg10 harg10 arg11 harg11 arg12 harg12 arg13 harg13 arg14 harg14 hc0 x0 x1 x2 x3 x4 fh0 fh1
    = blockOut x0 x1 x2 x3 x4 (View.canon (kernelRun0_A c i arg1 harg1 arg2 harg2 arg3 harg3 arg4 harg4 arg5 harg5 arg8 harg8 arg9 harg9 arg10 harg10 arg11 harg11 arg12 harg12 arg13 harg13 arg14 harg14 hc0 x0 x1 x2 x3 x4 fh0 fh1).2.2.2.2.2.1) (View.canon (kernelRun0_A c i arg1 harg1 arg2 harg2 arg3 harg3 arg4 harg4 arg5 harg5 arg8 harg8 arg9 harg9 arg10 harg10 arg11 harg11 arg12 harg12 arg13 harg13 arg14 harg14 hc0 x0 x1 x2 x3 x4 fh0 fh1).2.2.2.2.2.2.1) := by
  unfold out0_A_5
  refine (View.read_writes_junk_eq_canon _ _).trans ?_
  unfold kernelRun0_A
  dsimp only
  sl_unfold_words
  refine (View.canon_unit_zero hz2 _ _).trans ?_
  simp only [View.readAt_eq_ld, harg1.read_unread, harg2.read_unread, harg3.read_unread, harg4.read_unread, harg5.read_unread, covLd, View.ld_unit_zero (S := S256x1024) hz2]
  unfold blockOut storedDx
  rw [← ld_vec x4 1 inb_S8x1024_S1x1024_1_0, ← ld_vec x4 2 inb_S8x1024_S1x1024_2_0, ← ld_vec x4 3 inb_S8x1024_S1x1024_3_0,
    ← ld_vec x4 4 inb_S8x1024_S1x1024_4_0,
    ← ld_slabU x3 0 inb_S4x256x1408_S1x256x1408_0_0_0,
    ← ld_slabU x3 1 inb_S4x256x1408_S1x256x1408_1_0_0,
    ← ld_slabU x3 2 inb_S4x256x1408_S1x256x1408_2_0_0,
    ← ld_slabU x3 3 inb_S4x256x1408_S1x256x1408_3_0_0,
    ← ld_slab _ 0 inb_S4x1024x1408_S1x1024x1408_0_0_0,
    ← ld_slab _ 1 inb_S4x1024x1408_S1x1024x1408_1_0_0,
    ← ld_slab _ 2 inb_S4x1024x1408_S1x1024x1408_2_0_0,
    ← ld_slab _ 3 inb_S4x1024x1408_S1x1024x1408_3_0_0,
    ← ld_half _ 0 inb_S2816x1024_S1408x1024_0_0, ← ld_half _ 1 inb_S2816x1024_S1408x1024_1408_0]
  rfl

theorem out_B (hc0 : ¬ cond0_0 i) (xo9 : Vec Ideal S8x1024 .f32) (xs0 : Vec Ideal S4x1024x1408 .bf16) (xs1 : Vec Ideal S2816x1024 .bf16) :
    out0_B_5 c i arg1 harg1 arg2 harg2 arg3 harg3 arg4 harg4 arg5 harg5 arg8 harg8 arg9 harg9 arg10 harg10 arg11 harg11 arg12 harg12 arg13 harg13 arg14 harg14 hc0 x0 x1 x2 x3 x4 xo9 xs0 xs1 fh0 fh1 = blockOut x0 x1 x2 x3 x4 xs0 xs1 := by
  unfold out0_B_5
  refine (View.read_writes_junk_eq_canon _ _).trans ?_
  unfold kernelRun0_B
  dsimp only
  sl_unfold_words
  refine (View.canon_unit_zero hz2 _ _).trans ?_
  simp only [View.readAt_eq_ld, harg1.read_unread, harg2.read_unread, harg3.read_unread, harg4.read_unread, harg5.read_unread, harg13.read_unread, harg14.read_unread, View.ld_unit_zero (S := S256x1024) hz2]
  unfold blockOut storedDx
  rw [← ld_vec x4 1 inb_S8x1024_S1x1024_1_0, ← ld_vec x4 2 inb_S8x1024_S1x1024_2_0, ← ld_vec x4 3 inb_S8x1024_S1x1024_3_0,
    ← ld_vec x4 4 inb_S8x1024_S1x1024_4_0,
    ← ld_slabU x3 0 inb_S4x256x1408_S1x256x1408_0_0_0,
    ← ld_slabU x3 1 inb_S4x256x1408_S1x256x1408_1_0_0,
    ← ld_slabU x3 2 inb_S4x256x1408_S1x256x1408_2_0_0,
    ← ld_slabU x3 3 inb_S4x256x1408_S1x256x1408_3_0_0,
    ← ld_slab xs0 0 inb_S4x1024x1408_S1x1024x1408_0_0_0,
    ← ld_slab xs0 1 inb_S4x1024x1408_S1x1024x1408_1_0_0,
    ← ld_slab xs0 2 inb_S4x1024x1408_S1x1024x1408_2_0_0,
    ← ld_slab xs0 3 inb_S4x1024x1408_S1x1024x1408_3_0_0,
    ← ld_half xs1 0 inb_S2816x1024_S1408x1024_0_0, ← ld_half xs1 1 inb_S2816x1024_S1408x1024_1408_0]
  rfl

theorem sout_A_0 (hc0 : cond0_0 i) : sout0_A_0 c i arg1 harg1 arg2 harg2 arg3 harg3 arg4 harg4 arg5 harg5 arg8 harg8 arg9 harg9 arg10 harg10 arg11 harg11 arg12 harg12 arg13 harg13 arg14 harg14 hc0 x0 x1 x2 x3 x4 fh0 fh1 = (fh0 : Vec Ideal S4x1024x1408 .bf16) := by
  unfold sout0_A_0
  rw [View.read_writes_junk_eq_canon]
  exact canonA_0 c i arg1 harg1 arg2 harg2 arg3 harg3 arg4 harg4 arg5 harg5 arg8 harg8 arg9 harg9 arg10 harg10 arg11 harg11 arg12 harg12 arg13 harg13 arg14 harg14 x0 x1 x2 x3 x4 fh0 fh1 hc0

theorem sout_A_1 (hc0 : cond0_0 i) : sout0_A_1 c i arg1 harg1 arg2 harg2 arg3 harg3 arg4 harg4 arg5 harg5 arg8 harg8 arg9 harg9 arg10 harg10 arg11 harg11 arg12 harg12 arg13 harg13 arg14 harg14 hc0 x0 x1 x2 x3 x4 fh0 fh1 = stackOf fh1 := by
  unfold sout0_A_1
  rw [View.read_writes_junk_eq_canon]
  exact canonA_1 c i arg1 harg1 arg2 harg2 arg3 harg3 arg4 harg4 arg5 harg5 arg8 harg8 arg9 harg9 arg10 harg10 arg11 harg11 arg12 harg12 arg13 harg13 arg14 harg14 x0 x1 x2 x3 x4 fh0 fh1 hc0

end Cert.Kernel5Ideal.Value

end
-- ==== Proof.Ffn.BwdLayer.lean ====
/- The backward pass of a feed-forward layer on whole arrays, and that the reference's program computes it. -/
module

public import proofs.«01_k».proof.Proof.Gen.Reference5Ideal.Run
public import proofs.«01_k».proof.Proof.Ffn.BwdRows
public import Idealize.ShloMosaic.Lib.Pointwise
public import Idealize.ShloMosaic.Lib.Quiescent
public import Idealize.ShloMosaic.Lib.Tactic

@[expose] public section

set_option maxRecDepth 16384

noncomputable section

namespace Cert.Reference5Ideal.Value

open Cert.Reference5Ideal Cert.Reference5Ideal.Gen Idealize.ShloMosaic Idealize.ShloMosaic.TcCoe Idealize.SL.Sem Idealize.ShloMosaic.StableHlo
open Cert.KernelIdeal.Value (IsReal isReal_add isReal_mul isReal_one)

/-- A row's mean square with its millionth, for every row. -/
def rMean (x : Vec Ideal S2048x1024 .f32) : Vec Ideal S2048x1 .f32 :=
  addf (Host.divf (broadcastInDim S2048x1 ![0] bcast_S2048_S2048x1_0 (Host.reduceAdd (mulf x x) (constant (F :=
    Ideal) S_ .f32 0x00000000#32) reducesTo_S2048x1024_S2048_d1 h_S_)) (broadcastInDim S2048x1 ![]
    bcast_S_S2048x1 (constant (F := Ideal) S_ .f32 0x44800000#32))) (broadcastInDim S2048x1 ![]
    bcast_S_S2048x1 (constant (F := Ideal) S_ .f32 0x358637BD#32))

/-- The factor by which the mean square's cotangent comes back, for every row. -/
def rBl (x t : Vec Ideal S2048x1024 .f32) : Vec Ideal S2048 .f32 :=
  Host.reduceAdd (Host.divf (mulf (shapeCast S2048x1 (Host.reduceAdd (mulf x t) (constant (F := Ideal) S_ .f32
    0x00000000#32) reducesTo_S2048x1024_S2048_d1 h_S_) shapeCasts_S2048_S2048x1) (mulf (broadcastInDim S2048x1
    ![] bcast_S_S2048x1 (constant (F := Ideal) S_ .f32 0xBF000000#32)) (Host.divf (Host.rsqrt (rMean x))
    (rMean x)))) (broadcastInDim S2048x1 ![] bcast_S_S2048x1 (constant (F := Ideal) S_ .f32 0x44800000#32)))
    (constant (F := Ideal) S_ .f32 0x00000000#32) reducesTo_S2048x1_S2048_d1 h_S_

/-- The gradient through a norm, for every row. -/
def rNormBack (x t : Vec Ideal S2048x1024 .f32) : Vec Ideal S2048x1024 .f32 :=
  addf (F := Ideal) (φ := .f32) (addf (mulf t (broadcastInDim S2048x1024 ![0, 1] bcast_S2048x1_S2048x1024_0_1 (Host.rsqrt (rMean x))))
    (mulf x (broadcastInDim S2048x1024 ![0] bcast_S2048_S2048x1024_0 (rBl x t)))) (mulf (broadcastInDim
    S2048x1024 ![0] bcast_S2048_S2048x1024_0 (rBl x t)) x)

/-- The cotangent of the normed second product. -/
def rPost (d : Vec Ideal S2048x1024 .f32) (md : Vec Ideal S3x1024 .f32) (gp : Vec Ideal S1024 .f32) : Vec Ideal S2048x1024 .f32 :=
  mulf (mulf (broadcastInDim S2048x1024 ![0, 1] bcast_S1x1024_S2048x1024_0_1 (broadcastInDim S1x1024 ![1]
    bcast_S1024_S1x1024_1 (mulf (broadcastInDim S1024 ![] bcast_S_S1024 (constant (F := Ideal) S_ .f32
    0x3F000000#32)) (shapeCast S1024 (extractStridedSlice S1x1024 ![2, 0] md slices_S3x1024_S1x1024_2_0)
    shapeCasts_S1x1024_S1024)))) d) (broadcastInDim S2048x1024 ![0, 1] bcast_S1x1024_S2048x1024_0_1
    (broadcastInDim S1x1024 ![1] bcast_S1024_S1x1024_1 gp))

/-- The cotangent of the gated activations. -/
def rAct (df : Vec Ideal S2048x1024 .f32) (wo : Vec Ideal S2816x1024 .f32) : Vec Ideal S2048x2816 .f32 :=
  Host.dotGeneral (F := Ideal) (φ₁ := .f32) (φ₂ := .f32) dot_S2048x1024_S2816x1024_S2048x2816_1_1_0_0_n_n none df wo

/-- The cotangent of the first product. -/
def rUp (u : Vec Ideal S2048x5632 .f32) (a : Vec Ideal S2048x2816 .f32) : Vec Ideal S2048x5632 .f32 :=
  concatenate S2048x5632 1 [⟨S2048x2816, (addf (mulf (mulf a (extractStridedSlice S2048x2816 ![0, 2816] u
    slices_S2048x5632_S2048x2816_0_2816)) (Host.divf (broadcastInDim S2048x2816 ![] bcast_S_S2048x2816
    (constant (F := Ideal) S_ .f32 0x3F800000#32)) (addf (broadcastInDim S2048x2816 ![] bcast_S_S2048x2816
    (constant (F := Ideal) S_ .f32 0x3F800000#32)) (Host.exp (Host.negf (extractStridedSlice S2048x2816 ![0,
    0] u slices_S2048x5632_S2048x2816_0_0)))))) (mulf (mulf (extractStridedSlice S2048x2816 ![0, 0] u
    slices_S2048x5632_S2048x2816_0_0) (mulf a (extractStridedSlice S2048x2816 ![0, 2816] u
    slices_S2048x5632_S2048x2816_0_2816))) (mulf (Host.divf (broadcastInDim S2048x2816 ![] bcast_S_S2048x2816
    (constant (F := Ideal) S_ .f32 0x3F800000#32)) (addf (broadcastInDim S2048x2816 ![] bcast_S_S2048x2816
    (constant (F := Ideal) S_ .f32 0x3F800000#32)) (Host.exp (Host.negf (extractStridedSlice S2048x2816 ![0,
    0] u slices_S2048x5632_S2048x2816_0_0))))) (subf (broadcastInDim S2048x2816 ![] bcast_S_S2048x2816
    (constant (F := Ideal) S_ .f32 0x3F800000#32)) (Host.divf (broadcastInDim S2048x2816 ![]
    bcast_S_S2048x2816 (constant (F := Ideal) S_ .f32 0x3F800000#32)) (addf (broadcastInDim S2048x2816 ![]
    bcast_S_S2048x2816 (constant (F := Ideal) S_ .f32 0x3F800000#32)) (Host.exp (Host.negf
    (extractStridedSlice S2048x2816 ![0, 0] u slices_S2048x5632_S2048x2816_0_0)))))))))⟩, ⟨S2048x2816, (mulf
    (mulf (extractStridedSlice S2048x2816 ![0, 0] u slices_S2048x5632_S2048x2816_0_0) (Host.divf
    (broadcastInDim S2048x2816 ![] bcast_S_S2048x2816 (constant (F := Ideal) S_ .f32 0x3F800000#32)) (addf
    (broadcastInDim S2048x2816 ![] bcast_S_S2048x2816 (constant (F := Ideal) S_ .f32 0x3F800000#32)) (Host.exp
    (Host.negf (extractStridedSlice S2048x2816 ![0, 0] u slices_S2048x5632_S2048x2816_0_0)))))) a)⟩]
    concatenates_S2048x2816_S2048x2816_S2048x5632_d1

/-- The cotangent of the normed, scaled and shifted input. -/
def rHid (z : Vec Ideal S2048x5632 .f32) (w : Vec Ideal S1024x5632 .f32) : Vec Ideal S2048x1024 .f32 :=
  Host.dotGeneral (F := Ideal) (φ₁ := .f32) (φ₂ := .f32) dot_S2048x5632_S1024x5632_S2048x1024_1_1_0_0_n_n none z w

/-- The cotangent of the normed input. -/
def rPre (h : Vec Ideal S2048x1024 .f32) (md : Vec Ideal S3x1024 .f32) (g : Vec Ideal S1024 .f32) : Vec Ideal S2048x1024 .f32 :=
  mulf (mulf h (broadcastInDim S2048x1024 ![0, 1] bcast_S1x1024_S2048x1024_0_1 (broadcastInDim S1x1024 ![1]
    bcast_S1024_S1x1024_1 (addf (broadcastInDim S1024 ![] bcast_S_S1024 (constant (F := Ideal) S_ .f32
    0x3F800000#32)) (shapeCast S1024 (extractStridedSlice S1x1024 ![1, 0] md slices_S3x1024_S1x1024_1_0)
    shapeCasts_S1x1024_S1024))))) (broadcastInDim S2048x1024 ![0, 1] bcast_S1x1024_S2048x1024_0_1
    (broadcastInDim S1x1024 ![1] bcast_S1024_S1x1024_1 g))

theorem rMean_apply (x : Vec Ideal S2048x1024 .f32) (s : Fin 2048) (j : Fin 1) :
    rMean x (ix2 s j) = Cert.Ffn.meanSq (fun k => x (ix2 s k)) := by
  unfold Cert.Ffn.meanSq
  pointwise [rMean]

theorem rBl_apply (x t : Vec Ideal S2048x1024 .f32) (s : Fin 2048) :
    rBl x t (ix1 s) = Cert.Ffn.meanBack (fun k => x (ix2 s k)) (fun k => t (ix2 s k)) := by
  unfold Cert.Ffn.meanBack Cert.Ffn.inv
  rw [← rMean_apply x s 0]
  have e : Ideal.div (∑ k, x (ix2 s k) * x (ix2 s k)) (Ideal.ofBits FTy.f32 1149239296#32) + Ideal.ofBits FTy.f32 897988541#32
      = rMean x (ix2 s (0 : Fin 1)) := (rMean_apply x s 0).symm
  simp only [e]
  generalize hm : rMean x = v
  pointwise [rBl, hm]
  exact Fin.sum_univ_one _

theorem rNormBack_apply (x t : Vec Ideal S2048x1024 .f32) (s : Fin 2048) (n : Fin 1024) :
    rNormBack x t (ix2 s n) = Cert.Ffn.normBackRef (fun k => x (ix2 s k)) (fun k => t (ix2 s k)) n := by
  unfold Cert.Ffn.normBackRef Cert.Ffn.inv
  rw [← rBl_apply]
  have e : Ideal.div (∑ k, x (ix2 s k) * x (ix2 s k)) (Ideal.ofBits FTy.f32 1149239296#32) + Ideal.ofBits FTy.f32 897988541#32
      = rMean x (ix2 s (0 : Fin 1)) := (rMean_apply x s 0).symm
  simp only [e]
  generalize hm : rMean x = v
  generalize hb : rBl x t = b
  pointwise [rNormBack, hm, hb]

theorem rPost_apply (d : Vec Ideal S2048x1024 .f32) (md : Vec Ideal S3x1024 .f32) (gp : Vec Ideal S1024 .f32) (s : Fin 2048) (k : Fin 1024) :
    rPost d md gp (ix2 s k) = Cert.Ffn.postCt (fun k => d (ix2 s k)) (fun k => md (ix2 (2 : Fin 3) k)) (fun k => gp (ix1 k)) k := by
  unfold Cert.Ffn.postCt
  rw [mul_comm (d (ix2 s k))]
  pointwise [rPost]

theorem rAct_apply (df : Vec Ideal S2048x1024 .f32) (wo : Vec Ideal S2816x1024 .f32) (s : Fin 2048) (o : Fin 2816) :
    rAct df wo (ix2 s o) = Cert.Ffn.dAct (fun k => df (ix2 s k)) (fun o n => wo (ix2 o n)) o := by
  unfold Cert.Ffn.dAct
  pointwise [rAct]

theorem rHid_apply (z : Vec Ideal S2048x5632 .f32) (w : Vec Ideal S1024x5632 .f32) (s : Fin 2048) (k : Fin 1024) :
    rHid z w (ix2 s k) = Cert.Ffn.dHidden (fun o => z (ix2 s o)) (fun k o => w (ix2 k o)) k := by
  unfold Cert.Ffn.dHidden
  pointwise [rHid]

theorem rPre_apply (h : Vec Ideal S2048x1024 .f32) (md : Vec Ideal S3x1024 .f32) (g : Vec Ideal S1024 .f32) (s : Fin 2048) (k : Fin 1024) :
    rPre h md g (ix2 s k) = h (ix2 s k) * (g (ix1 k) * (1 + md (ix2 (1 : Fin 3) k))) := by
  rw [mul_comm (g (ix1 k)), ← mul_assoc]
  pointwise [rPre]

theorem rUp_lo (u : Vec Ideal S2048x5632 .f32) (a : Vec Ideal S2048x2816 .f32) (s : Fin 2048) (o : Fin 2816) :
    rUp u a (ix2 s ⟨o.val, by omega⟩) = a (ix2 s o) * u (ix2 s ⟨2816 + o.val, by omega⟩) * Cert.Ffn.sig (u (ix2 s ⟨o.val, by omega⟩))
      + u (ix2 s ⟨o.val, by omega⟩) * (a (ix2 s o) * u (ix2 s ⟨2816 + o.val, by omega⟩))
        * (Cert.Ffn.sig (u (ix2 s ⟨o.val, by omega⟩)) * (1 - Cert.Ffn.sig (u (ix2 s ⟨o.val, by omega⟩)))) := by
  unfold Cert.Ffn.sig
  pointwise [rUp]

theorem rUp_hi (u : Vec Ideal S2048x5632 .f32) (a : Vec Ideal S2048x2816 .f32) (s : Fin 2048) (o : Fin 2816) :
    rUp u a (ix2 s ⟨2816 + o.val, by omega⟩) = u (ix2 s ⟨o.val, by omega⟩) * Cert.Ffn.sig (u (ix2 s ⟨o.val, by omega⟩)) * a (ix2 s o) := by
  unfold Cert.Ffn.sig
  pointwise [rUp]

/-- The gradient of the layer's input: each row through `Cert.Ffn.backRow`. -/
def backOf (d x f : Vec Ideal S2048x1024 .f32) (u : Vec Ideal S2048x5632 .f32) (md : Vec Ideal S3x1024 .f32) (g gp : Vec Ideal S1024 .f32)
    (w : Vec Ideal S1024x5632 .f32) (wo : Vec Ideal S2816x1024 .f32) : Vec Ideal S2048x1024 .f32 :=
  fun j => Cert.Ffn.backRow (fun k => d (ix2 (j 0) k)) (fun k => x (ix2 (j 0) k)) (fun k => f (ix2 (j 0) k)) (fun k => md (ix2 (1 : Fin 3) k))
    (fun k => md (ix2 (2 : Fin 3) k)) (fun k => g (ix1 k)) (fun k => gp (ix1 k)) (fun o => u (ix2 (j 0) o)) (fun k o => w (ix2 k o))
    (fun o n => wo (ix2 o n)) (j 1)

theorem isReal_half : IsReal (Ideal.ofBits FTy.f32 1056964608#32) := ⟨_, Cert.Ffn.word_half⟩

/-- The reference's steps, composed, make the gradient of their arguments where those are real numbers. -/
theorem steps_eq (d x f : Vec Ideal S2048x1024 .f32) (u : Vec Ideal S2048x5632 .f32) (md : Vec Ideal S3x1024 .f32) (g gp : Vec Ideal S1024 .f32)
    (w : Vec Ideal S1024x5632 .f32) (wo : Vec Ideal S2816x1024 .f32) (hd : ∀ j, IsReal (d j)) (hx : ∀ j, IsReal (x j)) (hf : ∀ j, IsReal (f j))
    (hu : ∀ j, IsReal (u j)) (hm : ∀ j, IsReal (md j)) (hg : ∀ j, IsReal (g j)) (hp : ∀ j, IsReal (gp j)) (hw : ∀ j, IsReal (w j))
    (ho : ∀ j, IsReal (wo j)) :
    addf (F := Ideal) (φ := .f32) d (rNormBack x (rPre (rHid (rUp u (rAct (rNormBack f (rPost d md gp)) wo)) w) md g)) = backOf d x f u md g gp w wo := by
  funext j
  idx_vars j
  -- the second product's cotangent, a row of real numbers
  have tR : ∀ k, IsReal (Cert.Ffn.postCt (fun k => d (ix2 j0 k)) (fun k => md (ix2 (2 : Fin 3) k)) (fun k => gp (ix1 k)) k) := fun k =>
    isReal_mul (isReal_mul (hd _) (isReal_mul isReal_half (hm _))) (hp _)
  have F := fun n => Cert.Ffn.normBack_real (fun k => f (ix2 j0 k)) _ (fun k => hf _) tR n
  have eF : ∀ n : Fin 1024, rNormBack f (rPost d md gp) (ix2 j0 n) = Cert.Ffn.normBack (fun k => f (ix2 j0 k))
      (Cert.Ffn.postCt (fun k => d (ix2 j0 k)) (fun k => md (ix2 (2 : Fin 3) k)) (fun k => gp (ix1 k))) n := fun n => by
    rw [rNormBack_apply]
    simp only [rPost_apply]
    exact (F n).2
  have eA : ∀ o : Fin 2816, rAct (rNormBack f (rPost d md gp)) wo (ix2 j0 o) = Cert.Ffn.dAct (Cert.Ffn.normBack (fun k => f (ix2 j0 k))
      (Cert.Ffn.postCt (fun k => d (ix2 j0 k)) (fun k => md (ix2 (2 : Fin 3) k)) (fun k => gp (ix1 k)))) (fun o n => wo (ix2 o n)) o := fun o => by
    rw [rAct_apply]
    simp only [eF]
  have aR : ∀ o : Fin 2816, IsReal (Cert.Ffn.dAct (Cert.Ffn.normBack (fun k => f (ix2 j0 k))
      (Cert.Ffn.postCt (fun k => d (ix2 j0 k)) (fun k => md (ix2 (2 : Fin 3) k)) (fun k => gp (ix1 k)))) (fun o n => wo (ix2 o n)) o) := fun o =>
    Cert.Ffn.isReal_sum _ _ fun k _ => isReal_mul (F k).1 (ho _)
  have eB : backOf d x f u md g gp w wo (ix2 j0 j1) = Cert.Ffn.backRow (fun k => d (ix2 j0 k)) (fun k => x (ix2 j0 k)) (fun k => f (ix2 j0 k))
      (fun k => md (ix2 (1 : Fin 3) k)) (fun k => md (ix2 (2 : Fin 3) k)) (fun k => g (ix1 k)) (fun k => gp (ix1 k)) (fun o => u (ix2 j0 o))
      (fun k o => w (ix2 k o)) (fun o n => wo (ix2 o n)) j1 := rfl
  rw [eB]
  unfold Cert.Ffn.backRow
  generalize Cert.Ffn.dAct (Cert.Ffn.normBack (fun k => f (ix2 j0 k)) (Cert.Ffn.postCt (fun k => d (ix2 j0 k)) (fun k => md (ix2 (2 : Fin 3) k))
    (fun k => gp (ix1 k)))) (fun o n => wo (ix2 o n)) = da at eA aR
  generalize rAct (rNormBack f (rPost d md gp)) wo = A at eA
  -- the first product's cotangent, by column
  have U : ∀ o : Fin 5632, rUp u A (ix2 j0 o) = Cert.Ffn.dUp (fun o => u (ix2 j0 o)) da o
      ∧ IsReal (Cert.Ffn.dUp (fun o => u (ix2 j0 o)) da o) := fun o => by
    by_cases h : o.val < 2816
    · have R := Cert.Ffn.dFirst_real (hu (ix2 j0 o)) (hu (ix2 j0 ⟨2816 + o.val, by omega⟩)) (aR ⟨o.val, h⟩)
      have e : Cert.Ffn.dUp (fun o => u (ix2 j0 o)) da o = Cert.Ffn.dFirst (u (ix2 j0 o)) (u (ix2 j0 ⟨2816 + o.val, by omega⟩)) (da ⟨o.val, h⟩) :=
        dif_pos h
      rw [e]
      refine ⟨?_, R.1⟩
      rw [← R.2, ← eA ⟨o.val, h⟩]
      exact rUp_lo u A j0 ⟨o.val, h⟩
    · have e : Cert.Ffn.dUp (fun o => u (ix2 j0 o)) da o = Cert.Ffn.dSecond (u (ix2 j0 ⟨o.val - 2816, by omega⟩)) (da ⟨o.val - 2816, by omega⟩) :=
        dif_neg h
      rw [e]
      refine ⟨?_, Cert.Ffn.dSecond_real (hu _) (aR _)⟩
      have q := rUp_hi u A j0 ⟨o.val - 2816, by omega⟩
      have ho : (⟨2816 + (⟨o.val - 2816, by omega⟩ : Fin 2816).val, by omega⟩ : Fin 5632) = o := Fin.ext (by show 2816 + (o.val - 2816) = o.val; omega)
      rw [ho] at q
      rw [q, eA]
      exact mul_comm _ _
  have eH : ∀ k : Fin 1024, rHid (rUp u A) w (ix2 j0 k) = Cert.Ffn.dHidden (Cert.Ffn.dUp (fun o => u (ix2 j0 o)) da) (fun k o => w (ix2 k o)) k :=
    fun k => by
      rw [rHid_apply]
      simp only [(U _).1]
  have hR : ∀ k : Fin 1024, IsReal (Cert.Ffn.dHidden (Cert.Ffn.dUp (fun o => u (ix2 j0 o)) da) (fun k o => w (ix2 k o)) k) := fun k =>
    Cert.Ffn.isReal_sum _ _ fun o _ => isReal_mul (U o).2 (hw _)
  have X := Cert.Ffn.normBack_real (fun k => x (ix2 j0 k))
    (fun k => Cert.Ffn.dHidden (Cert.Ffn.dUp (fun o => u (ix2 j0 o)) da) (fun k o => w (ix2 k o)) k * (g (ix1 k) * (1 + md (ix2 (1 : Fin 3) k))))
    (fun k => hx _) (fun k => isReal_mul (hR k) (isReal_mul (hg _) (isReal_add isReal_one (hm _)))) j1
  rw [← X.2]
  show d (ix2 j0 j1) + rNormBack x (rPre (rHid (rUp u A) w) md g) (ix2 j0 j1) = _
  rw [rNormBack_apply]
  simp only [rPre_apply, eH]

theorem res_stages (m : (ℓ : Loc nD τ sig) → Buf (Elt Ideal) ℓ) (c : Dev nD) : res_main_v101 m c
    = addf (F := Ideal) (φ := .f32) (m ((c.tc : Thread nD τ).loc main_arg0)) (rNormBack (m ((c.tc : Thread nD τ).loc main_arg1)) (rPre (rHid (rUp (m ((c.tc : Thread nD τ).loc main_arg3))
        (rAct (rNormBack (m ((c.tc : Thread nD τ).loc main_arg2)) (rPost (m ((c.tc : Thread nD τ).loc main_arg0)) (m ((c.tc : Thread nD τ).loc main_arg4)) (m ((c.tc : Thread nD τ).loc main_arg6)))) (m ((c.tc : Thread nD τ).loc main_arg8)))) (m ((c.tc : Thread nD τ).loc main_arg7))) (m ((c.tc : Thread nD τ).loc main_arg4)) (m ((c.tc : Thread nD τ).loc main_arg5)))) := by
  unfold res_main_v101 rNormBack rPre rHid rUp rAct rPost rBl rMean
  rfl

/-- The reference's program leaves its arguments as they are and every semaphore at zero. -/
theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0 :=
  (θ_run defs _ _).mono (fun r h => ⟨fun c => (h c).2, sem_eq_zero_of_no_sems (by decide) r.2⟩) (run m ρ)

end Cert.Reference5Ideal.Value

end
-- ==== Proof.Ffn.Bwd.lean ====
/- The backward pass of a feed-forward layer: the kernel's program and the reference's end with the same gradient of
   the layer's input, where every argument is finite. -/
module

public import proofs.«01_k».proof.Proof.Gen.Kernel5Ideal.Frame
public import proofs.«01_k».proof.Proof.Gen.Kernel5Ideal.Value
public import proofs.«01_k».proof.Proof.Gen.Pre_finite_layer
public import proofs.«01_k».proof.Proof.Ffn.BwdPoint
public import proofs.«01_k».proof.Proof.Ffn.BwdLayer
public import Idealize.ShloMosaic.Lib.Pipeline.Value
public import Idealize.ShloMosaic.Lib.Pointwise
public import Idealize.ShloMosaic.Lib.Claim
public import proofs.«01_k».proof.Defs
public import Idealize.ShloMosaic.Lib.Tactic

@[expose] public section

set_option maxRecDepth 16384

noncomputable section

namespace Cert.Kernel5Ideal.Value

open Cert.Kernel5Ideal Cert.Kernel5Ideal.Gen Idealize.ShloMosaic Idealize.ShloMosaic.TcCoe Idealize.SL.Sem
open Idealize.ShloMosaic.Pipeline (Dat)
open Cert.Reference5Ideal.Value (backOf)

/-- What the body stores at one row of its block is the gradient's row. -/
theorem blockOut_apply (x0 x1 x2 : Vec Ideal S256x1024 .f32) (x3 : Vec Ideal S4x256x1408 .bf16) (x4 : Vec Ideal S8x1024 .f32)
    (w : Vec Ideal S4x1024x1408 .bf16) (wo : Vec Ideal S2816x1024 .bf16) (r : Fin 256)
    (U : Fin 5632 → EReal) (W : Fin 1024 → Fin 5632 → EReal) (Wo : Fin 2816 → Fin 1024 → EReal)
    (hu : ∀ (q : Fin 4) (o : Fin 1408), x3 (ix3 q r o) = U ⟨q.val * 1408 + o.val, by omega⟩)
    (hw : ∀ (q : Fin 4) k (o : Fin 1408), w (ix3 q k o) = W k ⟨q.val * 1408 + o.val, by omega⟩)
    (hwo : ∀ o n, wo (ix2 o n) = Wo o n) (n : Fin 1024) :
    blockOut x0 x1 x2 x3 x4 w wo (ix2 r n) = Cert.Ffn.backRow (fun k => x0 (ix2 r k)) (fun k => x1 (ix2 r k)) (fun k => x2 (ix2 r k))
      (fun k => x4 (ix2 (1 : Fin 8) k)) (fun k => x4 (ix2 (2 : Fin 8) k)) (fun k => x4 (ix2 (3 : Fin 8) k)) (fun k => x4 (ix2 (4 : Fin 8) k)) U W Wo n := by
  unfold blockOut
  exact stored_apply x0 x1 x2 (slabU x3 0) (slabU x3 1) (slabU x3 2) (slabU x3 3) (vecRow x4 1) (vecRow x4 2) (vecRow x4 3) (vecRow x4 4)
    (slabAt w 0) (slabAt w 1) (slabAt w 2) (slabAt w 3) (halfAt wo 0) (halfAt wo 1) r U W Wo
    (fun o => (hu 0 o).trans (congrArg U (Fin.ext (by show 0 * 1408 + o.val = o.val; omega))))
    (fun o => (hu 1 o).trans (congrArg U (Fin.ext (by show 1 * 1408 + o.val = 1408 + o.val; omega))))
    (fun o => (hu 2 o).trans (congrArg U (Fin.ext (by show 2 * 1408 + o.val = 2816 + o.val; omega))))
    (fun o => (hu 3 o).trans (congrArg U (Fin.ext (by show 3 * 1408 + o.val = 2816 + (1408 + o.val); omega))))
    (fun k o => (hw 0 k o).trans (congrArg (W k) (Fin.ext (by show 0 * 1408 + o.val = o.val; omega))))
    (fun k o => (hw 1 k o).trans (congrArg (W k) (Fin.ext (by show 1 * 1408 + o.val = 1408 + o.val; omega))))
    (fun k o => (hw 2 k o).trans (congrArg (W k) (Fin.ext (by show 2 * 1408 + o.val = 2816 + o.val; omega))))
    (fun k o => (hw 3 k o).trans (congrArg (W k) (Fin.ext (by show 3 * 1408 + o.val = 2816 + (1408 + o.val); omega))))
    (fun o n => (hwo _ n).trans (congrArg (fun o => Wo o n) (Fin.ext (by show 0 * 1408 + o.val = o.val; omega))))
    (fun o n => (hwo _ n).trans (congrArg (fun o => Wo o n) (Fin.ext (by show 1 * 1408 + o.val = 1408 + o.val; omega)))) n

/-- The eight vectors that the call is given. -/
def vecs (md : Vec Ideal S3x1024 .f32) (g gp : Vec Ideal S1024 .f32) : Vec Ideal S8x1024 .f32 :=
  concatenate S8x1024 0 [⟨S3x1024, md⟩, ⟨S1x1024, broadcastInDim S1x1024 ![1] bcast_S1024_S1x1024_1 g⟩,
    ⟨S1x1024, broadcastInDim S1x1024 ![1] bcast_S1024_S1x1024_1 gp⟩,
    ⟨S3x1024, broadcastInDim S3x1024 ![] bcast_S_S3x1024 (constant (F := Ideal) S_ .f32 0x00000000#32)⟩]
    concatenates_S3x1024_S1x1024_S1x1024_S3x1024_S8x1024_d0

theorem vecs_1 (md : Vec Ideal S3x1024 .f32) (g gp : Vec Ideal S1024 .f32) (k : Fin 1024) : vecs md g gp (ix2 (1 : Fin 8) k) = md (ix2 (1 : Fin 3) k) := by
  pointwise [vecs]
theorem vecs_2 (md : Vec Ideal S3x1024 .f32) (g gp : Vec Ideal S1024 .f32) (k : Fin 1024) : vecs md g gp (ix2 (2 : Fin 8) k) = md (ix2 (2 : Fin 3) k) := by
  pointwise [vecs]
theorem vecs_3 (md : Vec Ideal S3x1024 .f32) (g gp : Vec Ideal S1024 .f32) (k : Fin 1024) : vecs md g gp (ix2 (3 : Fin 8) k) = g (ix1 k) := by
  pointwise [vecs]
theorem vecs_4 (md : Vec Ideal S3x1024 .f32) (g gp : Vec Ideal S1024 .f32) (k : Fin 1024) : vecs md g gp (ix2 (4 : Fin 8) k) = gp (ix1 k) := by
  pointwise [vecs]

/-- The first product as the call is given it: rounded and cut into slabs of columns. -/
def slabsU (u : Vec Ideal S2048x5632 .f32) : Vec Ideal S4x2048x1408 .bf16 :=
  transpose S4x2048x1408 [1, 0, 2] (shapeCast S2048x4x1408 (truncf (F := Ideal) .bf16 u bitsLt_bf16_f32)
    shapeCasts_S2048x5632_S2048x4x1408) transposes_S2048x4x1408_S4x2048x1408_1_0_2

theorem slabsU_apply (u : Vec Ideal S2048x5632 .f32) (q : Fin 4) (s : Fin 2048) (o : Fin 1408) :
    slabsU u (ix3 q s o) = u (ix2 s ⟨q.val * 1408 + o.val, by omega⟩) := by
  pointwise [slabsU]

/-- The first weight as the call is given it: rounded and cut into slabs of columns. -/
def slabW (w : Vec Ideal S1024x5632 .f32) : Vec Ideal S4x1024x1408 .bf16 :=
  transpose S4x1024x1408 [1, 0, 2] (shapeCast S1024x4x1408 (truncf (F := Ideal) .bf16 w bitsLt_bf16_f32)
    shapeCasts_S1024x5632_S1024x4x1408) transposes_S1024x4x1408_S4x1024x1408_1_0_2

theorem slabW_apply (w : Vec Ideal S1024x5632 .f32) (q : Fin 4) (k : Fin 1024) (o : Fin 1408) :
    slabW w (ix3 q k o) = w (ix2 k ⟨q.val * 1408 + o.val, by omega⟩) := by
  pointwise [slabW]

/-- The second weight as the call is given it: rounded and cut into slabs of rows. -/
def slabWo (wo : Vec Ideal S2816x1024 .f32) : Vec Ideal S4x704x1024 .bf16 :=
  shapeCast S4x704x1024 (truncf (F := Ideal) .bf16 wo bitsLt_bf16_f32) shapeCasts_S2816x1024_S4x704x1024

theorem slabWo_apply (wo : Vec Ideal S2816x1024 .f32) (q : Fin 4) (r : Fin 704) (n : Fin 1024) :
    slabWo wo (ix3 q r n) = wo (ix2 ⟨q.val * 704 + r.val, by omega⟩ n) := by
  pointwise [slabWo]

theorem stack_slabWo (wo : Vec Ideal S2816x1024 .f32) (o : Fin 2816) (n : Fin 1024) : stackOf (slabWo wo) (ix2 o n) = wo (ix2 o n) := by
  refine (slabWo_apply wo ⟨o.val / 704, by have := o.isLt; omega⟩ ⟨o.val % 704, Nat.mod_lt _ (by norm_num)⟩ n).trans ?_
  exact congrArg (fun o => wo (ix2 o n)) (Fin.ext (by show o.val / 704 * 704 + o.val % 704 = o.val; omega))

variable (m : (ℓ : Loc nD τ sig) → Buf (Elt Ideal) ℓ) (ρ : Dev nD → PrngReg)

theorem V_main_v3' (c : Dev nD) (md : Vec Ideal S3x1024 .f32) (g gp : Vec Ideal S1024 .f32) (h1 : m ((c : Thread nD τ).loc main_arg4) = md)
    (h2 : m ((c : Thread nD τ).loc main_arg5) = g) (h3 : m ((c : Thread nD τ).loc main_arg6) = gp) : V m c main_v3 = vecs md g gp := by
  subst h1 h2 h3
  show StableHlo.after hostOps0 (fun b => m (c, b)) (Proc.devRef .tc main_v3) = _
  after_results
  rfl

theorem V_main_v6' (c : Dev nD) (u : Vec Ideal S2048x5632 .f32) (h : m ((c : Thread nD τ).loc main_arg3) = u) : V m c main_v6 = slabsU u := by
  subst h
  show StableHlo.after hostOps0 (fun b => m (c, b)) (Proc.devRef .tc main_v6) = _
  after_results
  rfl

theorem V_main_v9' (c : Dev nD) (w : Vec Ideal S1024x5632 .f32) (h : m ((c : Thread nD τ).loc main_arg7) = w) : V m c main_v9 = slabW w := by
  subst h
  show StableHlo.after hostOps0 (fun b => m (c, b)) (Proc.devRef .tc main_v9) = _
  after_results
  rfl

theorem V_main_v11' (c : Dev nD) (wo : Vec Ideal S2816x1024 .f32) (h : m ((c : Thread nD τ).loc main_arg8) = wo) : V m c main_v11 = slabWo wo := by
  subst h
  show StableHlo.after hostOps0 (fun b => m (c, b)) (Proc.devRef .tc main_v11) = _
  after_results
  rfl

theorem V_main_arg0' (c : Dev nD) (x : Vec Ideal S2048x1024 .f32) (h : m ((c : Thread nD τ).loc main_arg0) = x) : V m c main_arg0 = x := by
  subst h
  show StableHlo.after hostOps0 (fun b => m (c, b)) (Proc.devRef .tc main_arg0) = _
  after_results

theorem V_main_arg1' (c : Dev nD) (x : Vec Ideal S2048x1024 .f32) (h : m ((c : Thread nD τ).loc main_arg1) = x) : V m c main_arg1 = x := by
  subst h
  show StableHlo.after hostOps0 (fun b => m (c, b)) (Proc.devRef .tc main_arg1) = _
  after_results

theorem V_main_arg2' (c : Dev nD) (x : Vec Ideal S2048x1024 .f32) (h : m ((c : Thread nD τ).loc main_arg2) = x) : V m c main_arg2 = x := by
  subst h
  show StableHlo.after hostOps0 (fun b => m (c, b)) (Proc.devRef .tc main_arg2) = _
  after_results

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx3 : ∀ t : Fin cfg0.N, win0_3.index t (0 : Fin 3) = 0 ∧ win0_3.index t (1 : Fin 3) = t.val ∧ win0_3.index t (2 : Fin 3) = 0 :=
  (by decide +kernel : ∀ t : Fin grid0.N, _)

/-- The row of the whole array that is row `r` of a grid point's block. -/
def rowOf (t : Fin cfg0.N) (r : Fin 256) : Fin 2048 :=
  ⟨t.val * 256 + r.val, by have h : t.val < 8 := lt_of_lt_of_eq t.isLt N_0; have := r.isLt; omega⟩

theorem emb0 (t : Fin cfg0.N) (j : S256x1024.Idx) : ((cfg0.win 0).blk t).view.emb j = ix2 (rowOf t (j 0)) (j 1) := by
  obtain ⟨e0, e1⟩ := idx0 t
  funext a; apply Fin.ext
  match a with
  | ⟨0, _⟩ => show win0_0.index t (0 : Fin 2) * 256 + 1 * (j 0).val = t.val * 256 + (j 0).val; omega
  | ⟨1, _⟩ => show win0_0.index t (1 : Fin 2) * 1024 + 1 * (j 1).val = (j 1).val; omega

theorem emb1 (t : Fin cfg0.N) (j : S256x1024.Idx) : ((cfg0.win 1).blk t).view.emb j = ix2 (rowOf t (j 0)) (j 1) := by
  obtain ⟨e0, e1⟩ := idx1 t
  funext a; apply Fin.ext
  match a with
  | ⟨0, _⟩ => show win0_1.index t (0 : Fin 2) * 256 + 1 * (j 0).val = t.val * 256 + (j 0).val; omega
  | ⟨1, _⟩ => show win0_1.index t (1 : Fin 2) * 1024 + 1 * (j 1).val = (j 1).val; omega

theorem emb2 (t : Fin cfg0.N) (j : S256x1024.Idx) : ((cfg0.win 2).blk t).view.emb j = ix2 (rowOf t (j 0)) (j 1) := by
  obtain ⟨e0, e1⟩ := idx2 t
  funext a; apply Fin.ext
  match a with
  | ⟨0, _⟩ => show win0_2.index t (0 : Fin 2) * 256 + 1 * (j 0).val = t.val * 256 + (j 0).val; omega
  | ⟨1, _⟩ => show win0_2.index t (1 : Fin 2) * 1024 + 1 * (j 1).val = (j 1).val; omega

theorem emb5 (t : Fin cfg0.N) (j : S256x1024.Idx) : ((cfg0.win 5).blk t).view.emb j = ix2 (rowOf t (j 0)) (j 1) := by
  obtain ⟨e0, e1⟩ := idx5 t
  funext a; apply Fin.ext
  match a with
  | ⟨0, _⟩ => show win0_5.index t (0 : Fin 2) * 256 + 1 * (j 0).val = t.val * 256 + (j 0).val; omega
  | ⟨1, _⟩ => show win0_5.index t (1 : Fin 2) * 1024 + 1 * (j 1).val = (j 1).val; omega

theorem emb3 (t : Fin cfg0.N) (j : S4x256x1408.Idx) : ((cfg0.win 3).blk t).view.emb j = ix3 (j 0) (rowOf t (j 1)) (j 2) := by
  obtain ⟨e0, e1, e2⟩ := idx3 t
  funext a; apply Fin.ext
  match a with
  | ⟨0, _⟩ => show win0_3.index t (0 : Fin 3) * 4 + 1 * (j 0).val = (j 0).val; omega
  | ⟨1, _⟩ => show win0_3.index t (1 : Fin 3) * 256 + 1 * (j 1).val = t.val * 256 + (j 1).val; omega
  | ⟨2, _⟩ => show win0_3.index t (2 : Fin 3) * 1408 + 1 * (j 2).val = (j 2).val; omega

theorem emb4 (t : Fin cfg0.N) (j : S8x1024.Idx) : ((cfg0.win 4).blk t).view.emb j = j := by
  obtain ⟨e0, e1⟩ := idx4 t
  funext a; apply Fin.ext
  match a with
  | ⟨0, _⟩ => show win0_4.index t (0 : Fin 2) * 8 + 1 * (j 0).val = (j 0).val; omega
  | ⟨1, _⟩ => show win0_4.index t (1 : Fin 2) * 1024 + 1 * (j 1).val = (j 1).val; omega

/-- The first point leaves the first weight in the first scratch. -/
theorem scratchA_0 (c : Dev nD) (t : Fin cfg0.N) (h0 : t.val % 8 = 0) : (outsAt0 m c t.val t.isLt).2.2.2.2.2.1 = V m c main_v9 := by
  simp only [outsAt0_A m c t h0]
  exact sout_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
    scM0_0 (Memref.isWhole_whole _) scM0_1 (Memref.isWhole_whole _)
    (iblk m c 0 t) (iblk m c 1 t) (iblk m c 2 t) (iblk m c 3 t) (iblk m c 4 t) (V m c main_v9) (V m c main_v11) ((hcond0_0 t).mpr h0)

/-- The first point leaves the second weight in the second scratch. -/
theorem scratchA_1 (c : Dev nD) (t : Fin cfg0.N) (h0 : t.val % 8 = 0) :
    (outsAt0 m c t.val t.isLt).2.2.2.2.2.2 = stackOf (V m c main_v11) := by
  simp only [outsAt0_A m c t h0]
  exact sout_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
    scM0_0 (Memref.isWhole_whole _) scM0_1 (Memref.isWhole_whole _)
    (iblk m c 0 t) (iblk m c 1 t) (iblk m c 2 t) (iblk m c 3 t) (iblk m c 4 t) (V m c main_v9) (V m c main_v11) ((hcond0_0 t).mpr h0)

/-- The other points leave both as they find them. -/
theorem scratchB_0 (c : Dev nD) (t : Fin cfg0.N) (h0 : ¬ t.val % 8 = 0) : (outsAt0 m c t.val t.isLt).2.2.2.2.2.1
    = (outsAt0 m c (t.val - 1) (Nat.lt_of_le_of_lt (Nat.sub_le _ _) t.isLt)).2.2.2.2.2.1 := by
  simp only [outsAt0_B m c t h0]
  unfold sout0_B_0
  rfl

theorem scratchB_1 (c : Dev nD) (t : Fin cfg0.N) (h0 : ¬ t.val % 8 = 0) : (outsAt0 m c t.val t.isLt).2.2.2.2.2.2
    = (outsAt0 m c (t.val - 1) (Nat.lt_of_le_of_lt (Nat.sub_le _ _) t.isLt)).2.2.2.2.2.2 := by
  simp only [outsAt0_B m c t h0]
  unfold sout0_B_1
  rfl

/-- So every point leaves the two weights in the two scratch buffers. -/
theorem scratch (c : Dev nD) : ∀ (n : ℕ) (hn : n < cfg0.N),
    (outsAt0 m c n hn).2.2.2.2.2.1 = V m c main_v9 ∧ (outsAt0 m c n hn).2.2.2.2.2.2 = stackOf (V m c main_v11)
  | 0, hn => ⟨scratchA_0 m c ⟨0, hn⟩ rfl, scratchA_1 m c ⟨0, hn⟩ rfl⟩
  | n + 1, hn =>
    have h4 : n + 1 < 8 := lt_of_lt_of_eq hn N_0
    have h0 : ¬ (n + 1) % 8 = 0 := by omega
    have hp := scratch c n (Nat.lt_of_succ_lt hn)
    ⟨(scratchB_0 m c ⟨n + 1, hn⟩ h0).trans hp.1, (scratchB_1 m c ⟨n + 1, hn⟩ h0).trans hp.2⟩

/-- What the first point leaves in its block of the gradient. -/
theorem storedA (c : Dev nD) (t : Fin cfg0.N) (h0 : t.val % 8 = 0) :
    (outsAt0 m c t.val t.isLt).1 = blockOut (iblk m c 0 t) (iblk m c 1 t) (iblk m c 2 t) (iblk m c 3 t) (iblk m c 4 t) (V m c main_v9) (stackOf (V m c main_v11)) := by
  simp only [outsAt0_A m c t h0]
  refine (out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
    scM0_0 (Memref.isWhole_whole _) scM0_1 (Memref.isWhole_whole _)
    (iblk m c 0 t) (iblk m c 1 t) (iblk m c 2 t) (iblk m c 3 t) (iblk m c 4 t) (V m c main_v9) (V m c main_v11) ((hcond0_0 t).mpr h0)).trans ?_
  exact congrArg₂ (blockOut (iblk m c 0 t) (iblk m c 1 t) (iblk m c 2 t) (iblk m c 3 t) (iblk m c 4 t))
    (canonA_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
    scM0_0 (Memref.isWhole_whole _) scM0_1 (Memref.isWhole_whole _)
    (iblk m c 0 t) (iblk m c 1 t) (iblk m c 2 t) (iblk m c 3 t) (iblk m c 4 t) (V m c main_v9) (V m c main_v11) ((hcond0_0 t).mpr h0))
    (canonA_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
    scM0_0 (Memref.isWhole_whole _) scM0_1 (Memref.isWhole_whole _)
    (iblk m c 0 t) (iblk m c 1 t) (iblk m c 2 t) (iblk m c 3 t) (iblk m c 4 t) (V m c main_v9) (V m c main_v11) ((hcond0_0 t).mpr h0))

/-- What the others leave in theirs. -/
theorem storedB (c : Dev nD) (t : Fin cfg0.N) (h0 : ¬ t.val % 8 = 0) :
    (outsAt0 m c t.val t.isLt).1 = blockOut (iblk m c 0 t) (iblk m c 1 t) (iblk m c 2 t) (iblk m c 3 t) (iblk m c 4 t) (V m c main_v9) (stackOf (V m c main_v11)) := by
  have hp := scratch m c (t.val - 1) (Nat.lt_of_le_of_lt (Nat.sub_le _ _) t.isLt)
  simp only [outsAt0_B m c t h0]
  refine (out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
    scM0_0 (Memref.isWhole_whole _) scM0_1 (Memref.isWhole_whole _)
    (iblk m c 0 t) (iblk m c 1 t) (iblk m c 2 t) (iblk m c 3 t) (iblk m c 4 t) (V m c main_v9) (V m c main_v11) (fun h => h0 ((hcond0_0 t).mp h)) _ _ _).trans ?_
  exact congrArg₂ (blockOut (iblk m c 0 t) (iblk m c 1 t) (iblk m c 2 t) (iblk m c 3 t) (iblk m c 4 t)) hp.1 hp.2

/-- What a grid point leaves in its block of the gradient. -/
theorem stored (c : Dev nD) (t : Fin cfg0.N) :
    (outsAt0 m c t.val t.isLt).1 = blockOut (iblk m c 0 t) (iblk m c 1 t) (iblk m c 2 t) (iblk m c 3 t) (iblk m c 4 t) (V m c main_v9) (stackOf (V m c main_v11)) :=
  if h0 : t.val % 8 = 0 then storedA m c t h0 else storedB m c t h0

/-- The gradient of the program's arguments. -/
def gradAt (c : Dev nD) : Vec Ideal S2048x1024 .f32 :=
  backOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))

/-- One block of the gradient, from the arrays that the call is given. -/
theorem block_of (d x f : Vec Ideal S2048x1024 .f32) (u : Vec Ideal S2048x5632 .f32) (md : Vec Ideal S3x1024 .f32) (g gp : Vec Ideal S1024 .f32)
    (w : Vec Ideal S1024x5632 .f32) (wo : Vec Ideal S2816x1024 .f32) (t : Fin cfg0.N) (x0 x1 x2 : Vec Ideal S256x1024 .f32)
    (x3 : Vec Ideal S4x256x1408 .bf16) (x4 : Vec Ideal S8x1024 .f32)
    (h0 : ∀ r k, x0 (ix2 r k) = d (ix2 (rowOf t r) k)) (h1 : ∀ r k, x1 (ix2 r k) = x (ix2 (rowOf t r) k))
    (h2 : ∀ r k, x2 (ix2 r k) = f (ix2 (rowOf t r) k)) (h3 : ∀ q r o, x3 (ix3 q r o) = slabsU u (ix3 q (rowOf t r) o))
    (h4 : ∀ j, x4 j = vecs md g gp j) (r : Fin 256) (n : Fin 1024) :
    blockOut x0 x1 x2 x3 x4 (slabW w) (stackOf (slabWo wo)) (ix2 r n) = backOf d x f u md g gp w wo (ix2 (rowOf t r) n) := by
  rw [blockOut_apply x0 x1 x2 x3 x4 (slabW w) (stackOf (slabWo wo)) r (fun o => u (ix2 (rowOf t r) o)) (fun k o => w (ix2 k o)) (fun o n => wo (ix2 o n))
    (fun q o => (h3 q r o).trans (slabsU_apply u q (rowOf t r) o)) (slabW_apply w) (stack_slabWo wo) n]
  simp only [h0, h1, h2, h4, vecs_1, vecs_2, vecs_3, vecs_4]
  rfl

/-- What a grid point writes back is its block of the gradient. -/
theorem flushed_eq (c : Dev nD) (t : Fin cfg0.N) :
    (dats m 0 c).flushed 5 t = ((cfg0.win 5).blk t).view.read (Elt Ideal) (gradAt m c) := by
  rw [flushed5, stored, V_main_v9' m c _ rfl, V_main_v11' m c _ rfl]
  funext j
  show blockOut (iblk m c 0 t) (iblk m c 1 t) (iblk m c 2 t) (iblk m c 3 t) (iblk m c 4 t) _ _ j = gradAt m c (((cfg0.win 5).blk t).view.emb j)
  rw [emb5]
  have h := block_of (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) t
    (iblk m c 0 t) (iblk m c 1 t) (iblk m c 2 t) (iblk m c 3 t) (iblk m c 4 t)
    (fun r k => (congrArg (V m c main_arg0) (emb0 t (ix2 r k))).trans (congrFun (V_main_arg0' m c _ rfl) _))
    (fun r k => (congrArg (V m c main_arg1) (emb1 t (ix2 r k))).trans (congrFun (V_main_arg1' m c _ rfl) _))
    (fun r k => (congrArg (V m c main_arg2) (emb2 t (ix2 r k))).trans (congrFun (V_main_arg2' m c _ rfl) _))
    (fun q r o => (congrArg (V m c main_v6) (emb3 t (ix3 q r o))).trans (congrFun (V_main_v6' m c _ rfl) _))
    (fun j => (congrArg (V m c main_v3) (emb4 t j)).trans (congrFun (V_main_v3' m c _ _ _ rfl rfl rfl) j)) (j 0) (j 1)
  have e : (ix2 (j 0) (j 1) : S256x1024.Idx) = j := by
    funext a; match a with | ⟨0, _⟩ => rfl | ⟨1, _⟩ => rfl
  rw [e] at h
  exact h

/-- Every element of the gradient is in one of the eight blocks. -/
theorem cover (i : S2048x1024.Idx) : ∃ t : Fin cfg0.N, (cfg0.win 5).flush t = true ∧ i ∈ ((cfg0.win 5).blk t).view.set := by
  have h0 : (i 0).val < 2048 := (i 0).isLt
  have ht : (i 0).val / 256 < cfg0.N := lt_of_lt_of_eq (by omega) N_0.symm
  refine ⟨⟨(i 0).val / 256, ht⟩, flush0_5 _, ?_⟩
  have h := ((cfg0.win 5).blk (⟨(i 0).val / 256, ht⟩ : Fin cfg0.N)).view.emb_mem_set
    (ix2 (⟨(i 0).val % 256, Nat.mod_lt _ (by norm_num)⟩ : Fin 256) (i 1))
  rw [emb5] at h
  have e : (ix2 (rowOf ⟨(i 0).val / 256, ht⟩ (⟨(i 0).val % 256, Nat.mod_lt _ (by norm_num)⟩ : Fin 256)) (i 1) : S2048x1024.Idx) = i := by
    funext a
    match a with
    | ⟨0, _⟩ => exact Fin.ext (by show (i 0).val / 256 * 256 + (i 0).val % 256 = (i 0).val; omega)
    | ⟨1, _⟩ => rfl
  have h' : (ix2 (rowOf ⟨(i 0).val / 256, ht⟩ (⟨(i 0).val % 256, Nat.mod_lt _ (by norm_num)⟩ : Fin 256)) (i 1) : S2048x1024.Idx)
      ∈ ((cfg0.win 5).blk (⟨(i 0).val / 256, ht⟩ : Fin cfg0.N)).view.set := h
  rwa [e] at h'

theorem final (c : Dev nD) : (dats m 0 c).arrAt 5 cfg0.N = gradAt m c :=
  (dats m 0 c).arrAt_eq_of_cover 5 _ (fun t _ => flushed_eq m c t) cover

/-- The run of the kernel's program: its result is the gradient of its arguments, which stay as they are. -/
theorem run : θ_run defs (onTc (τ := τ) (main (F := Ideal))) ⟨m, fun _ => 0, ρ⟩ fun r => ∀ c : Dev nD,
      r.2.mem ((c.tc : Thread nD τ).loc main_v12_0) = gradAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨(h c).1.trans (final m c), (h c).2.2.2.2.2⟩) (run_blocks m ρ)

end Cert.Kernel5Ideal.Value

namespace Cert.Ffn

open Idealize.ShloMosaic Idealize.ShloMosaic.TcCoe Idealize.SL.Sem
open Cert.KernelIdeal.Value (allReal_of_cmp zero_word)

/-- The kernel's program and the reference's end with the same gradient of the layer's input. -/
theorem algebraic_backward : Cert.algebraic_Kernel5Ideal_Reference5Ideal (hPre_finite_layer := Cert.Pre_finite_layer.Gen.facts) := fun m g m' g' hpre hargs =>
  ⟨fun c => Cert.Kernel5Ideal.Value.gradAt m c, Cert.Kernel5Ideal.Value.run m g,
    (θ_run _ _ _).mono (fun r h c => ⟨(h c).1.trans ((Cert.Reference5Ideal.Value.res_stages m' c).trans (by
        obtain ⟨h0, h1, h2, h3, h4, h5, h6, h7, h8⟩ := hargs c
        obtain ⟨p0, p1, p2, p3, p4, p5, p6, p7, p8⟩ := hpre c
        unfold Cert.Kernel5Ideal.Value.gradAt
        rw [h0, h1, h2, h3, h4, h5, h6, h7, h8]
        exact Cert.Reference5Ideal.Value.steps_eq _ _ _ _ _ _ _ _ _ (allReal_of_cmp _ _ (fun j => zero_word) p0) (allReal_of_cmp _ _ (fun j => zero_word) p1) (allReal_of_cmp _ _ (fun j => zero_word) p2) (allReal_of_cmp _ _ (fun j => zero_word) p3) (allReal_of_cmp _ _ (fun j => zero_word) p4) (allReal_of_cmp _ _ (fun j => zero_word) p5) (allReal_of_cmp _ _ (fun j => zero_word) p6) (allReal_of_cmp _ _ (fun j => zero_word) p7) (allReal_of_cmp _ _ (fun j => zero_word) p8))), (h c).2⟩)
      (Cert.Reference5Ideal.Value.run m' g')⟩

end Cert.Ffn

end
-- ==== Proof.lean ====
/- The certificate: the frames, the idealizations and the equalities of values, each cited from the module that
   proves it. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Pre_finite_args
public import proofs.«01_k».proof.Proof.Gen.Pre_finite_layer
public import proofs.«01_k».proof.Proof.Ref.Kept
public import proofs.«01_k».proof.Proof.Ends.Layer
public import proofs.«01_k».proof.Proof.Ffn.WIn
public import proofs.«01_k».proof.Proof.Ffn.WOut
public import proofs.«01_k».proof.Proof.Ffn.Fwd
public import proofs.«01_k».proof.Proof.Ffn.Bwd
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Pre_finite_args.Gen.facts, Cert.Pre_finite_layer.Gen.facts,
  fun m g _ => Cert.Kernel.Gen.frame m g,
  fun m g _ => Cert.Kernel.Gen.frame m g,
  fun m g _ => Cert.KernelIdeal.Gen.frame m g,
  fun m g _ => Cert.ReferenceIdeal.Value.frame m g,
  fun m g _ => Cert.Kernel2.Gen.frame m g,
  fun m g _ => Cert.Kernel2Ideal.Gen.frame m g,
  fun m g _ => Cert.Reference2Ideal.Value.frame m g,
  fun m g _ => Cert.Kernel3.Gen.frame m g,
  fun m g _ => Cert.Kernel3Ideal.Gen.frame m g,
  fun m g _ => Cert.Reference3Ideal.Value.frame m g,
  fun m g _ => Cert.Kernel4.Gen.frame m g,
  fun m g _ => Cert.Kernel4Ideal.Gen.frame m g,
  fun m g _ => Cert.Reference4Ideal.Value.frame m g,
  fun m g _ => Cert.Kernel5.Gen.frame m g,
  fun m g _ => Cert.Kernel5.Gen.frame m g,
  fun m g _ => Cert.Kernel5Ideal.Gen.frame m g,
  fun m g _ => Cert.Reference5Ideal.Value.frame m g,
  trivial, Cert.Ends.algebraic_layer, trivial, Cert.Ffn.algebraic_w_in, trivial, Cert.Ffn.algebraic_w_out,
  trivial, Cert.Ffn.algebraic_forward, trivial, Cert.Ffn.algebraic_backward⟩

end Cert.Proof

end
